-- ==== Defs.lean ====
def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_finite_norm [hPre_finite_norm : Cert.Pre_finite_norm.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4))) = (fun _ => 1#1)

def Pre_NormGradIdeal (m : (ℓ : Loc Cert.NormGradIdeal.nD Cert.NormGradIdeal.τ Cert.NormGradIdeal.sig) → Buf (Elt Ideal) ℓ) : Prop :=
  True

def Pre_NormGradIdeal_finite_norm [hPre_finite_norm : Cert.Pre_finite_norm.Facts] (m : (ℓ : Loc Cert.NormGradIdeal.nD Cert.NormGradIdeal.τ Cert.NormGradIdeal.sig) → Buf (Elt Ideal) ℓ) : Prop :=
  ∀ c : Dev Cert.NormGradIdeal.nD,
    (Cert.Pre_finite_norm.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4))) = (fun _ => 1#1)

def Pre_MixerBwd (m : (ℓ : Loc Cert.MixerBwd.nD Cert.MixerBwd.τ Cert.MixerBwd.sig) → Buf (Elt Bits) ℓ) : Prop :=
  True

def Pre_MixerBwdIdeal (m : (ℓ : Loc Cert.MixerBwdIdeal.nD Cert.MixerBwdIdeal.τ Cert.MixerBwdIdeal.sig) → Buf (Elt Ideal) ℓ) : Prop :=
  True

def Pre_MixerBwdIdeal_finite_mixer [hPre_finite_mixer : Cert.Pre_finite_mixer.Facts] (m : (ℓ : Loc Cert.MixerBwdIdeal.nD Cert.MixerBwdIdeal.τ Cert.MixerBwdIdeal.sig) → Buf (Elt Ideal) ℓ) : Prop :=
  ∀ c : Dev Cert.MixerBwdIdeal.nD,
    (Cert.Pre_finite_mixer.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4))) = (fun _ => 1#1)

def Pre_MixerGradIdeal (m : (ℓ : Loc Cert.MixerGradIdeal.nD Cert.MixerGradIdeal.τ Cert.MixerGradIdeal.sig) → Buf (Elt Ideal) ℓ) : Prop :=
  True

def Pre_MixerGradIdeal_finite_mixer [hPre_finite_mixer : Cert.Pre_finite_mixer.Facts] (m : (ℓ : Loc Cert.MixerGradIdeal.nD Cert.MixerGradIdeal.τ Cert.MixerGradIdeal.sig) → Buf (Elt Ideal) ℓ) : Prop :=
  ∀ c : Dev Cert.MixerGradIdeal.nD,
    (Cert.Pre_finite_mixer.fn (F := Ideal) (m ((c.tc : Thread Cert.MixerGradIdeal.nD Cert.MixerGradIdeal.τ).loc Cert.MixerGradIdeal.main_arg0)) (m ((c.tc : Thread Cert.MixerGradIdeal.nD Cert.MixerGradIdeal.τ).loc Cert.MixerGradIdeal.main_arg1)) (m ((c.tc : Thread Cert.MixerGradIdeal.nD Cert.MixerGradIdeal.τ).loc Cert.MixerGradIdeal.main_arg2)) (m ((c.tc : Thread Cert.MixerGradIdeal.nD Cert.MixerGradIdeal.τ).loc Cert.MixerGradIdeal.main_arg3)) (m ((c.tc : Thread Cert.MixerGradIdeal.nD Cert.MixerGradIdeal.τ).loc Cert.MixerGradIdeal.main_arg4))) = (fun _ => 1#1)

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdIdeal_finite_glu [hPre_finite_glu : Cert.Pre_finite_glu.Facts] (m : (ℓ : Loc Cert.GluBwdIdeal.nD Cert.GluBwdIdeal.τ Cert.GluBwdIdeal.sig) → Buf (Elt Ideal) ℓ) : Prop :=
  ∀ c : Dev Cert.GluBwdIdeal.nD,
    (Cert.Pre_finite_glu.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3))) = (fun _ => 1#1)

def Pre_GluGradIdeal (m : (ℓ : Loc Cert.GluGradIdeal.nD Cert.GluGradIdeal.τ Cert.GluGradIdeal.sig) → Buf (Elt Ideal) ℓ) : Prop :=
  True

def Pre_GluGradIdeal_finite_glu [hPre_finite_glu : Cert.Pre_finite_glu.Facts] (m : (ℓ : Loc Cert.GluGradIdeal.nD Cert.GluGradIdeal.τ Cert.GluGradIdeal.sig) → Buf (Elt Ideal) ℓ) : Prop :=
  ∀ c : Dev Cert.GluGradIdeal.nD,
    (Cert.Pre_finite_glu.fn (F := Ideal) (m ((c.tc : Thread Cert.GluGradIdeal.nD Cert.GluGradIdeal.τ).loc Cert.GluGradIdeal.main_arg0)) (m ((c.tc : Thread Cert.GluGradIdeal.nD Cert.GluGradIdeal.τ).loc Cert.GluGradIdeal.main_arg1)) (m ((c.tc : Thread Cert.GluGradIdeal.nD Cert.GluGradIdeal.τ).loc Cert.GluGradIdeal.main_arg2)) (m ((c.tc : Thread Cert.GluGradIdeal.nD Cert.GluGradIdeal.τ).loc Cert.GluGradIdeal.main_arg3))) = (fun _ => 1#1)

def Pre_QkNormBwd (m : (ℓ : Loc Cert.QkNormBwd.nD Cert.QkNormBwd.τ Cert.QkNormBwd.sig) → Buf (Elt Bits) ℓ) : Prop :=
  True

def Pre_QkNormBwdIdeal (m : (ℓ : Loc Cert.QkNormBwdIdeal.nD Cert.QkNormBwdIdeal.τ Cert.QkNormBwdIdeal.sig) → Buf (Elt Ideal) ℓ) : Prop :=
  True

def Pre_QkNormBwdIdeal_finite_qknorm [hPre_finite_qknorm : Cert.Pre_finite_qknorm.Facts] (m : (ℓ : Loc Cert.QkNormBwdIdeal.nD Cert.QkNormBwdIdeal.τ Cert.QkNormBwdIdeal.sig) → Buf (Elt Ideal) ℓ) : Prop :=
  ∀ c : Dev Cert.QkNormBwdIdeal.nD,
    (Cert.Pre_finite_qknorm.fn (F := Ideal) (m ((c.tc : Thread Cert.QkNormBwdIdeal.nD Cert.QkNormBwdIdeal.τ).loc Cert.QkNormBwdIdeal.main_arg0)) (m ((c.tc : Thread Cert.QkNormBwdIdeal.nD Cert.QkNormBwdIdeal.τ).loc Cert.QkNormBwdIdeal.main_arg1)) (m ((c.tc : Thread Cert.QkNormBwdIdeal.nD Cert.QkNormBwdIdeal.τ).loc Cert.QkNormBwdIdeal.main_arg2)) (m ((c.tc : Thread Cert.QkNormBwdIdeal.nD Cert.QkNormBwdIdeal.τ).loc Cert.QkNormBwdIdeal.main_arg3)) (m ((c.tc : Thread Cert.QkNormBwdIdeal.nD Cert.QkNormBwdIdeal.τ).loc Cert.QkNormBwdIdeal.main_arg4)) (m ((c.tc : Thread Cert.QkNormBwdIdeal.nD Cert.QkNormBwdIdeal.τ).loc Cert.QkNormBwdIdeal.main_arg5))) = (fun _ => 1#1)

def Pre_QkNormGradIdeal (m : (ℓ : Loc Cert.QkNormGradIdeal.nD Cert.QkNormGradIdeal.τ Cert.QkNormGradIdeal.sig) → Buf (Elt Ideal) ℓ) : Prop :=
  True

def Pre_QkNormGradIdeal_finite_qknorm [hPre_finite_qknorm : Cert.Pre_finite_qknorm.Facts] (m : (ℓ : Loc Cert.QkNormGradIdeal.nD Cert.QkNormGradIdeal.τ Cert.QkNormGradIdeal.sig) → Buf (Elt Ideal) ℓ) : Prop :=
  ∀ c : Dev Cert.QkNormGradIdeal.nD,
    (Cert.Pre_finite_qknorm.fn (F := Ideal) (m ((c.tc : Thread Cert.QkNormGradIdeal.nD Cert.QkNormGradIdeal.τ).loc Cert.QkNormGradIdeal.main_arg0)) (m ((c.tc : Thread Cert.QkNormGradIdeal.nD Cert.QkNormGradIdeal.τ).loc Cert.QkNormGradIdeal.main_arg1)) (m ((c.tc : Thread Cert.QkNormGradIdeal.nD Cert.QkNormGradIdeal.τ).loc Cert.QkNormGradIdeal.main_arg2)) (m ((c.tc : Thread Cert.QkNormGradIdeal.nD Cert.QkNormGradIdeal.τ).loc Cert.QkNormGradIdeal.main_arg3)) (m ((c.tc : Thread Cert.QkNormGradIdeal.nD Cert.QkNormGradIdeal.τ).loc Cert.QkNormGradIdeal.main_arg4)) (m ((c.tc : Thread Cert.QkNormGradIdeal.nD Cert.QkNormGradIdeal.τ).loc Cert.QkNormGradIdeal.main_arg5))) = (fun _ => 1#1)

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossGradIdeal (m : (ℓ : Loc Cert.LossGradIdeal.nD Cert.LossGradIdeal.τ Cert.LossGradIdeal.sig) → Buf (Elt Ideal) ℓ) : Prop :=
  True

def Pre_BiasBwd (m : (ℓ : Loc Cert.BiasBwd.nD Cert.BiasBwd.τ Cert.BiasBwd.sig) → Buf (Elt Bits) ℓ) : Prop :=
  True

def Pre_BiasBwdIdeal (m : (ℓ : Loc Cert.BiasBwdIdeal.nD Cert.BiasBwdIdeal.τ Cert.BiasBwdIdeal.sig) → Buf (Elt Ideal) ℓ) : Prop :=
  True

def Pre_BiasBwdIdeal_finite_bias [hPre_finite_bias : Cert.Pre_finite_bias.Facts] (m : (ℓ : Loc Cert.BiasBwdIdeal.nD Cert.BiasBwdIdeal.τ Cert.BiasBwdIdeal.sig) → Buf (Elt Ideal) ℓ) : Prop :=
  ∀ c : Dev Cert.BiasBwdIdeal.nD,
    (Cert.Pre_finite_bias.fn (F := Ideal) (m ((c.tc : Thread Cert.BiasBwdIdeal.nD Cert.BiasBwdIdeal.τ).loc Cert.BiasBwdIdeal.main_arg0)) (m ((c.tc : Thread Cert.BiasBwdIdeal.nD Cert.BiasBwdIdeal.τ).loc Cert.BiasBwdIdeal.main_arg1)) (m ((c.tc : Thread Cert.BiasBwdIdeal.nD Cert.BiasBwdIdeal.τ).loc Cert.BiasBwdIdeal.main_arg2))) = (fun _ => 1#1)

def Pre_BiasGradIdeal (m : (ℓ : Loc Cert.BiasGradIdeal.nD Cert.BiasGradIdeal.τ Cert.BiasGradIdeal.sig) → Buf (Elt Ideal) ℓ) : Prop :=
  True

def Pre_BiasGradIdeal_finite_bias [hPre_finite_bias : Cert.Pre_finite_bias.Facts] (m : (ℓ : Loc Cert.BiasGradIdeal.nD Cert.BiasGradIdeal.τ Cert.BiasGradIdeal.sig) → Buf (Elt Ideal) ℓ) : Prop :=
  ∀ c : Dev Cert.BiasGradIdeal.nD,
    (Cert.Pre_finite_bias.fn (F := Ideal) (m ((c.tc : Thread Cert.BiasGradIdeal.nD Cert.BiasGradIdeal.τ).loc Cert.BiasGradIdeal.main_arg0)) (m ((c.tc : Thread Cert.BiasGradIdeal.nD Cert.BiasGradIdeal.τ).loc Cert.BiasGradIdeal.main_arg1)) (m ((c.tc : Thread Cert.BiasGradIdeal.nD Cert.BiasGradIdeal.τ).loc Cert.BiasGradIdeal.main_arg2))) = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormPlainIdeal (m : (ℓ : Loc Cert.NormPlainIdeal.nD Cert.NormPlainIdeal.τ Cert.NormPlainIdeal.sig) → Buf (Elt Ideal) ℓ) : Prop :=
  True

def Pre_ResNormFwd (m : (ℓ : Loc Cert.ResNormFwd.nD Cert.ResNormFwd.τ Cert.ResNormFwd.sig) → Buf (Elt Bits) ℓ) : Prop :=
  True

def Pre_ResNormFwdIdeal (m : (ℓ : Loc Cert.ResNormFwdIdeal.nD Cert.ResNormFwdIdeal.τ Cert.ResNormFwdIdeal.sig) → Buf (Elt Ideal) ℓ) : Prop :=
  True

def Pre_ResNormPlainIdeal (m : (ℓ : Loc Cert.ResNormPlainIdeal.nD Cert.ResNormPlainIdeal.τ Cert.ResNormPlainIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluPlainIdeal (m : (ℓ : Loc Cert.GluPlainIdeal.nD Cert.GluPlainIdeal.τ Cert.GluPlainIdeal.sig) → Buf (Elt Ideal) ℓ) : Prop :=
  True

def Pre_QkvFwd (m : (ℓ : Loc Cert.QkvFwd.nD Cert.QkvFwd.τ Cert.QkvFwd.sig) → Buf (Elt Bits) ℓ) : Prop :=
  True

def Pre_QkvFwdIdeal (m : (ℓ : Loc Cert.QkvFwdIdeal.nD Cert.QkvFwdIdeal.τ Cert.QkvFwdIdeal.sig) → Buf (Elt Ideal) ℓ) : Prop :=
  True

def Pre_QkvPlainIdeal (m : (ℓ : Loc Cert.QkvPlainIdeal.nD Cert.QkvPlainIdeal.τ Cert.QkvPlainIdeal.sig) → Buf (Elt Ideal) ℓ) : Prop :=
  True

def Pre_BiasFwd (m : (ℓ : Loc Cert.BiasFwd.nD Cert.BiasFwd.τ Cert.BiasFwd.sig) → Buf (Elt Bits) ℓ) : Prop :=
  True

def Pre_BiasFwdIdeal (m : (ℓ : Loc Cert.BiasFwdIdeal.nD Cert.BiasFwdIdeal.τ Cert.BiasFwdIdeal.sig) → Buf (Elt Ideal) ℓ) : Prop :=
  True

def Pre_BiasFwdIdeal_finite_table [hPre_finite_table : Cert.Pre_finite_table.Facts] (m : (ℓ : Loc Cert.BiasFwdIdeal.nD Cert.BiasFwdIdeal.τ Cert.BiasFwdIdeal.sig) → Buf (Elt Ideal) ℓ) : Prop :=
  ∀ c : Dev Cert.BiasFwdIdeal.nD,
    (Cert.Pre_finite_table.fn (F := Ideal) (m ((c.tc : Thread Cert.BiasFwdIdeal.nD Cert.BiasFwdIdeal.τ).loc Cert.BiasFwdIdeal.main_arg0)) (m ((c.tc : Thread Cert.BiasFwdIdeal.nD Cert.BiasFwdIdeal.τ).loc Cert.BiasFwdIdeal.main_arg1)) (m ((c.tc : Thread Cert.BiasFwdIdeal.nD Cert.BiasFwdIdeal.τ).loc Cert.BiasFwdIdeal.main_arg2))) = (fun _ => 1#1)

def Pre_BiasPlainIdeal (m : (ℓ : Loc Cert.BiasPlainIdeal.nD Cert.BiasPlainIdeal.τ Cert.BiasPlainIdeal.sig) → Buf (Elt Ideal) ℓ) : Prop :=
  True

def Pre_BiasPlainIdeal_finite_table [hPre_finite_table : Cert.Pre_finite_table.Facts] (m : (ℓ : Loc Cert.BiasPlainIdeal.nD Cert.BiasPlainIdeal.τ Cert.BiasPlainIdeal.sig) → Buf (Elt Ideal) ℓ) : Prop :=
  ∀ c : Dev Cert.BiasPlainIdeal.nD,
    (Cert.Pre_finite_table.fn (F := Ideal) (m ((c.tc : Thread Cert.BiasPlainIdeal.nD Cert.BiasPlainIdeal.τ).loc Cert.BiasPlainIdeal.main_arg0)) (m ((c.tc : Thread Cert.BiasPlainIdeal.nD Cert.BiasPlainIdeal.τ).loc Cert.BiasPlainIdeal.main_arg1)) (m ((c.tc : Thread Cert.BiasPlainIdeal.nD Cert.BiasPlainIdeal.τ).loc Cert.BiasPlainIdeal.main_arg2))) = (fun _ => 1#1)

def Pre_MixerFwd (m : (ℓ : Loc Cert.MixerFwd.nD Cert.MixerFwd.τ Cert.MixerFwd.sig) → Buf (Elt Bits) ℓ) : Prop :=
  True

def Pre_MixerFwdIdeal (m : (ℓ : Loc Cert.MixerFwdIdeal.nD Cert.MixerFwdIdeal.τ Cert.MixerFwdIdeal.sig) → Buf (Elt Ideal) ℓ) : Prop :=
  True

def Pre_MixerFwdIdeal_finite_in_mixer [hPre_finite_in_mixer : Cert.Pre_finite_in_mixer.Facts] (m : (ℓ : Loc Cert.MixerFwdIdeal.nD Cert.MixerFwdIdeal.τ Cert.MixerFwdIdeal.sig) → Buf (Elt Ideal) ℓ) : Prop :=
  ∀ c : Dev Cert.MixerFwdIdeal.nD,
    (Cert.Pre_finite_in_mixer.fn (F := Ideal) (m ((c.tc : Thread Cert.MixerFwdIdeal.nD Cert.MixerFwdIdeal.τ).loc Cert.MixerFwdIdeal.main_arg0)) (m ((c.tc : Thread Cert.MixerFwdIdeal.nD Cert.MixerFwdIdeal.τ).loc Cert.MixerFwdIdeal.main_arg1)) (m ((c.tc : Thread Cert.MixerFwdIdeal.nD Cert.MixerFwdIdeal.τ).loc Cert.MixerFwdIdeal.main_arg2)) (m ((c.tc : Thread Cert.MixerFwdIdeal.nD Cert.MixerFwdIdeal.τ).loc Cert.MixerFwdIdeal.main_arg3)) (m ((c.tc : Thread Cert.MixerFwdIdeal.nD Cert.MixerFwdIdeal.τ).loc Cert.MixerFwdIdeal.main_arg4))) = (fun _ => 1#1)

def Pre_MixerPlainIdeal (m : (ℓ : Loc Cert.MixerPlainIdeal.nD Cert.MixerPlainIdeal.τ Cert.MixerPlainIdeal.sig) → Buf (Elt Ideal) ℓ) : Prop :=
  True

def Pre_MixerPlainIdeal_finite_in_mixer [hPre_finite_in_mixer : Cert.Pre_finite_in_mixer.Facts] (m : (ℓ : Loc Cert.MixerPlainIdeal.nD Cert.MixerPlainIdeal.τ Cert.MixerPlainIdeal.sig) → Buf (Elt Ideal) ℓ) : Prop :=
  ∀ c : Dev Cert.MixerPlainIdeal.nD,
    (Cert.Pre_finite_in_mixer.fn (F := Ideal) (m ((c.tc : Thread Cert.MixerPlainIdeal.nD Cert.MixerPlainIdeal.τ).loc Cert.MixerPlainIdeal.main_arg0)) (m ((c.tc : Thread Cert.MixerPlainIdeal.nD Cert.MixerPlainIdeal.τ).loc Cert.MixerPlainIdeal.main_arg1)) (m ((c.tc : Thread Cert.MixerPlainIdeal.nD Cert.MixerPlainIdeal.τ).loc Cert.MixerPlainIdeal.main_arg2)) (m ((c.tc : Thread Cert.MixerPlainIdeal.nD Cert.MixerPlainIdeal.τ).loc Cert.MixerPlainIdeal.main_arg3)) (m ((c.tc : Thread Cert.MixerPlainIdeal.nD Cert.MixerPlainIdeal.τ).loc Cert.MixerPlainIdeal.main_arg4))) = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactGradIdeal (m : (ℓ : Loc Cert.DactGradIdeal.nD Cert.DactGradIdeal.τ Cert.DactGradIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwPlainIdeal (m : (ℓ : Loc Cert.AdamwPlainIdeal.nD Cert.AdamwPlainIdeal.τ Cert.AdamwPlainIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpGradIdeal (m : (ℓ : Loc Cert.DwUpGradIdeal.nD Cert.DwUpGradIdeal.τ Cert.DwUpGradIdeal.sig) → Buf (Elt Ideal) ℓ) : Prop :=
  True

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastPlainIdeal (m : (ℓ : Loc Cert.CastPlainIdeal.nD Cert.CastPlainIdeal.τ Cert.CastPlainIdeal.sig) → Buf (Elt Ideal) ℓ) : Prop :=
  True

def Pre_DeviceSum (m : (ℓ : Loc Cert.DeviceSum.nD Cert.DeviceSum.τ Cert.DeviceSum.sig) → Buf (Elt Bits) ℓ) : Prop :=
  True

def Pre_DeviceSumIdeal (m : (ℓ : Loc Cert.DeviceSumIdeal.nD Cert.DeviceSumIdeal.τ Cert.DeviceSumIdeal.sig) → Buf (Elt Ideal) ℓ) : Prop :=
  True

def Pre_DeviceSumPlainIdeal (m : (ℓ : Loc Cert.DeviceSumPlainIdeal.nD Cert.DeviceSumPlainIdeal.τ Cert.DeviceSumPlainIdeal.sig) → Buf (Elt Ideal) ℓ) : Prop :=
  True

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdIdeal_pre_finite_norm [hNormBwdIdeal : Cert.NormBwdIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_finite_norm m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_NormGradIdeal_pre_finite_norm [hNormGradIdeal : Cert.NormGradIdeal.Facts] [hPre_finite_norm : Cert.Pre_finite_norm.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal_finite_norm m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_MixerBwd [hMixerBwd : Cert.MixerBwd.Facts] : Prop :=
  ∀ (m : (ℓ : Loc Cert.MixerBwd.nD Cert.MixerBwd.τ Cert.MixerBwd.sig) → Buf (Elt Bits) ℓ) (g : Dev Cert.MixerBwd.nD → PrngReg), Pre_MixerBwd m →
    θ_run (Cert.MixerBwd.defs (F := Bits)) (onTc (τ := Cert.MixerBwd.τ) (Cert.MixerBwd.main (F := Bits))) ⟨m, fun _ => 0, g⟩ (fun r => (∀ c : Dev Cert.MixerBwd.nD,
      r.2.mem ((c.tc : Thread Cert.MixerBwd.nD Cert.MixerBwd.τ).loc Cert.MixerBwd.main_arg0) = m ((c.tc : Thread Cert.MixerBwd.nD Cert.MixerBwd.τ).loc Cert.MixerBwd.main_arg0)
      ∧ r.2.mem ((c.tc : Thread Cert.MixerBwd.nD Cert.MixerBwd.τ).loc Cert.MixerBwd.main_arg1) = m ((c.tc : Thread Cert.MixerBwd.nD Cert.MixerBwd.τ).loc Cert.MixerBwd.main_arg1)
      ∧ r.2.mem ((c.tc : Thread Cert.MixerBwd.nD Cert.MixerBwd.τ).loc Cert.MixerBwd.main_arg2) = m ((c.tc : Thread Cert.MixerBwd.nD Cert.MixerBwd.τ).loc Cert.MixerBwd.main_arg2)
      ∧ r.2.mem ((c.tc : Thread Cert.MixerBwd.nD Cert.MixerBwd.τ).loc Cert.MixerBwd.main_arg3) = m ((c.tc : Thread Cert.MixerBwd.nD Cert.MixerBwd.τ).loc Cert.MixerBwd.main_arg3)
      ∧ r.2.mem ((c.tc : Thread Cert.MixerBwd.nD Cert.MixerBwd.τ).loc Cert.MixerBwd.main_arg4) = m ((c.tc : Thread Cert.MixerBwd.nD Cert.MixerBwd.τ).loc Cert.MixerBwd.main_arg4))
      ∧ r.2.sem = fun _ => 0)

def quiescent_MixerBwdIdeal [hMixerBwdIdeal : Cert.MixerBwdIdeal.Facts] : Prop :=
  ∀ (m : (ℓ : Loc Cert.MixerBwdIdeal.nD Cert.MixerBwdIdeal.τ Cert.MixerBwdIdeal.sig) → Buf (Elt Ideal) ℓ) (g : Dev Cert.MixerBwdIdeal.nD → PrngReg), Pre_MixerBwdIdeal m →
    θ_run (Cert.MixerBwdIdeal.defs (F := Ideal)) (onTc (τ := Cert.MixerBwdIdeal.τ) (Cert.MixerBwdIdeal.main (F := Ideal))) ⟨m, fun _ => 0, g⟩ (fun r => (∀ c : Dev Cert.MixerBwdIdeal.nD,
      r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
      ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
      ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
      ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
      ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4))
      ∧ r.2.sem = fun _ => 0)

def quiescent_MixerBwdIdeal_pre_finite_mixer [hMixerBwdIdeal : Cert.MixerBwdIdeal.Facts] [hPre_finite_mixer : Cert.Pre_finite_mixer.Facts] : Prop :=
  ∀ (m : (ℓ : Loc Cert.MixerBwdIdeal.nD Cert.MixerBwdIdeal.τ Cert.MixerBwdIdeal.sig) → Buf (Elt Ideal) ℓ) (g : Dev Cert.MixerBwdIdeal.nD → PrngReg), Pre_MixerBwdIdeal_finite_mixer m →
    θ_run (Cert.MixerBwdIdeal.defs (F := Ideal)) (onTc (τ := Cert.MixerBwdIdeal.τ) (Cert.MixerBwdIdeal.main (F := Ideal))) ⟨m, fun _ => 0, g⟩ (fun r => (∀ c : Dev Cert.MixerBwdIdeal.nD,
      r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
      ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
      ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
      ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
      ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4))
      ∧ r.2.sem = fun _ => 0)

def quiescent_MixerGradIdeal [hMixerGradIdeal : Cert.MixerGradIdeal.Facts] : Prop :=
  ∀ (m : (ℓ : Loc Cert.MixerGradIdeal.nD Cert.MixerGradIdeal.τ Cert.MixerGradIdeal.sig) → Buf (Elt Ideal) ℓ) (g : Dev Cert.MixerGradIdeal.nD → PrngReg), Pre_MixerGradIdeal m →
    θ_run (Cert.MixerGradIdeal.defs (F := Ideal)) (onTc (τ := Cert.MixerGradIdeal.τ) (Cert.MixerGradIdeal.main (F := Ideal))) ⟨m, fun _ => 0, g⟩ (fun r => (∀ c : Dev Cert.MixerGradIdeal.nD,
      r.2.mem ((c.tc : Thread Cert.MixerGradIdeal.nD Cert.MixerGradIdeal.τ).loc Cert.MixerGradIdeal.main_arg0) = m ((c.tc : Thread Cert.MixerGradIdeal.nD Cert.MixerGradIdeal.τ).loc Cert.MixerGradIdeal.main_arg0)
      ∧ r.2.mem ((c.tc : Thread Cert.MixerGradIdeal.nD Cert.MixerGradIdeal.τ).loc Cert.MixerGradIdeal.main_arg1) = m ((c.tc : Thread Cert.MixerGradIdeal.nD Cert.MixerGradIdeal.τ).loc Cert.MixerGradIdeal.main_arg1)
      ∧ r.2.mem ((c.tc : Thread Cert.MixerGradIdeal.nD Cert.MixerGradIdeal.τ).loc Cert.MixerGradIdeal.main_arg2) = m ((c.tc : Thread Cert.MixerGradIdeal.nD Cert.MixerGradIdeal.τ).loc Cert.MixerGradIdeal.main_arg2)
      ∧ r.2.mem ((c.tc : Thread Cert.MixerGradIdeal.nD Cert.MixerGradIdeal.τ).loc Cert.MixerGradIdeal.main_arg3) = m ((c.tc : Thread Cert.MixerGradIdeal.nD Cert.MixerGradIdeal.τ).loc Cert.MixerGradIdeal.main_arg3)
      ∧ r.2.mem ((c.tc : Thread Cert.MixerGradIdeal.nD Cert.MixerGradIdeal.τ).loc Cert.MixerGradIdeal.main_arg4) = m ((c.tc : Thread Cert.MixerGradIdeal.nD Cert.MixerGradIdeal.τ).loc Cert.MixerGradIdeal.main_arg4))
      ∧ r.2.sem = fun _ => 0)

def quiescent_MixerGradIdeal_pre_finite_mixer [hMixerGradIdeal : Cert.MixerGradIdeal.Facts] [hPre_finite_mixer : Cert.Pre_finite_mixer.Facts] : Prop :=
  ∀ (m : (ℓ : Loc Cert.MixerGradIdeal.nD Cert.MixerGradIdeal.τ Cert.MixerGradIdeal.sig) → Buf (Elt Ideal) ℓ) (g : Dev Cert.MixerGradIdeal.nD → PrngReg), Pre_MixerGradIdeal_finite_mixer m →
    θ_run (Cert.MixerGradIdeal.defs (F := Ideal)) (onTc (τ := Cert.MixerGradIdeal.τ) (Cert.MixerGradIdeal.main (F := Ideal))) ⟨m, fun _ => 0, g⟩ (fun r => (∀ c : Dev Cert.MixerGradIdeal.nD,
      r.2.mem ((c.tc : Thread Cert.MixerGradIdeal.nD Cert.MixerGradIdeal.τ).loc Cert.MixerGradIdeal.main_arg0) = m ((c.tc : Thread Cert.MixerGradIdeal.nD Cert.MixerGradIdeal.τ).loc Cert.MixerGradIdeal.main_arg0)
      ∧ r.2.mem ((c.tc : Thread Cert.MixerGradIdeal.nD Cert.MixerGradIdeal.τ).loc Cert.MixerGradIdeal.main_arg1) = m ((c.tc : Thread Cert.MixerGradIdeal.nD Cert.MixerGradIdeal.τ).loc Cert.MixerGradIdeal.main_arg1)
      ∧ r.2.mem ((c.tc : Thread Cert.MixerGradIdeal.nD Cert.MixerGradIdeal.τ).loc Cert.MixerGradIdeal.main_arg2) = m ((c.tc : Thread Cert.MixerGradIdeal.nD Cert.MixerGradIdeal.τ).loc Cert.MixerGradIdeal.main_arg2)
      ∧ r.2.mem ((c.tc : Thread Cert.MixerGradIdeal.nD Cert.MixerGradIdeal.τ).loc Cert.MixerGradIdeal.main_arg3) = m ((c.tc : Thread Cert.MixerGradIdeal.nD Cert.MixerGradIdeal.τ).loc Cert.MixerGradIdeal.main_arg3)
      ∧ r.2.mem ((c.tc : Thread Cert.MixerGradIdeal.nD Cert.MixerGradIdeal.τ).loc Cert.MixerGradIdeal.main_arg4) = m ((c.tc : Thread Cert.MixerGradIdeal.nD Cert.MixerGradIdeal.τ).loc Cert.MixerGradIdeal.main_arg4))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2)
      ∧ r.2.mem ((c.tc : Thread Cert.GluBwd.nD Cert.GluBwd.τ).loc Cert.GluBwd.main_arg3) = m ((c.tc : Thread Cert.GluBwd.nD Cert.GluBwd.τ).loc Cert.GluBwd.main_arg3))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3))
      ∧ r.2.sem = fun _ => 0)

def quiescent_GluBwdIdeal_pre_finite_glu [hGluBwdIdeal : Cert.GluBwdIdeal.Facts] [hPre_finite_glu : Cert.Pre_finite_glu.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal_finite_glu m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3))
      ∧ r.2.sem = fun _ => 0)

def quiescent_GluGradIdeal [hGluGradIdeal : Cert.GluGradIdeal.Facts] : Prop :=
  ∀ (m : (ℓ : Loc Cert.GluGradIdeal.nD Cert.GluGradIdeal.τ Cert.GluGradIdeal.sig) → Buf (Elt Ideal) ℓ) (g : Dev Cert.GluGradIdeal.nD → PrngReg), Pre_GluGradIdeal m →
    θ_run (Cert.GluGradIdeal.defs (F := Ideal)) (onTc (τ := Cert.GluGradIdeal.τ) (Cert.GluGradIdeal.main (F := Ideal))) ⟨m, fun _ => 0, g⟩ (fun r => (∀ c : Dev Cert.GluGradIdeal.nD,
      r.2.mem ((c.tc : Thread Cert.GluGradIdeal.nD Cert.GluGradIdeal.τ).loc Cert.GluGradIdeal.main_arg0) = m ((c.tc : Thread Cert.GluGradIdeal.nD Cert.GluGradIdeal.τ).loc Cert.GluGradIdeal.main_arg0)
      ∧ r.2.mem ((c.tc : Thread Cert.GluGradIdeal.nD Cert.GluGradIdeal.τ).loc Cert.GluGradIdeal.main_arg1) = m ((c.tc : Thread Cert.GluGradIdeal.nD Cert.GluGradIdeal.τ).loc Cert.GluGradIdeal.main_arg1)
      ∧ r.2.mem ((c.tc : Thread Cert.GluGradIdeal.nD Cert.GluGradIdeal.τ).loc Cert.GluGradIdeal.main_arg2) = m ((c.tc : Thread Cert.GluGradIdeal.nD Cert.GluGradIdeal.τ).loc Cert.GluGradIdeal.main_arg2)
      ∧ r.2.mem ((c.tc : Thread Cert.GluGradIdeal.nD Cert.GluGradIdeal.τ).loc Cert.GluGradIdeal.main_arg3) = m ((c.tc : Thread Cert.GluGradIdeal.nD Cert.GluGradIdeal.τ).loc Cert.GluGradIdeal.main_arg3))
      ∧ r.2.sem = fun _ => 0)

def quiescent_GluGradIdeal_pre_finite_glu [hGluGradIdeal : Cert.GluGradIdeal.Facts] [hPre_finite_glu : Cert.Pre_finite_glu.Facts] : Prop :=
  ∀ (m : (ℓ : Loc Cert.GluGradIdeal.nD Cert.GluGradIdeal.τ Cert.GluGradIdeal.sig) → Buf (Elt Ideal) ℓ) (g : Dev Cert.GluGradIdeal.nD → PrngReg), Pre_GluGradIdeal_finite_glu m →
    θ_run (Cert.GluGradIdeal.defs (F := Ideal)) (onTc (τ := Cert.GluGradIdeal.τ) (Cert.GluGradIdeal.main (F := Ideal))) ⟨m, fun _ => 0, g⟩ (fun r => (∀ c : Dev Cert.GluGradIdeal.nD,
      r.2.mem ((c.tc : Thread Cert.GluGradIdeal.nD Cert.GluGradIdeal.τ).loc Cert.GluGradIdeal.main_arg0) = m ((c.tc : Thread Cert.GluGradIdeal.nD Cert.GluGradIdeal.τ).loc Cert.GluGradIdeal.main_arg0)
      ∧ r.2.mem ((c.tc : Thread Cert.GluGradIdeal.nD Cert.GluGradIdeal.τ).loc Cert.GluGradIdeal.main_arg1) = m ((c.tc : Thread Cert.GluGradIdeal.nD Cert.GluGradIdeal.τ).loc Cert.GluGradIdeal.main_arg1)
      ∧ r.2.mem ((c.tc : Thread Cert.GluGradIdeal.nD Cert.GluGradIdeal.τ).loc Cert.GluGradIdeal.main_arg2) = m ((c.tc : Thread Cert.GluGradIdeal.nD Cert.GluGradIdeal.τ).loc Cert.GluGradIdeal.main_arg2)
      ∧ r.2.mem ((c.tc : Thread Cert.GluGradIdeal.nD Cert.GluGradIdeal.τ).loc Cert.GluGradIdeal.main_arg3) = m ((c.tc : Thread Cert.GluGradIdeal.nD Cert.GluGradIdeal.τ).loc Cert.GluGradIdeal.main_arg3))
      ∧ r.2.sem = fun _ => 0)

def quiescent_QkNormBwd [hQkNormBwd : Cert.QkNormBwd.Facts] : Prop :=
  ∀ (m : (ℓ : Loc Cert.QkNormBwd.nD Cert.QkNormBwd.τ Cert.QkNormBwd.sig) → Buf (Elt Bits) ℓ) (g : Dev Cert.QkNormBwd.nD → PrngReg), Pre_QkNormBwd m →
    θ_run (Cert.QkNormBwd.defs (F := Bits)) (onTc (τ := Cert.QkNormBwd.τ) (Cert.QkNormBwd.main (F := Bits))) ⟨m, fun _ => 0, g⟩ (fun r => (∀ c : Dev Cert.QkNormBwd.nD,
      r.2.mem ((c.tc : Thread Cert.QkNormBwd.nD Cert.QkNormBwd.τ).loc Cert.QkNormBwd.main_arg0) = m ((c.tc : Thread Cert.QkNormBwd.nD Cert.QkNormBwd.τ).loc Cert.QkNormBwd.main_arg0)
      ∧ r.2.mem ((c.tc : Thread Cert.QkNormBwd.nD Cert.QkNormBwd.τ).loc Cert.QkNormBwd.main_arg1) = m ((c.tc : Thread Cert.QkNormBwd.nD Cert.QkNormBwd.τ).loc Cert.QkNormBwd.main_arg1)
      ∧ r.2.mem ((c.tc : Thread Cert.QkNormBwd.nD Cert.QkNormBwd.τ).loc Cert.QkNormBwd.main_arg2) = m ((c.tc : Thread Cert.QkNormBwd.nD Cert.QkNormBwd.τ).loc Cert.QkNormBwd.main_arg2)
      ∧ r.2.mem ((c.tc : Thread Cert.QkNormBwd.nD Cert.QkNormBwd.τ).loc Cert.QkNormBwd.main_arg3) = m ((c.tc : Thread Cert.QkNormBwd.nD Cert.QkNormBwd.τ).loc Cert.QkNormBwd.main_arg3)
      ∧ r.2.mem ((c.tc : Thread Cert.QkNormBwd.nD Cert.QkNormBwd.τ).loc Cert.QkNormBwd.main_arg4) = m ((c.tc : Thread Cert.QkNormBwd.nD Cert.QkNormBwd.τ).loc Cert.QkNormBwd.main_arg4)
      ∧ r.2.mem ((c.tc : Thread Cert.QkNormBwd.nD Cert.QkNormBwd.τ).loc Cert.QkNormBwd.main_arg5) = m ((c.tc : Thread Cert.QkNormBwd.nD Cert.QkNormBwd.τ).loc Cert.QkNormBwd.main_arg5))
      ∧ r.2.sem = fun _ => 0)

def quiescent_QkNormBwdIdeal [hQkNormBwdIdeal : Cert.QkNormBwdIdeal.Facts] : Prop :=
  ∀ (m : (ℓ : Loc Cert.QkNormBwdIdeal.nD Cert.QkNormBwdIdeal.τ Cert.QkNormBwdIdeal.sig) → Buf (Elt Ideal) ℓ) (g : Dev Cert.QkNormBwdIdeal.nD → PrngReg), Pre_QkNormBwdIdeal m →
    θ_run (Cert.QkNormBwdIdeal.defs (F := Ideal)) (onTc (τ := Cert.QkNormBwdIdeal.τ) (Cert.QkNormBwdIdeal.main (F := Ideal))) ⟨m, fun _ => 0, g⟩ (fun r => (∀ c : Dev Cert.QkNormBwdIdeal.nD,
      r.2.mem ((c.tc : Thread Cert.QkNormBwdIdeal.nD Cert.QkNormBwdIdeal.τ).loc Cert.QkNormBwdIdeal.main_arg0) = m ((c.tc : Thread Cert.QkNormBwdIdeal.nD Cert.QkNormBwdIdeal.τ).loc Cert.QkNormBwdIdeal.main_arg0)
      ∧ r.2.mem ((c.tc : Thread Cert.QkNormBwdIdeal.nD Cert.QkNormBwdIdeal.τ).loc Cert.QkNormBwdIdeal.main_arg1) = m ((c.tc : Thread Cert.QkNormBwdIdeal.nD Cert.QkNormBwdIdeal.τ).loc Cert.QkNormBwdIdeal.main_arg1)
      ∧ r.2.mem ((c.tc : Thread Cert.QkNormBwdIdeal.nD Cert.QkNormBwdIdeal.τ).loc Cert.QkNormBwdIdeal.main_arg2) = m ((c.tc : Thread Cert.QkNormBwdIdeal.nD Cert.QkNormBwdIdeal.τ).loc Cert.QkNormBwdIdeal.main_arg2)
      ∧ r.2.mem ((c.tc : Thread Cert.QkNormBwdIdeal.nD Cert.QkNormBwdIdeal.τ).loc Cert.QkNormBwdIdeal.main_arg3) = m ((c.tc : Thread Cert.QkNormBwdIdeal.nD Cert.QkNormBwdIdeal.τ).loc Cert.QkNormBwdIdeal.main_arg3)
      ∧ r.2.mem ((c.tc : Thread Cert.QkNormBwdIdeal.nD Cert.QkNormBwdIdeal.τ).loc Cert.QkNormBwdIdeal.main_arg4) = m ((c.tc : Thread Cert.QkNormBwdIdeal.nD Cert.QkNormBwdIdeal.τ).loc Cert.QkNormBwdIdeal.main_arg4)
      ∧ r.2.mem ((c.tc : Thread Cert.QkNormBwdIdeal.nD Cert.QkNormBwdIdeal.τ).loc Cert.QkNormBwdIdeal.main_arg5) = m ((c.tc : Thread Cert.QkNormBwdIdeal.nD Cert.QkNormBwdIdeal.τ).loc Cert.QkNormBwdIdeal.main_arg5))
      ∧ r.2.sem = fun _ => 0)

def quiescent_QkNormBwdIdeal_pre_finite_qknorm [hQkNormBwdIdeal : Cert.QkNormBwdIdeal.Facts] [hPre_finite_qknorm : Cert.Pre_finite_qknorm.Facts] : Prop :=
  ∀ (m : (ℓ : Loc Cert.QkNormBwdIdeal.nD Cert.QkNormBwdIdeal.τ Cert.QkNormBwdIdeal.sig) → Buf (Elt Ideal) ℓ) (g : Dev Cert.QkNormBwdIdeal.nD → PrngReg), Pre_QkNormBwdIdeal_finite_qknorm m →
    θ_run (Cert.QkNormBwdIdeal.defs (F := Ideal)) (onTc (τ := Cert.QkNormBwdIdeal.τ) (Cert.QkNormBwdIdeal.main (F := Ideal))) ⟨m, fun _ => 0, g⟩ (fun r => (∀ c : Dev Cert.QkNormBwdIdeal.nD,
      r.2.mem ((c.tc : Thread Cert.QkNormBwdIdeal.nD Cert.QkNormBwdIdeal.τ).loc Cert.QkNormBwdIdeal.main_arg0) = m ((c.tc : Thread Cert.QkNormBwdIdeal.nD Cert.QkNormBwdIdeal.τ).loc Cert.QkNormBwdIdeal.main_arg0)
      ∧ r.2.mem ((c.tc : Thread Cert.QkNormBwdIdeal.nD Cert.QkNormBwdIdeal.τ).loc Cert.QkNormBwdIdeal.main_arg1) = m ((c.tc : Thread Cert.QkNormBwdIdeal.nD Cert.QkNormBwdIdeal.τ).loc Cert.QkNormBwdIdeal.main_arg1)
      ∧ r.2.mem ((c.tc : Thread Cert.QkNormBwdIdeal.nD Cert.QkNormBwdIdeal.τ).loc Cert.QkNormBwdIdeal.main_arg2) = m ((c.tc : Thread Cert.QkNormBwdIdeal.nD Cert.QkNormBwdIdeal.τ).loc Cert.QkNormBwdIdeal.main_arg2)
      ∧ r.2.mem ((c.tc : Thread Cert.QkNormBwdIdeal.nD Cert.QkNormBwdIdeal.τ).loc Cert.QkNormBwdIdeal.main_arg3) = m ((c.tc : Thread Cert.QkNormBwdIdeal.nD Cert.QkNormBwdIdeal.τ).loc Cert.QkNormBwdIdeal.main_arg3)
      ∧ r.2.mem ((c.tc : Thread Cert.QkNormBwdIdeal.nD Cert.QkNormBwdIdeal.τ).loc Cert.QkNormBwdIdeal.main_arg4) = m ((c.tc : Thread Cert.QkNormBwdIdeal.nD Cert.QkNormBwdIdeal.τ).loc Cert.QkNormBwdIdeal.main_arg4)
      ∧ r.2.mem ((c.tc : Thread Cert.QkNormBwdIdeal.nD Cert.QkNormBwdIdeal.τ).loc Cert.QkNormBwdIdeal.main_arg5) = m ((c.tc : Thread Cert.QkNormBwdIdeal.nD Cert.QkNormBwdIdeal.τ).loc Cert.QkNormBwdIdeal.main_arg5))
      ∧ r.2.sem = fun _ => 0)

def quiescent_QkNormGradIdeal [hQkNormGradIdeal : Cert.QkNormGradIdeal.Facts] : Prop :=
  ∀ (m : (ℓ : Loc Cert.QkNormGradIdeal.nD Cert.QkNormGradIdeal.τ Cert.QkNormGradIdeal.sig) → Buf (Elt Ideal) ℓ) (g : Dev Cert.QkNormGradIdeal.nD → PrngReg), Pre_QkNormGradIdeal m →
    θ_run (Cert.QkNormGradIdeal.defs (F := Ideal)) (onTc (τ := Cert.QkNormGradIdeal.τ) (Cert.QkNormGradIdeal.main (F := Ideal))) ⟨m, fun _ => 0, g⟩ (fun r => (∀ c : Dev Cert.QkNormGradIdeal.nD,
      r.2.mem ((c.tc : Thread Cert.QkNormGradIdeal.nD Cert.QkNormGradIdeal.τ).loc Cert.QkNormGradIdeal.main_arg0) = m ((c.tc : Thread Cert.QkNormGradIdeal.nD Cert.QkNormGradIdeal.τ).loc Cert.QkNormGradIdeal.main_arg0)
      ∧ r.2.mem ((c.tc : Thread Cert.QkNormGradIdeal.nD Cert.QkNormGradIdeal.τ).loc Cert.QkNormGradIdeal.main_arg1) = m ((c.tc : Thread Cert.QkNormGradIdeal.nD Cert.QkNormGradIdeal.τ).loc Cert.QkNormGradIdeal.main_arg1)
      ∧ r.2.mem ((c.tc : Thread Cert.QkNormGradIdeal.nD Cert.QkNormGradIdeal.τ).loc Cert.QkNormGradIdeal.main_arg2) = m ((c.tc : Thread Cert.QkNormGradIdeal.nD Cert.QkNormGradIdeal.τ).loc Cert.QkNormGradIdeal.main_arg2)
      ∧ r.2.mem ((c.tc : Thread Cert.QkNormGradIdeal.nD Cert.QkNormGradIdeal.τ).loc Cert.QkNormGradIdeal.main_arg3) = m ((c.tc : Thread Cert.QkNormGradIdeal.nD Cert.QkNormGradIdeal.τ).loc Cert.QkNormGradIdeal.main_arg3)
      ∧ r.2.mem ((c.tc : Thread Cert.QkNormGradIdeal.nD Cert.QkNormGradIdeal.τ).loc Cert.QkNormGradIdeal.main_arg4) = m ((c.tc : Thread Cert.QkNormGradIdeal.nD Cert.QkNormGradIdeal.τ).loc Cert.QkNormGradIdeal.main_arg4)
      ∧ r.2.mem ((c.tc : Thread Cert.QkNormGradIdeal.nD Cert.QkNormGradIdeal.τ).loc Cert.QkNormGradIdeal.main_arg5) = m ((c.tc : Thread Cert.QkNormGradIdeal.nD Cert.QkNormGradIdeal.τ).loc Cert.QkNormGradIdeal.main_arg5))
      ∧ r.2.sem = fun _ => 0)

def quiescent_QkNormGradIdeal_pre_finite_qknorm [hQkNormGradIdeal : Cert.QkNormGradIdeal.Facts] [hPre_finite_qknorm : Cert.Pre_finite_qknorm.Facts] : Prop :=
  ∀ (m : (ℓ : Loc Cert.QkNormGradIdeal.nD Cert.QkNormGradIdeal.τ Cert.QkNormGradIdeal.sig) → Buf (Elt Ideal) ℓ) (g : Dev Cert.QkNormGradIdeal.nD → PrngReg), Pre_QkNormGradIdeal_finite_qknorm m →
    θ_run (Cert.QkNormGradIdeal.defs (F := Ideal)) (onTc (τ := Cert.QkNormGradIdeal.τ) (Cert.QkNormGradIdeal.main (F := Ideal))) ⟨m, fun _ => 0, g⟩ (fun r => (∀ c : Dev Cert.QkNormGradIdeal.nD,
      r.2.mem ((c.tc : Thread Cert.QkNormGradIdeal.nD Cert.QkNormGradIdeal.τ).loc Cert.QkNormGradIdeal.main_arg0) = m ((c.tc : Thread Cert.QkNormGradIdeal.nD Cert.QkNormGradIdeal.τ).loc Cert.QkNormGradIdeal.main_arg0)
      ∧ r.2.mem ((c.tc : Thread Cert.QkNormGradIdeal.nD Cert.QkNormGradIdeal.τ).loc Cert.QkNormGradIdeal.main_arg1) = m ((c.tc : Thread Cert.QkNormGradIdeal.nD Cert.QkNormGradIdeal.τ).loc Cert.QkNormGradIdeal.main_arg1)
      ∧ r.2.mem ((c.tc : Thread Cert.QkNormGradIdeal.nD Cert.QkNormGradIdeal.τ).loc Cert.QkNormGradIdeal.main_arg2) = m ((c.tc : Thread Cert.QkNormGradIdeal.nD Cert.QkNormGradIdeal.τ).loc Cert.QkNormGradIdeal.main_arg2)
      ∧ r.2.mem ((c.tc : Thread Cert.QkNormGradIdeal.nD Cert.QkNormGradIdeal.τ).loc Cert.QkNormGradIdeal.main_arg3) = m ((c.tc : Thread Cert.QkNormGradIdeal.nD Cert.QkNormGradIdeal.τ).loc Cert.QkNormGradIdeal.main_arg3)
      ∧ r.2.mem ((c.tc : Thread Cert.QkNormGradIdeal.nD Cert.QkNormGradIdeal.τ).loc Cert.QkNormGradIdeal.main_arg4) = m ((c.tc : Thread Cert.QkNormGradIdeal.nD Cert.QkNormGradIdeal.τ).loc Cert.QkNormGradIdeal.main_arg4)
      ∧ r.2.mem ((c.tc : Thread Cert.QkNormGradIdeal.nD Cert.QkNormGradIdeal.τ).loc Cert.QkNormGradIdeal.main_arg5) = m ((c.tc : Thread Cert.QkNormGradIdeal.nD Cert.QkNormGradIdeal.τ).loc Cert.QkNormGradIdeal.main_arg5))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
      ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3))
      ∧ r.2.sem = fun _ => 0)

def quiescent_BiasBwd [hBiasBwd : Cert.BiasBwd.Facts] : Prop :=
  ∀ (m : (ℓ : Loc Cert.BiasBwd.nD Cert.BiasBwd.τ Cert.BiasBwd.sig) → Buf (Elt Bits) ℓ) (g : Dev Cert.BiasBwd.nD → PrngReg), Pre_BiasBwd m →
    θ_run (Cert.BiasBwd.defs (F := Bits)) (onTc (τ := Cert.BiasBwd.τ) (Cert.BiasBwd.main (F := Bits))) ⟨m, fun _ => 0, g⟩ (fun r => (∀ c : Dev Cert.BiasBwd.nD,
      r.2.mem ((c.tc : Thread Cert.BiasBwd.nD Cert.BiasBwd.τ).loc Cert.BiasBwd.main_arg0) = m ((c.tc : Thread Cert.BiasBwd.nD Cert.BiasBwd.τ).loc Cert.BiasBwd.main_arg0)
      ∧ r.2.mem ((c.tc : Thread Cert.BiasBwd.nD Cert.BiasBwd.τ).loc Cert.BiasBwd.main_arg1) = m ((c.tc : Thread Cert.BiasBwd.nD Cert.BiasBwd.τ).loc Cert.BiasBwd.main_arg1)
      ∧ r.2.mem ((c.tc : Thread Cert.BiasBwd.nD Cert.BiasBwd.τ).loc Cert.BiasBwd.main_arg2) = m ((c.tc : Thread Cert.BiasBwd.nD Cert.BiasBwd.τ).loc Cert.BiasBwd.main_arg2))
      ∧ r.2.sem = fun _ => 0)

def quiescent_BiasBwdIdeal [hBiasBwdIdeal : Cert.BiasBwdIdeal.Facts] : Prop :=
  ∀ (m : (ℓ : Loc Cert.BiasBwdIdeal.nD Cert.BiasBwdIdeal.τ Cert.BiasBwdIdeal.sig) → Buf (Elt Ideal) ℓ) (g : Dev Cert.BiasBwdIdeal.nD → PrngReg), Pre_BiasBwdIdeal m →
    θ_run (Cert.BiasBwdIdeal.defs (F := Ideal)) (onTc (τ := Cert.BiasBwdIdeal.τ) (Cert.BiasBwdIdeal.main (F := Ideal))) ⟨m, fun _ => 0, g⟩ (fun r => (∀ c : Dev Cert.BiasBwdIdeal.nD,
      r.2.mem ((c.tc : Thread Cert.BiasBwdIdeal.nD Cert.BiasBwdIdeal.τ).loc Cert.BiasBwdIdeal.main_arg0) = m ((c.tc : Thread Cert.BiasBwdIdeal.nD Cert.BiasBwdIdeal.τ).loc Cert.BiasBwdIdeal.main_arg0)
      ∧ r.2.mem ((c.tc : Thread Cert.BiasBwdIdeal.nD Cert.BiasBwdIdeal.τ).loc Cert.BiasBwdIdeal.main_arg1) = m ((c.tc : Thread Cert.BiasBwdIdeal.nD Cert.BiasBwdIdeal.τ).loc Cert.BiasBwdIdeal.main_arg1)
      ∧ r.2.mem ((c.tc : Thread Cert.BiasBwdIdeal.nD Cert.BiasBwdIdeal.τ).loc Cert.BiasBwdIdeal.main_arg2) = m ((c.tc : Thread Cert.BiasBwdIdeal.nD Cert.BiasBwdIdeal.τ).loc Cert.BiasBwdIdeal.main_arg2))
      ∧ r.2.sem = fun _ => 0)

def quiescent_BiasBwdIdeal_pre_finite_bias [hBiasBwdIdeal : Cert.BiasBwdIdeal.Facts] [hPre_finite_bias : Cert.Pre_finite_bias.Facts] : Prop :=
  ∀ (m : (ℓ : Loc Cert.BiasBwdIdeal.nD Cert.BiasBwdIdeal.τ Cert.BiasBwdIdeal.sig) → Buf (Elt Ideal) ℓ) (g : Dev Cert.BiasBwdIdeal.nD → PrngReg), Pre_BiasBwdIdeal_finite_bias m →
    θ_run (Cert.BiasBwdIdeal.defs (F := Ideal)) (onTc (τ := Cert.BiasBwdIdeal.τ) (Cert.BiasBwdIdeal.main (F := Ideal))) ⟨m, fun _ => 0, g⟩ (fun r => (∀ c : Dev Cert.BiasBwdIdeal.nD,
      r.2.mem ((c.tc : Thread Cert.BiasBwdIdeal.nD Cert.BiasBwdIdeal.τ).loc Cert.BiasBwdIdeal.main_arg0) = m ((c.tc : Thread Cert.BiasBwdIdeal.nD Cert.BiasBwdIdeal.τ).loc Cert.BiasBwdIdeal.main_arg0)
      ∧ r.2.mem ((c.tc : Thread Cert.BiasBwdIdeal.nD Cert.BiasBwdIdeal.τ).loc Cert.BiasBwdIdeal.main_arg1) = m ((c.tc : Thread Cert.BiasBwdIdeal.nD Cert.BiasBwdIdeal.τ).loc Cert.BiasBwdIdeal.main_arg1)
      ∧ r.2.mem ((c.tc : Thread Cert.BiasBwdIdeal.nD Cert.BiasBwdIdeal.τ).loc Cert.BiasBwdIdeal.main_arg2) = m ((c.tc : Thread Cert.BiasBwdIdeal.nD Cert.BiasBwdIdeal.τ).loc Cert.BiasBwdIdeal.main_arg2))
      ∧ r.2.sem = fun _ => 0)

def quiescent_BiasGradIdeal [hBiasGradIdeal : Cert.BiasGradIdeal.Facts] : Prop :=
  ∀ (m : (ℓ : Loc Cert.BiasGradIdeal.nD Cert.BiasGradIdeal.τ Cert.BiasGradIdeal.sig) → Buf (Elt Ideal) ℓ) (g : Dev Cert.BiasGradIdeal.nD → PrngReg), Pre_BiasGradIdeal m →
    θ_run (Cert.BiasGradIdeal.defs (F := Ideal)) (onTc (τ := Cert.BiasGradIdeal.τ) (Cert.BiasGradIdeal.main (F := Ideal))) ⟨m, fun _ => 0, g⟩ (fun r => (∀ c : Dev Cert.BiasGradIdeal.nD,
      r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0)
      ∧ r.2.mem ((c.tc : Thread Cert.BiasGradIdeal.nD Cert.BiasGradIdeal.τ).loc Cert.BiasGradIdeal.main_arg1) = m ((c.tc : Thread Cert.BiasGradIdeal.nD Cert.BiasGradIdeal.τ).loc Cert.BiasGradIdeal.main_arg1)
      ∧ r.2.mem ((c.tc : Thread Cert.BiasGradIdeal.nD Cert.BiasGradIdeal.τ).loc Cert.BiasGradIdeal.main_arg2) = m ((c.tc : Thread Cert.BiasGradIdeal.nD Cert.BiasGradIdeal.τ).loc Cert.BiasGradIdeal.main_arg2))
      ∧ r.2.sem = fun _ => 0)

def quiescent_BiasGradIdeal_pre_finite_bias [hBiasGradIdeal : Cert.BiasGradIdeal.Facts] [hPre_finite_bias : Cert.Pre_finite_bias.Facts] : Prop :=
  ∀ (m : (ℓ : Loc Cert.BiasGradIdeal.nD Cert.BiasGradIdeal.τ Cert.BiasGradIdeal.sig) → Buf (Elt Ideal) ℓ) (g : Dev Cert.BiasGradIdeal.nD → PrngReg), Pre_BiasGradIdeal_finite_bias m →
    θ_run (Cert.BiasGradIdeal.defs (F := Ideal)) (onTc (τ := Cert.BiasGradIdeal.τ) (Cert.BiasGradIdeal.main (F := Ideal))) ⟨m, fun _ => 0, g⟩ (fun r => (∀ c : Dev Cert.BiasGradIdeal.nD,
      r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0)
      ∧ r.2.mem ((c.tc : Thread Cert.BiasGradIdeal.nD Cert.BiasGradIdeal.τ).loc Cert.BiasGradIdeal.main_arg1) = m ((c.tc : Thread Cert.BiasGradIdeal.nD Cert.BiasGradIdeal.τ).loc Cert.BiasGradIdeal.main_arg1)
      ∧ r.2.mem ((c.tc : Thread Cert.BiasGradIdeal.nD Cert.BiasGradIdeal.τ).loc Cert.BiasGradIdeal.main_arg2) = m ((c.tc : Thread Cert.BiasGradIdeal.nD Cert.BiasGradIdeal.τ).loc Cert.BiasGradIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormPlainIdeal [hNormPlainIdeal : Cert.NormPlainIdeal.Facts] : Prop :=
  ∀ (m : (ℓ : Loc Cert.NormPlainIdeal.nD Cert.NormPlainIdeal.τ Cert.NormPlainIdeal.sig) → Buf (Elt Ideal) ℓ) (g : Dev Cert.NormPlainIdeal.nD → PrngReg), Pre_NormPlainIdeal m →
    θ_run (Cert.NormPlainIdeal.defs (F := Ideal)) (onTc (τ := Cert.NormPlainIdeal.τ) (Cert.NormPlainIdeal.main (F := Ideal))) ⟨m, fun _ => 0, g⟩ (fun r => (∀ c : Dev Cert.NormPlainIdeal.nD,
      r.2.mem ((c.tc : Thread Cert.NormPlainIdeal.nD Cert.NormPlainIdeal.τ).loc Cert.NormPlainIdeal.main_arg0) = m ((c.tc : Thread Cert.NormPlainIdeal.nD Cert.NormPlainIdeal.τ).loc Cert.NormPlainIdeal.main_arg0)
      ∧ r.2.mem ((c.tc : Thread Cert.NormPlainIdeal.nD Cert.NormPlainIdeal.τ).loc Cert.NormPlainIdeal.main_arg1) = m ((c.tc : Thread Cert.NormPlainIdeal.nD Cert.NormPlainIdeal.τ).loc Cert.NormPlainIdeal.main_arg1))
      ∧ r.2.sem = fun _ => 0)

def quiescent_ResNormFwd [hResNormFwd : Cert.ResNormFwd.Facts] : Prop :=
  ∀ (m : (ℓ : Loc Cert.ResNormFwd.nD Cert.ResNormFwd.τ Cert.ResNormFwd.sig) → Buf (Elt Bits) ℓ) (g : Dev Cert.ResNormFwd.nD → PrngReg), Pre_ResNormFwd m →
    θ_run (Cert.ResNormFwd.defs (F := Bits)) (onTc (τ := Cert.ResNormFwd.τ) (Cert.ResNormFwd.main (F := Bits))) ⟨m, fun _ => 0, g⟩ (fun r => (∀ c : Dev Cert.ResNormFwd.nD,
      r.2.mem ((c.tc : Thread Cert.ResNormFwd.nD Cert.ResNormFwd.τ).loc Cert.ResNormFwd.main_arg0) = m ((c.tc : Thread Cert.ResNormFwd.nD Cert.ResNormFwd.τ).loc Cert.ResNormFwd.main_arg0)
      ∧ r.2.mem ((c.tc : Thread Cert.ResNormFwd.nD Cert.ResNormFwd.τ).loc Cert.ResNormFwd.main_arg1) = m ((c.tc : Thread Cert.ResNormFwd.nD Cert.ResNormFwd.τ).loc Cert.ResNormFwd.main_arg1)
      ∧ r.2.mem ((c.tc : Thread Cert.ResNormFwd.nD Cert.ResNormFwd.τ).loc Cert.ResNormFwd.main_arg2) = m ((c.tc : Thread Cert.ResNormFwd.nD Cert.ResNormFwd.τ).loc Cert.ResNormFwd.main_arg2)
      ∧ r.2.mem ((c.tc : Thread Cert.ResNormFwd.nD Cert.ResNormFwd.τ).loc Cert.ResNormFwd.main_arg3) = m ((c.tc : Thread Cert.ResNormFwd.nD Cert.ResNormFwd.τ).loc Cert.ResNormFwd.main_arg3))
      ∧ r.2.sem = fun _ => 0)

def quiescent_ResNormFwdIdeal [hResNormFwdIdeal : Cert.ResNormFwdIdeal.Facts] : Prop :=
  ∀ (m : (ℓ : Loc Cert.ResNormFwdIdeal.nD Cert.ResNormFwdIdeal.τ Cert.ResNormFwdIdeal.sig) → Buf (Elt Ideal) ℓ) (g : Dev Cert.ResNormFwdIdeal.nD → PrngReg), Pre_ResNormFwdIdeal m →
    θ_run (Cert.ResNormFwdIdeal.defs (F := Ideal)) (onTc (τ := Cert.ResNormFwdIdeal.τ) (Cert.ResNormFwdIdeal.main (F := Ideal))) ⟨m, fun _ => 0, g⟩ (fun r => (∀ c : Dev Cert.ResNormFwdIdeal.nD,
      r.2.mem ((c.tc : Thread Cert.ResNormFwdIdeal.nD Cert.ResNormFwdIdeal.τ).loc Cert.ResNormFwdIdeal.main_arg0) = m ((c.tc : Thread Cert.ResNormFwdIdeal.nD Cert.ResNormFwdIdeal.τ).loc Cert.ResNormFwdIdeal.main_arg0)
      ∧ r.2.mem ((c.tc : Thread Cert.ResNormFwdIdeal.nD Cert.ResNormFwdIdeal.τ).loc Cert.ResNormFwdIdeal.main_arg1) = m ((c.tc : Thread Cert.ResNormFwdIdeal.nD Cert.ResNormFwdIdeal.τ).loc Cert.ResNormFwdIdeal.main_arg1)
      ∧ r.2.mem ((c.tc : Thread Cert.ResNormFwdIdeal.nD Cert.ResNormFwdIdeal.τ).loc Cert.ResNormFwdIdeal.main_arg2) = m ((c.tc : Thread Cert.ResNormFwdIdeal.nD Cert.ResNormFwdIdeal.τ).loc Cert.ResNormFwdIdeal.main_arg2)
      ∧ r.2.mem ((c.tc : Thread Cert.ResNormFwdIdeal.nD Cert.ResNormFwdIdeal.τ).loc Cert.ResNormFwdIdeal.main_arg3) = m ((c.tc : Thread Cert.ResNormFwdIdeal.nD Cert.ResNormFwdIdeal.τ).loc Cert.ResNormFwdIdeal.main_arg3))
      ∧ r.2.sem = fun _ => 0)

def quiescent_ResNormPlainIdeal [hResNormPlainIdeal : Cert.ResNormPlainIdeal.Facts] : Prop :=
  ∀ (m : (ℓ : Loc Cert.ResNormPlainIdeal.nD Cert.ResNormPlainIdeal.τ Cert.ResNormPlainIdeal.sig) → Buf (Elt Ideal) ℓ) (g : Dev Cert.ResNormPlainIdeal.nD → PrngReg), Pre_ResNormPlainIdeal m →
    θ_run (Cert.ResNormPlainIdeal.defs (F := Ideal)) (onTc (τ := Cert.ResNormPlainIdeal.τ) (Cert.ResNormPlainIdeal.main (F := Ideal))) ⟨m, fun _ => 0, g⟩ (fun r => (∀ c : Dev Cert.ResNormPlainIdeal.nD,
      r.2.mem ((c.tc : Thread Cert.ResNormPlainIdeal.nD Cert.ResNormPlainIdeal.τ).loc Cert.ResNormPlainIdeal.main_arg0) = m ((c.tc : Thread Cert.ResNormPlainIdeal.nD Cert.ResNormPlainIdeal.τ).loc Cert.ResNormPlainIdeal.main_arg0)
      ∧ r.2.mem ((c.tc : Thread Cert.ResNormPlainIdeal.nD Cert.ResNormPlainIdeal.τ).loc Cert.ResNormPlainIdeal.main_arg1) = m ((c.tc : Thread Cert.ResNormPlainIdeal.nD Cert.ResNormPlainIdeal.τ).loc Cert.ResNormPlainIdeal.main_arg1)
      ∧ r.2.mem ((c.tc : Thread Cert.ResNormPlainIdeal.nD Cert.ResNormPlainIdeal.τ).loc Cert.ResNormPlainIdeal.main_arg2) = m ((c.tc : Thread Cert.ResNormPlainIdeal.nD Cert.ResNormPlainIdeal.τ).loc Cert.ResNormPlainIdeal.main_arg2)
      ∧ r.2.mem ((c.tc : Thread Cert.ResNormPlainIdeal.nD Cert.ResNormPlainIdeal.τ).loc Cert.ResNormPlainIdeal.main_arg3) = m ((c.tc : Thread Cert.ResNormPlainIdeal.nD Cert.ResNormPlainIdeal.τ).loc Cert.ResNormPlainIdeal.main_arg3))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2)
      ∧ r.2.mem ((c.tc : Thread Cert.GluFwd.nD Cert.GluFwd.τ).loc Cert.GluFwd.main_arg3) = m ((c.tc : Thread Cert.GluFwd.nD Cert.GluFwd.τ).loc Cert.GluFwd.main_arg3))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
      ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3))
      ∧ r.2.sem = fun _ => 0)

def quiescent_GluPlainIdeal [hGluPlainIdeal : Cert.GluPlainIdeal.Facts] : Prop :=
  ∀ (m : (ℓ : Loc Cert.GluPlainIdeal.nD Cert.GluPlainIdeal.τ Cert.GluPlainIdeal.sig) → Buf (Elt Ideal) ℓ) (g : Dev Cert.GluPlainIdeal.nD → PrngReg), Pre_GluPlainIdeal m →
    θ_run (Cert.GluPlainIdeal.defs (F := Ideal)) (onTc (τ := Cert.GluPlainIdeal.τ) (Cert.GluPlainIdeal.main (F := Ideal))) ⟨m, fun _ => 0, g⟩ (fun r => (∀ c : Dev Cert.GluPlainIdeal.nD,
      r.2.mem ((c.tc : Thread Cert.GluPlainIdeal.nD Cert.GluPlainIdeal.τ).loc Cert.GluPlainIdeal.main_arg0) = m ((c.tc : Thread Cert.GluPlainIdeal.nD Cert.GluPlainIdeal.τ).loc Cert.GluPlainIdeal.main_arg0)
      ∧ r.2.mem ((c.tc : Thread Cert.GluPlainIdeal.nD Cert.GluPlainIdeal.τ).loc Cert.GluPlainIdeal.main_arg1) = m ((c.tc : Thread Cert.GluPlainIdeal.nD Cert.GluPlainIdeal.τ).loc Cert.GluPlainIdeal.main_arg1)
      ∧ r.2.mem ((c.tc : Thread Cert.GluPlainIdeal.nD Cert.GluPlainIdeal.τ).loc Cert.GluPlainIdeal.main_arg2) = m ((c.tc : Thread Cert.GluPlainIdeal.nD Cert.GluPlainIdeal.τ).loc Cert.GluPlainIdeal.main_arg2)
      ∧ r.2.mem ((c.tc : Thread Cert.GluPlainIdeal.nD Cert.GluPlainIdeal.τ).loc Cert.GluPlainIdeal.main_arg3) = m ((c.tc : Thread Cert.GluPlainIdeal.nD Cert.GluPlainIdeal.τ).loc Cert.GluPlainIdeal.main_arg3))
      ∧ r.2.sem = fun _ => 0)

def quiescent_QkvFwd [hQkvFwd : Cert.QkvFwd.Facts] : Prop :=
  ∀ (m : (ℓ : Loc Cert.QkvFwd.nD Cert.QkvFwd.τ Cert.QkvFwd.sig) → Buf (Elt Bits) ℓ) (g : Dev Cert.QkvFwd.nD → PrngReg), Pre_QkvFwd m →
    θ_run (Cert.QkvFwd.defs (F := Bits)) (onTc (τ := Cert.QkvFwd.τ) (Cert.QkvFwd.main (F := Bits))) ⟨m, fun _ => 0, g⟩ (fun r => (∀ c : Dev Cert.QkvFwd.nD,
      r.2.mem ((c.tc : Thread Cert.QkvFwd.nD Cert.QkvFwd.τ).loc Cert.QkvFwd.main_arg0) = m ((c.tc : Thread Cert.QkvFwd.nD Cert.QkvFwd.τ).loc Cert.QkvFwd.main_arg0)
      ∧ r.2.mem ((c.tc : Thread Cert.QkvFwd.nD Cert.QkvFwd.τ).loc Cert.QkvFwd.main_arg1) = m ((c.tc : Thread Cert.QkvFwd.nD Cert.QkvFwd.τ).loc Cert.QkvFwd.main_arg1)
      ∧ r.2.mem ((c.tc : Thread Cert.QkvFwd.nD Cert.QkvFwd.τ).loc Cert.QkvFwd.main_arg2) = m ((c.tc : Thread Cert.QkvFwd.nD Cert.QkvFwd.τ).loc Cert.QkvFwd.main_arg2)
      ∧ r.2.mem ((c.tc : Thread Cert.QkvFwd.nD Cert.QkvFwd.τ).loc Cert.QkvFwd.main_arg3) = m ((c.tc : Thread Cert.QkvFwd.nD Cert.QkvFwd.τ).loc Cert.QkvFwd.main_arg3))
      ∧ r.2.sem = fun _ => 0)

def quiescent_QkvFwdIdeal [hQkvFwdIdeal : Cert.QkvFwdIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg), Pre_QkvFwdIdeal m →
    θ_run (Cert.QkvFwdIdeal.defs (F := Ideal)) (onTc (τ := Cert.QkvFwdIdeal.τ) (Cert.QkvFwdIdeal.main (F := Ideal))) ⟨m, fun _ => 0, g⟩ (fun r => (∀ c : Dev Cert.QkvFwdIdeal.nD,
      r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
      ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1)
      ∧ r.2.mem ((c.tc : Thread Cert.QkvFwdIdeal.nD Cert.QkvFwdIdeal.τ).loc Cert.QkvFwdIdeal.main_arg2) = m ((c.tc : Thread Cert.QkvFwdIdeal.nD Cert.QkvFwdIdeal.τ).loc Cert.QkvFwdIdeal.main_arg2)
      ∧ r.2.mem ((c.tc : Thread Cert.QkvFwdIdeal.nD Cert.QkvFwdIdeal.τ).loc Cert.QkvFwdIdeal.main_arg3) = m ((c.tc : Thread Cert.QkvFwdIdeal.nD Cert.QkvFwdIdeal.τ).loc Cert.QkvFwdIdeal.main_arg3))
      ∧ r.2.sem = fun _ => 0)

def quiescent_QkvPlainIdeal [hQkvPlainIdeal : Cert.QkvPlainIdeal.Facts] : Prop :=
  ∀ (m : (ℓ : Loc Cert.QkvPlainIdeal.nD Cert.QkvPlainIdeal.τ Cert.QkvPlainIdeal.sig) → Buf (Elt Ideal) ℓ) (g : Dev Cert.QkvPlainIdeal.nD → PrngReg), Pre_QkvPlainIdeal m →
    θ_run (Cert.QkvPlainIdeal.defs (F := Ideal)) (onTc (τ := Cert.QkvPlainIdeal.τ) (Cert.QkvPlainIdeal.main (F := Ideal))) ⟨m, fun _ => 0, g⟩ (fun r => (∀ c : Dev Cert.QkvPlainIdeal.nD,
      r.2.mem ((c.tc : Thread Cert.QkvPlainIdeal.nD Cert.QkvPlainIdeal.τ).loc Cert.QkvPlainIdeal.main_arg0) = m ((c.tc : Thread Cert.QkvPlainIdeal.nD Cert.QkvPlainIdeal.τ).loc Cert.QkvPlainIdeal.main_arg0)
      ∧ r.2.mem ((c.tc : Thread Cert.QkvPlainIdeal.nD Cert.QkvPlainIdeal.τ).loc Cert.QkvPlainIdeal.main_arg1) = m ((c.tc : Thread Cert.QkvPlainIdeal.nD Cert.QkvPlainIdeal.τ).loc Cert.QkvPlainIdeal.main_arg1)
      ∧ r.2.mem ((c.tc : Thread Cert.QkvPlainIdeal.nD Cert.QkvPlainIdeal.τ).loc Cert.QkvPlainIdeal.main_arg2) = m ((c.tc : Thread Cert.QkvPlainIdeal.nD Cert.QkvPlainIdeal.τ).loc Cert.QkvPlainIdeal.main_arg2)
      ∧ r.2.mem ((c.tc : Thread Cert.QkvPlainIdeal.nD Cert.QkvPlainIdeal.τ).loc Cert.QkvPlainIdeal.main_arg3) = m ((c.tc : Thread Cert.QkvPlainIdeal.nD Cert.QkvPlainIdeal.τ).loc Cert.QkvPlainIdeal.main_arg3))
      ∧ r.2.sem = fun _ => 0)

def quiescent_BiasFwd [hBiasFwd : Cert.BiasFwd.Facts] : Prop :=
  ∀ (m : (ℓ : Loc Cert.BiasFwd.nD Cert.BiasFwd.τ Cert.BiasFwd.sig) → Buf (Elt Bits) ℓ) (g : Dev Cert.BiasFwd.nD → PrngReg), Pre_BiasFwd m →
    θ_run (Cert.BiasFwd.defs (F := Bits)) (onTc (τ := Cert.BiasFwd.τ) (Cert.BiasFwd.main (F := Bits))) ⟨m, fun _ => 0, g⟩ (fun r => (∀ c : Dev Cert.BiasFwd.nD,
      r.2.mem ((c.tc : Thread Cert.BiasFwd.nD Cert.BiasFwd.τ).loc Cert.BiasFwd.main_arg0) = m ((c.tc : Thread Cert.BiasFwd.nD Cert.BiasFwd.τ).loc Cert.BiasFwd.main_arg0)
      ∧ r.2.mem ((c.tc : Thread Cert.BiasFwd.nD Cert.BiasFwd.τ).loc Cert.BiasFwd.main_arg1) = m ((c.tc : Thread Cert.BiasFwd.nD Cert.BiasFwd.τ).loc Cert.BiasFwd.main_arg1)
      ∧ r.2.mem ((c.tc : Thread Cert.BiasFwd.nD Cert.BiasFwd.τ).loc Cert.BiasFwd.main_arg2) = m ((c.tc : Thread Cert.BiasFwd.nD Cert.BiasFwd.τ).loc Cert.BiasFwd.main_arg2))
      ∧ r.2.sem = fun _ => 0)

def quiescent_BiasFwdIdeal [hBiasFwdIdeal : Cert.BiasFwdIdeal.Facts] : Prop :=
  ∀ (m : (ℓ : Loc Cert.BiasFwdIdeal.nD Cert.BiasFwdIdeal.τ Cert.BiasFwdIdeal.sig) → Buf (Elt Ideal) ℓ) (g : Dev Cert.BiasFwdIdeal.nD → PrngReg), Pre_BiasFwdIdeal m →
    θ_run (Cert.BiasFwdIdeal.defs (F := Ideal)) (onTc (τ := Cert.BiasFwdIdeal.τ) (Cert.BiasFwdIdeal.main (F := Ideal))) ⟨m, fun _ => 0, g⟩ (fun r => (∀ c : Dev Cert.BiasFwdIdeal.nD,
      r.2.mem ((c.tc : Thread Cert.BiasFwdIdeal.nD Cert.BiasFwdIdeal.τ).loc Cert.BiasFwdIdeal.main_arg0) = m ((c.tc : Thread Cert.BiasFwdIdeal.nD Cert.BiasFwdIdeal.τ).loc Cert.BiasFwdIdeal.main_arg0)
      ∧ r.2.mem ((c.tc : Thread Cert.BiasFwdIdeal.nD Cert.BiasFwdIdeal.τ).loc Cert.BiasFwdIdeal.main_arg1) = m ((c.tc : Thread Cert.BiasFwdIdeal.nD Cert.BiasFwdIdeal.τ).loc Cert.BiasFwdIdeal.main_arg1)
      ∧ r.2.mem ((c.tc : Thread Cert.BiasFwdIdeal.nD Cert.BiasFwdIdeal.τ).loc Cert.BiasFwdIdeal.main_arg2) = m ((c.tc : Thread Cert.BiasFwdIdeal.nD Cert.BiasFwdIdeal.τ).loc Cert.BiasFwdIdeal.main_arg2))
      ∧ r.2.sem = fun _ => 0)

def quiescent_BiasFwdIdeal_pre_finite_table [hBiasFwdIdeal : Cert.BiasFwdIdeal.Facts] [hPre_finite_table : Cert.Pre_finite_table.Facts] : Prop :=
  ∀ (m : (ℓ : Loc Cert.BiasFwdIdeal.nD Cert.BiasFwdIdeal.τ Cert.BiasFwdIdeal.sig) → Buf (Elt Ideal) ℓ) (g : Dev Cert.BiasFwdIdeal.nD → PrngReg), Pre_BiasFwdIdeal_finite_table m →
    θ_run (Cert.BiasFwdIdeal.defs (F := Ideal)) (onTc (τ := Cert.BiasFwdIdeal.τ) (Cert.BiasFwdIdeal.main (F := Ideal))) ⟨m, fun _ => 0, g⟩ (fun r => (∀ c : Dev Cert.BiasFwdIdeal.nD,
      r.2.mem ((c.tc : Thread Cert.BiasFwdIdeal.nD Cert.BiasFwdIdeal.τ).loc Cert.BiasFwdIdeal.main_arg0) = m ((c.tc : Thread Cert.BiasFwdIdeal.nD Cert.BiasFwdIdeal.τ).loc Cert.BiasFwdIdeal.main_arg0)
      ∧ r.2.mem ((c.tc : Thread Cert.BiasFwdIdeal.nD Cert.BiasFwdIdeal.τ).loc Cert.BiasFwdIdeal.main_arg1) = m ((c.tc : Thread Cert.BiasFwdIdeal.nD Cert.BiasFwdIdeal.τ).loc Cert.BiasFwdIdeal.main_arg1)
      ∧ r.2.mem ((c.tc : Thread Cert.BiasFwdIdeal.nD Cert.BiasFwdIdeal.τ).loc Cert.BiasFwdIdeal.main_arg2) = m ((c.tc : Thread Cert.BiasFwdIdeal.nD Cert.BiasFwdIdeal.τ).loc Cert.BiasFwdIdeal.main_arg2))
      ∧ r.2.sem = fun _ => 0)

def quiescent_BiasPlainIdeal [hBiasPlainIdeal : Cert.BiasPlainIdeal.Facts] : Prop :=
  ∀ (m : (ℓ : Loc Cert.BiasPlainIdeal.nD Cert.BiasPlainIdeal.τ Cert.BiasPlainIdeal.sig) → Buf (Elt Ideal) ℓ) (g : Dev Cert.BiasPlainIdeal.nD → PrngReg), Pre_BiasPlainIdeal m →
    θ_run (Cert.BiasPlainIdeal.defs (F := Ideal)) (onTc (τ := Cert.BiasPlainIdeal.τ) (Cert.BiasPlainIdeal.main (F := Ideal))) ⟨m, fun _ => 0, g⟩ (fun r => (∀ c : Dev Cert.BiasPlainIdeal.nD,
      r.2.mem ((c.tc : Thread Cert.BiasPlainIdeal.nD Cert.BiasPlainIdeal.τ).loc Cert.BiasPlainIdeal.main_arg0) = m ((c.tc : Thread Cert.BiasPlainIdeal.nD Cert.BiasPlainIdeal.τ).loc Cert.BiasPlainIdeal.main_arg0)
      ∧ r.2.mem ((c.tc : Thread Cert.BiasPlainIdeal.nD Cert.BiasPlainIdeal.τ).loc Cert.BiasPlainIdeal.main_arg1) = m ((c.tc : Thread Cert.BiasPlainIdeal.nD Cert.BiasPlainIdeal.τ).loc Cert.BiasPlainIdeal.main_arg1)
      ∧ r.2.mem ((c.tc : Thread Cert.BiasPlainIdeal.nD Cert.BiasPlainIdeal.τ).loc Cert.BiasPlainIdeal.main_arg2) = m ((c.tc : Thread Cert.BiasPlainIdeal.nD Cert.BiasPlainIdeal.τ).loc Cert.BiasPlainIdeal.main_arg2))
      ∧ r.2.sem = fun _ => 0)

def quiescent_BiasPlainIdeal_pre_finite_table [hBiasPlainIdeal : Cert.BiasPlainIdeal.Facts] [hPre_finite_table : Cert.Pre_finite_table.Facts] : Prop :=
  ∀ (m : (ℓ : Loc Cert.BiasPlainIdeal.nD Cert.BiasPlainIdeal.τ Cert.BiasPlainIdeal.sig) → Buf (Elt Ideal) ℓ) (g : Dev Cert.BiasPlainIdeal.nD → PrngReg), Pre_BiasPlainIdeal_finite_table m →
    θ_run (Cert.BiasPlainIdeal.defs (F := Ideal)) (onTc (τ := Cert.BiasPlainIdeal.τ) (Cert.BiasPlainIdeal.main (F := Ideal))) ⟨m, fun _ => 0, g⟩ (fun r => (∀ c : Dev Cert.BiasPlainIdeal.nD,
      r.2.mem ((c.tc : Thread Cert.BiasPlainIdeal.nD Cert.BiasPlainIdeal.τ).loc Cert.BiasPlainIdeal.main_arg0) = m ((c.tc : Thread Cert.BiasPlainIdeal.nD Cert.BiasPlainIdeal.τ).loc Cert.BiasPlainIdeal.main_arg0)
      ∧ r.2.mem ((c.tc : Thread Cert.BiasPlainIdeal.nD Cert.BiasPlainIdeal.τ).loc Cert.BiasPlainIdeal.main_arg1) = m ((c.tc : Thread Cert.BiasPlainIdeal.nD Cert.BiasPlainIdeal.τ).loc Cert.BiasPlainIdeal.main_arg1)
      ∧ r.2.mem ((c.tc : Thread Cert.BiasPlainIdeal.nD Cert.BiasPlainIdeal.τ).loc Cert.BiasPlainIdeal.main_arg2) = m ((c.tc : Thread Cert.BiasPlainIdeal.nD Cert.BiasPlainIdeal.τ).loc Cert.BiasPlainIdeal.main_arg2))
      ∧ r.2.sem = fun _ => 0)

def quiescent_MixerFwd [hMixerFwd : Cert.MixerFwd.Facts] : Prop :=
  ∀ (m : (ℓ : Loc Cert.MixerFwd.nD Cert.MixerFwd.τ Cert.MixerFwd.sig) → Buf (Elt Bits) ℓ) (g : Dev Cert.MixerFwd.nD → PrngReg), Pre_MixerFwd m →
    θ_run (Cert.MixerFwd.defs (F := Bits)) (onTc (τ := Cert.MixerFwd.τ) (Cert.MixerFwd.main (F := Bits))) ⟨m, fun _ => 0, g⟩ (fun r => (∀ c : Dev Cert.MixerFwd.nD,
      r.2.mem ((c.tc : Thread Cert.MixerFwd.nD Cert.MixerFwd.τ).loc Cert.MixerFwd.main_arg0) = m ((c.tc : Thread Cert.MixerFwd.nD Cert.MixerFwd.τ).loc Cert.MixerFwd.main_arg0)
      ∧ r.2.mem ((c.tc : Thread Cert.MixerFwd.nD Cert.MixerFwd.τ).loc Cert.MixerFwd.main_arg1) = m ((c.tc : Thread Cert.MixerFwd.nD Cert.MixerFwd.τ).loc Cert.MixerFwd.main_arg1)
      ∧ r.2.mem ((c.tc : Thread Cert.MixerFwd.nD Cert.MixerFwd.τ).loc Cert.MixerFwd.main_arg2) = m ((c.tc : Thread Cert.MixerFwd.nD Cert.MixerFwd.τ).loc Cert.MixerFwd.main_arg2)
      ∧ r.2.mem ((c.tc : Thread Cert.MixerFwd.nD Cert.MixerFwd.τ).loc Cert.MixerFwd.main_arg3) = m ((c.tc : Thread Cert.MixerFwd.nD Cert.MixerFwd.τ).loc Cert.MixerFwd.main_arg3)
      ∧ r.2.mem ((c.tc : Thread Cert.MixerFwd.nD Cert.MixerFwd.τ).loc Cert.MixerFwd.main_arg4) = m ((c.tc : Thread Cert.MixerFwd.nD Cert.MixerFwd.τ).loc Cert.MixerFwd.main_arg4))
      ∧ r.2.sem = fun _ => 0)

def quiescent_MixerFwdIdeal [hMixerFwdIdeal : Cert.MixerFwdIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg), Pre_MixerFwdIdeal m →
    θ_run (Cert.MixerFwdIdeal.defs (F := Ideal)) (onTc (τ := Cert.MixerFwdIdeal.τ) (Cert.MixerFwdIdeal.main (F := Ideal))) ⟨m, fun _ => 0, g⟩ (fun r => (∀ c : Dev Cert.MixerFwdIdeal.nD,
      r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
      ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4))
      ∧ r.2.sem = fun _ => 0)

def quiescent_MixerFwdIdeal_pre_finite_in_mixer [hMixerFwdIdeal : Cert.MixerFwdIdeal.Facts] [hPre_finite_in_mixer : Cert.Pre_finite_in_mixer.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg), Pre_MixerFwdIdeal_finite_in_mixer m →
    θ_run (Cert.MixerFwdIdeal.defs (F := Ideal)) (onTc (τ := Cert.MixerFwdIdeal.τ) (Cert.MixerFwdIdeal.main (F := Ideal))) ⟨m, fun _ => 0, g⟩ (fun r => (∀ c : Dev Cert.MixerFwdIdeal.nD,
      r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
      ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4))
      ∧ r.2.sem = fun _ => 0)

def quiescent_MixerPlainIdeal [hMixerPlainIdeal : Cert.MixerPlainIdeal.Facts] : Prop :=
  ∀ (m : (ℓ : Loc Cert.MixerPlainIdeal.nD Cert.MixerPlainIdeal.τ Cert.MixerPlainIdeal.sig) → Buf (Elt Ideal) ℓ) (g : Dev Cert.MixerPlainIdeal.nD → PrngReg), Pre_MixerPlainIdeal m →
    θ_run (Cert.MixerPlainIdeal.defs (F := Ideal)) (onTc (τ := Cert.MixerPlainIdeal.τ) (Cert.MixerPlainIdeal.main (F := Ideal))) ⟨m, fun _ => 0, g⟩ (fun r => (∀ c : Dev Cert.MixerPlainIdeal.nD,
      r.2.mem ((c.tc : Thread Cert.MixerPlainIdeal.nD Cert.MixerPlainIdeal.τ).loc Cert.MixerPlainIdeal.main_arg0) = m ((c.tc : Thread Cert.MixerPlainIdeal.nD Cert.MixerPlainIdeal.τ).loc Cert.MixerPlainIdeal.main_arg0)
      ∧ r.2.mem ((c.tc : Thread Cert.MixerPlainIdeal.nD Cert.MixerPlainIdeal.τ).loc Cert.MixerPlainIdeal.main_arg1) = m ((c.tc : Thread Cert.MixerPlainIdeal.nD Cert.MixerPlainIdeal.τ).loc Cert.MixerPlainIdeal.main_arg1)
      ∧ r.2.mem ((c.tc : Thread Cert.MixerPlainIdeal.nD Cert.MixerPlainIdeal.τ).loc Cert.MixerPlainIdeal.main_arg2) = m ((c.tc : Thread Cert.MixerPlainIdeal.nD Cert.MixerPlainIdeal.τ).loc Cert.MixerPlainIdeal.main_arg2)
      ∧ r.2.mem ((c.tc : Thread Cert.MixerPlainIdeal.nD Cert.MixerPlainIdeal.τ).loc Cert.MixerPlainIdeal.main_arg3) = m ((c.tc : Thread Cert.MixerPlainIdeal.nD Cert.MixerPlainIdeal.τ).loc Cert.MixerPlainIdeal.main_arg3)
      ∧ r.2.mem ((c.tc : Thread Cert.MixerPlainIdeal.nD Cert.MixerPlainIdeal.τ).loc Cert.MixerPlainIdeal.main_arg4) = m ((c.tc : Thread Cert.MixerPlainIdeal.nD Cert.MixerPlainIdeal.τ).loc Cert.MixerPlainIdeal.main_arg4))
      ∧ r.2.sem = fun _ => 0)

def quiescent_MixerPlainIdeal_pre_finite_in_mixer [hMixerPlainIdeal : Cert.MixerPlainIdeal.Facts] [hPre_finite_in_mixer : Cert.Pre_finite_in_mixer.Facts] : Prop :=
  ∀ (m : (ℓ : Loc Cert.MixerPlainIdeal.nD Cert.MixerPlainIdeal.τ Cert.MixerPlainIdeal.sig) → Buf (Elt Ideal) ℓ) (g : Dev Cert.MixerPlainIdeal.nD → PrngReg), Pre_MixerPlainIdeal_finite_in_mixer m →
    θ_run (Cert.MixerPlainIdeal.defs (F := Ideal)) (onTc (τ := Cert.MixerPlainIdeal.τ) (Cert.MixerPlainIdeal.main (F := Ideal))) ⟨m, fun _ => 0, g⟩ (fun r => (∀ c : Dev Cert.MixerPlainIdeal.nD,
      r.2.mem ((c.tc : Thread Cert.MixerPlainIdeal.nD Cert.MixerPlainIdeal.τ).loc Cert.MixerPlainIdeal.main_arg0) = m ((c.tc : Thread Cert.MixerPlainIdeal.nD Cert.MixerPlainIdeal.τ).loc Cert.MixerPlainIdeal.main_arg0)
      ∧ r.2.mem ((c.tc : Thread Cert.MixerPlainIdeal.nD Cert.MixerPlainIdeal.τ).loc Cert.MixerPlainIdeal.main_arg1) = m ((c.tc : Thread Cert.MixerPlainIdeal.nD Cert.MixerPlainIdeal.τ).loc Cert.MixerPlainIdeal.main_arg1)
      ∧ r.2.mem ((c.tc : Thread Cert.MixerPlainIdeal.nD Cert.MixerPlainIdeal.τ).loc Cert.MixerPlainIdeal.main_arg2) = m ((c.tc : Thread Cert.MixerPlainIdeal.nD Cert.MixerPlainIdeal.τ).loc Cert.MixerPlainIdeal.main_arg2)
      ∧ r.2.mem ((c.tc : Thread Cert.MixerPlainIdeal.nD Cert.MixerPlainIdeal.τ).loc Cert.MixerPlainIdeal.main_arg3) = m ((c.tc : Thread Cert.MixerPlainIdeal.nD Cert.MixerPlainIdeal.τ).loc Cert.MixerPlainIdeal.main_arg3)
      ∧ r.2.mem ((c.tc : Thread Cert.MixerPlainIdeal.nD Cert.MixerPlainIdeal.τ).loc Cert.MixerPlainIdeal.main_arg4) = m ((c.tc : Thread Cert.MixerPlainIdeal.nD Cert.MixerPlainIdeal.τ).loc Cert.MixerPlainIdeal.main_arg4))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactGradIdeal [hDactGradIdeal : Cert.DactGradIdeal.Facts] : Prop :=
  ∀ (m : (ℓ : Loc Cert.DactGradIdeal.nD Cert.DactGradIdeal.τ Cert.DactGradIdeal.sig) → Buf (Elt Ideal) ℓ) (g : Dev Cert.DactGradIdeal.nD → PrngReg), Pre_DactGradIdeal m →
    θ_run (Cert.DactGradIdeal.defs (F := Ideal)) (onTc (τ := Cert.DactGradIdeal.τ) (Cert.DactGradIdeal.main (F := Ideal))) ⟨m, fun _ => 0, g⟩ (fun r => (∀ c : Dev Cert.DactGradIdeal.nD,
      r.2.mem ((c.tc : Thread Cert.DactGradIdeal.nD Cert.DactGradIdeal.τ).loc Cert.DactGradIdeal.main_arg0) = m ((c.tc : Thread Cert.DactGradIdeal.nD Cert.DactGradIdeal.τ).loc Cert.DactGradIdeal.main_arg0)
      ∧ r.2.mem ((c.tc : Thread Cert.DactGradIdeal.nD Cert.DactGradIdeal.τ).loc Cert.DactGradIdeal.main_arg1) = m ((c.tc : Thread Cert.DactGradIdeal.nD Cert.DactGradIdeal.τ).loc Cert.DactGradIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwPlainIdeal [hAdamwPlainIdeal : Cert.AdamwPlainIdeal.Facts] : Prop :=
  ∀ (m : (ℓ : Loc Cert.AdamwPlainIdeal.nD Cert.AdamwPlainIdeal.τ Cert.AdamwPlainIdeal.sig) → Buf (Elt Ideal) ℓ) (g : Dev Cert.AdamwPlainIdeal.nD → PrngReg), Pre_AdamwPlainIdeal m →
    θ_run (Cert.AdamwPlainIdeal.defs (F := Ideal)) (onTc (τ := Cert.AdamwPlainIdeal.τ) (Cert.AdamwPlainIdeal.main (F := Ideal))) ⟨m, fun _ => 0, g⟩ (fun r => (∀ c : Dev Cert.AdamwPlainIdeal.nD,
      r.2.mem ((c.tc : Thread Cert.AdamwPlainIdeal.nD Cert.AdamwPlainIdeal.τ).loc Cert.AdamwPlainIdeal.main_arg0) = m ((c.tc : Thread Cert.AdamwPlainIdeal.nD Cert.AdamwPlainIdeal.τ).loc Cert.AdamwPlainIdeal.main_arg0)
      ∧ r.2.mem ((c.tc : Thread Cert.AdamwPlainIdeal.nD Cert.AdamwPlainIdeal.τ).loc Cert.AdamwPlainIdeal.main_arg1) = m ((c.tc : Thread Cert.AdamwPlainIdeal.nD Cert.AdamwPlainIdeal.τ).loc Cert.AdamwPlainIdeal.main_arg1)
      ∧ r.2.mem ((c.tc : Thread Cert.AdamwPlainIdeal.nD Cert.AdamwPlainIdeal.τ).loc Cert.AdamwPlainIdeal.main_arg2) = m ((c.tc : Thread Cert.AdamwPlainIdeal.nD Cert.AdamwPlainIdeal.τ).loc Cert.AdamwPlainIdeal.main_arg2)
      ∧ r.2.mem ((c.tc : Thread Cert.AdamwPlainIdeal.nD Cert.AdamwPlainIdeal.τ).loc Cert.AdamwPlainIdeal.main_arg3) = m ((c.tc : Thread Cert.AdamwPlainIdeal.nD Cert.AdamwPlainIdeal.τ).loc Cert.AdamwPlainIdeal.main_arg3))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpGradIdeal [hDwUpGradIdeal : Cert.DwUpGradIdeal.Facts] : Prop :=
  ∀ (m : (ℓ : Loc Cert.DwUpGradIdeal.nD Cert.DwUpGradIdeal.τ Cert.DwUpGradIdeal.sig) → Buf (Elt Ideal) ℓ) (g : Dev Cert.DwUpGradIdeal.nD → PrngReg), Pre_DwUpGradIdeal m →
    θ_run (Cert.DwUpGradIdeal.defs (F := Ideal)) (onTc (τ := Cert.DwUpGradIdeal.τ) (Cert.DwUpGradIdeal.main (F := Ideal))) ⟨m, fun _ => 0, g⟩ (fun r => (∀ c : Dev Cert.DwUpGradIdeal.nD,
      r.2.mem ((c.tc : Thread Cert.DwUpGradIdeal.nD Cert.DwUpGradIdeal.τ).loc Cert.DwUpGradIdeal.main_arg0) = m ((c.tc : Thread Cert.DwUpGradIdeal.nD Cert.DwUpGradIdeal.τ).loc Cert.DwUpGradIdeal.main_arg0)
      ∧ r.2.mem ((c.tc : Thread Cert.DwUpGradIdeal.nD Cert.DwUpGradIdeal.τ).loc Cert.DwUpGradIdeal.main_arg1) = m ((c.tc : Thread Cert.DwUpGradIdeal.nD Cert.DwUpGradIdeal.τ).loc Cert.DwUpGradIdeal.main_arg1))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ r.2.sem = fun _ => 0)

def quiescent_CastPlainIdeal [hCastPlainIdeal : Cert.CastPlainIdeal.Facts] : Prop :=
  ∀ (m : (ℓ : Loc Cert.CastPlainIdeal.nD Cert.CastPlainIdeal.τ Cert.CastPlainIdeal.sig) → Buf (Elt Ideal) ℓ) (g : Dev Cert.CastPlainIdeal.nD → PrngReg), Pre_CastPlainIdeal m →
    θ_run (Cert.CastPlainIdeal.defs (F := Ideal)) (onTc (τ := Cert.CastPlainIdeal.τ) (Cert.CastPlainIdeal.main (F := Ideal))) ⟨m, fun _ => 0, g⟩ (fun r => (∀ c : Dev Cert.CastPlainIdeal.nD,
      r.2.mem ((c.tc : Thread Cert.CastPlainIdeal.nD Cert.CastPlainIdeal.τ).loc Cert.CastPlainIdeal.main_arg0) = m ((c.tc : Thread Cert.CastPlainIdeal.nD Cert.CastPlainIdeal.τ).loc Cert.CastPlainIdeal.main_arg0))
      ∧ r.2.sem = fun _ => 0)

def quiescent_DeviceSum [hDeviceSum : Cert.DeviceSum.Facts] : Prop :=
  ∀ (m : (ℓ : Loc Cert.DeviceSum.nD Cert.DeviceSum.τ Cert.DeviceSum.sig) → Buf (Elt Bits) ℓ) (g : Dev Cert.DeviceSum.nD → PrngReg), Pre_DeviceSum m →
    θ_run (Cert.DeviceSum.defs (F := Bits)) (onTc (τ := Cert.DeviceSum.τ) (Cert.DeviceSum.main (F := Bits))) ⟨m, fun _ => 0, g⟩ (fun r => (∀ c : Dev Cert.DeviceSum.nD,
      r.2.mem ((c.tc : Thread Cert.DeviceSum.nD Cert.DeviceSum.τ).loc Cert.DeviceSum.main_arg0) = m ((c.tc : Thread Cert.DeviceSum.nD Cert.DeviceSum.τ).loc Cert.DeviceSum.main_arg0)
      ∧ r.2.mem ((c.tc : Thread Cert.DeviceSum.nD Cert.DeviceSum.τ).loc Cert.DeviceSum.main_arg1) = m ((c.tc : Thread Cert.DeviceSum.nD Cert.DeviceSum.τ).loc Cert.DeviceSum.main_arg1)
      ∧ r.2.mem ((c.tc : Thread Cert.DeviceSum.nD Cert.DeviceSum.τ).loc Cert.DeviceSum.main_arg2) = m ((c.tc : Thread Cert.DeviceSum.nD Cert.DeviceSum.τ).loc Cert.DeviceSum.main_arg2))
      ∧ r.2.sem = fun _ => 0)

def quiescent_DeviceSumIdeal [hDeviceSumIdeal : Cert.DeviceSumIdeal.Facts] : Prop :=
  ∀ (m : (ℓ : Loc Cert.DeviceSumIdeal.nD Cert.DeviceSumIdeal.τ Cert.DeviceSumIdeal.sig) → Buf (Elt Ideal) ℓ) (g : Dev Cert.DeviceSumIdeal.nD → PrngReg), Pre_DeviceSumIdeal m →
    θ_run (Cert.DeviceSumIdeal.defs (F := Ideal)) (onTc (τ := Cert.DeviceSumIdeal.τ) (Cert.DeviceSumIdeal.main (F := Ideal))) ⟨m, fun _ => 0, g⟩ (fun r => (∀ c : Dev Cert.DeviceSumIdeal.nD,
      r.2.mem ((c.tc : Thread Cert.DeviceSumIdeal.nD Cert.DeviceSumIdeal.τ).loc Cert.DeviceSumIdeal.main_arg0) = m ((c.tc : Thread Cert.DeviceSumIdeal.nD Cert.DeviceSumIdeal.τ).loc Cert.DeviceSumIdeal.main_arg0)
      ∧ r.2.mem ((c.tc : Thread Cert.DeviceSumIdeal.nD Cert.DeviceSumIdeal.τ).loc Cert.DeviceSumIdeal.main_arg1) = m ((c.tc : Thread Cert.DeviceSumIdeal.nD Cert.DeviceSumIdeal.τ).loc Cert.DeviceSumIdeal.main_arg1)
      ∧ r.2.mem ((c.tc : Thread Cert.DeviceSumIdeal.nD Cert.DeviceSumIdeal.τ).loc Cert.DeviceSumIdeal.main_arg2) = m ((c.tc : Thread Cert.DeviceSumIdeal.nD Cert.DeviceSumIdeal.τ).loc Cert.DeviceSumIdeal.main_arg2))
      ∧ r.2.sem = fun _ => 0)

def quiescent_DeviceSumPlainIdeal [hDeviceSumPlainIdeal : Cert.DeviceSumPlainIdeal.Facts] : Prop :=
  ∀ (m : (ℓ : Loc Cert.DeviceSumPlainIdeal.nD Cert.DeviceSumPlainIdeal.τ Cert.DeviceSumPlainIdeal.sig) → Buf (Elt Ideal) ℓ) (g : Dev Cert.DeviceSumPlainIdeal.nD → PrngReg), Pre_DeviceSumPlainIdeal m →
    θ_run (Cert.DeviceSumPlainIdeal.defs (F := Ideal)) (onTc (τ := Cert.DeviceSumPlainIdeal.τ) (Cert.DeviceSumPlainIdeal.main (F := Ideal))) ⟨m, fun _ => 0, g⟩ (fun r => (∀ c : Dev Cert.DeviceSumPlainIdeal.nD,
      r.2.mem ((c.tc : Thread Cert.DeviceSumPlainIdeal.nD Cert.DeviceSumPlainIdeal.τ).loc Cert.DeviceSumPlainIdeal.main_arg0) = m ((c.tc : Thread Cert.DeviceSumPlainIdeal.nD Cert.DeviceSumPlainIdeal.τ).loc Cert.DeviceSumPlainIdeal.main_arg0)
      ∧ r.2.mem ((c.tc : Thread Cert.DeviceSumPlainIdeal.nD Cert.DeviceSumPlainIdeal.τ).loc Cert.DeviceSumPlainIdeal.main_arg1) = m ((c.tc : Thread Cert.DeviceSumPlainIdeal.nD Cert.DeviceSumPlainIdeal.τ).loc Cert.DeviceSumPlainIdeal.main_arg1)
      ∧ r.2.mem ((c.tc : Thread Cert.DeviceSumPlainIdeal.nD Cert.DeviceSumPlainIdeal.τ).loc Cert.DeviceSumPlainIdeal.main_arg2) = m ((c.tc : Thread Cert.DeviceSumPlainIdeal.nD Cert.DeviceSumPlainIdeal.τ).loc Cert.DeviceSumPlainIdeal.main_arg2))
      ∧ r.2.sem = fun _ => 0)

def preserves_NormBwd_NormBwdIdeal : Prop :=
  True

def algebraic_NormBwdIdeal_NormGradIdeal_pre_finite_norm [hNormBwdIdeal : Cert.NormBwdIdeal.Facts] [hNormGradIdeal : Cert.NormGradIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormGradIdeal.nD Cert.NormGradIdeal.τ Cert.NormGradIdeal.sig) → Buf (Elt Ideal) ℓ) (g' : Dev Cert.NormGradIdeal.nD → PrngReg), Pre_NormBwdIdeal_finite_norm m →
    (∀ c : Dev Cert.NormBwdIdeal.nD,
      m' ((c.tc : Thread Cert.NormGradIdeal.nD Cert.NormGradIdeal.τ).loc Cert.NormGradIdeal.main_arg0) = m ((c.tc : Thread Cert.NormBwdIdeal.nD Cert.NormBwdIdeal.τ).loc Cert.NormBwdIdeal.main_arg0)
      ∧ m' ((c.tc : Thread Cert.NormGradIdeal.nD Cert.NormGradIdeal.τ).loc Cert.NormGradIdeal.main_arg1) = m ((c.tc : Thread Cert.NormBwdIdeal.nD Cert.NormBwdIdeal.τ).loc Cert.NormBwdIdeal.main_arg1)
      ∧ m' ((c.tc : Thread Cert.NormGradIdeal.nD Cert.NormGradIdeal.τ).loc Cert.NormGradIdeal.main_arg2) = m ((c.tc : Thread Cert.NormBwdIdeal.nD Cert.NormBwdIdeal.τ).loc Cert.NormBwdIdeal.main_arg2)
      ∧ m' ((c.tc : Thread Cert.NormGradIdeal.nD Cert.NormGradIdeal.τ).loc Cert.NormGradIdeal.main_arg3) = m ((c.tc : Thread Cert.NormBwdIdeal.nD Cert.NormBwdIdeal.τ).loc Cert.NormBwdIdeal.main_arg3)
      ∧ m' ((c.tc : Thread Cert.NormGradIdeal.nD Cert.NormGradIdeal.τ).loc Cert.NormGradIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v5_0)) (v1 : (c : Dev Cert.NormBwdIdeal.nD) → Buf (Elt Ideal) ((c.tc : Thread Cert.NormBwdIdeal.nD Cert.NormBwdIdeal.τ).loc Cert.NormBwdIdeal.main_v5_1)) (v2 : (c : Dev Cert.NormBwdIdeal.nD) → Buf (Elt Ideal) ((c.tc : Thread Cert.NormBwdIdeal.nD Cert.NormBwdIdeal.τ).loc Cert.NormBwdIdeal.main_v5_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v5_0) = v0 c
          ∧ r.2.mem ((c.tc : Thread Cert.NormBwdIdeal.nD Cert.NormBwdIdeal.τ).loc Cert.NormBwdIdeal.main_v5_1) = v1 c
          ∧ r.2.mem ((c.tc : Thread Cert.NormBwdIdeal.nD Cert.NormBwdIdeal.τ).loc Cert.NormBwdIdeal.main_v5_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormGradIdeal.defs (F := Ideal)) (onTc (τ := Cert.NormGradIdeal.τ) (Cert.NormGradIdeal.main (F := Ideal))) ⟨m', fun _ => 0, g'⟩ (fun r => ∀ c : Dev Cert.NormGradIdeal.nD,
          r.2.mem ((c.tc : Thread Cert.NormGradIdeal.nD Cert.NormGradIdeal.τ).loc Cert.NormGradIdeal.main_v39) = v0 c
          ∧ r.2.mem ((c.tc : Thread Cert.NormGradIdeal.nD Cert.NormGradIdeal.τ).loc Cert.NormGradIdeal.main_v41) = v1 c
          ∧ r.2.mem ((c.tc : Thread Cert.NormGradIdeal.nD Cert.NormGradIdeal.τ).loc Cert.NormGradIdeal.main_v40) = v2 c
          ∧ r.2.mem ((c.tc : Thread Cert.NormGradIdeal.nD Cert.NormGradIdeal.τ).loc Cert.NormGradIdeal.main_arg0) = m' ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m' ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m' ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m' ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m' ((c.tc : Thread Cert.NormGradIdeal.nD Cert.NormGradIdeal.τ).loc Cert.NormGradIdeal.main_arg4))

def preserves_MixerBwd_MixerBwdIdeal : Prop :=
  True

def algebraic_MixerBwdIdeal_MixerGradIdeal_pre_finite_mixer [hMixerBwdIdeal : Cert.MixerBwdIdeal.Facts] [hMixerGradIdeal : Cert.MixerGradIdeal.Facts] [hPre_finite_mixer : Cert.Pre_finite_mixer.Facts] : Prop :=
  ∀ (m : (ℓ : Loc Cert.MixerBwdIdeal.nD Cert.MixerBwdIdeal.τ Cert.MixerBwdIdeal.sig) → Buf (Elt Ideal) ℓ) (g : Dev Cert.MixerBwdIdeal.nD → PrngReg)
    (m' : (ℓ : Loc Cert.MixerGradIdeal.nD Cert.MixerGradIdeal.τ Cert.MixerGradIdeal.sig) → Buf (Elt Ideal) ℓ) (g' : Dev Cert.MixerGradIdeal.nD → PrngReg), Pre_MixerBwdIdeal_finite_mixer m →
    (∀ c : Dev Cert.MixerBwdIdeal.nD,
      m' ((c.tc : Thread Cert.MixerGradIdeal.nD Cert.MixerGradIdeal.τ).loc Cert.MixerGradIdeal.main_arg0) = m ((c.tc : Thread Cert.MixerBwdIdeal.nD Cert.MixerBwdIdeal.τ).loc Cert.MixerBwdIdeal.main_arg0)
      ∧ m' ((c.tc : Thread Cert.MixerGradIdeal.nD Cert.MixerGradIdeal.τ).loc Cert.MixerGradIdeal.main_arg1) = m ((c.tc : Thread Cert.MixerBwdIdeal.nD Cert.MixerBwdIdeal.τ).loc Cert.MixerBwdIdeal.main_arg1)
      ∧ m' ((c.tc : Thread Cert.MixerGradIdeal.nD Cert.MixerGradIdeal.τ).loc Cert.MixerGradIdeal.main_arg2) = m ((c.tc : Thread Cert.MixerBwdIdeal.nD Cert.MixerBwdIdeal.τ).loc Cert.MixerBwdIdeal.main_arg2)
      ∧ m' ((c.tc : Thread Cert.MixerGradIdeal.nD Cert.MixerGradIdeal.τ).loc Cert.MixerGradIdeal.main_arg3) = m ((c.tc : Thread Cert.MixerBwdIdeal.nD Cert.MixerBwdIdeal.τ).loc Cert.MixerBwdIdeal.main_arg3)
      ∧ m' ((c.tc : Thread Cert.MixerGradIdeal.nD Cert.MixerGradIdeal.τ).loc Cert.MixerGradIdeal.main_arg4) = m ((c.tc : Thread Cert.MixerBwdIdeal.nD Cert.MixerBwdIdeal.τ).loc Cert.MixerBwdIdeal.main_arg4)) →
    ∃ (v0 : (c : Dev Cert.MixerBwdIdeal.nD) → Buf (Elt Ideal) ((c.tc : Thread Cert.MixerBwdIdeal.nD Cert.MixerBwdIdeal.τ).loc Cert.MixerBwdIdeal.main_v1_0)) (v1 : (c : Dev Cert.MixerBwdIdeal.nD) → Buf (Elt Ideal) ((c.tc : Thread Cert.MixerBwdIdeal.nD Cert.MixerBwdIdeal.τ).loc Cert.MixerBwdIdeal.main_v1_1)) (v2 : (c : Dev Cert.MixerBwdIdeal.nD) → Buf (Elt Ideal) ((c.tc : Thread Cert.MixerBwdIdeal.nD Cert.MixerBwdIdeal.τ).loc Cert.MixerBwdIdeal.main_v1_2)) (v3 : (c : Dev Cert.MixerBwdIdeal.nD) → Buf (Elt Ideal) ((c.tc : Thread Cert.MixerBwdIdeal.nD Cert.MixerBwdIdeal.τ).loc Cert.MixerBwdIdeal.main_v1_3)),
      θ_run (Cert.MixerBwdIdeal.defs (F := Ideal)) (onTc (τ := Cert.MixerBwdIdeal.τ) (Cert.MixerBwdIdeal.main (F := Ideal))) ⟨m, fun _ => 0, g⟩ (fun r => ∀ c : Dev Cert.MixerBwdIdeal.nD,
          r.2.mem ((c.tc : Thread Cert.MixerBwdIdeal.nD Cert.MixerBwdIdeal.τ).loc Cert.MixerBwdIdeal.main_v1_0) = v0 c
          ∧ r.2.mem ((c.tc : Thread Cert.MixerBwdIdeal.nD Cert.MixerBwdIdeal.τ).loc Cert.MixerBwdIdeal.main_v1_1) = v1 c
          ∧ r.2.mem ((c.tc : Thread Cert.MixerBwdIdeal.nD Cert.MixerBwdIdeal.τ).loc Cert.MixerBwdIdeal.main_v1_2) = v2 c
          ∧ r.2.mem ((c.tc : Thread Cert.MixerBwdIdeal.nD Cert.MixerBwdIdeal.τ).loc Cert.MixerBwdIdeal.main_v1_3) = v3 c
          ∧ r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
          ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
          ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
          ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
          ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4))
      ∧ θ_run (Cert.MixerGradIdeal.defs (F := Ideal)) (onTc (τ := Cert.MixerGradIdeal.τ) (Cert.MixerGradIdeal.main (F := Ideal))) ⟨m', fun _ => 0, g'⟩ (fun r => ∀ c : Dev Cert.MixerGradIdeal.nD,
          r.2.mem ((c.tc : Thread Cert.MixerGradIdeal.nD Cert.MixerGradIdeal.τ).loc Cert.MixerGradIdeal.main_v219) = v0 c
          ∧ r.2.mem ((c.tc : Thread Cert.MixerGradIdeal.nD Cert.MixerGradIdeal.τ).loc Cert.MixerGradIdeal.main_v211) = v1 c
          ∧ r.2.mem ((c.tc : Thread Cert.MixerGradIdeal.nD Cert.MixerGradIdeal.τ).loc Cert.MixerGradIdeal.main_v126) = v2 c
          ∧ r.2.mem ((c.tc : Thread Cert.MixerGradIdeal.nD Cert.MixerGradIdeal.τ).loc Cert.MixerGradIdeal.main_v120) = v3 c
          ∧ r.2.mem ((c.tc : Thread Cert.MixerGradIdeal.nD Cert.MixerGradIdeal.τ).loc Cert.MixerGradIdeal.main_arg0) = m' ((c.tc : Thread Cert.MixerGradIdeal.nD Cert.MixerGradIdeal.τ).loc Cert.MixerGradIdeal.main_arg0)
          ∧ r.2.mem ((c.tc : Thread Cert.MixerGradIdeal.nD Cert.MixerGradIdeal.τ).loc Cert.MixerGradIdeal.main_arg1) = m' ((c.tc : Thread Cert.MixerGradIdeal.nD Cert.MixerGradIdeal.τ).loc Cert.MixerGradIdeal.main_arg1)
          ∧ r.2.mem ((c.tc : Thread Cert.MixerGradIdeal.nD Cert.MixerGradIdeal.τ).loc Cert.MixerGradIdeal.main_arg2) = m' ((c.tc : Thread Cert.MixerGradIdeal.nD Cert.MixerGradIdeal.τ).loc Cert.MixerGradIdeal.main_arg2)
          ∧ r.2.mem ((c.tc : Thread Cert.MixerGradIdeal.nD Cert.MixerGradIdeal.τ).loc Cert.MixerGradIdeal.main_arg3) = m' ((c.tc : Thread Cert.MixerGradIdeal.nD Cert.MixerGradIdeal.τ).loc Cert.MixerGradIdeal.main_arg3)
          ∧ r.2.mem ((c.tc : Thread Cert.MixerGradIdeal.nD Cert.MixerGradIdeal.τ).loc Cert.MixerGradIdeal.main_arg4) = m' ((c.tc : Thread Cert.MixerGradIdeal.nD Cert.MixerGradIdeal.τ).loc Cert.MixerGradIdeal.main_arg4))

def preserves_GluBwd_GluBwdIdeal : Prop :=
  True

def algebraic_GluBwdIdeal_GluGradIdeal_pre_finite_glu [hGluBwdIdeal : Cert.GluBwdIdeal.Facts] [hGluGradIdeal : Cert.GluGradIdeal.Facts] [hPre_finite_glu : Cert.Pre_finite_glu.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluGradIdeal.nD Cert.GluGradIdeal.τ Cert.GluGradIdeal.sig) → Buf (Elt Ideal) ℓ) (g' : Dev Cert.GluGradIdeal.nD → PrngReg), Pre_GluBwdIdeal_finite_glu m →
    (∀ c : Dev Cert.GluBwdIdeal.nD,
      m' ((c.tc : Thread Cert.GluGradIdeal.nD Cert.GluGradIdeal.τ).loc Cert.GluGradIdeal.main_arg0) = m ((c.tc : Thread Cert.GluBwdIdeal.nD Cert.GluBwdIdeal.τ).loc Cert.GluBwdIdeal.main_arg0)
      ∧ m' ((c.tc : Thread Cert.GluGradIdeal.nD Cert.GluGradIdeal.τ).loc Cert.GluGradIdeal.main_arg1) = m ((c.tc : Thread Cert.GluBwdIdeal.nD Cert.GluBwdIdeal.τ).loc Cert.GluBwdIdeal.main_arg1)
      ∧ m' ((c.tc : Thread Cert.GluGradIdeal.nD Cert.GluGradIdeal.τ).loc Cert.GluGradIdeal.main_arg2) = m ((c.tc : Thread Cert.GluBwdIdeal.nD Cert.GluBwdIdeal.τ).loc Cert.GluBwdIdeal.main_arg2)
      ∧ m' ((c.tc : Thread Cert.GluGradIdeal.nD Cert.GluGradIdeal.τ).loc Cert.GluGradIdeal.main_arg3) = m ((c.tc : Thread Cert.GluBwdIdeal.nD Cert.GluBwdIdeal.τ).loc Cert.GluBwdIdeal.main_arg3)) →
    ∃ (v0 : (c : Dev Cert.GluBwdIdeal.nD) → Buf (Elt Ideal) ((c.tc : Thread Cert.GluBwdIdeal.nD Cert.GluBwdIdeal.τ).loc Cert.GluBwdIdeal.main_v31_0)) (v1 : (c : Dev Cert.GluBwdIdeal.nD) → Buf (Elt Ideal) ((c.tc : Thread Cert.GluBwdIdeal.nD Cert.GluBwdIdeal.τ).loc Cert.GluBwdIdeal.main_v31_1)) (v2 : (c : Dev Cert.GluBwdIdeal.nD) → Buf (Elt Ideal) ((c.tc : Thread Cert.GluBwdIdeal.nD Cert.GluBwdIdeal.τ).loc Cert.GluBwdIdeal.main_v31_2)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v31_0) = v0 c
          ∧ r.2.mem ((c.tc : Thread Cert.GluBwdIdeal.nD Cert.GluBwdIdeal.τ).loc Cert.GluBwdIdeal.main_v31_1) = v1 c
          ∧ r.2.mem ((c.tc : Thread Cert.GluBwdIdeal.nD Cert.GluBwdIdeal.τ).loc Cert.GluBwdIdeal.main_v31_2) = v2 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
          ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3))
      ∧ θ_run (Cert.GluGradIdeal.defs (F := Ideal)) (onTc (τ := Cert.GluGradIdeal.τ) (Cert.GluGradIdeal.main (F := Ideal))) ⟨m', fun _ => 0, g'⟩ (fun r => ∀ c : Dev Cert.GluGradIdeal.nD,
          r.2.mem ((c.tc : Thread Cert.GluGradIdeal.nD Cert.GluGradIdeal.τ).loc Cert.GluGradIdeal.main_v68) = v0 c
          ∧ r.2.mem ((c.tc : Thread Cert.GluGradIdeal.nD Cert.GluGradIdeal.τ).loc Cert.GluGradIdeal.main_v63) = v1 c
          ∧ r.2.mem ((c.tc : Thread Cert.GluGradIdeal.nD Cert.GluGradIdeal.τ).loc Cert.GluGradIdeal.main_v34) = v2 c
          ∧ r.2.mem ((c.tc : Thread Cert.GluGradIdeal.nD Cert.GluGradIdeal.τ).loc Cert.GluGradIdeal.main_arg0) = m' ((c.tc : Thread Cert.GluGradIdeal.nD Cert.GluGradIdeal.τ).loc Cert.GluGradIdeal.main_arg0)
          ∧ r.2.mem ((c.tc : Thread Cert.GluGradIdeal.nD Cert.GluGradIdeal.τ).loc Cert.GluGradIdeal.main_arg1) = m' ((c.tc : Thread Cert.GluGradIdeal.nD Cert.GluGradIdeal.τ).loc Cert.GluGradIdeal.main_arg1)
          ∧ r.2.mem ((c.tc : Thread Cert.GluGradIdeal.nD Cert.GluGradIdeal.τ).loc Cert.GluGradIdeal.main_arg2) = m' ((c.tc : Thread Cert.GluGradIdeal.nD Cert.GluGradIdeal.τ).loc Cert.GluGradIdeal.main_arg2)
          ∧ r.2.mem ((c.tc : Thread Cert.GluGradIdeal.nD Cert.GluGradIdeal.τ).loc Cert.GluGradIdeal.main_arg3) = m' ((c.tc : Thread Cert.GluGradIdeal.nD Cert.GluGradIdeal.τ).loc Cert.GluGradIdeal.main_arg3))

def preserves_QkNormBwd_QkNormBwdIdeal : Prop :=
  True

def algebraic_QkNormBwdIdeal_QkNormGradIdeal_pre_finite_qknorm [hQkNormBwdIdeal : Cert.QkNormBwdIdeal.Facts] [hQkNormGradIdeal : Cert.QkNormGradIdeal.Facts] [hPre_finite_qknorm : Cert.Pre_finite_qknorm.Facts] : Prop :=
  ∀ (m : (ℓ : Loc Cert.QkNormBwdIdeal.nD Cert.QkNormBwdIdeal.τ Cert.QkNormBwdIdeal.sig) → Buf (Elt Ideal) ℓ) (g : Dev Cert.QkNormBwdIdeal.nD → PrngReg)
    (m' : (ℓ : Loc Cert.QkNormGradIdeal.nD Cert.QkNormGradIdeal.τ Cert.QkNormGradIdeal.sig) → Buf (Elt Ideal) ℓ) (g' : Dev Cert.QkNormGradIdeal.nD → PrngReg), Pre_QkNormBwdIdeal_finite_qknorm m →
    (∀ c : Dev Cert.QkNormBwdIdeal.nD,
      m' ((c.tc : Thread Cert.QkNormGradIdeal.nD Cert.QkNormGradIdeal.τ).loc Cert.QkNormGradIdeal.main_arg0) = m ((c.tc : Thread Cert.QkNormBwdIdeal.nD Cert.QkNormBwdIdeal.τ).loc Cert.QkNormBwdIdeal.main_arg0)
      ∧ m' ((c.tc : Thread Cert.QkNormGradIdeal.nD Cert.QkNormGradIdeal.τ).loc Cert.QkNormGradIdeal.main_arg1) = m ((c.tc : Thread Cert.QkNormBwdIdeal.nD Cert.QkNormBwdIdeal.τ).loc Cert.QkNormBwdIdeal.main_arg1)
      ∧ m' ((c.tc : Thread Cert.QkNormGradIdeal.nD Cert.QkNormGradIdeal.τ).loc Cert.QkNormGradIdeal.main_arg2) = m ((c.tc : Thread Cert.QkNormBwdIdeal.nD Cert.QkNormBwdIdeal.τ).loc Cert.QkNormBwdIdeal.main_arg2)
      ∧ m' ((c.tc : Thread Cert.QkNormGradIdeal.nD Cert.QkNormGradIdeal.τ).loc Cert.QkNormGradIdeal.main_arg3) = m ((c.tc : Thread Cert.QkNormBwdIdeal.nD Cert.QkNormBwdIdeal.τ).loc Cert.QkNormBwdIdeal.main_arg3)
      ∧ m' ((c.tc : Thread Cert.QkNormGradIdeal.nD Cert.QkNormGradIdeal.τ).loc Cert.QkNormGradIdeal.main_arg4) = m ((c.tc : Thread Cert.QkNormBwdIdeal.nD Cert.QkNormBwdIdeal.τ).loc Cert.QkNormBwdIdeal.main_arg4)
      ∧ m' ((c.tc : Thread Cert.QkNormGradIdeal.nD Cert.QkNormGradIdeal.τ).loc Cert.QkNormGradIdeal.main_arg5) = m ((c.tc : Thread Cert.QkNormBwdIdeal.nD Cert.QkNormBwdIdeal.τ).loc Cert.QkNormBwdIdeal.main_arg5)) →
    ∃ (v0 : (c : Dev Cert.QkNormBwdIdeal.nD) → Buf (Elt Ideal) ((c.tc : Thread Cert.QkNormBwdIdeal.nD Cert.QkNormBwdIdeal.τ).loc Cert.QkNormBwdIdeal.main_v25_0)) (v1 : (c : Dev Cert.QkNormBwdIdeal.nD) → Buf (Elt Ideal) ((c.tc : Thread Cert.QkNormBwdIdeal.nD Cert.QkNormBwdIdeal.τ).loc Cert.QkNormBwdIdeal.main_v25_1)),
      θ_run (Cert.QkNormBwdIdeal.defs (F := Ideal)) (onTc (τ := Cert.QkNormBwdIdeal.τ) (Cert.QkNormBwdIdeal.main (F := Ideal))) ⟨m, fun _ => 0, g⟩ (fun r => ∀ c : Dev Cert.QkNormBwdIdeal.nD,
          r.2.mem ((c.tc : Thread Cert.QkNormBwdIdeal.nD Cert.QkNormBwdIdeal.τ).loc Cert.QkNormBwdIdeal.main_v25_0) = v0 c
          ∧ r.2.mem ((c.tc : Thread Cert.QkNormBwdIdeal.nD Cert.QkNormBwdIdeal.τ).loc Cert.QkNormBwdIdeal.main_v25_1) = v1 c
          ∧ r.2.mem ((c.tc : Thread Cert.QkNormBwdIdeal.nD Cert.QkNormBwdIdeal.τ).loc Cert.QkNormBwdIdeal.main_arg0) = m ((c.tc : Thread Cert.QkNormBwdIdeal.nD Cert.QkNormBwdIdeal.τ).loc Cert.QkNormBwdIdeal.main_arg0)
          ∧ r.2.mem ((c.tc : Thread Cert.QkNormBwdIdeal.nD Cert.QkNormBwdIdeal.τ).loc Cert.QkNormBwdIdeal.main_arg1) = m ((c.tc : Thread Cert.QkNormBwdIdeal.nD Cert.QkNormBwdIdeal.τ).loc Cert.QkNormBwdIdeal.main_arg1)
          ∧ r.2.mem ((c.tc : Thread Cert.QkNormBwdIdeal.nD Cert.QkNormBwdIdeal.τ).loc Cert.QkNormBwdIdeal.main_arg2) = m ((c.tc : Thread Cert.QkNormBwdIdeal.nD Cert.QkNormBwdIdeal.τ).loc Cert.QkNormBwdIdeal.main_arg2)
          ∧ r.2.mem ((c.tc : Thread Cert.QkNormBwdIdeal.nD Cert.QkNormBwdIdeal.τ).loc Cert.QkNormBwdIdeal.main_arg3) = m ((c.tc : Thread Cert.QkNormBwdIdeal.nD Cert.QkNormBwdIdeal.τ).loc Cert.QkNormBwdIdeal.main_arg3)
          ∧ r.2.mem ((c.tc : Thread Cert.QkNormBwdIdeal.nD Cert.QkNormBwdIdeal.τ).loc Cert.QkNormBwdIdeal.main_arg4) = m ((c.tc : Thread Cert.QkNormBwdIdeal.nD Cert.QkNormBwdIdeal.τ).loc Cert.QkNormBwdIdeal.main_arg4)
          ∧ r.2.mem ((c.tc : Thread Cert.QkNormBwdIdeal.nD Cert.QkNormBwdIdeal.τ).loc Cert.QkNormBwdIdeal.main_arg5) = m ((c.tc : Thread Cert.QkNormBwdIdeal.nD Cert.QkNormBwdIdeal.τ).loc Cert.QkNormBwdIdeal.main_arg5))
      ∧ θ_run (Cert.QkNormGradIdeal.defs (F := Ideal)) (onTc (τ := Cert.QkNormGradIdeal.τ) (Cert.QkNormGradIdeal.main (F := Ideal))) ⟨m', fun _ => 0, g'⟩ (fun r => ∀ c : Dev Cert.QkNormGradIdeal.nD,
          r.2.mem ((c.tc : Thread Cert.QkNormGradIdeal.nD Cert.QkNormGradIdeal.τ).loc Cert.QkNormGradIdeal.main_v111) = v0 c
          ∧ r.2.mem ((c.tc : Thread Cert.QkNormGradIdeal.nD Cert.QkNormGradIdeal.τ).loc Cert.QkNormGradIdeal.main_v112) = v1 c
          ∧ r.2.mem ((c.tc : Thread Cert.QkNormGradIdeal.nD Cert.QkNormGradIdeal.τ).loc Cert.QkNormGradIdeal.main_arg0) = m' ((c.tc : Thread Cert.QkNormGradIdeal.nD Cert.QkNormGradIdeal.τ).loc Cert.QkNormGradIdeal.main_arg0)
          ∧ r.2.mem ((c.tc : Thread Cert.QkNormGradIdeal.nD Cert.QkNormGradIdeal.τ).loc Cert.QkNormGradIdeal.main_arg1) = m' ((c.tc : Thread Cert.QkNormGradIdeal.nD Cert.QkNormGradIdeal.τ).loc Cert.QkNormGradIdeal.main_arg1)
          ∧ r.2.mem ((c.tc : Thread Cert.QkNormGradIdeal.nD Cert.QkNormGradIdeal.τ).loc Cert.QkNormGradIdeal.main_arg2) = m' ((c.tc : Thread Cert.QkNormGradIdeal.nD Cert.QkNormGradIdeal.τ).loc Cert.QkNormGradIdeal.main_arg2)
          ∧ r.2.mem ((c.tc : Thread Cert.QkNormGradIdeal.nD Cert.QkNormGradIdeal.τ).loc Cert.QkNormGradIdeal.main_arg3) = m' ((c.tc : Thread Cert.QkNormGradIdeal.nD Cert.QkNormGradIdeal.τ).loc Cert.QkNormGradIdeal.main_arg3)
          ∧ r.2.mem ((c.tc : Thread Cert.QkNormGradIdeal.nD Cert.QkNormGradIdeal.τ).loc Cert.QkNormGradIdeal.main_arg4) = m' ((c.tc : Thread Cert.QkNormGradIdeal.nD Cert.QkNormGradIdeal.τ).loc Cert.QkNormGradIdeal.main_arg4)
          ∧ r.2.mem ((c.tc : Thread Cert.QkNormGradIdeal.nD Cert.QkNormGradIdeal.τ).loc Cert.QkNormGradIdeal.main_arg5) = m' ((c.tc : Thread Cert.QkNormGradIdeal.nD Cert.QkNormGradIdeal.τ).loc Cert.QkNormGradIdeal.main_arg5))

def preserves_LossBwd_LossBwdIdeal : Prop :=
  True

def algebraic_LossBwdIdeal_LossGradIdeal [hLossBwdIdeal : Cert.LossBwdIdeal.Facts] [hLossGradIdeal : Cert.LossGradIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossGradIdeal.nD Cert.LossGradIdeal.τ Cert.LossGradIdeal.sig) → Buf (Elt Ideal) ℓ) (g' : Dev Cert.LossGradIdeal.nD → PrngReg), Pre_LossBwdIdeal m →
    (∀ c : Dev Cert.LossBwdIdeal.nD,
      m' ((c.tc : Thread Cert.LossGradIdeal.nD Cert.LossGradIdeal.τ).loc Cert.LossGradIdeal.main_arg0) = m ((c.tc : Thread Cert.LossBwdIdeal.nD Cert.LossBwdIdeal.τ).loc Cert.LossBwdIdeal.main_arg0)
      ∧ m' ((c.tc : Thread Cert.LossGradIdeal.nD Cert.LossGradIdeal.τ).loc Cert.LossGradIdeal.main_arg1) = m ((c.tc : Thread Cert.LossBwdIdeal.nD Cert.LossBwdIdeal.τ).loc Cert.LossBwdIdeal.main_arg1)
      ∧ m' ((c.tc : Thread Cert.LossGradIdeal.nD Cert.LossGradIdeal.τ).loc Cert.LossGradIdeal.main_arg2) = m ((c.tc : Thread Cert.LossBwdIdeal.nD Cert.LossBwdIdeal.τ).loc Cert.LossBwdIdeal.main_arg2)
      ∧ m' ((c.tc : Thread Cert.LossGradIdeal.nD Cert.LossGradIdeal.τ).loc Cert.LossGradIdeal.main_arg3) = m ((c.tc : Thread Cert.LossBwdIdeal.nD Cert.LossBwdIdeal.τ).loc Cert.LossBwdIdeal.main_arg3)) →
    ∃ (v0 : (c : Dev Cert.LossBwdIdeal.nD) → Buf (Elt Ideal) ((c.tc : Thread Cert.LossBwdIdeal.nD Cert.LossBwdIdeal.τ).loc Cert.LossBwdIdeal.main_v3_0)) (v1 : (c : Dev Cert.LossBwdIdeal.nD) → Buf (Elt Ideal) ((c.tc : Thread Cert.LossBwdIdeal.nD Cert.LossBwdIdeal.τ).loc Cert.LossBwdIdeal.main_v3_1)) (v2 : (c : Dev Cert.LossBwdIdeal.nD) → Buf (Elt Ideal) ((c.tc : Thread Cert.LossBwdIdeal.nD Cert.LossBwdIdeal.τ).loc Cert.LossBwdIdeal.main_v3_2)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v3_0) = v0 c
          ∧ r.2.mem ((c.tc : Thread Cert.LossBwdIdeal.nD Cert.LossBwdIdeal.τ).loc Cert.LossBwdIdeal.main_v3_1) = v1 c
          ∧ r.2.mem ((c.tc : Thread Cert.LossBwdIdeal.nD Cert.LossBwdIdeal.τ).loc Cert.LossBwdIdeal.main_v3_2) = v2 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3))
      ∧ θ_run (Cert.LossGradIdeal.defs (F := Ideal)) (onTc (τ := Cert.LossGradIdeal.τ) (Cert.LossGradIdeal.main (F := Ideal))) ⟨m', fun _ => 0, g'⟩ (fun r => ∀ c : Dev Cert.LossGradIdeal.nD,
          r.2.mem ((c.tc : Thread Cert.LossGradIdeal.nD Cert.LossGradIdeal.τ).loc Cert.LossGradIdeal.main_v16) = v0 c
          ∧ r.2.mem ((c.tc : Thread Cert.LossGradIdeal.nD Cert.LossGradIdeal.τ).loc Cert.LossGradIdeal.main_v17) = v1 c
          ∧ r.2.mem ((c.tc : Thread Cert.LossGradIdeal.nD Cert.LossGradIdeal.τ).loc Cert.LossGradIdeal.main_v21) = v2 c
          ∧ r.2.mem ((c.tc : Thread Cert.LossGradIdeal.nD Cert.LossGradIdeal.τ).loc Cert.LossGradIdeal.main_arg0) = m' ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m' ((c.tc : Thread Cert.LossGradIdeal.nD Cert.LossGradIdeal.τ).loc Cert.LossGradIdeal.main_arg1)
          ∧ r.2.mem ((c.tc : Thread Cert.LossGradIdeal.nD Cert.LossGradIdeal.τ).loc Cert.LossGradIdeal.main_arg2) = m' ((c.tc : Thread Cert.LossGradIdeal.nD Cert.LossGradIdeal.τ).loc Cert.LossGradIdeal.main_arg2)
          ∧ r.2.mem ((c.tc : Thread Cert.LossGradIdeal.nD Cert.LossGradIdeal.τ).loc Cert.LossGradIdeal.main_arg3) = m' ((c.tc : Thread Cert.LossGradIdeal.nD Cert.LossGradIdeal.τ).loc Cert.LossGradIdeal.main_arg3))

def preserves_BiasBwd_BiasBwdIdeal : Prop :=
  True

def algebraic_BiasBwdIdeal_BiasGradIdeal_pre_finite_bias [hBiasBwdIdeal : Cert.BiasBwdIdeal.Facts] [hBiasGradIdeal : Cert.BiasGradIdeal.Facts] [hPre_finite_bias : Cert.Pre_finite_bias.Facts] : Prop :=
  ∀ (m : (ℓ : Loc Cert.BiasBwdIdeal.nD Cert.BiasBwdIdeal.τ Cert.BiasBwdIdeal.sig) → Buf (Elt Ideal) ℓ) (g : Dev Cert.BiasBwdIdeal.nD → PrngReg)
    (m' : (ℓ : Loc Cert.BiasGradIdeal.nD Cert.BiasGradIdeal.τ Cert.BiasGradIdeal.sig) → Buf (Elt Ideal) ℓ) (g' : Dev Cert.BiasGradIdeal.nD → PrngReg), Pre_BiasBwdIdeal_finite_bias m →
    (∀ c : Dev Cert.BiasBwdIdeal.nD,
      m' ((c.tc : Thread Cert.BiasGradIdeal.nD Cert.BiasGradIdeal.τ).loc Cert.BiasGradIdeal.main_arg0) = m ((c.tc : Thread Cert.BiasBwdIdeal.nD Cert.BiasBwdIdeal.τ).loc Cert.BiasBwdIdeal.main_arg0)
      ∧ m' ((c.tc : Thread Cert.BiasGradIdeal.nD Cert.BiasGradIdeal.τ).loc Cert.BiasGradIdeal.main_arg1) = m ((c.tc : Thread Cert.BiasBwdIdeal.nD Cert.BiasBwdIdeal.τ).loc Cert.BiasBwdIdeal.main_arg1)
      ∧ m' ((c.tc : Thread Cert.BiasGradIdeal.nD Cert.BiasGradIdeal.τ).loc Cert.BiasGradIdeal.main_arg2) = m ((c.tc : Thread Cert.BiasBwdIdeal.nD Cert.BiasBwdIdeal.τ).loc Cert.BiasBwdIdeal.main_arg2)) →
    ∃ (v0 : (c : Dev Cert.BiasBwdIdeal.nD) → Buf (Elt Ideal) ((c.tc : Thread Cert.BiasBwdIdeal.nD Cert.BiasBwdIdeal.τ).loc Cert.BiasBwdIdeal.main_v1)),
      θ_run (Cert.BiasBwdIdeal.defs (F := Ideal)) (onTc (τ := Cert.BiasBwdIdeal.τ) (Cert.BiasBwdIdeal.main (F := Ideal))) ⟨m, fun _ => 0, g⟩ (fun r => ∀ c : Dev Cert.BiasBwdIdeal.nD,
          r.2.mem ((c.tc : Thread Cert.BiasBwdIdeal.nD Cert.BiasBwdIdeal.τ).loc Cert.BiasBwdIdeal.main_v1) = v0 c
          ∧ r.2.mem ((c.tc : Thread Cert.BiasBwdIdeal.nD Cert.BiasBwdIdeal.τ).loc Cert.BiasBwdIdeal.main_arg0) = m ((c.tc : Thread Cert.BiasBwdIdeal.nD Cert.BiasBwdIdeal.τ).loc Cert.BiasBwdIdeal.main_arg0)
          ∧ r.2.mem ((c.tc : Thread Cert.BiasBwdIdeal.nD Cert.BiasBwdIdeal.τ).loc Cert.BiasBwdIdeal.main_arg1) = m ((c.tc : Thread Cert.BiasBwdIdeal.nD Cert.BiasBwdIdeal.τ).loc Cert.BiasBwdIdeal.main_arg1)
          ∧ r.2.mem ((c.tc : Thread Cert.BiasBwdIdeal.nD Cert.BiasBwdIdeal.τ).loc Cert.BiasBwdIdeal.main_arg2) = m ((c.tc : Thread Cert.BiasBwdIdeal.nD Cert.BiasBwdIdeal.τ).loc Cert.BiasBwdIdeal.main_arg2))
      ∧ θ_run (Cert.BiasGradIdeal.defs (F := Ideal)) (onTc (τ := Cert.BiasGradIdeal.τ) (Cert.BiasGradIdeal.main (F := Ideal))) ⟨m', fun _ => 0, g'⟩ (fun r => ∀ c : Dev Cert.BiasGradIdeal.nD,
          r.2.mem ((c.tc : Thread Cert.BiasGradIdeal.nD Cert.BiasGradIdeal.τ).loc Cert.BiasGradIdeal.main_v51) = v0 c
          ∧ r.2.mem ((c.tc : Thread Cert.BiasGradIdeal.nD Cert.BiasGradIdeal.τ).loc Cert.BiasGradIdeal.main_arg0) = m' ((c.tc : Thread Cert.BiasGradIdeal.nD Cert.BiasGradIdeal.τ).loc Cert.BiasGradIdeal.main_arg0)
          ∧ r.2.mem ((c.tc : Thread Cert.BiasGradIdeal.nD Cert.BiasGradIdeal.τ).loc Cert.BiasGradIdeal.main_arg1) = m' ((c.tc : Thread Cert.BiasGradIdeal.nD Cert.BiasGradIdeal.τ).loc Cert.BiasGradIdeal.main_arg1)
          ∧ r.2.mem ((c.tc : Thread Cert.BiasGradIdeal.nD Cert.BiasGradIdeal.τ).loc Cert.BiasGradIdeal.main_arg2) = m' ((c.tc : Thread Cert.BiasGradIdeal.nD Cert.BiasGradIdeal.τ).loc Cert.BiasGradIdeal.main_arg2))

def preserves_NormFwd_NormFwdIdeal : Prop :=
  True

def algebraic_NormFwdIdeal_NormPlainIdeal [hNormFwdIdeal : Cert.NormFwdIdeal.Facts] [hNormPlainIdeal : Cert.NormPlainIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormPlainIdeal.nD Cert.NormPlainIdeal.τ Cert.NormPlainIdeal.sig) → Buf (Elt Ideal) ℓ) (g' : Dev Cert.NormPlainIdeal.nD → PrngReg), Pre_NormFwdIdeal m →
    (∀ c : Dev Cert.NormFwdIdeal.nD,
      m' ((c.tc : Thread Cert.NormPlainIdeal.nD Cert.NormPlainIdeal.τ).loc Cert.NormPlainIdeal.main_arg0) = m ((c.tc : Thread Cert.NormFwdIdeal.nD Cert.NormFwdIdeal.τ).loc Cert.NormFwdIdeal.main_arg0)
      ∧ m' ((c.tc : Thread Cert.NormPlainIdeal.nD Cert.NormPlainIdeal.τ).loc Cert.NormPlainIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormPlainIdeal.defs (F := Ideal)) (onTc (τ := Cert.NormPlainIdeal.τ) (Cert.NormPlainIdeal.main (F := Ideal))) ⟨m', fun _ => 0, g'⟩ (fun r => ∀ c : Dev Cert.NormPlainIdeal.nD,
          r.2.mem ((c.tc : Thread Cert.NormPlainIdeal.nD Cert.NormPlainIdeal.τ).loc Cert.NormPlainIdeal.main_v14) = v0 c
          ∧ r.2.mem ((c.tc : Thread Cert.NormPlainIdeal.nD Cert.NormPlainIdeal.τ).loc Cert.NormPlainIdeal.main_arg0) = m' ((c.tc : Thread Cert.NormPlainIdeal.nD Cert.NormPlainIdeal.τ).loc Cert.NormPlainIdeal.main_arg0)
          ∧ r.2.mem ((c.tc : Thread Cert.NormPlainIdeal.nD Cert.NormPlainIdeal.τ).loc Cert.NormPlainIdeal.main_arg1) = m' ((c.tc : Thread Cert.NormPlainIdeal.nD Cert.NormPlainIdeal.τ).loc Cert.NormPlainIdeal.main_arg1))

def preserves_ResNormFwd_ResNormFwdIdeal : Prop :=
  True

def algebraic_ResNormFwdIdeal_ResNormPlainIdeal [hResNormFwdIdeal : Cert.ResNormFwdIdeal.Facts] [hResNormPlainIdeal : Cert.ResNormPlainIdeal.Facts] : Prop :=
  ∀ (m : (ℓ : Loc Cert.ResNormFwdIdeal.nD Cert.ResNormFwdIdeal.τ Cert.ResNormFwdIdeal.sig) → Buf (Elt Ideal) ℓ) (g : Dev Cert.ResNormFwdIdeal.nD → PrngReg)
    (m' : (ℓ : Loc Cert.ResNormPlainIdeal.nD Cert.ResNormPlainIdeal.τ Cert.ResNormPlainIdeal.sig) → Buf (Elt Ideal) ℓ) (g' : Dev Cert.ResNormPlainIdeal.nD → PrngReg), Pre_ResNormFwdIdeal m →
    (∀ c : Dev Cert.ResNormFwdIdeal.nD,
      m' ((c.tc : Thread Cert.ResNormPlainIdeal.nD Cert.ResNormPlainIdeal.τ).loc Cert.ResNormPlainIdeal.main_arg0) = m ((c.tc : Thread Cert.ResNormFwdIdeal.nD Cert.ResNormFwdIdeal.τ).loc Cert.ResNormFwdIdeal.main_arg0)
      ∧ m' ((c.tc : Thread Cert.ResNormPlainIdeal.nD Cert.ResNormPlainIdeal.τ).loc Cert.ResNormPlainIdeal.main_arg1) = m ((c.tc : Thread Cert.ResNormFwdIdeal.nD Cert.ResNormFwdIdeal.τ).loc Cert.ResNormFwdIdeal.main_arg1)
      ∧ m' ((c.tc : Thread Cert.ResNormPlainIdeal.nD Cert.ResNormPlainIdeal.τ).loc Cert.ResNormPlainIdeal.main_arg2) = m ((c.tc : Thread Cert.ResNormFwdIdeal.nD Cert.ResNormFwdIdeal.τ).loc Cert.ResNormFwdIdeal.main_arg2)
      ∧ m' ((c.tc : Thread Cert.ResNormPlainIdeal.nD Cert.ResNormPlainIdeal.τ).loc Cert.ResNormPlainIdeal.main_arg3) = m ((c.tc : Thread Cert.ResNormFwdIdeal.nD Cert.ResNormFwdIdeal.τ).loc Cert.ResNormFwdIdeal.main_arg3)) →
    ∃ (v0 : (c : Dev Cert.ResNormFwdIdeal.nD) → Buf (Elt Ideal) ((c.tc : Thread Cert.ResNormFwdIdeal.nD Cert.ResNormFwdIdeal.τ).loc Cert.ResNormFwdIdeal.main_v3_0)) (v1 : (c : Dev Cert.ResNormFwdIdeal.nD) → Buf (Elt Ideal) ((c.tc : Thread Cert.ResNormFwdIdeal.nD Cert.ResNormFwdIdeal.τ).loc Cert.ResNormFwdIdeal.main_v3_1)),
      θ_run (Cert.ResNormFwdIdeal.defs (F := Ideal)) (onTc (τ := Cert.ResNormFwdIdeal.τ) (Cert.ResNormFwdIdeal.main (F := Ideal))) ⟨m, fun _ => 0, g⟩ (fun r => ∀ c : Dev Cert.ResNormFwdIdeal.nD,
          r.2.mem ((c.tc : Thread Cert.ResNormFwdIdeal.nD Cert.ResNormFwdIdeal.τ).loc Cert.ResNormFwdIdeal.main_v3_0) = v0 c
          ∧ r.2.mem ((c.tc : Thread Cert.ResNormFwdIdeal.nD Cert.ResNormFwdIdeal.τ).loc Cert.ResNormFwdIdeal.main_v3_1) = v1 c
          ∧ r.2.mem ((c.tc : Thread Cert.ResNormFwdIdeal.nD Cert.ResNormFwdIdeal.τ).loc Cert.ResNormFwdIdeal.main_arg0) = m ((c.tc : Thread Cert.ResNormFwdIdeal.nD Cert.ResNormFwdIdeal.τ).loc Cert.ResNormFwdIdeal.main_arg0)
          ∧ r.2.mem ((c.tc : Thread Cert.ResNormFwdIdeal.nD Cert.ResNormFwdIdeal.τ).loc Cert.ResNormFwdIdeal.main_arg1) = m ((c.tc : Thread Cert.ResNormFwdIdeal.nD Cert.ResNormFwdIdeal.τ).loc Cert.ResNormFwdIdeal.main_arg1)
          ∧ r.2.mem ((c.tc : Thread Cert.ResNormFwdIdeal.nD Cert.ResNormFwdIdeal.τ).loc Cert.ResNormFwdIdeal.main_arg2) = m ((c.tc : Thread Cert.ResNormFwdIdeal.nD Cert.ResNormFwdIdeal.τ).loc Cert.ResNormFwdIdeal.main_arg2)
          ∧ r.2.mem ((c.tc : Thread Cert.ResNormFwdIdeal.nD Cert.ResNormFwdIdeal.τ).loc Cert.ResNormFwdIdeal.main_arg3) = m ((c.tc : Thread Cert.ResNormFwdIdeal.nD Cert.ResNormFwdIdeal.τ).loc Cert.ResNormFwdIdeal.main_arg3))
      ∧ θ_run (Cert.ResNormPlainIdeal.defs (F := Ideal)) (onTc (τ := Cert.ResNormPlainIdeal.τ) (Cert.ResNormPlainIdeal.main (F := Ideal))) ⟨m', fun _ => 0, g'⟩ (fun r => ∀ c : Dev Cert.ResNormPlainIdeal.nD,
          r.2.mem ((c.tc : Thread Cert.ResNormPlainIdeal.nD Cert.ResNormPlainIdeal.τ).loc Cert.ResNormPlainIdeal.main_v1) = v0 c
          ∧ r.2.mem ((c.tc : Thread Cert.ResNormPlainIdeal.nD Cert.ResNormPlainIdeal.τ).loc Cert.ResNormPlainIdeal.main_v16) = v1 c
          ∧ r.2.mem ((c.tc : Thread Cert.ResNormPlainIdeal.nD Cert.ResNormPlainIdeal.τ).loc Cert.ResNormPlainIdeal.main_arg0) = m' ((c.tc : Thread Cert.ResNormPlainIdeal.nD Cert.ResNormPlainIdeal.τ).loc Cert.ResNormPlainIdeal.main_arg0)
          ∧ r.2.mem ((c.tc : Thread Cert.ResNormPlainIdeal.nD Cert.ResNormPlainIdeal.τ).loc Cert.ResNormPlainIdeal.main_arg1) = m' ((c.tc : Thread Cert.ResNormPlainIdeal.nD Cert.ResNormPlainIdeal.τ).loc Cert.ResNormPlainIdeal.main_arg1)
          ∧ r.2.mem ((c.tc : Thread Cert.ResNormPlainIdeal.nD Cert.ResNormPlainIdeal.τ).loc Cert.ResNormPlainIdeal.main_arg2) = m' ((c.tc : Thread Cert.ResNormPlainIdeal.nD Cert.ResNormPlainIdeal.τ).loc Cert.ResNormPlainIdeal.main_arg2)
          ∧ r.2.mem ((c.tc : Thread Cert.ResNormPlainIdeal.nD Cert.ResNormPlainIdeal.τ).loc Cert.ResNormPlainIdeal.main_arg3) = m' ((c.tc : Thread Cert.ResNormPlainIdeal.nD Cert.ResNormPlainIdeal.τ).loc Cert.ResNormPlainIdeal.main_arg3))

def preserves_GluFwd_GluFwdIdeal : Prop :=
  True

def algebraic_GluFwdIdeal_GluPlainIdeal [hGluFwdIdeal : Cert.GluFwdIdeal.Facts] [hGluPlainIdeal : Cert.GluPlainIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluPlainIdeal.nD Cert.GluPlainIdeal.τ Cert.GluPlainIdeal.sig) → Buf (Elt Ideal) ℓ) (g' : Dev Cert.GluPlainIdeal.nD → PrngReg), Pre_GluFwdIdeal m →
    (∀ c : Dev Cert.GluFwdIdeal.nD,
      m' ((c.tc : Thread Cert.GluPlainIdeal.nD Cert.GluPlainIdeal.τ).loc Cert.GluPlainIdeal.main_arg0) = m ((c.tc : Thread Cert.GluFwdIdeal.nD Cert.GluFwdIdeal.τ).loc Cert.GluFwdIdeal.main_arg0)
      ∧ m' ((c.tc : Thread Cert.GluPlainIdeal.nD Cert.GluPlainIdeal.τ).loc Cert.GluPlainIdeal.main_arg1) = m ((c.tc : Thread Cert.GluFwdIdeal.nD Cert.GluFwdIdeal.τ).loc Cert.GluFwdIdeal.main_arg1)
      ∧ m' ((c.tc : Thread Cert.GluPlainIdeal.nD Cert.GluPlainIdeal.τ).loc Cert.GluPlainIdeal.main_arg2) = m ((c.tc : Thread Cert.GluFwdIdeal.nD Cert.GluFwdIdeal.τ).loc Cert.GluFwdIdeal.main_arg2)
      ∧ m' ((c.tc : Thread Cert.GluPlainIdeal.nD Cert.GluPlainIdeal.τ).loc Cert.GluPlainIdeal.main_arg3) = m ((c.tc : Thread Cert.GluFwdIdeal.nD Cert.GluFwdIdeal.τ).loc Cert.GluFwdIdeal.main_arg3)) →
    ∃ (v0 : (c : Dev Cert.GluFwdIdeal.nD) → Buf (Elt Ideal) ((c.tc : Thread Cert.GluFwdIdeal.nD Cert.GluFwdIdeal.τ).loc Cert.GluFwdIdeal.main_v5_0)) (v1 : (c : Dev Cert.GluFwdIdeal.nD) → Buf (Elt Ideal) ((c.tc : Thread Cert.GluFwdIdeal.nD Cert.GluFwdIdeal.τ).loc Cert.GluFwdIdeal.main_v5_1)) (v2 : (c : Dev Cert.GluFwdIdeal.nD) → Buf (Elt Ideal) ((c.tc : Thread Cert.GluFwdIdeal.nD Cert.GluFwdIdeal.τ).loc Cert.GluFwdIdeal.main_v5_2)) (v3 : (c : Dev Cert.GluFwdIdeal.nD) → Buf (Elt Ideal) ((c.tc : Thread Cert.GluFwdIdeal.nD Cert.GluFwdIdeal.τ).loc Cert.GluFwdIdeal.main_v5_3)) (v4 : (c : Dev Cert.GluFwdIdeal.nD) → Buf (Elt Ideal) ((c.tc : Thread Cert.GluFwdIdeal.nD Cert.GluFwdIdeal.τ).loc Cert.GluFwdIdeal.main_v5_4)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v5_0) = v0 c
          ∧ r.2.mem ((c.tc : Thread Cert.GluFwdIdeal.nD Cert.GluFwdIdeal.τ).loc Cert.GluFwdIdeal.main_v5_1) = v1 c
          ∧ r.2.mem ((c.tc : Thread Cert.GluFwdIdeal.nD Cert.GluFwdIdeal.τ).loc Cert.GluFwdIdeal.main_v5_2) = v2 c
          ∧ r.2.mem ((c.tc : Thread Cert.GluFwdIdeal.nD Cert.GluFwdIdeal.τ).loc Cert.GluFwdIdeal.main_v5_3) = v3 c
          ∧ r.2.mem ((c.tc : Thread Cert.GluFwdIdeal.nD Cert.GluFwdIdeal.τ).loc Cert.GluFwdIdeal.main_v5_4) = v4 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
          ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3))
      ∧ θ_run (Cert.GluPlainIdeal.defs (F := Ideal)) (onTc (τ := Cert.GluPlainIdeal.τ) (Cert.GluPlainIdeal.main (F := Ideal))) ⟨m', fun _ => 0, g'⟩ (fun r => ∀ c : Dev Cert.GluPlainIdeal.nD,
          r.2.mem ((c.tc : Thread Cert.GluPlainIdeal.nD Cert.GluPlainIdeal.τ).loc Cert.GluPlainIdeal.main_v31) = v0 c
          ∧ r.2.mem ((c.tc : Thread Cert.GluPlainIdeal.nD Cert.GluPlainIdeal.τ).loc Cert.GluPlainIdeal.main_v32) = v1 c
          ∧ r.2.mem ((c.tc : Thread Cert.GluPlainIdeal.nD Cert.GluPlainIdeal.τ).loc Cert.GluPlainIdeal.main_v33) = v2 c
          ∧ r.2.mem ((c.tc : Thread Cert.GluPlainIdeal.nD Cert.GluPlainIdeal.τ).loc Cert.GluPlainIdeal.main_v34) = v3 c
          ∧ r.2.mem ((c.tc : Thread Cert.GluPlainIdeal.nD Cert.GluPlainIdeal.τ).loc Cert.GluPlainIdeal.main_v35) = v4 c
          ∧ r.2.mem ((c.tc : Thread Cert.GluPlainIdeal.nD Cert.GluPlainIdeal.τ).loc Cert.GluPlainIdeal.main_arg0) = m' ((c.tc : Thread Cert.GluPlainIdeal.nD Cert.GluPlainIdeal.τ).loc Cert.GluPlainIdeal.main_arg0)
          ∧ r.2.mem ((c.tc : Thread Cert.GluPlainIdeal.nD Cert.GluPlainIdeal.τ).loc Cert.GluPlainIdeal.main_arg1) = m' ((c.tc : Thread Cert.GluPlainIdeal.nD Cert.GluPlainIdeal.τ).loc Cert.GluPlainIdeal.main_arg1)
          ∧ r.2.mem ((c.tc : Thread Cert.GluPlainIdeal.nD Cert.GluPlainIdeal.τ).loc Cert.GluPlainIdeal.main_arg2) = m' ((c.tc : Thread Cert.GluPlainIdeal.nD Cert.GluPlainIdeal.τ).loc Cert.GluPlainIdeal.main_arg2)
          ∧ r.2.mem ((c.tc : Thread Cert.GluPlainIdeal.nD Cert.GluPlainIdeal.τ).loc Cert.GluPlainIdeal.main_arg3) = m' ((c.tc : Thread Cert.GluPlainIdeal.nD Cert.GluPlainIdeal.τ).loc Cert.GluPlainIdeal.main_arg3))

def preserves_QkvFwd_QkvFwdIdeal : Prop :=
  True

def algebraic_QkvFwdIdeal_QkvPlainIdeal [hQkvFwdIdeal : Cert.QkvFwdIdeal.Facts] [hQkvPlainIdeal : Cert.QkvPlainIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg)
    (m' : (ℓ : Loc Cert.QkvPlainIdeal.nD Cert.QkvPlainIdeal.τ Cert.QkvPlainIdeal.sig) → Buf (Elt Ideal) ℓ) (g' : Dev Cert.QkvPlainIdeal.nD → PrngReg), Pre_QkvFwdIdeal m →
    (∀ c : Dev Cert.QkvFwdIdeal.nD,
      m' ((c.tc : Thread Cert.QkvPlainIdeal.nD Cert.QkvPlainIdeal.τ).loc Cert.QkvPlainIdeal.main_arg0) = m ((c.tc : Thread Cert.QkvFwdIdeal.nD Cert.QkvFwdIdeal.τ).loc Cert.QkvFwdIdeal.main_arg0)
      ∧ m' ((c.tc : Thread Cert.QkvPlainIdeal.nD Cert.QkvPlainIdeal.τ).loc Cert.QkvPlainIdeal.main_arg1) = m ((c.tc : Thread Cert.QkvFwdIdeal.nD Cert.QkvFwdIdeal.τ).loc Cert.QkvFwdIdeal.main_arg1)
      ∧ m' ((c.tc : Thread Cert.QkvPlainIdeal.nD Cert.QkvPlainIdeal.τ).loc Cert.QkvPlainIdeal.main_arg2) = m ((c.tc : Thread Cert.QkvFwdIdeal.nD Cert.QkvFwdIdeal.τ).loc Cert.QkvFwdIdeal.main_arg2)
      ∧ m' ((c.tc : Thread Cert.QkvPlainIdeal.nD Cert.QkvPlainIdeal.τ).loc Cert.QkvPlainIdeal.main_arg3) = m ((c.tc : Thread Cert.QkvFwdIdeal.nD Cert.QkvFwdIdeal.τ).loc Cert.QkvFwdIdeal.main_arg3)) →
    ∃ (v0 : (c : Dev Cert.QkvFwdIdeal.nD) → Buf (Elt Ideal) ((c.tc : Thread Cert.QkvFwdIdeal.nD Cert.QkvFwdIdeal.τ).loc Cert.QkvFwdIdeal.main_v31_0)) (v1 : (c : Dev Cert.QkvFwdIdeal.nD) → Buf (Elt Ideal) ((c.tc : Thread Cert.QkvFwdIdeal.nD Cert.QkvFwdIdeal.τ).loc Cert.QkvFwdIdeal.main_v31_1)),
      θ_run (Cert.QkvFwdIdeal.defs (F := Ideal)) (onTc (τ := Cert.QkvFwdIdeal.τ) (Cert.QkvFwdIdeal.main (F := Ideal))) ⟨m, fun _ => 0, g⟩ (fun r => ∀ c : Dev Cert.QkvFwdIdeal.nD,
          r.2.mem ((c.tc : Thread Cert.QkvFwdIdeal.nD Cert.QkvFwdIdeal.τ).loc Cert.QkvFwdIdeal.main_v31_0) = v0 c
          ∧ r.2.mem ((c.tc : Thread Cert.QkvFwdIdeal.nD Cert.QkvFwdIdeal.τ).loc Cert.QkvFwdIdeal.main_v31_1) = v1 c
          ∧ r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
          ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1)
          ∧ r.2.mem ((c.tc : Thread Cert.QkvFwdIdeal.nD Cert.QkvFwdIdeal.τ).loc Cert.QkvFwdIdeal.main_arg2) = m ((c.tc : Thread Cert.QkvFwdIdeal.nD Cert.QkvFwdIdeal.τ).loc Cert.QkvFwdIdeal.main_arg2)
          ∧ r.2.mem ((c.tc : Thread Cert.QkvFwdIdeal.nD Cert.QkvFwdIdeal.τ).loc Cert.QkvFwdIdeal.main_arg3) = m ((c.tc : Thread Cert.QkvFwdIdeal.nD Cert.QkvFwdIdeal.τ).loc Cert.QkvFwdIdeal.main_arg3))
      ∧ θ_run (Cert.QkvPlainIdeal.defs (F := Ideal)) (onTc (τ := Cert.QkvPlainIdeal.τ) (Cert.QkvPlainIdeal.main (F := Ideal))) ⟨m', fun _ => 0, g'⟩ (fun r => ∀ c : Dev Cert.QkvPlainIdeal.nD,
          r.2.mem ((c.tc : Thread Cert.QkvPlainIdeal.nD Cert.QkvPlainIdeal.τ).loc Cert.QkvPlainIdeal.main_v0) = v0 c
          ∧ r.2.mem ((c.tc : Thread Cert.QkvPlainIdeal.nD Cert.QkvPlainIdeal.τ).loc Cert.QkvPlainIdeal.main_v41) = v1 c
          ∧ r.2.mem ((c.tc : Thread Cert.QkvPlainIdeal.nD Cert.QkvPlainIdeal.τ).loc Cert.QkvPlainIdeal.main_arg0) = m' ((c.tc : Thread Cert.QkvPlainIdeal.nD Cert.QkvPlainIdeal.τ).loc Cert.QkvPlainIdeal.main_arg0)
          ∧ r.2.mem ((c.tc : Thread Cert.QkvPlainIdeal.nD Cert.QkvPlainIdeal.τ).loc Cert.QkvPlainIdeal.main_arg1) = m' ((c.tc : Thread Cert.QkvPlainIdeal.nD Cert.QkvPlainIdeal.τ).loc Cert.QkvPlainIdeal.main_arg1)
          ∧ r.2.mem ((c.tc : Thread Cert.QkvPlainIdeal.nD Cert.QkvPlainIdeal.τ).loc Cert.QkvPlainIdeal.main_arg2) = m' ((c.tc : Thread Cert.QkvPlainIdeal.nD Cert.QkvPlainIdeal.τ).loc Cert.QkvPlainIdeal.main_arg2)
          ∧ r.2.mem ((c.tc : Thread Cert.QkvPlainIdeal.nD Cert.QkvPlainIdeal.τ).loc Cert.QkvPlainIdeal.main_arg3) = m' ((c.tc : Thread Cert.QkvPlainIdeal.nD Cert.QkvPlainIdeal.τ).loc Cert.QkvPlainIdeal.main_arg3))

def preserves_BiasFwd_BiasFwdIdeal : Prop :=
  True

def algebraic_BiasFwdIdeal_BiasPlainIdeal_pre_finite_table [hBiasFwdIdeal : Cert.BiasFwdIdeal.Facts] [hBiasPlainIdeal : Cert.BiasPlainIdeal.Facts] [hPre_finite_table : Cert.Pre_finite_table.Facts] : Prop :=
  ∀ (m : (ℓ : Loc Cert.BiasFwdIdeal.nD Cert.BiasFwdIdeal.τ Cert.BiasFwdIdeal.sig) → Buf (Elt Ideal) ℓ) (g : Dev Cert.BiasFwdIdeal.nD → PrngReg)
    (m' : (ℓ : Loc Cert.BiasPlainIdeal.nD Cert.BiasPlainIdeal.τ Cert.BiasPlainIdeal.sig) → Buf (Elt Ideal) ℓ) (g' : Dev Cert.BiasPlainIdeal.nD → PrngReg), Pre_BiasFwdIdeal_finite_table m →
    (∀ c : Dev Cert.BiasFwdIdeal.nD,
      m' ((c.tc : Thread Cert.BiasPlainIdeal.nD Cert.BiasPlainIdeal.τ).loc Cert.BiasPlainIdeal.main_arg0) = m ((c.tc : Thread Cert.BiasFwdIdeal.nD Cert.BiasFwdIdeal.τ).loc Cert.BiasFwdIdeal.main_arg0)
      ∧ m' ((c.tc : Thread Cert.BiasPlainIdeal.nD Cert.BiasPlainIdeal.τ).loc Cert.BiasPlainIdeal.main_arg1) = m ((c.tc : Thread Cert.BiasFwdIdeal.nD Cert.BiasFwdIdeal.τ).loc Cert.BiasFwdIdeal.main_arg1)
      ∧ m' ((c.tc : Thread Cert.BiasPlainIdeal.nD Cert.BiasPlainIdeal.τ).loc Cert.BiasPlainIdeal.main_arg2) = m ((c.tc : Thread Cert.BiasFwdIdeal.nD Cert.BiasFwdIdeal.τ).loc Cert.BiasFwdIdeal.main_arg2)) →
    ∃ (v0 : (c : Dev Cert.BiasFwdIdeal.nD) → Buf (Elt Ideal) ((c.tc : Thread Cert.BiasFwdIdeal.nD Cert.BiasFwdIdeal.τ).loc Cert.BiasFwdIdeal.main_v3)),
      θ_run (Cert.BiasFwdIdeal.defs (F := Ideal)) (onTc (τ := Cert.BiasFwdIdeal.τ) (Cert.BiasFwdIdeal.main (F := Ideal))) ⟨m, fun _ => 0, g⟩ (fun r => ∀ c : Dev Cert.BiasFwdIdeal.nD,
          r.2.mem ((c.tc : Thread Cert.BiasFwdIdeal.nD Cert.BiasFwdIdeal.τ).loc Cert.BiasFwdIdeal.main_v3) = v0 c
          ∧ r.2.mem ((c.tc : Thread Cert.BiasFwdIdeal.nD Cert.BiasFwdIdeal.τ).loc Cert.BiasFwdIdeal.main_arg0) = m ((c.tc : Thread Cert.BiasFwdIdeal.nD Cert.BiasFwdIdeal.τ).loc Cert.BiasFwdIdeal.main_arg0)
          ∧ r.2.mem ((c.tc : Thread Cert.BiasFwdIdeal.nD Cert.BiasFwdIdeal.τ).loc Cert.BiasFwdIdeal.main_arg1) = m ((c.tc : Thread Cert.BiasFwdIdeal.nD Cert.BiasFwdIdeal.τ).loc Cert.BiasFwdIdeal.main_arg1)
          ∧ r.2.mem ((c.tc : Thread Cert.BiasFwdIdeal.nD Cert.BiasFwdIdeal.τ).loc Cert.BiasFwdIdeal.main_arg2) = m ((c.tc : Thread Cert.BiasFwdIdeal.nD Cert.BiasFwdIdeal.τ).loc Cert.BiasFwdIdeal.main_arg2))
      ∧ θ_run (Cert.BiasPlainIdeal.defs (F := Ideal)) (onTc (τ := Cert.BiasPlainIdeal.τ) (Cert.BiasPlainIdeal.main (F := Ideal))) ⟨m', fun _ => 0, g'⟩ (fun r => ∀ c : Dev Cert.BiasPlainIdeal.nD,
          r.2.mem ((c.tc : Thread Cert.BiasPlainIdeal.nD Cert.BiasPlainIdeal.τ).loc Cert.BiasPlainIdeal.main_v38) = v0 c
          ∧ r.2.mem ((c.tc : Thread Cert.BiasPlainIdeal.nD Cert.BiasPlainIdeal.τ).loc Cert.BiasPlainIdeal.main_arg0) = m' ((c.tc : Thread Cert.BiasPlainIdeal.nD Cert.BiasPlainIdeal.τ).loc Cert.BiasPlainIdeal.main_arg0)
          ∧ r.2.mem ((c.tc : Thread Cert.BiasPlainIdeal.nD Cert.BiasPlainIdeal.τ).loc Cert.BiasPlainIdeal.main_arg1) = m' ((c.tc : Thread Cert.BiasPlainIdeal.nD Cert.BiasPlainIdeal.τ).loc Cert.BiasPlainIdeal.main_arg1)
          ∧ r.2.mem ((c.tc : Thread Cert.BiasPlainIdeal.nD Cert.BiasPlainIdeal.τ).loc Cert.BiasPlainIdeal.main_arg2) = m' ((c.tc : Thread Cert.BiasPlainIdeal.nD Cert.BiasPlainIdeal.τ).loc Cert.BiasPlainIdeal.main_arg2))

def preserves_MixerFwd_MixerFwdIdeal : Prop :=
  True

def algebraic_MixerFwdIdeal_MixerPlainIdeal_pre_finite_in_mixer [hMixerFwdIdeal : Cert.MixerFwdIdeal.Facts] [hMixerPlainIdeal : Cert.MixerPlainIdeal.Facts] [hPre_finite_in_mixer : Cert.Pre_finite_in_mixer.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg)
    (m' : (ℓ : Loc Cert.MixerPlainIdeal.nD Cert.MixerPlainIdeal.τ Cert.MixerPlainIdeal.sig) → Buf (Elt Ideal) ℓ) (g' : Dev Cert.MixerPlainIdeal.nD → PrngReg), Pre_MixerFwdIdeal_finite_in_mixer m →
    (∀ c : Dev Cert.MixerFwdIdeal.nD,
      m' ((c.tc : Thread Cert.MixerPlainIdeal.nD Cert.MixerPlainIdeal.τ).loc Cert.MixerPlainIdeal.main_arg0) = m ((c.tc : Thread Cert.MixerFwdIdeal.nD Cert.MixerFwdIdeal.τ).loc Cert.MixerFwdIdeal.main_arg0)
      ∧ m' ((c.tc : Thread Cert.MixerPlainIdeal.nD Cert.MixerPlainIdeal.τ).loc Cert.MixerPlainIdeal.main_arg1) = m ((c.tc : Thread Cert.MixerFwdIdeal.nD Cert.MixerFwdIdeal.τ).loc Cert.MixerFwdIdeal.main_arg1)
      ∧ m' ((c.tc : Thread Cert.MixerPlainIdeal.nD Cert.MixerPlainIdeal.τ).loc Cert.MixerPlainIdeal.main_arg2) = m ((c.tc : Thread Cert.MixerFwdIdeal.nD Cert.MixerFwdIdeal.τ).loc Cert.MixerFwdIdeal.main_arg2)
      ∧ m' ((c.tc : Thread Cert.MixerPlainIdeal.nD Cert.MixerPlainIdeal.τ).loc Cert.MixerPlainIdeal.main_arg3) = m ((c.tc : Thread Cert.MixerFwdIdeal.nD Cert.MixerFwdIdeal.τ).loc Cert.MixerFwdIdeal.main_arg3)
      ∧ m' ((c.tc : Thread Cert.MixerPlainIdeal.nD Cert.MixerPlainIdeal.τ).loc Cert.MixerPlainIdeal.main_arg4) = m ((c.tc : Thread Cert.MixerFwdIdeal.nD Cert.MixerFwdIdeal.τ).loc Cert.MixerFwdIdeal.main_arg4)) →
    ∃ (v0 : (c : Dev Cert.MixerFwdIdeal.nD) → Buf (Elt Ideal) ((c.tc : Thread Cert.MixerFwdIdeal.nD Cert.MixerFwdIdeal.τ).loc Cert.MixerFwdIdeal.main_v6_0)) (v1 : (c : Dev Cert.MixerFwdIdeal.nD) → Buf (Elt Ideal) ((c.tc : Thread Cert.MixerFwdIdeal.nD Cert.MixerFwdIdeal.τ).loc Cert.MixerFwdIdeal.main_v6_1)),
      θ_run (Cert.MixerFwdIdeal.defs (F := Ideal)) (onTc (τ := Cert.MixerFwdIdeal.τ) (Cert.MixerFwdIdeal.main (F := Ideal))) ⟨m, fun _ => 0, g⟩ (fun r => ∀ c : Dev Cert.MixerFwdIdeal.nD,
          r.2.mem ((c.tc : Thread Cert.MixerFwdIdeal.nD Cert.MixerFwdIdeal.τ).loc Cert.MixerFwdIdeal.main_v6_0) = v0 c
          ∧ r.2.mem ((c.tc : Thread Cert.MixerFwdIdeal.nD Cert.MixerFwdIdeal.τ).loc Cert.MixerFwdIdeal.main_v6_1) = v1 c
          ∧ r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
          ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
          ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
          ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
          ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4))
      ∧ θ_run (Cert.MixerPlainIdeal.defs (F := Ideal)) (onTc (τ := Cert.MixerPlainIdeal.τ) (Cert.MixerPlainIdeal.main (F := Ideal))) ⟨m', fun _ => 0, g'⟩ (fun r => ∀ c : Dev Cert.MixerPlainIdeal.nD,
          r.2.mem ((c.tc : Thread Cert.MixerPlainIdeal.nD Cert.MixerPlainIdeal.τ).loc Cert.MixerPlainIdeal.main_v0) = v0 c
          ∧ r.2.mem ((c.tc : Thread Cert.MixerPlainIdeal.nD Cert.MixerPlainIdeal.τ).loc Cert.MixerPlainIdeal.main_v108) = v1 c
          ∧ r.2.mem ((c.tc : Thread Cert.MixerPlainIdeal.nD Cert.MixerPlainIdeal.τ).loc Cert.MixerPlainIdeal.main_arg0) = m' ((c.tc : Thread Cert.MixerPlainIdeal.nD Cert.MixerPlainIdeal.τ).loc Cert.MixerPlainIdeal.main_arg0)
          ∧ r.2.mem ((c.tc : Thread Cert.MixerPlainIdeal.nD Cert.MixerPlainIdeal.τ).loc Cert.MixerPlainIdeal.main_arg1) = m' ((c.tc : Thread Cert.MixerPlainIdeal.nD Cert.MixerPlainIdeal.τ).loc Cert.MixerPlainIdeal.main_arg1)
          ∧ r.2.mem ((c.tc : Thread Cert.MixerPlainIdeal.nD Cert.MixerPlainIdeal.τ).loc Cert.MixerPlainIdeal.main_arg2) = m' ((c.tc : Thread Cert.MixerPlainIdeal.nD Cert.MixerPlainIdeal.τ).loc Cert.MixerPlainIdeal.main_arg2)
          ∧ r.2.mem ((c.tc : Thread Cert.MixerPlainIdeal.nD Cert.MixerPlainIdeal.τ).loc Cert.MixerPlainIdeal.main_arg3) = m' ((c.tc : Thread Cert.MixerPlainIdeal.nD Cert.MixerPlainIdeal.τ).loc Cert.MixerPlainIdeal.main_arg3)
          ∧ r.2.mem ((c.tc : Thread Cert.MixerPlainIdeal.nD Cert.MixerPlainIdeal.τ).loc Cert.MixerPlainIdeal.main_arg4) = m' ((c.tc : Thread Cert.MixerPlainIdeal.nD Cert.MixerPlainIdeal.τ).loc Cert.MixerPlainIdeal.main_arg4))

def preserves_Dact_DactIdeal : Prop :=
  True

def algebraic_DactIdeal_DactGradIdeal [hDactIdeal : Cert.DactIdeal.Facts] [hDactGradIdeal : Cert.DactGradIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactGradIdeal.nD Cert.DactGradIdeal.τ Cert.DactGradIdeal.sig) → Buf (Elt Ideal) ℓ) (g' : Dev Cert.DactGradIdeal.nD → PrngReg), Pre_DactIdeal m →
    (∀ c : Dev Cert.DactIdeal.nD,
      m' ((c.tc : Thread Cert.DactGradIdeal.nD Cert.DactGradIdeal.τ).loc Cert.DactGradIdeal.main_arg0) = m ((c.tc : Thread Cert.DactIdeal.nD Cert.DactIdeal.τ).loc Cert.DactIdeal.main_arg0)
      ∧ m' ((c.tc : Thread Cert.DactGradIdeal.nD Cert.DactGradIdeal.τ).loc Cert.DactGradIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v3)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v3) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactGradIdeal.defs (F := Ideal)) (onTc (τ := Cert.DactGradIdeal.τ) (Cert.DactGradIdeal.main (F := Ideal))) ⟨m', fun _ => 0, g'⟩ (fun r => ∀ c : Dev Cert.DactGradIdeal.nD,
          r.2.mem ((c.tc : Thread Cert.DactGradIdeal.nD Cert.DactGradIdeal.τ).loc Cert.DactGradIdeal.main_v3) = v0 c
          ∧ r.2.mem ((c.tc : Thread Cert.DactGradIdeal.nD Cert.DactGradIdeal.τ).loc Cert.DactGradIdeal.main_arg0) = m' ((c.tc : Thread Cert.DactGradIdeal.nD Cert.DactGradIdeal.τ).loc Cert.DactGradIdeal.main_arg0)
          ∧ r.2.mem ((c.tc : Thread Cert.DactGradIdeal.nD Cert.DactGradIdeal.τ).loc Cert.DactGradIdeal.main_arg1) = m' ((c.tc : Thread Cert.DactGradIdeal.nD Cert.DactGradIdeal.τ).loc Cert.DactGradIdeal.main_arg1))

def preserves_Adamw_AdamwIdeal : Prop :=
  True

def algebraic_AdamwIdeal_AdamwPlainIdeal [hAdamwIdeal : Cert.AdamwIdeal.Facts] [hAdamwPlainIdeal : Cert.AdamwPlainIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwPlainIdeal.nD Cert.AdamwPlainIdeal.τ Cert.AdamwPlainIdeal.sig) → Buf (Elt Ideal) ℓ) (g' : Dev Cert.AdamwPlainIdeal.nD → PrngReg), Pre_AdamwIdeal m →
    (∀ c : Dev Cert.AdamwIdeal.nD,
      m' ((c.tc : Thread Cert.AdamwPlainIdeal.nD Cert.AdamwPlainIdeal.τ).loc Cert.AdamwPlainIdeal.main_arg0) = m ((c.tc : Thread Cert.AdamwIdeal.nD Cert.AdamwIdeal.τ).loc Cert.AdamwIdeal.main_arg0)
      ∧ m' ((c.tc : Thread Cert.AdamwPlainIdeal.nD Cert.AdamwPlainIdeal.τ).loc Cert.AdamwPlainIdeal.main_arg1) = m ((c.tc : Thread Cert.AdamwIdeal.nD Cert.AdamwIdeal.τ).loc Cert.AdamwIdeal.main_arg1)
      ∧ m' ((c.tc : Thread Cert.AdamwPlainIdeal.nD Cert.AdamwPlainIdeal.τ).loc Cert.AdamwPlainIdeal.main_arg2) = m ((c.tc : Thread Cert.AdamwIdeal.nD Cert.AdamwIdeal.τ).loc Cert.AdamwIdeal.main_arg2)
      ∧ m' ((c.tc : Thread Cert.AdamwPlainIdeal.nD Cert.AdamwPlainIdeal.τ).loc Cert.AdamwPlainIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwPlainIdeal.defs (F := Ideal)) (onTc (τ := Cert.AdamwPlainIdeal.τ) (Cert.AdamwPlainIdeal.main (F := Ideal))) ⟨m', fun _ => 0, g'⟩ (fun r => ∀ c : Dev Cert.AdamwPlainIdeal.nD,
          r.2.mem ((c.tc : Thread Cert.AdamwPlainIdeal.nD Cert.AdamwPlainIdeal.τ).loc Cert.AdamwPlainIdeal.main_v23) = v0 c
          ∧ r.2.mem ((c.tc : Thread Cert.AdamwPlainIdeal.nD Cert.AdamwPlainIdeal.τ).loc Cert.AdamwPlainIdeal.main_v4) = v1 c
          ∧ r.2.mem ((c.tc : Thread Cert.AdamwPlainIdeal.nD Cert.AdamwPlainIdeal.τ).loc Cert.AdamwPlainIdeal.main_v10) = v2 c
          ∧ r.2.mem ((c.tc : Thread Cert.AdamwPlainIdeal.nD Cert.AdamwPlainIdeal.τ).loc Cert.AdamwPlainIdeal.main_arg1) = v3 c
          ∧ r.2.mem ((c.tc : Thread Cert.AdamwPlainIdeal.nD Cert.AdamwPlainIdeal.τ).loc Cert.AdamwPlainIdeal.main_arg0) = m' ((c.tc : Thread Cert.AdamwPlainIdeal.nD Cert.AdamwPlainIdeal.τ).loc Cert.AdamwPlainIdeal.main_arg0)
          ∧ r.2.mem ((c.tc : Thread Cert.AdamwPlainIdeal.nD Cert.AdamwPlainIdeal.τ).loc Cert.AdamwPlainIdeal.main_arg1) = m' ((c.tc : Thread Cert.AdamwPlainIdeal.nD Cert.AdamwPlainIdeal.τ).loc Cert.AdamwPlainIdeal.main_arg1)
          ∧ r.2.mem ((c.tc : Thread Cert.AdamwPlainIdeal.nD Cert.AdamwPlainIdeal.τ).loc Cert.AdamwPlainIdeal.main_arg2) = m' ((c.tc : Thread Cert.AdamwPlainIdeal.nD Cert.AdamwPlainIdeal.τ).loc Cert.AdamwPlainIdeal.main_arg2)
          ∧ r.2.mem ((c.tc : Thread Cert.AdamwPlainIdeal.nD Cert.AdamwPlainIdeal.τ).loc Cert.AdamwPlainIdeal.main_arg3) = m' ((c.tc : Thread Cert.AdamwPlainIdeal.nD Cert.AdamwPlainIdeal.τ).loc Cert.AdamwPlainIdeal.main_arg3))

def preserves_DwUp_DwUpIdeal : Prop :=
  True

def algebraic_DwUpIdeal_DwUpGradIdeal [hDwUpIdeal : Cert.DwUpIdeal.Facts] [hDwUpGradIdeal : Cert.DwUpGradIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpGradIdeal.nD Cert.DwUpGradIdeal.τ Cert.DwUpGradIdeal.sig) → Buf (Elt Ideal) ℓ) (g' : Dev Cert.DwUpGradIdeal.nD → PrngReg), Pre_DwUpIdeal m →
    (∀ c : Dev Cert.DwUpIdeal.nD,
      m' ((c.tc : Thread Cert.DwUpGradIdeal.nD Cert.DwUpGradIdeal.τ).loc Cert.DwUpGradIdeal.main_arg0) = m ((c.tc : Thread Cert.DwUpIdeal.nD Cert.DwUpIdeal.τ).loc Cert.DwUpIdeal.main_arg0)
      ∧ m' ((c.tc : Thread Cert.DwUpGradIdeal.nD Cert.DwUpGradIdeal.τ).loc Cert.DwUpGradIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v2)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v2) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpGradIdeal.defs (F := Ideal)) (onTc (τ := Cert.DwUpGradIdeal.τ) (Cert.DwUpGradIdeal.main (F := Ideal))) ⟨m', fun _ => 0, g'⟩ (fun r => ∀ c : Dev Cert.DwUpGradIdeal.nD,
          r.2.mem ((c.tc : Thread Cert.DwUpGradIdeal.nD Cert.DwUpGradIdeal.τ).loc Cert.DwUpGradIdeal.main_v6) = v0 c
          ∧ r.2.mem ((c.tc : Thread Cert.DwUpGradIdeal.nD Cert.DwUpGradIdeal.τ).loc Cert.DwUpGradIdeal.main_arg0) = m' ((c.tc : Thread Cert.DwUpGradIdeal.nD Cert.DwUpGradIdeal.τ).loc Cert.DwUpGradIdeal.main_arg0)
          ∧ r.2.mem ((c.tc : Thread Cert.DwUpGradIdeal.nD Cert.DwUpGradIdeal.τ).loc Cert.DwUpGradIdeal.main_arg1) = m' ((c.tc : Thread Cert.DwUpGradIdeal.nD Cert.DwUpGradIdeal.τ).loc Cert.DwUpGradIdeal.main_arg1))

def preserves_Cast_CastIdeal : Prop :=
  True

def algebraic_CastIdeal_CastPlainIdeal [hCastIdeal : Cert.CastIdeal.Facts] [hCastPlainIdeal : Cert.CastPlainIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastPlainIdeal.nD Cert.CastPlainIdeal.τ Cert.CastPlainIdeal.sig) → Buf (Elt Ideal) ℓ) (g' : Dev Cert.CastPlainIdeal.nD → PrngReg), Pre_CastIdeal m →
    (∀ c : Dev Cert.CastIdeal.nD,
      m' ((c.tc : Thread Cert.CastPlainIdeal.nD Cert.CastPlainIdeal.τ).loc Cert.CastPlainIdeal.main_arg0) = m ((c.tc : Thread Cert.CastIdeal.nD Cert.CastIdeal.τ).loc Cert.CastIdeal.main_arg0)) →
    ∃ (v0 : (c : Dev Cert.CastIdeal.nD) → Buf (Elt Ideal) ((c.tc : Thread Cert.CastIdeal.nD Cert.CastIdeal.τ).loc Cert.CastIdeal.main_v1)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v1) = v0 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ θ_run (Cert.CastPlainIdeal.defs (F := Ideal)) (onTc (τ := Cert.CastPlainIdeal.τ) (Cert.CastPlainIdeal.main (F := Ideal))) ⟨m', fun _ => 0, g'⟩ (fun r => ∀ c : Dev Cert.CastPlainIdeal.nD,
          r.2.mem ((c.tc : Thread Cert.CastPlainIdeal.nD Cert.CastPlainIdeal.τ).loc Cert.CastPlainIdeal.main_v1) = v0 c
          ∧ r.2.mem ((c.tc : Thread Cert.CastPlainIdeal.nD Cert.CastPlainIdeal.τ).loc Cert.CastPlainIdeal.main_arg0) = m' ((c.tc : Thread Cert.CastPlainIdeal.nD Cert.CastPlainIdeal.τ).loc Cert.CastPlainIdeal.main_arg0))

def preserves_DeviceSum_DeviceSumIdeal : Prop :=
  True

def algebraic_DeviceSumIdeal_DeviceSumPlainIdeal [hDeviceSumIdeal : Cert.DeviceSumIdeal.Facts] [hDeviceSumPlainIdeal : Cert.DeviceSumPlainIdeal.Facts] : Prop :=
  ∀ (m : (ℓ : Loc Cert.DeviceSumIdeal.nD Cert.DeviceSumIdeal.τ Cert.DeviceSumIdeal.sig) → Buf (Elt Ideal) ℓ) (g : Dev Cert.DeviceSumIdeal.nD → PrngReg)
    (m' : (ℓ : Loc Cert.DeviceSumPlainIdeal.nD Cert.DeviceSumPlainIdeal.τ Cert.DeviceSumPlainIdeal.sig) → Buf (Elt Ideal) ℓ) (g' : Dev Cert.DeviceSumPlainIdeal.nD → PrngReg), Pre_DeviceSumIdeal m →
    (∀ c : Dev Cert.DeviceSumIdeal.nD,
      m' ((c.tc : Thread Cert.DeviceSumPlainIdeal.nD Cert.DeviceSumPlainIdeal.τ).loc Cert.DeviceSumPlainIdeal.main_arg0) = m ((c.tc : Thread Cert.DeviceSumIdeal.nD Cert.DeviceSumIdeal.τ).loc Cert.DeviceSumIdeal.main_arg0)
      ∧ m' ((c.tc : Thread Cert.DeviceSumPlainIdeal.nD Cert.DeviceSumPlainIdeal.τ).loc Cert.DeviceSumPlainIdeal.main_arg1) = m ((c.tc : Thread Cert.DeviceSumIdeal.nD Cert.DeviceSumIdeal.τ).loc Cert.DeviceSumIdeal.main_arg1)
      ∧ m' ((c.tc : Thread Cert.DeviceSumPlainIdeal.nD Cert.DeviceSumPlainIdeal.τ).loc Cert.DeviceSumPlainIdeal.main_arg2) = m ((c.tc : Thread Cert.DeviceSumIdeal.nD Cert.DeviceSumIdeal.τ).loc Cert.DeviceSumIdeal.main_arg2)) →
    ∃ (v0 : (c : Dev Cert.DeviceSumIdeal.nD) → Buf (Elt Ideal) ((c.tc : Thread Cert.DeviceSumIdeal.nD Cert.DeviceSumIdeal.τ).loc Cert.DeviceSumIdeal.main_v0)),
      θ_run (Cert.DeviceSumIdeal.defs (F := Ideal)) (onTc (τ := Cert.DeviceSumIdeal.τ) (Cert.DeviceSumIdeal.main (F := Ideal))) ⟨m, fun _ => 0, g⟩ (fun r => ∀ c : Dev Cert.DeviceSumIdeal.nD,
          r.2.mem ((c.tc : Thread Cert.DeviceSumIdeal.nD Cert.DeviceSumIdeal.τ).loc Cert.DeviceSumIdeal.main_v0) = v0 c
          ∧ r.2.mem ((c.tc : Thread Cert.DeviceSumIdeal.nD Cert.DeviceSumIdeal.τ).loc Cert.DeviceSumIdeal.main_arg0) = m ((c.tc : Thread Cert.DeviceSumIdeal.nD Cert.DeviceSumIdeal.τ).loc Cert.DeviceSumIdeal.main_arg0)
          ∧ r.2.mem ((c.tc : Thread Cert.DeviceSumIdeal.nD Cert.DeviceSumIdeal.τ).loc Cert.DeviceSumIdeal.main_arg1) = m ((c.tc : Thread Cert.DeviceSumIdeal.nD Cert.DeviceSumIdeal.τ).loc Cert.DeviceSumIdeal.main_arg1)
          ∧ r.2.mem ((c.tc : Thread Cert.DeviceSumIdeal.nD Cert.DeviceSumIdeal.τ).loc Cert.DeviceSumIdeal.main_arg2) = m ((c.tc : Thread Cert.DeviceSumIdeal.nD Cert.DeviceSumIdeal.τ).loc Cert.DeviceSumIdeal.main_arg2))
      ∧ θ_run (Cert.DeviceSumPlainIdeal.defs (F := Ideal)) (onTc (τ := Cert.DeviceSumPlainIdeal.τ) (Cert.DeviceSumPlainIdeal.main (F := Ideal))) ⟨m', fun _ => 0, g'⟩ (fun r => ∀ c : Dev Cert.DeviceSumPlainIdeal.nD,
          r.2.mem ((c.tc : Thread Cert.DeviceSumPlainIdeal.nD Cert.DeviceSumPlainIdeal.τ).loc Cert.DeviceSumPlainIdeal.main_v5) = v0 c
          ∧ r.2.mem ((c.tc : Thread Cert.DeviceSumPlainIdeal.nD Cert.DeviceSumPlainIdeal.τ).loc Cert.DeviceSumPlainIdeal.main_arg0) = m' ((c.tc : Thread Cert.DeviceSumPlainIdeal.nD Cert.DeviceSumPlainIdeal.τ).loc Cert.DeviceSumPlainIdeal.main_arg0)
          ∧ r.2.mem ((c.tc : Thread Cert.DeviceSumPlainIdeal.nD Cert.DeviceSumPlainIdeal.τ).loc Cert.DeviceSumPlainIdeal.main_arg1) = m' ((c.tc : Thread Cert.DeviceSumPlainIdeal.nD Cert.DeviceSumPlainIdeal.τ).loc Cert.DeviceSumPlainIdeal.main_arg1)
          ∧ r.2.mem ((c.tc : Thread Cert.DeviceSumPlainIdeal.nD Cert.DeviceSumPlainIdeal.τ).loc Cert.DeviceSumPlainIdeal.main_arg2) = m' ((c.tc : Thread Cert.DeviceSumPlainIdeal.nD Cert.DeviceSumPlainIdeal.τ).loc Cert.DeviceSumPlainIdeal.main_arg2))

def Claim : Prop :=
  ∃ (hNormBwd : Cert.NormBwd.Facts) (hNormBwdIdeal : Cert.NormBwdIdeal.Facts) (hNormGradIdeal : Cert.NormGradIdeal.Facts) (hMixerBwd : Cert.MixerBwd.Facts) (hMixerBwdIdeal : Cert.MixerBwdIdeal.Facts) (hMixerGradIdeal : Cert.MixerGradIdeal.Facts) (hGluBwd : Cert.GluBwd.Facts) (hGluBwdIdeal : Cert.GluBwdIdeal.Facts) (hGluGradIdeal : Cert.GluGradIdeal.Facts) (hQkNormBwd : Cert.QkNormBwd.Facts) (hQkNormBwdIdeal : Cert.QkNormBwdIdeal.Facts) (hQkNormGradIdeal : Cert.QkNormGradIdeal.Facts) (hLossBwd : Cert.LossBwd.Facts) (hLossBwdIdeal : Cert.LossBwdIdeal.Facts) (hLossGradIdeal : Cert.LossGradIdeal.Facts) (hBiasBwd : Cert.BiasBwd.Facts) (hBiasBwdIdeal : Cert.BiasBwdIdeal.Facts) (hBiasGradIdeal : Cert.BiasGradIdeal.Facts) (hNormFwd : Cert.NormFwd.Facts) (hNormFwdIdeal : Cert.NormFwdIdeal.Facts) (hNormPlainIdeal : Cert.NormPlainIdeal.Facts) (hResNormFwd : Cert.ResNormFwd.Facts) (hResNormFwdIdeal : Cert.ResNormFwdIdeal.Facts) (hResNormPlainIdeal : Cert.ResNormPlainIdeal.Facts) (hGluFwd : Cert.GluFwd.Facts) (hGluFwdIdeal : Cert.GluFwdIdeal.Facts) (hGluPlainIdeal : Cert.GluPlainIdeal.Facts) (hQkvFwd : Cert.QkvFwd.Facts) (hQkvFwdIdeal : Cert.QkvFwdIdeal.Facts) (hQkvPlainIdeal : Cert.QkvPlainIdeal.Facts) (hBiasFwd : Cert.BiasFwd.Facts) (hBiasFwdIdeal : Cert.BiasFwdIdeal.Facts) (hBiasPlainIdeal : Cert.BiasPlainIdeal.Facts) (hMixerFwd : Cert.MixerFwd.Facts) (hMixerFwdIdeal : Cert.MixerFwdIdeal.Facts) (hMixerPlainIdeal : Cert.MixerPlainIdeal.Facts) (hDact : Cert.Dact.Facts) (hDactIdeal : Cert.DactIdeal.Facts) (hDactGradIdeal : Cert.DactGradIdeal.Facts) (hAdamw : Cert.Adamw.Facts) (hAdamwIdeal : Cert.AdamwIdeal.Facts) (hAdamwPlainIdeal : Cert.AdamwPlainIdeal.Facts) (hDwUp : Cert.DwUp.Facts) (hDwUpIdeal : Cert.DwUpIdeal.Facts) (hDwUpGradIdeal : Cert.DwUpGradIdeal.Facts) (hCast : Cert.Cast.Facts) (hCastIdeal : Cert.CastIdeal.Facts) (hCastPlainIdeal : Cert.CastPlainIdeal.Facts) (hDeviceSum : Cert.DeviceSum.Facts) (hDeviceSumIdeal : Cert.DeviceSumIdeal.Facts) (hDeviceSumPlainIdeal : Cert.DeviceSumPlainIdeal.Facts) (hPre_finite_norm : Cert.Pre_finite_norm.Facts) (hPre_finite_mixer : Cert.Pre_finite_mixer.Facts) (hPre_finite_glu : Cert.Pre_finite_glu.Facts) (hPre_finite_qknorm : Cert.Pre_finite_qknorm.Facts) (hPre_finite_bias : Cert.Pre_finite_bias.Facts) (hPre_finite_table : Cert.Pre_finite_table.Facts) (hPre_finite_in_mixer : Cert.Pre_finite_in_mixer.Facts),
    quiescent_NormBwd (hNormBwd := hNormBwd)
    ∧ quiescent_NormBwdIdeal (hNormBwdIdeal := hNormBwdIdeal)
    ∧ quiescent_NormBwdIdeal_pre_finite_norm (hNormBwdIdeal := hNormBwdIdeal) (hPre_finite_norm := hPre_finite_norm)
    ∧ quiescent_NormGradIdeal (hNormGradIdeal := hNormGradIdeal)
    ∧ quiescent_NormGradIdeal_pre_finite_norm (hNormGradIdeal := hNormGradIdeal) (hPre_finite_norm := hPre_finite_norm)
    ∧ quiescent_MixerBwd (hMixerBwd := hMixerBwd)
    ∧ quiescent_MixerBwdIdeal (hMixerBwdIdeal := hMixerBwdIdeal)
    ∧ quiescent_MixerBwdIdeal_pre_finite_mixer (hMixerBwdIdeal := hMixerBwdIdeal) (hPre_finite_mixer := hPre_finite_mixer)
    ∧ quiescent_MixerGradIdeal (hMixerGradIdeal := hMixerGradIdeal)
    ∧ quiescent_MixerGradIdeal_pre_finite_mixer (hMixerGradIdeal := hMixerGradIdeal) (hPre_finite_mixer := hPre_finite_mixer)
    ∧ quiescent_GluBwd (hGluBwd := hGluBwd)
    ∧ quiescent_GluBwdIdeal (hGluBwdIdeal := hGluBwdIdeal)
    ∧ quiescent_GluBwdIdeal_pre_finite_glu (hGluBwdIdeal := hGluBwdIdeal) (hPre_finite_glu := hPre_finite_glu)
    ∧ quiescent_GluGradIdeal (hGluGradIdeal := hGluGradIdeal)
    ∧ quiescent_GluGradIdeal_pre_finite_glu (hGluGradIdeal := hGluGradIdeal) (hPre_finite_glu := hPre_finite_glu)
    ∧ quiescent_QkNormBwd (hQkNormBwd := hQkNormBwd)
    ∧ quiescent_QkNormBwdIdeal (hQkNormBwdIdeal := hQkNormBwdIdeal)
    ∧ quiescent_QkNormBwdIdeal_pre_finite_qknorm (hQkNormBwdIdeal := hQkNormBwdIdeal) (hPre_finite_qknorm := hPre_finite_qknorm)
    ∧ quiescent_QkNormGradIdeal (hQkNormGradIdeal := hQkNormGradIdeal)
    ∧ quiescent_QkNormGradIdeal_pre_finite_qknorm (hQkNormGradIdeal := hQkNormGradIdeal) (hPre_finite_qknorm := hPre_finite_qknorm)
    ∧ quiescent_LossBwd (hLossBwd := hLossBwd)
    ∧ quiescent_LossBwdIdeal (hLossBwdIdeal := hLossBwdIdeal)
    ∧ quiescent_LossGradIdeal (hLossGradIdeal := hLossGradIdeal)
    ∧ quiescent_BiasBwd (hBiasBwd := hBiasBwd)
    ∧ quiescent_BiasBwdIdeal (hBiasBwdIdeal := hBiasBwdIdeal)
    ∧ quiescent_BiasBwdIdeal_pre_finite_bias (hBiasBwdIdeal := hBiasBwdIdeal) (hPre_finite_bias := hPre_finite_bias)
    ∧ quiescent_BiasGradIdeal (hBiasGradIdeal := hBiasGradIdeal)
    ∧ quiescent_BiasGradIdeal_pre_finite_bias (hBiasGradIdeal := hBiasGradIdeal) (hPre_finite_bias := hPre_finite_bias)
    ∧ quiescent_NormFwd (hNormFwd := hNormFwd)
    ∧ quiescent_NormFwdIdeal (hNormFwdIdeal := hNormFwdIdeal)
    ∧ quiescent_NormPlainIdeal (hNormPlainIdeal := hNormPlainIdeal)
    ∧ quiescent_ResNormFwd (hResNormFwd := hResNormFwd)
    ∧ quiescent_ResNormFwdIdeal (hResNormFwdIdeal := hResNormFwdIdeal)
    ∧ quiescent_ResNormPlainIdeal (hResNormPlainIdeal := hResNormPlainIdeal)
    ∧ quiescent_GluFwd (hGluFwd := hGluFwd)
    ∧ quiescent_GluFwdIdeal (hGluFwdIdeal := hGluFwdIdeal)
    ∧ quiescent_GluPlainIdeal (hGluPlainIdeal := hGluPlainIdeal)
    ∧ quiescent_QkvFwd (hQkvFwd := hQkvFwd)
    ∧ quiescent_QkvFwdIdeal (hQkvFwdIdeal := hQkvFwdIdeal)
    ∧ quiescent_QkvPlainIdeal (hQkvPlainIdeal := hQkvPlainIdeal)
    ∧ quiescent_BiasFwd (hBiasFwd := hBiasFwd)
    ∧ quiescent_BiasFwdIdeal (hBiasFwdIdeal := hBiasFwdIdeal)
    ∧ quiescent_BiasFwdIdeal_pre_finite_table (hBiasFwdIdeal := hBiasFwdIdeal) (hPre_finite_table := hPre_finite_table)
    ∧ quiescent_BiasPlainIdeal (hBiasPlainIdeal := hBiasPlainIdeal)
    ∧ quiescent_BiasPlainIdeal_pre_finite_table (hBiasPlainIdeal := hBiasPlainIdeal) (hPre_finite_table := hPre_finite_table)
    ∧ quiescent_MixerFwd (hMixerFwd := hMixerFwd)
    ∧ quiescent_MixerFwdIdeal (hMixerFwdIdeal := hMixerFwdIdeal)
    ∧ quiescent_MixerFwdIdeal_pre_finite_in_mixer (hMixerFwdIdeal := hMixerFwdIdeal) (hPre_finite_in_mixer := hPre_finite_in_mixer)
    ∧ quiescent_MixerPlainIdeal (hMixerPlainIdeal := hMixerPlainIdeal)
    ∧ quiescent_MixerPlainIdeal_pre_finite_in_mixer (hMixerPlainIdeal := hMixerPlainIdeal) (hPre_finite_in_mixer := hPre_finite_in_mixer)
    ∧ quiescent_Dact (hDact := hDact)
    ∧ quiescent_DactIdeal (hDactIdeal := hDactIdeal)
    ∧ quiescent_DactGradIdeal (hDactGradIdeal := hDactGradIdeal)
    ∧ quiescent_Adamw (hAdamw := hAdamw)
    ∧ quiescent_AdamwIdeal (hAdamwIdeal := hAdamwIdeal)
    ∧ quiescent_AdamwPlainIdeal (hAdamwPlainIdeal := hAdamwPlainIdeal)
    ∧ quiescent_DwUp (hDwUp := hDwUp)
    ∧ quiescent_DwUpIdeal (hDwUpIdeal := hDwUpIdeal)
    ∧ quiescent_DwUpGradIdeal (hDwUpGradIdeal := hDwUpGradIdeal)
    ∧ quiescent_Cast (hCast := hCast)
    ∧ quiescent_CastIdeal (hCastIdeal := hCastIdeal)
    ∧ quiescent_CastPlainIdeal (hCastPlainIdeal := hCastPlainIdeal)
    ∧ quiescent_DeviceSum (hDeviceSum := hDeviceSum)
    ∧ quiescent_DeviceSumIdeal (hDeviceSumIdeal := hDeviceSumIdeal)
    ∧ quiescent_DeviceSumPlainIdeal (hDeviceSumPlainIdeal := hDeviceSumPlainIdeal)
    ∧ preserves_NormBwd_NormBwdIdeal
    ∧ algebraic_NormBwdIdeal_NormGradIdeal_pre_finite_norm (hNormBwdIdeal := hNormBwdIdeal) (hNormGradIdeal := hNormGradIdeal) (hPre_finite_norm := hPre_finite_norm)
    ∧ preserves_MixerBwd_MixerBwdIdeal
    ∧ algebraic_MixerBwdIdeal_MixerGradIdeal_pre_finite_mixer (hMixerBwdIdeal := hMixerBwdIdeal) (hMixerGradIdeal := hMixerGradIdeal) (hPre_finite_mixer := hPre_finite_mixer)
    ∧ preserves_GluBwd_GluBwdIdeal
    ∧ algebraic_GluBwdIdeal_GluGradIdeal_pre_finite_glu (hGluBwdIdeal := hGluBwdIdeal) (hGluGradIdeal := hGluGradIdeal) (hPre_finite_glu := hPre_finite_glu)
    ∧ preserves_QkNormBwd_QkNormBwdIdeal
    ∧ algebraic_QkNormBwdIdeal_QkNormGradIdeal_pre_finite_qknorm (hQkNormBwdIdeal := hQkNormBwdIdeal) (hQkNormGradIdeal := hQkNormGradIdeal) (hPre_finite_qknorm := hPre_finite_qknorm)
    ∧ preserves_LossBwd_LossBwdIdeal
    ∧ algebraic_LossBwdIdeal_LossGradIdeal (hLossBwdIdeal := hLossBwdIdeal) (hLossGradIdeal := hLossGradIdeal)
    ∧ preserves_BiasBwd_BiasBwdIdeal
    ∧ algebraic_BiasBwdIdeal_BiasGradIdeal_pre_finite_bias (hBiasBwdIdeal := hBiasBwdIdeal) (hBiasGradIdeal := hBiasGradIdeal) (hPre_finite_bias := hPre_finite_bias)
    ∧ preserves_NormFwd_NormFwdIdeal
    ∧ algebraic_NormFwdIdeal_NormPlainIdeal (hNormFwdIdeal := hNormFwdIdeal) (hNormPlainIdeal := hNormPlainIdeal)
    ∧ preserves_ResNormFwd_ResNormFwdIdeal
    ∧ algebraic_ResNormFwdIdeal_ResNormPlainIdeal (hResNormFwdIdeal := hResNormFwdIdeal) (hResNormPlainIdeal := hResNormPlainIdeal)
    ∧ preserves_GluFwd_GluFwdIdeal
    ∧ algebraic_GluFwdIdeal_GluPlainIdeal (hGluFwdIdeal := hGluFwdIdeal) (hGluPlainIdeal := hGluPlainIdeal)
    ∧ preserves_QkvFwd_QkvFwdIdeal
    ∧ algebraic_QkvFwdIdeal_QkvPlainIdeal (hQkvFwdIdeal := hQkvFwdIdeal) (hQkvPlainIdeal := hQkvPlainIdeal)
    ∧ preserves_BiasFwd_BiasFwdIdeal
    ∧ algebraic_BiasFwdIdeal_BiasPlainIdeal_pre_finite_table (hBiasFwdIdeal := hBiasFwdIdeal) (hBiasPlainIdeal := hBiasPlainIdeal) (hPre_finite_table := hPre_finite_table)
    ∧ preserves_MixerFwd_MixerFwdIdeal
    ∧ algebraic_MixerFwdIdeal_MixerPlainIdeal_pre_finite_in_mixer (hMixerFwdIdeal := hMixerFwdIdeal) (hMixerPlainIdeal := hMixerPlainIdeal) (hPre_finite_in_mixer := hPre_finite_in_mixer)
    ∧ preserves_Dact_DactIdeal
    ∧ algebraic_DactIdeal_DactGradIdeal (hDactIdeal := hDactIdeal) (hDactGradIdeal := hDactGradIdeal)
    ∧ preserves_Adamw_AdamwIdeal
    ∧ algebraic_AdamwIdeal_AdamwPlainIdeal (hAdamwIdeal := hAdamwIdeal) (hAdamwPlainIdeal := hAdamwPlainIdeal)
    ∧ preserves_DwUp_DwUpIdeal
    ∧ algebraic_DwUpIdeal_DwUpGradIdeal (hDwUpIdeal := hDwUpIdeal) (hDwUpGradIdeal := hDwUpGradIdeal)
    ∧ preserves_Cast_CastIdeal
    ∧ algebraic_CastIdeal_CastPlainIdeal (hCastIdeal := hCastIdeal) (hCastPlainIdeal := hCastPlainIdeal)
    ∧ preserves_DeviceSum_DeviceSumIdeal
    ∧ algebraic_DeviceSumIdeal_DeviceSumPlainIdeal (hDeviceSumIdeal := hDeviceSumIdeal) (hDeviceSumPlainIdeal := hDeviceSumPlainIdeal)
-- ==== Pre_finite_bias.lean ====
abbrev S32x16 : Shape := ⟨2, ![32, 16]⟩
abbrev S3x32768 : Shape := ⟨2, ![3, 32768]⟩
abbrev S3x16x32768 : Shape := ⟨3, ![3, 16, 32768]⟩
abbrev S_ : Shape := ⟨0, ![]⟩

class Facts : Prop where
  bcast_S_S3x16x32768 : S_.BroadcastsInDim S3x16x32768 (![] : Fin 0 → Fin S3x16x32768.rank)
  reducesTo_S3x16x32768_S_d0_1_2 : S3x16x32768.ReducesTo [0, 1, 2] S_
  h_S_ : 0 < S_.numel
  bcast_S_S3x32768 : S_.BroadcastsInDim S3x32768 (![] : Fin 0 → Fin S3x32768.rank)
  reducesTo_S3x32768_S_d0_1 : S3x32768.ReducesTo [0, 1] S_

variable [Facts]

def fn {F : FTy → Type} [FloatOps F] (main_arg0 : FVec F S32x16 .f32) (main_arg1 : IVec S3x32768 32) (main_arg2 : FVec F S3x16x32768 .f32) : IVec S_ 1 :=
  let main_v0 : FVec F S3x16x32768 .f32 := Host.absf main_arg2
  let main_cst : FVec F S_ .f32 := constant S_ .f32 0x7F800000#32
  let main_v1 : FVec F S3x16x32768 .f32 := broadcastInDim S3x16x32768 ![] bcast_S_S3x16x32768 main_cst
  let main_v2 : IVec S3x16x32768 1 := cmpf .olt main_v0 main_v1
  let main_c : IVec S_ 1 := constantI S_ 1 1#1
  let main_v3 : IVec S_ 1 := (fun x v => Host.reduce IntOp.andi x v reducesTo_S3x16x32768_S_d0_1_2 h_S_) main_v2 main_c
  let main_c_0 : IVec S_ 32 := constantI S_ 32 0#32
  let main_v4 : IVec S3x32768 32 := broadcastInDim S3x32768 ![] bcast_S_S3x32768 main_c_0
  let main_v5 : IVec S3x32768 1 := cmpi .sge main_arg1 main_v4
  let main_c_1 : IVec S_ 1 := constantI S_ 1 1#1
  let main_v6 : IVec S_ 1 := (fun x v => Host.reduce IntOp.andi x v reducesTo_S3x32768_S_d0_1 h_S_) main_v5 main_c_1
  let main_v7 : IVec S_ 1 := andi main_v3 main_v6
  main_v7
-- ==== Pre_finite_glu.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_v13 : IVec S_ 1) (main_v16 : IVec S4096x2816 1) : IVec S_ 1 :=
  let main_c_5 : IVec S_ 1 := constantI S_ 1 1#1
  let main_v17 : IVec S_ 1 := (fun x v => Host.reduce IntOp.andi x v reducesTo_S4096x2816_S_d0_1 h_S_) main_v16 main_c_5
  let main_v18 : IVec S_ 1 := andi main_v13 main_v17
  main_v18

def fn {F : FTy → Type} [FloatOps F] (main_arg0 : FVec F S4096x5632 .f32) (main_arg1 : FVec F S3x5632 .f32) (main_arg2 : FVec F S1x5632 .f32) (main_arg3 : FVec F S4096x2816 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_c_1 : IVec S_ 1 := constantI S_ 1 1#1
  let main_v7 : IVec S_ 1 := (fun x v => Host.reduce IntOp.andi x v reducesTo_S3x5632_S_d0_1 h_S_) main_v6 main_c_1
  let main_v8 : IVec S_ 1 := andi main_v3 main_v7
  let main_v9 : FVec F S1x5632 .f32 := Host.absf main_arg2
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  let main_c_3 : IVec S_ 1 := constantI S_ 1 1#1
  let main_v12 : IVec S_ 1 := (fun x v => Host.reduce IntOp.andi x v reducesTo_S1x5632_S_d0_1 h_S_) main_v11 main_c_3
  let main_v13 : IVec S_ 1 := andi main_v8 main_v12
  let main_v14 : FVec F S4096x2816 .f32 := Host.absf main_arg3
  let main_cst_4 : FVec F S_ .f32 := constant S_ .f32 0x7F800000#32
  let main_v15 : FVec F S4096x2816 .f32 := broadcastInDim S4096x2816 ![] bcast_S_S4096x2816 main_cst_4
  let main_v16 : IVec S4096x2816 1 := cmpf .olt main_v14 main_v15
  fn_part1 (F := F) main_v13 main_v16
-- ==== Pre_finite_in_mixer.lean ====
abbrev S4096x1024 : Shape := ⟨2, ![4096, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S4096x1024 .f32) (main_arg1 : FVec F S1024x2048 .f32) (main_arg2 : FVec F S3x512 .f32) (main_arg3 : FVec F S4x128x128 .f32) (main_arg4 : FVec F S1x512 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Pre_finite_mixer.lean ====
abbrev S4096x2048 : Shape := ⟨2, ![4096, 2048]⟩
abbrev S4096x1024 : Shape := ⟨2, ![4096, 1024]⟩
abbrev S3x512 : Shape := ⟨2, ![3, 512]⟩
abbrev S4x128x128 : Shape := ⟨3, ![4, 128, 128]⟩
abbrev S1x512 : Shape := ⟨2, ![1, 512]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  main_v18

def fn {F : FTy → Type} [FloatOps F] (main_arg0 : FVec F S4096x2048 .f32) (main_arg1 : FVec F S4096x1024 .f32) (main_arg2 : FVec F S3x512 .f32) (main_arg3 : FVec F S4x128x128 .f32) (main_arg4 : FVec F S1x512 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S1x512 .f32 := Host.absf main_arg4
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_v13 main_v16
-- ==== Pre_finite_norm.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S4096x5632 .f32) (main_arg1 : FVec F S1024x5632 .f32) (main_arg2 : FVec F S4096x1024 .f32) (main_arg3 : FVec F S1x1024 .f32) (main_arg4 : FVec F S4096x1024 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_finite_qknorm.lean ====
abbrev S4096x3072 : Shape := ⟨2, ![4096, 3072]⟩
abbrev S4096x1024 : Shape := ⟨2, ![4096, 1024]⟩
abbrev S1x64 : Shape := ⟨2, ![1, 64]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg5 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg5
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  main_v23

def fn {F : FTy → Type} [FloatOps F] (main_arg0 : FVec F S4096x3072 .f32) (main_arg1 : FVec F S4096x1024 .f32) (main_arg2 : FVec F S4096x1024 .f32) (main_arg3 : FVec F S4096x1024 .f32) (main_arg4 : FVec F S1x64 .f32) (main_arg5 : FVec F S1x64 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg5 main_v13 main_v16
-- ==== Pre_finite_table.lean ====
abbrev S32x16 : Shape := ⟨2, ![32, 16]⟩
abbrev S3x32768 : Shape := ⟨2, ![3, 32768]⟩
abbrev S3x2x32768 : Shape := ⟨3, ![3, 2, 32768]⟩
abbrev S_ : Shape := ⟨0, ![]⟩

class Facts : Prop where
  bcast_S_S32x16 : S_.BroadcastsInDim S32x16 (![] : Fin 0 → Fin S32x16.rank)
  reducesTo_S32x16_S_d0_1 : S32x16.ReducesTo [0, 1] S_
  h_S_ : 0 < S_.numel
  bcast_S_S3x32768 : S_.BroadcastsInDim S3x32768 (![] : Fin 0 → Fin S3x32768.rank)
  reducesTo_S3x32768_S_d0_1 : S3x32768.ReducesTo [0, 1] S_

variable [Facts]

def fn {F : FTy → Type} [FloatOps F] (main_arg0 : FVec F S32x16 .f32) (main_arg1 : IVec S3x32768 32) (main_arg2 : IVec S3x2x32768 32) : IVec S_ 1 :=
  let main_v0 : FVec F S32x16 .f32 := Host.absf main_arg0
  let main_cst : FVec F S_ .f32 := constant S_ .f32 0x7F800000#32
  let main_v1 : FVec F S32x16 .f32 := broadcastInDim S32x16 ![] bcast_S_S32x16 main_cst
  let main_v2 : IVec S32x16 1 := cmpf .olt main_v0 main_v1
  let main_c : IVec S_ 1 := constantI S_ 1 1#1
  let main_v3 : IVec S_ 1 := (fun x v => Host.reduce IntOp.andi x v reducesTo_S32x16_S_d0_1 h_S_) main_v2 main_c
  let main_c_0 : IVec S_ 32 := constantI S_ 32 0#32
  let main_v4 : IVec S3x32768 32 := broadcastInDim S3x32768 ![] bcast_S_S3x32768 main_c_0
  let main_v5 : IVec S3x32768 1 := cmpi .sge main_arg1 main_v4
  let main_c_1 : IVec S_ 1 := constantI S_ 1 1#1
  let main_v6 : IVec S_ 1 := (fun x v => Host.reduce IntOp.andi x v reducesTo_S3x32768_S_d0_1 h_S_) main_v5 main_c_1
  let main_v7 : IVec S_ 1 := andi main_v3 main_v6
  let main_c_2 : IVec S_ 32 := constantI S_ 32 32#32
  let main_v8 : IVec S3x32768 32 := broadcastInDim S3x32768 ![] bcast_S_S3x32768 main_c_2
  let main_v9 : IVec S3x32768 1 := cmpi .slt main_arg1 main_v8
  let main_c_3 : IVec S_ 1 := constantI S_ 1 1#1
  let main_v10 : IVec S_ 1 := (fun x v => Host.reduce IntOp.andi x v reducesTo_S3x32768_S_d0_1 h_S_) main_v9 main_c_3
  let main_v11 : IVec S_ 1 := andi main_v7 main_v10
  main_v11
-- ==== NormBwd.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S4x1x1024x1408 : Shape := ⟨4, ![4, 1, 1024, 1408]⟩
abbrev S512x5632 : Shape := ⟨2, ![512, 5632]⟩
abbrev S512x1024 : Shape := ⟨2, ![512, 1024]⟩
abbrev S512x1408 : Shape := ⟨2, ![512, 1408]⟩
abbrev S1x1x1024x1408 : Shape := ⟨4, ![1, 1, 1024, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 13
  | .vmem => 13
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x4x1408, .f32⟩
  | .hbm, ⟨6, _⟩ => ⟨S4x1024x1408, .f32⟩
  | .hbm, ⟨7, _⟩ => ⟨S4x1x1024x1408, .f32⟩
  | .hbm, ⟨8, _⟩ => ⟨S4x1x1024x1408, .bf16⟩
  | .hbm, ⟨9, _⟩ => ⟨S4096x5632, .bf16⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S4x1x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_36 : BitVec 32 := 0#32
  let v60 : BitVec 1 := Scalar.cmpi .ne v59 c0_i32_36
  v60

def k0_cond2 (i : grid0.Coords) : BitVec 1 :=
  let arg0 : BitVec 32 := BitVec.ofNat 32 (i 0).val
  let c0_i32_37 : BitVec 32 := 0#32
  let v61 : BitVec 1 := Scalar.cmpi .sgt arg0 c0_i32_37
  let v62 : BitVec 32 := Scalar.extui v61
  let c0_i32_38 : BitVec 32 := 0#32
  let v63 : BitVec 1 := Scalar.cmpi .ne v62 c0_i32_38
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormGradIdeal.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== MixerBwd.lean ====
abbrev S4096x2048 : Shape := ⟨2, ![4096, 2048]⟩
abbrev S4096x1024 : Shape := ⟨2, ![4096, 1024]⟩
abbrev S3x512 : Shape := ⟨2, ![3, 512]⟩
abbrev S4x128x128 : Shape := ⟨3, ![4, 128, 128]⟩
abbrev S1x512 : Shape := ⟨2, ![1, 512]⟩
abbrev S256x2048 : Shape := ⟨2, ![256, 2048]⟩
abbrev S16x2048 : Shape := ⟨2, ![16, 2048]⟩
abbrev S256x1024 : Shape := ⟨2, ![256, 1024]⟩
abbrev S16x1024 : Shape := ⟨2, ![16, 1024]⟩
abbrev S288x2048 : Shape := ⟨2, ![288, 2048]⟩
abbrev S288x1024 : Shape := ⟨2, ![288, 1024]⟩
abbrev S288x512 : Shape := ⟨2, ![288, 512]⟩
abbrev S256x512 : Shape := ⟨2, ![256, 512]⟩
abbrev S512 : Shape := ⟨1, ![512]⟩
abbrev S288x128 : Shape := ⟨2, ![288, 128]⟩
abbrev S288x1 : Shape := ⟨2, ![288, 1]⟩
abbrev S256x128 : Shape := ⟨2, ![256, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩

abbrev nBuf : Space → Nat
  | .hbm => 10
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S3x512, .f32⟩
  | .hbm, ⟨3, _⟩ => ⟨S4x128x128, .f32⟩
  | .hbm, ⟨4, _⟩ => ⟨S1x512, .f32⟩
  | .hbm, ⟨5, _⟩ => ⟨S4x128x128, .bf16⟩
  | .hbm, ⟨6, _⟩ => ⟨S4096x2048, .bf16⟩
  | .hbm, ⟨7, _⟩ => ⟨S3x512, .f32⟩
  | .hbm, ⟨8, _⟩ => ⟨S4x128x128, .f32⟩
  | .hbm, ⟨9, _⟩ => ⟨S1x512, .f32⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S256x1024, .f32⟩
  | .local _ .vmem, ⟨7, _⟩ => ⟨S256x1024, .f32⟩
  | .local _ .vmem, ⟨8, _⟩ => ⟨S16x1024, .f32⟩
  | .local _ .vmem, ⟨9, _⟩ => ⟨S16x1024, .f32⟩
  | .local _ .vmem, ⟨10, _⟩ => ⟨S3x512, .f32⟩
  | .local _ .vmem, ⟨11, _⟩ => ⟨S4x128x128, .bf16⟩
  | .local _ .vmem, ⟨12, _⟩ => ⟨S1x512, .f32⟩
  | .local _ .vmem, ⟨13, _⟩ => ⟨S256x2048, .bf16⟩
  | .local _ .vmem, ⟨14, _⟩ => ⟨S256x2048, .bf16⟩
  | .local _ .vmem, ⟨15, _⟩ => ⟨S3x512, .f32⟩
  | .local _ .vmem, ⟨16, _⟩ => ⟨S4x128x128, .f32⟩
  | .local _ .vmem, ⟨17, _⟩ => ⟨S1x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MixerGradIdeal.lean ====
abbrev S4096x2048 : Shape := ⟨2, ![4096, 2048]⟩
abbrev S4096x1024 : Shape := ⟨2, ![4096, 1024]⟩
abbrev S3x512 : Shape := ⟨2, ![3, 512]⟩
abbrev S4x128x128 : Shape := ⟨3, ![4, 128, 128]⟩
abbrev S1x512 : Shape := ⟨2, ![1, 512]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S512 : Shape := ⟨1, ![512]⟩
abbrev S4096x4x128 : Shape := ⟨3, ![4096, 4, 128]⟩
abbrev S4096x1x128 : Shape := ⟨3, ![4096, 1, 128]⟩
abbrev S4096x128 : Shape := ⟨2, ![4096, 128]⟩
abbrev S2x128 : Shape := ⟨2, ![2, 128]⟩
abbrev S4098x128 : Shape := ⟨2, ![4098, 128]⟩
abbrev S4096 : Shape := ⟨1, ![4096]⟩
abbrev S4096x1 : Shape := ⟨2, ![4096, 1]⟩
abbrev S4x128 : Shape := ⟨2, ![4, 128]⟩
abbrev S4100x128 : Shape := ⟨2, ![4100, 128]⟩
abbrev S8x128 : Shape := ⟨2, ![8, 128]⟩
abbrev S4104x128 : Shape := ⟨2, ![4104, 128]⟩
abbrev S16x128 : Shape := ⟨2, ![16, 128]⟩
abbrev S4112x128 : Shape := ⟨2, ![4112, 128]⟩
abbrev S4x128x4096 : Shape := ⟨3, ![4, 128, 4096]⟩
abbrev S4x4096x128 : Shape := ⟨3, ![4, 4096, 128]⟩

abbrev nBuf : Space → Nat
  | .hbm => 281
  | .vmem => 0
  | .smem => 0
  | _ => 0

abbrev hbmTy0_0 (i : Nat) : BufTy := match i % 128 with
  | 0 => ⟨S4096x2048, .f32⟩
  | 1 => ⟨S4096x1024, .f32⟩
  | 2 => ⟨S3x512, .f32⟩
  | 3 => ⟨S4x128x128, .f32⟩
  | 4 => ⟨S1x512, .f32⟩
  | 5 => ⟨S4096x512, .f32⟩
  | 6 => ⟨S4096x512, .f32⟩
  | 7 => ⟨S4096x512, .f32⟩
  | 8 => ⟨S4096x512, .f32⟩
  | 9 => ⟨S4096x512, .f32⟩
  | 10 => ⟨S_, .f32⟩
  | 11 => ⟨S2x512, .f32⟩
  | 12 => ⟨S4098x512, .f32⟩
  | 13 => ⟨S_, .f32⟩
  | 14 => ⟨S2x512, .f32⟩
  | 15 => ⟨S4096x512, .f32⟩
  | 16 => ⟨S1x512, .f32⟩
  | 17 => ⟨S512, .f32⟩
  | 18 => ⟨S1x512, .f32⟩
  | 19 => ⟨S4096x512, .f32⟩
  | 20 => ⟨S4096x512, .f32⟩
  | 21 => ⟨S4096x512, .f32⟩
  | 22 => ⟨S1x512, .f32⟩
  | 23 => ⟨S512, .f32⟩
  | 24 => ⟨S1x512, .f32⟩
  | 25 => ⟨S4096x512, .f32⟩
  | 26 => ⟨S4096x512, .f32⟩
  | 27 => ⟨S4096x512, .f32⟩
  | 28 => ⟨S4096x512, .f32⟩
  | 29 => ⟨S1x512, .f32⟩
  | 30 => ⟨S512, .f32⟩
  | 31 => ⟨S1x512, .f32⟩
  | 32 => ⟨S4096x512, .f32⟩
  | 33 => ⟨S4096x512, .f32⟩
  | 34 => ⟨S4096x512, .f32⟩
  | 35 => ⟨S4096x512, .f32⟩
  | 36 => ⟨S4096x4x128, .f32⟩
  | 37 => ⟨S4096x1x128, .f32⟩
  | 38 => ⟨S4096x128, .f32⟩
  | 39 => ⟨S_, .f32⟩
  | 40 => ⟨S_, .f32⟩
  | 41 => ⟨S4096x128, .f32⟩
  | 42 => ⟨S_, .f32⟩
  | 43 => ⟨S2x128, .f32⟩
  | 44 => ⟨S4098x128, .f32⟩
  | 45 => ⟨S_, .f32⟩
  | 46 => ⟨S2x128, .f32⟩
  | 47 => ⟨S4096x128, .f32⟩
  | 48 => ⟨S4096, .i32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S4096, .f32⟩
  | 56 => ⟨S4096x1, .f32⟩
  | 57 => ⟨S4096x128, .f32⟩
  | 58 => ⟨S4096x128, .f32⟩
  | 59 => ⟨S4096x128, .f32⟩
  | 60 => ⟨S4096x1x128, .f32⟩
  | 61 => ⟨S4096x128, .f32⟩
  | 62 => ⟨S_, .f32⟩
  | 63 => ⟨S_, .f32⟩
  | 64 => ⟨S4096x128, .f32⟩
  | 65 => ⟨S_, .f32⟩
  | 66 => ⟨S4x128, .f32⟩
  | 67 => ⟨S4100x128, .f32⟩
  | 68 => ⟨S_, .f32⟩
  | 69 => ⟨S4x128, .f32⟩
  | 70 => ⟨S4096x128, .f32⟩
  | 71 => ⟨S4096, .i32⟩
  | 72 => ⟨S_, .i32⟩
  | 73 => ⟨S4096, .i32⟩
  | 74 => ⟨S4096, .i32⟩
  | 75 => ⟨S_, .i32⟩
  | 76 => ⟨S4096, .i32⟩
  | 77 => ⟨S4096, .i32⟩
  | 78 => ⟨S4096, .f32⟩
  | 79 => ⟨S4096x1, .f32⟩
  | 80 => ⟨S4096x128, .f32⟩
  | 81 => ⟨S4096x128, .f32⟩
  | 82 => ⟨S4096x128, .f32⟩
  | 83 => ⟨S4096x1x128, .f32⟩
  | 84 => ⟨S4096x128, .f32⟩
  | 85 => ⟨S_, .f32⟩
  | 86 => ⟨S_, .f32⟩
  | 87 => ⟨S4096x128, .f32⟩
  | 88 => ⟨S_, .f32⟩
  | 89 => ⟨S8x128, .f32⟩
  | 90 => ⟨S4104x128, .f32⟩
  | 91 => ⟨S_, .f32⟩
  | 92 => ⟨S8x128, .f32⟩
  | 93 => ⟨S4096x128, .f32⟩
  | 94 => ⟨S4096, .i32⟩
  | 95 => ⟨S_, .i32⟩
  | 96 => ⟨S4096, .i32⟩
  | 97 => ⟨S4096, .i32⟩
  | 98 => ⟨S_, .i32⟩
  | 99 => ⟨S4096, .i32⟩
  | 100 => ⟨S4096, .i32⟩
  | 101 => ⟨S4096, .f32⟩
  | 102 => ⟨S4096x1, .f32⟩
  | 103 => ⟨S4096x128, .f32⟩
  | 104 => ⟨S4096x128, .f32⟩
  | 105 => ⟨S4096x128, .f32⟩
  | 106 => ⟨S4096x1x128, .f32⟩
  | 107 => ⟨S4096x128, .f32⟩
  | 108 => ⟨S_, .f32⟩
  | 109 => ⟨S_, .f32⟩
  | 110 => ⟨S4096x128, .f32⟩
  | 111 => ⟨S_, .f32⟩
  | 112 => ⟨S16x128, .f32⟩
  | 113 => ⟨S4112x128, .f32⟩
  | 114 => ⟨S_, .f32⟩
  | 115 => ⟨S16x128, .f32⟩
  | 116 => ⟨S4096x128, .f32⟩
  | 117 => ⟨S4096, .i32⟩
  | 118 => ⟨S_, .i32⟩
  | 119 => ⟨S4096, .i32⟩
  | 120 => ⟨S4096, .i32⟩
  | 121 => ⟨S_, .i32⟩
  | 122 => ⟨S4096, .i32⟩
  | 123 => ⟨S4096, .i32⟩
  | 124 => ⟨S4096, .f32⟩
  | 125 => ⟨S4096x1, .f32⟩
  | 126 => ⟨S4096x128, .f32⟩
  | 127 => ⟨S4096x128, .f32⟩
  | _ => ⟨S4096x2048, .f32⟩

abbrev hbmTy0_1 (i : Nat) : BufTy := match i % 128 with
  | 0 => ⟨S4096x128, .f32⟩
  | 1 => ⟨S4096x1x128, .f32⟩
  | 2 => ⟨S4096x1x128, .f32⟩
  | 3 => ⟨S4096x1x128, .f32⟩
  | 4 => ⟨S4096x1x128, .f32⟩
  | 5 => ⟨S4096x4x128, .f32⟩
  | 6 => ⟨S4096x4x128, .f32⟩
  | 7 => ⟨S4x128x4096, .f32⟩
  | 8 => ⟨S4096x4x128, .f32⟩
  | 9 => ⟨S4096x512, .f32⟩
  | 10 => ⟨S512, .f32⟩
  | 11 => ⟨S1x512, .f32⟩
  | 12 => ⟨S4096x512, .f32⟩
  | 13 => ⟨S4096x512, .f32⟩
  | 14 => ⟨S4096x1024, .f32⟩
  | 15 => ⟨S4096x512, .f32⟩
  | 16 => ⟨S4096x512, .f32⟩
  | 17 => ⟨S4096x512, .f32⟩
  | 18 => ⟨S_, .f32⟩
  | 19 => ⟨S512, .f32⟩
  | 20 => ⟨S1x512, .f32⟩
  | 21 => ⟨S4096x512, .f32⟩
  | 22 => ⟨S4096x512, .f32⟩
  | 23 => ⟨S_, .f32⟩
  | 24 => ⟨S512, .f32⟩
  | 25 => ⟨S1x512, .f32⟩
  | 26 => ⟨S4096x4x128, .f32⟩
  | 27 => ⟨S4x128x4096, .f32⟩
  | 28 => ⟨S4x4096x128, .f32⟩
  | 29 => ⟨S4096x4x128, .f32⟩
  | 30 => ⟨S4x128x128, .f32⟩
  | 31 => ⟨S4x128x128, .f32⟩
  | 32 => ⟨S4096x4x128, .f32⟩
  | 33 => ⟨S4096x1x128, .f32⟩
  | 34 => ⟨S4096x128, .f32⟩
  | 35 => ⟨S4096x1x128, .f32⟩
  | 36 => ⟨S4096x128, .f32⟩
  | 37 => ⟨S4096x1x128, .f32⟩
  | 38 => ⟨S4096x128, .f32⟩
  | 39 => ⟨S4096x1x128, .f32⟩
  | 40 => ⟨S4096x128, .f32⟩
  | 41 => ⟨S4096x128, .f32⟩
  | 42 => ⟨S4096x128, .f32⟩
  | 43 => ⟨S4096x128, .f32⟩
  | 44 => ⟨S_, .f32⟩
  | 45 => ⟨S4112x128, .f32⟩
  | 46 => ⟨S16x128, .f32⟩
  | 47 => ⟨S4096x128, .f32⟩
  | 48 => ⟨S4096x128, .f32⟩
  | 49 => ⟨S_, .f32⟩
  | 50 => ⟨S_, .f32⟩
  | 51 => ⟨S4096x128, .f32⟩
  | 52 => ⟨S4096x1x128, .f32⟩
  | 53 => ⟨S_, .f32⟩
  | 54 => ⟨S4096x4x128, .f32⟩
  | 55 => ⟨S4096x4x128, .f32⟩
  | 56 => ⟨S4096x128, .f32⟩
  | 57 => ⟨S4096x128, .f32⟩
  | 58 => ⟨S4096x128, .f32⟩
  | 59 => ⟨S_, .f32⟩
  | 60 => ⟨S4104x128, .f32⟩
  | 61 => ⟨S8x128, .f32⟩
  | 62 => ⟨S4096x128, .f32⟩
  | 63 => ⟨S4096x128, .f32⟩
  | 64 => ⟨S_, .f32⟩
  | 65 => ⟨S_, .f32⟩
  | 66 => ⟨S4096x128, .f32⟩
  | 67 => ⟨S4096x1x128, .f32⟩
  | 68 => ⟨S_, .f32⟩
  | 69 => ⟨S4096x4x128, .f32⟩
  | 70 => ⟨S4096x4x128, .f32⟩
  | 71 => ⟨S4096x128, .f32⟩
  | 72 => ⟨S4096x128, .f32⟩
  | 73 => ⟨S4096x128, .f32⟩
  | 74 => ⟨S_, .f32⟩
  | 75 => ⟨S4100x128, .f32⟩
  | 76 => ⟨S4x128, .f32⟩
  | 77 => ⟨S4096x128, .f32⟩
  | 78 => ⟨S4096x128, .f32⟩
  | 79 => ⟨S_, .f32⟩
  | 80 => ⟨S_, .f32⟩
  | 81 => ⟨S4096x128, .f32⟩
  | 82 => ⟨S4096x1x128, .f32⟩
  | 83 => ⟨S_, .f32⟩
  | 84 => ⟨S4096x4x128, .f32⟩
  | 85 => ⟨S4096x4x128, .f32⟩
  | 86 => ⟨S4096x128, .f32⟩
  | 87 => ⟨S4096x128, .f32⟩
  | 88 => ⟨S4096x128, .f32⟩
  | 89 => ⟨S_, .f32⟩
  | 90 => ⟨S4098x128, .f32⟩
  | 91 => ⟨S2x128, .f32⟩
  | 92 => ⟨S4096x128, .f32⟩
  | 93 => ⟨S4096x128, .f32⟩
  | 94 => ⟨S_, .f32⟩
  | 95 => ⟨S_, .f32⟩
  | 96 => ⟨S4096x128, .f32⟩
  | 97 => ⟨S4096x1x128, .f32⟩
  | 98 => ⟨S_, .f32⟩
  | 99 => ⟨S4096x4x128, .f32⟩
  | 100 => ⟨S4096x4x128, .f32⟩
  | 101 => ⟨S4096x512, .f32⟩
  | 102 => ⟨S4096x512, .f32⟩
  | 103 => ⟨S4096x512, .f32⟩
  | 104 => ⟨S4096x512, .f32⟩
  | 105 => ⟨S_, .f32⟩
  | 106 => ⟨S512, .f32⟩
  | 107 => ⟨S1x512, .f32⟩
  | 108 => ⟨S4096x512, .f32⟩
  | 109 => ⟨S4096x512, .f32⟩
  | 110 => ⟨S_, .f32⟩
  | 111 => ⟨S512, .f32⟩
  | 112 => ⟨S1x512, .f32⟩
  | 113 => ⟨S_, .f32⟩
  | 114 => ⟨S3x512, .f32⟩
  | 115 => ⟨S_, .f32⟩
  | 116 => ⟨S4098x512, .f32⟩
  | 117 => ⟨S4096x512, .f32⟩
  | 118 => ⟨S_, .f32⟩
  | 119 => ⟨S512, .f32⟩
  | 120 => ⟨S1x512, .f32⟩
  | 121 => ⟨S4096x512, .f32⟩
  | 122 => ⟨S4096x512, .f32⟩
  | 123 => ⟨S_, .f32⟩
  | 124 => ⟨S512, .f32⟩
  | 125 => ⟨S1x512, .f32⟩
  | 126 => ⟨S_, .f32⟩
  | 127 => ⟨S3x512, .f32⟩
  | _ => ⟨S4096x2048, .f32⟩

abbrev hbmTy0_2 (i : Nat) : BufTy := match i % 128 with
  | 0 => ⟨S3x512, .f32⟩
  | 1 => ⟨S_, .f32⟩
  | 2 => ⟨S4098x512, .f32⟩
  | 3 => ⟨S4098x512, .f32⟩
  | 4 => ⟨S4096x512, .f32⟩
  | 5 => ⟨S_, .f32⟩
  | 6 => ⟨S512, .f32⟩
  | 7 => ⟨S1x512, .f32⟩
  | 8 => ⟨S4096x512, .f32⟩
  | 9 => ⟨S4096x512, .f32⟩
  | 10 => ⟨S_, .f32⟩
  | 11 => ⟨S512, .f32⟩
  | 12 => ⟨S1x512, .f32⟩
  | 13 => ⟨S_, .f32⟩
  | 14 => ⟨S3x512, .f32⟩
  | 15 => ⟨S3x512, .f32⟩
  | 16 => ⟨S_, .f32⟩
  | 17 => ⟨S4098x512, .f32⟩
  | 18 => ⟨S4098x512, .f32⟩
  | 19 => ⟨S2x512, .f32⟩
  | 20 => ⟨S4096x512, .f32⟩
  | 21 => ⟨S4096x512, .f32⟩
  | 22 => ⟨S4096x512, .f32⟩
  | 23 => ⟨S4096x2048, .f32⟩
  | 24 => ⟨S4096x2048, .bf16⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_call0_cst : Ref sig .tc := ⟨.hbm, 39, rfl⟩
abbrev main_call0_call0_v0 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_v38 : Ref sig .tc := ⟨.hbm, 50, rfl⟩
abbrev main_v39 : Ref sig .tc := ⟨.hbm, 51, rfl⟩
abbrev main_c_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_call1_call0_cst : Ref sig .tc := ⟨.hbm, 62, rfl⟩
abbrev main_call1_call0_v0 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_6 : Ref sig .tc := ⟨.hbm, 72, rfl⟩
abbrev main_v55 : Ref sig .tc := ⟨.hbm, 73, rfl⟩
abbrev main_v56 : Ref sig .tc := ⟨.hbm, 74, rfl⟩
abbrev main_c_7 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_call2_call0_cst : Ref sig .tc := ⟨.hbm, 85, rfl⟩
abbrev main_call2_call0_v0 : Ref sig .tc := ⟨.hbm, 86, rfl⟩
abbrev main_v66 : Ref sig .tc := ⟨.hbm, 87, rfl⟩
abbrev main_cst_8 : Ref sig .tc := ⟨.hbm, 88, rfl⟩
abbrev main_v67 : Ref sig .tc := ⟨.hbm, 89, rfl⟩
abbrev main_v68 : Ref sig .tc := ⟨.hbm, 90, rfl⟩
abbrev main_cst_9 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_10 : Ref sig .tc := ⟨.hbm, 95, rfl⟩
abbrev main_v72 : Ref sig .tc := ⟨.hbm, 96, rfl⟩
abbrev main_v73 : Ref sig .tc := ⟨.hbm, 97, rfl⟩
abbrev main_c_11 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_call3_call0_cst : Ref sig .tc := ⟨.hbm, 108, rfl⟩
abbrev main_call3_call0_v0 : Ref sig .tc := ⟨.hbm, 109, rfl⟩
abbrev main_v83 : Ref sig .tc := ⟨.hbm, 110, rfl⟩
abbrev main_cst_12 : Ref sig .tc := ⟨.hbm, 111, rfl⟩
abbrev main_v84 : Ref sig .tc := ⟨.hbm, 112, rfl⟩
abbrev main_v85 : Ref sig .tc := ⟨.hbm, 113, rfl⟩
abbrev main_cst_13 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_14 : Ref sig .tc := ⟨.hbm, 118, rfl⟩
abbrev main_v89 : Ref sig .tc := ⟨.hbm, 119, rfl⟩
abbrev main_v90 : Ref sig .tc := ⟨.hbm, 120, rfl⟩
abbrev main_c_15 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_16 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_17 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_18 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_call4_call0_cst : Ref sig .tc := ⟨.hbm, 177, rfl⟩
abbrev main_call4_call0_v0 : Ref sig .tc := ⟨.hbm, 178, rfl⟩
abbrev main_v143 : Ref sig .tc := ⟨.hbm, 179, rfl⟩
abbrev main_v144 : Ref sig .tc := ⟨.hbm, 180, rfl⟩
abbrev main_cst_19 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_20 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_call5_call0_cst : Ref sig .tc := ⟨.hbm, 192, rfl⟩
abbrev main_call5_call0_v0 : Ref sig .tc := ⟨.hbm, 193, rfl⟩
abbrev main_v154 : Ref sig .tc := ⟨.hbm, 194, rfl⟩
abbrev main_v155 : Ref sig .tc := ⟨.hbm, 195, rfl⟩
abbrev main_cst_21 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_cst_22 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_call6_call0_cst : Ref sig .tc := ⟨.hbm, 207, rfl⟩
abbrev main_call6_call0_v0 : Ref sig .tc := ⟨.hbm, 208, rfl⟩
abbrev main_v165 : Ref sig .tc := ⟨.hbm, 209, rfl⟩
abbrev main_v166 : Ref sig .tc := ⟨.hbm, 210, rfl⟩
abbrev main_cst_23 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_cst_24 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_call7_call0_cst : Ref sig .tc := ⟨.hbm, 222, rfl⟩
abbrev main_call7_call0_v0 : Ref sig .tc := ⟨.hbm, 223, rfl⟩
abbrev main_v176 : Ref sig .tc := ⟨.hbm, 224, rfl⟩
abbrev main_v177 : Ref sig .tc := ⟨.hbm, 225, rfl⟩
abbrev main_cst_25 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_cst_26 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_cst_27 : Ref sig .tc := ⟨.hbm, 238, rfl⟩
abbrev main_v188 : Ref sig .tc := ⟨.hbm, 239, rfl⟩
abbrev main_v189 : Ref sig .tc := ⟨.hbm, 240, rfl⟩
abbrev main_cst_28 : Ref sig .tc := ⟨.hbm, 241, rfl⟩
abbrev main_v190 : Ref sig .tc := ⟨.hbm, 242, rfl⟩
abbrev main_cst_29 : Ref sig .tc := ⟨.hbm, 243, rfl⟩
abbrev main_v191 : Ref sig .tc := ⟨.hbm, 244, rfl⟩
abbrev main_v192 : Ref sig .tc := ⟨.hbm, 245, rfl⟩
abbrev main_cst_30 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_cst_31 : Ref sig .tc := ⟨.hbm, 251, rfl⟩
abbrev main_v197 : Ref sig .tc := ⟨.hbm, 252, rfl⟩
abbrev main_v198 : Ref sig .tc := ⟨.hbm, 253, rfl⟩
abbrev main_cst_32 : Ref sig .tc := ⟨.hbm, 254, rfl⟩
abbrev main_v199 : Ref sig .tc := ⟨.hbm, 255, rfl⟩
abbrev main_v200 : Ref sig .tc := ⟨.hbm, 256, rfl⟩
abbrev main_cst_33 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_cst_34 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_cst_35 : Ref sig .tc := ⟨.hbm, 266, rfl⟩
abbrev main_v208 : Ref sig .tc := ⟨.hbm, 267, rfl⟩
abbrev main_v209 : Ref sig .tc := ⟨.hbm, 268, rfl⟩
abbrev main_cst_36 : Ref sig .tc := ⟨.hbm, 269, rfl⟩
abbrev main_v210 : Ref sig .tc := ⟨.hbm, 270, rfl⟩
abbrev main_v211 : Ref sig .tc := ⟨.hbm, 271, rfl⟩
abbrev main_cst_37 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩

abbrev nD : Nat := 1
abbrev τ : Topo := Topo.v7x

variable {F : FTy → Type} [FloatOps F]
-- ==== GluBwd.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩
abbrev S256x2816 : Shape := ⟨2, ![256, 2816]⟩
abbrev S16x2816 : Shape := ⟨2, ![16, 2816]⟩
abbrev S256x5632 : Shape := ⟨2, ![256, 5632]⟩
abbrev S256x1408 : Shape := ⟨2, ![256, 1408]⟩
abbrev S16x1408 : Shape := ⟨2, ![16, 1408]⟩
abbrev S272x1408 : Shape := ⟨2, ![272, 1408]⟩
abbrev S3x1408 : Shape := ⟨2, ![3, 1408]⟩
abbrev S1x1408 : Shape := ⟨2, ![1, 1408]⟩
abbrev S1408 : Shape := ⟨1, ![1408]⟩

abbrev nBuf : Space → Nat
  | .hbm => 39
  | .vmem => 21
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S4096x2816, .f32⟩
  | .hbm, ⟨4, _⟩ => ⟨S_, .f32⟩
  | .hbm, ⟨5, _⟩ => ⟨S2x5632, .f32⟩
  | .hbm, ⟨6, _⟩ => ⟨S4098x5632, .f32⟩
  | .hbm, ⟨7, _⟩ => ⟨S4096x5632, .f32⟩
  | .hbm, ⟨8, _⟩ => ⟨S1x5632, .f32⟩
  | .hbm, ⟨9, _⟩ => ⟨S5632, .f32⟩
  | .hbm, ⟨10, _⟩ => ⟨S1x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S1x5632, .f32⟩
  | .hbm, ⟨15, _⟩ => ⟨S5632, .f32⟩
  | .hbm, ⟨16, _⟩ => ⟨S1x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .bf16⟩
  | .hbm, ⟨30, _⟩ => ⟨S4096x5632, .bf16⟩
  | .hbm, ⟨31, _⟩ => ⟨S4096x2816, .bf16⟩
  | .hbm, ⟨32, _⟩ => ⟨S4096x2816, .bf16⟩
  | .hbm, ⟨33, _⟩ => ⟨S4096x2816, .bf16⟩
  | .hbm, ⟨34, _⟩ => ⟨S4096x2816, .bf16⟩
  | .hbm, ⟨35, _⟩ => ⟨S4096x2816, .bf16⟩
  | .hbm, ⟨36, _⟩ => ⟨S4096x5632, .bf16⟩
  | .hbm, ⟨37, _⟩ => ⟨S3x5632, .f32⟩
  | .hbm, ⟨38, _⟩ => ⟨S1x5632, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S16x2816, .bf16⟩
  | .local _ .vmem, ⟨7, _⟩ => ⟨S16x2816, .bf16⟩
  | .local _ .vmem, ⟨8, _⟩ => ⟨S256x2816, .bf16⟩
  | .local _ .vmem, ⟨9, _⟩ => ⟨S256x2816, .bf16⟩
  | .local _ .vmem, ⟨10, _⟩ => ⟨S16x2816, .bf16⟩
  | .local _ .vmem, ⟨11, _⟩ => ⟨S16x2816, .bf16⟩
  | .local _ .vmem, ⟨12, _⟩ => ⟨S256x2816, .bf16⟩
  | .local _ .vmem, ⟨13, _⟩ => ⟨S256x2816, .bf16⟩
  | .local _ .vmem, ⟨14, _⟩ => ⟨S16x2816, .bf16⟩
  | .local _ .vmem, ⟨15, _⟩ => ⟨S16x2816, .bf16⟩
  | .local _ .vmem, ⟨16, _⟩ => ⟨S3x5632, .f32⟩
  | .local _ .vmem, ⟨17, _⟩ => ⟨S256x5632, .bf16⟩
  | .local _ .vmem, ⟨18, _⟩ => ⟨S256x5632, .bf16⟩
  | .local _ .vmem, ⟨19, _⟩ => ⟨S3x5632, .f32⟩
  | .local _ .vmem, ⟨20, _⟩ => ⟨S1x5632, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31_0 : Ref sig .tc := ⟨.hbm, 36, rfl⟩
abbrev main_v31_1 : Ref sig .tc := ⟨.hbm, 37, rfl⟩
abbrev main_v31_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GluGradIdeal.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩

abbrev nBuf : Space → Nat
  | .hbm => 103
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S4096x2816, .f32⟩
  | .hbm, ⟨4, _⟩ => ⟨S_, .f32⟩
  | .hbm, ⟨5, _⟩ => ⟨S2x5632, .f32⟩
  | .hbm, ⟨6, _⟩ => ⟨S4098x5632, .f32⟩
  | .hbm, ⟨7, _⟩ => ⟨S_, .f32⟩
  | .hbm, ⟨8, _⟩ => ⟨S2x5632, .f32⟩
  | .hbm, ⟨9, _⟩ => ⟨S4096x5632, .f32⟩
  | .hbm, ⟨10, _⟩ => ⟨S1x5632, .f32⟩
  | .hbm, ⟨11, _⟩ => ⟨S5632, .f32⟩
  | .hbm, ⟨12, _⟩ => ⟨S1x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x5632, .f32⟩
  | .hbm, ⟨54, _⟩ => ⟨S_, .f32⟩
  | .hbm, ⟨55, _⟩ => ⟨S5632, .f32⟩
  | .hbm, ⟨56, _⟩ => ⟨S1x5632, .f32⟩
  | .hbm, ⟨57, _⟩ => ⟨S4096x5632, .f32⟩
  | .hbm, ⟨58, _⟩ => ⟨S_, .f32⟩
  | .hbm, ⟨59, _⟩ => ⟨S5632, .f32⟩
  | .hbm, ⟨60, _⟩ => ⟨S1x5632, .f32⟩
  | .hbm, ⟨61, _⟩ => ⟨S4096x5632, .f32⟩
  | .hbm, ⟨62, _⟩ => ⟨S4096x5632, .f32⟩
  | .hbm, ⟨63, _⟩ => ⟨S_, .f32⟩
  | .hbm, ⟨64, _⟩ => ⟨S5632, .f32⟩
  | .hbm, ⟨65, _⟩ => ⟨S1x5632, .f32⟩
  | .hbm, ⟨66, _⟩ => ⟨S_, .f32⟩
  | .hbm, ⟨67, _⟩ => ⟨S3x5632, .f32⟩
  | .hbm, ⟨68, _⟩ => ⟨S_, .f32⟩
  | .hbm, ⟨69, _⟩ => ⟨S4098x5632, .f32⟩
  | .hbm, ⟨70, _⟩ => ⟨S4096x5632, .f32⟩
  | .hbm, ⟨71, _⟩ => ⟨S_, .f32⟩
  | .hbm, ⟨72, _⟩ => ⟨S5632, .f32⟩
  | .hbm, ⟨73, _⟩ => ⟨S1x5632, .f32⟩
  | .hbm, ⟨74, _⟩ => ⟨S4096x5632, .f32⟩
  | .hbm, ⟨75, _⟩ => ⟨S4096x5632, .f32⟩
  | .hbm, ⟨76, _⟩ => ⟨S_, .f32⟩
  | .hbm, ⟨77, _⟩ => ⟨S5632, .f32⟩
  | .hbm, ⟨78, _⟩ => ⟨S1x5632, .f32⟩
  | .hbm, ⟨79, _⟩ => ⟨S_, .f32⟩
  | .hbm, ⟨80, _⟩ => ⟨S3x5632, .f32⟩
  | .hbm, ⟨81, _⟩ => ⟨S3x5632, .f32⟩
  | .hbm, ⟨82, _⟩ => ⟨S_, .f32⟩
  | .hbm, ⟨83, _⟩ => ⟨S4098x5632, .f32⟩
  | .hbm, ⟨84, _⟩ => ⟨S4098x5632, .f32⟩
  | .hbm, ⟨85, _⟩ => ⟨S4096x5632, .f32⟩
  | .hbm, ⟨86, _⟩ => ⟨S_, .f32⟩
  | .hbm, ⟨87, _⟩ => ⟨S5632, .f32⟩
  | .hbm, ⟨88, _⟩ => ⟨S1x5632, .f32⟩
  | .hbm, ⟨89, _⟩ => ⟨S4096x5632, .f32⟩
  | .hbm, ⟨90, _⟩ => ⟨S4096x5632, .f32⟩
  | .hbm, ⟨91, _⟩ => ⟨S_, .f32⟩
  | .hbm, ⟨92, _⟩ => ⟨S5632, .f32⟩
  | .hbm, ⟨93, _⟩ => ⟨S1x5632, .f32⟩
  | .hbm, ⟨94, _⟩ => ⟨S_, .f32⟩
  | .hbm, ⟨95, _⟩ => ⟨S3x5632, .f32⟩
  | .hbm, ⟨96, _⟩ => ⟨S3x5632, .f32⟩
  | .hbm, ⟨97, _⟩ => ⟨S_, .f32⟩
  | .hbm, ⟨98, _⟩ => ⟨S4098x5632, .f32⟩
  | .hbm, ⟨99, _⟩ => ⟨S4098x5632, .f32⟩
  | .hbm, ⟨100, _⟩ => ⟨S2x5632, .f32⟩
  | .hbm, ⟨101, _⟩ => ⟨S4096x5632, .f32⟩
  | .hbm, ⟨102, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v27_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v27_1 : Ref sig .tc := ⟨.hbm, 44, rfl⟩
abbrev main_v27_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v31 : Ref sig .tc := ⟨.hbm, 52, rfl⟩
abbrev main_v32 : Ref sig .tc := ⟨.hbm, 53, rfl⟩
abbrev main_cst_1 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩

abbrev nD : Nat := 1
abbrev τ : Topo := Topo.v7x

variable {F : FTy → Type} [FloatOps F]
-- ==== QkNormBwd.lean ====
abbrev S4096x3072 : Shape := ⟨2, ![4096, 3072]⟩
abbrev S4096x1024 : Shape := ⟨2, ![4096, 1024]⟩
abbrev S1x64 : Shape := ⟨2, ![1, 64]⟩
abbrev S64 : Shape := ⟨1, ![64]⟩
abbrev S16x64 : Shape := ⟨2, ![16, 64]⟩
abbrev S1024 : Shape := ⟨1, ![1024]⟩
abbrev S_ : Shape := ⟨0, ![]⟩
abbrev S1x1024 : Shape := ⟨2, ![1, 1024]⟩
abbrev S3x1024 : Shape := ⟨2, ![3, 1024]⟩
abbrev S3x1x1024 : Shape := ⟨3, ![3, 1, 1024]⟩
abbrev S256x256 : Shape := ⟨2, ![256, 256]⟩
abbrev S256x3072 : Shape := ⟨2, ![256, 3072]⟩
abbrev S256x1024 : Shape := ⟨2, ![256, 1024]⟩
abbrev S1x1x1024 : Shape := ⟨3, ![1, 1, 1024]⟩

abbrev nBuf : Space → Nat
  | .hbm => 38
  | .vmem => 13
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x64, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S16x64, .f32⟩
  | .hbm, ⟨9, _⟩ => ⟨S1024, .f32⟩
  | .hbm, ⟨10, _⟩ => ⟨S64, .f32⟩
  | .hbm, ⟨11, _⟩ => ⟨S1x64, .f32⟩
  | .hbm, ⟨12, _⟩ => ⟨S16x64, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S3x1024, .f32⟩
  | .hbm, ⟨20, _⟩ => ⟨S3x1x1024, .f32⟩
  | .hbm, ⟨21, _⟩ => ⟨S256x256, .i32⟩
  | .hbm, ⟨22, _⟩ => ⟨S_, .i32⟩
  | .hbm, ⟨23, _⟩ => ⟨S256x256, .i32⟩
  | .hbm, ⟨24, _⟩ => ⟨S256x256, .i32⟩
  | .hbm, ⟨25, _⟩ => ⟨S256x256, .i32⟩
  | .hbm, ⟨26, _⟩ => ⟨S_, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S_, .f32⟩
  | .hbm, ⟨31, _⟩ => ⟨S256x256, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S256x256, .bf16⟩
  | .hbm, ⟨36, _⟩ => ⟨S4096x3072, .bf16⟩
  | .hbm, ⟨37, _⟩ => ⟨S3x1x1024, .f32⟩
  | .local _ .vmem, ⟨0, _⟩ => ⟨S256x3072, .f32⟩
  | .local _ .vmem, ⟨1, _⟩ => ⟨S256x3072, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S3x1x1024, .f32⟩
  | .local _ .vmem, ⟨9, _⟩ => ⟨S256x256, .bf16⟩
  | .local _ .vmem, ⟨10, _⟩ => ⟨S256x3072, .bf16⟩
  | .local _ .vmem, ⟨11, _⟩ => ⟨S256x3072, .bf16⟩
  | .local _ .vmem, ⟨12, _⟩ => ⟨S3x1x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== QkNormGradIdeal.lean ====
abbrev S4096x3072 : Shape := ⟨2, ![4096, 3072]⟩
abbrev S4096x1024 : Shape := ⟨2, ![4096, 1024]⟩
abbrev S1x64 : Shape := ⟨2, ![1, 64]⟩
abbrev S1x1x1x64 : Shape := ⟨4, ![1, 1, 1, 64]⟩
abbrev S16x1x1x64 : Shape := ⟨4, ![16, 1, 1, 64]⟩
abbrev S16x64 : Shape := ⟨2, ![16, 64]⟩
abbrev S_ : Shape := ⟨0, ![]⟩
abbrev S1x16x64 : Shape := ⟨3, ![1, 16, 64]⟩
abbrev S3x16x64 : Shape := ⟨3, ![3, 16, 64]⟩
abbrev S4096x3x16x64 : Shape := ⟨4, ![4096, 3, 16, 64]⟩
abbrev S4096x1x16x64 : Shape := ⟨4, ![4096, 1, 16, 64]⟩
abbrev S4096x16x64 : Shape := ⟨3, ![4096, 16, 64]⟩
abbrev S4096x16 : Shape := ⟨2, ![4096, 16]⟩
abbrev S4096x16x1 : Shape := ⟨3, ![4096, 16, 1]⟩
abbrev S3x1x1024 : Shape := ⟨3, ![3, 1, 1024]⟩

abbrev nBuf : Space → Nat
  | .hbm => 143
  | .vmem => 0
  | .smem => 0
  | _ => 0

abbrev hbmTy0_0 (i : Nat) : BufTy := match i % 128 with
  | 0 => ⟨S4096x3072, .f32⟩
  | 1 => ⟨S4096x1024, .f32⟩
  | 2 => ⟨S4096x1024, .f32⟩
  | 3 => ⟨S4096x1024, .f32⟩
  | 4 => ⟨S1x64, .f32⟩
  | 5 => ⟨S1x64, .f32⟩
  | 6 => ⟨S1x1x1x64, .f32⟩
  | 7 => ⟨S16x1x1x64, .f32⟩
  | 8 => ⟨S16x64, .f32⟩
  | 9 => ⟨S1x1x1x64, .f32⟩
  | 10 => ⟨S16x1x1x64, .f32⟩
  | 11 => ⟨S16x64, .f32⟩
  | 12 => ⟨S_, .f32⟩
  | 13 => ⟨S16x64, .f32⟩
  | 14 => ⟨S1x16x64, .f32⟩
  | 15 => ⟨S1x16x64, .f32⟩
  | 16 => ⟨S1x16x64, .f32⟩
  | 17 => ⟨S3x16x64, .f32⟩
  | 18 => ⟨S4096x3x16x64, .f32⟩
  | 19 => ⟨S4096x1x16x64, .f32⟩
  | 20 => ⟨S4096x16x64, .f32⟩
  | 21 => ⟨S1x16x64, .f32⟩
  | 22 => ⟨S16x64, .f32⟩
  | 23 => ⟨S4096x16x64, .f32⟩
  | 24 => ⟨S_, .f32⟩
  | 25 => ⟨S4096x16, .f32⟩
  | 26 => ⟨S4096x16x1, .f32⟩
  | 27 => ⟨S_, .f32⟩
  | 28 => ⟨S4096x16x1, .f32⟩
  | 29 => ⟨S4096x16x1, .f32⟩
  | 30 => ⟨S_, .f32⟩
  | 31 => ⟨S4096x16x1, .f32⟩
  | 32 => ⟨S4096x16x1, .f32⟩
  | 33 => ⟨S4096x16x1, .f32⟩
  | 34 => ⟨S4096x16x1, .f32⟩
  | 35 => ⟨S_, .f32⟩
  | 36 => ⟨S4096x16x1, .f32⟩
  | 37 => ⟨S4096x16x1, .f32⟩
  | 38 => ⟨S4096x16x64, .f32⟩
  | 39 => ⟨S4096x16x64, .f32⟩
  | 40 => ⟨S1x16x64, .f32⟩
  | 41 => ⟨S4096x16x64, .f32⟩
  | 42 => ⟨S4096x16x64, .f32⟩
  | 43 => ⟨S4096x1x16x64, .f32⟩
  | 44 => ⟨S4096x16x64, .f32⟩
  | 45 => ⟨S1x16x64, .f32⟩
  | 46 => ⟨S16x64, .f32⟩
  | 47 => ⟨S4096x16x64, .f32⟩
  | 48 => ⟨S_, .f32⟩
  | 49 => ⟨S4096x16, .f32⟩
  | 50 => ⟨S4096x16x1, .f32⟩
  | 51 => ⟨S_, .f32⟩
  | 52 => ⟨S4096x16x1, .f32⟩
  | 53 => ⟨S4096x16x1, .f32⟩
  | 54 => ⟨S_, .f32⟩
  | 55 => ⟨S4096x16x1, .f32⟩
  | 56 => ⟨S4096x16x1, .f32⟩
  | 57 => ⟨S4096x16x1, .f32⟩
  | 58 => ⟨S4096x16x1, .f32⟩
  | 59 => ⟨S_, .f32⟩
  | 60 => ⟨S4096x16x1, .f32⟩
  | 61 => ⟨S4096x16x1, .f32⟩
  | 62 => ⟨S4096x16x64, .f32⟩
  | 63 => ⟨S4096x16x64, .f32⟩
  | 64 => ⟨S1x16x64, .f32⟩
  | 65 => ⟨S4096x16x64, .f32⟩
  | 66 => ⟨S4096x16x64, .f32⟩
  | 67 => ⟨S4096x1x16x64, .f32⟩
  | 68 => ⟨S4096x16x64, .f32⟩
  | 69 => ⟨S4096x16x64, .f32⟩
  | 70 => ⟨S4096x16x64, .f32⟩
  | 71 => ⟨S4096x16x64, .f32⟩
  | 72 => ⟨S4096x1x16x64, .f32⟩
  | 73 => ⟨S_, .f32⟩
  | 74 => ⟨S4096x3x16x64, .f32⟩
  | 75 => ⟨S4096x16x64, .f32⟩
  | 76 => ⟨S_, .f32⟩
  | 77 => ⟨S16x64, .f32⟩
  | 78 => ⟨S1x16x64, .f32⟩
  | 79 => ⟨S4096x16x64, .f32⟩
  | 80 => ⟨S4096x16x64, .f32⟩
  | 81 => ⟨S_, .f32⟩
  | 82 => ⟨S16x64, .f32⟩
  | 83 => ⟨S4096x16x64, .f32⟩
  | 84 => ⟨S_, .f32⟩
  | 85 => ⟨S4096x16, .f32⟩
  | 86 => ⟨S4096x16x1, .f32⟩
  | 87 => ⟨S4096x16x64, .f32⟩
  | 88 => ⟨S4096x16x64, .f32⟩
  | 89 => ⟨S4096x16x1, .f32⟩
  | 90 => ⟨S_, .f32⟩
  | 91 => ⟨S4096x16x1, .f32⟩
  | 92 => ⟨S4096x16x1, .f32⟩
  | 93 => ⟨S_, .f32⟩
  | 94 => ⟨S4096x16, .f32⟩
  | 95 => ⟨S4096x16x64, .f32⟩
  | 96 => ⟨S4096x16x64, .f32⟩
  | 97 => ⟨S4096x16x64, .f32⟩
  | 98 => ⟨S4096x16x64, .f32⟩
  | 99 => ⟨S4096x16x64, .f32⟩
  | 100 => ⟨S1x16x64, .f32⟩
  | 101 => ⟨S_, .f32⟩
  | 102 => ⟨S3x16x64, .f32⟩
  | 103 => ⟨S4096x1x16x64, .f32⟩
  | 104 => ⟨S_, .f32⟩
  | 105 => ⟨S4096x3x16x64, .f32⟩
  | 106 => ⟨S4096x3x16x64, .f32⟩
  | 107 => ⟨S4096x16x64, .f32⟩
  | 108 => ⟨S_, .f32⟩
  | 109 => ⟨S16x64, .f32⟩
  | 110 => ⟨S1x16x64, .f32⟩
  | 111 => ⟨S4096x16x64, .f32⟩
  | 112 => ⟨S4096x16x64, .f32⟩
  | 113 => ⟨S_, .f32⟩
  | 114 => ⟨S16x64, .f32⟩
  | 115 => ⟨S4096x16x64, .f32⟩
  | 116 => ⟨S_, .f32⟩
  | 117 => ⟨S4096x16, .f32⟩
  | 118 => ⟨S4096x16x1, .f32⟩
  | 119 => ⟨S4096x16x64, .f32⟩
  | 120 => ⟨S4096x16x64, .f32⟩
  | 121 => ⟨S4096x16x1, .f32⟩
  | 122 => ⟨S_, .f32⟩
  | 123 => ⟨S4096x16x1, .f32⟩
  | 124 => ⟨S4096x16x1, .f32⟩
  | 125 => ⟨S_, .f32⟩
  | 126 => ⟨S4096x16, .f32⟩
  | 127 => ⟨S4096x16x64, .f32⟩
  | _ => ⟨S4096x3072, .f32⟩

abbrev hbmTy0_1 (i : Nat) : BufTy := match i % 128 with
  | 0 => ⟨S4096x16x64, .f32⟩
  | 1 => ⟨S4096x16x64, .f32⟩
  | 2 => ⟨S4096x16x64, .f32⟩
  | 3 => ⟨S4096x16x64, .f32⟩
  | 4 => ⟨S1x16x64, .f32⟩
  | 5 => ⟨S_, .f32⟩
  | 6 => ⟨S3x16x64, .f32⟩
  | 7 => ⟨S3x16x64, .f32⟩
  | 8 => ⟨S4096x1x16x64, .f32⟩
  | 9 => ⟨S_, .f32⟩
  | 10 => ⟨S4096x3x16x64, .f32⟩
  | 11 => ⟨S4096x3x16x64, .f32⟩
  | 12 => ⟨S4096x3072, .f32⟩
  | 13 => ⟨S4096x3072, .bf16⟩
  | 14 => ⟨S3x1x1024, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_cst_11 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_12 : Ref sig .tc := ⟨.hbm, 90, rfl⟩
abbrev main_v71 : Ref sig .tc := ⟨.hbm, 91, rfl⟩
abbrev main_v72 : Ref sig .tc := ⟨.hbm, 92, rfl⟩
abbrev main_cst_13 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_14 : Ref sig .tc := ⟨.hbm, 101, rfl⟩
abbrev main_v80 : Ref sig .tc := ⟨.hbm, 102, rfl⟩
abbrev main_v81 : Ref sig .tc := ⟨.hbm, 103, rfl⟩
abbrev main_cst_15 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_16 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_17 : Ref sig .tc := ⟨.hbm, 113, rfl⟩
abbrev main_v89 : Ref sig .tc := ⟨.hbm, 114, rfl⟩
abbrev main_v90 : Ref sig .tc := ⟨.hbm, 115, rfl⟩
abbrev main_cst_18 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_19 : Ref sig .tc := ⟨.hbm, 122, rfl⟩
abbrev main_v96 : Ref sig .tc := ⟨.hbm, 123, rfl⟩
abbrev main_v97 : Ref sig .tc := ⟨.hbm, 124, rfl⟩
abbrev main_cst_20 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_21 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_22 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩

abbrev nD : Nat := 1
abbrev τ : Topo := Topo.v7x

variable {F : FTy → Type} [FloatOps F]
-- ==== LossBwd.lean ====
abbrev S4096x2816 : Shape := ⟨2, ![4096, 2816]⟩
abbrev S2816x1024 : Shape := ⟨2, ![2816, 1024]⟩
abbrev S4096x1024 : Shape := ⟨2, ![4096, 1024]⟩
abbrev S1x1x2816x1024 : Shape := ⟨4, ![1, 1, 2816, 1024]⟩
abbrev S1x1024 : Shape := ⟨2, ![1, 1024]⟩
abbrev S512x2816 : Shape := ⟨2, ![512, 2816]⟩
abbrev S512x1024 : Shape := ⟨2, ![512, 1024]⟩
abbrev S1024 : Shape := ⟨1, ![1024]⟩

abbrev nBuf : Space → Nat
  | .hbm => 10
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x2816, .bf16⟩
  | .hbm, ⟨5, _⟩ => ⟨S2816x1024, .bf16⟩
  | .hbm, ⟨6, _⟩ => ⟨S1x1x2816x1024, .bf16⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1x1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_15 : BitVec 32 := 0#32
  let v19 : BitVec 1 := Scalar.cmpi .ne v18 c0_i32_15
  v19

def k0_cond2 (i : grid0.Coords) : BitVec 1 :=
  let arg0 : BitVec 32 := BitVec.ofNat 32 (i 0).val
  let c0_i32_16 : BitVec 32 := 0#32
  let v20 : BitVec 1 := Scalar.cmpi .sgt arg0 c0_i32_16
  let v21 : BitVec 32 := Scalar.extui v20
  let c0_i32_17 : BitVec 32 := 0#32
  let v22 : BitVec 1 := Scalar.cmpi .ne v21 c0_i32_17
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossGradIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩
abbrev S1024 : Shape := ⟨1, ![1024]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1024, .f32⟩
  | .hbm, ⟨28, _⟩ => ⟨S4096x1024, .f32⟩
  | .hbm, ⟨29, _⟩ => ⟨S4096x1024, .bf16⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== BiasBwd.lean ====
abbrev S32x16 : Shape := ⟨2, ![32, 16]⟩
abbrev S3x32768 : Shape := ⟨2, ![3, 32768]⟩
abbrev S3x16x32768 : Shape := ⟨3, ![3, 16, 32768]⟩
abbrev S3x1x32768 : Shape := ⟨3, ![3, 1, 32768]⟩
abbrev S3x16x32 : Shape := ⟨3, ![3, 16, 32]⟩
abbrev S1x16x8192 : Shape := ⟨3, ![1, 16, 8192]⟩
abbrev S1x1x8192 : Shape := ⟨3, ![1, 1, 8192]⟩
abbrev S1x16x32 : Shape := ⟨3, ![1, 16, 32]⟩
abbrev S32x8192 : Shape := ⟨2, ![32, 8192]⟩
abbrev S1x8192 : Shape := ⟨2, ![1, 8192]⟩
abbrev S16x8192 : Shape := ⟨2, ![16, 8192]⟩
abbrev S16x32 : Shape := ⟨2, ![16, 32]⟩

abbrev nBuf : Space → Nat
  | .hbm => 5
  | .vmem => 6
  | .smem => 0
  | _ => 0

abbrev bufTy : (tb : Table) → Fin (tcTables nBuf tb) → BufTy
  | .hbm, ⟨0, _⟩ => ⟨S32x16, .f32⟩
  | .hbm, ⟨1, _⟩ => ⟨S3x32768, .i32⟩
  | .hbm, ⟨2, _⟩ => ⟨S3x16x32768, .f32⟩
  | .hbm, ⟨3, _⟩ => ⟨S3x1x32768, .i32⟩
  | .hbm, ⟨4, _⟩ => ⟨S3x16x32, .f32⟩
  | .local _ .vmem, ⟨0, _⟩ => ⟨S1x16x8192, .f32⟩
  | .local _ .vmem, ⟨1, _⟩ => ⟨S1x16x8192, .f32⟩
  | .local _ .vmem, ⟨2, _⟩ => ⟨S1x1x8192, .i32⟩
  | .local _ .vmem, ⟨3, _⟩ => ⟨S1x1x8192, .i32⟩
  | .local _ .vmem, ⟨4, _⟩ => ⟨S1x16x32, .f32⟩
  | .local _ .vmem, ⟨5, _⟩ => ⟨S1x16x32, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg1 : BitVec 32 := BitVec.ofNat 32 (i 1).val
  let c0_i32 : BitVec 32 := 0#32
  let v22 : BitVec 1 := Scalar.cmpi .eq arg1 c0_i32
  let v23 : BitVec 32 := Scalar.extui v22
  let c0_i32_7 : BitVec 32 := 0#32
  let v24 : BitVec 1 := Scalar.cmpi .ne v23 c0_i32_7
  v24

def k0_cond2 (i : grid0.Coords) : BitVec 1 :=
  let arg1 : BitVec 32 := BitVec.ofNat 32 (i 1).val
  let c0_i32_8 : BitVec 32 := 0#32
  let v25 : BitVec 1 := Scalar.cmpi .sgt arg1 c0_i32_8
  let v26 : BitVec 32 := Scalar.extui v25
  let c0_i32_9 : BitVec 32 := 0#32
  let v27 : BitVec 1 := Scalar.cmpi .ne v26 c0_i32_9
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== BiasGradIdeal.lean ====
abbrev S32x16 : Shape := ⟨2, ![32, 16]⟩
abbrev S3x32768 : Shape := ⟨2, ![3, 32768]⟩
abbrev S3x16x32768 : Shape := ⟨3, ![3, 16, 32768]⟩
abbrev S1x32768 : Shape := ⟨2, ![1, 32768]⟩
abbrev S32768 : Shape := ⟨1, ![32768]⟩
abbrev S_ : Shape := ⟨0, ![]⟩
abbrev S32768x1 : Shape := ⟨2, ![32768, 1]⟩
abbrev S32768x16 : Shape := ⟨2, ![32768, 16]⟩
abbrev S16x32768 : Shape := ⟨2, ![16, 32768]⟩
abbrev S1x16x32768 : Shape := ⟨3, ![1, 16, 32768]⟩
abbrev S16x32 : Shape := ⟨2, ![16, 32]⟩
abbrev S1x16x32 : Shape := ⟨3, ![1, 16, 32]⟩
abbrev S3x16x32 : Shape := ⟨3, ![3, 16, 32]⟩

abbrev nBuf : Space → Nat
  | .hbm => 64
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S3x32768, .i32⟩
  | .hbm, ⟨2, _⟩ => ⟨S3x16x32768, .f32⟩
  | .hbm, ⟨3, _⟩ => ⟨S1x32768, .i32⟩
  | .hbm, ⟨4, _⟩ => ⟨S32768, .i32⟩
  | .hbm, ⟨5, _⟩ => ⟨S_, .i32⟩
  | .hbm, ⟨6, _⟩ => ⟨S32768, .i32⟩
  | .hbm, ⟨7, _⟩ => ⟨S32768, .i1⟩
  | .hbm, ⟨8, _⟩ => ⟨S_, .i32⟩
  | .hbm, ⟨9, _⟩ => ⟨S32768, .i32⟩
  | .hbm, ⟨10, _⟩ => ⟨S32768, .i32⟩
  | .hbm, ⟨11, _⟩ => ⟨S32768, .i32⟩
  | .hbm, ⟨12, _⟩ => ⟨S32768x1, .i32⟩
  | .hbm, ⟨13, _⟩ => ⟨S32768x16, .f32⟩
  | .hbm, ⟨14, _⟩ => ⟨S16x32768, .f32⟩
  | .hbm, ⟨15, _⟩ => ⟨S1x16x32768, .f32⟩
  | .hbm, ⟨16, _⟩ => ⟨S16x32768, .f32⟩
  | .hbm, ⟨17, _⟩ => ⟨S32768x16, .f32⟩
  | .hbm, ⟨18, _⟩ => ⟨S_, .f32⟩
  | .hbm, ⟨19, _⟩ => ⟨S32x16, .f32⟩
  | .hbm, ⟨20, _⟩ => ⟨S32x16, .f32⟩
  | .hbm, ⟨21, _⟩ => ⟨S16x32, .f32⟩
  | .hbm, ⟨22, _⟩ => ⟨S1x32768, .i32⟩
  | .hbm, ⟨23, _⟩ => ⟨S32768, .i32⟩
  | .hbm, ⟨24, _⟩ => ⟨S_, .i32⟩
  | .hbm, ⟨25, _⟩ => ⟨S32768, .i32⟩
  | .hbm, ⟨26, _⟩ => ⟨S32768, .i1⟩
  | .hbm, ⟨27, _⟩ => ⟨S_, .i32⟩
  | .hbm, ⟨28, _⟩ => ⟨S32768, .i32⟩
  | .hbm, ⟨29, _⟩ => ⟨S32768, .i32⟩
  | .hbm, ⟨30, _⟩ => ⟨S32768, .i32⟩
  | .hbm, ⟨31, _⟩ => ⟨S32768x1, .i32⟩
  | .hbm, ⟨32, _⟩ => ⟨S32768x16, .f32⟩
  | .hbm, ⟨33, _⟩ => ⟨S16x32768, .f32⟩
  | .hbm, ⟨34, _⟩ => ⟨S1x16x32768, .f32⟩
  | .hbm, ⟨35, _⟩ => ⟨S16x32768, .f32⟩
  | .hbm, ⟨36, _⟩ => ⟨S32768x16, .f32⟩
  | .hbm, ⟨37, _⟩ => ⟨S_, .f32⟩
  | .hbm, ⟨38, _⟩ => ⟨S32x16, .f32⟩
  | .hbm, ⟨39, _⟩ => ⟨S32x16, .f32⟩
  | .hbm, ⟨40, _⟩ => ⟨S16x32, .f32⟩
  | .hbm, ⟨41, _⟩ => ⟨S1x32768, .i32⟩
  | .hbm, ⟨42, _⟩ => ⟨S32768, .i32⟩
  | .hbm, ⟨43, _⟩ => ⟨S_, .i32⟩
  | .hbm, ⟨44, _⟩ => ⟨S32768, .i32⟩
  | .hbm, ⟨45, _⟩ => ⟨S32768, .i1⟩
  | .hbm, ⟨46, _⟩ => ⟨S_, .i32⟩
  | .hbm, ⟨47, _⟩ => ⟨S32768, .i32⟩
  | .hbm, ⟨48, _⟩ => ⟨S32768, .i32⟩
  | .hbm, ⟨49, _⟩ => ⟨S32768, .i32⟩
  | .hbm, ⟨50, _⟩ => ⟨S32768x1, .i32⟩
  | .hbm, ⟨51, _⟩ => ⟨S32768x16, .f32⟩
  | .hbm, ⟨52, _⟩ => ⟨S16x32768, .f32⟩
  | .hbm, ⟨53, _⟩ => ⟨S1x16x32768, .f32⟩
  | .hbm, ⟨54, _⟩ => ⟨S16x32768, .f32⟩
  | .hbm, ⟨55, _⟩ => ⟨S32768x16, .f32⟩
  | .hbm, ⟨56, _⟩ => ⟨S_, .f32⟩
  | .hbm, ⟨57, _⟩ => ⟨S32x16, .f32⟩
  | .hbm, ⟨58, _⟩ => ⟨S32x16, .f32⟩
  | .hbm, ⟨59, _⟩ => ⟨S16x32, .f32⟩
  | .hbm, ⟨60, _⟩ => ⟨S1x16x32, .f32⟩
  | .hbm, ⟨61, _⟩ => ⟨S1x16x32, .f32⟩
  | .hbm, ⟨62, _⟩ => ⟨S1x16x32, .f32⟩
  | .hbm, ⟨63, _⟩ => ⟨S3x16x32, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_4 : Ref sig .tc := ⟨.hbm, 43, rfl⟩
abbrev main_v34 : Ref sig .tc := ⟨.hbm, 44, rfl⟩
abbrev main_v35 : Ref sig .tc := ⟨.hbm, 45, rfl⟩
abbrev main_c_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩

abbrev nD : Nat := 1
abbrev τ : Topo := Topo.v7x

variable {F : FTy → Type} [FloatOps F]
-- ==== NormFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPlainIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== ResNormFwd.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x1x2816x1024 : Shape := ⟨4, ![1, 1, 2816, 1024]⟩
abbrev S1024x2816 : Shape := ⟨2, ![1024, 2816]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x2816, .bf16⟩
  | .hbm, ⟨5, _⟩ => ⟨S2816x1024, .bf16⟩
  | .hbm, ⟨6, _⟩ => ⟨S1x1x2816x1024, .bf16⟩
  | .hbm, ⟨7, _⟩ => ⟨S4096x1024, .f32⟩
  | .hbm, ⟨8, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1x1x2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResNormPlainIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== GluFwd.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S1024x4x1408 : Shape := ⟨3, ![1024, 4, 1408]⟩
abbrev S4x1024x1408 : Shape := ⟨3, ![4, 1024, 1408]⟩
abbrev S4x1x1024x1408 : Shape := ⟨4, ![4, 1, 1024, 1408]⟩
abbrev S4096x2816 : Shape := ⟨2, ![4096, 2816]⟩
abbrev S512x1024 : Shape := ⟨2, ![512, 1024]⟩
abbrev S16x1024 : Shape := ⟨2, ![16, 1024]⟩
abbrev S1x1x1024x1408 : Shape := ⟨4, ![1, 1, 1024, 1408]⟩
abbrev S3x1408 : Shape := ⟨2, ![3, 1408]⟩
abbrev S1x1408 : Shape := ⟨2, ![1, 1408]⟩
abbrev S512x1408 : Shape := ⟨2, ![512, 1408]⟩
abbrev S528x1024 : Shape := ⟨2, ![528, 1024]⟩
abbrev S1x1x1024x512 : Shape := ⟨4, ![1, 1, 1024, 512]⟩
abbrev S1024x512 : Shape := ⟨2, ![1024, 512]⟩
abbrev S528x512 : Shape := ⟨2, ![528, 512]⟩
abbrev S3x512 : Shape := ⟨2, ![3, 512]⟩
abbrev S1x512 : Shape := ⟨2, ![1, 512]⟩
abbrev S512x512 : Shape := ⟨2, ![512, 512]⟩
abbrev S1x1x1024x384 : Shape := ⟨4, ![1, 1, 1024, 384]⟩
abbrev S1024x384 : Shape := ⟨2, ![1024, 384]⟩
abbrev S528x384 : Shape := ⟨2, ![528, 384]⟩
abbrev S3x384 : Shape := ⟨2, ![3, 384]⟩
abbrev S1x384 : Shape := ⟨2, ![1, 384]⟩
abbrev S512x384 : Shape := ⟨2, ![512, 384]⟩

abbrev nBuf : Space → Nat
  | .hbm => 14
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S1024x4x1408, .f32⟩
  | .hbm, ⟨5, _⟩ => ⟨S4x1024x1408, .f32⟩
  | .hbm, ⟨6, _⟩ => ⟨S4x1x1024x1408, .f32⟩
  | .hbm, ⟨7, _⟩ => ⟨S4x1x1024x1408, .bf16⟩
  | .hbm, ⟨8, _⟩ => ⟨S4096x1024, .bf16⟩
  | .hbm, ⟨9, _⟩ => ⟨S4096x2816, .bf16⟩
  | .hbm, ⟨10, _⟩ => ⟨S4096x2816, .bf16⟩
  | .hbm, ⟨11, _⟩ => ⟨S4096x2816, .bf16⟩
  | .hbm, ⟨12, _⟩ => ⟨S4096x2816, .bf16⟩
  | .hbm, ⟨13, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x1x1024x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S512x1408, .bf16⟩
  | .local _ .vmem, ⟨25, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![v0.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== GluPlainIdeal.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩
abbrev S4096x2816 : Shape := ⟨2, ![4096, 2816]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S4096x5632, .f32⟩
  | .hbm, ⟨5, _⟩ => ⟨S_, .f32⟩
  | .hbm, ⟨6, _⟩ => ⟨S2x5632, .f32⟩
  | .hbm, ⟨7, _⟩ => ⟨S4098x5632, .f32⟩
  | .hbm, ⟨8, _⟩ => ⟨S4096x5632, .f32⟩
  | .hbm, ⟨9, _⟩ => ⟨S1x5632, .f32⟩
  | .hbm, ⟨10, _⟩ => ⟨S5632, .f32⟩
  | .hbm, ⟨11, _⟩ => ⟨S1x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S1x5632, .f32⟩
  | .hbm, ⟨16, _⟩ => ⟨S5632, .f32⟩
  | .hbm, ⟨17, _⟩ => ⟨S1x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S1x5632, .f32⟩
  | .hbm, ⟨23, _⟩ => ⟨S5632, .f32⟩
  | .hbm, ⟨24, _⟩ => ⟨S1x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .bf16⟩
  | .hbm, ⟨45, _⟩ => ⟨S4096x2816, .bf16⟩
  | .hbm, ⟨46, _⟩ => ⟨S4096x2816, .bf16⟩
  | .hbm, ⟨47, _⟩ => ⟨S4096x2816, .bf16⟩
  | .hbm, ⟨48, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== QkvFwd.lean ====
abbrev S4096x1024 : Shape := ⟨2, ![4096, 1024]⟩
abbrev S1024x3072 : Shape := ⟨2, ![1024, 3072]⟩
abbrev S1x64 : Shape := ⟨2, ![1, 64]⟩
abbrev S64 : Shape := ⟨1, ![64]⟩
abbrev S16x64 : Shape := ⟨2, ![16, 64]⟩
abbrev S1024 : Shape := ⟨1, ![1024]⟩
abbrev S_ : Shape := ⟨0, ![]⟩
abbrev S1x1024 : Shape := ⟨2, ![1, 1024]⟩
abbrev S3x1024 : Shape := ⟨2, ![3, 1024]⟩
abbrev S3x1x1024 : Shape := ⟨3, ![3, 1, 1024]⟩
abbrev S1024x4x768 : Shape := ⟨3, ![1024, 4, 768]⟩
abbrev S4x1024x768 : Shape := ⟨3, ![4, 1024, 768]⟩
abbrev S4x1x1024x768 : Shape := ⟨4, ![4, 1, 1024, 768]⟩
abbrev S1x3072 : Shape := ⟨2, ![1, 3072]⟩
abbrev S256x256 : Shape := ⟨2, ![256, 256]⟩
abbrev S4096x3072 : Shape := ⟨2, ![4096, 3072]⟩
abbrev S1024x1024 : Shape := ⟨2, ![1024, 1024]⟩
abbrev S1x1x1024x768 : Shape := ⟨4, ![1, 1, 1024, 768]⟩
abbrev S1x768 : Shape := ⟨2, ![1, 768]⟩
abbrev S1024x768 : Shape := ⟨2, ![1024, 768]⟩
abbrev S1024x256 : Shape := ⟨2, ![1024, 256]⟩
abbrev S1x256 : Shape := ⟨2, ![1, 256]⟩

abbrev nBuf : Space → Nat
  | .hbm => 42
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S1x64, .f32⟩
  | .hbm, ⟨3, _⟩ => ⟨S1x64, .f32⟩
  | .hbm, ⟨4, _⟩ => ⟨S64, .f32⟩
  | .hbm, ⟨5, _⟩ => ⟨S1x64, .f32⟩
  | .hbm, ⟨6, _⟩ => ⟨S16x64, .f32⟩
  | .hbm, ⟨7, _⟩ => ⟨S1024, .f32⟩
  | .hbm, ⟨8, _⟩ => ⟨S64, .f32⟩
  | .hbm, ⟨9, _⟩ => ⟨S1x64, .f32⟩
  | .hbm, ⟨10, _⟩ => ⟨S16x64, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S3x1024, .f32⟩
  | .hbm, ⟨18, _⟩ => ⟨S3x1x1024, .f32⟩
  | .hbm, ⟨19, _⟩ => ⟨S1024x4x768, .f32⟩
  | .hbm, ⟨20, _⟩ => ⟨S4x1024x768, .f32⟩
  | .hbm, ⟨21, _⟩ => ⟨S4x1x1024x768, .f32⟩
  | .hbm, ⟨22, _⟩ => ⟨S4x1x1024x768, .bf16⟩
  | .hbm, ⟨23, _⟩ => ⟨S4096x1024, .bf16⟩
  | .hbm, ⟨24, _⟩ => ⟨S1x3072, .f32⟩
  | .hbm, ⟨25, _⟩ => ⟨S256x256, .i32⟩
  | .hbm, ⟨26, _⟩ => ⟨S_, .i32⟩
  | .hbm, ⟨27, _⟩ => ⟨S256x256, .i32⟩
  | .hbm, ⟨28, _⟩ => ⟨S256x256, .i32⟩
  | .hbm, ⟨29, _⟩ => ⟨S256x256, .i32⟩
  | .hbm, ⟨30, _⟩ => ⟨S_, .i32⟩
  | .hbm, ⟨31, _⟩ => ⟨S256x256, .i32⟩
  | .hbm, ⟨32, _⟩ => ⟨S256x256, .i32⟩
  | .hbm, ⟨33, _⟩ => ⟨S256x256, .i1⟩
  | .hbm, ⟨34, _⟩ => ⟨S_, .f32⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S256x256, .bf16⟩
  | .hbm, ⟨40, _⟩ => ⟨S4096x3072, .f32⟩
  | .hbm, ⟨41, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x768, .bf16⟩
  | .local _ .vmem, ⟨3, _⟩ => ⟨S1x1x1024x768, .bf16⟩
  | .local _ .vmem, ⟨4, _⟩ => ⟨S1x768, .f32⟩
  | .local _ .vmem, ⟨5, _⟩ => ⟨S1x768, .f32⟩
  | .local _ .vmem, ⟨6, _⟩ => ⟨S256x256, .bf16⟩
  | .local _ .vmem, ⟨7, _⟩ => ⟨S1024x768, .f32⟩
  | .local _ .vmem, ⟨8, _⟩ => ⟨S1024x768, .f32⟩
  | .local _ .vmem, ⟨9, _⟩ => ⟨S1024x768, .bf16⟩
  | .local _ .vmem, ⟨10, _⟩ => ⟨S1024x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31_0 : Ref sig .tc := ⟨.hbm, 40, rfl⟩
abbrev main_v31_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvPlainIdeal.lean ====
abbrev S4096x1024 : Shape := ⟨2, ![4096, 1024]⟩
abbrev S1024x3072 : Shape := ⟨2, ![1024, 3072]⟩
abbrev S1x64 : Shape := ⟨2, ![1, 64]⟩
abbrev S4096x3072 : Shape := ⟨2, ![4096, 3072]⟩
abbrev S4096x3x16x64 : Shape := ⟨4, ![4096, 3, 16, 64]⟩
abbrev S4096x1x16x64 : Shape := ⟨4, ![4096, 1, 16, 64]⟩
abbrev S4096x16x64 : Shape := ⟨3, ![4096, 16, 64]⟩
abbrev S64 : Shape := ⟨1, ![64]⟩
abbrev S_ : Shape := ⟨0, ![]⟩
abbrev S4096x16 : Shape := ⟨2, ![4096, 16]⟩
abbrev S4096x16x1 : Shape := ⟨3, ![4096, 16, 1]⟩
abbrev S1x1x64 : Shape := ⟨3, ![1, 1, 64]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S1x64, .f32⟩
  | .hbm, ⟨3, _⟩ => ⟨S1x64, .f32⟩
  | .hbm, ⟨4, _⟩ => ⟨S4096x3072, .f32⟩
  | .hbm, ⟨5, _⟩ => ⟨S4096x3x16x64, .f32⟩
  | .hbm, ⟨6, _⟩ => ⟨S4096x1x16x64, .f32⟩
  | .hbm, ⟨7, _⟩ => ⟨S4096x16x64, .f32⟩
  | .hbm, ⟨8, _⟩ => ⟨S64, .f32⟩
  | .hbm, ⟨9, _⟩ => ⟨S4096x16x64, .f32⟩
  | .hbm, ⟨10, _⟩ => ⟨S_, .f32⟩
  | .hbm, ⟨11, _⟩ => ⟨S4096x16, .f32⟩
  | .hbm, ⟨12, _⟩ => ⟨S4096x16x1, .f32⟩
  | .hbm, ⟨13, _⟩ => ⟨S_, .f32⟩
  | .hbm, ⟨14, _⟩ => ⟨S4096x16x1, .f32⟩
  | .hbm, ⟨15, _⟩ => ⟨S4096x16x1, .f32⟩
  | .hbm, ⟨16, _⟩ => ⟨S_, .f32⟩
  | .hbm, ⟨17, _⟩ => ⟨S4096x16x1, .f32⟩
  | .hbm, ⟨18, _⟩ => ⟨S4096x16x1, .f32⟩
  | .hbm, ⟨19, _⟩ => ⟨S4096x16x1, .f32⟩
  | .hbm, ⟨20, _⟩ => ⟨S4096x16x64, .f32⟩
  | .hbm, ⟨21, _⟩ => ⟨S4096x16x64, .f32⟩
  | .hbm, ⟨22, _⟩ => ⟨S1x1x64, .f32⟩
  | .hbm, ⟨23, _⟩ => ⟨S4096x16x64, .f32⟩
  | .hbm, ⟨24, _⟩ => ⟨S4096x16x64, .f32⟩
  | .hbm, ⟨25, _⟩ => ⟨S4096x1x16x64, .f32⟩
  | .hbm, ⟨26, _⟩ => ⟨S4096x16x64, .f32⟩
  | .hbm, ⟨27, _⟩ => ⟨S64, .f32⟩
  | .hbm, ⟨28, _⟩ => ⟨S4096x16x64, .f32⟩
  | .hbm, ⟨29, _⟩ => ⟨S_, .f32⟩
  | .hbm, ⟨30, _⟩ => ⟨S4096x16, .f32⟩
  | .hbm, ⟨31, _⟩ => ⟨S4096x16x1, .f32⟩
  | .hbm, ⟨32, _⟩ => ⟨S_, .f32⟩
  | .hbm, ⟨33, _⟩ => ⟨S4096x16x1, .f32⟩
  | .hbm, ⟨34, _⟩ => ⟨S4096x16x1, .f32⟩
  | .hbm, ⟨35, _⟩ => ⟨S_, .f32⟩
  | .hbm, ⟨36, _⟩ => ⟨S4096x16x1, .f32⟩
  | .hbm, ⟨37, _⟩ => ⟨S4096x16x1, .f32⟩
  | .hbm, ⟨38, _⟩ => ⟨S4096x16x1, .f32⟩
  | .hbm, ⟨39, _⟩ => ⟨S4096x16x64, .f32⟩
  | .hbm, ⟨40, _⟩ => ⟨S4096x16x64, .f32⟩
  | .hbm, ⟨41, _⟩ => ⟨S1x1x64, .f32⟩
  | .hbm, ⟨42, _⟩ => ⟨S4096x16x64, .f32⟩
  | .hbm, ⟨43, _⟩ => ⟨S4096x16x64, .f32⟩
  | .hbm, ⟨44, _⟩ => ⟨S4096x1x16x64, .f32⟩
  | .hbm, ⟨45, _⟩ => ⟨S4096x16x64, .f32⟩
  | .hbm, ⟨46, _⟩ => ⟨S4096x1x16x64, .f32⟩
  | .hbm, ⟨47, _⟩ => ⟨S4096x1x16x64, .f32⟩
  | .hbm, ⟨48, _⟩ => ⟨S4096x1x16x64, .f32⟩
  | .hbm, ⟨49, _⟩ => ⟨S4096x3x16x64, .f32⟩
  | .hbm, ⟨50, _⟩ => ⟨S4096x3072, .f32⟩
  | .hbm, ⟨51, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== BiasFwd.lean ====
abbrev S32x16 : Shape := ⟨2, ![32, 16]⟩
abbrev S3x32768 : Shape := ⟨2, ![3, 32768]⟩
abbrev S3x2x32768 : Shape := ⟨3, ![3, 2, 32768]⟩
abbrev S16x32 : Shape := ⟨2, ![16, 32]⟩
abbrev S3x1x32768 : Shape := ⟨3, ![3, 1, 32768]⟩
abbrev S3x2x1x32768 : Shape := ⟨4, ![3, 2, 1, 32768]⟩
abbrev S3x2x16x32768 : Shape := ⟨4, ![3, 2, 16, 32768]⟩
abbrev S1x1x8192 : Shape := ⟨3, ![1, 1, 8192]⟩
abbrev S1x2x1x8192 : Shape := ⟨4, ![1, 2, 1, 8192]⟩
abbrev S1x2x16x8192 : Shape := ⟨4, ![1, 2, 16, 8192]⟩
abbrev S32x8192 : Shape := ⟨2, ![32, 8192]⟩
abbrev S1x8192 : Shape := ⟨2, ![1, 8192]⟩
abbrev S16x8192 : Shape := ⟨2, ![16, 8192]⟩
abbrev S1x1x1x8192 : Shape := ⟨4, ![1, 1, 1, 8192]⟩
abbrev S1x1x16x8192 : Shape := ⟨4, ![1, 1, 16, 8192]⟩

abbrev nBuf : Space → Nat
  | .hbm => 7
  | .vmem => 7
  | .smem => 0
  | _ => 0

abbrev bufTy : (tb : Table) → Fin (tcTables nBuf tb) → BufTy
  | .hbm, ⟨0, _⟩ => ⟨S32x16, .f32⟩
  | .hbm, ⟨1, _⟩ => ⟨S3x32768, .i32⟩
  | .hbm, ⟨2, _⟩ => ⟨S3x2x32768, .i32⟩
  | .hbm, ⟨3, _⟩ => ⟨S16x32, .f32⟩
  | .hbm, ⟨4, _⟩ => ⟨S3x1x32768, .i32⟩
  | .hbm, ⟨5, _⟩ => ⟨S3x2x1x32768, .i32⟩
  | .hbm, ⟨6, _⟩ => ⟨S3x2x16x32768, .f32⟩
  | .local _ .vmem, ⟨0, _⟩ => ⟨S16x32, .f32⟩
  | .local _ .vmem, ⟨1, _⟩ => ⟨S1x1x8192, .i32⟩
  | .local _ .vmem, ⟨2, _⟩ => ⟨S1x1x8192, .i32⟩
  | .local _ .vmem, ⟨3, _⟩ => ⟨S1x2x1x8192, .i32⟩
  | .local _ .vmem, ⟨4, _⟩ => ⟨S1x2x1x8192, .i32⟩
  | .local _ .vmem, ⟨5, _⟩ => ⟨S1x2x16x8192, .f32⟩
  | .local _ .vmem, ⟨6, _⟩ => ⟨S1x2x16x8192, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 1 → Memref sig .tc .vmem S16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x16x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== BiasPlainIdeal.lean ====
abbrev S32x16 : Shape := ⟨2, ![32, 16]⟩
abbrev S3x32768 : Shape := ⟨2, ![3, 32768]⟩
abbrev S3x2x32768 : Shape := ⟨3, ![3, 2, 32768]⟩
abbrev S1x32768 : Shape := ⟨2, ![1, 32768]⟩
abbrev S32768 : Shape := ⟨1, ![32768]⟩
abbrev S_ : Shape := ⟨0, ![]⟩
abbrev S32768x1 : Shape := ⟨2, ![32768, 1]⟩
abbrev S32768x16 : Shape := ⟨2, ![32768, 16]⟩
abbrev S16x32768 : Shape := ⟨2, ![16, 32768]⟩
abbrev S1x16x32768 : Shape := ⟨3, ![1, 16, 32768]⟩
abbrev S3x16x32768 : Shape := ⟨3, ![3, 16, 32768]⟩
abbrev S3x2x1x32768 : Shape := ⟨4, ![3, 2, 1, 32768]⟩
abbrev S3x1x16x32768 : Shape := ⟨4, ![3, 1, 16, 32768]⟩
abbrev S3x2x16x32768 : Shape := ⟨4, ![3, 2, 16, 32768]⟩

abbrev nBuf : Space → Nat
  | .hbm => 54
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S3x32768, .i32⟩
  | .hbm, ⟨2, _⟩ => ⟨S3x2x32768, .i32⟩
  | .hbm, ⟨3, _⟩ => ⟨S1x32768, .i32⟩
  | .hbm, ⟨4, _⟩ => ⟨S32768, .i32⟩
  | .hbm, ⟨5, _⟩ => ⟨S_, .i32⟩
  | .hbm, ⟨6, _⟩ => ⟨S32768, .i32⟩
  | .hbm, ⟨7, _⟩ => ⟨S32768, .i1⟩
  | .hbm, ⟨8, _⟩ => ⟨S_, .i32⟩
  | .hbm, ⟨9, _⟩ => ⟨S32768, .i32⟩
  | .hbm, ⟨10, _⟩ => ⟨S32768, .i32⟩
  | .hbm, ⟨11, _⟩ => ⟨S32768, .i32⟩
  | .hbm, ⟨12, _⟩ => ⟨S32768x1, .i32⟩
  | .hbm, ⟨13, _⟩ => ⟨S32768x16, .f32⟩
  | .hbm, ⟨14, _⟩ => ⟨S16x32768, .f32⟩
  | .hbm, ⟨15, _⟩ => ⟨S1x32768, .i32⟩
  | .hbm, ⟨16, _⟩ => ⟨S32768, .i32⟩
  | .hbm, ⟨17, _⟩ => ⟨S_, .i32⟩
  | .hbm, ⟨18, _⟩ => ⟨S32768, .i32⟩
  | .hbm, ⟨19, _⟩ => ⟨S32768, .i1⟩
  | .hbm, ⟨20, _⟩ => ⟨S_, .i32⟩
  | .hbm, ⟨21, _⟩ => ⟨S32768, .i32⟩
  | .hbm, ⟨22, _⟩ => ⟨S32768, .i32⟩
  | .hbm, ⟨23, _⟩ => ⟨S32768, .i32⟩
  | .hbm, ⟨24, _⟩ => ⟨S32768x1, .i32⟩
  | .hbm, ⟨25, _⟩ => ⟨S32768x16, .f32⟩
  | .hbm, ⟨26, _⟩ => ⟨S16x32768, .f32⟩
  | .hbm, ⟨27, _⟩ => ⟨S1x32768, .i32⟩
  | .hbm, ⟨28, _⟩ => ⟨S32768, .i32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S32768, .i32⟩
  | .hbm, ⟨36, _⟩ => ⟨S32768x1, .i32⟩
  | .hbm, ⟨37, _⟩ => ⟨S32768x16, .f32⟩
  | .hbm, ⟨38, _⟩ => ⟨S16x32768, .f32⟩
  | .hbm, ⟨39, _⟩ => ⟨S1x16x32768, .f32⟩
  | .hbm, ⟨40, _⟩ => ⟨S1x16x32768, .f32⟩
  | .hbm, ⟨41, _⟩ => ⟨S1x16x32768, .f32⟩
  | .hbm, ⟨42, _⟩ => ⟨S3x16x32768, .f32⟩
  | .hbm, ⟨43, _⟩ => ⟨S3x2x1x32768, .i32⟩
  | .hbm, ⟨44, _⟩ => ⟨S_, .i32⟩
  | .hbm, ⟨45, _⟩ => ⟨S3x2x1x32768, .i32⟩
  | .hbm, ⟨46, _⟩ => ⟨S3x2x1x32768, .i1⟩
  | .hbm, ⟨47, _⟩ => ⟨S3x1x16x32768, .f32⟩
  | .hbm, ⟨48, _⟩ => ⟨S_, .f32⟩
  | .hbm, ⟨49, _⟩ => ⟨S_, .f32⟩
  | .hbm, ⟨50, _⟩ => ⟨S3x2x16x32768, .i1⟩
  | .hbm, ⟨51, _⟩ => ⟨S3x2x16x32768, .f32⟩
  | .hbm, ⟨52, _⟩ => ⟨S3x2x16x32768, .f32⟩
  | .hbm, ⟨53, _⟩ => ⟨S3x2x16x32768, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== MixerFwd.lean ====
abbrev S4096x1024 : Shape := ⟨2, ![4096, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x4x512 : Shape := ⟨3, ![1024, 4, 512]⟩
abbrev S4x1024x512 : Shape := ⟨3, ![4, 1024, 512]⟩
abbrev S4x1x1024x512 : Shape := ⟨4, ![4, 1, 1024, 512]⟩
abbrev S4096x2048 : Shape := ⟨2, ![4096, 2048]⟩
abbrev S512x1024 : Shape := ⟨2, ![512, 1024]⟩
abbrev S16x1024 : Shape := ⟨2, ![16, 1024]⟩
abbrev S512x2048 : Shape := ⟨2, ![512, 2048]⟩
abbrev S528x1024 : Shape := ⟨2, ![528, 1024]⟩
abbrev S1x1x1024x512 : Shape := ⟨4, ![1, 1, 1024, 512]⟩
abbrev S1024x512 : Shape := ⟨2, ![1024, 512]⟩
abbrev S528x512 : Shape := ⟨2, ![528, 512]⟩
abbrev S512x512 : Shape := ⟨2, ![512, 512]⟩
abbrev S528x128 : Shape := ⟨2, ![528, 128]⟩
abbrev S528x1 : Shape := ⟨2, ![528, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S3x512, .f32⟩
  | .hbm, ⟨3, _⟩ => ⟨S4x128x128, .f32⟩
  | .hbm, ⟨4, _⟩ => ⟨S1x512, .f32⟩
  | .hbm, ⟨5, _⟩ => ⟨S1024x4x512, .f32⟩
  | .hbm, ⟨6, _⟩ => ⟨S4x1024x512, .f32⟩
  | .hbm, ⟨7, _⟩ => ⟨S4x1x1024x512, .f32⟩
  | .hbm, ⟨8, _⟩ => ⟨S4x1x1024x512, .bf16⟩
  | .hbm, ⟨9, _⟩ => ⟨S4096x1024, .bf16⟩
  | .hbm, ⟨10, _⟩ => ⟨S4x128x128, .bf16⟩
  | .hbm, ⟨11, _⟩ => ⟨S4096x2048, .f32⟩
  | .hbm, ⟨12, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S4x1x1024x512, .bf16⟩
  | .local _ .vmem, ⟨5, _⟩ => ⟨S3x512, .f32⟩
  | .local _ .vmem, ⟨6, _⟩ => ⟨S4x128x128, .bf16⟩
  | .local _ .vmem, ⟨7, _⟩ => ⟨S1x512, .f32⟩
  | .local _ .vmem, ⟨8, _⟩ => ⟨S512x2048, .f32⟩
  | .local _ .vmem, ⟨9, _⟩ => ⟨S512x2048, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixerPlainIdeal.lean ====
abbrev S4096x1024 : Shape := ⟨2, ![4096, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S4096x2048 : Shape := ⟨2, ![4096, 2048]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S512 : Shape := ⟨1, ![512]⟩
abbrev S4096x4x128 : Shape := ⟨3, ![4096, 4, 128]⟩
abbrev S4096x1x128 : Shape := ⟨3, ![4096, 1, 128]⟩
abbrev S4096x128 : Shape := ⟨2, ![4096, 128]⟩
abbrev S2x128 : Shape := ⟨2, ![2, 128]⟩
abbrev S4098x128 : Shape := ⟨2, ![4098, 128]⟩
abbrev S4096 : Shape := ⟨1, ![4096]⟩
abbrev S4096x1 : Shape := ⟨2, ![4096, 1]⟩
abbrev S4x128 : Shape := ⟨2, ![4, 128]⟩
abbrev S4100x128 : Shape := ⟨2, ![4100, 128]⟩
abbrev S8x128 : Shape := ⟨2, ![8, 128]⟩
abbrev S4104x128 : Shape := ⟨2, ![4104, 128]⟩
abbrev S16x128 : Shape := ⟨2, ![16, 128]⟩
abbrev S4112x128 : Shape := ⟨2, ![4112, 128]⟩
abbrev S4x128x4096 : Shape := ⟨3, ![4, 128, 4096]⟩

abbrev nBuf : Space → Nat
  | .hbm => 135
  | .vmem => 0
  | .smem => 0
  | _ => 0

abbrev hbmTy0_0 (i : Nat) : BufTy := match i % 128 with
  | 0 => ⟨S4096x1024, .f32⟩
  | 1 => ⟨S1024x2048, .f32⟩
  | 2 => ⟨S3x512, .f32⟩
  | 3 => ⟨S4x128x128, .f32⟩
  | 4 => ⟨S1x512, .f32⟩
  | 5 => ⟨S4096x2048, .f32⟩
  | 6 => ⟨S4096x512, .f32⟩
  | 7 => ⟨S4096x512, .f32⟩
  | 8 => ⟨S4096x512, .f32⟩
  | 9 => ⟨S4096x512, .f32⟩
  | 10 => ⟨S4096x512, .f32⟩
  | 11 => ⟨S_, .f32⟩
  | 12 => ⟨S2x512, .f32⟩
  | 13 => ⟨S4098x512, .f32⟩
  | 14 => ⟨S4096x512, .f32⟩
  | 15 => ⟨S1x512, .f32⟩
  | 16 => ⟨S512, .f32⟩
  | 17 => ⟨S1x512, .f32⟩
  | 18 => ⟨S4096x512, .f32⟩
  | 19 => ⟨S4096x512, .f32⟩
  | 20 => ⟨S4096x512, .f32⟩
  | 21 => ⟨S1x512, .f32⟩
  | 22 => ⟨S512, .f32⟩
  | 23 => ⟨S1x512, .f32⟩
  | 24 => ⟨S4096x512, .f32⟩
  | 25 => ⟨S4096x512, .f32⟩
  | 26 => ⟨S4096x512, .f32⟩
  | 27 => ⟨S4096x512, .f32⟩
  | 28 => ⟨S1x512, .f32⟩
  | 29 => ⟨S512, .f32⟩
  | 30 => ⟨S1x512, .f32⟩
  | 31 => ⟨S4096x512, .f32⟩
  | 32 => ⟨S4096x512, .f32⟩
  | 33 => ⟨S4096x512, .f32⟩
  | 34 => ⟨S4096x512, .f32⟩
  | 35 => ⟨S4096x4x128, .f32⟩
  | 36 => ⟨S4096x1x128, .f32⟩
  | 37 => ⟨S4096x128, .f32⟩
  | 38 => ⟨S_, .f32⟩
  | 39 => ⟨S_, .f32⟩
  | 40 => ⟨S4096x128, .f32⟩
  | 41 => ⟨S_, .f32⟩
  | 42 => ⟨S2x128, .f32⟩
  | 43 => ⟨S4098x128, .f32⟩
  | 44 => ⟨S4096x128, .f32⟩
  | 45 => ⟨S4096, .i32⟩
  | 46 => ⟨S_, .i32⟩
  | 47 => ⟨S4096, .i32⟩
  | 48 => ⟨S4096, .i32⟩
  | 49 => ⟨S_, .i32⟩
  | 50 => ⟨S4096, .i32⟩
  | 51 => ⟨S4096, .i32⟩
  | 52 => ⟨S4096, .f32⟩
  | 53 => ⟨S4096x1, .f32⟩
  | 54 => ⟨S4096x128, .f32⟩
  | 55 => ⟨S4096x128, .f32⟩
  | 56 => ⟨S4096x128, .f32⟩
  | 57 => ⟨S4096x1x128, .f32⟩
  | 58 => ⟨S4096x128, .f32⟩
  | 59 => ⟨S_, .f32⟩
  | 60 => ⟨S_, .f32⟩
  | 61 => ⟨S4096x128, .f32⟩
  | 62 => ⟨S_, .f32⟩
  | 63 => ⟨S4x128, .f32⟩
  | 64 => ⟨S4100x128, .f32⟩
  | 65 => ⟨S4096x128, .f32⟩
  | 66 => ⟨S4096, .i32⟩
  | 67 => ⟨S_, .i32⟩
  | 68 => ⟨S4096, .i32⟩
  | 69 => ⟨S4096, .i32⟩
  | 70 => ⟨S_, .i32⟩
  | 71 => ⟨S4096, .i32⟩
  | 72 => ⟨S4096, .i32⟩
  | 73 => ⟨S4096, .f32⟩
  | 74 => ⟨S4096x1, .f32⟩
  | 75 => ⟨S4096x128, .f32⟩
  | 76 => ⟨S4096x128, .f32⟩
  | 77 => ⟨S4096x128, .f32⟩
  | 78 => ⟨S4096x1x128, .f32⟩
  | 79 => ⟨S4096x128, .f32⟩
  | 80 => ⟨S_, .f32⟩
  | 81 => ⟨S_, .f32⟩
  | 82 => ⟨S4096x128, .f32⟩
  | 83 => ⟨S_, .f32⟩
  | 84 => ⟨S8x128, .f32⟩
  | 85 => ⟨S4104x128, .f32⟩
  | 86 => ⟨S4096x128, .f32⟩
  | 87 => ⟨S4096, .i32⟩
  | 88 => ⟨S_, .i32⟩
  | 89 => ⟨S4096, .i32⟩
  | 90 => ⟨S4096, .i32⟩
  | 91 => ⟨S_, .i32⟩
  | 92 => ⟨S4096, .i32⟩
  | 93 => ⟨S4096, .i32⟩
  | 94 => ⟨S4096, .f32⟩
  | 95 => ⟨S4096x1, .f32⟩
  | 96 => ⟨S4096x128, .f32⟩
  | 97 => ⟨S4096x128, .f32⟩
  | 98 => ⟨S4096x128, .f32⟩
  | 99 => ⟨S4096x1x128, .f32⟩
  | 100 => ⟨S4096x128, .f32⟩
  | 101 => ⟨S_, .f32⟩
  | 102 => ⟨S_, .f32⟩
  | 103 => ⟨S4096x128, .f32⟩
  | 104 => ⟨S_, .f32⟩
  | 105 => ⟨S16x128, .f32⟩
  | 106 => ⟨S4112x128, .f32⟩
  | 107 => ⟨S4096x128, .f32⟩
  | 108 => ⟨S4096, .i32⟩
  | 109 => ⟨S_, .i32⟩
  | 110 => ⟨S4096, .i32⟩
  | 111 => ⟨S4096, .i32⟩
  | 112 => ⟨S_, .i32⟩
  | 113 => ⟨S4096, .i32⟩
  | 114 => ⟨S4096, .i32⟩
  | 115 => ⟨S4096, .f32⟩
  | 116 => ⟨S4096x1, .f32⟩
  | 117 => ⟨S4096x128, .f32⟩
  | 118 => ⟨S4096x128, .f32⟩
  | 119 => ⟨S4096x128, .f32⟩
  | 120 => ⟨S4096x1x128, .f32⟩
  | 121 => ⟨S4096x1x128, .f32⟩
  | 122 => ⟨S4096x1x128, .f32⟩
  | 123 => ⟨S4096x1x128, .f32⟩
  | 124 => ⟨S4096x4x128, .f32⟩
  | 125 => ⟨S4096x4x128, .f32⟩
  | 126 => ⟨S4x128x4096, .f32⟩
  | 127 => ⟨S4096x4x128, .f32⟩
  | _ => ⟨S4096x1024, .f32⟩

abbrev hbmTy0_1 (i : Nat) : BufTy := match i % 128 with
  | 0 => ⟨S4096x512, .f32⟩
  | 1 => ⟨S512, .f32⟩
  | 2 => ⟨S1x512, .f32⟩
  | 3 => ⟨S4096x512, .f32⟩
  | 4 => ⟨S4096x512, .f32⟩
  | 5 => ⟨S4096x1024, .f32⟩
  | 6 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call0_call0_cst : Ref sig .tc := ⟨.hbm, 38, rfl⟩
abbrev main_call0_call0_v0 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c : Ref sig .tc := ⟨.hbm, 46, rfl⟩
abbrev main_v37 : Ref sig .tc := ⟨.hbm, 47, rfl⟩
abbrev main_v38 : Ref sig .tc := ⟨.hbm, 48, rfl⟩
abbrev main_c_1 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call1_call0_cst : Ref sig .tc := ⟨.hbm, 59, rfl⟩
abbrev main_call1_call0_v0 : Ref sig .tc := ⟨.hbm, 60, rfl⟩
abbrev main_v48 : Ref sig .tc := ⟨.hbm, 61, rfl⟩
abbrev main_cst_2 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_3 : Ref sig .tc := ⟨.hbm, 67, rfl⟩
abbrev main_v53 : Ref sig .tc := ⟨.hbm, 68, rfl⟩
abbrev main_v54 : Ref sig .tc := ⟨.hbm, 69, rfl⟩
abbrev main_c_4 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_call2_call0_cst : Ref sig .tc := ⟨.hbm, 80, rfl⟩
abbrev main_call2_call0_v0 : Ref sig .tc := ⟨.hbm, 81, rfl⟩
abbrev main_v64 : Ref sig .tc := ⟨.hbm, 82, rfl⟩
abbrev main_cst_5 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_c_6 : Ref sig .tc := ⟨.hbm, 88, rfl⟩
abbrev main_v69 : Ref sig .tc := ⟨.hbm, 89, rfl⟩
abbrev main_v70 : Ref sig .tc := ⟨.hbm, 90, rfl⟩
abbrev main_c_7 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_call3_call0_cst : Ref sig .tc := ⟨.hbm, 101, rfl⟩
abbrev main_call3_call0_v0 : Ref sig .tc := ⟨.hbm, 102, rfl⟩
abbrev main_v80 : Ref sig .tc := ⟨.hbm, 103, rfl⟩
abbrev main_cst_8 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_c_9 : Ref sig .tc := ⟨.hbm, 109, rfl⟩
abbrev main_v85 : Ref sig .tc := ⟨.hbm, 110, rfl⟩
abbrev main_v86 : Ref sig .tc := ⟨.hbm, 111, rfl⟩
abbrev main_c_10 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩

abbrev nD : Nat := 1
abbrev τ : Topo := Topo.v7x

variable {F : FTy → Type} [FloatOps F]
-- ==== Dact.lean ====
abbrev S4096x1024 : Shape := ⟨2, ![4096, 1024]⟩
abbrev S2816x1024 : Shape := ⟨2, ![2816, 1024]⟩
abbrev S1x1x2816x1024 : Shape := ⟨4, ![1, 1, 2816, 1024]⟩
abbrev S4096x2816 : Shape := ⟨2, ![4096, 2816]⟩
abbrev S1024x1024 : Shape := ⟨2, ![1024, 1024]⟩
abbrev S1x1x1408x1024 : Shape := ⟨4, ![1, 1, 1408, 1024]⟩
abbrev S1024x1408 : Shape := ⟨2, ![1024, 1408]⟩
abbrev S1408x1024 : Shape := ⟨2, ![1408, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x1024, .bf16⟩
  | .hbm, ⟨3, _⟩ => ⟨S2816x1024, .bf16⟩
  | .hbm, ⟨4, _⟩ => ⟨S1x1x2816x1024, .bf16⟩
  | .hbm, ⟨5, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1408x1024, .bf16⟩
  | .local _ .vmem, ⟨3, _⟩ => ⟨S1x1x1408x1024, .bf16⟩
  | .local _ .vmem, ⟨4, _⟩ => ⟨S1024x1408, .bf16⟩
  | .local _ .vmem, ⟨5, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DactGradIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x2816, .f32⟩
  | .hbm, ⟨6, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Adamw.lean ====
abbrev S2x1024x1408 : Shape := ⟨3, ![2, 1024, 1408]⟩
abbrev S1x256x1408 : Shape := ⟨3, ![1, 256, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwPlainIdeal.lean ====
abbrev S2x1024x1408 : Shape := ⟨3, ![2, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== DwUp.lean ====
abbrev S4096x1024 : Shape := ⟨2, ![4096, 1024]⟩
abbrev S4096x5632 : Shape := ⟨2, ![4096, 5632]⟩
abbrev S4x1024x1408 : Shape := ⟨3, ![4, 1024, 1408]⟩
abbrev S1024x512 : Shape := ⟨2, ![1024, 512]⟩
abbrev S1024x2816 : Shape := ⟨2, ![1024, 2816]⟩
abbrev S2x512x1408 : Shape := ⟨3, ![2, 512, 1408]⟩
abbrev S512x2816 : Shape := ⟨2, ![512, 2816]⟩
abbrev S512x1408 : Shape := ⟨2, ![512, 1408]⟩
abbrev S1x512x1408 : Shape := ⟨3, ![1, 512, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x5632, .bf16⟩
  | .hbm, ⟨4, _⟩ => ⟨S4x1024x1408, .bf16⟩
  | .local _ .vmem, ⟨0, _⟩ => ⟨S1024x512, .bf16⟩
  | .local _ .vmem, ⟨1, _⟩ => ⟨S1024x512, .bf16⟩
  | .local _ .vmem, ⟨2, _⟩ => ⟨S1024x2816, .bf16⟩
  | .local _ .vmem, ⟨3, _⟩ => ⟨S1024x2816, .bf16⟩
  | .local _ .vmem, ⟨4, _⟩ => ⟨S2x512x1408, .bf16⟩
  | .local _ .vmem, ⟨5, _⟩ => ⟨S2x512x1408, .bf16⟩
  | .local _ .vmem, ⟨6, _⟩ => ⟨S512x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpGradIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Cast.lean ====
abbrev S1x4x128x128 : Shape := ⟨4, ![1, 4, 128, 128]⟩
abbrev S4x128x128 : Shape := ⟨3, ![4, 128, 128]⟩
abbrev S1x128x128 : Shape := ⟨3, ![1, 128, 128]⟩
abbrev S128x128 : Shape := ⟨2, ![128, 128]⟩

abbrev nBuf : Space → Nat
  | .hbm => 3
  | .vmem => 4
  | .smem => 0
  | _ => 0

abbrev bufTy : (tb : Table) → Fin (tcTables nBuf tb) → BufTy
  | .hbm, ⟨0, _⟩ => ⟨S1x4x128x128, .f32⟩
  | .hbm, ⟨1, _⟩ => ⟨S4x128x128, .f32⟩
  | .hbm, ⟨2, _⟩ => ⟨S4x128x128, .bf16⟩
  | .local _ .vmem, ⟨0, _⟩ => ⟨S1x128x128, .f32⟩
  | .local _ .vmem, ⟨1, _⟩ => ⟨S1x128x128, .f32⟩
  | .local _ .vmem, ⟨2, _⟩ => ⟨S1x128x128, .bf16⟩
  | .local _ .vmem, ⟨3, _⟩ => ⟨S1x128x128, .bf16⟩
  | _, _ => ⟨S1x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastPlainIdeal.lean ====
abbrev S1x4x128x128 : Shape := ⟨4, ![1, 4, 128, 128]⟩
abbrev S4x128x128 : Shape := ⟨3, ![4, 128, 128]⟩

abbrev nBuf : Space → Nat
  | .hbm => 3
  | .vmem => 0
  | .smem => 0
  | _ => 0

abbrev bufTy : (tb : Table) → Fin (tcTables nBuf tb) → BufTy
  | .hbm, ⟨0, _⟩ => ⟨S1x4x128x128, .f32⟩
  | .hbm, ⟨1, _⟩ => ⟨S4x128x128, .f32⟩
  | .hbm, ⟨2, _⟩ => ⟨S4x128x128, .bf16⟩
  | _, _ => ⟨S1x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== DeviceSum.lean ====
abbrev S8x1016x128 : Shape := ⟨3, ![8, 1016, 128]⟩
abbrev S1016x128 : Shape := ⟨2, ![1016, 128]⟩
abbrev S1 : Shape := ⟨1, ![1]⟩
abbrev S1x1016x128 : Shape := ⟨3, ![1, 1016, 128]⟩

abbrev nBuf : Space → Nat
  | .hbm => 3
  | .vmem => 3
  | .smem => 1
  | _ => 0

abbrev bufTy : (tb : Table) → Fin (tcTables nBuf tb) → BufTy
  | .hbm, ⟨0, _⟩ => ⟨S8x1016x128, .f32⟩
  | .hbm, ⟨1, _⟩ => ⟨S1016x128, .f32⟩
  | .hbm, ⟨2, _⟩ => ⟨S1016x128, .f32⟩
  | .local _ .vmem, ⟨0, _⟩ => ⟨S8x1016x128, .f32⟩
  | .local _ .vmem, ⟨1, _⟩ => ⟨S1016x128, .f32⟩
  | .local _ .vmem, ⟨2, _⟩ => ⟨S1016x128, .f32⟩
  | .local _ .smem, ⟨0, _⟩ => ⟨S1, .i32⟩
  | _, _ => ⟨S8x1016x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1016x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1016x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1016x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DeviceSumPlainIdeal.lean ====
abbrev S8x1016x128 : Shape := ⟨3, ![8, 1016, 128]⟩
abbrev S1016x128 : Shape := ⟨2, ![1016, 128]⟩
abbrev S1 : Shape := ⟨1, ![1]⟩
abbrev S8 : Shape := ⟨1, ![8]⟩
abbrev S8x1x1 : Shape := ⟨3, ![8, 1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8x1016x128, .f32⟩
  | .hbm, ⟨1, _⟩ => ⟨S1016x128, .f32⟩
  | .hbm, ⟨2, _⟩ => ⟨S1, .i32⟩
  | .hbm, ⟨3, _⟩ => ⟨S8, .i32⟩
  | .hbm, ⟨4, _⟩ => ⟨S8, .i32⟩
  | .hbm, ⟨5, _⟩ => ⟨S8, .i1⟩
  | .hbm, ⟨6, _⟩ => ⟨S8x1x1, .i1⟩
  | .hbm, ⟨7, _⟩ => ⟨S8x1016x128, .i1⟩
  | .hbm, ⟨8, _⟩ => ⟨S8x1016x128, .f32⟩
  | .hbm, ⟨9, _⟩ => ⟨S8x1016x128, .f32⟩
  | .hbm, ⟨10, _⟩ => ⟨S_, .f32⟩
  | .hbm, ⟨11, _⟩ => ⟨S1016x128, .f32⟩
  | _, _ => ⟨S8x1016x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Reals.lean ====
/-
  Extended reals that are real numbers: what a precondition "every entry is finite" gives, and how sums and the
  operations with corners act on the images of real numbers.
-/
module

public import Idealize.ShloMosaic.Lib.Pointwise
public import Idealize.ShloMosaic.Lib.ReduceAll
public import Idealize.ShloMosaic.Lib.Pipeline.ValueKit

@[expose] public section

noncomputable section

namespace Cert.Reals

open Idealize.ShloMosaic

/-- A sum of images of reals is the image of the sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The pattern of positive infinity denotes the top. -/
theorem ofBits_inf : Ideal.ofBits .f32 0x7F800000#32 = (⊤ : EReal) := by simp [Ideal.ofBits, Ideal.ieee]

/-- An extended real whose absolute value is below the top is a real number. -/
theorem real_of_abs_lt {a : EReal} (h : Ideal.cmp .olt (max a (-a)) (Ideal.ofBits .f32 0x7F800000#32) = 1#1) :
    ∃ r : ℝ, a = r := by
  rw [ofBits_inf] at h
  have h' : max a (-a) < ⊤ := by
    by_contra hn
    simp [Ideal.cmp, hn] at h
  induction a with
  | bot => simp at h'
  | top => simp at h'
  | coe r => exact ⟨r, rfl⟩

/-- An array whose entries all have absolute value below infinity is the image of a real array. -/
theorem reals_of_all {s t u : Shape} {axes : List (Fin s.rank)} [Subsingleton t.Idx] (x : s.Idx → EReal)
    (p : s.Idx → BitVec 1) (init : u.Idx → BitVec 1) (h : s.ReducesTo axes t) (hu : 0 < u.numel) (j : t.Idx)
    (hp : ∀ i, p i = Ideal.cmp .olt (max (x i) (-(x i))) (Ideal.ofBits .f32 0x7F800000#32))
    (e : Host.reduce IntOp.andi p init h hu j = 1#1) : ∃ f : s.Idx → ℝ, x = fun i => (f i : EReal) := by
  have hx : ∀ i, ∃ r : ℝ, x i = r := fun i => real_of_abs_lt ((hp i).symm.trans (Host.reduce_andi_all p init h hu j e i))
  exact ⟨fun i => (hx i).choose, funext fun i => (hx i).choose_spec⟩

/-- Four consecutive stretches of `n` lanes, each summed, are the whole axis summed. -/
theorem sum_four {M : Type*} [AddCommMonoid M] (n N : ℕ) (hN : N = 4 * n) (f : Fin N → M)
    (h0 : ∀ k : Fin n, k.val < N) (h1 : ∀ k : Fin n, n + k.val < N) (h2 : ∀ k : Fin n, 2 * n + k.val < N)
    (h3 : ∀ k : Fin n, 3 * n + k.val < N) :
    ∑ k : Fin n, f ⟨k.val, h0 k⟩ + ∑ k : Fin n, f ⟨n + k.val, h1 k⟩ + ∑ k : Fin n, f ⟨2 * n + k.val, h2 k⟩
      + ∑ k : Fin n, f ⟨3 * n + k.val, h3 k⟩ = ∑ k : Fin N, f k := by
  subst hN
  have key := Fin.sum_mul_add_fin 4 n f rfl
  rw [← key, Fin.sum_univ_four]
  simp

end Cert.Reals
-- ==== Proof.NormValue.lean ====
/-
  What the kernel `NormBwd` computes over the extended reals, read at an index: the gradient of a root-mean-square norm
  whose cotangent is a product with a weight, row block by row block, and the gain's gradient summed over all row blocks.
-/
module

public import proofs.«01_k».proof.Proof.Gen.NormBwdIdeal.Value
public import proofs.«01_k».proof.Proof.Reals

@[expose] public section

set_option maxRecDepth 16384

noncomputable section

namespace Cert.NormBwdIdeal.RowValue

open Cert.NormBwdIdeal Cert.NormBwdIdeal.Gen Idealize.ShloMosaic Idealize.ShloMosaic.TcCoe Idealize.SL.Sem
open Idealize.ShloMosaic.Pipeline (Dat)

/-- The cotangent of the normalised rows: the product of the cotangent `a` with the transposed weight `w`. -/
def dn (a : S4096x5632.Idx → EReal) (w : S1024x5632.Idx → EReal) (r : Fin 4096) (k : Fin 1024) : EReal :=
  ∑ s : Fin 5632, a (ix2 r s) * w (ix2 k s)

/-- The reciprocal root mean square of a row. -/
def rs (x : S4096x1024.Idx → EReal) (r : Fin 4096) : EReal :=
  Ideal.rsqrt (Ideal.div (∑ k : Fin 1024, x (ix2 r k) * x (ix2 r k)) (Ideal.ofBits .f32 0x44800000#32)
    + Ideal.ofBits .f32 0x358637BD#32)

/-- The input's gradient as the kernel forms it. -/
def dx (a : S4096x5632.Idx → EReal) (w : S1024x5632.Idx → EReal) (x : S4096x1024.Idx → EReal) (g : S1x1024.Idx → EReal)
    (d : S4096x1024.Idx → EReal) (j : S4096x1024.Idx) : EReal :=
  d j + rs x (j 0) * (dn a w (j 0) (j 1) * g (ix2 0 (j 1)))
    - x j * (rs x (j 0) * rs x (j 0) * rs x (j 0)
      * ((∑ k : Fin 1024, dn a w (j 0) k * g (ix2 0 k) * x (ix2 (j 0) k)) * Ideal.ofBits .f32 0x3A800000#32))

/-- The gain's gradient as the kernel forms it. -/
def dg (a : S4096x5632.Idx → EReal) (w : S1024x5632.Idx → EReal) (x : S4096x1024.Idx → EReal) (j : S1x1024.Idx) : EReal :=
  ∑ r : Fin 4096, dn a w r (j 1) * (x (ix2 r (j 1)) * rs x r)

variable (m : (ℓ : Loc nD τ sig) → Buf (Elt Ideal) ℓ)

/-- The arguments as arrays of extended reals. -/
abbrev A0 (c : Dev nD) : S4096x5632.Idx → EReal := m ((c : Thread nD τ).loc main_arg0)
abbrev A1 (c : Dev nD) : S1024x5632.Idx → EReal := m ((c : Thread nD τ).loc main_arg1)
abbrev A2 (c : Dev nD) : S4096x1024.Idx → EReal := m ((c : Thread nD τ).loc main_arg2)
abbrev A3 (c : Dev nD) : S1x1024.Idx → EReal := m ((c : Thread nD τ).loc main_arg3)
abbrev A4 (c : Dev nD) : S4096x1024.Idx → EReal := m ((c : Thread nD τ).loc main_arg4)

/-- The first two blocks as arrays of extended reals. -/
abbrev B0 (c : Dev nD) (t : Fin cfg0.N) : S512x5632.Idx → EReal := iblk m c 0 t
abbrev B1 (c : Dev nD) (t : Fin cfg0.N) : S4x1x1024x1408.Idx → EReal := iblk m c 1 t

/-- The index maps as closed forms. -/
theorem idx : ∀ t : Fin grid0.N, win0_0.index t = ![t.val, 0] ∧ win0_1.index t = ![0, 0, 0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] := by decide +kernel

/-- Row `r` of block `t`. -/
def row (t : Fin cfg0.N) (r : Fin 512) : Fin 4096 :=
  ⟨t.val * 512 + r.val, by have := t.isLt; have h8 : cfg0.N = 8 := N_0; have := r.isLt; omega⟩

theorem blk0 (c : Dev nD) (t : Fin cfg0.N) (r : Fin 512) (s : Fin 5632) :
    iblk m c 0 t (ix2 r s) = A0 m c (ix2 (row t r) s) := by
  blk_ext [iblk, V, idx t, row]

theorem blk1 (c : Dev nD) (t : Fin cfg0.N) (q : Fin 4) (k : Fin 1024) (s : Fin 1408) (u : Fin 5632) (hu : u.val = q.val * 1408 + s.val) :
    iblk m c 1 t (ix4 q 0 k s) = A1 m c (ix2 k u) := by
  blk_ext! [iblk, V, idx t]

theorem blk2 (c : Dev nD) (t : Fin cfg0.N) (r : Fin 512) (s : Fin 1024) :
    iblk m c 2 t (ix2 r s) = A2 m c (ix2 (row t r) s) := by
  blk_ext [iblk, V, idx t, row]

theorem blk3 (c : Dev nD) (t : Fin cfg0.N) (s : Fin 1024) :
    iblk m c 3 t (ix2 0 s) = A3 m c (ix2 0 s) := by
  blk_ext [iblk, V, idx t]

theorem blk4 (c : Dev nD) (t : Fin cfg0.N) (r : Fin 512) (s : Fin 1024) :
    iblk m c 4 t (ix2 r s) = A4 m c (ix2 (row t r) s) := by
  blk_ext [iblk, V, idx t, row]

/-- The four partial products of a block are the whole product. -/
theorem dn_blk (c : Dev nD) (t : Fin cfg0.N) (r : Fin 512) (k : Fin 1024)
    (h0 : ∀ x : Fin 1408, x.val < 5632) (h1 : ∀ x : Fin 1408, 1408 + x.val < 5632) (h2 : ∀ x : Fin 1408, 2816 + x.val < 5632)
    (h3 : ∀ x : Fin 1408, 4224 + x.val < 5632) :
    ∑ x : Fin 1408, B0 m c t (ix2 r ⟨x.val, h0 x⟩) * B1 m c t (ix4 0 0 k x)
        + ∑ x : Fin 1408, B0 m c t (ix2 r ⟨1408 + x.val, h1 x⟩) * B1 m c t (ix4 1 0 k x)
        + ∑ x : Fin 1408, B0 m c t (ix2 r ⟨2816 + x.val, h2 x⟩) * B1 m c t (ix4 2 0 k x)
        + ∑ x : Fin 1408, B0 m c t (ix2 r ⟨4224 + x.val, h3 x⟩) * B1 m c t (ix4 3 0 k x)
      = dn (A0 m c) (A1 m c) (row t r) k := by
  have e0 : ∀ x : Fin 1408, B1 m c t (ix4 0 0 k x) = A1 m c (ix2 k ⟨x.val, h0 x⟩) :=
    fun x => blk1 m c t 0 k x _ (by simp)
  have e1 : ∀ x : Fin 1408, B1 m c t (ix4 1 0 k x) = A1 m c (ix2 k ⟨1408 + x.val, h1 x⟩) :=
    fun x => blk1 m c t 1 k x _ (by simp)
  have e2 : ∀ x : Fin 1408, B1 m c t (ix4 2 0 k x) = A1 m c (ix2 k ⟨2816 + x.val, h2 x⟩) :=
    fun x => blk1 m c t 2 k x _ (by simp)
  have e3 : ∀ x : Fin 1408, B1 m c t (ix4 3 0 k x) = A1 m c (ix2 k ⟨4224 + x.val, h3 x⟩) :=
    fun x => blk1 m c t 3 k x _ (by simp)
  simp only [e0, e1, e2, e3, B0, blk0]
  exact Reals.sum_four 1408 5632 rfl
    (fun s => A0 m c (ix2 (row t r) s) * A1 m c (ix2 k s)) h0 h1 h2 h3

/-- The input's gradient in a block, whichever branch the block's point takes. -/
theorem dx_blk (c : Dev nD) (t : Fin cfg0.N) (r : Fin 512) (k : Fin 1024) :
    (outsAt0 m c t.val t.isLt).1 (ix2 r k)
      = dx (A0 m c) (A1 m c) (A2 m c)
          (A3 m c) (A4 m c) (ix2 (row t r) k) := by
  have h8 : cfg0.N = 8 := N_0
  have ht := t.isLt
  by_cases h0 : t.val % 8 = 0
  · rw [outsAt0_A m c t h0 (by omega)]
    frame_out
    unfold_payloads
    pointwise
    simp only [dn_blk, blk2, blk3, blk4]
    rfl
  · rw [outsAt0_B m c t h0 (by omega)]
    frame_out
    unfold_payloads
    pointwise
    simp only [dn_blk, blk2, blk3, blk4]
    rfl

/-- The rounded copy of the input's gradient holds the same extended reals. -/
theorem dxb_blk (c : Dev nD) (t : Fin cfg0.N) (r : Fin 512) (k : Fin 1024) :
    (outsAt0 m c t.val t.isLt).2.1 (ix2 r k)
      = dx (A0 m c) (A1 m c) (A2 m c)
          (A3 m c) (A4 m c) (ix2 (row t r) k) := by
  have h8 : cfg0.N = 8 := N_0
  have ht := t.isLt
  by_cases h0 : t.val % 8 = 0
  · rw [outsAt0_A m c t h0 (by omega)]
    frame_out
    unfold_payloads
    pointwise
    simp only [dn_blk, blk2, blk3, blk4]
    rfl
  · rw [outsAt0_B m c t h0 (by omega)]
    frame_out
    unfold_payloads
    pointwise
    simp only [dn_blk, blk2, blk3, blk4]
    rfl

/-- The gain's gradient after the last block: every row's term. -/
theorem dg_all (c : Dev nD) (t : Fin cfg0.N) (ht : t.val + 1 = cfg0.N) (j : S1x1024.Idx) :
    (outsAt0 m c t.val t.isLt).2.2 j
      = dg (A0 m c) (A1 m c) (A2 m c) j := by
  have h8 : cfg0.N = 8 := N_0
  rw [Pipeline.eq_sum_fin_of_reset_step_apply_last (fun n h => (outsAt0 m c n h).2.2) 8 (fun _ => 0)
    (fun t j => ∑ r : Fin 512, dn (A0 m c) (A1 m c) (row t r) (j 1)
      * (A2 m c (ix2 (row t r) (j 1)) * rs (A2 m c) (row t r)))
    (fun t h j => ?_) (fun t h j => ?_) (by omega) t ht j]
  · rw [zero_add]
    exact Fin.sum_mul_add_fin cfg0.N 512 (fun r : Fin 4096 => dn (A0 m c) (A1 m c) r (j 1) * (A2 m c (ix2 r (j 1)) * rs (A2 m c) r))
      (by rw [h8])
  · have := t.isLt
    rw [outsAt0_A m c t h (by omega)]
    frame_out
    unfold_payloads
    idx_vars j
    pointwise
    simp only [dn_blk, blk2, zero_add]
    rfl
  · have := t.isLt
    rw [outsAt0_B m c t h (by omega)]
    frame_out
    unfold_payloads
    idx_vars j
    pointwise
    simp only [dn_blk, blk2]
    rfl

/-- The three result arrays after the run. -/
theorem dx_final (c : Dev nD) : (dats m 0 c).arrAt 5 cfg0.N = dx (A0 m c) (A1 m c) (A2 m c) (A3 m c) (A4 m c) := by
  refine (dats m 0 c).arrAt_eq_of_covers 5 _ (by decide +kernel) fun t hf y => ?_
  blk_simp
  rw [after0_5]
  idx_vars y
  refine (dx_blk m c t y0 y1).trans ?_
  congr 1
  blk_ext [idx t, row]

theorem dxb_final (c : Dev nD) : (dats m 0 c).arrAt 6 cfg0.N = dx (A0 m c) (A1 m c) (A2 m c) (A3 m c) (A4 m c) := by
  refine (dats m 0 c).arrAt_eq_of_covers 6 _ (by decide +kernel) fun t hf y => ?_
  blk_simp
  rw [after0_6]
  idx_vars y
  refine (dxb_blk m c t y0 y1).trans ?_
  congr 1
  blk_ext [idx t, row]

theorem dg_final (c : Dev nD) : (dats m 0 c).arrAt 7 cfg0.N = dg (A0 m c) (A1 m c) (A2 m c) := by
  refine (dats m 0 c).arrAt_eq_of_after_last 7 t0_7 (by decide +kernel) _ fun j => ?_
  blk_simp
  rw [after0_7]
  exact dg_all m c t0_7 rfl j

end Cert.NormBwdIdeal.RowValue
-- ==== Proof.NormEq.lean ====
/-
  The two spellings of the root-mean-square norm's gradient along one row, equal at finite arguments.
-/
module

public import proofs.«01_k».proof.Proof.Reals

@[expose] public section

noncomputable section

namespace Cert.NormEq

open Idealize.ShloMosaic

theorem ofBits_1024 : Ideal.ofBits .f32 0x44800000#32 = ((1024 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_eps : ∃ e : ℝ, 0 < e ∧ Ideal.ofBits .f32 0x358637BD#32 = (e : EReal) :=
  ⟨8796093 * 2 ^ (-43 : ℤ), by positivity, by simp [Ideal.ofBits, Ideal.ieee, -EReal.coe_mul]⟩

/-- A mean square plus the small constant is a positive real, and its reciprocal root is one over its root. -/
theorem mean_sq {n : ℕ} (x : Fin n → ℝ) : ∃ s : ℝ, 0 < s ∧
    Ideal.div (∑ k, (x k : EReal) * (x k : EReal)) (Ideal.ofBits .f32 0x44800000#32) + Ideal.ofBits .f32 0x358637BD#32 = (s : EReal)
    ∧ Ideal.rsqrt (s : EReal) = ((Real.sqrt s)⁻¹ : ℝ) := by
  obtain ⟨e, he, hE⟩ := ofBits_eps
  have h : 0 ≤ ∑ k, x k * x k := Finset.sum_nonneg fun k _ => mul_self_nonneg _
  have hs : 0 < (∑ k, x k * x k) * (1 / 1024) + e := by positivity
  refine ⟨_, hs, ?_, ?_⟩
  · simp only [← EReal.coe_mul, Reals.coe_sum]
    rw [ofBits_1024, Ideal.div_coe (by norm_num), hE]
    norm_cast
  · rw [Ideal.rsqrt_coe, if_neg (not_lt.2 hs.le), if_neg hs.ne']

/-- The kernel's spelling (the cube of the reciprocal root) and the derivative's (minus half the reciprocal root over its
    argument, for each of the two factors of the square) give the same gradient along a row. -/
theorem row_eq (D x g : Fin 1024 → ℝ) (d : EReal) (k : Fin 1024) (q : EReal)
    (hq : q = Ideal.div (∑ k, (x k : EReal) * (x k : EReal)) (Ideal.ofBits .f32 0x44800000#32) + Ideal.ofBits .f32 0x358637BD#32) :
    d + Ideal.rsqrt q * ((D k : EReal) * g k)
        - x k * (Ideal.rsqrt q * Ideal.rsqrt q * Ideal.rsqrt q
          * ((∑ k, (D k : EReal) * g k * x k) * Ideal.ofBits .f32 0x3A800000#32))
      = d + (D k : EReal) * g k * Ideal.rsqrt q
        + x k * (∑ _u : Fin 1, Ideal.div ((∑ k, (x k : EReal) * ((D k : EReal) * g k))
            * (Ideal.ofBits .f32 0xBF000000#32 * Ideal.div (Ideal.rsqrt q) q)) (Ideal.ofBits .f32 0x44800000#32))
        + (∑ _u : Fin 1, Ideal.div ((∑ k, (x k : EReal) * ((D k : EReal) * g k))
            * (Ideal.ofBits .f32 0xBF000000#32 * Ideal.div (Ideal.rsqrt q) q)) (Ideal.ofBits .f32 0x44800000#32)) * x k := by
  obtain ⟨s, hs, h1, h2⟩ := mean_sq x
  rw [hq, h1, h2, ofBits_1024, ofBits_inv1024, ofBits_neg_half, Ideal.div_coe hs.ne', Ideal.div_coe (by norm_num)]
  simp only [← EReal.coe_mul, Reals.coe_sum]
  have e1 : ∑ k, D k * g k * x k = ∑ k, x k * (D k * g k) := Finset.sum_congr rfl fun k _ => mul_comm _ _
  rw [e1]
  generalize ∑ k, x k * (D k * g k) = t
  rw [sub_eq_add_neg, ← EReal.coe_neg, add_assoc, add_assoc, add_assoc, ← EReal.coe_add, ← EReal.coe_add, ← EReal.coe_add]
  congr 2
  have hr : (Real.sqrt s)⁻¹ * (Real.sqrt s)⁻¹ = 1 / s := by
    rw [← mul_inv, Real.mul_self_sqrt hs.le, one_div]
  simp only [Finset.univ_unique, Finset.sum_singleton]
  generalize (Real.sqrt s)⁻¹ = r at hr
  rw [hr]
  ring

end Cert.NormEq
-- ==== Proof.NormRef.lean ====
/-
  What the reference `NormGrad` computes over the extended reals, read at an index.
-/
module

public import proofs.«01_k».proof.Proof.Gen.NormGradIdeal.Run
public import proofs.«01_k».proof.Proof.Gen.NormGradIdeal.Read
public import proofs.«01_k».proof.Proof.NormValue
public import proofs.«01_k».proof.Proof.NormEq

@[expose] public section

set_option maxRecDepth 16384

noncomputable section

namespace Cert.NormGradIdeal.RefValue

open Cert.NormGradIdeal Cert.NormGradIdeal.Gen Idealize.ShloMosaic Idealize.ShloMosaic.TcCoe Idealize.SL.Sem
open Cert.NormGradIdeal.Value
open Cert.NormBwdIdeal.RowValue (dn rs dx dg)

variable (m : (ℓ : Loc nD τ sig) → Buf (Elt Ideal) ℓ)

/-- The reference's gradient of the input, at arguments that are real numbers, is the kernel's. -/
theorem dx_ref (c : Dev nD) (a : S4096x5632.Idx → ℝ) (w : S1024x5632.Idx → ℝ) (x : S4096x1024.Idx → ℝ) (g : S1x1024.Idx → ℝ)
    (ha : m ((c.tc : Thread nD τ).loc main_arg0) = fun i => (a i : EReal))
    (hw : m ((c.tc : Thread nD τ).loc main_arg1) = fun i => (w i : EReal))
    (hx : m ((c.tc : Thread nD τ).loc main_arg2) = fun i => (x i : EReal))
    (hg : m ((c.tc : Thread nD τ).loc main_arg3) = fun i => (g i : EReal)) :
    res_out0 m c = dx (fun i => (a i : EReal)) (fun i => (w i : EReal)) (fun i => (x i : EReal)) (fun i => (g i : EReal))
      (m ((c.tc : Thread nD τ).loc main_arg4)) := by
  funext j
  idx_vars j
  unfold res_out0 res_main_v39
  rw [ha, hw, hx, hg]
  pointwise
  unfold dx dn rs
  simp only [← EReal.coe_mul, Reals.coe_sum]
  have key := NormEq.row_eq (fun k => ∑ s, a (ix2 j0 s) * w (ix2 k s)) (fun k => x (ix2 j0 k)) (fun k => g (ix2 0 k))
    (m ((c.tc : Thread nD τ).loc main_arg4) (ix2 j0 j1)) j1 _ rfl
  simp only [← EReal.coe_mul, Reals.coe_sum] at key
  exact key.symm

/-- The rounded copy is the same array over the extended reals. -/
theorem dxb_ref (c : Dev nD) : res_out1 m c = res_out0 m c := by
  unfold res_out1 res_out0 res_main_v39 res_main_v41
  rfl

open Cert.NormGradIdeal.Read in
/-- The reference's gradient of the gain is the kernel's, at all arguments. -/
theorem dg_ref (a : S4096x5632.Idx → EReal) (w : S1024x5632.Idx → EReal) (x : S4096x1024.Idx → EReal) :
    val_main_v40 (F := Ideal) a w x = dg a w x := by
  funext j
  idx_vars j
  unfold val_main_v40 val_main_v24 val_main_v21 val_main_v20 val_main_v19 val_main_v13 val_main_v12 val_main_v8 val_main_v7
    val_main_v5 val_main_v3 val_main_v2 val_main_v1 val_main_v18 val_main_v6 val_main_v4 val_main_cst_4 val_main_cst_3
    val_main_cst_1 val_main_cst_0 val_main_cst
  pointwise
  unfold dg dn rs
  simp only [Finset.univ_unique, Finset.sum_singleton, zero_add]
  exact Finset.sum_congr rfl fun r _ => mul_comm _ _

end Cert.NormGradIdeal.RefValue
-- ==== Proof.NormClaim.lean ====
/-
  The claims about the norm's gradient fused with the product before it: `NormBwd` against `NormGrad`.
-/
module

public import proofs.«01_k».proof.Defs
public import proofs.«01_k».proof.Proof.NormRef

@[expose] public section

set_option maxRecDepth 16384

noncomputable section

namespace Cert.NormClaim

open Idealize.ShloMosaic Idealize.ShloMosaic.TcCoe Idealize.SL.Sem
open Cert.NormBwdIdeal.RowValue (dx dg dx_final dxb_final dg_final)
open Cert.NormGradIdeal.RefValue (dx_ref dxb_ref dg_ref)

/-- The precondition's operations take these facts. -/
instance finite_facts : Cert.Pre_finite_norm.Facts := by
  constructor <;> decide

/-- The precondition says that four of the arguments are arrays of real numbers. -/
theorem reals {a : Pre_finite_norm.S4096x5632.Idx → EReal} {w : Pre_finite_norm.S1024x5632.Idx → EReal}
    {x : Pre_finite_norm.S4096x1024.Idx → EReal} {g : Pre_finite_norm.S1x1024.Idx → EReal}
    {d : Pre_finite_norm.S4096x1024.Idx → EReal} [Pre_finite_norm.Facts]
    (h : Pre_finite_norm.fn (F := Ideal) a w x g d = fun _ => 1#1) :
    (∃ f : Pre_finite_norm.S4096x5632.Idx → ℝ, a = fun i => (f i : EReal))
    ∧ (∃ f : Pre_finite_norm.S1024x5632.Idx → ℝ, w = fun i => (f i : EReal))
    ∧ (∃ f : Pre_finite_norm.S4096x1024.Idx → ℝ, x = fun i => (f i : EReal))
    ∧ (∃ f : Pre_finite_norm.S1x1024.Idx → ℝ, g = fun i => (f i : EReal)) := by
  have e := congrFun h (fun a => a.elim0)
  dsimp only [Pre_finite_norm.fn, Pre_finite_norm.fn_part1] at e
  obtain ⟨e, h3⟩ := IntOp.andi_eq_one.1 e
  obtain ⟨e, h2⟩ := IntOp.andi_eq_one.1 e
  obtain ⟨h0, h1⟩ := IntOp.andi_eq_one.1 e
  exact ⟨Reals.reals_of_all a _ _ _ _ _ (fun _ => rfl) h0, Reals.reals_of_all w _ _ _ _ _ (fun _ => rfl) h1,
    Reals.reals_of_all x _ _ _ _ _ (fun _ => rfl) h2, Reals.reals_of_all g _ _ _ _ _ (fun _ => rfl) h3⟩

/-- Both programs compute the same three gradients over the extended reals. -/
theorem algebraic : algebraic_NormBwdIdeal_NormGradIdeal_pre_finite_norm (hNormBwdIdeal := Cert.NormBwdIdeal.Gen.facts)
    (hNormGradIdeal := Cert.NormGradIdeal.Gen.facts) (hPre_finite_norm := finite_facts) := fun m ρ m' ρ' hpre hag =>
  ⟨fun c => dx (m ((c.tc : Thread _ _).loc NormBwdIdeal.main_arg0)) (m ((c.tc : Thread _ _).loc NormBwdIdeal.main_arg1))
      (m ((c.tc : Thread _ _).loc NormBwdIdeal.main_arg2)) (m ((c.tc : Thread _ _).loc NormBwdIdeal.main_arg3))
      (m ((c.tc : Thread _ _).loc NormBwdIdeal.main_arg4)),
    fun c => dx (m ((c.tc : Thread _ _).loc NormBwdIdeal.main_arg0)) (m ((c.tc : Thread _ _).loc NormBwdIdeal.main_arg1))
      (m ((c.tc : Thread _ _).loc NormBwdIdeal.main_arg2)) (m ((c.tc : Thread _ _).loc NormBwdIdeal.main_arg3))
      (m ((c.tc : Thread _ _).loc NormBwdIdeal.main_arg4)),
    fun c => dg (m ((c.tc : Thread _ _).loc NormBwdIdeal.main_arg0)) (m ((c.tc : Thread _ _).loc NormBwdIdeal.main_arg1))
      (m ((c.tc : Thread _ _).loc NormBwdIdeal.main_arg2)),
    (θ_run _ _ _).mono (fun _ h c => ⟨(h c).1.trans (dx_final m c), (h c).2.1.trans (dxb_final m c),
      (h c).2.2.1.trans (dg_final m c), (h c).2.2.2⟩) (NormBwdIdeal.Value.run_blocks m ρ),
    (θ_run _ _ _).mono (fun _ h c => by
      obtain ⟨⟨a, ha⟩, ⟨w, hw⟩, ⟨x, hx⟩, ⟨g, hg⟩⟩ := reals (hpre c)
      obtain ⟨e0, e1, e2, e3, e4⟩ := hag c
      have hv : NormGradIdeal.Value.res_out0 m' c = dx (m ((c.tc : Thread _ _).loc NormBwdIdeal.main_arg0))
          (m ((c.tc : Thread _ _).loc NormBwdIdeal.main_arg1)) (m ((c.tc : Thread _ _).loc NormBwdIdeal.main_arg2))
          (m ((c.tc : Thread _ _).loc NormBwdIdeal.main_arg3)) (m ((c.tc : Thread _ _).loc NormBwdIdeal.main_arg4)) := by
        rw [dx_ref m' c a w x g (e0.trans ha) (e1.trans hw) (e2.trans hx) (e3.trans hg), e4, ha, hw, hx, hg]
      refine ⟨(h c).1.trans hv, (h c).2.1.trans ((dxb_ref m' c).trans hv), (h c).2.2.1.trans ?_, (h c).2.2.2⟩
      refine (NormGradIdeal.Read.val_main_v40_eq _ _ _).trans ?_
      rw [e0, e1, e2]
      exact dg_ref _ _ _) (NormGradIdeal.Value.run m' ρ')⟩

/-- The frame of the reference: its run with the results forgotten. -/
theorem frame_ref : quiescent_NormGradIdeal (hNormGradIdeal := Cert.NormGradIdeal.Gen.facts) := fun m ρ _ =>
  (θ_run _ _ _).mono (fun r h => ⟨fun c => (h c).2.2.2, sem_eq_zero_of_no_sems (by decide) r.2⟩)
    (NormGradIdeal.Value.run m ρ)

end Cert.NormClaim
-- ==== Proof.MixerOps.lean ====
/-
  The array operations of the mixer's gradient, read at an index: windows formed by doubling, the number of rows of a
  window, and the products of one pooling group. Each group's payloads are these operations at the group's columns.
-/
module

public import proofs.«01_k».proof.Proof.Gen.MixerBwdIdeal.Value
public import proofs.«01_k».proof.Proof.Reals
public import Idealize.ShloMosaic.Lib.KernelVsHost

@[expose] public section

set_option maxRecDepth 16384

noncomputable section

namespace Cert.MixerBwdIdeal.RowValue

open Cert.MixerBwdIdeal Cert.MixerBwdIdeal.Gen Idealize.ShloMosaic Idealize.ShloMosaic.TcCoe Idealize.SL.Sem

/-- An array plus itself rotated down its rows. -/
def turn (w : BitVec 32) (x : S288x128.Idx → EReal) : S288x128.Idx → EReal :=
  addf (F := Ideal) (φ := .f32) x (dynamicRotate 0 w none x rotates_S288x128_d0)

theorem turn_apply (w : BitVec 32) (x : S288x128.Idx → EReal) (e : Fin 288) (c : Fin 128) :
    turn w x (ix2 e c) = x (ix2 e c) + x (ix2 ⟨(e.val + 288 - w.toNat % 288) % 288, Nat.mod_lt _ (by omega)⟩ c) := by
  unfold turn
  show x (ix2 e c) + _ = _
  congr 1
  refine dynamicRotate_apply _ _ _ _ _ _ fun b => ?_
  obtain ⟨b, hb⟩ := b
  match b, hb with
  | 0, _ => rfl
  | 1, _ => rfl

/-- Doubling a window that ends at a row. -/
theorem down_double (w : BitVec 32) (s l b : ℕ) (hw : w.toNat = s) (hs : s < 288) (x : S288x128.Idx → EReal)
    (g : ℕ → EReal) (c : Fin 128)
    (hx : ∀ e : Fin 288, l ≤ e.val → x (ix2 e c) = ∑ j ∈ Finset.range s, g (b + e.val - j))
    (e : Fin 288) (he : l + s ≤ e.val) : turn w x (ix2 e c) = ∑ j ∈ Finset.range (s + s), g (b + e.val - j) := by
  have h2 : (e.val + 288 - w.toNat % 288) % 288 = e.val - s := by
    rw [hw]; have := e.isLt; omega
  rw [turn_apply, Finset.sum_range_add, hx e (by omega), hx _ (by simp only [h2]; omega)]
  congr 1
  refine Finset.sum_congr rfl fun j _ => ?_
  simp only [h2]
  congr 1
  omega

/-- Doubling a window that begins at a row. -/
theorem up_double (w : BitVec 32) (s l b : ℕ) (hw : w.toNat = 288 - s) (hs : s < 288) (h0 : 0 < s) (x : S288x128.Idx → EReal)
    (g : ℕ → EReal) (c : Fin 128)
    (hx : ∀ e : Fin 288, 16 ≤ e.val → e.val + l < 288 → x (ix2 e c) = ∑ j ∈ Finset.range s, g (b + e.val + j))
    (e : Fin 288) (h16 : 16 ≤ e.val) (he : e.val + (l + s) < 288) :
    turn w x (ix2 e c) = ∑ j ∈ Finset.range (s + s), g (b + e.val + j) := by
  have h2 : (e.val + 288 - w.toNat % 288) % 288 = e.val + s := by
    rw [hw]; have := e.isLt; omega
  rw [turn_apply, Finset.sum_range_add, hx e h16 (by omega), hx _ (by simp only [h2]; omega) (by simp only [h2]; omega)]
  congr 1
  refine Finset.sum_congr rfl fun j _ => ?_
  simp only [h2]
  congr 1
  omega

/-- The pooled rows of a group: windows over their lengths, minus the rows. -/
def pool (C : S288x1.Idx → EReal) (W X : S288x128.Idx → EReal) : S256x128.Idx → EReal :=
  truncf (F := Ideal) (φ := .f32) .bf16 (extractStridedSlice S256x128 ![16, 0]
    (subf (F := Ideal) (φ := .f32) (divf (F := Ideal) (φ := .f32) W (broadcastTo S288x128 C broadcasts_S288x1_S288x128)) X)
      slices_S288x128_o16_0_S256x128) bitsLt_bf16_f32

theorem pool_apply (C : S288x1.Idx → EReal) (W X : S288x128.Idx → EReal) (r : Fin 256) (c : Fin 128) :
    pool C W X (ix2 r c) = Ideal.div (W (ix2 ⟨16 + r.val, by omega⟩ c)) (C (ix2 ⟨16 + r.val, by omega⟩ 0))
      - X (ix2 ⟨16 + r.val, by omega⟩ c) := by
  unfold pool
  pointwise

/-- A row of the scale's gradient grows by the sum of cotangent times product. -/
def scaleStep (Y : S288x128.Idx → EReal) (p : S256x128.Idx → EReal) (w : S1x128x128.Idx → EReal) (a : S1x128.Idx → EReal) :
    S1x128.Idx → EReal :=
  k0_pay32 (F := Ideal) p Y (k0_pay31 w) (constant S256x128 .f32 0x00000000#32) a

theorem scaleStep_apply (Y : S288x128.Idx → EReal) (p : S256x128.Idx → EReal) (w : S1x128x128.Idx → EReal)
    (a : S1x128.Idx → EReal) (d : Fin 128) :
    scaleStep Y p w a (ix2 0 d) = a (ix2 0 d) + ∑ r : Fin 256, Y (ix2 ⟨16 + r.val, by omega⟩ d)
      * ∑ c : Fin 128, p (ix2 r c) * w (ix3 0 c d) := by
  unfold scaleStep k0_pay32 k0_pay31
  pointwise

/-- A group's weight's gradient grows by the product of the pooled rows with the scaled cotangent. -/
theorem weightStep_apply (p : S256x128.Idx → EReal) (e : S288x128.Idx → EReal) (a : S1x128x128.Idx → EReal)
    (c d : Fin 128) :
    k0_pay33 (F := Ideal) p e a (ix3 0 c d) = a (ix3 0 c d) + ∑ r : Fin 256, p (ix2 r c) * e (ix2 ⟨16 + r.val, by omega⟩ d) := by
  unfold k0_pay33
  pointwise

/-- The scaled cotangent's product with the transposed weight. -/
def back (e : S288x128.Idx → EReal) (w : S1x128x128.Idx → EReal) : S288x128.Idx → EReal :=
  matmul (F := Ideal) (φ₁ := .bf16) (φ₂ := .bf16) dot_S288x128_S128x128_S288x128_1_1_0_0_n_n none
    (truncf (F := Ideal) (φ := .f32) .bf16 e bitsLt_bf16_f32) (shapeCast S128x128 w shapeCasts_S1x128x128_S128x128)
    (constant (F := Ideal) S288x128 .f32 0x00000000#32)

theorem back_apply (e : S288x128.Idx → EReal) (w : S1x128x128.Idx → EReal) (r : Fin 288) (c : Fin 128) :
    back e w (ix2 r c) = ∑ d : Fin 128, e (ix2 r d) * w (ix3 0 c d) := by
  unfold back
  pointwise

/-- A row over its window's length. -/
def share (C : S288x1.Idx → EReal) (x : S288x128.Idx → EReal) : S288x128.Idx → EReal :=
  divf (F := Ideal) (φ := .f32) x (broadcastTo S288x128 C broadcasts_S288x1_S288x128)

theorem share_apply (C : S288x1.Idx → EReal) (x : S288x128.Idx → EReal) (r : Fin 288) (c : Fin 128) :
    share C x (ix2 r c) = Ideal.div (x (ix2 r c)) (C (ix2 r 0)) := by
  unfold share
  pointwise

/-- The gradient of a group's columns: the windows that begin at a row, minus the row. -/
def spread (W x : S288x128.Idx → EReal) : S256x128.Idx → EReal :=
  truncf (F := Ideal) (φ := .f32) .bf16 (extractStridedSlice S256x128 ![16, 0] (subf (F := Ideal) (φ := .f32) W x)
    slices_S288x128_o16_0_S256x128) bitsLt_bf16_f32

theorem spread_apply (W x : S288x128.Idx → EReal) (r : Fin 256) (c : Fin 128) :
    spread W x (ix2 r c) = W (ix2 ⟨16 + r.val, by omega⟩ c) - x (ix2 ⟨16 + r.val, by omega⟩ c) := by
  unfold spread
  pointwise

/-- The number of rows in a window of `k` that ends at padded row `n`. -/
def cnt (k n : ℕ) : EReal := (((max 1 (min ((n : ℤ) - 15) k) : ℤ) : ℝ) : EReal)

/-- The words of a window's length. -/
theorem word_cnt : ∀ (t : Fin 16) (e : Fin 288) (k : Fin 4),
    (IntOp.minsi (BitVec.ofNat 32 (2 ^ (k.val + 1))) (IntOp.maxsi 1#32 (IntOp.addi (IntOp.addi (Scalar.subi
      (Scalar.muli (BitVec.ofNat 32 t.val) 256#32) 16#32) (BitVec.ofNat 32 e.val)) 1#32))).toInt
        = max 1 (min (((t.val * 256 + e.val : ℕ) : ℤ) - 15) ((2 ^ (k.val + 1) : ℕ) : ℤ)) := by
  decide +kernel

theorem cnt2 (t : Fin 16) (e : Fin 288) :
    k0_pay27 (F := Ideal) (BitVec.ofNat 32 t.val) (ix2 e 0) = cnt 2 (t.val * 256 + e.val) := by
  unfold k0_pay27
  pointwise
  exact congrArg (fun z : ℤ => ((z : ℝ) : EReal)) (word_cnt t e 0)

theorem cnt4 (t : Fin 16) (e : Fin 288) :
    k0_pay37 (F := Ideal) (BitVec.ofNat 32 t.val) 256#32 (ix2 e 0) = cnt 4 (t.val * 256 + e.val) := by
  unfold k0_pay37
  pointwise
  exact congrArg (fun z : ℤ => ((z : ℝ) : EReal)) (word_cnt t e 1)

theorem cnt8 (t : Fin 16) (e : Fin 288) :
    k0_pay45 (F := Ideal) (BitVec.ofNat 32 t.val) (ix2 e 0) = cnt 8 (t.val * 256 + e.val) := by
  unfold k0_pay45
  pointwise
  exact congrArg (fun z : ℤ => ((z : ℝ) : EReal)) (word_cnt t e 2)

theorem cnt16 (t : Fin 16) (e : Fin 288) :
    k0_pay54 (F := Ideal) (BitVec.ofNat 32 t.val) (ix2 e 0) = cnt 16 (t.val * 256 + e.val) := by
  unfold k0_pay54
  pointwise
  exact congrArg (fun z : ℤ => ((z : ℝ) : EReal)) (word_cnt t e 3)

end Cert.MixerBwdIdeal.RowValue
-- ==== Proof.MixerValue.lean ====
/-
  What the kernel `MixerBwd` computes over the extended reals, read at an index. A block works on its own rows between
  sixteen rows before and sixteen rows after; rows outside the sequence are zero. Rows are numbered from sixteen, so that
  padded row `n` is row `n - 16` of the sequence.
-/
module

public import proofs.«01_k».proof.Proof.MixerOps

@[expose] public section

set_option maxRecDepth 16384

noncomputable section

namespace Cert.MixerBwdIdeal.RowValue

open Cert.MixerBwdIdeal Cert.MixerBwdIdeal.Gen Idealize.ShloMosaic Idealize.ShloMosaic.TcCoe Idealize.SL.Sem
open Idealize.ShloMosaic.Pipeline (Dat)

/-- The projected rows, zero outside the sequence. -/
def P (A : S4096x2048.Idx → EReal) (n q : ℕ) : EReal :=
  if h : (16 ≤ n ∧ n < 4112) ∧ q < 2048 then A (ix2 ⟨n - 16, by omega⟩ ⟨q, h.2⟩) else 0

/-- The cotangent's rows, zero outside the sequence. -/
def Q (D : S4096x1024.Idx → EReal) (n q : ℕ) : EReal :=
  if h : (16 ≤ n ∧ n < 4112) ∧ q < 1024 then D (ix2 ⟨n - 16, by omega⟩ ⟨q, h.2⟩) else 0

theorem P_in (A : S4096x2048.Idx → EReal) (n : ℕ) (u : Fin 4096) (s : Fin 2048) (h : n = u.val + 16) :
    P A n s.val = A (ix2 u s) := by
  subst h
  unfold P
  rw [dif_pos ⟨⟨by omega, by omega⟩, s.isLt⟩]
  rfl

theorem P_out (A : S4096x2048.Idx → EReal) (n q : ℕ) (h : n < 16 ∨ 4112 ≤ n) : P A n q = 0 := by
  unfold P
  rw [dif_neg (by omega)]

theorem Q_in (D : S4096x1024.Idx → EReal) (n : ℕ) (u : Fin 4096) (s : Fin 1024) (h : n = u.val + 16) :
    Q D n s.val = D (ix2 u s) := by
  subst h
  unfold Q
  rw [dif_pos ⟨⟨by omega, by omega⟩, s.isLt⟩]
  rfl

theorem Q_out (D : S4096x1024.Idx → EReal) (n q : ℕ) (h : n < 16 ∨ 4112 ≤ n) : Q D n q = 0 := by
  unfold Q
  rw [dif_neg (by omega)]

theorem select_if (p : Prop) [Decidable p] (a b : EReal) : Scalar.select (if p then 1#1 else 0#1) a b = if p then a else b := by
  by_cases h : p <;> simp [h, Scalar.select]

variable (m : (ℓ : Loc nD τ sig) → Buf (Elt Ideal) ℓ)

/-- The arguments as arrays of extended reals. -/
abbrev A0 (c : Dev nD) : S4096x2048.Idx → EReal := m ((c : Thread nD τ).loc main_arg0)
abbrev A1 (c : Dev nD) : S4096x1024.Idx → EReal := m ((c : Thread nD τ).loc main_arg1)
abbrev A2 (c : Dev nD) : S3x512.Idx → EReal := m ((c : Thread nD τ).loc main_arg2)
abbrev A3 (c : Dev nD) : S4x128x128.Idx → EReal := m ((c : Thread nD τ).loc main_arg3)
abbrev A4 (c : Dev nD) : S1x512.Idx → EReal := m ((c : Thread nD τ).loc main_arg4)

/-- The index maps as closed forms. -/
theorem idx : ∀ t : Fin grid0.N, win0_0.index t = ![t.val, 0] ∧ win0_1.index t = ![16 * t.val - 1, 0]
    ∧ win0_2.index t = ![min (16 * (t.val + 1)) 255, 0] ∧ win0_3.index t = ![t.val, 0]
    ∧ win0_4.index t = ![min (16 * (t.val + 1)) 255, 0] ∧ win0_5.index t = ![0, 0] ∧ win0_6.index t = ![0, 0, 0]
    ∧ win0_7.index t = ![0, 0] ∧ win0_8.index t = ![t.val, 0] ∧ win0_9.index t = ![0, 0] ∧ win0_10.index t = ![0, 0, 0]
    ∧ win0_11.index t = ![0, 0] := by decide +kernel

theorem N_16 : cfg0.N = 16 := N_0

theorem coord (t : Fin cfg0.N) : (grid0.coords t 0).val = t.val := by
  have h : ∀ t : Fin grid0.N, (grid0.coords t 0).val = t.val := by decide +kernel
  exact h t

theorem blk0 (c : Dev nD) (t : Fin cfg0.N) (r : Fin 256) (s : Fin 2048) (u : Fin 4096) (hu : u.val = t.val * 256 + r.val) :
    iblk m c 0 t (ix2 r s) = A0 m c (ix2 u s) := by
  blk_ext! [iblk, V, idx t]

theorem blk1 (c : Dev nD) (t : Fin cfg0.N) (r : Fin 16) (s : Fin 2048) (u : Fin 4096) (hu : u.val = (16 * t.val - 1) * 16 + r.val) :
    iblk m c 1 t (ix2 r s) = A0 m c (ix2 u s) := by
  blk_ext! [iblk, V, idx t]

theorem blk2 (c : Dev nD) (t : Fin cfg0.N) (r : Fin 16) (s : Fin 2048) (u : Fin 4096)
    (hu : u.val = min (16 * (t.val + 1)) 255 * 16 + r.val) :
    iblk m c 2 t (ix2 r s) = A0 m c (ix2 u s) := by
  blk_ext! [iblk, V, idx t]

theorem blk3 (c : Dev nD) (t : Fin cfg0.N) (r : Fin 256) (s : Fin 1024) (u : Fin 4096) (hu : u.val = t.val * 256 + r.val) :
    iblk m c 3 t (ix2 r s) = A1 m c (ix2 u s) := by
  blk_ext! [iblk, V, idx t]

theorem blk4 (c : Dev nD) (t : Fin cfg0.N) (r : Fin 16) (s : Fin 1024) (u : Fin 4096)
    (hu : u.val = min (16 * (t.val + 1)) 255 * 16 + r.val) :
    iblk m c 4 t (ix2 r s) = A1 m c (ix2 u s) := by
  blk_ext! [iblk, V, idx t]

theorem blk5 (c : Dev nD) (t : Fin cfg0.N) (r : Fin 3) (s : Fin 512) : iblk m c 5 t (ix2 r s) = A2 m c (ix2 r s) := by
  blk_ext [iblk, V, idx t]

theorem blk6 (c : Dev nD) (t : Fin cfg0.N) (r : Fin 4) (s u : Fin 128) : iblk m c 6 t (ix3 r s u) = A3 m c (ix3 r s u) := by
  blk_ext [iblk, V, idx t]

theorem blk7 (c : Dev nD) (t : Fin cfg0.N) (s : Fin 512) : iblk m c 7 t (ix2 0 s) = A4 m c (ix2 0 s) := by
  blk_ext [iblk, V, idx t]

/-- A block's projected rows with the rows around them. -/
abbrev X (c : Dev nD) (t : Fin cfg0.N) : S288x2048.Idx → EReal :=
  k0_pay2 (F := Ideal) (grid0.coords t) (iblk m c 1 t) (iblk m c 2 t) (iblk m c 0 t)

/-- A block's cotangent rows with the rows around them. -/
abbrev Y (c : Dev nD) (t : Fin cfg0.N) : S288x1024.Idx → EReal :=
  k0_pay3 (F := Ideal) (grid0.coords t) (iblk m c 4 t) (iblk m c 3 t)

theorem gt_word : ∀ t : Fin 16, Scalar.cmpi .sgt (BitVec.ofNat 32 t.val) 0#32 = if 0 < t.val then 1#1 else 0#1 := by decide +kernel
theorem eq_word : ∀ t : Fin 16, Scalar.cmpi .eq (BitVec.ofNat 32 t.val) 15#32 = if t.val = 15 then 1#1 else 0#1 := by decide +kernel

theorem first_select (t : Fin 16) (a b : EReal) :
    Scalar.select (Scalar.cmpi .sgt (BitVec.ofNat 32 t.val) 0#32) a b = if 0 < t.val then a else b := by
  rw [gt_word, select_if]

theorem last_select (t : Fin 16) (a b : EReal) :
    Scalar.select (Scalar.cmpi .eq (BitVec.ofNat 32 t.val) 15#32) a b = if t.val = 15 then a else b := by
  rw [eq_word, select_if]

theorem X_apply (c : Dev nD) (t : Fin cfg0.N) (e : Fin 288) (k : Fin 2048) :
    X m c t (ix2 e k) = P (A0 m c) (t.val * 256 + e.val) k.val := by
  have ht : t.val < 16 := by have := t.isLt; have := N_16; omega
  have he := e.isLt
  unfold X k0_pay2
  pointwise
  rw [coord]
  by_cases h1 : e.val < 16
  · rw [dif_pos h1]
    refine (first_select ⟨t.val, ht⟩ _ _).trans ?_
    by_cases h2 : 0 < t.val
    · rw [if_pos h2, P_in _ _ ⟨t.val * 256 + e.val - 16, by omega⟩ k (by simp only; omega)]
      exact blk1 m c t _ k _ (by simp only; omega)
    · rw [if_neg h2, P_out _ _ _ (by omega)]
  · rw [dif_neg h1]
    by_cases h2 : e.val - 16 < 256
    · rw [dif_pos h2, P_in _ _ ⟨t.val * 256 + e.val - 16, by omega⟩ k (by simp only; omega)]
      exact blk0 m c t _ k _ (by simp only; omega)
    · rw [dif_neg h2]
      refine (last_select ⟨t.val, ht⟩ _ _).trans ?_
      by_cases h3 : t.val = 15
      · rw [if_pos h3, P_out _ _ _ (by omega)]
      · rw [if_neg h3, P_in _ _ ⟨t.val * 256 + e.val - 16, by omega⟩ k (by simp only; omega)]
        exact blk2 m c t _ k _ (by simp only; omega)

theorem Y_apply (c : Dev nD) (t : Fin cfg0.N) (e : Fin 288) (k : Fin 1024) (h16 : 16 ≤ e.val) :
    Y m c t (ix2 e k) = Q (A1 m c) (t.val * 256 + e.val) k.val := by
  have ht : t.val < 16 := by have := t.isLt; have := N_16; omega
  have he := e.isLt
  unfold Y k0_pay3
  pointwise
  rw [coord, dif_neg (by omega)]
  by_cases h2 : e.val - 16 < 256
  · rw [dif_pos h2, Q_in _ _ ⟨t.val * 256 + e.val - 16, by omega⟩ k (by simp only; omega)]
    exact blk3 m c t _ k _ (by simp only; omega)
  · rw [dif_neg h2]
    refine (last_select ⟨t.val, ht⟩ _ _).trans ?_
    by_cases h3 : t.val = 15
    · rw [if_pos h3, Q_out _ _ _ (by omega)]
    · rw [if_neg h3, Q_in _ _ ⟨t.val * 256 + e.val - 16, by omega⟩ k (by simp only; omega)]
      exact blk4 m c t _ k _ (by simp only; omega)

end Cert.MixerBwdIdeal.RowValue
-- ==== Proof.MixerPool.lean ====
/-
  The four pooling groups of a block, read at an index: the pooled rows, the scaled cotangent, the rows' gradient, and
  the steps of the two accumulated gradients. Group `g` has windows of `2 ^ (g + 1)` rows.
-/
module

public import proofs.«01_k».proof.Proof.MixerValue

@[expose] public section

set_option maxRecDepth 16384

noncomputable section

namespace Cert.MixerBwdIdeal.RowValue

open Cert.MixerBwdIdeal Cert.MixerBwdIdeal.Gen Idealize.ShloMosaic Idealize.ShloMosaic.TcCoe Idealize.SL.Sem
open Idealize.ShloMosaic.Pipeline (Dat)

/-- The pooled rows of group `g`: a window's mean minus the row. -/
def pooled (A : S4096x2048.Idx → EReal) (g n q : ℕ) : EReal :=
  Ideal.div (∑ j ∈ Finset.range (2 ^ (g + 1)), P A (n - j) (1536 + 128 * g + q)) (cnt (2 ^ (g + 1)) n)
    - P A n (1536 + 128 * g + q)

/-- The scale at a column. -/
def sc (S : S1x512.Idx → EReal) (k : ℕ) : EReal := if h : k < 512 then S (ix2 0 ⟨k, h⟩) else 0

/-- The scaled cotangent of group `g`. -/
def scaled (D : S4096x1024.Idx → EReal) (S : S1x512.Idx → EReal) (g n q : ℕ) : EReal :=
  Q D n (512 + 128 * g + q) * sc S (128 * g + q)

/-- The gradient of the pooled rows of group `g`. -/
def dpool (D : S4096x1024.Idx → EReal) (S : S1x512.Idx → EReal) (W : S4x128x128.Idx → EReal) (g : Fin 4) (n : ℕ) (q : Fin 128) : EReal :=
  ∑ d : Fin 128, scaled D S g.val n d.val * W (ix3 g q d)

/-- The gradient of the rows of group `g`: the windows beginning at a row, minus the row. -/
def dpin (D : S4096x1024.Idx → EReal) (S : S1x512.Idx → EReal) (W : S4x128x128.Idx → EReal) (g : Fin 4) (n : ℕ) (q : Fin 128) : EReal :=
  (∑ j ∈ Finset.range (2 ^ (g.val + 1)), Ideal.div (dpool D S W g (n + j) q) (cnt (2 ^ (g.val + 1)) (n + j)))
    - dpool D S W g n q

/-- The terms of the scale's and of the weight's gradient at a row. -/
def psTerm (A : S4096x2048.Idx → EReal) (D : S4096x1024.Idx → EReal) (W : S4x128x128.Idx → EReal) (g : Fin 4) (d : Fin 128) (n : ℕ) : EReal :=
  Q D n (512 + 128 * g.val + d.val) * ∑ q : Fin 128, pooled A g.val n q.val * W (ix3 g q d)

def pwTerm (A : S4096x2048.Idx → EReal) (D : S4096x1024.Idx → EReal) (S : S1x512.Idx → EReal) (g : Fin 4) (q d : Fin 128) (n : ℕ) : EReal :=
  pooled A g.val n q.val * scaled D S g.val n d.val

section Windows
variable (x : S288x128.Idx → EReal) (f : ℕ → EReal) (b : ℕ) (q : Fin 128)

theorem down2 (hx : ∀ e : Fin 288, x (ix2 e q) = f (b + e.val)) (e : Fin 288) (he : 1 ≤ e.val) :
    turn 1#32 x (ix2 e q) = ∑ j ∈ Finset.range 2, f (b + e.val - j) :=
  down_double 1#32 1 0 b rfl (by omega) x f q (fun e _ => by simpa using hx e) e (by omega)

theorem down4 (hx : ∀ e : Fin 288, x (ix2 e q) = f (b + e.val)) (e : Fin 288) (he : 3 ≤ e.val) :
    turn 2#32 (turn 1#32 x) (ix2 e q) = ∑ j ∈ Finset.range 4, f (b + e.val - j) :=
  down_double 2#32 2 1 b rfl (by omega) _ f q (down2 x f b q hx) e (by omega)

theorem down8 (hx : ∀ e : Fin 288, x (ix2 e q) = f (b + e.val)) (e : Fin 288) (he : 7 ≤ e.val) :
    turn 4#32 (turn 2#32 (turn 1#32 x)) (ix2 e q) = ∑ j ∈ Finset.range 8, f (b + e.val - j) :=
  down_double 4#32 4 3 b rfl (by omega) _ f q (down4 x f b q hx) e (by omega)

theorem down16 (hx : ∀ e : Fin 288, x (ix2 e q) = f (b + e.val)) (e : Fin 288) (he : 15 ≤ e.val) :
    turn 8#32 (turn 4#32 (turn 2#32 (turn 1#32 x))) (ix2 e q) = ∑ j ∈ Finset.range 16, f (b + e.val - j) :=
  down_double 8#32 8 7 b rfl (by omega) _ f q (down8 x f b q hx) e (by omega)

theorem up2 (hx : ∀ e : Fin 288, 16 ≤ e.val → x (ix2 e q) = f (b + e.val)) (e : Fin 288) (h16 : 16 ≤ e.val) (he : e.val + 1 < 288) :
    turn 287#32 x (ix2 e q) = ∑ j ∈ Finset.range 2, f (b + e.val + j) :=
  up_double 287#32 1 0 b rfl (by omega) (by omega) x f q (fun e h _ => by simpa using hx e h) e h16 (by omega)

theorem up4 (hx : ∀ e : Fin 288, 16 ≤ e.val → x (ix2 e q) = f (b + e.val)) (e : Fin 288) (h16 : 16 ≤ e.val) (he : e.val + 3 < 288) :
    turn 286#32 (turn 287#32 x) (ix2 e q) = ∑ j ∈ Finset.range 4, f (b + e.val + j) :=
  up_double 286#32 2 1 b rfl (by omega) (by omega) _ f q (up2 x f b q hx) e h16 (by omega)

theorem up8 (hx : ∀ e : Fin 288, 16 ≤ e.val → x (ix2 e q) = f (b + e.val)) (e : Fin 288) (h16 : 16 ≤ e.val) (he : e.val + 7 < 288) :
    turn 284#32 (turn 286#32 (turn 287#32 x)) (ix2 e q) = ∑ j ∈ Finset.range 8, f (b + e.val + j) :=
  up_double 284#32 4 3 b rfl (by omega) (by omega) _ f q (up4 x f b q hx) e h16 (by omega)

theorem up16 (hx : ∀ e : Fin 288, 16 ≤ e.val → x (ix2 e q) = f (b + e.val)) (e : Fin 288) (h16 : 16 ≤ e.val) (he : e.val + 15 < 288) :
    turn 280#32 (turn 284#32 (turn 286#32 (turn 287#32 x))) (ix2 e q) = ∑ j ∈ Finset.range 16, f (b + e.val + j) :=
  up_double 280#32 8 7 b rfl (by omega) (by omega) _ f q (up8 x f b q hx) e h16 (by omega)

end Windows

variable (m : (ℓ : Loc nD τ sig) → Buf (Elt Ideal) ℓ)

/-- A block's pooled rows from the windows of its rows. -/
theorem pool_rows (c : Dev nD) (t : Fin cfg0.N) (g : ℕ) (C : S288x1.Idx → EReal) (W x : S288x128.Idx → EReal)
    (hC : ∀ e : Fin 288, C (ix2 e 0) = cnt (2 ^ (g + 1)) (t.val * 256 + e.val))
    (q : Fin 128) (hx : ∀ e : Fin 288, x (ix2 e q) = P (A0 m c) (t.val * 256 + e.val) (1536 + 128 * g + q.val))
    (hW : ∀ e : Fin 288, 15 ≤ e.val → W (ix2 e q)
      = ∑ j ∈ Finset.range (2 ^ (g + 1)), P (A0 m c) (t.val * 256 + e.val - j) (1536 + 128 * g + q.val))
    (r : Fin 256) : pool C W x (ix2 r q) = pooled (A0 m c) g (t.val * 256 + (16 + r.val)) q.val := by
  rw [pool_apply, hC, hx, hW _ (by simp only; omega)]
  rfl

theorem lt16 (t : Fin cfg0.N) : t.val < 16 := by have := t.isLt; have := N_16; omega

/-- A column group of a block's rows. -/
theorem cols0 (c : Dev nD) (t : Fin cfg0.N) (q : Fin 128) (e : Fin 288) :
    extractStridedSlice S288x128 ![0, 1536] (X m c t) slices_S288x2048_o0_1536_S288x128 (ix2 e q)
      = P (A0 m c) (t.val * 256 + e.val) (1536 + 128 * 0 + q.val) := by
  pointwise
  exact X_apply m c t e _

theorem cols1 (c : Dev nD) (t : Fin cfg0.N) (q : Fin 128) (e : Fin 288) :
    k0_pay35 (F := Ideal) (X m c t) (ix2 e q) = P (A0 m c) (t.val * 256 + e.val) (1536 + 128 * 1 + q.val) := by
  unfold k0_pay35
  pointwise
  exact X_apply m c t e _

theorem cols2 (c : Dev nD) (t : Fin cfg0.N) (q : Fin 128) (e : Fin 288) :
    extractStridedSlice S288x128 ![0, 1792] (X m c t) slices_S288x2048_o0_1792_S288x128 (ix2 e q)
      = P (A0 m c) (t.val * 256 + e.val) (1536 + 128 * 2 + q.val) := by
  pointwise
  exact X_apply m c t e _

theorem cols3 (c : Dev nD) (t : Fin cfg0.N) (q : Fin 128) (e : Fin 288) :
    extractStridedSlice S288x128 ![0, 1920] (X m c t) slices_S288x2048_o0_1920_S288x128 (ix2 e q)
      = P (A0 m c) (t.val * 256 + e.val) (1536 + 128 * 3 + q.val) := by
  pointwise
  exact X_apply m c t e _

theorem pooled0 (c : Dev nD) (t : Fin cfg0.N) (r : Fin 256) (q : Fin 128) :
    k0_pay28 (F := Ideal) (BitVec.ofNat 32 (grid0.coords t 0).val) (X m c t) (ix2 r q)
      = pooled (A0 m c) 0 (t.val * 256 + (16 + r.val)) q.val := by
  rw [coord]
  exact pool_rows m c t 0 (k0_pay27 (F := Ideal) (BitVec.ofNat 32 t.val)) (turn 1#32 _) _
    (cnt2 ⟨t.val, lt16 t⟩) q (cols0 m c t q)
    (fun e he => down2 _ (fun n => P (A0 m c) n (1536 + 128 * 0 + q.val)) _ q (cols0 m c t q) e (by omega)) r

theorem pooled1 (c : Dev nD) (t : Fin cfg0.N) (r : Fin 256) (q : Fin 128) :
    k0_pay38 (F := Ideal) (BitVec.ofNat 32 (grid0.coords t 0).val) (k0_pay35 (X m c t)) (k0_pay36 (X m c t)) 256#32 (ix2 r q)
      = pooled (A0 m c) 1 (t.val * 256 + (16 + r.val)) q.val := by
  rw [coord]
  exact pool_rows m c t 1 (k0_pay37 (F := Ideal) (BitVec.ofNat 32 t.val) 256#32) (turn 2#32 (turn 1#32 _)) _
    (cnt4 ⟨t.val, lt16 t⟩) q (cols1 m c t q)
    (fun e he => down4 _ (fun n => P (A0 m c) n (1536 + 128 * 1 + q.val)) _ q (cols1 m c t q) e (by omega)) r

theorem pooled2 (c : Dev nD) (t : Fin cfg0.N) (r : Fin 256) (q : Fin 128) :
    k0_pay46 (F := Ideal) (BitVec.ofNat 32 (grid0.coords t 0).val) (X m c t) (ix2 r q)
      = pooled (A0 m c) 2 (t.val * 256 + (16 + r.val)) q.val := by
  rw [coord]
  exact pool_rows m c t 2 (k0_pay45 (F := Ideal) (BitVec.ofNat 32 t.val)) (turn 4#32 (turn 2#32 (turn 1#32 _))) _
    (cnt8 ⟨t.val, lt16 t⟩) q (cols2 m c t q)
    (fun e he => down8 _ (fun n => P (A0 m c) n (1536 + 128 * 2 + q.val)) _ q (cols2 m c t q) e (by omega)) r

theorem pooled3 (c : Dev nD) (t : Fin cfg0.N) (r : Fin 256) (q : Fin 128) :
    k0_pay55 (F := Ideal) (BitVec.ofNat 32 (grid0.coords t 0).val) (X m c t) (ix2 r q)
      = pooled (A0 m c) 3 (t.val * 256 + (16 + r.val)) q.val := by
  rw [coord]
  exact pool_rows m c t 3 (k0_pay54 (F := Ideal) (BitVec.ofNat 32 t.val)) (turn 8#32 (turn 4#32 (turn 2#32 (turn 1#32 _)))) _
    (cnt16 ⟨t.val, lt16 t⟩) q (cols3 m c t q)
    (fun e he => down16 _ (fun n => P (A0 m c) n (1536 + 128 * 3 + q.val)) _ q (cols3 m c t q) e (by omega)) r

/-- A column group of a block's cotangent. -/
theorem cot0 (c : Dev nD) (t : Fin cfg0.N) (q : Fin 128) (e : Fin 288) (h16 : 16 ≤ e.val) :
    k0_pay29 (F := Ideal) (Y m c t) (ix2 e q) = Q (A1 m c) (t.val * 256 + e.val) (512 + 128 * 0 + q.val) := by
  unfold k0_pay29
  pointwise
  exact Y_apply m c t e _ h16

theorem cot1 (c : Dev nD) (t : Fin cfg0.N) (q : Fin 128) (e : Fin 288) (h16 : 16 ≤ e.val) :
    k0_pay39 (F := Ideal) (Y m c t) (ix2 e q) = Q (A1 m c) (t.val * 256 + e.val) (512 + 128 * 1 + q.val) := by
  unfold k0_pay39
  pointwise
  exact Y_apply m c t e _ h16

theorem cot2 (c : Dev nD) (t : Fin cfg0.N) (q : Fin 128) (e : Fin 288) (h16 : 16 ≤ e.val) :
    k0_pay47 (F := Ideal) (Y m c t) (ix2 e q) = Q (A1 m c) (t.val * 256 + e.val) (512 + 128 * 2 + q.val) := by
  unfold k0_pay47
  pointwise
  exact Y_apply m c t e _ h16

theorem cot3 (c : Dev nD) (t : Fin cfg0.N) (q : Fin 128) (e : Fin 288) (h16 : 16 ≤ e.val) :
    k0_pay56 (F := Ideal) (Y m c t) (ix2 e q) = Q (A1 m c) (t.val * 256 + e.val) (512 + 128 * 3 + q.val) := by
  unfold k0_pay56
  pointwise
  exact Y_apply m c t e _ h16

/-- The scale's row as a block loads it. -/
theorem sc_blk (c : Dev nD) (t : Fin cfg0.N) (k : Fin 512) : iblk m c 7 t (ix2 0 k) = sc (A4 m c) k.val := by
  rw [blk7, sc, dif_pos k.isLt]

end Cert.MixerBwdIdeal.RowValue
-- ==== Proof.MixerConv.lean ====
/-
  The gated convolution's part of a block of `MixerBwd`, read at an index.
-/
module

public import proofs.«01_k».proof.Proof.MixerPool

@[expose] public section

set_option maxRecDepth 16384

noncomputable section

namespace Cert.MixerBwdIdeal.RowValue

open Cert.MixerBwdIdeal Cert.MixerBwdIdeal.Gen Idealize.ShloMosaic Idealize.ShloMosaic.TcCoe Idealize.SL.Sem
open Idealize.ShloMosaic.Pipeline (Dat)

/-- The convolution's input: a gate times the values. -/
def zz (A : S4096x2048.Idx → EReal) (n k : ℕ) : EReal := P A n (1024 + k) * P A n k

/-- The convolution's result: three taps ending at a row. -/
def cz (A : S4096x2048.Idx → EReal) (V : S3x512.Idx → EReal) (n : ℕ) (k : Fin 512) : EReal :=
  zz A (n - 2) k.val * V (ix2 0 k) + zz A (n - 1) k.val * V (ix2 1 k) + zz A n k.val * V (ix2 2 k)

/-- The cotangent of the convolution's result: the cotangent times the other gate. -/
def dcz (A : S4096x2048.Idx → EReal) (D : S4096x1024.Idx → EReal) (n k : ℕ) : EReal := Q D n k * P A n (512 + k)

/-- The cotangent of the convolution's input: three taps beginning at a row. -/
def dz (A : S4096x2048.Idx → EReal) (D : S4096x1024.Idx → EReal) (V : S3x512.Idx → EReal) (n : ℕ) (k : Fin 512) : EReal :=
  dcz A D n k.val * V (ix2 2 k) + dcz A D (n + 1) k.val * V (ix2 1 k) + dcz A D (n + 2) k.val * V (ix2 0 k)

variable (m : (ℓ : Loc nD τ sig) → Buf (Elt Ideal) ℓ)

/-- A block's column groups of the convolution. -/
abbrev H7 (c : Dev nD) (t : Fin cfg0.N) : S288x512.Idx → EReal :=
  k0_pay7 (F := Ideal) (grid0.coords t) (iblk m c 1 t) (iblk m c 2 t) (iblk m c 0 t)
abbrev H8 (c : Dev nD) (t : Fin cfg0.N) : S288x512.Idx → EReal :=
  k0_pay8 (F := Ideal) (grid0.coords t) (iblk m c 1 t) (iblk m c 2 t) (iblk m c 0 t)
abbrev H9 (c : Dev nD) (t : Fin cfg0.N) : S288x512.Idx → EReal :=
  k0_pay9 (F := Ideal) (grid0.coords t) (iblk m c 1 t) (iblk m c 2 t) (iblk m c 0 t)
abbrev H10 (c : Dev nD) (t : Fin cfg0.N) : S288x512.Idx → EReal :=
  k0_pay10 (F := Ideal) (grid0.coords t) (iblk m c 1 t) (iblk m c 2 t) (iblk m c 0 t)

theorem H7_apply (c : Dev nD) (t : Fin cfg0.N) (e : Fin 288) (k : Fin 512) :
    H7 m c t (ix2 e k) = P (A0 m c) (t.val * 256 + e.val) k.val := by
  unfold H7 k0_pay7
  pointwise
  exact X_apply m c t e _
theorem H8_apply (c : Dev nD) (t : Fin cfg0.N) (e : Fin 288) (k : Fin 512) :
    H8 m c t (ix2 e k) = P (A0 m c) (t.val * 256 + e.val) (512 + k.val) := by
  unfold H8 k0_pay8
  pointwise
  exact X_apply m c t e _
theorem H9_apply (c : Dev nD) (t : Fin cfg0.N) (e : Fin 288) (k : Fin 512) :
    H9 m c t (ix2 e k) = P (A0 m c) (t.val * 256 + e.val) (1024 + k.val) := by
  unfold H9 k0_pay9
  pointwise
  exact X_apply m c t e _
theorem H10_apply (c : Dev nD) (t : Fin cfg0.N) (e : Fin 288) (k : Fin 512) :
    H10 m c t (ix2 e k) = zz (A0 m c) (t.val * 256 + e.val) k.val := by
  unfold H10 k0_pay10
  pointwise
  exact congrArg₂ (· * ·) (H9_apply m c t e k) (H7_apply m c t e k)

theorem cot_apply (c : Dev nD) (t : Fin cfg0.N) (e : Fin 288) (k : Fin 512) (h : 16 ≤ e.val) :
    k0_pay15 (F := Ideal) (Y m c t) (ix2 e k) = Q (A1 m c) (t.val * 256 + e.val) k.val := by
  unfold k0_pay15
  pointwise
  exact Y_apply m c t e _ h

/-- The convolution's cotangent in a block. -/
abbrev H16 (c : Dev nD) (t : Fin cfg0.N) : S288x512.Idx → EReal := k0_pay16 (F := Ideal) (Y m c t) (H8 m c t)

theorem H16_apply (c : Dev nD) (t : Fin cfg0.N) (e : Fin 288) (k : Fin 512) (h : 16 ≤ e.val) :
    H16 m c t (ix2 e k) = dcz (A0 m c) (A1 m c) (t.val * 256 + e.val) k.val := by
  unfold H16 k0_pay16
  pointwise
  exact congrArg₂ (· * ·) (cot_apply m c t e k h) (H8_apply m c t e k)

theorem H16_at (c : Dev nD) (t : Fin cfg0.N) (e : Fin 288) (k : Fin 512) (n : ℕ) (h : 16 ≤ e.val) (hn : t.val * 256 + e.val = n) :
    k0_pay16 (F := Ideal) (Y m c t) (H8 m c t) (ix2 e k) = dcz (A0 m c) (A1 m c) n k.val := by
  subst hn
  exact H16_apply m c t e k h

theorem H10_at (c : Dev nD) (t : Fin cfg0.N) (e : Fin 288) (k : Fin 512) (n : ℕ) (hn : t.val * 256 + e.val = n) :
    H10 m c t (ix2 e k) = zz (A0 m c) n k.val := by
  subst hn
  exact H10_apply m c t e k

theorem H17_apply (c : Dev nD) (t : Fin cfg0.N) (e : Fin 288) (k : Fin 512) (h16 : 16 ≤ e.val) (h : e.val < 272) :
    k0_pay17 (F := Ideal) (Y m c t) (iblk m c 5 t) (H8 m c t) (ix2 e k)
      = dz (A0 m c) (A1 m c) (A2 m c) (t.val * 256 + e.val) k := by
  unfold k0_pay17
  pointwise
  exact congrArg₂ (· + ·) (congrArg₂ (· + ·)
    (congrArg₂ (· * ·) (H16_at m c t _ k _ h16 rfl) (blk5 m c t 2 k))
    (congrArg₂ (· * ·) (H16_at m c t _ k _ (by simp only; omega) (by simp only; omega)) (blk5 m c t 1 k)))
    (congrArg₂ (· * ·) (H16_at m c t _ k _ (by simp only; omega) (by simp only; omega)) (blk5 m c t 0 k))

/-- The three results of the convolution's part. -/
theorem conv_dc (c : Dev nD) (t : Fin cfg0.N) (r : Fin 256) (k : Fin 512) :
    k0_pay18 (F := Ideal) (Y m c t) (iblk m c 5 t) (H8 m c t) (H9 m c t) (ix2 r k)
      = dz (A0 m c) (A1 m c) (A2 m c) (t.val * 256 + (16 + r.val)) k * P (A0 m c) (t.val * 256 + (16 + r.val)) (1024 + k.val) := by
  unfold k0_pay18
  pointwise
  exact congrArg₂ (· * ·) (H17_apply m c t _ k (by simp only; omega) (by simp only; omega)) (H9_apply m c t _ k)

theorem conv_da (c : Dev nD) (t : Fin cfg0.N) (r : Fin 256) (k : Fin 512) :
    k0_pay20 (F := Ideal) (Y m c t) (iblk m c 5 t) (H7 m c t) (H8 m c t) (ix2 r k)
      = dz (A0 m c) (A1 m c) (A2 m c) (t.val * 256 + (16 + r.val)) k * P (A0 m c) (t.val * 256 + (16 + r.val)) k.val := by
  unfold k0_pay20
  pointwise
  exact congrArg₂ (· * ·) (H17_apply m c t _ k (by simp only; omega) (by simp only; omega)) (H7_apply m c t _ k)

theorem conv_db (c : Dev nD) (t : Fin cfg0.N) (r : Fin 256) (k : Fin 512) :
    k0_pay19 (F := Ideal) (Y m c t) (k0_pay13 (grid0.coords t) (iblk m c 1 t) (iblk m c 2 t) (iblk m c 0 t) (iblk m c 5 t))
        (k0_pay14 (grid0.coords t) (iblk m c 1 t) (iblk m c 2 t) (iblk m c 0 t) (iblk m c 5 t)) (ix2 r k)
      = Q (A1 m c) (t.val * 256 + (16 + r.val)) k.val * cz (A0 m c) (A2 m c) (t.val * 256 + (16 + r.val)) k := by
  unfold k0_pay19 k0_pay13 k0_pay14 k0_pay11 k0_pay12
  pointwise
  exact congrArg₂ (· * ·) (cot_apply m c t _ k (by simp only; omega)) (congrArg₂ (· + ·) (congrArg₂ (· + ·)
    (congrArg₂ (· * ·) (H10_at m c t _ k _ (by simp only; omega)) (blk5 m c t 0 k))
    (congrArg₂ (· * ·) (H10_at m c t _ k _ (by simp only; omega)) (blk5 m c t 1 k)))
    (congrArg₂ (· * ·) (H10_at m c t _ k _ (by simp only)) (blk5 m c t 2 k)))

/-- The term of the taps' gradient at a row. -/
def cwTerm (A : S4096x2048.Idx → EReal) (D : S4096x1024.Idx → EReal) (s : ℕ) (k n : ℕ) : EReal := dcz A D n k * zz A (n - s) k

/-- The steps of the three taps' gradients. -/
theorem cw0 (c : Dev nD) (t : Fin cfg0.N) (a : S1x512.Idx → EReal) (k : Fin 512) :
    k0_pay22 (F := Ideal) (Y m c t) (H8 m c t) (k0_pay12 (grid0.coords t) (iblk m c 1 t) (iblk m c 2 t) (iblk m c 0 t)) a (ix2 0 k)
      = a (ix2 0 k) + ∑ r : Fin 256, cwTerm (A0 m c) (A1 m c) 2 k.val (t.val * 256 + (16 + r.val)) := by
  unfold k0_pay22 k0_pay21 k0_pay12
  pointwise
  refine congrArg (_ + ·) (Finset.sum_congr rfl fun r _ => ?_)
  exact congrArg₂ (· * ·) (H16_at m c t _ k _ (by simp only; omega) rfl) (H10_at m c t _ k _ (by simp only; omega))

theorem cw1 (c : Dev nD) (t : Fin cfg0.N) (a : S1x512.Idx → EReal) (k : Fin 512) :
    k0_pay25 (F := Ideal) (k0_pay23 a) (k0_pay24 (Y m c t) (H8 m c t)
        (k0_pay11 (grid0.coords t) (iblk m c 1 t) (iblk m c 2 t) (iblk m c 0 t))) (ix2 0 k)
      = a (ix2 0 k) + ∑ r : Fin 256, cwTerm (A0 m c) (A1 m c) 1 k.val (t.val * 256 + (16 + r.val)) := by
  unfold k0_pay25 k0_pay23 k0_pay24 k0_pay21 k0_pay11
  pointwise
  refine congrArg (_ + ·) (Finset.sum_congr rfl fun r _ => ?_)
  exact congrArg₂ (· * ·) (H16_at m c t _ k _ (by simp only; omega) rfl) (H10_at m c t _ k _ (by simp only; omega))

theorem cw2 (c : Dev nD) (t : Fin cfg0.N) (a : S1x512.Idx → EReal) (k : Fin 512) :
    k0_pay26 (F := Ideal) (H10 m c t) (k0_pay21 (Y m c t) (H8 m c t)) a (ix2 0 k)
      = a (ix2 0 k) + ∑ r : Fin 256, cwTerm (A0 m c) (A1 m c) 0 k.val (t.val * 256 + (16 + r.val)) := by
  unfold k0_pay26 k0_pay21
  pointwise
  refine congrArg (_ + ·) (Finset.sum_congr rfl fun r _ => ?_)
  exact congrArg₂ (· * ·) (H16_at m c t _ k _ (by simp only; omega) rfl) (H10_at m c t _ k _ rfl)

end Cert.MixerBwdIdeal.RowValue
-- ==== Proof.MixerStep.lean ====
/-
  One block's part of each result of `MixerBwd`, group by group.
-/
module

public import proofs.«01_k».proof.Proof.MixerPool
public import Idealize.ShloMosaic.Lib.Pipeline.ReadBack

@[expose] public section

set_option maxRecDepth 16384

noncomputable section

namespace Cert.MixerBwdIdeal.RowValue

open Cert.MixerBwdIdeal Cert.MixerBwdIdeal.Gen Idealize.ShloMosaic Idealize.ShloMosaic.TcCoe Idealize.SL.Sem
open Idealize.ShloMosaic.Pipeline (Dat)

variable (m : (ℓ : Loc nD τ sig) → Buf (Elt Ideal) ℓ)

/-- The loads of the scale's and of the weight's pieces. -/
abbrev s0 (c : Dev nD) (t : Fin cfg0.N) : S1x128.Idx → EReal :=
  View.ld (iblk m c 7 t) (Rect.unit ![0, 0] ![1, 128] inb_S1x512_S1x128_0_0)
abbrev s1 (c : Dev nD) (t : Fin cfg0.N) : S1x128.Idx → EReal :=
  View.ld (iblk m c 7 t) (Rect.unit ![0, 128] ![1, 128] inb_S1x512_S1x128_0_128)
abbrev s2 (c : Dev nD) (t : Fin cfg0.N) : S1x128.Idx → EReal :=
  View.ld (iblk m c 7 t) (Rect.unit ![0, 256] ![1, 128] inb_S1x512_S1x128_0_256)
abbrev s3 (c : Dev nD) (t : Fin cfg0.N) : S1x128.Idx → EReal :=
  View.ld (iblk m c 7 t) (Rect.unit ![0, 384] ![1, 128] inb_S1x512_S1x128_0_384)
abbrev w0 (c : Dev nD) (t : Fin cfg0.N) : S1x128x128.Idx → EReal :=
  View.ld (iblk m c 6 t) (Rect.unit ![0, 0, 0] ![1, 128, 128] inb_S4x128x128_S1x128x128_0_0_0)
abbrev w1 (c : Dev nD) (t : Fin cfg0.N) : S1x128x128.Idx → EReal :=
  View.ld (iblk m c 6 t) (Rect.unit ![1, 0, 0] ![1, 128, 128] inb_S4x128x128_S1x128x128_1_0_0)
abbrev w2 (c : Dev nD) (t : Fin cfg0.N) : S1x128x128.Idx → EReal :=
  View.ld (iblk m c 6 t) (Rect.unit ![2, 0, 0] ![1, 128, 128] inb_S4x128x128_S1x128x128_2_0_0)
abbrev w3 (c : Dev nD) (t : Fin cfg0.N) : S1x128x128.Idx → EReal :=
  View.ld (iblk m c 6 t) (Rect.unit ![3, 0, 0] ![1, 128, 128] inb_S4x128x128_S1x128x128_3_0_0)

theorem w0_apply (c : Dev nD) (t : Fin cfg0.N) (q d : Fin 128) : w0 m c t (ix3 0 q d) = A3 m c (ix3 0 q d) := by
  unfold w0
  pointwise
  exact blk6 m c t 0 q d
theorem w1_apply (c : Dev nD) (t : Fin cfg0.N) (q d : Fin 128) : w1 m c t (ix3 0 q d) = A3 m c (ix3 1 q d) := by
  unfold w1
  pointwise
  exact blk6 m c t 1 q d
theorem w2_apply (c : Dev nD) (t : Fin cfg0.N) (q d : Fin 128) : w2 m c t (ix3 0 q d) = A3 m c (ix3 2 q d) := by
  unfold w2
  pointwise
  exact blk6 m c t 2 q d
theorem w3_apply (c : Dev nD) (t : Fin cfg0.N) (q d : Fin 128) : w3 m c t (ix3 0 q d) = A3 m c (ix3 3 q d) := by
  unfold w3
  pointwise
  exact blk6 m c t 3 q d

theorem scaled0 (c : Dev nD) (t : Fin cfg0.N) (e : Fin 288) (d : Fin 128) (h : 16 ≤ e.val) :
    k0_pay30 (F := Ideal) (Y m c t) (s0 m c t) (ix2 e d) = scaled (A1 m c) (A4 m c) 0 (t.val * 256 + e.val) d.val := by
  unfold k0_pay30 s0
  pointwise
  rw [sc_blk]
  exact congrArg₂ (· * ·) (cot0 m c t d e h) (congrArg (sc (A4 m c)) (by simp))
theorem scaled1 (c : Dev nD) (t : Fin cfg0.N) (e : Fin 288) (d : Fin 128) (h : 16 ≤ e.val) :
    k0_pay40 (F := Ideal) (Y m c t) (s1 m c t) (ix2 e d) = scaled (A1 m c) (A4 m c) 1 (t.val * 256 + e.val) d.val := by
  unfold k0_pay40 s1
  pointwise
  rw [sc_blk]
  exact congrArg₂ (· * ·) (cot1 m c t d e h) (congrArg (sc (A4 m c)) (by simp))
theorem scaled2 (c : Dev nD) (t : Fin cfg0.N) (e : Fin 288) (d : Fin 128) (h : 16 ≤ e.val) :
    k0_pay48 (F := Ideal) (Y m c t) (s2 m c t) (ix2 e d) = scaled (A1 m c) (A4 m c) 2 (t.val * 256 + e.val) d.val := by
  unfold k0_pay48 s2
  pointwise
  rw [sc_blk]
  exact congrArg₂ (· * ·) (cot2 m c t d e h) (congrArg (sc (A4 m c)) (by simp))
theorem scaled3 (c : Dev nD) (t : Fin cfg0.N) (e : Fin 288) (d : Fin 128) (h : 16 ≤ e.val) :
    k0_pay57 (F := Ideal) (Y m c t) (s3 m c t) (ix2 e d) = scaled (A1 m c) (A4 m c) 3 (t.val * 256 + e.val) d.val := by
  unfold k0_pay57 s3
  pointwise
  rw [sc_blk]
  exact congrArg₂ (· * ·) (cot3 m c t d e h) (congrArg (sc (A4 m c)) (by simp))

/-- A group's step of the scale's gradient. -/
theorem ps_step (c : Dev nD) (t : Fin cfg0.N) (g : Fin 4) (y : S288x128.Idx → EReal) (p : S256x128.Idx → EReal)
    (w : S1x128x128.Idx → EReal) (a : S1x128.Idx → EReal) (d : Fin 128)
    (hy : ∀ (q : Fin 128) (e : Fin 288), 16 ≤ e.val → y (ix2 e q) = Q (A1 m c) (t.val * 256 + e.val) (512 + 128 * g.val + q.val))
    (hp : ∀ (r : Fin 256) (q : Fin 128), p (ix2 r q) = pooled (A0 m c) g.val (t.val * 256 + (16 + r.val)) q.val)
    (hw : ∀ q d : Fin 128, w (ix3 0 q d) = A3 m c (ix3 g q d)) :
    scaleStep y p w a (ix2 0 d)
      = a (ix2 0 d) + ∑ r : Fin 256, psTerm (A0 m c) (A1 m c) (A3 m c) g d (t.val * 256 + (16 + r.val)) := by
  rw [scaleStep_apply]
  congr 1
  refine Finset.sum_congr rfl fun r _ => ?_
  rw [hy _ _ (by simp only; omega)]
  simp only [hp, hw]
  rfl

/-- A group's step of the weight's gradient. -/
theorem pw_step (c : Dev nD) (t : Fin cfg0.N) (g : Fin 4) (e : S288x128.Idx → EReal) (p : S256x128.Idx → EReal)
    (a : S1x128x128.Idx → EReal) (q d : Fin 128)
    (he : ∀ (e' : Fin 288) (d : Fin 128), 16 ≤ e'.val → e (ix2 e' d) = scaled (A1 m c) (A4 m c) g.val (t.val * 256 + e'.val) d.val)
    (hp : ∀ (r : Fin 256) (q : Fin 128), p (ix2 r q) = pooled (A0 m c) g.val (t.val * 256 + (16 + r.val)) q.val) :
    k0_pay33 (F := Ideal) p e a (ix3 0 q d)
      = a (ix3 0 q d) + ∑ r : Fin 256, pwTerm (A0 m c) (A1 m c) (A4 m c) g q d (t.val * 256 + (16 + r.val)) := by
  rw [weightStep_apply]
  congr 1
  refine Finset.sum_congr rfl fun r _ => ?_
  rw [hp, he _ _ (by simp only; omega)]
  rfl

/-- A group's pooled rows' gradient. -/
theorem back_rows (c : Dev nD) (t : Fin cfg0.N) (g : Fin 4) (e : S288x128.Idx → EReal) (w : S1x128x128.Idx → EReal)
    (he : ∀ (e' : Fin 288) (d : Fin 128), 16 ≤ e'.val → e (ix2 e' d) = scaled (A1 m c) (A4 m c) g.val (t.val * 256 + e'.val) d.val)
    (hw : ∀ q d : Fin 128, w (ix3 0 q d) = A3 m c (ix3 g q d)) (q : Fin 128) (r : Fin 288) (h : 16 ≤ r.val) :
    back e w (ix2 r q) = dpool (A1 m c) (A4 m c) (A3 m c) g (t.val * 256 + r.val) q := by
  rw [back_apply]
  refine Finset.sum_congr rfl fun d _ => ?_
  rw [he _ _ h, hw]

/-- A group's rows' gradient from the windows that begin at a row. -/
theorem spread_rows (c : Dev nD) (t : Fin cfg0.N) (g : Fin 4) (C : S288x1.Idx → EReal) (x U : S288x128.Idx → EReal)
    (hC : ∀ e : Fin 288, C (ix2 e 0) = cnt (2 ^ (g.val + 1)) (t.val * 256 + e.val)) (q : Fin 128)
    (hx : ∀ r : Fin 288, 16 ≤ r.val → x (ix2 r q) = dpool (A1 m c) (A4 m c) (A3 m c) g (t.val * 256 + r.val) q)
    (hU : ∀ f : ℕ → EReal, (∀ e : Fin 288, 16 ≤ e.val → share C x (ix2 e q) = f (t.val * 256 + e.val)) →
      ∀ e : Fin 288, 16 ≤ e.val → e.val + 15 < 288 →
        U (ix2 e q) = ∑ j ∈ Finset.range (2 ^ (g.val + 1)), f (t.val * 256 + e.val + j))
    (r : Fin 256) : spread U x (ix2 r q) = dpin (A1 m c) (A4 m c) (A3 m c) g (t.val * 256 + (16 + r.val)) q := by
  rw [spread_apply, hx _ (by simp only; omega),
    hU (fun n => Ideal.div (dpool (A1 m c) (A4 m c) (A3 m c) g n q) (cnt (2 ^ (g.val + 1)) n))
      (fun e h => by rw [share_apply, hC, hx e h]) _ (by simp only; omega) (by simp only; omega)]
  rfl

theorem out0 (c : Dev nD) (t : Fin cfg0.N) (r : Fin 256) (q : Fin 128) :
    k0_pay34 (F := Ideal) (k0_pay27 (BitVec.ofNat 32 (grid0.coords t 0).val)) (k0_pay30 (Y m c t) (s0 m c t)) (w0 m c t) (ix2 r q)
      = dpin (A1 m c) (A4 m c) (A3 m c) 0 (t.val * 256 + (16 + r.val)) q := by
  rw [coord]
  exact spread_rows m c t 0 (k0_pay27 (F := Ideal) (BitVec.ofNat 32 t.val)) _ (turn 287#32 (share _ _)) (cnt2 ⟨t.val, lt16 t⟩) q
    (back_rows m c t 0 _ _ (scaled0 m c t) (w0_apply m c t) q)
    (fun f hf e h1 h2 => up2 _ f _ q hf e h1 (by omega)) r

theorem out1 (c : Dev nD) (t : Fin cfg0.N) (r : Fin 256) (q : Fin 128) :
    k0_pay44 (F := Ideal) (k0_pay37 (BitVec.ofNat 32 (grid0.coords t 0).val) 256#32) (k0_pay40 (Y m c t) (s1 m c t)) (w1 m c t) (ix2 r q)
      = dpin (A1 m c) (A4 m c) (A3 m c) 1 (t.val * 256 + (16 + r.val)) q := by
  rw [coord]
  exact spread_rows m c t 1 (k0_pay37 (F := Ideal) (BitVec.ofNat 32 t.val) 256#32) _ (turn 286#32 (turn 287#32 (share _ _)))
    (cnt4 ⟨t.val, lt16 t⟩) q (back_rows m c t 1 _ _ (scaled1 m c t) (w1_apply m c t) q)
    (fun f hf e h1 h2 => up4 _ f _ q hf e h1 (by omega)) r

theorem out2 (c : Dev nD) (t : Fin cfg0.N) (r : Fin 256) (q : Fin 128) :
    k0_pay53 (F := Ideal) (k0_pay51 (Y m c t) (s2 m c t) (w2 m c t))
        (k0_pay52 (Y m c t) (k0_pay45 (BitVec.ofNat 32 (grid0.coords t 0).val)) (s2 m c t) (w2 m c t)) (ix2 r q)
      = dpin (A1 m c) (A4 m c) (A3 m c) 2 (t.val * 256 + (16 + r.val)) q := by
  rw [coord]
  exact spread_rows m c t 2 (k0_pay45 (F := Ideal) (BitVec.ofNat 32 t.val)) _ (turn 284#32 (turn 286#32 (turn 287#32 (share _ _))))
    (cnt8 ⟨t.val, lt16 t⟩) q (back_rows m c t 2 _ _ (scaled2 m c t) (w2_apply m c t) q)
    (fun f hf e h1 h2 => up8 _ f _ q hf e h1 (by omega)) r

theorem out3 (c : Dev nD) (t : Fin cfg0.N) (r : Fin 256) (q : Fin 128) :
    k0_pay1 (F := Ideal) (k0_pay61 (k0_pay54 (BitVec.ofNat 32 (grid0.coords t 0).val)) (k0_pay57 (Y m c t) (s3 m c t)) (w3 m c t)) (ix2 r q)
      = dpin (A1 m c) (A4 m c) (A3 m c) 3 (t.val * 256 + (16 + r.val)) q := by
  rw [coord]
  exact spread_rows m c t 3 (k0_pay54 (F := Ideal) (BitVec.ofNat 32 t.val)) _
    (turn 280#32 (turn 284#32 (turn 286#32 (turn 287#32 (share _ _)))))
    (cnt16 ⟨t.val, lt16 t⟩) q (back_rows m c t 3 _ _ (scaled3 m c t) (w3_apply m c t) q)
    (fun f hf e h1 h2 => up16 _ f _ q hf e h1 (by omega)) r

/-- The steps of the scale's gradient, as the block's stores write them. -/
theorem ps0 (c : Dev nD) (t : Fin cfg0.N) (a : S1x128.Idx → EReal) (d : Fin 128) :
    k0_pay32 (F := Ideal) (k0_pay28 (BitVec.ofNat 32 (grid0.coords t 0).val) (X m c t)) (k0_pay29 (Y m c t))
        (k0_pay31 (w0 m c t)) (constant S256x128 .f32 0x00000000#32) a (ix2 0 d)
      = a (ix2 0 d) + ∑ r : Fin 256, psTerm (A0 m c) (A1 m c) (A3 m c) 0 d (t.val * 256 + (16 + r.val)) :=
  ps_step m c t 0 _ _ _ a d (cot0 m c t) (pooled0 m c t) (w0_apply m c t)
theorem ps1 (c : Dev nD) (t : Fin cfg0.N) (a : S1x128.Idx → EReal) (d : Fin 128) :
    k0_pay41 (F := Ideal) (BitVec.ofNat 32 (grid0.coords t 0).val) (Y m c t) (k0_pay35 (X m c t)) (k0_pay36 (X m c t)) 256#32
        (w1 m c t) a (ix2 0 d)
      = a (ix2 0 d) + ∑ r : Fin 256, psTerm (A0 m c) (A1 m c) (A3 m c) 1 d (t.val * 256 + (16 + r.val)) :=
  ps_step m c t 1 (k0_pay39 (F := Ideal) (Y m c t)) (k0_pay38 (F := Ideal) (BitVec.ofNat 32 (grid0.coords t 0).val) (k0_pay35 (X m c t)) (k0_pay36 (X m c t)) 256#32) (w1 m c t) a d (cot1 m c t) (pooled1 m c t) (w1_apply m c t)
theorem ps2 (c : Dev nD) (t : Fin cfg0.N) (a : S1x128.Idx → EReal) (d : Fin 128) :
    k0_pay49 (F := Ideal) (Y m c t) (k0_pay46 (BitVec.ofNat 32 (grid0.coords t 0).val) (X m c t)) (w2 m c t) a (ix2 0 d)
      = a (ix2 0 d) + ∑ r : Fin 256, psTerm (A0 m c) (A1 m c) (A3 m c) 2 d (t.val * 256 + (16 + r.val)) :=
  ps_step m c t 2 (k0_pay47 (F := Ideal) (Y m c t)) (k0_pay46 (F := Ideal) (BitVec.ofNat 32 (grid0.coords t 0).val) (X m c t)) (w2 m c t) a d (cot2 m c t) (pooled2 m c t) (w2_apply m c t)
theorem ps3 (c : Dev nD) (t : Fin cfg0.N) (a : S1x128.Idx → EReal) (d : Fin 128) :
    k0_pay59 (F := Ideal) (k0_pay56 (Y m c t)) (k0_pay58 (BitVec.ofNat 32 (grid0.coords t 0).val) (X m c t) (w3 m c t)) a (ix2 0 d)
      = a (ix2 0 d) + ∑ r : Fin 256, psTerm (A0 m c) (A1 m c) (A3 m c) 3 d (t.val * 256 + (16 + r.val)) :=
  ps_step m c t 3 (k0_pay56 (F := Ideal) (Y m c t)) (k0_pay55 (F := Ideal) (BitVec.ofNat 32 (grid0.coords t 0).val) (X m c t)) (w3 m c t) a d (cot3 m c t) (pooled3 m c t) (w3_apply m c t)

/-- The steps of the weight's gradient, as the block's stores write them. -/
theorem pw0 (c : Dev nD) (t : Fin cfg0.N) (a : S1x128x128.Idx → EReal) (q d : Fin 128) :
    k0_pay33 (F := Ideal) (k0_pay28 (BitVec.ofNat 32 (grid0.coords t 0).val) (X m c t)) (k0_pay30 (Y m c t) (s0 m c t)) a (ix3 0 q d)
      = a (ix3 0 q d) + ∑ r : Fin 256, pwTerm (A0 m c) (A1 m c) (A4 m c) 0 q d (t.val * 256 + (16 + r.val)) :=
  pw_step m c t 0 _ _ a q d (scaled0 m c t) (pooled0 m c t)
theorem pw1 (c : Dev nD) (t : Fin cfg0.N) (a : S1x128x128.Idx → EReal) (q d : Fin 128) :
    k0_pay43 (F := Ideal) (k0_pay42 (BitVec.ofNat 32 (grid0.coords t 0).val) (Y m c t) (k0_pay35 (X m c t)) (k0_pay36 (X m c t)) 256#32
        (s1 m c t) a) (ix3 0 q d)
      = a (ix3 0 q d) + ∑ r : Fin 256, pwTerm (A0 m c) (A1 m c) (A4 m c) 1 q d (t.val * 256 + (16 + r.val)) :=
  pw_step m c t 1 _ _ a q d (scaled1 m c t) (pooled1 m c t)
theorem pw2 (c : Dev nD) (t : Fin cfg0.N) (a : S1x128x128.Idx → EReal) (q d : Fin 128) :
    k0_pay50 (F := Ideal) (Y m c t) (k0_pay46 (BitVec.ofNat 32 (grid0.coords t 0).val) (X m c t)) (s2 m c t) a (ix3 0 q d)
      = a (ix3 0 q d) + ∑ r : Fin 256, pwTerm (A0 m c) (A1 m c) (A4 m c) 2 q d (t.val * 256 + (16 + r.val)) :=
  pw_step m c t 2 _ _ a q d (scaled2 m c t) (pooled2 m c t)
theorem pw3 (c : Dev nD) (t : Fin cfg0.N) (a : S1x128x128.Idx → EReal) (q d : Fin 128) :
    k0_pay60 (F := Ideal) (k0_pay55 (BitVec.ofNat 32 (grid0.coords t 0).val) (X m c t)) (k0_pay57 (Y m c t) (s3 m c t)) a (ix3 0 q d)
      = a (ix3 0 q d) + ∑ r : Fin 256, pwTerm (A0 m c) (A1 m c) (A4 m c) 3 q d (t.val * 256 + (16 + r.val)) :=
  pw_step m c t 3 _ _ a q d (scaled3 m c t) (pooled3 m c t)

end Cert.MixerBwdIdeal.RowValue
-- ==== Proof.MixerOut.lean ====
/-
  The results of `MixerBwd`: each block's part put together, and the accumulated gradients after the last block.
-/
module

public import proofs.«01_k».proof.Proof.MixerConv
public import proofs.«01_k».proof.Proof.MixerStep

@[expose] public section

set_option maxRecDepth 16384

noncomputable section

namespace Cert.MixerBwdIdeal.RowValue

open Cert.MixerBwdIdeal Cert.MixerBwdIdeal.Gen Idealize.ShloMosaic Idealize.ShloMosaic.TcCoe Idealize.SL.Sem
open Idealize.ShloMosaic.Pipeline (Dat)

/-- The projected rows' gradient. -/
def dproj (A : S4096x2048.Idx → EReal) (D : S4096x1024.Idx → EReal) (V : S3x512.Idx → EReal) (W : S4x128x128.Idx → EReal)
    (S : S1x512.Idx → EReal) (n : ℕ) (k : Fin 2048) : EReal :=
  if h : k.val < 512 then dz A D V n ⟨k.val, h⟩ * P A n (1024 + k.val)
  else if h : k.val < 1024 then Q D n (k.val - 512) * cz A V n ⟨k.val - 512, by omega⟩
  else if h : k.val < 1536 then dz A D V n ⟨k.val - 1024, by omega⟩ * P A n (k.val - 1024)
  else dpin D S W ⟨(k.val - 1536) / 128, by omega⟩ n ⟨(k.val - 1536) % 128, by omega⟩

theorem dproj_pool (A : S4096x2048.Idx → EReal) (D : S4096x1024.Idx → EReal) (V : S3x512.Idx → EReal) (W : S4x128x128.Idx → EReal)
    (S : S1x512.Idx → EReal) (n : ℕ) (k : Fin 2048) (g : Fin 4) (q : Fin 128) (h : k.val = 1536 + 128 * g.val + q.val) :
    dproj A D V W S n k = dpin D S W g n q := by
  unfold dproj
  rw [dif_neg (by omega), dif_neg (by omega), dif_neg (by omega)]
  congr 1
  · exact Fin.ext (by simp only; omega)
  · exact Fin.ext (by simp only; omega)

variable (m : (ℓ : Loc nD τ sig) → Buf (Elt Ideal) ℓ)

/-- A block's part of the projected rows' gradient, as an array. -/
def dprojBlk (c : Dev nD) (t : Fin cfg0.N) (j : S256x2048.Idx) : EReal :=
  dproj (A0 m c) (A1 m c) (A2 m c) (A3 m c) (A4 m c) (t.val * 256 + (16 + (j 0).val)) (j 1)

theorem piece_pool (c : Dev nD) (t : Fin cfg0.N) (g : Fin 4) (y : S256x2048.Idx) (r : Fin 256) (q : Fin 128) (v : EReal)
    (hv : v = dpin (A1 m c) (A4 m c) (A3 m c) g (t.val * 256 + (16 + r.val)) q) (h0 : (y 0).val = r.val)
    (h1 : (y 1).val = 1536 + 128 * g.val + q.val) : v = dprojBlk m c t y := by
  unfold dprojBlk
  rw [dproj_pool _ _ _ _ _ _ _ g q h1, h0, hv]

theorem piece_dc (c : Dev nD) (t : Fin cfg0.N) (r : Fin 256) (k : Fin 512) (y : S256x2048.Idx) (h0 : (y 0).val = r.val)
    (h1 : (y 1).val = k.val) :
    k0_pay18 (F := Ideal) (Y m c t) (iblk m c 5 t) (H8 m c t) (H9 m c t) (ix2 r k) = dprojBlk m c t y := by
  unfold dprojBlk dproj
  rw [dif_pos (by omega), conv_dc]
  simp only [h0, h1]

theorem piece_db (c : Dev nD) (t : Fin cfg0.N) (r : Fin 256) (k : Fin 512) (y : S256x2048.Idx) (h0 : (y 0).val = r.val)
    (h1 : (y 1).val = 512 + k.val) :
    k0_pay19 (F := Ideal) (Y m c t) (k0_pay13 (grid0.coords t) (iblk m c 1 t) (iblk m c 2 t) (iblk m c 0 t) (iblk m c 5 t))
        (k0_pay14 (grid0.coords t) (iblk m c 1 t) (iblk m c 2 t) (iblk m c 0 t) (iblk m c 5 t)) (ix2 r k) = dprojBlk m c t y := by
  unfold dprojBlk dproj
  rw [dif_neg (by omega), dif_pos (by omega), conv_db]
  simp only [h0, h1, Nat.add_sub_cancel_left]

theorem piece_da (c : Dev nD) (t : Fin cfg0.N) (r : Fin 256) (k : Fin 512) (y : S256x2048.Idx) (h0 : (y 0).val = r.val)
    (h1 : (y 1).val = 1024 + k.val) :
    k0_pay20 (F := Ideal) (Y m c t) (iblk m c 5 t) (H7 m c t) (H8 m c t) (ix2 r k) = dprojBlk m c t y := by
  unfold dprojBlk dproj
  rw [dif_neg (by omega), dif_neg (by omega), dif_pos (by omega), conv_da]
  simp only [h0, h1, Nat.add_sub_cancel_left]

theorem dproj_blk (c : Dev nD) (t : Fin cfg0.N) (y : S256x2048.Idx) :
    (outsAt0 m c t.val t.isLt).1 y = dprojBlk m c t y := by
  by_cases h0 : t.val % 16 = 0
  · rw [outsAt0_A m c t h0]
    frame_out
    refine View.canon_append_of_piecesOf (Val := Elt Ideal) (e := .bf16) (dprojBlk m c t) [] [_, _, _, _, _, _, _]
      ⟨fun x => ?_, fun x => ?_, fun x => ?_, fun x => ?_, fun x => ?_, fun x => ?_, fun x => ?_, trivial⟩ y
      (View.cover_of_tiledBy _ ![256, 128] (by sl_kernel_rfl) y)
    all_goals idx_vars x
    · exact piece_pool m c t 3 _ x0 x1 _ (out3 m c t x0 x1) (by simp) (by simp)
    · exact piece_pool m c t 2 _ x0 x1 _ (out2 m c t x0 x1) (by simp) (by simp)
    · exact piece_pool m c t 1 _ x0 x1 _ (out1 m c t x0 x1) (by simp) (by simp)
    · exact piece_pool m c t 0 _ x0 x1 _ (out0 m c t x0 x1) (by simp) (by simp)
    · exact piece_da m c t x0 x1 _ (by simp) (by simp)
    · exact piece_db m c t x0 x1 _ (by simp) (by simp)
    · exact piece_dc m c t x0 x1 _ (by simp) (by simp)
  · rw [outsAt0_B m c t h0]
    frame_out
    refine View.canon_append_of_piecesOf (Val := Elt Ideal) (e := .bf16) (dprojBlk m c t) [] [_, _, _, _, _, _, _]
      ⟨fun x => ?_, fun x => ?_, fun x => ?_, fun x => ?_, fun x => ?_, fun x => ?_, fun x => ?_, trivial⟩ y
      (View.cover_of_tiledBy _ ![256, 128] (by sl_kernel_rfl) y)
    all_goals idx_vars x
    · exact piece_pool m c t 3 _ x0 x1 _ (out3 m c t x0 x1) (by simp) (by simp)
    · exact piece_pool m c t 2 _ x0 x1 _ (out2 m c t x0 x1) (by simp) (by simp)
    · exact piece_pool m c t 1 _ x0 x1 _ (out1 m c t x0 x1) (by simp) (by simp)
    · exact piece_pool m c t 0 _ x0 x1 _ (out0 m c t x0 x1) (by simp) (by simp)
    · exact piece_da m c t x0 x1 _ (by simp) (by simp)
    · exact piece_db m c t x0 x1 _ (by simp) (by simp)
    · exact piece_dc m c t x0 x1 _ (by simp) (by simp)

/-- A block's term of the taps' gradient. -/
def cwStep (c : Dev nD) (t : Fin cfg0.N) (j : S3x512.Idx) : EReal :=
  ∑ u : Fin 256, cwTerm (A0 m c) (A1 m c) (2 - (j 0).val) (j 1).val (t.val * 256 + (16 + u.val))

theorem cw_piece (c : Dev nD) (t : Fin cfg0.N) (Z : S3x512.Idx → EReal) (y : S3x512.Idx) (s : ℕ) (k : Fin 512) (v w : EReal)
    (hv : v = w + ∑ u : Fin 256, cwTerm (A0 m c) (A1 m c) s k.val (t.val * 256 + (16 + u.val))) (hw : w = Z y)
    (h0 : 2 - (y 0).val = s) (h1 : (y 1).val = k.val) : v = Z y + cwStep m c t y := by
  rw [hv, hw, cwStep, h0, h1]

theorem dcw_A (c : Dev nD) (t : Fin cfg0.N) (h0 : t.val % 16 = 0) (y : S3x512.Idx) :
    (outsAt0 m c t.val t.isLt).2.1 y = 0 + cwStep m c t y := by
  rw [outsAt0_A m c t h0]
  frame_open
  simp (disch := decide) only [↓ View.readCov_skip, ↓ View.readCov_cons_toLoadRect, ↓ View.readCov_fill]
  frame_out
  refine View.canon_append_of_piecesOf (Val := Elt Ideal) (e := .f32) (fun y => 0 + cwStep m c t y) [_] [_, _, _] ⟨fun x => ?_, fun x => ?_, fun x => ?_, trivial⟩ y
    (View.cover_of_tiledL _ ![1, 512] (by sl_kernel_rfl) y)
  all_goals idx_vars x
  all_goals obtain rfl : x0 = 0 := Subsingleton.elim _ _
  · exact cw_piece m c t (fun _ => 0) _ 0 x1 _ _ (cw2 m c t _ x1) Ideal.ofBits_zero_f32 (by simp) (by simp)
  · exact cw_piece m c t (fun _ => 0) _ 1 x1 _ _ (cw1 m c t _ x1) Ideal.ofBits_zero_f32 (by simp) (by simp)
  · exact cw_piece m c t (fun _ => 0) _ 2 x1 _ _ (cw0 m c t _ x1) Ideal.ofBits_zero_f32 (by simp) (by simp)

theorem dcw_B (c : Dev nD) (t : Fin cfg0.N) (h0 : ¬ t.val % 16 = 0) (hp : t.val - 1 < cfg0.N) (y : S3x512.Idx) :
    (outsAt0 m c t.val t.isLt).2.1 y = (outsAt0 m c (t.val - 1) hp).2.1 y + cwStep m c t y := by
  rw [outsAt0_B m c t h0]
  frame_out
  refine View.canon_append_of_piecesOf (Val := Elt Ideal) (e := .f32) (fun y => (outsAt0 m c (t.val - 1) hp).2.1 y + cwStep m c t y) [] [_, _, _]
    ⟨fun x => ?_, fun x => ?_, fun x => ?_, trivial⟩ y (View.cover_of_tiledL _ ![1, 512] (by sl_kernel_rfl) y)
  all_goals idx_vars x
  all_goals obtain rfl : x0 = 0 := Subsingleton.elim _ _
  · exact cw_piece m c t (outsAt0 m c (t.val - 1) hp).2.1 _ 0 x1 _ _ (cw2 m c t _ x1) rfl (by simp) (by simp)
  · exact cw_piece m c t (outsAt0 m c (t.val - 1) hp).2.1 _ 1 x1 _ _ (cw1 m c t _ x1) rfl (by simp) (by simp)
  · exact cw_piece m c t (outsAt0 m c (t.val - 1) hp).2.1 _ 2 x1 _ _ (cw0 m c t _ x1) rfl (by simp) (by simp)

/-- A block's term of the weight's gradient. -/
def pwStep (c : Dev nD) (t : Fin cfg0.N) (j : S4x128x128.Idx) : EReal :=
  ∑ u : Fin 256, pwTerm (A0 m c) (A1 m c) (A4 m c) (j 0) (j 1) (j 2) (t.val * 256 + (16 + u.val))

theorem pw_piece (c : Dev nD) (t : Fin cfg0.N) (Z : S4x128x128.Idx → EReal) (y : S4x128x128.Idx) (g : Fin 4) (q d : Fin 128) (v w : EReal)
    (hv : v = w + ∑ u : Fin 256, pwTerm (A0 m c) (A1 m c) (A4 m c) g q d (t.val * 256 + (16 + u.val))) (hw : w = Z y)
    (h0 : (y 0).val = g.val) (h1 : (y 1).val = q.val) (h2 : (y 2).val = d.val) : v = Z y + pwStep m c t y := by
  rw [hv, hw, pwStep, show y 0 = g from Fin.ext h0, show y 1 = q from Fin.ext h1, show y 2 = d from Fin.ext h2]

theorem dpw_A (c : Dev nD) (t : Fin cfg0.N) (h0 : t.val % 16 = 0) (y : S4x128x128.Idx) :
    (outsAt0 m c t.val t.isLt).2.2.1 y = 0 + pwStep m c t y := by
  rw [outsAt0_A m c t h0]
  frame_open
  simp (disch := decide) only [↓ View.readCov_skip, ↓ View.readCov_cons_toLoadRect, ↓ View.readCov_fill]
  frame_out
  refine View.canon_append_of_piecesOf (Val := Elt Ideal) (e := .f32) (fun y => 0 + pwStep m c t y) [_] [_, _, _, _]
    ⟨fun x => ?_, fun x => ?_, fun x => ?_, fun x => ?_, trivial⟩ y (View.cover_of_tiledL _ ![1, 128, 128] (by sl_kernel_rfl) y)
  all_goals idx_vars x
  all_goals obtain rfl : x0 = 0 := Subsingleton.elim _ _
  · exact pw_piece m c t (fun _ => 0) _ 3 x1 x2 _ _ (pw3 m c t _ x1 x2) Ideal.ofBits_zero_f32 (by simp) (by simp) (by simp)
  · exact pw_piece m c t (fun _ => 0) _ 2 x1 x2 _ _ (pw2 m c t _ x1 x2) Ideal.ofBits_zero_f32 (by simp) (by simp) (by simp)
  · exact pw_piece m c t (fun _ => 0) _ 1 x1 x2 _ _ (pw1 m c t _ x1 x2) Ideal.ofBits_zero_f32 (by simp) (by simp) (by simp)
  · exact pw_piece m c t (fun _ => 0) _ 0 x1 x2 _ _ (pw0 m c t _ x1 x2) Ideal.ofBits_zero_f32 (by simp) (by simp) (by simp)

theorem dpw_B (c : Dev nD) (t : Fin cfg0.N) (h0 : ¬ t.val % 16 = 0) (hp : t.val - 1 < cfg0.N) (y : S4x128x128.Idx) :
    (outsAt0 m c t.val t.isLt).2.2.1 y = (outsAt0 m c (t.val - 1) hp).2.2.1 y + pwStep m c t y := by
  rw [outsAt0_B m c t h0]
  frame_out
  refine View.canon_append_of_piecesOf (Val := Elt Ideal) (e := .f32) (fun y => (outsAt0 m c (t.val - 1) hp).2.2.1 y + pwStep m c t y)
    [] [_, _, _, _]
    ⟨fun x => ?_, fun x => ?_, fun x => ?_, fun x => ?_, trivial⟩ y (View.cover_of_tiledL _ ![1, 128, 128] (by sl_kernel_rfl) y)
  all_goals idx_vars x
  all_goals obtain rfl : x0 = 0 := Subsingleton.elim _ _
  · exact pw_piece m c t (outsAt0 m c (t.val - 1) hp).2.2.1 _ 3 x1 x2 _ _ (pw3 m c t _ x1 x2) rfl (by simp) (by simp) (by simp)
  · exact pw_piece m c t (outsAt0 m c (t.val - 1) hp).2.2.1 _ 2 x1 x2 _ _ (pw2 m c t _ x1 x2) rfl (by simp) (by simp) (by simp)
  · exact pw_piece m c t (outsAt0 m c (t.val - 1) hp).2.2.1 _ 1 x1 x2 _ _ (pw1 m c t _ x1 x2) rfl (by simp) (by simp) (by simp)
  · exact pw_piece m c t (outsAt0 m c (t.val - 1) hp).2.2.1 _ 0 x1 x2 _ _ (pw0 m c t _ x1 x2) rfl (by simp) (by simp) (by simp)

/-- The pooling group of a column, and the column in its group. -/
def grp (k : Fin 512) : Fin 4 := ⟨k.val / 128, by omega⟩
def lane (k : Fin 512) : Fin 128 := ⟨k.val % 128, by omega⟩

/-- A block's term of the scale's gradient. -/
def psStep (c : Dev nD) (t : Fin cfg0.N) (j : S1x512.Idx) : EReal :=
  ∑ u : Fin 256, psTerm (A0 m c) (A1 m c) (A3 m c) (grp (j 1)) (lane (j 1)) (t.val * 256 + (16 + u.val))

theorem ps_piece (c : Dev nD) (t : Fin cfg0.N) (Z : S1x512.Idx → EReal) (y : S1x512.Idx) (g : Fin 4) (d : Fin 128) (v w : EReal)
    (hv : v = w + ∑ u : Fin 256, psTerm (A0 m c) (A1 m c) (A3 m c) g d (t.val * 256 + (16 + u.val))) (hw : w = Z y)
    (h1 : (y 1).val = 128 * g.val + d.val) : v = Z y + psStep m c t y := by
  have e : ∀ (g' : Fin 4) (d' : Fin 128), g' = g → d' = d →
      ∑ u : Fin 256, psTerm (A0 m c) (A1 m c) (A3 m c) g' d' (t.val * 256 + (16 + u.val))
        = ∑ u : Fin 256, psTerm (A0 m c) (A1 m c) (A3 m c) g d (t.val * 256 + (16 + u.val)) := by
    rintro _ _ rfl rfl; rfl
  rw [hv, hw, psStep, e (grp (y 1)) (lane (y 1)) (Fin.ext (by simp only [grp]; omega)) (Fin.ext (by simp only [lane]; omega))]

theorem dps_A (c : Dev nD) (t : Fin cfg0.N) (h0 : t.val % 16 = 0) (y : S1x512.Idx) :
    (outsAt0 m c t.val t.isLt).2.2.2 y = 0 + psStep m c t y := by
  rw [outsAt0_A m c t h0]
  frame_open
  simp (disch := decide) only [↓ View.readCov_skip, ↓ View.readCov_cons_toLoadRect, ↓ View.readCov_fill]
  frame_out
  refine View.canon_append_of_piecesOf (Val := Elt Ideal) (e := .f32) (fun y => 0 + psStep m c t y) [_] [_, _, _, _]
    ⟨fun x => ?_, fun x => ?_, fun x => ?_, fun x => ?_, trivial⟩ y (View.cover_of_tiledL _ ![1, 128] (by sl_kernel_rfl) y)
  all_goals idx_vars x
  all_goals obtain rfl : x0 = 0 := Subsingleton.elim _ _
  · exact ps_piece m c t (fun _ => 0) _ 3 x1 _ _ (ps3 m c t _ x1) Ideal.ofBits_zero_f32 (by simp)
  · exact ps_piece m c t (fun _ => 0) _ 2 x1 _ _ (ps2 m c t _ x1) Ideal.ofBits_zero_f32 (by simp)
  · exact ps_piece m c t (fun _ => 0) _ 1 x1 _ _ (ps1 m c t _ x1) Ideal.ofBits_zero_f32 (by simp)
  · exact ps_piece m c t (fun _ => 0) _ 0 x1 _ _ (ps0 m c t _ x1) Ideal.ofBits_zero_f32 (by simp)

theorem dps_B (c : Dev nD) (t : Fin cfg0.N) (h0 : ¬ t.val % 16 = 0) (hp : t.val - 1 < cfg0.N) (y : S1x512.Idx) :
    (outsAt0 m c t.val t.isLt).2.2.2 y = (outsAt0 m c (t.val - 1) hp).2.2.2 y + psStep m c t y := by
  rw [outsAt0_B m c t h0]
  frame_out
  refine View.canon_append_of_piecesOf (Val := Elt Ideal) (e := .f32) (fun y => (outsAt0 m c (t.val - 1) hp).2.2.2 y + psStep m c t y)
    [] [_, _, _, _]
    ⟨fun x => ?_, fun x => ?_, fun x => ?_, fun x => ?_, trivial⟩ y (View.cover_of_tiledL _ ![1, 128] (by sl_kernel_rfl) y)
  all_goals idx_vars x
  all_goals obtain rfl : x0 = 0 := Subsingleton.elim _ _
  · exact ps_piece m c t (outsAt0 m c (t.val - 1) hp).2.2.2 _ 3 x1 _ _ (ps3 m c t _ x1) rfl (by simp)
  · exact ps_piece m c t (outsAt0 m c (t.val - 1) hp).2.2.2 _ 2 x1 _ _ (ps2 m c t _ x1) rfl (by simp)
  · exact ps_piece m c t (outsAt0 m c (t.val - 1) hp).2.2.2 _ 1 x1 _ _ (ps1 m c t _ x1) rfl (by simp)
  · exact ps_piece m c t (outsAt0 m c (t.val - 1) hp).2.2.2 _ 0 x1 _ _ (ps0 m c t _ x1) rfl (by simp)

/-- A sum over the sequence's rows, block by block. -/
theorem sum_rows (f : ℕ → EReal) :
    ∑ t : Fin cfg0.N, ∑ u : Fin 256, f (t.val * 256 + (16 + u.val)) = ∑ u : Fin 4096, f (u.val + 16) := by
  have h16 : cfg0.N = 16 := N_16
  rw [← Fin.sum_mul_add_fin cfg0.N 256 (fun u : Fin 4096 => f (u.val + 16)) (by rw [h16])]
  refine Finset.sum_congr rfl fun t _ => Finset.sum_congr rfl fun u _ => congrArg f ?_
  simp only
  omega

/-- The four results. -/
def dprojOf (A : S4096x2048.Idx → EReal) (D : S4096x1024.Idx → EReal) (V : S3x512.Idx → EReal) (W : S4x128x128.Idx → EReal)
    (S : S1x512.Idx → EReal) (j : S4096x2048.Idx) : EReal := dproj A D V W S ((j 0).val + 16) (j 1)

def dcwOf (A : S4096x2048.Idx → EReal) (D : S4096x1024.Idx → EReal) (j : S3x512.Idx) : EReal :=
  ∑ u : Fin 4096, cwTerm A D (2 - (j 0).val) (j 1).val (u.val + 16)

def dpwOf (A : S4096x2048.Idx → EReal) (D : S4096x1024.Idx → EReal) (S : S1x512.Idx → EReal) (j : S4x128x128.Idx) : EReal :=
  ∑ u : Fin 4096, pwTerm A D S (j 0) (j 1) (j 2) (u.val + 16)

def dpsOf (A : S4096x2048.Idx → EReal) (D : S4096x1024.Idx → EReal) (W : S4x128x128.Idx → EReal) (j : S1x512.Idx) : EReal :=
  ∑ u : Fin 4096, psTerm A D W (grp (j 1)) (lane (j 1)) (u.val + 16)

theorem dcw_all (c : Dev nD) (t : Fin cfg0.N) (ht : t.val + 1 = cfg0.N) (j : S3x512.Idx) :
    (outsAt0 m c t.val t.isLt).2.1 j = dcwOf (A0 m c) (A1 m c) j := by
  have h16 : cfg0.N = 16 := N_16
  rw [Pipeline.eq_sum_fin_of_reset_step_apply_last (fun n h => (outsAt0 m c n h).2.1) 16 (fun _ => 0) (cwStep m c)
    (fun t h j => dcw_A m c t h j) (fun t h j => dcw_B m c t h _ j) (by omega) t ht j, zero_add]
  exact sum_rows (cwTerm (A0 m c) (A1 m c) (2 - (j 0).val) (j 1).val)

theorem dpw_all (c : Dev nD) (t : Fin cfg0.N) (ht : t.val + 1 = cfg0.N) (j : S4x128x128.Idx) :
    (outsAt0 m c t.val t.isLt).2.2.1 j = dpwOf (A0 m c) (A1 m c) (A4 m c) j := by
  have h16 : cfg0.N = 16 := N_16
  rw [Pipeline.eq_sum_fin_of_reset_step_apply_last (fun n h => (outsAt0 m c n h).2.2.1) 16 (fun _ => 0) (pwStep m c)
    (fun t h j => dpw_A m c t h j) (fun t h j => dpw_B m c t h _ j) (by omega) t ht j, zero_add]
  exact sum_rows (pwTerm (A0 m c) (A1 m c) (A4 m c) (j 0) (j 1) (j 2))

theorem dps_all (c : Dev nD) (t : Fin cfg0.N) (ht : t.val + 1 = cfg0.N) (j : S1x512.Idx) :
    (outsAt0 m c t.val t.isLt).2.2.2 j = dpsOf (A0 m c) (A1 m c) (A3 m c) j := by
  have h16 : cfg0.N = 16 := N_16
  rw [Pipeline.eq_sum_fin_of_reset_step_apply_last (fun n h => (outsAt0 m c n h).2.2.2) 16 (fun _ => 0) (psStep m c)
    (fun t h j => dps_A m c t h j) (fun t h j => dps_B m c t h _ j) (by omega) t ht j, zero_add]
  exact sum_rows (psTerm (A0 m c) (A1 m c) (A3 m c) (grp (j 1)) (lane (j 1)))

end Cert.MixerBwdIdeal.RowValue
-- ==== Proof.MixerFinal.lean ====
/-
  The four result arrays of `MixerBwd` after the run.
-/
module

public import proofs.«01_k».proof.Proof.MixerOut

@[expose] public section

set_option maxRecDepth 16384

noncomputable section

namespace Cert.MixerBwdIdeal.RowValue

open Cert.MixerBwdIdeal Cert.MixerBwdIdeal.Gen Idealize.ShloMosaic Idealize.ShloMosaic.TcCoe Idealize.SL.Sem
open Idealize.ShloMosaic.Pipeline (Dat)

variable (m : (ℓ : Loc nD τ sig) → Buf (Elt Ideal) ℓ)

/-- Where a block's entry lies in the projected rows' gradient. -/
theorem emb8 (t : Fin cfg0.N) (r : Fin 256) (k : Fin 2048) (u : Fin 4096) (hu : u.val = t.val * 256 + r.val) :
    (win0_8.blk t).view.emb (ix2 r k) = ix2 u k := by
  blk_ext! [idx t]

theorem dproj_at (c : Dev nD) (t : Fin cfg0.N) (r : Fin 256) (k : Fin 2048) (u : Fin 4096) (hu : u.val = t.val * 256 + r.val) :
    dprojBlk m c t (ix2 r k) = dprojOf (A0 m c) (A1 m c) (A2 m c) (A3 m c) (A4 m c) (ix2 u k) := by
  have e : t.val * 256 + (16 + r.val) = u.val + 16 := by omega
  show dproj _ _ _ _ _ (t.val * 256 + (16 + r.val)) k = dproj _ _ _ _ _ (u.val + 16) k
  rw [e]

/-- The four result arrays after the run. -/
theorem dproj_final (c : Dev nD) :
    (dats m 0 c).arrAt 8 cfg0.N = dprojOf (A0 m c) (A1 m c) (A2 m c) (A3 m c) (A4 m c) := by
  refine (dats m 0 c).arrAt_eq_of_covers 8 _ (by decide +kernel) fun t hf y => ?_
  blk_simp
  rw [after0_8]
  refine (dproj_blk m c t y).trans ?_
  idx_vars y
  have h := lt16 t
  rw [emb8 t y0 y1 ⟨t.val * 256 + y0.val, by omega⟩ rfl]
  exact dproj_at m c t y0 y1 _ rfl

theorem dcw_final (c : Dev nD) : (dats m 0 c).arrAt 9 cfg0.N = dcwOf (A0 m c) (A1 m c) := by
  refine (dats m 0 c).arrAt_eq_of_after_last 9 t0_15 (by decide +kernel) _ fun j => ?_
  blk_simp
  rw [after0_9]
  exact dcw_all m c t0_15 rfl j

theorem dpw_final (c : Dev nD) : (dats m 0 c).arrAt 10 cfg0.N = dpwOf (A0 m c) (A1 m c) (A4 m c) := by
  refine (dats m 0 c).arrAt_eq_of_after_last 10 t0_15 (by decide +kernel) _ fun j => ?_
  blk_simp
  rw [after0_10]
  exact dpw_all m c t0_15 rfl j

theorem dps_final (c : Dev nD) : (dats m 0 c).arrAt 11 cfg0.N = dpsOf (A0 m c) (A1 m c) (A3 m c) := by
  refine (dats m 0 c).arrAt_eq_of_after_last 11 t0_15 (by decide +kernel) _ fun j => ?_
  blk_simp
  rw [after0_11]
  exact dps_all m c t0_15 rfl j

end Cert.MixerBwdIdeal.RowValue
-- ==== Proof.RunningSum.lean ====
/-
  Running sums of the columns of an array over the extended reals, down and up, and the moving windows that their
  differences are where the entries are real numbers.
-/
module

public import proofs.«01_k».proof.Proof.Reals
public import Idealize.ShloMosaic.Lib.KernelVsHost

@[expose] public section

set_option maxRecDepth 16384

noncomputable section

namespace Cert.RunningSum

open Idealize.ShloMosaic

abbrev S0 : Shape := ⟨0, ![]⟩

variable {N M C : ℕ}

theorem numel_col : (⟨2, ![N, 1]⟩ : Shape).numel = N := by
  simp [Shape.numel]

theorem symm_col (n : Fin (⟨2, ![N, 1]⟩ : Shape).numel) :
    (⟨2, ![N, 1]⟩ : Shape).rowMajor.symm n = ix2 (n.cast numel_col) (0 : Fin 1) := by
  rw [Equiv.symm_apply_eq]
  refine Fin.ext ?_
  rw [Shape.rowMajor_val_two]
  show n.val = n.val * 1 + 0
  omega

theorem foldl_sum {n : ℕ} (f : Fin n → EReal) (v : EReal) : (List.finRange n).foldl (fun r i => r + f i) v = v + ∑ i, f i := by
  rw [Fin.sum_univ_def]
  generalize List.finRange n = l
  induction l generalizing v with
  | nil => simp
  | cons a l ih => rw [List.foldl_cons, ih, List.map_cons, List.sum_cons, add_assoc]

/-- The running sum down a column: an entry is the sum of the entries up to it. -/
theorem down (hM : M + 1 = N) (x : (⟨2, ![N, C]⟩ : Shape).Idx → EReal) (init : S0.Idx → EReal) (h : (⟨2, ![N, C]⟩ : Shape).ReduceWindows ![N, 1] ![1, 1] ![M, 0] ![0, 0] ⟨2, ![N, C]⟩)
    (hu : 0 < S0.numel) (hi : init (Shape.Idx.first hu) = 0) (s : Fin N) (q : Fin C) :
    Host.reduceWindowAdd (F := Ideal) (φ := .f32) ![N, 1] ![1, 1] ![M, 0] ![0, 0] x init h hu (ix2 s q)
      = ∑ w : Fin N, if hw : M ≤ s.val + w.val then x (ix2 ⟨s.val + w.val - M, by omega⟩ q) else 0 := by
  show Host.reduceWindow (· + ·) ![N, 1] ![1, 1] ![M, 0] ![0, 0] x (fun _ : S0.Idx => init (Shape.Idx.first hu)) h hu _ = _
  unfold Host.reduceWindow
  dsimp only
  rw [foldl_sum, hi, zero_add]
  refine Eq.trans ?_ (Equiv.sum_comp (finCongr numel_col) (fun w : Fin N => if hw : M ≤ s.val + w.val then
    x (ix2 ⟨s.val + w.val - M, by omega⟩ q) else 0))
  refine Finset.sum_congr rfl fun n _ => ?_
  have hn : n.val < N := (finCongr numel_col n).isLt
  have w0 : ((⟨2, ![N, 1]⟩ : Shape).rowMajor.symm n 0).val = n.val := by rw [symm_col]; rfl
  have w1 : ((⟨2, ![N, 1]⟩ : Shape).rowMajor.symm n 1).val = 0 := by rw [symm_col]; rfl
  by_cases hw : M ≤ s.val + n.val
  · refine (dif_pos (show ∀ a, _ from ?_)).trans ?_
    · intro a
      match a with
      | ⟨0, _⟩ =>
        show M ≤ s.val * 1 + ((⟨2, ![N, 1]⟩ : Shape).rowMajor.symm n 0).val ∧ s.val * 1 + ((⟨2, ![N, 1]⟩ : Shape).rowMajor.symm n 0).val - M < N
        rw [w0]; omega
      | ⟨1, _⟩ =>
        show 0 ≤ q.val * 1 + ((⟨2, ![N, 1]⟩ : Shape).rowMajor.symm n 1).val ∧ q.val * 1 + ((⟨2, ![N, 1]⟩ : Shape).rowMajor.symm n 1).val - 0 < C
        rw [w1]; omega
    · refine Eq.trans ?_ (dif_pos hw).symm
      refine congrArg x (funext fun a => Fin.ext ?_)
      match a with
      | ⟨0, _⟩ =>
        show s.val * 1 + ((⟨2, ![N, 1]⟩ : Shape).rowMajor.symm n 0).val - M = s.val + n.val - M
        rw [w0, Nat.mul_one]
      | ⟨1, _⟩ =>
        show q.val * 1 + ((⟨2, ![N, 1]⟩ : Shape).rowMajor.symm n 1).val - 0 = q.val
        rw [w1]; omega
  · refine (dif_neg fun hin => hw ?_).trans (show 0 = (if hw : M ≤ s.val + n.val then x (ix2 ⟨s.val + n.val - M, by omega⟩ q) else 0) by rw [dif_neg hw])
    have h0 := (hin 0).1
    change M ≤ s.val * 1 + ((⟨2, ![N, 1]⟩ : Shape).rowMajor.symm n 0).val at h0
    rw [w0] at h0
    omega

/-- The running sum up a column: an entry is the sum of the entries from it on. -/
theorem up (hM : M + 1 = N) (x : (⟨2, ![N, C]⟩ : Shape).Idx → EReal) (init : S0.Idx → EReal) (h : (⟨2, ![N, C]⟩ : Shape).ReduceWindows ![N, 1] ![1, 1] ![0, 0] ![M, 0] ⟨2, ![N, C]⟩)
    (hu : 0 < S0.numel) (hi : init (Shape.Idx.first hu) = 0) (s : Fin N) (q : Fin C) :
    Host.reduceWindowAdd (F := Ideal) (φ := .f32) ![N, 1] ![1, 1] ![0, 0] ![M, 0] x init h hu (ix2 s q)
      = ∑ w : Fin N, if hw : s.val + w.val < N then x (ix2 ⟨s.val + w.val, hw⟩ q) else 0 := by
  show Host.reduceWindow (· + ·) ![N, 1] ![1, 1] ![0, 0] ![M, 0] x (fun _ : S0.Idx => init (Shape.Idx.first hu)) h hu _ = _
  unfold Host.reduceWindow
  dsimp only
  rw [foldl_sum, hi, zero_add]
  refine Eq.trans ?_ (Equiv.sum_comp (finCongr numel_col) (fun w : Fin N => if hw : s.val + w.val < N then
    x (ix2 ⟨s.val + w.val, hw⟩ q) else 0))
  refine Finset.sum_congr rfl fun n _ => ?_
  have w0 : ((⟨2, ![N, 1]⟩ : Shape).rowMajor.symm n 0).val = n.val := by rw [symm_col]; rfl
  have w1 : ((⟨2, ![N, 1]⟩ : Shape).rowMajor.symm n 1).val = 0 := by rw [symm_col]; rfl
  by_cases hw : s.val + n.val < N
  · refine (dif_pos (show ∀ a, _ from ?_)).trans ?_
    · intro a
      match a with
      | ⟨0, _⟩ =>
        show 0 ≤ s.val * 1 + ((⟨2, ![N, 1]⟩ : Shape).rowMajor.symm n 0).val ∧ s.val * 1 + ((⟨2, ![N, 1]⟩ : Shape).rowMajor.symm n 0).val - 0 < N
        rw [w0]; omega
      | ⟨1, _⟩ =>
        show 0 ≤ q.val * 1 + ((⟨2, ![N, 1]⟩ : Shape).rowMajor.symm n 1).val ∧ q.val * 1 + ((⟨2, ![N, 1]⟩ : Shape).rowMajor.symm n 1).val - 0 < C
        rw [w1]; omega
    · refine Eq.trans ?_ (dif_pos hw).symm
      refine congrArg x (funext fun a => Fin.ext ?_)
      match a with
      | ⟨0, _⟩ =>
        show s.val * 1 + ((⟨2, ![N, 1]⟩ : Shape).rowMajor.symm n 0).val - 0 = s.val + n.val
        rw [w0]; omega
      | ⟨1, _⟩ =>
        show q.val * 1 + ((⟨2, ![N, 1]⟩ : Shape).rowMajor.symm n 1).val - 0 = q.val
        rw [w1]; omega
  · refine (dif_neg fun hin => hw ?_).trans (show 0 = (if hw : s.val + n.val < N then x (ix2 ⟨s.val + n.val, hw⟩ q) else 0) by rw [dif_neg hw])
    have h0 := (hin 0).2
    change s.val * 1 + ((⟨2, ![N, 1]⟩ : Shape).rowMajor.symm n 0).val - 0 < N at h0
    rw [w0] at h0
    omega

/-- Where a column holds `f 16, f 17, …` and `f` is zero before, the running sum is the sum of `f` up to the entry. -/
theorem down_real (hM : M + 1 = N) (x : (⟨2, ![N, C]⟩ : Shape).Idx → EReal) (init : S0.Idx → EReal) (h : (⟨2, ![N, C]⟩ : Shape).ReduceWindows ![N, 1] ![1, 1] ![M, 0] ![0, 0] ⟨2, ![N, C]⟩)
    (hu : 0 < S0.numel) (hi : init (Shape.Idx.first hu) = 0) (q : Fin C) (f : ℕ → ℝ) (hf : ∀ n, n < 16 → f n = 0)
    (hx : ∀ s : Fin N, x (ix2 s q) = (f (s.val + 16) : EReal)) (s : Fin N) :
    Host.reduceWindowAdd (F := Ideal) (φ := .f32) ![N, 1] ![1, 1] ![M, 0] ![0, 0] x init h hu (ix2 s q)
      = ((∑ n ∈ Finset.range (s.val + 17), f n : ℝ) : EReal) := by
  rw [down hM x init h hu hi s q]
  have e : ∀ w : Fin N, (if hw : M ≤ s.val + w.val then x (ix2 ⟨s.val + w.val - M, by omega⟩ q) else 0)
      = ((if M ≤ s.val + w.val then f (s.val + w.val - M + 16) else 0 : ℝ) : EReal) := fun w => by
    by_cases hw : M ≤ s.val + w.val
    · rw [dif_pos hw, if_pos hw, hx]
    · rw [dif_neg hw, if_neg hw]; rfl
  rw [Finset.sum_congr rfl fun w _ => e w, Reals.coe_sum,
    Fin.sum_univ_eq_sum_range (fun w => if M ≤ s.val + w then f (s.val + w - M + 16) else 0) N]
  congr 1
  rw [← Finset.sum_filter]
  have h16 : ∑ n ∈ Finset.range (s.val + 17), f n = ∑ n ∈ Finset.Ico 16 (s.val + 17), f n := by
    rw [Finset.range_eq_Ico, ← Finset.sum_Ico_consecutive _ (by omega : 0 ≤ 16) (by omega : 16 ≤ s.val + 17)]
    rw [Finset.sum_eq_zero fun n hn => hf n (Finset.mem_Ico.1 hn).2, zero_add]
  rw [h16]
  have hs := s.isLt
  refine Finset.sum_bij' (fun w _ => s.val + w - M + 16) (fun n _ => n + M - 16 - s.val) ?_ ?_ ?_ ?_ ?_ <;>
    intro w hw <;> simp only [Finset.mem_filter, Finset.mem_range, Finset.mem_Ico] at * <;> first | omega | rfl

/-- Where a column holds `f 16, f 17, …` and `f` is zero from `16 + N` on, the upward running sum is the sum of `f` from the entry. -/
theorem up_real (hM : M + 1 = N) (x : (⟨2, ![N, C]⟩ : Shape).Idx → EReal) (init : S0.Idx → EReal) (h : (⟨2, ![N, C]⟩ : Shape).ReduceWindows ![N, 1] ![1, 1] ![0, 0] ![M, 0] ⟨2, ![N, C]⟩)
    (hu : 0 < S0.numel) (hi : init (Shape.Idx.first hu) = 0) (q : Fin C) (f : ℕ → ℝ)
    (hx : ∀ s : Fin N, x (ix2 s q) = (f (s.val + 16) : EReal)) (s : Fin N) :
    Host.reduceWindowAdd (F := Ideal) (φ := .f32) ![N, 1] ![1, 1] ![0, 0] ![M, 0] x init h hu (ix2 s q)
      = ((∑ n ∈ Finset.Ico (s.val + 16) (16 + N), f n : ℝ) : EReal) := by
  rw [up hM x init h hu hi s q]
  have e : ∀ w : Fin N, (if hw : s.val + w.val < N then x (ix2 ⟨s.val + w.val, hw⟩ q) else 0)
      = ((if s.val + w.val < N then f (s.val + w.val + 16) else 0 : ℝ) : EReal) := fun w => by
    by_cases hw : s.val + w.val < N
    · rw [dif_pos hw, if_pos hw, hx]
    · rw [dif_neg hw, if_neg hw]; rfl
  rw [Finset.sum_congr rfl fun w _ => e w, Reals.coe_sum,
    Fin.sum_univ_eq_sum_range (fun w => if s.val + w < N then f (s.val + w + 16) else 0) N]
  congr 1
  rw [← Finset.sum_filter]
  have hs := s.isLt
  refine Finset.sum_bij' (fun w _ => s.val + w + 16) (fun n _ => n - 16 - s.val) ?_ ?_ ?_ ?_ ?_ <;>
    intro w hw <;> simp only [Finset.mem_filter, Finset.mem_range, Finset.mem_Ico] at * <;> first | omega | rfl

/-- The difference of two running sums `k` entries apart is a window of `k` entries. -/
theorem window_down (f : ℕ → ℝ) (hf : ∀ n, n < 16 → f n = 0) (k s : ℕ) (hk : k ≤ 16) :
    ∑ n ∈ Finset.range (s + 17), f n - (if s < k then 0 else ∑ n ∈ Finset.range (s - k + 17), f n)
      = ∑ j ∈ Finset.range k, f (s + 16 - j) := by
  have e : (if s < k then 0 else ∑ n ∈ Finset.range (s - k + 17), f n) = ∑ n ∈ Finset.range (s + 17 - k), f n := by
    by_cases h : s < k
    · rw [if_pos h]
      exact (Finset.sum_eq_zero fun n hn => hf n (by have := Finset.mem_range.1 hn; omega)).symm
    · rw [if_neg h, show s - k + 17 = s + 17 - k by omega]
  rw [e, ← Finset.sum_Ico_eq_sub _ (by omega : s + 17 - k ≤ s + 17)]
  refine Finset.sum_bij' (fun n _ => s + 16 - n) (fun j _ => s + 16 - j) ?_ ?_ ?_ ?_ ?_ <;>
    intro w hw <;> simp only [Finset.mem_range, Finset.mem_Ico] at * <;> first | omega | (congr 1; omega)

/-- The sum, from an entry on, of the differences of entries `k` apart is a window of `k` entries. -/
theorem window_up (f : ℕ → ℝ) (hf : ∀ n, (16 + N) ≤ n → f n = 0) (k s : ℕ) (hs : s < (16 + N)) :
    ∑ n ∈ Finset.Ico s (16 + N), (f n - f (n + k)) = ∑ j ∈ Finset.range k, f (s + j) := by
  rw [Finset.sum_sub_distrib, Finset.sum_Ico_add' f s (16 + N) k]
  have a := Finset.sum_Ico_consecutive f (by omega : s ≤ (16 + N)) (by omega : (16 + N) ≤ (16 + N) + k)
  have b := Finset.sum_Ico_consecutive f (by omega : s ≤ s + k) (by omega : s + k ≤ (16 + N) + k)
  rw [Finset.sum_eq_zero (s := Finset.Ico (16 + N) ((16 + N) + k)) fun n hn => hf n (Finset.mem_Ico.1 hn).1, add_zero] at a
  rw [a, ← b, add_sub_cancel_right, Finset.sum_Ico_eq_sum_range, Nat.add_sub_cancel_left]

end Cert.RunningSum
-- ==== Proof.MixerRef.lean ====
/-
  The reference `MixerGrad` over the extended reals, read at an index: its forward part.
-/
module

public import proofs.«01_k».proof.Proof.Gen.MixerGradIdeal.Run
public import proofs.«01_k».proof.Proof.Gen.MixerGradIdeal.Read
public import proofs.«01_k».proof.Proof.MixerFinal
public import proofs.«01_k».proof.Proof.RunningSum

@[expose] public section

set_option maxRecDepth 16384

noncomputable section

namespace Cert.MixerGradIdeal.RefValue

open Cert.MixerGradIdeal Cert.MixerGradIdeal.Gen Idealize.ShloMosaic Idealize.ShloMosaic.TcCoe Idealize.SL.Sem
open Cert.MixerGradIdeal.Read
open Cert.MixerBwdIdeal.RowValue (P Q P_in P_out Q_in Q_out cnt pooled sc scaled dpool dpin psTerm pwTerm)

/-- The words of a window's length. -/
theorem word_len : ∀ (s : Fin 4096) (k : Fin 4),
    (IntOp.minsi (IntOp.addi 1#32 (BitVec.ofNat 32 s.val)) (BitVec.ofNat 32 (2 ^ (k.val + 1)))).toInt
      = max 1 (min (((s.val + 16 : ℕ) : ℤ) - 15) ((2 ^ (k.val + 1) : ℕ) : ℤ)) := by
  decide +kernel

theorem len2 (s : Fin 4096) : val_main_v43 (F := Ideal) (ix2 s 0) = cnt 2 (s.val + 16) := by
  unfold val_main_v43 val_main_v42 val_main_v41 val_main_v40 val_main_v39 val_main_v38 val_main_v37 val_main_c val_main_c_3
  pointwise
  exact congrArg (fun z : ℤ => ((z : ℝ) : EReal)) (word_len s 0)

theorem len4 (s : Fin 4096) : val_main_v60 (F := Ideal) (ix2 s 0) = cnt 4 (s.val + 16) := by
  unfold val_main_v60 val_main_v59 val_main_v58 val_main_v57 val_main_v56 val_main_v55 val_main_v54
  pointwise
  exact congrArg (fun z : ℤ => ((z : ℝ) : EReal)) (word_len s 1)

theorem len8 (s : Fin 4096) : val_main_v77 (F := Ideal) (ix2 s 0) = cnt 8 (s.val + 16) := by
  unfold val_main_v77 val_main_v76 val_main_v75 val_main_v74 val_main_v73 val_main_v72 val_main_v71
  pointwise
  exact congrArg (fun z : ℤ => ((z : ℝ) : EReal)) (word_len s 2)

theorem len16 (s : Fin 4096) : val_main_v94 (F := Ideal) (ix2 s 0) = cnt 16 (s.val + 16) := by
  unfold val_main_v94 val_main_v93 val_main_v92 val_main_v91 val_main_v90 val_main_v89 val_main_v88
  pointwise
  exact congrArg (fun z : ℤ => ((z : ℝ) : EReal)) (word_len s 3)

/-- The pooled columns. -/
theorem pin_apply (x0 : S4096x2048.Idx → EReal) (s : Fin 4096) (g : Fin 4) (q : Fin 128) :
    val_main_v29 (F := Ideal) x0 (ix3 s g q) = P x0 (s.val + 16) (1536 + 128 * g.val + q.val) := by
  refine Eq.trans ?_ (P_in x0 _ s ⟨1536 + 128 * g.val + q.val, by omega⟩ rfl).symm
  unfold val_main_v29 val_main_v3
  pointwise
  exact congrArg (fun c => x0 (ix2 s c)) (Fin.ext (by show 1536 + (g.val * 128 + q.val) = 1536 + 128 * g.val + q.val; omega))

theorem col0 (x0 : S4096x2048.Idx → EReal) (s : Fin 4096) (q : Fin 128) :
    val_main_v31 (F := Ideal) x0 (ix2 s q) = P x0 (s.val + 16) (1536 + 128 * 0 + q.val) := by
  refine Eq.trans ?_ (pin_apply x0 s 0 q)
  unfold val_main_v31 val_main_v30
  pointwise

theorem col1 (x0 : S4096x2048.Idx → EReal) (s : Fin 4096) (q : Fin 128) :
    val_main_v48 (F := Ideal) x0 (ix2 s q) = P x0 (s.val + 16) (1536 + 128 * 1 + q.val) := by
  refine Eq.trans ?_ (pin_apply x0 s 1 q)
  unfold val_main_v48 val_main_v47
  pointwise

theorem col2 (x0 : S4096x2048.Idx → EReal) (s : Fin 4096) (q : Fin 128) :
    val_main_v65 (F := Ideal) x0 (ix2 s q) = P x0 (s.val + 16) (1536 + 128 * 2 + q.val) := by
  refine Eq.trans ?_ (pin_apply x0 s 2 q)
  unfold val_main_v65 val_main_v64
  pointwise

theorem col3 (x0 : S4096x2048.Idx → EReal) (s : Fin 4096) (q : Fin 128) :
    val_main_v82 (F := Ideal) x0 (ix2 s q) = P x0 (s.val + 16) (1536 + 128 * 3 + q.val) := by
  refine Eq.trans ?_ (pin_apply x0 s 3 q)
  unfold val_main_v82 val_main_v81
  pointwise

/-- A group's window means from its running sums. -/
theorem mean2 (x0 : S4096x2048.Idx → EReal) (s : Fin 4096) (q : Fin 128) :
    val_main_v46 (F := Ideal) x0 (ix2 s q) = Ideal.div (val_main_v32 (F := Ideal) x0 (ix2 s q)
      - (if h : s.val < 2 then 0 else val_main_v32 (F := Ideal) x0 (ix2 ⟨s.val - 2, by omega⟩ q))) (cnt 2 (s.val + 16)) := by
  rw [← len2 s]
  unfold val_main_v46 val_main_v45 val_main_v44 val_main_v36 val_main_v34 val_main_v33 val_main_cst_1
  generalize val_main_v32 (F := Ideal) x0 = y
  generalize val_main_v43 (F := Ideal) = z
  pointwise

theorem mean4 (x0 : S4096x2048.Idx → EReal) (s : Fin 4096) (q : Fin 128) :
    val_main_v63 (F := Ideal) x0 (ix2 s q) = Ideal.div (val_main_v49 (F := Ideal) x0 (ix2 s q)
      - (if h : s.val < 4 then 0 else val_main_v49 (F := Ideal) x0 (ix2 ⟨s.val - 4, by omega⟩ q))) (cnt 4 (s.val + 16)) := by
  rw [← len4 s]
  unfold val_main_v63 val_main_v62 val_main_v61 val_main_v53 val_main_v51 val_main_v50 val_main_cst_4
  generalize val_main_v49 (F := Ideal) x0 = y
  generalize val_main_v60 (F := Ideal) = z
  pointwise

theorem mean8 (x0 : S4096x2048.Idx → EReal) (s : Fin 4096) (q : Fin 128) :
    val_main_v80 (F := Ideal) x0 (ix2 s q) = Ideal.div (val_main_v66 (F := Ideal) x0 (ix2 s q)
      - (if h : s.val < 8 then 0 else val_main_v66 (F := Ideal) x0 (ix2 ⟨s.val - 8, by omega⟩ q))) (cnt 8 (s.val + 16)) := by
  rw [← len8 s]
  unfold val_main_v80 val_main_v79 val_main_v78 val_main_v70 val_main_v68 val_main_v67 val_main_cst_8
  generalize val_main_v66 (F := Ideal) x0 = y
  generalize val_main_v77 (F := Ideal) = z
  pointwise

theorem mean16 (x0 : S4096x2048.Idx → EReal) (s : Fin 4096) (q : Fin 128) :
    val_main_v97 (F := Ideal) x0 (ix2 s q) = Ideal.div (val_main_v83 (F := Ideal) x0 (ix2 s q)
      - (if h : s.val < 16 then 0 else val_main_v83 (F := Ideal) x0 (ix2 ⟨s.val - 16, by omega⟩ q))) (cnt 16 (s.val + 16)) := by
  rw [← len16 s]
  unfold val_main_v97 val_main_v96 val_main_v95 val_main_v87 val_main_v85 val_main_v84 val_main_cst_12
  generalize val_main_v83 (F := Ideal) x0 = y
  generalize val_main_v94 (F := Ideal) = z
  pointwise

section RealRows
variable (a : S4096x2048.Idx → ℝ)

/-- The projected rows as real numbers, zero outside the sequence. -/
def pr (n c : ℕ) : ℝ := if h : (16 ≤ n ∧ n < 4112) ∧ c < 2048 then a (ix2 ⟨n - 16, by omega⟩ ⟨c, h.2⟩) else 0

theorem pr_coe (n c : ℕ) : P (fun i => (a i : EReal)) n c = (pr a n c : EReal) := by
  unfold P pr
  by_cases h : (16 ≤ n ∧ n < 4112) ∧ c < 2048
  · rw [dif_pos h, dif_pos h]
  · rw [dif_neg h, dif_neg h]; rfl

theorem pr_low (c n : ℕ) (h : n < 16) : pr a n c = 0 := by
  unfold pr
  rw [dif_neg (by omega)]

/-- A difference of two running sums of a column, over a count, is the window's mean. -/
theorem window_mean (k c : ℕ) (hk : k ≤ 16) (y : S4096x128.Idx → EReal) (q : Fin 128) (z : EReal)
    (hy : ∀ s : Fin 4096, y (ix2 s q) = ((∑ n ∈ Finset.range (s.val + 17), pr a n c : ℝ) : EReal)) (s : Fin 4096) :
    Ideal.div (y (ix2 s q) - (if h : s.val < k then 0 else y (ix2 ⟨s.val - k, by omega⟩ q))) z
      = Ideal.div (∑ j ∈ Finset.range k, P (fun i => (a i : EReal)) (s.val + 16 - j) c) z := by
  refine congrArg (fun v => Ideal.div v z) ?_
  simp only [pr_coe, Reals.coe_sum]
  rw [← RunningSum.window_down (fun n => pr a n c) (pr_low a c) k s.val hk, hy s, EReal.coe_sub]
  refine congrArg (fun v : EReal => _ - v) ?_
  by_cases h : s.val < k
  · rw [dif_pos h, if_pos h]; rfl
  · rw [dif_neg h, if_neg h, hy]

end RealRows

/-- The reference's pooled rows are the kernel's, at real rows. -/
theorem pooled_apply (a : S4096x2048.Idx → ℝ) (s : Fin 4096) (g : Fin 4) (q : Fin 128) :
    val_main_v103 (F := Ideal) (fun i => (a i : EReal)) (ix3 s g q) = pooled (fun i => (a i : EReal)) g.val (s.val + 16) q.val := by
  have e : ∀ v : EReal, v = Ideal.div (∑ j ∈ Finset.range (2 ^ (g.val + 1)), P (fun i => (a i : EReal)) (s.val + 16 - j)
      (1536 + 128 * g.val + q.val)) (cnt (2 ^ (g.val + 1)) (s.val + 16)) →
      val_main_v102 (F := Ideal) (fun i => (a i : EReal)) (ix3 s g q) = v →
      val_main_v103 (F := Ideal) (fun i => (a i : EReal)) (ix3 s g q) = pooled (fun i => (a i : EReal)) g.val (s.val + 16) q.val :=
    fun v hv h => congrArg₂ (fun x y : EReal => x - y) (h.trans hv) (pin_apply _ s g q)
  have h0 : ∀ g' : Fin 4, g = g' → val_main_v102 (F := Ideal) (fun i => (a i : EReal)) (ix3 s g q)
      = (![val_main_v46 (F := Ideal) (fun i => (a i : EReal)), val_main_v63 (F := Ideal) (fun i => (a i : EReal)),
        val_main_v80 (F := Ideal) (fun i => (a i : EReal)), val_main_v97 (F := Ideal) (fun i => (a i : EReal))] g') (ix2 s q) := by
    unfold val_main_v102 val_main_v101 val_main_v100 val_main_v99 val_main_v98
    generalize val_main_v46 (F := Ideal) (fun i => (a i : EReal)) = y0
    generalize val_main_v63 (F := Ideal) (fun i => (a i : EReal)) = y1
    generalize val_main_v80 (F := Ideal) (fun i => (a i : EReal)) = y2
    generalize val_main_v97 (F := Ideal) (fun i => (a i : EReal)) = y3
    rintro g' rfl
    match g with
    | 0 => pointwise
    | 1 => pointwise
    | 2 => pointwise
    | 3 => pointwise
  refine e _ ?_ (h0 g rfl)
  match g with
  | 0 =>
    refine (mean2 _ s q).trans (window_mean a 2 _ (by omega) _ q _ (fun s => ?_) s)
    exact RunningSum.down_real rfl _ _ _ _ Ideal.ofBits_zero_f32 q (fun n => pr a n _) (pr_low a _)
      (fun s => (col0 _ s q).trans (pr_coe a _ _)) s
  | 1 =>
    refine (mean4 _ s q).trans (window_mean a 4 _ (by omega) _ q _ (fun s => ?_) s)
    exact RunningSum.down_real rfl _ _ _ _ Ideal.ofBits_zero_f32 q (fun n => pr a n _) (pr_low a _)
      (fun s => (col1 _ s q).trans (pr_coe a _ _)) s
  | 2 =>
    refine (mean8 _ s q).trans (window_mean a 8 _ (by omega) _ q _ (fun s => ?_) s)
    exact RunningSum.down_real rfl _ _ _ _ Ideal.ofBits_zero_f32 q (fun n => pr a n _) (pr_low a _)
      (fun s => (col2 _ s q).trans (pr_coe a _ _)) s
  | 3 =>
    refine (mean16 _ s q).trans (window_mean a 16 _ (by omega) _ q _ (fun s => ?_) s)
    exact RunningSum.down_real rfl _ _ _ _ Ideal.ofBits_zero_f32 q (fun n => pr a n _) (pr_low a _)
      (fun s => (col3 _ s q).trans (pr_coe a _ _)) s

end Cert.MixerGradIdeal.RefValue
-- ==== Proof.MixerRefBwd.lean ====
/-
  The reference `MixerGrad` over the extended reals, read at an index: the gradients of the pooling's weight, of its
  scale and of its columns.
-/
module

public import proofs.«01_k».proof.Proof.MixerRef

@[expose] public section

set_option maxRecDepth 16384

noncomputable section

namespace Cert.MixerGradIdeal.RefValue

open Cert.MixerGradIdeal Cert.MixerGradIdeal.Gen Idealize.ShloMosaic Idealize.ShloMosaic.TcCoe Idealize.SL.Sem
open Cert.MixerGradIdeal.Read
open Cert.MixerBwdIdeal.RowValue (P Q P_in P_out Q_in Q_out cnt pooled sc scaled dpool dpin psTerm pwTerm dpsOf dpwOf grp lane)

/-- The scaled cotangent. -/
theorem scaled_apply (D : S4096x1024.Idx → EReal) (S : S1x512.Idx → EReal) (g : Fin 4) (d : Fin 128) (s : Fin 4096) :
    val_main_v122 (F := Ideal) D S (ix3 g d s) = scaled D S g.val (s.val + 16) d.val := by
  unfold scaled sc
  rw [dif_pos (by omega)]
  refine Eq.trans ?_ (congrArg (fun v : EReal => v * _) (Q_in D _ s ⟨512 + 128 * g.val + d.val, by omega⟩ rfl).symm)
  unfold val_main_v122 val_main_v121 val_main_v118 val_main_v117 val_main_v113 val_main_v108 val_main_v107
  pointwise
  refine congrArg₂ (fun (x : Fin 1024) (y : Fin 512) => D (ix2 s x) * S (ix2 0 y)) (Fin.ext ?_) (Fin.ext ?_)
  · show 512 + (g.val * 128 + d.val) = 512 + 128 * g.val + d.val; omega
  · show g.val * 128 + d.val = 128 * g.val + d.val; omega

/-- The gradient of the pooled rows. -/
theorem dpool_apply (D : S4096x1024.Idx → EReal) (W : S4x128x128.Idx → EReal) (S : S1x512.Idx → EReal) (s : Fin 4096) (g : Fin 4) (q : Fin 128) :
    val_main_v124 (F := Ideal) D W S (ix3 s g q) = dpool D S W g (s.val + 16) q := by
  unfold val_main_v124 val_main_v123 dpool
  generalize h : val_main_v122 (F := Ideal) D S = y
  pointwise
  refine Finset.sum_congr rfl fun d _ => congrArg (fun v : EReal => v * _) ?_
  rw [← h]
  exact scaled_apply D S g d s

/-- The gradient of the pooling's weight, at real rows. -/
theorem dpw_ref (a : S4096x2048.Idx → ℝ) (D : S4096x1024.Idx → EReal) (S : S1x512.Idx → EReal) :
    val_main_v126 (F := Ideal) (fun i => (a i : EReal)) D S = dpwOf (fun i => (a i : EReal)) D S := by
  funext j
  idx_vars j
  unfold val_main_v126 val_main_v125 dpwOf pwTerm
  generalize h : val_main_v122 (F := Ideal) D S = y
  generalize h' : val_main_v103 (F := Ideal) (fun i => (a i : EReal)) = z
  pointwise
  refine Finset.sum_congr rfl fun s _ => ?_
  rw [← h, ← h']
  exact (mul_comm _ _).trans (congrArg₂ (fun x y : EReal => x * y) (pooled_apply a s j0 j1) (scaled_apply D S j0 j2 s))

/-- The product of the pooled rows and the weight, at real rows. -/
theorem mixed_apply (a : S4096x2048.Idx → ℝ) (W : S4x128x128.Idx → EReal) (s : Fin 4096) (k : Fin 512) :
    val_main_v106 (F := Ideal) (fun i => (a i : EReal)) W (ix2 s k)
      = ∑ q : Fin 128, pooled (fun i => (a i : EReal)) (grp k).val (s.val + 16) q.val * W (ix3 (grp k) q (lane k)) := by
  unfold val_main_v106 val_main_v105 val_main_v104
  generalize h' : val_main_v103 (F := Ideal) (fun i => (a i : EReal)) = z
  pointwise
  refine Finset.sum_congr rfl fun q _ => ?_
  rw [← h']
  exact (mul_comm _ _).trans (congrArg (fun v : EReal => v * _) (pooled_apply a s (grp k) q))

/-- The gradient of the pooling's scale, at real rows. -/
theorem dps_ref (a : S4096x2048.Idx → ℝ) (D : S4096x1024.Idx → EReal) (W : S4x128x128.Idx → EReal) :
    val_main_v120 (F := Ideal) (fun i => (a i : EReal)) D W = dpsOf (fun i => (a i : EReal)) D W := by
  funext j
  idx_vars j
  obtain rfl : j0 = 0 := Subsingleton.elim _ _
  unfold val_main_v120 val_main_v119 val_main_v116 val_main_v115 val_main_v114 val_main_v113 val_main_cst_16 val_main_cst_17 dpsOf psTerm
  generalize h : val_main_v106 (F := Ideal) (fun i => (a i : EReal)) W = z
  pointwise
  simp only [Finset.univ_unique, Finset.sum_singleton, zero_add]
  refine Finset.sum_congr rfl fun s _ => ?_
  rw [← h]
  refine (mul_comm _ _).trans (congrArg₂ (fun x y : EReal => x * y) ?_ (mixed_apply a W s j1))
  refine (Q_in D _ s ⟨512 + j1.val, by omega⟩ rfl).symm.trans (congrArg (Q D _) ?_)
  show 512 + j1.val = 512 + 128 * (j1.val / 128) + j1.val % 128
  omega

end Cert.MixerGradIdeal.RefValue
-- ==== Proof.MixerRefPool.lean ====
/-
  The reference `MixerGrad` over the extended reals, read at an index: the gradient of the pooled columns.
-/
module

public import proofs.«01_k».proof.Proof.MixerRefBwd

@[expose] public section

set_option maxRecDepth 16384

noncomputable section

namespace Cert.MixerGradIdeal.RefValue

open Cert.MixerGradIdeal Cert.MixerGradIdeal.Gen Idealize.ShloMosaic Idealize.ShloMosaic.TcCoe Idealize.SL.Sem
open Cert.MixerGradIdeal.Read
open Cert.MixerBwdIdeal.RowValue (P Q P_in P_out Q_in Q_out cnt pooled sc scaled dpool dpin)

/-- A window's length as a real number. -/
def len (k n : ℕ) : ℝ := ((max 1 (min ((n : ℤ) - 15) k) : ℤ) : ℝ)

theorem len_pos (k n : ℕ) : len k n ≠ 0 := by
  unfold len
  have : (0 : ℤ) < max 1 (min ((n : ℤ) - 15) k) := lt_of_lt_of_le one_pos (le_max_left _ _)
  exact_mod_cast this.ne'

section RealArgs
variable (D : S4096x1024.Idx → ℝ) (S : S1x512.Idx → ℝ) (W : S4x128x128.Idx → ℝ)

/-- At real arguments a product is a real number. -/
theorem mul_real {x y : EReal} (hx : ∃ a : ℝ, x = a) (hy : ∃ b : ℝ, y = b) : ∃ r : ℝ, x * y = r := by
  obtain ⟨a, rfl⟩ := hx
  obtain ⟨b, rfl⟩ := hy
  exact ⟨a * b, (EReal.coe_mul a b).symm⟩

/-- The gradient of the pooled rows is a real number. -/
theorem dpool_real (g : Fin 4) (n : ℕ) (q : Fin 128) : ∃ r : ℝ,
    dpool (fun i => (D i : EReal)) (fun i => (S i : EReal)) (fun i => (W i : EReal)) g n q = r := by
  have h : ∀ d : Fin 128, ∃ r : ℝ, scaled (fun i => (D i : EReal)) (fun i => (S i : EReal)) g.val n d.val * (W (ix3 g q d) : EReal) = r :=
    fun d => by
      refine mul_real (mul_real ?_ ?_) ⟨_, rfl⟩
      · unfold Q; split
        · exact ⟨_, rfl⟩
        · exact ⟨0, rfl⟩
      · unfold sc; split
        · exact ⟨_, rfl⟩
        · exact ⟨0, rfl⟩
  unfold dpool
  rw [Finset.sum_congr rfl fun d _ => (h d).choose_spec, Reals.coe_sum]
  exact ⟨_, rfl⟩

/-- The gradient of the pooled rows over the window's length, as a real number. -/
def ratio (g : Fin 4) (q : Fin 128) (n : ℕ) : ℝ := (dpool_real D S W g n q).choose * (1 / len (2 ^ (g.val + 1)) n)

theorem ratio_coe (g : Fin 4) (q : Fin 128) (n : ℕ) :
    Ideal.div (dpool (fun i => (D i : EReal)) (fun i => (S i : EReal)) (fun i => (W i : EReal)) g n q) (cnt (2 ^ (g.val + 1)) n)
      = (ratio D S W g q n : EReal) := by
  refine (Ideal.div_coe (len_pos _ n) _).trans ?_
  rw [(dpool_real D S W g n q).choose_spec, ← EReal.coe_mul]
  rfl

theorem ratio_high (g : Fin 4) (q : Fin 128) (n : ℕ) (h : 4112 ≤ n) : ratio D S W g q n = 0 := by
  have e := (dpool_real D S W g n q).choose_spec
  have z : dpool (fun i => (D i : EReal)) (fun i => (S i : EReal)) (fun i => (W i : EReal)) g n q = 0 := by
    unfold dpool scaled
    refine Finset.sum_eq_zero fun d _ => ?_
    rw [Q_out _ _ _ (Or.inr h), zero_mul, zero_mul]
  unfold ratio
  rw [EReal.coe_eq_zero.1 (e.symm.trans z), zero_mul]

/-- The upward running sum of a column's differences `k` rows apart is a window of `k` rows. -/
theorem window_grad (f : ℕ → ℝ) (hf : ∀ n, 4112 ≤ n → f n = 0) (k : ℕ) (q : Fin 128) (x y : S4096x128.Idx → EReal)
    (hy : ∀ s : Fin 4096, y (ix2 s q) = (f (s.val + 16) : EReal))
    (hx : ∀ s : Fin 4096, x (ix2 s q) = y (ix2 s q) + if h : k + s.val < 4096 then -y (ix2 ⟨k + s.val, h⟩ q) else 0)
    (init : S_.Idx → EReal) (h : S4096x128.ReduceWindows ![4096, 1] ![1, 1] ![0, 0] ![4095, 0] S4096x128) (hu : 0 < S_.numel)
    (hi : init (Shape.Idx.first hu) = 0) (s : Fin 4096) :
    Host.reduceWindowAdd (F := Ideal) (φ := .f32) ![4096, 1] ![1, 1] ![0, 0] ![4095, 0] x init h hu (ix2 s q)
      = ∑ j ∈ Finset.range k, (f (s.val + 16 + j) : EReal) := by
  rw [Reals.coe_sum, ← RunningSum.window_up (N := 4096) f hf k (s.val + 16) (by omega)]
  refine RunningSum.up_real (N := 4096) (M := 4095) (C := 128) rfl x init h hu hi q (fun n => f n - f (n + k)) (fun s => ?_) s
  rw [hx, hy, EReal.coe_sub, sub_eq_add_neg]
  by_cases hk : k + s.val < 4096
  · rw [dif_pos hk, hy]
    exact congrArg (fun n : ℕ => (f (s.val + 16) : EReal) + -(f n : EReal)) (by show k + s.val + 16 = s.val + 16 + k; omega)
  · rw [dif_neg hk, hf (s.val + 16 + k) (by omega)]
    simp

theorem dpin0 (s : Fin 4096) (q : Fin 128) :
    val_main_v179 (F := Ideal) (fun i => (D i : EReal)) (fun i => (W i : EReal)) (fun i => (S i : EReal)) (ix3 s 0 q)
      = dpin (fun i => (D i : EReal)) (fun i => (S i : EReal)) (fun i => (W i : EReal)) 0 (s.val + 16) q := by
  have e : ∀ s : Fin 4096, val_main_v170 (F := Ideal) (fun i => (D i : EReal)) (fun i => (W i : EReal)) (fun i => (S i : EReal)) (ix2 s q)
      = (ratio D S W 0 q (s.val + 16) : EReal) := fun s => by
    refine Eq.trans ?_ (ratio_coe D S W 0 q (s.val + 16))
    refine Eq.trans ?_ (congrArg₂ Ideal.div (dpool_apply _ _ _ s 0 q) (len2 s))
    unfold val_main_v170 val_main_v169 val_main_v129 val_main_v128
    generalize val_main_v43 (F := Ideal) = z
    generalize val_main_v124 (F := Ideal) _ _ _ = y
    pointwise
  refine Eq.trans (b := val_main_v176 (F := Ideal) (fun i => (D i : EReal)) (fun i => (W i : EReal)) (fun i => (S i : EReal)) (ix2 s q)
    - dpool (fun i => (D i : EReal)) (fun i => (S i : EReal)) (fun i => (W i : EReal)) 0 (s.val + 16) q) ?_ ?_
  · rw [← dpool_apply _ _ _ s 0 q]
    unfold val_main_v179 val_main_v178 val_main_v168 val_main_v167 val_main_v157 val_main_v156 val_main_v146 val_main_v145
      val_main_v127 val_main_v177 val_main_cst_19 val_main_cst_21 val_main_cst_23 val_main_cst_25
    generalize val_main_v176 (F := Ideal) _ _ _ = y
    generalize val_main_v144 (F := Ideal) _ _ _ = y1
    generalize val_main_v155 (F := Ideal) _ _ _ = y2
    generalize val_main_v166 (F := Ideal) _ _ _ = y3
    generalize val_main_v124 (F := Ideal) _ _ _ = x
    pointwise
    exact (add_comm _ _).trans (sub_eq_add_neg _ _).symm
  · unfold dpin
    refine congrArg₂ (fun u v : EReal => u - v) ?_ rfl
    refine (window_grad (ratio D S W 0 q) (ratio_high D S W 0 q) 2 q _ _ e (fun s => ?_) _ _ _ Ideal.ofBits_zero_f32 s).trans
      (Finset.sum_congr rfl fun j _ => (ratio_coe D S W 0 q (s.val + 16 + j)).symm)
    unfold val_main_v175 val_main_v174 val_main_v172 val_main_v171 val_main_cst_24
    generalize val_main_v170 (F := Ideal) _ _ _ = y
    pointwise

theorem dpin1 (s : Fin 4096) (q : Fin 128) :
    val_main_v179 (F := Ideal) (fun i => (D i : EReal)) (fun i => (W i : EReal)) (fun i => (S i : EReal)) (ix3 s 1 q)
      = dpin (fun i => (D i : EReal)) (fun i => (S i : EReal)) (fun i => (W i : EReal)) 1 (s.val + 16) q := by
  have e : ∀ s : Fin 4096, val_main_v159 (F := Ideal) (fun i => (D i : EReal)) (fun i => (W i : EReal)) (fun i => (S i : EReal)) (ix2 s q)
      = (ratio D S W 1 q (s.val + 16) : EReal) := fun s => by
    refine Eq.trans ?_ (ratio_coe D S W 1 q (s.val + 16))
    refine Eq.trans ?_ (congrArg₂ Ideal.div (dpool_apply _ _ _ s 1 q) (len4 s))
    unfold val_main_v159 val_main_v158 val_main_v131 val_main_v130
    generalize val_main_v60 (F := Ideal) = z
    generalize val_main_v124 (F := Ideal) _ _ _ = y
    pointwise
  refine Eq.trans (b := val_main_v165 (F := Ideal) (fun i => (D i : EReal)) (fun i => (W i : EReal)) (fun i => (S i : EReal)) (ix2 s q)
    - dpool (fun i => (D i : EReal)) (fun i => (S i : EReal)) (fun i => (W i : EReal)) 1 (s.val + 16) q) ?_ ?_
  · rw [← dpool_apply _ _ _ s 1 q]
    unfold val_main_v179 val_main_v178 val_main_v168 val_main_v167 val_main_v157 val_main_v156 val_main_v146 val_main_v145
      val_main_v127 val_main_v166 val_main_cst_19 val_main_cst_21 val_main_cst_23 val_main_cst_25
    generalize val_main_v165 (F := Ideal) _ _ _ = y
    generalize val_main_v144 (F := Ideal) _ _ _ = y1
    generalize val_main_v155 (F := Ideal) _ _ _ = y2
    generalize val_main_v177 (F := Ideal) _ _ _ = y3
    generalize val_main_v124 (F := Ideal) _ _ _ = x
    pointwise
    exact (add_comm _ _).trans (sub_eq_add_neg _ _).symm
  · unfold dpin
    refine congrArg₂ (fun u v : EReal => u - v) ?_ rfl
    refine (window_grad (ratio D S W 1 q) (ratio_high D S W 1 q) 4 q _ _ e (fun s => ?_) _ _ _ Ideal.ofBits_zero_f32 s).trans
      (Finset.sum_congr rfl fun j _ => (ratio_coe D S W 1 q (s.val + 16 + j)).symm)
    unfold val_main_v164 val_main_v163 val_main_v161 val_main_v160 val_main_cst_22
    generalize val_main_v159 (F := Ideal) _ _ _ = y
    pointwise

theorem dpin2 (s : Fin 4096) (q : Fin 128) :
    val_main_v179 (F := Ideal) (fun i => (D i : EReal)) (fun i => (W i : EReal)) (fun i => (S i : EReal)) (ix3 s 2 q)
      = dpin (fun i => (D i : EReal)) (fun i => (S i : EReal)) (fun i => (W i : EReal)) 2 (s.val + 16) q := by
  have e : ∀ s : Fin 4096, val_main_v148 (F := Ideal) (fun i => (D i : EReal)) (fun i => (W i : EReal)) (fun i => (S i : EReal)) (ix2 s q)
      = (ratio D S W 2 q (s.val + 16) : EReal) := fun s => by
    refine Eq.trans ?_ (ratio_coe D S W 2 q (s.val + 16))
    refine Eq.trans ?_ (congrArg₂ Ideal.div (dpool_apply _ _ _ s 2 q) (len8 s))
    unfold val_main_v148 val_main_v147 val_main_v133 val_main_v132
    generalize val_main_v77 (F := Ideal) = z
    generalize val_main_v124 (F := Ideal) _ _ _ = y
    pointwise
  refine Eq.trans (b := val_main_v154 (F := Ideal) (fun i => (D i : EReal)) (fun i => (W i : EReal)) (fun i => (S i : EReal)) (ix2 s q)
    - dpool (fun i => (D i : EReal)) (fun i => (S i : EReal)) (fun i => (W i : EReal)) 2 (s.val + 16) q) ?_ ?_
  · rw [← dpool_apply _ _ _ s 2 q]
    unfold val_main_v179 val_main_v178 val_main_v168 val_main_v167 val_main_v157 val_main_v156 val_main_v146 val_main_v145
      val_main_v127 val_main_v155 val_main_cst_19 val_main_cst_21 val_main_cst_23 val_main_cst_25
    generalize val_main_v154 (F := Ideal) _ _ _ = y
    generalize val_main_v144 (F := Ideal) _ _ _ = y1
    generalize val_main_v166 (F := Ideal) _ _ _ = y2
    generalize val_main_v177 (F := Ideal) _ _ _ = y3
    generalize val_main_v124 (F := Ideal) _ _ _ = x
    pointwise
    exact (add_comm _ _).trans (sub_eq_add_neg _ _).symm
  · unfold dpin
    refine congrArg₂ (fun u v : EReal => u - v) ?_ rfl
    refine (window_grad (ratio D S W 2 q) (ratio_high D S W 2 q) 8 q _ _ e (fun s => ?_) _ _ _ Ideal.ofBits_zero_f32 s).trans
      (Finset.sum_congr rfl fun j _ => (ratio_coe D S W 2 q (s.val + 16 + j)).symm)
    unfold val_main_v153 val_main_v152 val_main_v150 val_main_v149 val_main_cst_20
    generalize val_main_v148 (F := Ideal) _ _ _ = y
    pointwise

theorem dpin3 (s : Fin 4096) (q : Fin 128) :
    val_main_v179 (F := Ideal) (fun i => (D i : EReal)) (fun i => (W i : EReal)) (fun i => (S i : EReal)) (ix3 s 3 q)
      = dpin (fun i => (D i : EReal)) (fun i => (S i : EReal)) (fun i => (W i : EReal)) 3 (s.val + 16) q := by
  have e : ∀ s : Fin 4096, val_main_v137 (F := Ideal) (fun i => (D i : EReal)) (fun i => (W i : EReal)) (fun i => (S i : EReal)) (ix2 s q)
      = (ratio D S W 3 q (s.val + 16) : EReal) := fun s => by
    refine Eq.trans ?_ (ratio_coe D S W 3 q (s.val + 16))
    refine Eq.trans ?_ (congrArg₂ Ideal.div (dpool_apply _ _ _ s 3 q) (len16 s))
    unfold val_main_v137 val_main_v136 val_main_v135 val_main_v134
    generalize val_main_v94 (F := Ideal) = z
    generalize val_main_v124 (F := Ideal) _ _ _ = y
    pointwise
  refine Eq.trans (b := val_main_v143 (F := Ideal) (fun i => (D i : EReal)) (fun i => (W i : EReal)) (fun i => (S i : EReal)) (ix2 s q)
    - dpool (fun i => (D i : EReal)) (fun i => (S i : EReal)) (fun i => (W i : EReal)) 3 (s.val + 16) q) ?_ ?_
  · rw [← dpool_apply _ _ _ s 3 q]
    unfold val_main_v179 val_main_v178 val_main_v168 val_main_v167 val_main_v157 val_main_v156 val_main_v146 val_main_v145
      val_main_v127 val_main_v144 val_main_cst_19 val_main_cst_21 val_main_cst_23 val_main_cst_25
    generalize val_main_v143 (F := Ideal) _ _ _ = y
    generalize val_main_v155 (F := Ideal) _ _ _ = y1
    generalize val_main_v166 (F := Ideal) _ _ _ = y2
    generalize val_main_v177 (F := Ideal) _ _ _ = y3
    generalize val_main_v124 (F := Ideal) _ _ _ = x
    pointwise
    exact (add_comm _ _).trans (sub_eq_add_neg _ _).symm
  · unfold dpin
    refine congrArg₂ (fun u v : EReal => u - v) ?_ rfl
    refine (window_grad (ratio D S W 3 q) (ratio_high D S W 3 q) 16 q _ _ e (fun s => ?_) _ _ _ Ideal.ofBits_zero_f32 s).trans
      (Finset.sum_congr rfl fun j _ => (ratio_coe D S W 3 q (s.val + 16 + j)).symm)
    unfold val_main_v142 val_main_v141 val_main_v139 val_main_v138 val_main_cst_18
    generalize val_main_v137 (F := Ideal) _ _ _ = y
    pointwise

/-- The gradient of the pooled columns is the kernel's, at real arguments. -/
theorem dpin_apply (s : Fin 4096) (g : Fin 4) (q : Fin 128) :
    val_main_v179 (F := Ideal) (fun i => (D i : EReal)) (fun i => (W i : EReal)) (fun i => (S i : EReal)) (ix3 s g q)
      = dpin (fun i => (D i : EReal)) (fun i => (S i : EReal)) (fun i => (W i : EReal)) g (s.val + 16) q :=
  match g with
  | 0 => dpin0 D S W s q
  | 1 => dpin1 D S W s q
  | 2 => dpin2 D S W s q
  | 3 => dpin3 D S W s q

end RealArgs

end Cert.MixerGradIdeal.RefValue
-- ==== Proof.MixerRefConv.lean ====
/-
  The reference `MixerGrad` over the extended reals, read at an index: the gated convolution's gradients and the
  gradient of the projected rows.
-/
module

public import proofs.«01_k».proof.Proof.MixerRefPool

@[expose] public section

set_option maxRecDepth 16384

noncomputable section

namespace Cert.MixerGradIdeal.RefValue

open Cert.MixerGradIdeal Cert.MixerGradIdeal.Gen Idealize.ShloMosaic Idealize.ShloMosaic.TcCoe Idealize.SL.Sem
open Cert.MixerGradIdeal.Read
open Cert.MixerBwdIdeal.RowValue (P Q P_in P_out Q_in Q_out zz cz dcz dz cwTerm dcwOf dproj dprojOf dproj_pool dpin)

theorem z_apply (A : S4096x2048.Idx → EReal) (s : Fin 4096) (k : Fin 512) (n : ℕ) (hn : n = s.val + 16) :
    val_main_v4 (F := Ideal) A (ix2 s k) = zz A n k.val := by
  subst hn
  unfold zz
  rw [P_in A _ s ⟨k.val, by omega⟩ rfl, P_in A _ s ⟨1024 + k.val, by omega⟩ rfl]
  unfold val_main_v4 val_main_v2 val_main_v0
  pointwise

theorem zz_low (A : S4096x2048.Idx → EReal) (n k : ℕ) (h : n < 16) : zz A n k = 0 := by
  unfold zz
  rw [P_out A n _ (Or.inl h), zero_mul]

/-- The convolution's input moved down by two, one and no rows. -/
theorem z2_apply (A : S4096x2048.Idx → EReal) (s : Fin 4096) (k : Fin 512) :
    val_main_v8 (F := Ideal) A (ix2 s k) = zz A (s.val + 16 - 2) k.val := by
  refine Eq.trans (b := if h : s.val < 2 then 0 else val_main_v4 (F := Ideal) A (ix2 ⟨s.val - 2, by omega⟩ k)) ?_ ?_
  · unfold val_main_v8 val_main_v6 val_main_v5 val_main_cst
    generalize val_main_v4 (F := Ideal) A = y
    pointwise
  · by_cases h : s.val < 2
    · rw [dif_pos h, zz_low A _ _ (by omega)]
    · rw [dif_neg h]
      exact z_apply A _ k _ (by show _ = s.val - 2 + 16; omega)

theorem z1_apply (A : S4096x2048.Idx → EReal) (s : Fin 4096) (k : Fin 512) :
    val_main_v14 (F := Ideal) A (ix2 s k) = zz A (s.val + 16 - 1) k.val := by
  refine Eq.trans (b := if h : 1 + s.val < 2 then 0 else val_main_v4 (F := Ideal) A (ix2 ⟨1 + s.val - 2, by omega⟩ k)) ?_ ?_
  · unfold val_main_v14 val_main_v6 val_main_v5 val_main_cst
    generalize val_main_v4 (F := Ideal) A = y
    pointwise
  · by_cases h : 1 + s.val < 2
    · rw [dif_pos h, zz_low A _ _ (by omega)]
    · rw [dif_neg h]
      exact z_apply A _ k _ (by show _ = 1 + s.val - 2 + 16; omega)

theorem z0_apply (A : S4096x2048.Idx → EReal) (s : Fin 4096) (k : Fin 512) :
    val_main_v21 (F := Ideal) A (ix2 s k) = zz A (s.val + 16 - 0) k.val := by
  refine Eq.trans ?_ (z_apply A s k _ rfl)
  unfold val_main_v21 val_main_v6 val_main_v5 val_main_cst
  generalize val_main_v4 (F := Ideal) A = y
  pointwise

/-- The convolution's result. -/
theorem cz_apply (A : S4096x2048.Idx → EReal) (V : S3x512.Idx → EReal) (s : Fin 4096) (k : Fin 512) :
    val_main_v27 (F := Ideal) A V (ix2 s k) = cz A V (s.val + 16) k := by
  have e2 := z2_apply A s k
  have e1 := z1_apply A s k
  have e0 := z0_apply A s k
  unfold val_main_v27 val_main_v26 val_main_v25 val_main_v24 val_main_v23 val_main_v22 val_main_v20 val_main_v19 val_main_v18 val_main_v17
    val_main_v16 val_main_v15 val_main_v13 val_main_v12 val_main_v11 val_main_v10 val_main_v9 cz
  generalize val_main_v8 (F := Ideal) A = y2 at *
  generalize val_main_v14 (F := Ideal) A = y1 at *
  generalize val_main_v21 (F := Ideal) A = y0 at *
  pointwise
  rw [e2, e1, e0]
  rfl

/-- The cotangent of the convolution's result. -/
theorem cot_apply (A : S4096x2048.Idx → EReal) (D : S4096x1024.Idx → EReal) (s : Fin 4096) (k : Fin 512) (n : ℕ) (hn : n = s.val + 16) :
    val_main_v181 (F := Ideal) A D (ix2 s k) = dcz A D n k.val := by
  subst hn
  unfold dcz
  rw [P_in A _ s ⟨512 + k.val, by omega⟩ rfl, Q_in D _ s ⟨k.val, by omega⟩ rfl]
  unfold val_main_v181 val_main_v1 val_main_v112
  pointwise
  exact mul_comm _ _

theorem dcz_high (A : S4096x2048.Idx → EReal) (D : S4096x1024.Idx → EReal) (n k : ℕ) (h : 4112 ≤ n) : dcz A D n k = 0 := by
  unfold dcz
  rw [Q_out D n _ (Or.inr h), zero_mul]

/-- The gradient of the convolution's input. -/
theorem dz_apply (A : S4096x2048.Idx → EReal) (D : S4096x1024.Idx → EReal) (V : S3x512.Idx → EReal) (s : Fin 4096) (k : Fin 512) :
    val_main_v215 (F := Ideal) A D V (ix2 s k) = dz A D V (s.val + 16) k := by
  unfold val_main_v215 val_main_v213 val_main_v212 val_main_v207 val_main_v202 val_main_v201 val_main_v196 val_main_v191 val_main_v187
    val_main_v186 val_main_v195 val_main_v206 val_main_v24 val_main_v17 val_main_v11 val_main_v23 val_main_v16 val_main_v10 val_main_v22
    val_main_v15 val_main_v9 val_main_cst_29 val_main_cst_33 val_main_cst_37
  have e := cot_apply A D
  generalize val_main_v181 (F := Ideal) A D = y at *
  pointwise
  unfold dz
  refine congrArg₂ (fun u v : EReal => u + v) (congrArg₂ (fun u v : EReal => u + v) ?_ ?_) ?_
  · rw [e s k _ rfl]
  · by_cases h : 1 ≤ 2 + s.val ∧ 2 + s.val - 1 < 4096
    · rw [dif_pos h, e _ k (s.val + 16 + 1) (by show _ = 2 + s.val - 1 + 16; omega)]
    · rw [dif_neg h, dcz_high A D _ _ (by omega), zero_mul]
  · by_cases h : 2 + s.val < 4096
    · rw [dif_pos h, e _ k (s.val + 16 + 2) (by show _ = 2 + s.val + 16; omega)]
    · rw [dif_neg h, dcz_high A D _ _ (by omega), zero_mul]

/-- The gradient of the convolution's taps, at all arguments. -/
theorem dcw_ref (A : S4096x2048.Idx → EReal) (D : S4096x1024.Idx → EReal) : val_main_v211 (F := Ideal) A D = dcwOf A D := by
  funext j
  idx_vars j
  have e := cot_apply A D
  have e2 := z2_apply A
  have e1 := z1_apply A
  have e0 := z0_apply A
  unfold val_main_v211 val_main_v210 val_main_v209 val_main_v208 val_main_v205 val_main_v204 val_main_v203 val_main_v200 val_main_v199
    val_main_v198 val_main_v197 val_main_v194 val_main_v193 val_main_v192 val_main_v190 val_main_v189 val_main_v188 val_main_v185
    val_main_v184 val_main_v183 val_main_cst_26 val_main_cst_27 val_main_cst_28 val_main_cst_30 val_main_cst_31 val_main_cst_32
    val_main_cst_34 val_main_cst_35 val_main_cst_36 dcwOf cwTerm
  generalize val_main_v181 (F := Ideal) A D = y at *
  generalize val_main_v8 (F := Ideal) A = y2 at *
  generalize val_main_v14 (F := Ideal) A = y1 at *
  generalize val_main_v21 (F := Ideal) A = y0 at *
  match j0 with
  | 0 =>
    pointwise
    simp only [Finset.univ_unique, Finset.sum_singleton, zero_add, add_zero]
    exact Finset.sum_congr rfl fun s _ => by rw [e2, e s j1 _ rfl]; exact mul_comm _ _
  | 1 =>
    pointwise
    simp only [Finset.univ_unique, Finset.sum_singleton, zero_add, add_zero]
    exact Finset.sum_congr rfl fun s _ => by rw [e1, e s j1 _ rfl]; exact mul_comm _ _
  | 2 =>
    pointwise
    simp only [Finset.univ_unique, Finset.sum_singleton, zero_add, add_zero]
    exact Finset.sum_congr rfl fun s _ => by rw [e0, e s j1 _ rfl]; exact mul_comm _ _

/-- The gradient of the projected rows, at real arguments. -/
theorem dproj_ref (a : S4096x2048.Idx → EReal) (D : S4096x1024.Idx → ℝ) (V : S3x512.Idx → EReal) (W : S4x128x128.Idx → ℝ)
    (S : S1x512.Idx → ℝ) :
    val_main_v219 (F := Ideal) a (fun i => (D i : EReal)) V (fun i => (W i : EReal)) (fun i => (S i : EReal))
      = dprojOf a (fun i => (D i : EReal)) V (fun i => (W i : EReal)) (fun i => (S i : EReal)) := by
  funext j
  idx_vars j
  have ez := dz_apply a (fun i => (D i : EReal)) V
  have ec := cz_apply a V
  have ep := dpin_apply D S W
  unfold val_main_v219 val_main_v218 val_main_v217 val_main_v216 val_main_v182 val_main_v180 val_main_v112 val_main_v2 val_main_v0
  generalize val_main_v215 (F := Ideal) a (fun i => (D i : EReal)) V = y at *
  generalize val_main_v27 (F := Ideal) a V = y1 at *
  generalize val_main_v179 (F := Ideal) _ _ _ = y2 at *
  pointwise
  unfold dprojOf dproj
  show _ = (if h : j1.val < 512 then dz a (fun i => (D i : EReal)) V (j0.val + 16) ⟨j1.val, h⟩ * P a (j0.val + 16) (1024 + j1.val)
    else if h : j1.val < 1024 then Q (fun i => (D i : EReal)) (j0.val + 16) (j1.val - 512) * cz a V (j0.val + 16) ⟨j1.val - 512, by omega⟩
    else if h : j1.val < 1536 then dz a (fun i => (D i : EReal)) V (j0.val + 16) ⟨j1.val - 1024, by omega⟩ * P a (j0.val + 16) (j1.val - 1024)
    else dpin (fun i => (D i : EReal)) (fun i => (S i : EReal)) (fun i => (W i : EReal)) ⟨(j1.val - 1536) / 128, by omega⟩
      (j0.val + 16) ⟨(j1.val - 1536) % 128, by omega⟩)
  by_cases h0 : j1.val < 512
  · rw [dif_pos h0, dif_pos h0, ez, mul_comm]
    exact congrArg (fun v : EReal => _ * v) (P_in a _ j0 ⟨1024 + j1.val, by omega⟩ rfl).symm
  · rw [dif_neg h0, dif_neg h0]
    by_cases h1 : j1.val < 1024
    · rw [dif_pos (show j1.val - 512 < 512 by omega), dif_pos h1, ec]
      exact congrArg (fun v : EReal => v * _) (Q_in (fun i => (D i : EReal)) _ j0 ⟨j1.val - 512, by omega⟩ rfl).symm
    · rw [dif_neg (show ¬ j1.val - 512 < 512 by omega), dif_neg h1]
      by_cases h2 : j1.val < 1536
      · rw [dif_pos (show j1.val - 512 - 512 < 512 by omega), dif_pos h2, ez]
        have e : j1.val - 512 - 512 = j1.val - 1024 := by omega
        refine congrArg₂ (fun u v : EReal => u * v) (congrArg (dz a (fun i => (D i : EReal)) V _) (Fin.ext e)) ?_
        rw [← e]
        exact (P_in a _ j0 ⟨j1.val - 512 - 512, by omega⟩ rfl).symm
      · rw [dif_neg (show ¬ j1.val - 512 - 512 < 512 by omega), dif_neg h2, ep]
        have e : j1.val - 512 - 512 - 512 = j1.val - 1536 := by omega
        exact congrArg₂ (fun (g : Fin 4) (q : Fin 128) => dpin (fun i => (D i : EReal)) (fun i => (S i : EReal))
          (fun i => (W i : EReal)) g (j0.val + 16) q) (Fin.ext (congrArg (· / 128) e)) (Fin.ext (congrArg (· % 128) e))

end Cert.MixerGradIdeal.RefValue
-- ==== Proof.MixerClaim.lean ====
/-
  The claims about the gated convolution's and the pooling's gradients: `MixerBwd` against `MixerGrad`.
-/
module

public import proofs.«01_k».proof.Defs
public import proofs.«01_k».proof.Proof.MixerRefConv

@[expose] public section

set_option maxRecDepth 16384

noncomputable section

namespace Cert.MixerClaim

open Idealize.ShloMosaic Idealize.ShloMosaic.TcCoe Idealize.SL.Sem
open Cert.MixerBwdIdeal.RowValue (dprojOf dcwOf dpwOf dpsOf dproj_final dcw_final dpw_final dps_final)
open Cert.MixerGradIdeal.RefValue (dproj_ref dcw_ref dpw_ref dps_ref)

/-- The precondition's operations take these facts. -/
instance finite_facts : Cert.Pre_finite_mixer.Facts := by
  constructor <;> decide

/-- The precondition says that four of the arguments are arrays of real numbers. -/
theorem reals {a : Pre_finite_mixer.S4096x2048.Idx → EReal} {d : Pre_finite_mixer.S4096x1024.Idx → EReal}
    {v : Pre_finite_mixer.S3x512.Idx → EReal} {w : Pre_finite_mixer.S4x128x128.Idx → EReal}
    {s : Pre_finite_mixer.S1x512.Idx → EReal} [Pre_finite_mixer.Facts]
    (h : Pre_finite_mixer.fn (F := Ideal) a d v w s = fun _ => 1#1) :
    (∃ f : Pre_finite_mixer.S4096x2048.Idx → ℝ, a = fun i => (f i : EReal))
    ∧ (∃ f : Pre_finite_mixer.S4096x1024.Idx → ℝ, d = fun i => (f i : EReal))
    ∧ (∃ f : Pre_finite_mixer.S4x128x128.Idx → ℝ, w = fun i => (f i : EReal))
    ∧ (∃ f : Pre_finite_mixer.S1x512.Idx → ℝ, s = fun i => (f i : EReal)) := by
  have e := congrFun h (fun a => a.elim0)
  dsimp only [Pre_finite_mixer.fn, Pre_finite_mixer.fn_part1] at e
  obtain ⟨e, h3⟩ := IntOp.andi_eq_one.1 e
  obtain ⟨e, h2⟩ := IntOp.andi_eq_one.1 e
  obtain ⟨h0, h1⟩ := IntOp.andi_eq_one.1 e
  exact ⟨Reals.reals_of_all a _ _ _ _ _ (fun _ => rfl) h0, Reals.reals_of_all d _ _ _ _ _ (fun _ => rfl) h1,
    Reals.reals_of_all w _ _ _ _ _ (fun _ => rfl) h2, Reals.reals_of_all s _ _ _ _ _ (fun _ => rfl) h3⟩

/-- Both programs compute the same four gradients over the extended reals. -/
theorem algebraic : algebraic_MixerBwdIdeal_MixerGradIdeal_pre_finite_mixer (hMixerBwdIdeal := Cert.MixerBwdIdeal.Gen.facts)
    (hMixerGradIdeal := Cert.MixerGradIdeal.Gen.facts) (hPre_finite_mixer := finite_facts) := fun m ρ m' ρ' hpre hag =>
  ⟨fun c => dprojOf (m ((c.tc : Thread _ _).loc MixerBwdIdeal.main_arg0)) (m ((c.tc : Thread _ _).loc MixerBwdIdeal.main_arg1))
      (m ((c.tc : Thread _ _).loc MixerBwdIdeal.main_arg2)) (m ((c.tc : Thread _ _).loc MixerBwdIdeal.main_arg3))
      (m ((c.tc : Thread _ _).loc MixerBwdIdeal.main_arg4)),
    fun c => dcwOf (m ((c.tc : Thread _ _).loc MixerBwdIdeal.main_arg0)) (m ((c.tc : Thread _ _).loc MixerBwdIdeal.main_arg1)),
    fun c => dpwOf (m ((c.tc : Thread _ _).loc MixerBwdIdeal.main_arg0)) (m ((c.tc : Thread _ _).loc MixerBwdIdeal.main_arg1))
      (m ((c.tc : Thread _ _).loc MixerBwdIdeal.main_arg4)),
    fun c => dpsOf (m ((c.tc : Thread _ _).loc MixerBwdIdeal.main_arg0)) (m ((c.tc : Thread _ _).loc MixerBwdIdeal.main_arg1))
      (m ((c.tc : Thread _ _).loc MixerBwdIdeal.main_arg3)),
    (θ_run _ _ _).mono (fun _ h c => ⟨(h c).1.trans (dproj_final m c), (h c).2.1.trans (dcw_final m c),
      (h c).2.2.1.trans (dpw_final m c), (h c).2.2.2.1.trans (dps_final m c), (h c).2.2.2.2⟩) (MixerBwdIdeal.Value.run_blocks m ρ),
    (θ_run _ _ _).mono (fun _ h c => by
      obtain ⟨⟨a, ha⟩, ⟨d, hd⟩, ⟨w, hw⟩, ⟨s, hs⟩⟩ := reals (hpre c)
      obtain ⟨e0, e1, e2, e3, e4⟩ := hag c
      refine ⟨(h c).1.trans ?_, (h c).2.1.trans ?_, (h c).2.2.1.trans ?_, (h c).2.2.2.1.trans ?_, (h c).2.2.2.2⟩
      · refine (MixerGradIdeal.Read.val_main_v219_eq _).trans ?_
        refine Eq.trans ?_ ((dproj_ref (m ((c.tc : Thread _ _).loc MixerBwdIdeal.main_arg0)) d
          (m ((c.tc : Thread _ _).loc MixerBwdIdeal.main_arg2)) w s).trans ?_)
        · rw [← hd, ← hw, ← hs, ← e0, ← e1, ← e2, ← e3, ← e4]
        · rw [← hd, ← hw, ← hs]
      · refine (MixerGradIdeal.Read.val_main_v211_eq _).trans ?_
        refine Eq.trans ?_ (dcw_ref _ _)
        rw [← e0, ← e1]
      · refine (MixerGradIdeal.Read.val_main_v126_eq _).trans ?_
        refine Eq.trans ?_ ((dpw_ref a (m ((c.tc : Thread _ _).loc MixerBwdIdeal.main_arg1))
          (m ((c.tc : Thread _ _).loc MixerBwdIdeal.main_arg4))).trans ?_)
        · rw [← ha, ← e0, ← e1, ← e4]
        · rw [← ha]
      · refine (MixerGradIdeal.Read.val_main_v120_eq _).trans ?_
        refine Eq.trans ?_ ((dps_ref a (m ((c.tc : Thread _ _).loc MixerBwdIdeal.main_arg1))
          (m ((c.tc : Thread _ _).loc MixerBwdIdeal.main_arg3))).trans ?_)
        · rw [← ha, ← e0, ← e1, ← e3]
        · rw [← ha]) (MixerGradIdeal.Value.run m' ρ')⟩

/-- The frame of the reference: its run with the results forgotten. -/
theorem frame_ref : quiescent_MixerGradIdeal (hMixerGradIdeal := Cert.MixerGradIdeal.Gen.facts) := fun m ρ _ =>
  (θ_run _ _ _).mono (fun r h => ⟨fun c => (h c).2.2.2.2, sem_eq_zero_of_no_sems (by decide) r.2⟩)
    (MixerGradIdeal.Value.run m ρ)

end Cert.MixerClaim
-- ==== Proof.GluValue.lean ====
/-
  What the kernel `GluBwd` computes over the extended reals, read at an index: the gated unit's gradient at a row and a
  column, and a block's windows as rows of the arguments.
-/
module

public import proofs.«01_k».proof.Proof.Gen.GluBwdIdeal.Value
public import proofs.«01_k».proof.Proof.Reals
public import Idealize.ShloMosaic.Lib.Pipeline.ReadBack
public import Idealize.ShloMosaic.Lib.KernelVsHost

@[expose] public section

set_option maxRecDepth 16384

noncomputable section

namespace Cert.GluBwdIdeal.RowValue

open Cert.GluBwdIdeal Cert.GluBwdIdeal.Gen Idealize.ShloMosaic Idealize.ShloMosaic.TcCoe Idealize.SL.Sem
open Idealize.ShloMosaic.Pipeline (Dat)

/-- The rows after two rows of zeros. -/
def xpad (X : S4096x5632.Idx → EReal) (n : ℕ) (q : Fin 5632) : EReal :=
  if h : 2 ≤ n ∧ n < 4098 then X (ix2 ⟨n - 2, by omega⟩ q) else 0

theorem xpad_in (X : S4096x5632.Idx → EReal) (n : ℕ) (q : Fin 5632) (u : Fin 4096) (h : n = u.val + 2) :
    xpad X n q = X (ix2 u q) := by
  subst h
  unfold xpad
  rw [dif_pos ⟨by omega, by omega⟩]
  rfl

theorem xpad_out (X : S4096x5632.Idx → EReal) (n : ℕ) (q : Fin 5632) (h : n < 2) : xpad X n q = 0 := by
  unfold xpad
  rw [dif_neg (by omega)]

/-- The convolution's result: three taps ending at a row, and the bias. -/
def uOf (X : S4096x5632.Idx → EReal) (W : S3x5632.Idx → EReal) (B : S1x5632.Idx → EReal) (j : S4096x5632.Idx) : EReal :=
  xpad X (j 0).val (j 1) * W (ix2 0 (j 1)) + xpad X (1 + (j 0).val) (j 1) * W (ix2 1 (j 1))
    + xpad X (2 + (j 0).val) (j 1) * W (ix2 2 (j 1)) + B (ix2 0 (j 1))

/-- The logistic function as the kernel writes it. -/
def sgm (x : EReal) : EReal := Ideal.div 1 (1 + Ideal.exp (0 - x))

/-- The gradients of the two factors of the gated unit, from the cotangent `e`, the gate `g` and the value `v`. -/
def gateV (e g v : EReal) : EReal := e * v * (sgm g * (1 + g * (1 - sgm g)))
def upV (e g : EReal) : EReal := e * (g * sgm g)

theorem gateV_zero (g v : EReal) : gateV 0 g v = 0 := by
  unfold gateV; rw [zero_mul, zero_mul]
theorem upV_zero (g : EReal) : upV 0 g = 0 := by
  unfold upV; rw [zero_mul]

/-- Rows of an array, zero outside it. -/
def G (U : S4096x5632.Idx → EReal) (n q : ℕ) : EReal :=
  if h : n < 4096 ∧ q < 5632 then U (ix2 ⟨n, h.1⟩ ⟨q, h.2⟩) else 0
def E (D : S4096x2816.Idx → EReal) (n q : ℕ) : EReal :=
  if h : n < 4096 ∧ q < 2816 then D (ix2 ⟨n, h.1⟩ ⟨q, h.2⟩) else 0

theorem G_in (U : S4096x5632.Idx → EReal) (n q : ℕ) (u : Fin 4096) (s : Fin 5632) (hn : n = u.val) (hq : q = s.val) :
    G U n q = U (ix2 u s) := by
  subst hn hq
  unfold G
  rw [dif_pos ⟨u.isLt, s.isLt⟩]
theorem E_in (D : S4096x2816.Idx → EReal) (n q : ℕ) (u : Fin 4096) (s : Fin 2816) (hn : n = u.val) (hq : q = s.val) :
    E D n q = D (ix2 u s) := by
  subst hn hq
  unfold E
  rw [dif_pos ⟨u.isLt, s.isLt⟩]
theorem E_out (D : S4096x2816.Idx → EReal) (n q : ℕ) (h : 4096 ≤ n) : E D n q = 0 := by
  unfold E
  rw [dif_neg (by omega)]

/-- The cotangent of the convolution's result at a row and a column. -/
def gateC (U : S4096x5632.Idx → EReal) (D : S4096x2816.Idx → EReal) (n q : ℕ) : EReal :=
  gateV (E D n q) (G U n q) (G U n (2816 + q))
def upC (U : S4096x5632.Idx → EReal) (D : S4096x2816.Idx → EReal) (n q : ℕ) : EReal := upV (E D n q) (G U n q)
def col (U : S4096x5632.Idx → EReal) (D : S4096x2816.Idx → EReal) (n q : ℕ) : EReal :=
  if q < 2816 then gateC U D n q else upC U D n (q - 2816)

theorem col_out (U : S4096x5632.Idx → EReal) (D : S4096x2816.Idx → EReal) (n q : ℕ) (h : 4096 ≤ n) : col U D n q = 0 := by
  unfold col gateC upC
  rw [E_out _ _ _ h, E_out _ _ _ h, gateV_zero, upV_zero, ite_self]

variable (m : (ℓ : Loc nD τ sig) → Buf (Elt Ideal) ℓ)

/-- The arguments as arrays of extended reals, and the convolution's result. -/
abbrev A0 (c : Dev nD) : S4096x5632.Idx → EReal := m ((c : Thread nD τ).loc main_arg0)
abbrev A1 (c : Dev nD) : S3x5632.Idx → EReal := m ((c : Thread nD τ).loc main_arg1)
abbrev A2 (c : Dev nD) : S1x5632.Idx → EReal := m ((c : Thread nD τ).loc main_arg2)
abbrev A3 (c : Dev nD) : S4096x2816.Idx → EReal := m ((c : Thread nD τ).loc main_arg3)
abbrev U (c : Dev nD) : S4096x5632.Idx → EReal := uOf (A0 m c) (A1 m c) (A2 m c)

/-- The index maps as closed forms. -/
theorem idx : ∀ t : Fin grid0.N, win0_0.index t = ![t.val, 0] ∧ win0_1.index t = ![t.val, 0]
    ∧ win0_2.index t = ![t.val, 0] ∧ win0_3.index t = ![min (16 * (t.val + 1)) 255, 0]
    ∧ win0_4.index t = ![t.val, 0] ∧ win0_5.index t = ![min (16 * (t.val + 1)) 255, 0] ∧ win0_6.index t = ![t.val, 0]
    ∧ win0_7.index t = ![min (16 * (t.val + 1)) 255, 0] ∧ win0_8.index t = ![0, 0] ∧ win0_9.index t = ![t.val, 0]
    ∧ win0_10.index t = ![0, 0] ∧ win0_11.index t = ![0, 0] := by decide +kernel

theorem N_16 : cfg0.N = 16 := N_0

theorem lt16 (t : Fin cfg0.N) : t.val < 16 := by
  have := t.isLt
  have := N_16
  omega

theorem coord (t : Fin cfg0.N) : (grid0.coords t 0).val = t.val := by
  have h : ∀ t : Fin grid0.N, (grid0.coords t 0).val = t.val := by decide +kernel
  exact h t

/-- The host's arrays that the region reads. -/
abbrev V26 (c : Dev nD) : S4096x2816.Idx → EReal := V m c main_v26
abbrev V27 (c : Dev nD) : S4096x2816.Idx → EReal := V m c main_v27
abbrev V28 (c : Dev nD) : S4096x2816.Idx → EReal := V m c main_v28
abbrev V29 (c : Dev nD) : S4096x2816.Idx → EReal := V m c main_v29
abbrev V30 (c : Dev nD) : S4096x2816.Idx → EReal := V m c main_v30

theorem V26_apply (c : Dev nD) (r : Fin 4096) (q : Fin 2816) : V26 m c (ix2 r q) = G (A0 m c) r.val q.val := by
  rw [G_in _ _ _ r ⟨q.val, by omega⟩ rfl rfl]
  unfold V26 V
  after_results_simp
  pointwise
theorem V27_apply (c : Dev nD) (r : Fin 4096) (q : Fin 2816) : V27 m c (ix2 r q) = G (A0 m c) r.val (2816 + q.val) := by
  rw [G_in _ _ _ r ⟨2816 + q.val, by omega⟩ rfl rfl]
  unfold V27 V
  after_results_simp
  pointwise
theorem V30_apply (c : Dev nD) (r : Fin 4096) (q : Fin 2816) : V30 m c (ix2 r q) = E (A3 m c) r.val q.val := by
  rw [E_in _ _ _ r q rfl rfl]
  unfold V30 V
  after_results_simp
  pointwise

/-- A row of the padded rows, as the concatenation gives it. -/
theorem xpad_if (X : S4096x5632.Idx → EReal) (n : ℕ) (q : Fin 5632) (hn : n < 4098) :
    xpad X n q = if h : n < 2 then 0 else X (ix2 ⟨n - 2, by omega⟩ q) := by
  by_cases h : n < 2
  · rw [dif_pos h, xpad_out _ _ _ h]
  · rw [dif_neg h, xpad_in _ _ _ ⟨n - 2, by omega⟩ (by simp only; omega)]

theorem uOf_if (X : S4096x5632.Idx → EReal) (W : S3x5632.Idx → EReal) (B : S1x5632.Idx → EReal) (r : Fin 4096) (q : Fin 5632) :
    uOf X W B (ix2 r q) = (if h : r.val < 2 then 0 else X (ix2 ⟨r.val - 2, by omega⟩ q)) * W (ix2 0 q)
      + (if h : 1 + r.val < 2 then 0 else X (ix2 ⟨1 + r.val - 2, by omega⟩ q)) * W (ix2 1 q)
      + X (ix2 r q) * W (ix2 2 q) + B (ix2 0 q) := by
  rw [← xpad_if X r.val q (by omega), ← xpad_if X (1 + r.val) q (by omega), ← xpad_in X (2 + r.val) q r (by omega)]
  rfl

theorem V28_apply (c : Dev nD) (r : Fin 4096) (q : Fin 2816) : V28 m c (ix2 r q) = G (U m c) r.val q.val := by
  rw [G_in _ _ _ r ⟨q.val, by omega⟩ rfl rfl]
  unfold U
  rw [uOf_if]
  unfold V28 V
  after_results_simp
  pointwise
  after_results_simp
  pointwise
theorem V29_apply (c : Dev nD) (r : Fin 4096) (q : Fin 2816) : V29 m c (ix2 r q) = G (U m c) r.val (2816 + q.val) := by
  rw [G_in _ _ _ r ⟨2816 + q.val, by omega⟩ rfl rfl]
  unfold U
  rw [uOf_if]
  unfold V29 V
  after_results_simp
  pointwise
  after_results_simp
  pointwise

/-- A block's windows as rows of those arrays. -/
theorem blk0 (c : Dev nD) (t : Fin cfg0.N) (r : Fin 256) (s : Fin 2816) :
    iblk m c 0 t (ix2 r s) = G (A0 m c) (t.val * 256 + r.val) s.val := by
  have := lt16 t
  refine Eq.trans ?_ (V26_apply m c ⟨t.val * 256 + r.val, by omega⟩ s)
  blk_ext [iblk, idx t]
theorem blk1 (c : Dev nD) (t : Fin cfg0.N) (r : Fin 256) (s : Fin 2816) :
    iblk m c 1 t (ix2 r s) = G (A0 m c) (t.val * 256 + r.val) (2816 + s.val) := by
  have := lt16 t
  refine Eq.trans ?_ (V27_apply m c ⟨t.val * 256 + r.val, by omega⟩ s)
  blk_ext [iblk, idx t]
theorem blk2 (c : Dev nD) (t : Fin cfg0.N) (r : Fin 256) (s : Fin 2816) :
    iblk m c 2 t (ix2 r s) = G (U m c) (t.val * 256 + r.val) s.val := by
  have := lt16 t
  refine Eq.trans ?_ (V28_apply m c ⟨t.val * 256 + r.val, by omega⟩ s)
  blk_ext [iblk, idx t]
theorem blk3 (c : Dev nD) (t : Fin cfg0.N) (ht : t.val < 15) (r : Fin 16) (s : Fin 2816) :
    iblk m c 3 t (ix2 r s) = G (U m c) (t.val * 256 + 256 + r.val) s.val := by
  refine Eq.trans ?_ (V28_apply m c ⟨t.val * 256 + 256 + r.val, by omega⟩ s)
  have hm : min (16 * (t.val + 1)) 255 = 16 * t.val + 16 := by omega
  blk_ext [iblk, idx t, hm]
theorem blk4 (c : Dev nD) (t : Fin cfg0.N) (r : Fin 256) (s : Fin 2816) :
    iblk m c 4 t (ix2 r s) = G (U m c) (t.val * 256 + r.val) (2816 + s.val) := by
  have := lt16 t
  refine Eq.trans ?_ (V29_apply m c ⟨t.val * 256 + r.val, by omega⟩ s)
  blk_ext [iblk, idx t]
theorem blk5 (c : Dev nD) (t : Fin cfg0.N) (ht : t.val < 15) (r : Fin 16) (s : Fin 2816) :
    iblk m c 5 t (ix2 r s) = G (U m c) (t.val * 256 + 256 + r.val) (2816 + s.val) := by
  refine Eq.trans ?_ (V29_apply m c ⟨t.val * 256 + 256 + r.val, by omega⟩ s)
  have hm : min (16 * (t.val + 1)) 255 = 16 * t.val + 16 := by omega
  blk_ext [iblk, idx t, hm]
theorem blk6 (c : Dev nD) (t : Fin cfg0.N) (r : Fin 256) (s : Fin 2816) :
    iblk m c 6 t (ix2 r s) = E (A3 m c) (t.val * 256 + r.val) s.val := by
  have := lt16 t
  refine Eq.trans ?_ (V30_apply m c ⟨t.val * 256 + r.val, by omega⟩ s)
  blk_ext [iblk, idx t]
theorem blk7 (c : Dev nD) (t : Fin cfg0.N) (ht : t.val < 15) (r : Fin 16) (s : Fin 2816) :
    iblk m c 7 t (ix2 r s) = E (A3 m c) (t.val * 256 + 256 + r.val) s.val := by
  refine Eq.trans ?_ (V30_apply m c ⟨t.val * 256 + 256 + r.val, by omega⟩ s)
  have hm : min (16 * (t.val + 1)) 255 = 16 * t.val + 16 := by omega
  blk_ext [iblk, idx t, hm]
theorem blk8 (c : Dev nD) (t : Fin cfg0.N) (r : Fin 3) (s : Fin 5632) : iblk m c 8 t (ix2 r s) = A1 m c (ix2 r s) := by
  blk_ext! [iblk, V, idx t]

/-- Half of a block's columns. -/
theorem half_apply (v : S256x2816.Idx → EReal) (p : ℕ) (h) (r : Fin 256) (k : Fin 1408) (s : Fin 2816) (hs : s.val = p + k.val) :
    View.ld (Val := Elt Ideal) (e' := .bf16) v (Rect.unit (s := S256x2816) ![0, p] ![256, 1408] h) (ix2 r k) = v (ix2 r s) := by
  pointwise
  exact congrArg (fun q => v (ix2 r q)) (Fin.ext hs.symm)
theorem halo_apply (v : S16x2816.Idx → EReal) (p : ℕ) (h) (r : Fin 16) (k : Fin 1408) (s : Fin 2816) (hs : s.val = p + k.val) :
    View.ld (Val := Elt Ideal) (e' := .bf16) v (Rect.unit (s := S16x2816) ![0, p] ![16, 1408] h) (ix2 r k) = v (ix2 r s) := by
  pointwise
  exact congrArg (fun q => v (ix2 r q)) (Fin.ext hs.symm)
theorem taps_apply (v : S3x5632.Idx → EReal) (p : ℕ) (h) (r : Fin 3) (k : Fin 1408) (s : Fin 5632) (hs : s.val = p + k.val) :
    View.ld (Val := Elt Ideal) (e' := .f32) v (Rect.unit (s := S3x5632) ![0, p] ![3, 1408] h) (ix2 r k) = v (ix2 r s) := by
  pointwise
  exact congrArg (fun q => v (ix2 r q)) (Fin.ext hs.symm)

theorem select_if (p : Prop) [Decidable p] (a b : EReal) : Scalar.select (if p then 1#1 else 0#1) a b = if p then a else b := by
  by_cases h : p <;> simp [h, Scalar.select]

/-- The rows after the sequence's last one are dropped. -/
theorem last_word : ∀ t : Fin 16, Scalar.cmpi .eq (BitVec.ofNat 32 t.val) 15#32 = if t.val = 15 then 1#1 else 0#1 := by decide +kernel
theorem after_word : ∀ e : Fin 272, IntOp.cmpi .sge (BitVec.ofNat 32 e.val) 256#32 = if 256 ≤ e.val then 1#1 else 0#1 := by
  decide +kernel
theorem mask_word (t : Fin 16) (e : Fin 272) : IntOp.andi (Scalar.cmpi .eq (BitVec.ofNat 32 t.val) 15#32)
    (IntOp.cmpi .sge (BitVec.ofNat 32 e.val) 256#32) = if t.val = 15 ∧ 256 ≤ e.val then 1#1 else 0#1 := by
  rw [last_word, after_word]
  by_cases h : t.val = 15 <;> by_cases h' : 256 ≤ e.val <;> simp [h, h', IntOp.andi]

/-- The gate's cotangent on a block's rows and the rows after them, from the windows' columns. -/
theorem gate_apply (Y : S4096x5632.Idx → EReal) (D : S4096x2816.Idx → EReal) (t : Fin 16) (q : ℕ)
    (v4 v10 v16 : S256x1408.Idx → EReal) (v6 v12 v18 : S16x1408.Idx → EReal) (e : Fin 272) (k : Fin 1408)
    (h4 : ∀ r : Fin 256, v4 (ix2 r k) = G Y (t.val * 256 + r.val) q)
    (h6 : t.val < 15 → ∀ r : Fin 16, v6 (ix2 r k) = G Y (t.val * 256 + 256 + r.val) q)
    (h10 : ∀ r : Fin 256, v10 (ix2 r k) = G Y (t.val * 256 + r.val) (2816 + q))
    (h12 : t.val < 15 → ∀ r : Fin 16, v12 (ix2 r k) = G Y (t.val * 256 + 256 + r.val) (2816 + q))
    (h16 : ∀ r : Fin 256, v16 (ix2 r k) = E D (t.val * 256 + r.val) q)
    (h18 : t.val < 15 → ∀ r : Fin 16, v18 (ix2 r k) = E D (t.val * 256 + 256 + r.val) q) :
    k0_pay35 (F := Ideal) (Scalar.cmpi .eq (BitVec.ofNat 32 t.val) 15#32) v4 v6 v10 v12 v16 v18 (ix2 e k)
      = gateC Y D (t.val * 256 + e.val) q := by
  unfold k0_pay35 k0_pay31 k0_pay32 k0_pay33 k0_pay31
  pointwise
  rw [mask_word, select_if]
  by_cases he : e.val < 256
  · rw [if_neg (by omega)]
    simp only [dif_pos he, h4, h10, h16]
    rfl
  · have e1 : t.val * 256 + e.val = t.val * 256 + 256 + (e.val - 256) := by omega
    by_cases ht : t.val = 15
    · rw [if_pos ⟨ht, by omega⟩, gateC, E_out _ _ _ (by omega), gateV_zero]
    · rw [if_neg (by omega)]
      simp only [dif_neg he, h6 (by omega), h12 (by omega), h18 (by omega)]
      rw [e1]
      rfl

/-- The value's cotangent likewise. -/
theorem up_apply (Y : S4096x5632.Idx → EReal) (D : S4096x2816.Idx → EReal) (t : Fin 16) (q : ℕ)
    (v4 v16 : S256x1408.Idx → EReal) (v6 v18 : S16x1408.Idx → EReal) (e : Fin 272) (k : Fin 1408)
    (h4 : ∀ r : Fin 256, v4 (ix2 r k) = G Y (t.val * 256 + r.val) q)
    (h6 : t.val < 15 → ∀ r : Fin 16, v6 (ix2 r k) = G Y (t.val * 256 + 256 + r.val) q)
    (h16 : ∀ r : Fin 256, v16 (ix2 r k) = E D (t.val * 256 + r.val) q)
    (h18 : t.val < 15 → ∀ r : Fin 16, v18 (ix2 r k) = E D (t.val * 256 + 256 + r.val) q) :
    k0_pay34 (F := Ideal) (Scalar.cmpi .eq (BitVec.ofNat 32 t.val) 15#32) v4 v6 v16 v18 (ix2 e k)
      = upC Y D (t.val * 256 + e.val) q := by
  unfold k0_pay34 k0_pay32 k0_pay33 k0_pay31
  pointwise
  rw [mask_word, select_if]
  by_cases he : e.val < 256
  · rw [if_neg (by omega)]
    simp only [dif_pos he, h4, h16]
    rfl
  · have e1 : t.val * 256 + e.val = t.val * 256 + 256 + (e.val - 256) := by omega
    by_cases ht : t.val = 15
    · rw [if_pos ⟨ht, by omega⟩, upC, E_out _ _ _ (by omega), upV_zero]
    · rw [if_neg (by omega)]
      simp only [dif_neg he, h6 (by omega), h18 (by omega)]
      rw [e1]
      rfl

end Cert.GluBwdIdeal.RowValue
-- ==== Proof.GluOut.lean ====
/-
  The results of `GluBwd`: each block's part put together, and the accumulated gradients after the last block.
-/
module

public import proofs.«01_k».proof.Proof.GluValue

@[expose] public section

set_option maxRecDepth 16384

noncomputable section

namespace Cert.GluBwdIdeal.RowValue

open Cert.GluBwdIdeal Cert.GluBwdIdeal.Gen Idealize.ShloMosaic Idealize.ShloMosaic.TcCoe Idealize.SL.Sem
open Idealize.ShloMosaic.Pipeline (Dat)

/-- The convolution's input gradient at a row and a column: three taps beginning at the row. -/
def dxv (Y : S4096x5632.Idx → EReal) (D : S4096x2816.Idx → EReal) (W : S3x5632.Idx → EReal) (n : ℕ) (s : Fin 5632) : EReal :=
  col Y D n s.val * W (ix2 2 s) + col Y D (n + 1) s.val * W (ix2 1 s) + col Y D (n + 2) s.val * W (ix2 0 s)

/-- The term of the taps' gradient at a row. -/
def cwTerm (Y : S4096x5632.Idx → EReal) (D : S4096x2816.Idx → EReal) (X : S4096x5632.Idx → EReal) (j q n : ℕ) : EReal :=
  col Y D (n + j) q * G X n q

/-! A group of columns of each result, from the convolution's cotangent on the block's rows and the rows after them. -/

section piece

variable (Y X : S4096x5632.Idx → EReal) (D : S4096x2816.Idx → EReal) (W : S3x5632.Idx → EReal) (b : ℕ) (k : Fin 1408)
  (d : S272x1408.Idx → EReal) (s : Fin 5632) (hd : ∀ e : Fin 272, d (ix2 e k) = col Y D (b + e.val) s.val)

include hd

theorem at_row (e : Fin 272) (n : ℕ) (hn : b + e.val = n) : d (ix2 e k) = col Y D n s.val := by
  rw [hd, hn]

theorem dx_piece (w : S3x1408.Idx → EReal) (hw : ∀ i : Fin 3, w (ix2 i k) = W (ix2 i s)) (r : Fin 256) :
    k0_pay39 (F := Ideal) d w (ix2 r k) = dxv Y D W (b + r.val) s := by
  have := r.isLt
  unfold k0_pay39 k0_pay37 k0_pay38
  pointwise
  exact congrArg₂ (· + ·) (congrArg₂ (· + ·)
    (congrArg₂ (· * ·) (at_row Y D b k d s hd _ _ rfl) (hw 2))
    (congrArg₂ (· * ·) (at_row Y D b k d s hd _ _ (by simp only; omega)) (hw 1)))
    (congrArg₂ (· * ·) (at_row Y D b k d s hd _ _ (by simp only; omega)) (hw 0))

theorem cb_piece (a : S1x1408.Idx → EReal) :
    k0_pay40 (F := Ideal) d a (ix2 0 k) = a (ix2 0 k) + ∑ r : Fin 256, col Y D (b + r.val) s.val := by
  unfold k0_pay40
  pointwise
  exact congrArg (_ + ·) (Finset.sum_congr rfl fun r _ => at_row Y D b k d s hd _ _ rfl)

variable (x : S256x1408.Idx → EReal) (hx : ∀ r : Fin 256, x (ix2 r k) = G X (b + r.val) s.val)

include hx

theorem cw0_piece (a : S1x1408.Idx → EReal) :
    k0_pay41 (F := Ideal) d x a (ix2 0 k) = a (ix2 0 k) + ∑ r : Fin 256, cwTerm Y D X 2 s.val (b + r.val) := by
  unfold k0_pay41 k0_pay36 k0_pay38
  pointwise
  refine congrArg (_ + ·) (Finset.sum_congr rfl fun r _ => ?_)
  have := r.isLt
  exact congrArg₂ (· * ·) (at_row Y D b k d s hd _ _ (by simp only; omega)) (hx r)

theorem cw1_piece (a : S1x1408.Idx → EReal) :
    k0_pay29 (F := Ideal) (k0_pay23 x) (k0_pay24 d) a (ix2 0 k)
      = a (ix2 0 k) + ∑ r : Fin 256, cwTerm Y D X 1 s.val (b + r.val) := by
  unfold k0_pay29 k0_pay23 k0_pay24
  pointwise
  refine congrArg (_ + ·) (Finset.sum_congr rfl fun r _ => ?_)
  have := r.isLt
  exact congrArg₂ (· * ·) (at_row Y D b k d s hd _ _ (by simp only; omega)) (hx r)

/-- The same, as the second half of the columns writes it. -/
theorem cw1_piece' (a : S1x1408.Idx → EReal) :
    k0_pay44 (F := Ideal) (k0_pay36 x) (k0_pay42 a) (k0_pay43 d) (ix2 0 k)
      = a (ix2 0 k) + ∑ r : Fin 256, cwTerm Y D X 1 s.val (b + r.val) :=
  cw1_piece Y X D b k d s hd x hx a

theorem cw2_piece (a : S1x1408.Idx → EReal) :
    k0_pay45 (F := Ideal) d (k0_pay36 x) a (ix2 0 k) = a (ix2 0 k) + ∑ r : Fin 256, cwTerm Y D X 0 s.val (b + r.val) := by
  unfold k0_pay45 k0_pay36
  pointwise
  refine congrArg (_ + ·) (Finset.sum_congr rfl fun r _ => ?_)
  exact congrArg₂ (· * ·) (at_row Y D b k d s hd _ _ rfl) (hx r)

end piece

variable (m : (ℓ : Loc nD τ sig) → Buf (Elt Ideal) ℓ)

/-- Columns from `p` on lie in an array. -/
abbrev Fits (p : ℕ) (s S : Fin 2 → ℕ) : Prop := ∀ a : Fin 2, (![0, p] : Fin 2 → ℕ) a + s a ≤ S a

/-- Half of a window's columns. -/
abbrev half (v : S256x2816.Idx → EReal) (p : ℕ) (h : Fits p ![256, 1408] ![256, 2816]) : S256x1408.Idx → EReal :=
  View.ld (Val := Elt Ideal) (e' := .bf16) v (Rect.unit (s := S256x2816) ![0, p] ![256, 1408] h)
abbrev halo (v : S16x2816.Idx → EReal) (p : ℕ) (h : Fits p ![16, 1408] ![16, 2816]) : S16x1408.Idx → EReal :=
  View.ld (Val := Elt Ideal) (e' := .bf16) v (Rect.unit (s := S16x2816) ![0, p] ![16, 1408] h)
abbrev taps (v : S3x5632.Idx → EReal) (p : ℕ) (h : Fits p ![3, 1408] ![3, 5632]) : S3x1408.Idx → EReal :=
  View.ld (Val := Elt Ideal) (e' := .f32) v (Rect.unit (s := S3x5632) ![0, p] ![3, 1408] h)

/-- The cotangents of half of the columns: of the gate and of the value. -/
abbrev gD (c : Dev nD) (t : Fin cfg0.N) (p : ℕ) (h : Fits p ![256, 1408] ![256, 2816]) (h' : Fits p ![16, 1408] ![16, 2816]) :
    S272x1408.Idx → EReal :=
  k0_pay35 (F := Ideal) (Scalar.cmpi .eq (BitVec.ofNat 32 (grid0.coords t 0).val) 15#32) (half (iblk m c 2 t) p h) (halo (iblk m c 3 t) p h')
    (half (iblk m c 4 t) p h) (halo (iblk m c 5 t) p h') (half (iblk m c 6 t) p h) (halo (iblk m c 7 t) p h')
abbrev uD (c : Dev nD) (t : Fin cfg0.N) (p : ℕ) (h : Fits p ![256, 1408] ![256, 2816]) (h' : Fits p ![16, 1408] ![16, 2816]) :
    S272x1408.Idx → EReal :=
  k0_pay34 (F := Ideal) (Scalar.cmpi .eq (BitVec.ofNat 32 (grid0.coords t 0).val) 15#32) (half (iblk m c 2 t) p h) (halo (iblk m c 3 t) p h')
    (half (iblk m c 6 t) p h) (halo (iblk m c 7 t) p h')

theorem gD_apply (c : Dev nD) (t : Fin cfg0.N) (p : ℕ) (hp : p + 1408 ≤ 2816) (h h') (k : Fin 1408) (s : Fin 5632)
    (hs : s.val = p + k.val) (e : Fin 272) :
    gD m c t p h h' (ix2 e k) = col (U m c) (A3 m c) (t.val * 256 + e.val) s.val := by
  have hk : p + k.val < 2816 := by omega
  rw [col, if_pos (by omega), hs]
  unfold gD
  rw [coord]
  exact gate_apply (U m c) (A3 m c) ⟨t.val, lt16 t⟩ (p + k.val) _ _ _ _ _ _ e k
    (fun r => (half_apply _ p h r k ⟨p + k.val, hk⟩ rfl).trans (blk2 m c t r _))
    (fun ht r => (halo_apply _ p h' r k ⟨p + k.val, hk⟩ rfl).trans (blk3 m c t ht r _))
    (fun r => (half_apply _ p h r k ⟨p + k.val, hk⟩ rfl).trans (blk4 m c t r _))
    (fun ht r => (halo_apply _ p h' r k ⟨p + k.val, hk⟩ rfl).trans (blk5 m c t ht r _))
    (fun r => (half_apply _ p h r k ⟨p + k.val, hk⟩ rfl).trans (blk6 m c t r _))
    (fun ht r => (halo_apply _ p h' r k ⟨p + k.val, hk⟩ rfl).trans (blk7 m c t ht r _))

theorem uD_apply (c : Dev nD) (t : Fin cfg0.N) (p : ℕ) (hp : p + 1408 ≤ 2816) (h h') (k : Fin 1408) (s : Fin 5632)
    (hs : s.val = 2816 + p + k.val) (e : Fin 272) :
    uD m c t p h h' (ix2 e k) = col (U m c) (A3 m c) (t.val * 256 + e.val) s.val := by
  have hk : p + k.val < 2816 := by omega
  rw [col, if_neg (by omega), show s.val - 2816 = p + k.val by omega]
  unfold uD
  rw [coord]
  exact up_apply (U m c) (A3 m c) ⟨t.val, lt16 t⟩ (p + k.val) _ _ _ _ e k
    (fun r => (half_apply _ p h r k ⟨p + k.val, hk⟩ rfl).trans (blk2 m c t r _))
    (fun ht r => (halo_apply _ p h' r k ⟨p + k.val, hk⟩ rfl).trans (blk3 m c t ht r _))
    (fun r => (half_apply _ p h r k ⟨p + k.val, hk⟩ rfl).trans (blk6 m c t r _))
    (fun ht r => (halo_apply _ p h' r k ⟨p + k.val, hk⟩ rfl).trans (blk7 m c t ht r _))

theorem x_gate (c : Dev nD) (t : Fin cfg0.N) (p : ℕ) (hp : p + 1408 ≤ 2816) (h) (k : Fin 1408) (s : Fin 5632)
    (hs : s.val = p + k.val) (r : Fin 256) : half (iblk m c 0 t) p h (ix2 r k) = G (A0 m c) (t.val * 256 + r.val) s.val := by
  rw [hs]
  exact (half_apply _ p h r k ⟨p + k.val, by omega⟩ rfl).trans (blk0 m c t r _)
theorem x_up (c : Dev nD) (t : Fin cfg0.N) (p : ℕ) (hp : p + 1408 ≤ 2816) (h) (k : Fin 1408) (s : Fin 5632)
    (hs : s.val = 2816 + p + k.val) (r : Fin 256) : half (iblk m c 1 t) p h (ix2 r k) = G (A0 m c) (t.val * 256 + r.val) s.val := by
  rw [hs, add_assoc]
  exact (half_apply _ p h r k ⟨p + k.val, by omega⟩ rfl).trans (blk1 m c t r _)
theorem w_taps (c : Dev nD) (t : Fin cfg0.N) (p : ℕ) (h) (k : Fin 1408) (s : Fin 5632)
    (hs : s.val = p + k.val) (i : Fin 3) : taps (iblk m c 8 t) p h (ix2 i k) = A1 m c (ix2 i s) :=
  (taps_apply _ p h i k s hs).trans (blk8 m c t i s)

/-- A block's part of each result. -/
def dxBlk (c : Dev nD) (t : Fin cfg0.N) (j : S256x5632.Idx) : EReal :=
  dxv (U m c) (A3 m c) (A1 m c) (t.val * 256 + (j 0).val) (j 1)
def cbStep (c : Dev nD) (t : Fin cfg0.N) (j : S1x5632.Idx) : EReal :=
  ∑ r : Fin 256, col (U m c) (A3 m c) (t.val * 256 + r.val) (j 1).val
def cwStep (c : Dev nD) (t : Fin cfg0.N) (j : S3x5632.Idx) : EReal :=
  ∑ r : Fin 256, cwTerm (U m c) (A3 m c) (A0 m c) (2 - (j 0).val) (j 1).val (t.val * 256 + r.val)

theorem dx_at (c : Dev nD) (t : Fin cfg0.N) (r : Fin 256) (s : Fin 5632) (y : S256x5632.Idx) (v : EReal)
    (hv : v = dxv (U m c) (A3 m c) (A1 m c) (t.val * 256 + r.val) s) (h0 : (y 0).val = r.val) (h1 : (y 1).val = s.val) :
    v = dxBlk m c t y := by
  rw [hv, dxBlk, h0, show y 1 = s from Fin.ext h1]

theorem dx_blk (c : Dev nD) (t : Fin cfg0.N) (y : S256x5632.Idx) : (outsAt0 m c t.val t.isLt).1 y = dxBlk m c t y := by
  by_cases h0 : t.val % 16 = 0
  on_goal 1 => rw [outsAt0_A m c t h0]
  on_goal 2 => rw [outsAt0_B m c t h0]
  all_goals
    frame_out
    refine View.canon_append_of_piecesOf (Val := Elt Ideal) (e := .bf16) (dxBlk m c t) [] [_, _, _, _]
      ⟨fun x => ?_, fun x => ?_, fun x => ?_, fun x => ?_, trivial⟩ y (View.cover_of_tiledL _ ![256, 1408] (by sl_kernel_rfl) y)
    all_goals idx_vars x
    · exact dx_at m c t x0 ⟨4224 + x1.val, by omega⟩ _ _ (dx_piece _ _ _ _ x1 (uD m c t 1408 _ _) _
        (uD_apply m c t 1408 (by omega) _ _ x1 _ rfl) _ (w_taps m c t 4224 _ x1 _ rfl) x0) (by simp) (by simp)
    · exact dx_at m c t x0 ⟨1408 + x1.val, by omega⟩ _ _ (dx_piece _ _ _ _ x1 (gD m c t 1408 _ _) _
        (gD_apply m c t 1408 (by omega) _ _ x1 _ rfl) _ (w_taps m c t 1408 _ x1 _ rfl) x0) (by simp) (by simp)
    · exact dx_at m c t x0 ⟨2816 + x1.val, by omega⟩ _ _ (dx_piece _ _ _ _ x1 (uD m c t 0 _ _) _
        (uD_apply m c t 0 (by omega) _ _ x1 _ rfl) _ (w_taps m c t 2816 _ x1 _ rfl) x0) (by simp) (by simp)
    · exact dx_at m c t x0 ⟨0 + x1.val, by omega⟩ _ _ (dx_piece _ _ _ _ x1 (gD m c t 0 _ _) _
        (gD_apply m c t 0 (by omega) _ _ x1 _ rfl) _ (w_taps m c t 0 _ x1 _ rfl) x0) (by simp) (by simp)

theorem cb_at (c : Dev nD) (t : Fin cfg0.N) (Z : S1x5632.Idx → EReal) (s : Fin 5632) (y : S1x5632.Idx) (v w : EReal)
    (hv : v = w + ∑ r : Fin 256, col (U m c) (A3 m c) (t.val * 256 + r.val) s.val) (hw : w = Z y) (h1 : (y 1).val = s.val) :
    v = Z y + cbStep m c t y := by
  rw [hv, hw, cbStep, h1]

theorem cw_at (c : Dev nD) (t : Fin cfg0.N) (Z : S3x5632.Idx → EReal) (j : ℕ) (s : Fin 5632) (y : S3x5632.Idx) (v w : EReal)
    (hv : v = w + ∑ r : Fin 256, cwTerm (U m c) (A3 m c) (A0 m c) (2 - j) s.val (t.val * 256 + r.val)) (hw : w = Z y)
    (h0 : (y 0).val = j) (h1 : (y 1).val = s.val) : v = Z y + cwStep m c t y := by
  rw [hv, hw, cwStep, h0, h1]

theorem cb_A (c : Dev nD) (t : Fin cfg0.N) (h0 : t.val % 16 = 0) (y : S1x5632.Idx) :
    (outsAt0 m c t.val t.isLt).2.2 y = k0_pay6 (F := Ideal) y + cbStep m c t y := by
  rw [outsAt0_A m c t h0]
  frame_open
  simp (disch := decide) only [↓ View.readCov_skip, ↓ View.readCov_cons_toLoadRect, ↓ View.readCov_fill]
  frame_out
  refine View.canon_append_of_piecesOf (Val := Elt Ideal) (e := .f32) (fun y => k0_pay6 (F := Ideal) y + cbStep m c t y) [_] [_, _, _, _]
    ⟨fun x => ?_, fun x => ?_, fun x => ?_, fun x => ?_, trivial⟩ y (View.cover_of_tiledL _ ![1, 1408] (by sl_kernel_rfl) y)
  all_goals idx_vars x
  all_goals obtain rfl : x0 = 0 := Subsingleton.elim _ _
  · exact cb_at m c t (k0_pay6 (F := Ideal)) ⟨4224 + x1.val, by omega⟩ _ _ _ (cb_piece _ _ _ x1 (uD m c t 1408 _ _) _
      (uD_apply m c t 1408 (by omega) _ _ x1 _ rfl) _) rfl (by simp)
  · exact cb_at m c t (k0_pay6 (F := Ideal)) ⟨1408 + x1.val, by omega⟩ _ _ _ (cb_piece _ _ _ x1 (gD m c t 1408 _ _) _
      (gD_apply m c t 1408 (by omega) _ _ x1 _ rfl) _) rfl (by simp)
  · exact cb_at m c t (k0_pay6 (F := Ideal)) ⟨2816 + x1.val, by omega⟩ _ _ _ (cb_piece _ _ _ x1 (uD m c t 0 _ _) _
      (uD_apply m c t 0 (by omega) _ _ x1 _ rfl) _) rfl (by simp)
  · exact cb_at m c t (k0_pay6 (F := Ideal)) ⟨0 + x1.val, by omega⟩ _ _ _ (cb_piece _ _ _ x1 (gD m c t 0 _ _) _
      (gD_apply m c t 0 (by omega) _ _ x1 _ rfl) _) rfl (by simp)

theorem cb_B (c : Dev nD) (t : Fin cfg0.N) (h0 : ¬ t.val % 16 = 0) (hp : t.val - 1 < cfg0.N) (y : S1x5632.Idx) :
    (outsAt0 m c t.val t.isLt).2.2 y = (outsAt0 m c (t.val - 1) hp).2.2 y + cbStep m c t y := by
  rw [outsAt0_B m c t h0]
  frame_out
  refine View.canon_append_of_piecesOf (Val := Elt Ideal) (e := .f32) (fun y => (outsAt0 m c (t.val - 1) hp).2.2 y + cbStep m c t y) [] [_, _, _, _]
    ⟨fun x => ?_, fun x => ?_, fun x => ?_, fun x => ?_, trivial⟩ y (View.cover_of_tiledL _ ![1, 1408] (by sl_kernel_rfl) y)
  all_goals idx_vars x
  all_goals obtain rfl : x0 = 0 := Subsingleton.elim _ _
  · exact cb_at m c t (outsAt0 m c (t.val - 1) hp).2.2 ⟨4224 + x1.val, by omega⟩ _ _ _ (cb_piece _ _ _ x1 (uD m c t 1408 _ _) _
      (uD_apply m c t 1408 (by omega) _ _ x1 _ rfl) _) rfl (by simp)
  · exact cb_at m c t (outsAt0 m c (t.val - 1) hp).2.2 ⟨1408 + x1.val, by omega⟩ _ _ _ (cb_piece _ _ _ x1 (gD m c t 1408 _ _) _
      (gD_apply m c t 1408 (by omega) _ _ x1 _ rfl) _) rfl (by simp)
  · exact cb_at m c t (outsAt0 m c (t.val - 1) hp).2.2 ⟨2816 + x1.val, by omega⟩ _ _ _ (cb_piece _ _ _ x1 (uD m c t 0 _ _) _
      (uD_apply m c t 0 (by omega) _ _ x1 _ rfl) _) rfl (by simp)
  · exact cb_at m c t (outsAt0 m c (t.val - 1) hp).2.2 ⟨0 + x1.val, by omega⟩ _ _ _ (cb_piece _ _ _ x1 (gD m c t 0 _ _) _
      (gD_apply m c t 0 (by omega) _ _ x1 _ rfl) _) rfl (by simp)

set_option maxHeartbeats 800000 in
theorem cw_A (c : Dev nD) (t : Fin cfg0.N) (h0 : t.val % 16 = 0) (y : S3x5632.Idx) :
    (outsAt0 m c t.val t.isLt).2.1 y = k0_pay5 (F := Ideal) y + cwStep m c t y := by
  rw [outsAt0_A m c t h0]
  frame_open
  simp (disch := decide) only [↓ View.readCov_skip, ↓ View.readCov_cons_toLoadRect, ↓ View.readCov_fill]
  frame_out
  refine View.canon_append_of_piecesOf (Val := Elt Ideal) (e := .f32) (fun y => k0_pay5 (F := Ideal) y + cwStep m c t y) [_]
    [_, _, _, _, _, _, _, _, _, _, _, _] ⟨fun x => ?_, fun x => ?_, fun x => ?_, fun x => ?_, fun x => ?_, fun x => ?_, fun x => ?_, fun x => ?_, fun x => ?_, fun x => ?_, fun x => ?_, fun x => ?_, trivial⟩ y
    (View.cover_of_tiledL _ ![1, 1408] (by sl_kernel_rfl) y)
  all_goals idx_vars x
  all_goals obtain rfl : x0 = 0 := Subsingleton.elim _ _
  · exact cw_at m c t (k0_pay5 (F := Ideal)) 2 ⟨4224 + x1.val, by omega⟩ _ _ _ (cw2_piece _ _ _ _ x1 (uD m c t 1408 _ _) _
      (uD_apply m c t 1408 (by omega) _ _ x1 _ rfl) _ (x_up m c t 1408 (by omega) _ x1 _ rfl) _) rfl (by simp) (by simp)
  · exact cw_at m c t (k0_pay5 (F := Ideal)) 1 ⟨4224 + x1.val, by omega⟩ _ _ _ (cw1_piece _ _ _ _ x1 (uD m c t 1408 _ _) _
      (uD_apply m c t 1408 (by omega) _ _ x1 _ rfl) _ (x_up m c t 1408 (by omega) _ x1 _ rfl) _) rfl (by simp) (by simp)
  · exact cw_at m c t (k0_pay5 (F := Ideal)) 0 ⟨4224 + x1.val, by omega⟩ _ _ _ (cw0_piece _ _ _ _ x1 (uD m c t 1408 _ _) _
      (uD_apply m c t 1408 (by omega) _ _ x1 _ rfl) _ (x_up m c t 1408 (by omega) _ x1 _ rfl) _) rfl (by simp) (by simp)
  · exact cw_at m c t (k0_pay5 (F := Ideal)) 2 ⟨1408 + x1.val, by omega⟩ _ _ _ (cw2_piece _ _ _ _ x1 (gD m c t 1408 _ _) _
      (gD_apply m c t 1408 (by omega) _ _ x1 _ rfl) _ (x_gate m c t 1408 (by omega) _ x1 _ rfl) _) rfl (by simp) (by simp)
  · exact cw_at m c t (k0_pay5 (F := Ideal)) 1 ⟨1408 + x1.val, by omega⟩ _ _ _ (cw1_piece' _ _ _ _ x1 (gD m c t 1408 _ _) _
      (gD_apply m c t 1408 (by omega) _ _ x1 _ rfl) _ (x_gate m c t 1408 (by omega) _ x1 _ rfl) _) rfl (by simp) (by simp)
  · exact cw_at m c t (k0_pay5 (F := Ideal)) 0 ⟨1408 + x1.val, by omega⟩ _ _ _ (cw0_piece _ _ _ _ x1 (gD m c t 1408 _ _) _
      (gD_apply m c t 1408 (by omega) _ _ x1 _ rfl) _ (x_gate m c t 1408 (by omega) _ x1 _ rfl) _) rfl (by simp) (by simp)
  · exact cw_at m c t (k0_pay5 (F := Ideal)) 2 ⟨2816 + x1.val, by omega⟩ _ _ _ (cw2_piece _ _ _ _ x1 (uD m c t 0 _ _) _
      (uD_apply m c t 0 (by omega) _ _ x1 _ rfl) _ (x_up m c t 0 (by omega) _ x1 _ rfl) _) rfl (by simp) (by simp)
  · exact cw_at m c t (k0_pay5 (F := Ideal)) 1 ⟨2816 + x1.val, by omega⟩ _ _ _ (cw1_piece _ _ _ _ x1 (uD m c t 0 _ _) _
      (uD_apply m c t 0 (by omega) _ _ x1 _ rfl) _ (x_up m c t 0 (by omega) _ x1 _ rfl) _) rfl (by simp) (by simp)
  · exact cw_at m c t (k0_pay5 (F := Ideal)) 0 ⟨2816 + x1.val, by omega⟩ _ _ _ (cw0_piece _ _ _ _ x1 (uD m c t 0 _ _) _
      (uD_apply m c t 0 (by omega) _ _ x1 _ rfl) _ (x_up m c t 0 (by omega) _ x1 _ rfl) _) rfl (by simp) (by simp)
  · exact cw_at m c t (k0_pay5 (F := Ideal)) 2 ⟨0 + x1.val, by omega⟩ _ _ _ (cw2_piece _ _ _ _ x1 (gD m c t 0 _ _) _
      (gD_apply m c t 0 (by omega) _ _ x1 _ rfl) _ (x_gate m c t 0 (by omega) _ x1 _ rfl) _) rfl (by simp) (by simp)
  · exact cw_at m c t (k0_pay5 (F := Ideal)) 1 ⟨0 + x1.val, by omega⟩ _ _ _ (cw1_piece _ _ _ _ x1 (gD m c t 0 _ _) _
      (gD_apply m c t 0 (by omega) _ _ x1 _ rfl) _ (x_gate m c t 0 (by omega) _ x1 _ rfl) _) rfl (by simp) (by simp)
  · exact cw_at m c t (k0_pay5 (F := Ideal)) 0 ⟨0 + x1.val, by omega⟩ _ _ _ (cw0_piece _ _ _ _ x1 (gD m c t 0 _ _) _
      (gD_apply m c t 0 (by omega) _ _ x1 _ rfl) _ (x_gate m c t 0 (by omega) _ x1 _ rfl) _) rfl (by simp) (by simp)

set_option maxHeartbeats 800000 in
theorem cw_B (c : Dev nD) (t : Fin cfg0.N) (h0 : ¬ t.val % 16 = 0) (hp : t.val - 1 < cfg0.N) (y : S3x5632.Idx) :
    (outsAt0 m c t.val t.isLt).2.1 y = (outsAt0 m c (t.val - 1) hp).2.1 y + cwStep m c t y := by
  rw [outsAt0_B m c t h0]
  frame_out
  refine View.canon_append_of_piecesOf (Val := Elt Ideal) (e := .f32) (fun y => (outsAt0 m c (t.val - 1) hp).2.1 y + cwStep m c t y) []
    [_, _, _, _, _, _, _, _, _, _, _, _] ⟨fun x => ?_, fun x => ?_, fun x => ?_, fun x => ?_, fun x => ?_, fun x => ?_, fun x => ?_, fun x => ?_, fun x => ?_, fun x => ?_, fun x => ?_, fun x => ?_, trivial⟩ y
    (View.cover_of_tiledL _ ![1, 1408] (by sl_kernel_rfl) y)
  all_goals idx_vars x
  all_goals obtain rfl : x0 = 0 := Subsingleton.elim _ _
  · exact cw_at m c t (outsAt0 m c (t.val - 1) hp).2.1 2 ⟨4224 + x1.val, by omega⟩ _ _ _ (cw2_piece _ _ _ _ x1 (uD m c t 1408 _ _) _
      (uD_apply m c t 1408 (by omega) _ _ x1 _ rfl) _ (x_up m c t 1408 (by omega) _ x1 _ rfl) _) rfl (by simp) (by simp)
  · exact cw_at m c t (outsAt0 m c (t.val - 1) hp).2.1 1 ⟨4224 + x1.val, by omega⟩ _ _ _ (cw1_piece _ _ _ _ x1 (uD m c t 1408 _ _) _
      (uD_apply m c t 1408 (by omega) _ _ x1 _ rfl) _ (x_up m c t 1408 (by omega) _ x1 _ rfl) _) rfl (by simp) (by simp)
  · exact cw_at m c t (outsAt0 m c (t.val - 1) hp).2.1 0 ⟨4224 + x1.val, by omega⟩ _ _ _ (cw0_piece _ _ _ _ x1 (uD m c t 1408 _ _) _
      (uD_apply m c t 1408 (by omega) _ _ x1 _ rfl) _ (x_up m c t 1408 (by omega) _ x1 _ rfl) _) rfl (by simp) (by simp)
  · exact cw_at m c t (outsAt0 m c (t.val - 1) hp).2.1 2 ⟨1408 + x1.val, by omega⟩ _ _ _ (cw2_piece _ _ _ _ x1 (gD m c t 1408 _ _) _
      (gD_apply m c t 1408 (by omega) _ _ x1 _ rfl) _ (x_gate m c t 1408 (by omega) _ x1 _ rfl) _) rfl (by simp) (by simp)
  · exact cw_at m c t (outsAt0 m c (t.val - 1) hp).2.1 1 ⟨1408 + x1.val, by omega⟩ _ _ _ (cw1_piece' _ _ _ _ x1 (gD m c t 1408 _ _) _
      (gD_apply m c t 1408 (by omega) _ _ x1 _ rfl) _ (x_gate m c t 1408 (by omega) _ x1 _ rfl) _) rfl (by simp) (by simp)
  · exact cw_at m c t (outsAt0 m c (t.val - 1) hp).2.1 0 ⟨1408 + x1.val, by omega⟩ _ _ _ (cw0_piece _ _ _ _ x1 (gD m c t 1408 _ _) _
      (gD_apply m c t 1408 (by omega) _ _ x1 _ rfl) _ (x_gate m c t 1408 (by omega) _ x1 _ rfl) _) rfl (by simp) (by simp)
  · exact cw_at m c t (outsAt0 m c (t.val - 1) hp).2.1 2 ⟨2816 + x1.val, by omega⟩ _ _ _ (cw2_piece _ _ _ _ x1 (uD m c t 0 _ _) _
      (uD_apply m c t 0 (by omega) _ _ x1 _ rfl) _ (x_up m c t 0 (by omega) _ x1 _ rfl) _) rfl (by simp) (by simp)
  · exact cw_at m c t (outsAt0 m c (t.val - 1) hp).2.1 1 ⟨2816 + x1.val, by omega⟩ _ _ _ (cw1_piece _ _ _ _ x1 (uD m c t 0 _ _) _
      (uD_apply m c t 0 (by omega) _ _ x1 _ rfl) _ (x_up m c t 0 (by omega) _ x1 _ rfl) _) rfl (by simp) (by simp)
  · exact cw_at m c t (outsAt0 m c (t.val - 1) hp).2.1 0 ⟨2816 + x1.val, by omega⟩ _ _ _ (cw0_piece _ _ _ _ x1 (uD m c t 0 _ _) _
      (uD_apply m c t 0 (by omega) _ _ x1 _ rfl) _ (x_up m c t 0 (by omega) _ x1 _ rfl) _) rfl (by simp) (by simp)
  · exact cw_at m c t (outsAt0 m c (t.val - 1) hp).2.1 2 ⟨0 + x1.val, by omega⟩ _ _ _ (cw2_piece _ _ _ _ x1 (gD m c t 0 _ _) _
      (gD_apply m c t 0 (by omega) _ _ x1 _ rfl) _ (x_gate m c t 0 (by omega) _ x1 _ rfl) _) rfl (by simp) (by simp)
  · exact cw_at m c t (outsAt0 m c (t.val - 1) hp).2.1 1 ⟨0 + x1.val, by omega⟩ _ _ _ (cw1_piece _ _ _ _ x1 (gD m c t 0 _ _) _
      (gD_apply m c t 0 (by omega) _ _ x1 _ rfl) _ (x_gate m c t 0 (by omega) _ x1 _ rfl) _) rfl (by simp) (by simp)
  · exact cw_at m c t (outsAt0 m c (t.val - 1) hp).2.1 0 ⟨0 + x1.val, by omega⟩ _ _ _ (cw0_piece _ _ _ _ x1 (gD m c t 0 _ _) _
      (gD_apply m c t 0 (by omega) _ _ x1 _ rfl) _ (x_gate m c t 0 (by omega) _ x1 _ rfl) _) rfl (by simp) (by simp)

/-- A sum over the sequence's rows, block by block. -/
theorem sum_rows (f : ℕ → EReal) :
    ∑ t : Fin cfg0.N, ∑ r : Fin 256, f (t.val * 256 + r.val) = ∑ u : Fin 4096, f u.val := by
  have h16 : cfg0.N = 16 := N_16
  rw [← Fin.sum_mul_add_fin cfg0.N 256 (fun u : Fin 4096 => f u.val) (by rw [h16])]

/-- The three results. -/
def dxOf (X : S4096x5632.Idx → EReal) (W : S3x5632.Idx → EReal) (B : S1x5632.Idx → EReal) (D : S4096x2816.Idx → EReal)
    (j : S4096x5632.Idx) : EReal := dxv (uOf X W B) D W (j 0).val (j 1)
def dcwOf (X : S4096x5632.Idx → EReal) (W : S3x5632.Idx → EReal) (B : S1x5632.Idx → EReal) (D : S4096x2816.Idx → EReal)
    (j : S3x5632.Idx) : EReal := ∑ u : Fin 4096, cwTerm (uOf X W B) D X (2 - (j 0).val) (j 1).val u.val
def dcbOf (X : S4096x5632.Idx → EReal) (W : S3x5632.Idx → EReal) (B : S1x5632.Idx → EReal) (D : S4096x2816.Idx → EReal)
    (j : S1x5632.Idx) : EReal := ∑ u : Fin 4096, col (uOf X W B) D u.val (j 1).val

theorem dcw_all (c : Dev nD) (t : Fin cfg0.N) (ht : t.val + 1 = cfg0.N) (j : S3x5632.Idx) :
    (outsAt0 m c t.val t.isLt).2.1 j = dcwOf (A0 m c) (A1 m c) (A2 m c) (A3 m c) j := by
  have h16 : cfg0.N = 16 := N_16
  rw [Pipeline.eq_sum_fin_of_reset_step_apply_last (fun n h => (outsAt0 m c n h).2.1) 16 (k0_pay5 (F := Ideal)) (cwStep m c)
    (fun t h j => cw_A m c t h j) (fun t h j => cw_B m c t h _ j) (by omega) t ht j,
    show k0_pay5 (F := Ideal) j = (0 : EReal) from Ideal.ofBits_zero_f32, zero_add]
  exact sum_rows (cwTerm (U m c) (A3 m c) (A0 m c) (2 - (j 0).val) (j 1).val)

theorem dcb_all (c : Dev nD) (t : Fin cfg0.N) (ht : t.val + 1 = cfg0.N) (j : S1x5632.Idx) :
    (outsAt0 m c t.val t.isLt).2.2 j = dcbOf (A0 m c) (A1 m c) (A2 m c) (A3 m c) j := by
  have h16 : cfg0.N = 16 := N_16
  rw [Pipeline.eq_sum_fin_of_reset_step_apply_last (fun n h => (outsAt0 m c n h).2.2) 16 (k0_pay6 (F := Ideal)) (cbStep m c)
    (fun t h j => cb_A m c t h j) (fun t h j => cb_B m c t h _ j) (by omega) t ht j,
    show k0_pay6 (F := Ideal) j = (0 : EReal) from Ideal.ofBits_zero_f32, zero_add]
  exact sum_rows (fun n => col (U m c) (A3 m c) n (j 1).val)

/-- Where a block's entry lies in the convolution's input gradient. -/
theorem emb9 (t : Fin cfg0.N) (r : Fin 256) (k : Fin 5632) (u : Fin 4096) (hu : u.val = t.val * 256 + r.val) :
    (win0_9.blk t).view.emb (ix2 r k) = ix2 u k := by
  blk_ext! [idx t]

theorem dx_row (c : Dev nD) (t : Fin cfg0.N) (r : Fin 256) (k : Fin 5632) (u : Fin 4096) (hu : u.val = t.val * 256 + r.val) :
    dxBlk m c t (ix2 r k) = dxOf (A0 m c) (A1 m c) (A2 m c) (A3 m c) (ix2 u k) := by
  show dxv _ _ _ (t.val * 256 + r.val) k = dxv _ _ _ u.val k
  rw [hu]

/-- The three result arrays after the run. -/
theorem dx_final (c : Dev nD) : (dats m 0 c).arrAt 9 cfg0.N = dxOf (A0 m c) (A1 m c) (A2 m c) (A3 m c) := by
  refine (dats m 0 c).arrAt_eq_of_covers 9 _ (by decide +kernel) fun t hf y => ?_
  blk_simp
  rw [after0_9]
  refine (dx_blk m c t y).trans ?_
  idx_vars y
  have h := lt16 t
  rw [emb9 t y0 y1 ⟨t.val * 256 + y0.val, by omega⟩ rfl]
  exact dx_row m c t y0 y1 _ rfl

theorem dcw_final (c : Dev nD) : (dats m 0 c).arrAt 10 cfg0.N = dcwOf (A0 m c) (A1 m c) (A2 m c) (A3 m c) := by
  refine (dats m 0 c).arrAt_eq_of_after_last 10 t0_15 (by decide +kernel) _ fun j => ?_
  blk_simp
  rw [after0_10]
  exact dcw_all m c t0_15 rfl j

theorem dcb_final (c : Dev nD) : (dats m 0 c).arrAt 11 cfg0.N = dcbOf (A0 m c) (A1 m c) (A2 m c) (A3 m c) := by
  refine (dats m 0 c).arrAt_eq_of_after_last 11 t0_15 (by decide +kernel) _ fun j => ?_
  blk_simp
  rw [after0_11]
  exact dcb_all m c t0_15 rfl j

end Cert.GluBwdIdeal.RowValue
-- ==== Proof.GluRef.lean ====
/-
  The reference `GluGrad` over the extended reals, read at an index: the convolution's result, its cotangent, and the
  gradients of the convolution's rows, taps and bias.
-/
module

public import proofs.«01_k».proof.Proof.Gen.GluGradIdeal.Run
public import proofs.«01_k».proof.Proof.Gen.GluGradIdeal.Read
public import proofs.«01_k».proof.Proof.GluOut

@[expose] public section

set_option maxRecDepth 16384

noncomputable section

namespace Cert.GluGradIdeal.RefValue

open Cert.GluGradIdeal Cert.GluGradIdeal.Gen Idealize.ShloMosaic Idealize.ShloMosaic.TcCoe Idealize.SL.Sem
open Cert.GluGradIdeal.Read
open Cert.GluBwdIdeal.RowValue (xpad xpad_in xpad_out uOf uOf_if sgm gateV upV G G_in E E_in gateC upC col col_out dxv cwTerm
  dxOf dcwOf dcbOf)

/-- The convolution's result. -/
theorem u_ref (X : S4096x5632.Idx → EReal) (W : S3x5632.Idx → EReal) (B : S1x5632.Idx → EReal) (r : Fin 4096) (q : Fin 5632) :
    val_main_v24 (F := Ideal) X W B (ix2 r q) = uOf X W B (ix2 r q) := by
  rw [uOf_if]
  unfold val_main_v24 val_main_v23 val_main_v22 val_main_v21 val_main_v20 val_main_v19 val_main_v18 val_main_v17 val_main_v16 val_main_v15
    val_main_v14 val_main_v13 val_main_v12 val_main_v11 val_main_v10 val_main_v9 val_main_v8 val_main_v7 val_main_v6 val_main_v5
    val_main_v4 val_main_v3 val_main_v1 val_main_v0 val_main_cst
  pointwise

/-- The convolution's argument moved down by two, one and no rows. -/
theorem x2_apply (X : S4096x5632.Idx → EReal) (r : Fin 4096) (q : Fin 5632) :
    val_main_v3 (F := Ideal) X (ix2 r q) = xpad X r.val q := by
  refine Eq.trans (b := if h : r.val < 2 then 0 else X (ix2 ⟨r.val - 2, by omega⟩ q)) ?_ ?_
  · unfold val_main_v3 val_main_v1 val_main_v0 val_main_cst
    pointwise
  · by_cases h : r.val < 2
    · rw [dif_pos h, xpad_out X _ _ h]
    · rw [dif_neg h]
      exact (xpad_in X _ q ⟨r.val - 2, by omega⟩ (by show _ = r.val - 2 + 2; omega)).symm

theorem x1_apply (X : S4096x5632.Idx → EReal) (r : Fin 4096) (q : Fin 5632) :
    val_main_v9 (F := Ideal) X (ix2 r q) = xpad X (1 + r.val) q := by
  refine Eq.trans (b := if h : 1 + r.val < 2 then 0 else X (ix2 ⟨1 + r.val - 2, by omega⟩ q)) ?_ ?_
  · unfold val_main_v9 val_main_v1 val_main_v0 val_main_cst
    pointwise
  · by_cases h : 1 + r.val < 2
    · rw [dif_pos h, xpad_out X _ _ h]
    · rw [dif_neg h]
      exact (xpad_in X _ q ⟨1 + r.val - 2, by omega⟩ (by show _ = 1 + r.val - 2 + 2; omega)).symm

theorem x0_apply (X : S4096x5632.Idx → EReal) (r : Fin 4096) (q : Fin 5632) :
    val_main_v16 (F := Ideal) X (ix2 r q) = xpad X (2 + r.val) q := by
  rw [xpad_in X _ q r (by omega)]
  unfold val_main_v16 val_main_v1 val_main_v0 val_main_cst
  pointwise

/-- The convolution's result is real where its arguments are. -/
theorem u_real (X : S4096x5632.Idx → ℝ) (W : S3x5632.Idx → ℝ) (B : S1x5632.Idx → ℝ) :
    ∃ f : S4096x5632.Idx → ℝ, ∀ j, uOf (fun i => (X i : EReal)) (fun i => (W i : EReal)) (fun i => (B i : EReal)) j = (f j : EReal) := by
  have hx : ∀ n q, ∃ y : ℝ, xpad (fun i => (X i : EReal)) n q = (y : EReal) := fun n q => by
    unfold xpad
    by_cases h : 2 ≤ n ∧ n < 4098
    · exact ⟨_, dif_pos h⟩
    · exact ⟨0, dif_neg h⟩
  choose y hy using hx
  exact ⟨fun j => y (j 0).val (j 1) * W (ix2 0 (j 1)) + y (1 + (j 0).val) (j 1) * W (ix2 1 (j 1))
    + y (2 + (j 0).val) (j 1) * W (ix2 2 (j 1)) + B (ix2 0 (j 1)), fun j => by
      refine Eq.trans (congrArg₂ (fun u v : EReal => u + v) (congrArg₂ (fun u v : EReal => u + v)
        (congrArg₂ (fun u v : EReal => u + v) (congrArg (fun u : EReal => u * _) (hy _ _)) (congrArg (fun u : EReal => u * _) (hy _ _)))
        (congrArg (fun u : EReal => u * _) (hy _ _))) rfl) ?_
      push_cast
      rfl⟩

/-- The gradient of a gate at a real argument, two ways. -/
theorem gate_eq (d v g : ℝ) :
    (d : EReal) * v * Ideal.div 1 (1 + Ideal.exp (-(g : EReal)))
      + g * (d * v) * (Ideal.div 1 (1 + Ideal.exp (-(g : EReal))) * (1 - Ideal.div 1 (1 + Ideal.exp (-(g : EReal)))))
      = gateV d g v := by
  unfold gateV sgm
  rw [zero_sub]
  have h : Ideal.exp (-(g : EReal)) = (Real.exp (-g) : EReal) := by
    rw [← EReal.coe_neg, Ideal.exp_coe]
  have h1 : (1 : EReal) + (Real.exp (-g) : EReal) = ((1 + Real.exp (-g) : ℝ) : EReal) := by push_cast; rfl
  have h0 : (1 + Real.exp (-g) : ℝ) ≠ 0 := by positivity
  rw [h, h1, Ideal.div_coe h0, one_mul]
  generalize (1 / (1 + Real.exp (-g)) : ℝ) = s
  rw [← EReal.coe_one]
  simp only [← EReal.coe_mul, ← EReal.coe_sub, ← EReal.coe_add]
  congr 1
  ring

/-- The cotangent of the convolution's result, at real arguments. -/
theorem ct_ref (X : S4096x5632.Idx → ℝ) (W : S3x5632.Idx → ℝ) (B : S1x5632.Idx → ℝ) (D : S4096x2816.Idx → ℝ) (r : Fin 4096) (q : Fin 5632)
    (n : ℕ) (hn : n = r.val) :
    val_main_v32 (F := Ideal) (fun i => (X i : EReal)) (fun i => (W i : EReal)) (fun i => (B i : EReal)) (fun i => (D i : EReal)) (ix2 r q)
      = col (uOf (fun i => (X i : EReal)) (fun i => (W i : EReal)) (fun i => (B i : EReal))) (fun i => (D i : EReal)) n q.val := by
  subst hn
  have e := u_ref (fun i => (X i : EReal)) (fun i => (W i : EReal)) (fun i => (B i : EReal))
  obtain ⟨f, hf⟩ := u_real X W B
  generalize uOf (fun i => (X i : EReal)) (fun i => (W i : EReal)) (fun i => (B i : EReal)) = u at *
  unfold val_main_v32 val_main_v29 val_main_v27_0 val_main_v31 val_main_call1_v2 val_main_v27_1 val_main_call0_v7 val_main_call0_v6
    val_main_call0_cst_1 val_main_call1_v0 val_main_call1_v1 val_main_v27_2 val_main_call0_v3 val_main_call0_v1 val_main_call0_v0
    val_main_v25 val_main_call0_v2 val_main_call0_cst val_main_call0_v4 val_main_call0_cst_0 val_main_v30 val_main_v26
  generalize val_main_v24 (F := Ideal) (fun i => (X i : EReal)) (fun i => (W i : EReal)) (fun i => (B i : EReal)) = y at *
  pointwise
  unfold col
  by_cases h : q.val < 2816
  · rw [dif_pos h, if_pos h]
    unfold gateC
    rw [E_in _ _ _ r ⟨q.val, h⟩ rfl rfl, G_in _ _ _ r q rfl rfl, G_in _ _ _ r ⟨2816 + q.val, by omega⟩ rfl rfl]
    rw [e, e, hf, hf]
    exact gate_eq _ _ _
  · rw [dif_neg h, if_neg h]
    unfold upC upV sgm
    rw [E_in _ _ _ r ⟨q.val - 2816, by omega⟩ rfl rfl, G_in _ _ _ r ⟨q.val - 2816, by omega⟩ rfl rfl, zero_sub]
    rw [e]
    exact mul_comm _ _

variable (X : S4096x5632.Idx → ℝ) (W : S3x5632.Idx → ℝ) (B : S1x5632.Idx → ℝ) (D : S4096x2816.Idx → ℝ)

/-- The gradient of the convolution's rows. -/
theorem dx_ref :
    val_main_v68 (F := Ideal) (fun i => (X i : EReal)) (fun i => (W i : EReal)) (fun i => (B i : EReal)) (fun i => (D i : EReal))
      = dxOf (fun i => (X i : EReal)) (fun i => (W i : EReal)) (fun i => (B i : EReal)) (fun i => (D i : EReal)) := by
  funext j
  idx_vars j
  have e := ct_ref X W B D
  unfold val_main_v68 val_main_v67 val_main_v65 val_main_v64 val_main_cst_13 val_main_v59 val_main_v58 val_main_v6 val_main_v5 val_main_v4
    val_main_v54 val_main_v53 val_main_cst_9 val_main_v48 val_main_v47 val_main_v12 val_main_v11 val_main_v10 val_main_v43 val_main_cst_5
    val_main_v39 val_main_v38 val_main_v19 val_main_v18 val_main_v17
  generalize val_main_v32 (F := Ideal) (fun i => (X i : EReal)) (fun i => (W i : EReal)) (fun i => (B i : EReal)) (fun i => (D i : EReal)) = y at *
  pointwise
  unfold dxOf dxv
  refine congrArg₂ (fun u v : EReal => u + v) (congrArg₂ (fun u v : EReal => u + v) ?_ ?_) ?_
  · rw [e _ _ _ rfl]
    rfl
  · by_cases h : 1 ≤ 2 + j0.val ∧ 2 + j0.val - 1 < 4096
    · rw [dif_pos h, e _ _ (j0.val + 1) (by show _ = 2 + j0.val - 1; omega)]
      rfl
    · rw [dif_neg h, col_out _ _ _ _ (by show 4096 ≤ j0.val + 1; omega), zero_mul]
  · by_cases h : 2 + j0.val < 4096
    · rw [dif_pos h, e _ _ (j0.val + 2) (by show _ = 2 + j0.val; omega)]
      rfl
    · rw [dif_neg h, col_out _ _ _ _ (by show 4096 ≤ j0.val + 2; omega), zero_mul]

/-- The gradient of the bias. -/
theorem dcb_ref :
    val_main_v34 (F := Ideal) (fun i => (X i : EReal)) (fun i => (W i : EReal)) (fun i => (B i : EReal)) (fun i => (D i : EReal))
      = dcbOf (fun i => (X i : EReal)) (fun i => (W i : EReal)) (fun i => (B i : EReal)) (fun i => (D i : EReal)) := by
  funext j
  idx_vars j
  have e := ct_ref X W B D
  unfold val_main_v34 val_main_v33 val_main_cst_1
  generalize val_main_v32 (F := Ideal) (fun i => (X i : EReal)) (fun i => (W i : EReal)) (fun i => (B i : EReal)) (fun i => (D i : EReal)) = y at *
  pointwise
  exact Finset.sum_congr rfl fun s _ => e s j1 _ rfl

/-- A sum of products against rows moved down by `j` is the sum against the factor moved up by `j`. -/
theorem sum_shift (N j k : ℕ) (c p x : ℕ → EReal) (hj : j ≤ N) (hk : k + j = 2) (p0 : ∀ n, n < 2 → p n = 0)
    (px : ∀ n, n < N → p (n + 2) = x n) (c0 : ∀ n, N ≤ n → c n = 0) :
    ∑ r : Fin N, p (k + r.val) * c r.val = ∑ u : Fin N, c (u.val + j) * x u.val := by
  rw [Fin.sum_univ_eq_sum_range (fun n => p (k + n) * c n) N, Fin.sum_univ_eq_sum_range (fun n => c (n + j) * x n) N]
  obtain ⟨M, rfl⟩ : ∃ M, N = M + j := ⟨N - j, by omega⟩
  rw [Finset.sum_range_add (fun n => c (n + j) * x n) M j, add_comm M j, Finset.sum_range_add (fun n => p (k + n) * c n) j M,
    Finset.sum_eq_zero (s := Finset.range j) (fun i hi => by
      have := Finset.mem_range.1 hi
      rw [p0 _ (by omega), zero_mul]), zero_add,
    Finset.sum_eq_zero (s := Finset.range j) (fun i hi => by rw [c0 _ (by omega), zero_mul]), add_zero]
  refine Finset.sum_congr rfl fun i hi => ?_
  have := Finset.mem_range.1 hi
  rw [show k + (j + i) = i + 2 by omega, px _ (by omega), mul_comm, add_comm j i]

/-- The taps' gradient from the rows of zeros and the argument, as the sum that the kernel accumulates. -/
theorem tap_sum (Y A : S4096x5632.Idx → EReal) (E : S4096x2816.Idx → EReal) (q : Fin 5632) (j k : ℕ) (hk : k + j = 2) :
    ∑ r : Fin 4096, xpad A (k + r.val) q * col Y E r.val q.val = ∑ u : Fin 4096, cwTerm Y E A j q.val u.val :=
  sum_shift 4096 j k (fun n => col Y E n q.val) (fun n => xpad A n q) (fun n => G A n q.val) (by omega) hk
    (fun n h => xpad_out A n q h) (fun n h => (xpad_in A _ q ⟨n, h⟩ rfl).trans (G_in A n _ ⟨n, h⟩ q rfl rfl).symm)
    (fun n h => col_out Y E n _ h)

/-- The gradient of the taps. -/
theorem dcw_ref :
    val_main_v63 (F := Ideal) (fun i => (X i : EReal)) (fun i => (W i : EReal)) (fun i => (B i : EReal)) (fun i => (D i : EReal))
      = dcwOf (fun i => (X i : EReal)) (fun i => (W i : EReal)) (fun i => (B i : EReal)) (fun i => (D i : EReal)) := by
  funext j
  idx_vars j
  have e := ct_ref X W B D
  have e2 := x2_apply (fun i => (X i : EReal))
  have e1 := x1_apply (fun i => (X i : EReal))
  have e0 := x0_apply (fun i => (X i : EReal))
  unfold val_main_v63 val_main_v62 val_main_cst_12 val_main_v61 val_main_v60 val_main_cst_11 val_main_v57 val_main_v56 val_main_cst_10
    val_main_v55 val_main_v52 val_main_v51 val_main_cst_8 val_main_v50 val_main_v49 val_main_cst_7 val_main_v46 val_main_v45 val_main_cst_6
    val_main_v44 val_main_v42 val_main_cst_4 val_main_v41 val_main_v40 val_main_cst_3 val_main_v37 val_main_v36 val_main_cst_2 val_main_v35
    dcwOf
  generalize val_main_v32 (F := Ideal) (fun i => (X i : EReal)) (fun i => (W i : EReal)) (fun i => (B i : EReal)) (fun i => (D i : EReal)) = y at *
  generalize val_main_v3 (F := Ideal) (fun i => (X i : EReal)) = y2 at *
  generalize val_main_v9 (F := Ideal) (fun i => (X i : EReal)) = y1 at *
  generalize val_main_v16 (F := Ideal) (fun i => (X i : EReal)) = y0 at *
  match j0 with
  | 0 =>
    refine Eq.trans ?_ (tap_sum _ (fun i => (X i : EReal)) (fun i => (D i : EReal)) j1 2 0 rfl)
    pointwise
    simp only [Finset.univ_unique, Finset.sum_singleton, zero_add, add_zero]
    exact Finset.sum_congr rfl fun s _ => by rw [e2, e s j1 _ rfl]
  | 1 =>
    refine Eq.trans ?_ (tap_sum _ (fun i => (X i : EReal)) (fun i => (D i : EReal)) j1 1 1 rfl)
    pointwise
    simp only [Finset.univ_unique, Finset.sum_singleton, zero_add, add_zero]
    exact Finset.sum_congr rfl fun s _ => by rw [e1, e s j1 _ rfl]
  | 2 =>
    refine Eq.trans ?_ (tap_sum _ (fun i => (X i : EReal)) (fun i => (D i : EReal)) j1 0 2 rfl)
    pointwise
    simp only [Finset.univ_unique, Finset.sum_singleton, zero_add, add_zero]
    exact Finset.sum_congr rfl fun s _ => by rw [e0, e s j1 _ rfl]

end Cert.GluGradIdeal.RefValue
-- ==== Proof.GluClaim.lean ====
/-
  The claims about the gated unit's gradients: `GluBwd` against `GluGrad`.
-/
module

public import proofs.«01_k».proof.Defs
public import proofs.«01_k».proof.Proof.GluRef

@[expose] public section

set_option maxRecDepth 16384

noncomputable section

namespace Cert.GluClaim

open Idealize.ShloMosaic Idealize.ShloMosaic.TcCoe Idealize.SL.Sem
open Cert.GluBwdIdeal.RowValue (dxOf dcwOf dcbOf dx_final dcw_final dcb_final)
open Cert.GluGradIdeal.RefValue (dx_ref dcw_ref dcb_ref)

/-- The precondition's operations take these facts. -/
instance finite_facts : Cert.Pre_finite_glu.Facts := by
  constructor <;> decide

/-- The precondition says that the arguments are arrays of real numbers. -/
theorem reals {a : Pre_finite_glu.S4096x5632.Idx → EReal} {w : Pre_finite_glu.S3x5632.Idx → EReal}
    {b : Pre_finite_glu.S1x5632.Idx → EReal} {d : Pre_finite_glu.S4096x2816.Idx → EReal} [Pre_finite_glu.Facts]
    (h : Pre_finite_glu.fn (F := Ideal) a w b d = fun _ => 1#1) :
    (∃ f : Pre_finite_glu.S4096x5632.Idx → ℝ, a = fun i => (f i : EReal))
    ∧ (∃ f : Pre_finite_glu.S3x5632.Idx → ℝ, w = fun i => (f i : EReal))
    ∧ (∃ f : Pre_finite_glu.S1x5632.Idx → ℝ, b = fun i => (f i : EReal))
    ∧ (∃ f : Pre_finite_glu.S4096x2816.Idx → ℝ, d = fun i => (f i : EReal)) := by
  have e := congrFun h (fun a => a.elim0)
  dsimp only [Pre_finite_glu.fn, Pre_finite_glu.fn_part1] at e
  obtain ⟨e, h3⟩ := IntOp.andi_eq_one.1 e
  obtain ⟨e, h2⟩ := IntOp.andi_eq_one.1 e
  obtain ⟨h0, h1⟩ := IntOp.andi_eq_one.1 e
  exact ⟨Reals.reals_of_all a _ _ _ _ _ (fun _ => rfl) h0, Reals.reals_of_all w _ _ _ _ _ (fun _ => rfl) h1,
    Reals.reals_of_all b _ _ _ _ _ (fun _ => rfl) h2, Reals.reals_of_all d _ _ _ _ _ (fun _ => rfl) h3⟩

/-- Both programs compute the same three gradients over the extended reals. -/
theorem algebraic : algebraic_GluBwdIdeal_GluGradIdeal_pre_finite_glu (hGluBwdIdeal := Cert.GluBwdIdeal.Gen.facts)
    (hGluGradIdeal := Cert.GluGradIdeal.Gen.facts) (hPre_finite_glu := finite_facts) := fun m ρ m' ρ' hpre hag =>
  ⟨fun c => dxOf (m ((c.tc : Thread _ _).loc GluBwdIdeal.main_arg0)) (m ((c.tc : Thread _ _).loc GluBwdIdeal.main_arg1))
      (m ((c.tc : Thread _ _).loc GluBwdIdeal.main_arg2)) (m ((c.tc : Thread _ _).loc GluBwdIdeal.main_arg3)),
    fun c => dcwOf (m ((c.tc : Thread _ _).loc GluBwdIdeal.main_arg0)) (m ((c.tc : Thread _ _).loc GluBwdIdeal.main_arg1))
      (m ((c.tc : Thread _ _).loc GluBwdIdeal.main_arg2)) (m ((c.tc : Thread _ _).loc GluBwdIdeal.main_arg3)),
    fun c => dcbOf (m ((c.tc : Thread _ _).loc GluBwdIdeal.main_arg0)) (m ((c.tc : Thread _ _).loc GluBwdIdeal.main_arg1))
      (m ((c.tc : Thread _ _).loc GluBwdIdeal.main_arg2)) (m ((c.tc : Thread _ _).loc GluBwdIdeal.main_arg3)),
    (θ_run _ _ _).mono (fun _ h c => ⟨(h c).1.trans (dx_final m c), (h c).2.1.trans (dcw_final m c),
      (h c).2.2.1.trans (dcb_final m c), (h c).2.2.2⟩) (GluBwdIdeal.Value.run_blocks m ρ),
    (θ_run _ _ _).mono (fun _ h c => by
      obtain ⟨⟨a, ha⟩, ⟨w, hw⟩, ⟨b, hb⟩, ⟨d, hd⟩⟩ := reals (hpre c)
      obtain ⟨e0, e1, e2, e3⟩ := hag c
      refine ⟨(h c).1.trans ?_, (h c).2.1.trans ?_, (h c).2.2.1.trans ?_, (h c).2.2.2⟩
      · refine (GluGradIdeal.Read.val_main_v68_eq _ _).trans ?_
        refine Eq.trans ?_ ((dx_ref a w b d).trans ?_)
        · rw [← ha, ← hw, ← hb, ← hd, ← e0, ← e1, ← e2, ← e3]
        · rw [← ha, ← hw, ← hb, ← hd]
      · refine (GluGradIdeal.Read.val_main_v63_eq _ _).trans ?_
        refine Eq.trans ?_ ((dcw_ref a w b d).trans ?_)
        · rw [← ha, ← hw, ← hb, ← hd, ← e0, ← e1, ← e2, ← e3]
        · rw [← ha, ← hw, ← hb, ← hd]
      · refine (GluGradIdeal.Read.val_main_v34_eq _ _).trans ?_
        refine Eq.trans ?_ ((dcb_ref a w b d).trans ?_)
        · rw [← ha, ← hw, ← hb, ← hd, ← e0, ← e1, ← e2, ← e3]
        · rw [← ha, ← hw, ← hb, ← hd]) (GluGradIdeal.Value.run m' ρ')⟩

/-- The frame of the reference: its run with the results forgotten. -/
theorem frame_ref : quiescent_GluGradIdeal (hGluGradIdeal := Cert.GluGradIdeal.Gen.facts) := fun m ρ _ =>
  (θ_run _ _ _).mono (fun r h => ⟨fun c => (h c).2.2.2, sem_eq_zero_of_no_sems (by decide) r.2⟩)
    (GluGradIdeal.Value.run m ρ)

end Cert.GluClaim
-- ==== Proof.QkNormValue.lean ====
/-
  What the kernel `QkNormBwd` computes over the extended reals, read at an index: a block's windows as rows of the
  arguments, and the gradient of the norm of a head at a row and a column.
-/
module

public import proofs.«01_k».proof.Proof.Gen.QkNormBwdIdeal.Value
public import proofs.«01_k».proof.Proof.Reals
public import Idealize.ShloMosaic.Lib.Pipeline.ReadBack
public import Idealize.ShloMosaic.Lib.KernelVsHost

@[expose] public section

set_option maxRecDepth 16384

noncomputable section

namespace Cert.QkNormBwdIdeal.RowValue

open Cert.QkNormBwdIdeal Cert.QkNormBwdIdeal.Gen Idealize.ShloMosaic Idealize.ShloMosaic.TcCoe Idealize.SL.Sem
open Idealize.ShloMosaic.Pipeline (Dat)

variable (m : (ℓ : Loc nD τ sig) → Buf (Elt Ideal) ℓ)

/-- The arguments as arrays of extended reals. -/
abbrev A0 (c : Dev nD) : S4096x3072.Idx → EReal := m ((c : Thread nD τ).loc main_arg0)
abbrev A1 (c : Dev nD) : S4096x1024.Idx → EReal := m ((c : Thread nD τ).loc main_arg1)
abbrev A2 (c : Dev nD) : S4096x1024.Idx → EReal := m ((c : Thread nD τ).loc main_arg2)
abbrev A3 (c : Dev nD) : S4096x1024.Idx → EReal := m ((c : Thread nD τ).loc main_arg3)
abbrev A4 (c : Dev nD) : S1x64.Idx → EReal := m ((c : Thread nD τ).loc main_arg4)
abbrev A5 (c : Dev nD) : S1x64.Idx → EReal := m ((c : Thread nD τ).loc main_arg5)

/-- The index maps as closed forms. -/
theorem idx : ∀ t : Fin grid0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0] ∧ win0_6.index t = ![t.val, 0]
    ∧ win0_7.index t = ![0, 0, 0] := by decide +kernel

theorem N_16 : cfg0.N = 16 := N_0

theorem lt16 (t : Fin cfg0.N) : t.val < 16 := by
  have := t.isLt
  have := N_16
  omega

/-- The host's arrays that the region reads: the gains of the heads, and the matrix that takes the mean over a head. -/
abbrev V13 (c : Dev nD) : S3x1x1024.Idx → EReal := V m c main_v13
abbrev V20 (c : Dev nD) : S256x256.Idx → EReal := V m c main_v24

theorem gain0 (c : Dev nD) (q : Fin 1024) : V13 m c (ix3 0 0 q) = A4 m c (ix2 0 ⟨q.val % 64, Nat.mod_lt _ (by norm_num)⟩) := by
  unfold V13 V
  after_results_simp
  pointwise
  after_results_simp
  pointwise
theorem gain1 (c : Dev nD) (q : Fin 1024) : V13 m c (ix3 1 0 q) = A5 m c (ix2 0 ⟨q.val % 64, Nat.mod_lt _ (by norm_num)⟩) := by
  unfold V13 V
  after_results_simp
  pointwise
  after_results_simp
  pointwise

theorem select_if (p : Prop) [Decidable p] (a b : EReal) : Scalar.select (if p then 1#1 else 0#1) a b = if p then a else b := by
  by_cases h : p <;> simp [h, Scalar.select]

/-- The head of a column of the matrix, as a word. -/
theorem div_word : ∀ e : Fin 256, IntOp.divsi .host (BitVec.ofNat 32 e.val) 64#32 = BitVec.ofNat 32 (e.val / 64) := by decide +kernel
theorem eq_word : ∀ a b : Fin 4, IntOp.cmpi .eq (BitVec.ofNat 32 a.val) (BitVec.ofNat 32 b.val) = if a.val = b.val then 1#1 else 0#1 := by
  decide +kernel

theorem means (c : Dev nD) (e k : Fin 256) :
    V20 m c (ix2 e k) = if e.val / 64 = k.val / 64 then Ideal.ofBits .f32 0x3C800000#32 else 0 := by
  unfold V20 V
  after_results_simp
  pointwise
  rw [div_word, div_word]
  have h := eq_word ⟨e.val / 64, by omega⟩ ⟨k.val / 64, by omega⟩
  simp only at h
  rw [h, select_if]

/-- A block's windows as rows of those arrays. -/
theorem blk0 (c : Dev nD) (t : Fin cfg0.N) (r : Fin 256) (s : Fin 3072) (u : Fin 4096) (hu : u.val = t.val * 256 + r.val) :
    iblk m c 0 t (ix2 r s) = A0 m c (ix2 u s) := by
  blk_ext! [iblk, V, idx t]
theorem blk1 (c : Dev nD) (t : Fin cfg0.N) (r : Fin 256) (s : Fin 1024) (u : Fin 4096) (hu : u.val = t.val * 256 + r.val) :
    iblk m c 1 t (ix2 r s) = A1 m c (ix2 u s) := by
  blk_ext! [iblk, V, idx t]
theorem blk2 (c : Dev nD) (t : Fin cfg0.N) (r : Fin 256) (s : Fin 1024) (u : Fin 4096) (hu : u.val = t.val * 256 + r.val) :
    iblk m c 2 t (ix2 r s) = A2 m c (ix2 u s) := by
  blk_ext! [iblk, V, idx t]
theorem blk3 (c : Dev nD) (t : Fin cfg0.N) (r : Fin 256) (s : Fin 1024) (u : Fin 4096) (hu : u.val = t.val * 256 + r.val) :
    iblk m c 3 t (ix2 r s) = A3 m c (ix2 u s) := by
  blk_ext! [iblk, V, idx t]
theorem blk4 (c : Dev nD) (t : Fin cfg0.N) (p : Fin 3) (s : Fin 1024) : iblk m c 4 t (ix3 p 0 s) = V13 m c (ix3 p 0 s) := by
  blk_ext [iblk, idx t]
theorem blk5 (c : Dev nD) (t : Fin cfg0.N) (e k : Fin 256) : iblk m c 5 t (ix2 e k) = V20 m c (ix2 e k) := by
  blk_ext [iblk, idx t]

/-- A sum against a column of the matrix is the sum over the column's head. -/
theorem head_sum (f : ℕ → EReal) (w : EReal) (b k : ℕ) (hk : k < 256) :
    ∑ e : Fin 256, f (b + e.val) * (if e.val / 64 = k / 64 then w else 0) = ∑ j : Fin 64, f (b + k / 64 * 64 + j.val) * w := by
  symm
  refine Fintype.sum_of_injective (fun j : Fin 64 => (⟨k / 64 * 64 + j.val, by omega⟩ : Fin 256)) (fun a b h => ?_) _ _ (fun e he => ?_) (fun j => ?_)
  · have := congrArg Fin.val h
    exact Fin.ext (by simp only at this; omega)
  · rw [if_neg, mul_zero]
    intro h
    exact he ⟨⟨e.val % 64, by omega⟩, Fin.ext (by simp only; omega)⟩
  · have h : (k / 64 * 64 + j.val) / 64 = k / 64 := by omega
    simp only [h, if_true, add_assoc]

/-- The mean over the heads as the kernel takes it: the products of four groups of columns with the matrix. -/
def headMean (v : FVec Ideal S256x1024 .bf16) (v3 : FVec Ideal S256x256 .bf16) : FVec Ideal S256x1024 .f32 :=
  concatenate S256x1024 1
    [⟨S256x256, matmul dot_S256x256_S256x256_S256x256_1_0_0_1_n_n none
        (extractStridedSlice S256x256 ![0, 0] v slices_S256x1024_o0_0_S256x256) v3 (constant S256x256 .f32 0x00000000#32)⟩,
      ⟨S256x256, matmul dot_S256x256_S256x256_S256x256_1_0_0_1_n_n none
        (extractStridedSlice S256x256 ![0, 256] v slices_S256x1024_o0_256_S256x256) v3 (constant S256x256 .f32 0x00000000#32)⟩,
      ⟨S256x256, matmul dot_S256x256_S256x256_S256x256_1_0_0_1_n_n none
        (extractStridedSlice S256x256 ![0, 512] v slices_S256x1024_o0_512_S256x256) v3 (constant S256x256 .f32 0x00000000#32)⟩,
      ⟨S256x256, matmul dot_S256x256_S256x256_S256x256_1_0_0_1_n_n none
        (extractStridedSlice S256x256 ![0, 768] v slices_S256x1024_o0_768_S256x256) v3 (constant S256x256 .f32 0x00000000#32)⟩]
    concatenates_S256x256_S256x256_S256x256_S256x256_S256x1024_d1

theorem headMean_apply (v : S256x1024.Idx → EReal) (v3 : S256x256.Idx → EReal) (w : EReal)
    (h3 : ∀ e k : Fin 256, v3 (ix2 e k) = if e.val / 64 = k.val / 64 then w else 0) (f : ℕ → EReal) (r : Fin 256)
    (hf : ∀ q : Fin 1024, v (ix2 r q) = f q.val) (q : Fin 1024) :
    headMean v v3 (ix2 r q) = ∑ j : Fin 64, f (q.val / 64 * 64 + j.val) * w := by
  unfold headMean
  pointwise
  simp only [h3, hf]
  by_cases h0 : q.val < 256
  · rw [dif_pos h0]
    have h := head_sum f w 0 q.val h0
    simp only [Nat.zero_add] at h
    exact h
  rw [dif_neg h0]
  by_cases h1 : q.val - 256 < 256
  · rw [dif_pos h1]
    refine (head_sum f w 256 _ h1).trans (Finset.sum_congr rfl fun j _ => ?_)
    rw [show 256 + (q.val - 256) / 64 * 64 = q.val / 64 * 64 by omega]
  rw [dif_neg h1]
  by_cases h2 : q.val - 256 - 256 < 256
  · rw [dif_pos h2]
    refine (head_sum f w 512 _ h2).trans (Finset.sum_congr rfl fun j _ => ?_)
    rw [show 512 + (q.val - 256 - 256) / 64 * 64 = q.val / 64 * 64 by omega]
  · rw [dif_neg h2]
    refine (head_sum f w 768 _ (by omega)).trans (Finset.sum_congr rfl fun j _ => ?_)
    rw [show 768 + (q.val - 256 - 256 - 256) / 64 * 64 = q.val / 64 * 64 by omega]

/-- One over the root of a head's mean square plus the small constant. -/
def rad (w : EReal) (x : ℕ → EReal) (q : ℕ) : EReal :=
  Ideal.rsqrt ((∑ j : Fin 64, x (q / 64 * 64 + j.val) * x (q / 64 * 64 + j.val) * w) + Ideal.ofBits .f32 0x358637BD#32)

/-- The gradient of a head's norm at a column, from the row and the row of the cotangent times the gain. -/
def dxN (w : EReal) (x e : ℕ → EReal) (q : ℕ) : EReal :=
  rad w x q * e q - x q * (rad w x q * rad w x q * rad w x q * ∑ j : Fin 64, e (q / 64 * 64 + j.val) * x (q / 64 * 64 + j.val) * w)

/-- The kernel's reciprocal roots and its gradient, as vectors. -/
def radVec (v3 : FVec Ideal S256x256 .bf16) (x : FVec Ideal S256x1024 .f32) : FVec Ideal S256x1024 .f32 :=
  rsqrt (addf (headMean (truncf .bf16 (mulf x x) bitsLt_bf16_f32) v3) (broadcast S256x1024 (Scalar.ofBits .f32 0x358637BD#32)))
def dxVec (v3 : FVec Ideal S256x256 .bf16) (x e : FVec Ideal S256x1024 .f32) : FVec Ideal S256x1024 .bf16 :=
  truncf .bf16 (subf (mulf (radVec v3 x) e) (mulf x (mulf (mulf (mulf (radVec v3 x) (radVec v3 x)) (radVec v3 x))
    (headMean (truncf .bf16 (mulf e x) bitsLt_bf16_f32) v3)))) bitsLt_bf16_f32

theorem pay6_eq (v3 : Vec Ideal S256x256 .bf16) (x : Vec Ideal S256x1024 .f32) : k0_pay6 v3 x = radVec (k0_pay5 v3) x := rfl
theorem pay17_eq (v3 : Vec Ideal S256x256 .bf16) (x : Vec Ideal S256x1024 .f32) : k0_pay17 v3 x = radVec v3 x := rfl
theorem pay15_eq (v3 : Vec Ideal S256x256 .bf16) (x d : Vec Ideal S256x1024 .f32) (g : Vec Ideal S1x1x1024 .f32) :
    k0_pay15 x (k0_pay8 v3 x d g) (k0_pay9 v3 x) (k0_pay11 v3 x d g) (k0_pay12 v3 x d g) (k0_pay13 v3 x d g) (k0_pay14 v3 x d g)
      = dxVec (k0_pay5 v3) x (k0_pay7 d g) := rfl
theorem pay1_eq (v3 : Vec Ideal S256x256 .bf16) (x d : Vec Ideal S256x1024 .f32) (g : Vec Ideal S1x1x1024 .f32) :
    k0_pay1 v3 x (k0_pay17 v3 x) (k0_pay18 d g) (k0_pay19 v3 x d g) = dxVec v3 x (k0_pay7 d g) := rfl

section row

variable (v3 : S256x256.Idx → EReal) (w : EReal) (h3 : ∀ e k : Fin 256, v3 (ix2 e k) = if e.val / 64 = k.val / 64 then w else 0)
  (x : S256x1024.Idx → EReal) (f : ℕ → EReal) (r : Fin 256) (hf : ∀ q : Fin 1024, x (ix2 r q) = f q.val)
include h3 hf

theorem rad_apply (q : Fin 1024) : radVec v3 x (ix2 r q) = rad w f q.val := by
  have h := headMean_apply (truncf (F := Ideal) (φ := .f32) .bf16 (mulf (F := Ideal) (φ := .f32) x x) bitsLt_bf16_f32) v3 w h3 (fun q => f q * f q) r
    (fun q => by pointwise; rw [hf]) q
  unfold radVec
  generalize headMean _ _ = y at *
  pointwise
  rw [h]
  rfl

theorem dx_apply (e : S256x1024.Idx → EReal) (g : ℕ → EReal) (hg : ∀ q : Fin 1024, e (ix2 r q) = g q.val) (q : Fin 1024) :
    dxVec v3 x e (ix2 r q) = dxN w f g q.val := by
  have h := headMean_apply (truncf (F := Ideal) (φ := .f32) .bf16 (mulf (F := Ideal) (φ := .f32) e x) bitsLt_bf16_f32) v3 w h3 (fun q => g q * f q) r
    (fun q => by pointwise; rw [hf, hg]) q
  have h' := rad_apply v3 w h3 x f r hf q
  unfold dxVec
  generalize headMean _ _ = y at *
  generalize radVec _ _ = z at *
  pointwise
  rw [h, h', hf, hg]
  rfl

end row

end Cert.QkNormBwdIdeal.RowValue
-- ==== Proof.QkNormOut.lean ====
/-
  The results of `QkNormBwd`: each block's part put together, and the accumulated gradients of the gains after the last
  block.
-/
module

public import proofs.«01_k».proof.Proof.QkNormValue
public import Idealize.ShloMosaic.Lib.WritesUnit
public import Idealize.ShloMosaic.Lib.Pipeline.RowLoads

@[expose] public section

set_option maxRecDepth 16384

noncomputable section

namespace Cert.QkNormBwdIdeal.RowValue

open Cert.QkNormBwdIdeal Cert.QkNormBwdIdeal.Gen Idealize.ShloMosaic Idealize.ShloMosaic.TcCoe Idealize.SL.Sem
open Idealize.ShloMosaic.Pipeline (Dat)

/-- One over a head's width, as the kernel's matrix holds it. -/
abbrev w64 : EReal := Ideal.ofBits .f32 0x3C800000#32

/-- The columns of the queries (`p = 0`) or of the keys (`p = 1024`) in a row, a cotangent's row, and a cotangent's row times
    the gains. -/
def xRow (X : S4096x3072.Idx → EReal) (p n q : ℕ) : EReal := if h : n < 4096 ∧ p + q < 3072 then X (ix2 ⟨n, h.1⟩ ⟨p + q, h.2⟩) else 0
def dRow (D : S4096x1024.Idx → EReal) (n q : ℕ) : EReal := if h : n < 4096 ∧ q < 1024 then D (ix2 ⟨n, h.1⟩ ⟨q, h.2⟩) else 0
def eRow (D : S4096x1024.Idx → EReal) (g : S1x64.Idx → EReal) (n q : ℕ) : EReal :=
  dRow D n q * g (ix2 0 ⟨q % 64, Nat.mod_lt _ (by norm_num)⟩)

/-- The gradient of the projection at a row and a column: of the queries, of the keys, and of the values. -/
def dxAt (X : S4096x3072.Idx → EReal) (Dq Dk Dv : S4096x1024.Idx → EReal) (gq gk : S1x64.Idx → EReal) (n s : ℕ) : EReal :=
  if s < 1024 then dxN w64 (xRow X 0 n) (eRow Dq gq n) s
  else if s < 2048 then dxN w64 (xRow X 1024 n) (eRow Dk gk n) (s - 1024) else dRow Dv n (s - 2048)

/-- A row's term of the gradient of the gains, per head and column. -/
def dgTerm (X : S4096x3072.Idx → EReal) (D : S4096x1024.Idx → EReal) (p q n : ℕ) : EReal :=
  dRow D n q * (xRow X p n q * rad w64 (xRow X p n) q)
def dgAt (X : S4096x3072.Idx → EReal) (Dq Dk : S4096x1024.Idx → EReal) (i q n : ℕ) : EReal :=
  if i = 0 then dgTerm X Dq 0 q n else if i = 1 then dgTerm X Dk 1024 q n else 0

variable (m : (ℓ : Loc nD τ sig) → Buf (Elt Ideal) ℓ)

abbrev xCols (c : Dev nD) (t : Fin cfg0.N) (p : ℕ) (h : ∀ a : Fin 2, (![0, p] : Fin 2 → ℕ) a + (![256, 1024] : Fin 2 → ℕ) a ≤ (![256, 3072] : Fin 2 → ℕ) a) :
    S256x1024.Idx → EReal :=
  View.ld (Val := Elt Ideal) (e' := .f32) (iblk m c 0 t) (Rect.unit (s := S256x3072) ![0, p] ![256, 1024] h)
abbrev gains (c : Dev nD) (t : Fin cfg0.N) (i : ℕ) (h : ∀ a : Fin 3, (![i, 0, 0] : Fin 3 → ℕ) a + (![1, 1, 1024] : Fin 3 → ℕ) a ≤ (![3, 1, 1024] : Fin 3 → ℕ) a) :
    S1x1x1024.Idx → EReal :=
  View.ld (Val := Elt Ideal) (e' := .f32) (iblk m c 4 t) (Rect.unit (s := S3x1x1024) ![i, 0, 0] ![1, 1, 1024] h)

theorem xCols_apply (c : Dev nD) (t : Fin cfg0.N) (p : ℕ) (hp : p + 1024 ≤ 3072) (h) (r : Fin 256) (q : Fin 1024) :
    xCols m c t p h (ix2 r q) = xRow (A0 m c) p (t.val * 256 + r.val) q.val := by
  have ht := lt16 t
  rw [xRow, dif_pos ⟨by omega, by omega⟩]
  refine Eq.trans ?_ (blk0 m c t r ⟨p + q.val, by omega⟩ ⟨t.val * 256 + r.val, by omega⟩ rfl)
  unfold xCols
  generalize iblk m c 0 t = v
  pointwise

theorem d1_apply (c : Dev nD) (t : Fin cfg0.N) (r : Fin 256) (q : Fin 1024) :
    iblk m c 1 t (ix2 r q) = dRow (A1 m c) (t.val * 256 + r.val) q.val := by
  have ht := lt16 t
  rw [dRow, dif_pos ⟨by omega, by omega⟩]
  exact blk1 m c t r q ⟨t.val * 256 + r.val, by omega⟩ rfl
theorem d2_apply (c : Dev nD) (t : Fin cfg0.N) (r : Fin 256) (q : Fin 1024) :
    iblk m c 2 t (ix2 r q) = dRow (A2 m c) (t.val * 256 + r.val) q.val := by
  have ht := lt16 t
  rw [dRow, dif_pos ⟨by omega, by omega⟩]
  exact blk2 m c t r q ⟨t.val * 256 + r.val, by omega⟩ rfl
theorem d3_apply (c : Dev nD) (t : Fin cfg0.N) (r : Fin 256) (q : Fin 1024) :
    iblk m c 3 t (ix2 r q) = dRow (A3 m c) (t.val * 256 + r.val) q.val := by
  have ht := lt16 t
  rw [dRow, dif_pos ⟨by omega, by omega⟩]
  exact blk3 m c t r q ⟨t.val * 256 + r.val, by omega⟩ rfl

theorem gains0_apply (c : Dev nD) (t : Fin cfg0.N) (h) (q : Fin 1024) :
    gains m c t 0 h (ix3 0 0 q) = A4 m c (ix2 0 ⟨q.val % 64, Nat.mod_lt _ (by norm_num)⟩) := by
  refine Eq.trans ?_ ((blk4 m c t 0 q).trans (gain0 m c q))
  unfold gains
  generalize iblk m c 4 t = v
  pointwise
theorem gains1_apply (c : Dev nD) (t : Fin cfg0.N) (h) (q : Fin 1024) :
    gains m c t 1 h (ix3 0 0 q) = A5 m c (ix2 0 ⟨q.val % 64, Nat.mod_lt _ (by norm_num)⟩) := by
  refine Eq.trans ?_ ((blk4 m c t 1 q).trans (gain1 m c q))
  unfold gains
  generalize iblk m c 4 t = v
  pointwise

/-- The matrix as the kernel reads it. -/
theorem mat (c : Dev nD) (t : Fin cfg0.N) (e k : Fin 256) :
    k0_pay5 (F := Ideal) (iblk m c 5 t) (ix2 e k) = if e.val / 64 = k.val / 64 then w64 else 0 := by
  refine Eq.trans ?_ ((blk5 m c t e k).trans (means m c e k))
  generalize iblk m c 5 t = v
  unfold k0_pay5
  pointwise

/-- A cotangent's row times the gains. -/
theorem pay7_apply (d : S256x1024.Idx → EReal) (g : S1x1x1024.Idx → EReal) (r : Fin 256) (q : Fin 1024) (a b : EReal)
    (ha : d (ix2 r q) = a) (hb : g (ix3 0 0 q) = b) : k0_pay7 (F := Ideal) d g (ix2 r q) = a * b := by
  rw [← ha, ← hb]
  unfold k0_pay7
  pointwise

theorem dx_q (c : Dev nD) (t : Fin cfg0.N) (h h') (r : Fin 256) (q : Fin 1024) :
    dxVec (k0_pay5 (F := Ideal) (iblk m c 5 t)) (xCols m c t 0 h) (k0_pay7 (iblk m c 1 t) (gains m c t 0 h')) (ix2 r q)
      = dxN w64 (xRow (A0 m c) 0 (t.val * 256 + r.val)) (eRow (A1 m c) (A4 m c) (t.val * 256 + r.val)) q.val :=
  dx_apply _ w64 (mat m c t) _ _ r (xCols_apply m c t 0 (by omega) h r) _ (eRow (A1 m c) (A4 m c) (t.val * 256 + r.val))
    (fun q => pay7_apply _ _ r q _ _ (d1_apply m c t r q) (gains0_apply m c t h' q)) q
theorem dx_k (c : Dev nD) (t : Fin cfg0.N) (h h') (r : Fin 256) (q : Fin 1024) :
    dxVec (k0_pay5 (F := Ideal) (iblk m c 5 t)) (xCols m c t 1024 h) (k0_pay7 (iblk m c 2 t) (gains m c t 1 h')) (ix2 r q)
      = dxN w64 (xRow (A0 m c) 1024 (t.val * 256 + r.val)) (eRow (A2 m c) (A5 m c) (t.val * 256 + r.val)) q.val :=
  dx_apply _ w64 (mat m c t) _ _ r (xCols_apply m c t 1024 (by omega) h r) _ (eRow (A2 m c) (A5 m c) (t.val * 256 + r.val))
    (fun q => pay7_apply _ _ r q _ _ (d2_apply m c t r q) (gains1_apply m c t h' q)) q

/-- A block's part of the projection's gradient. -/
def dxBlk (c : Dev nD) (t : Fin cfg0.N) (j : S256x3072.Idx) : EReal :=
  dxAt (A0 m c) (A1 m c) (A2 m c) (A3 m c) (A4 m c) (A5 m c) (t.val * 256 + (j 0).val) (j 1).val

theorem dx_at (c : Dev nD) (t : Fin cfg0.N) (r : Fin 256) (s : ℕ) (y : S256x3072.Idx) (v : EReal)
    (hv : v = dxAt (A0 m c) (A1 m c) (A2 m c) (A3 m c) (A4 m c) (A5 m c) (t.val * 256 + r.val) s) (h0 : (y 0).val = r.val)
    (h1 : (y 1).val = s) : v = dxBlk m c t y := by
  rw [hv, dxBlk, h0, h1]

theorem dx_blk (c : Dev nD) (t : Fin cfg0.N) (y : S256x3072.Idx) : (outsAt0 m c t.val t.isLt).1 y = dxBlk m c t y := by
  by_cases h0 : t.val % 16 = 0
  on_goal 1 => rw [outsAt0_A m c t h0]
  on_goal 2 => rw [outsAt0_B m c t h0]
  all_goals
    frame_out
    refine View.canon_append_of_piecesOf (Val := Elt Ideal) (e := .bf16) (dxBlk m c t) [] [_, _, _]
      ⟨fun x => ?_, fun x => ?_, fun x => ?_, trivial⟩ y (View.cover_of_tiledL _ ![256, 1024] (by sl_kernel_rfl) y)
    all_goals idx_vars x
    · refine dx_at m c t x0 (2048 + x1.val) _ _ ?_ (by simp) (by simp)
      rw [dxAt, if_neg (by omega), if_neg (by omega), show 2048 + x1.val - 2048 = x1.val by omega]
      exact d3_apply m c t x0 x1
    · refine dx_at m c t x0 (1024 + x1.val) _ _ ?_ (by simp) (by simp)
      rw [dxAt, if_neg (by omega), if_pos (by omega), show 1024 + x1.val - 1024 = x1.val by omega]
      exact (congrFun (pay1_eq _ _ _ _) _).trans (dx_k m c t _ _ x0 x1)
    · refine dx_at m c t x0 x1.val _ _ ?_ (by simp) (by simp)
      rw [dxAt, if_pos (by omega)]
      exact (congrFun (pay15_eq _ _ _ _) _).trans (dx_q m c t _ _ x0 x1)

/-- The gains' gradient after a block's rows: the sums over the rows, added to what was there. -/
theorem pay2_apply (x d R : S256x1024.Idx → EReal) (a : S1x1x1024.Idx → EReal) (q : Fin 1024) :
    k0_pay2 (F := Ideal) x d R a (ix3 0 0 q) = a (ix3 0 0 q) + ∑ r : Fin 256, d (ix2 r q) * (x (ix2 r q) * R (ix2 r q)) := by
  unfold k0_pay2
  pointwise
theorem pay16_apply (x d R : S256x1024.Idx → EReal) (a : S1x1x1024.Idx → EReal) (q : Fin 1024) :
    k0_pay16 (F := Ideal) x d R a (ix3 0 0 q) = a (ix3 0 0 q) + ∑ r : Fin 256, d (ix2 r q) * (x (ix2 r q) * R (ix2 r q)) := by
  unfold k0_pay16
  pointwise

abbrev rowOf (Z : S3x1x1024.Idx → EReal) (i : ℕ) (h : ∀ a : Fin 3, (![i, 0, 0] : Fin 3 → ℕ) a + (![1, 1, 1024] : Fin 3 → ℕ) a ≤ (![3, 1, 1024] : Fin 3 → ℕ) a) :
    S1x1x1024.Idx → EReal :=
  View.ld (Val := Elt Ideal) (e' := .f32) Z (Rect.unit (s := S3x1x1024) ![i, 0, 0] ![1, 1, 1024] h)
theorem row0_apply (Z : S3x1x1024.Idx → EReal) (h) (q : Fin 1024) : rowOf Z 0 h (ix3 0 0 q) = Z (ix3 0 0 q) := by
  unfold rowOf
  pointwise
theorem row1_apply (Z : S3x1x1024.Idx → EReal) (h) (q : Fin 1024) : rowOf Z 1 h (ix3 0 0 q) = Z (ix3 1 0 q) := by
  unfold rowOf
  pointwise

/-- A block's part of the gains' gradient. -/
def dgStep (c : Dev nD) (t : Fin cfg0.N) (j : S3x1x1024.Idx) : EReal :=
  ∑ r : Fin 256, dgAt (A0 m c) (A1 m c) (A2 m c) (j 0).val (j 2).val (t.val * 256 + r.val)

theorem dg_q (c : Dev nD) (t : Fin cfg0.N) (Z : S3x1x1024.Idx → EReal) (h h') (q : Fin 1024) :
    k0_pay16 (F := Ideal) (xCols m c t 0 h) (iblk m c 1 t) (k0_pay6 (iblk m c 5 t) (xCols m c t 0 h)) (rowOf Z 0 h') (ix3 0 0 q)
      = Z (ix3 0 0 q) + dgStep m c t (ix3 0 0 q) := by
  rw [pay6_eq]
  refine (pay16_apply _ _ _ _ q).trans (congrArg₂ (· + ·) (row0_apply Z h' q) (Finset.sum_congr rfl fun r _ => ?_))
  exact congrArg₂ (· * ·) (d1_apply m c t r q) (congrArg₂ (· * ·) (xCols_apply m c t 0 (by omega) h r q)
    (rad_apply _ w64 (mat m c t) _ _ r (xCols_apply m c t 0 (by omega) h r) q))
theorem dg_k (c : Dev nD) (t : Fin cfg0.N) (Z : S3x1x1024.Idx → EReal) (h h') (q : Fin 1024) :
    k0_pay2 (F := Ideal) (xCols m c t 1024 h) (iblk m c 2 t) (k0_pay17 (k0_pay5 (F := Ideal) (iblk m c 5 t)) (xCols m c t 1024 h)) (rowOf Z 1 h') (ix3 0 0 q)
      = Z (ix3 1 0 q) + dgStep m c t (ix3 1 0 q) := by
  rw [pay17_eq]
  refine (pay2_apply _ _ _ _ q).trans (congrArg₂ (· + ·) (row1_apply Z h' q) (Finset.sum_congr rfl fun r _ => ?_))
  exact congrArg₂ (· * ·) (d2_apply m c t r q) (congrArg₂ (· * ·) (xCols_apply m c t 1024 (by omega) h r q)
    (rad_apply _ w64 (mat m c t) _ _ r (xCols_apply m c t 1024 (by omega) h r) q))

theorem dgStep_2 (c : Dev nD) (t : Fin cfg0.N) (q : Fin 1024) : dgStep m c t (ix3 2 0 q) = 0 :=
  Finset.sum_eq_zero fun _ _ => rfl

theorem dg_A (c : Dev nD) (t : Fin cfg0.N) (h0 : t.val % 16 = 0) (y : S3x1x1024.Idx) :
    (outsAt0 m c t.val t.isLt).2 y = k0_pay4 (F := Ideal) y + dgStep m c t y := by
  rw [outsAt0_A m c t h0]
  frame_open
  simp (disch := decide) only [↓ View.readCov_skip, ↓ View.readCov_cons_toLoadRect, ↓ View.readCov_fill]
  frame_out
  idx_vars y
  obtain rfl : y1 = 0 := Subsingleton.elim _ _
  fin_cases y0
  · refine (View.canon_storedRow1_of_ne (0 : Fin 3) (1 : Fin 3) (by decide) y2 _ _ _).trans ?_
    exact (View.canon_storedRow1 (0 : Fin 3) y2 _ _ _).trans (dg_q m c t (k0_pay4 (F := Ideal)) _ _ y2)
  · exact (View.canon_storedRow1 (1 : Fin 3) y2 _ _ _).trans (dg_k m c t (k0_pay4 (F := Ideal)) _ _ y2)
  · refine (View.canon_storedRow1_of_ne (2 : Fin 3) (1 : Fin 3) (by decide) y2 _ _ _).trans ?_
    refine (View.canon_storedRow1_of_ne (2 : Fin 3) (0 : Fin 3) (by decide) y2 _ _ _).trans ?_
    refine (congrFun (View.canon_cons_unit_zero (by decide) _ _ _) _).trans ?_
    exact ((congrArg (_ + ·) (dgStep_2 m c t y2)).trans (add_zero _)).symm

theorem dg_B (c : Dev nD) (t : Fin cfg0.N) (h0 : ¬ t.val % 16 = 0) (hp : t.val - 1 < cfg0.N) (y : S3x1x1024.Idx) :
    (outsAt0 m c t.val t.isLt).2 y = (outsAt0 m c (t.val - 1) hp).2 y + dgStep m c t y := by
  rw [outsAt0_B m c t h0]
  frame_out
  idx_vars y
  obtain rfl : y1 = 0 := Subsingleton.elim _ _
  fin_cases y0
  · refine (View.read_writes_cons_unit_of_not_mem _ _ _ _ _ _ rfl (a := 0) (Or.inl Nat.zero_lt_one)).trans ?_
    refine (View.read_writes_cons_unit_of_mem _ _ _ _ _ _ (x := ix3 0 0 y2) rfl ?_).trans ?_
    · intro a
      fin_cases a <;> simp
    · exact dg_q m c t (outsAt0 m c (t.val - 1) hp).2 _ _ y2
  · refine (View.read_writes_cons_unit_of_mem _ _ _ _ _ _ (x := ix3 0 0 y2) rfl ?_).trans ?_
    · intro a
      fin_cases a <;> simp
    · exact dg_k m c t (outsAt0 m c (t.val - 1) hp).2 _ _ y2
  · refine (View.read_writes_cons_unit_of_not_mem _ _ _ _ _ _ rfl (a := 0) (Or.inr (le_refl 2))).trans ?_
    refine (View.read_writes_cons_unit_of_not_mem _ _ _ _ _ _ rfl (a := 0) (Or.inr (show 0 + 1 ≤ 2 by omega))).trans ?_
    rw [View.writes_nil, Memref.IsWhole.read_unread]
    exact ((congrArg (_ + ·) (dgStep_2 m c t y2)).trans (add_zero _)).symm

/-- A sum over the sequence's rows, block by block. -/
theorem sum_rows (f : ℕ → EReal) :
    ∑ t : Fin cfg0.N, ∑ r : Fin 256, f (t.val * 256 + r.val) = ∑ u : Fin 4096, f u.val := by
  have h16 : cfg0.N = 16 := N_16
  rw [← Fin.sum_mul_add_fin cfg0.N 256 (fun u : Fin 4096 => f u.val) (by rw [h16])]

/-- The two results. -/
def dxOf (X : S4096x3072.Idx → EReal) (Dq Dk Dv : S4096x1024.Idx → EReal) (gq gk : S1x64.Idx → EReal) (j : S4096x3072.Idx) : EReal :=
  dxAt X Dq Dk Dv gq gk (j 0).val (j 1).val
def dgOf (X : S4096x3072.Idx → EReal) (Dq Dk : S4096x1024.Idx → EReal) (j : S3x1x1024.Idx) : EReal :=
  ∑ u : Fin 4096, dgAt X Dq Dk (j 0).val (j 2).val u.val

theorem dg_all (c : Dev nD) (t : Fin cfg0.N) (ht : t.val + 1 = cfg0.N) (j : S3x1x1024.Idx) :
    (outsAt0 m c t.val t.isLt).2 j = dgOf (A0 m c) (A1 m c) (A2 m c) j := by
  have h16 : cfg0.N = 16 := N_16
  rw [Pipeline.eq_sum_fin_of_reset_step_apply_last (fun n h => (outsAt0 m c n h).2) 16 (k0_pay4 (F := Ideal)) (dgStep m c)
    (fun t h j => dg_A m c t h j) (fun t h j => dg_B m c t h _ j) (by omega) t ht j,
    show k0_pay4 (F := Ideal) j = (0 : EReal) from Ideal.ofBits_zero_f32, zero_add]
  exact sum_rows (dgAt (A0 m c) (A1 m c) (A2 m c) (j 0).val (j 2).val)

/-- Where a block's entry lies in the projection's gradient. -/
theorem emb6 (t : Fin cfg0.N) (r : Fin 256) (k : Fin 3072) (u : Fin 4096) (hu : u.val = t.val * 256 + r.val) :
    (win0_6.blk t).view.emb (ix2 r k) = ix2 u k := by
  blk_ext! [idx t]

theorem dx_row (c : Dev nD) (t : Fin cfg0.N) (r : Fin 256) (k : Fin 3072) (u : Fin 4096) (hu : u.val = t.val * 256 + r.val) :
    dxBlk m c t (ix2 r k) = dxOf (A0 m c) (A1 m c) (A2 m c) (A3 m c) (A4 m c) (A5 m c) (ix2 u k) := by
  show dxAt _ _ _ _ _ _ (t.val * 256 + r.val) k.val = dxAt _ _ _ _ _ _ u.val k.val
  rw [hu]

/-- The two result arrays after the run. -/
theorem dx_final (c : Dev nD) :
    (dats m 0 c).arrAt 6 cfg0.N = dxOf (A0 m c) (A1 m c) (A2 m c) (A3 m c) (A4 m c) (A5 m c) := by
  refine (dats m 0 c).arrAt_eq_of_covers 6 _ (by decide +kernel) fun t hf y => ?_
  blk_simp
  rw [after0_6]
  refine (dx_blk m c t y).trans ?_
  idx_vars y
  have h := lt16 t
  rw [emb6 t y0 y1 ⟨t.val * 256 + y0.val, by omega⟩ rfl]
  exact dx_row m c t y0 y1 _ rfl

theorem dg_final (c : Dev nD) : (dats m 0 c).arrAt 7 cfg0.N = dgOf (A0 m c) (A1 m c) (A2 m c) := by
  refine (dats m 0 c).arrAt_eq_of_after_last 7 t0_15 (by decide +kernel) _ fun j => ?_
  blk_simp
  rw [after0_7]
  exact dg_all m c t0_15 rfl j

end Cert.QkNormBwdIdeal.RowValue
-- ==== Proof.QkNormRef.lean ====
/-
  What the reference `QkNormGrad` computes over the extended reals, read at an index, and why it is what the kernel
  computes at finite arguments.
-/
module

public import proofs.«01_k».proof.Proof.Gen.QkNormGradIdeal.Run
public import proofs.«01_k».proof.Proof.Gen.QkNormGradIdeal.Read
public import proofs.«01_k».proof.Proof.QkNormOut
public import proofs.«01_k».proof.Proof.NormEq

@[expose] public section

set_option maxRecDepth 16384

noncomputable section

namespace Cert.QkNormGradIdeal.RefValue

open Cert.QkNormGradIdeal Cert.QkNormGradIdeal.Gen Idealize.ShloMosaic Idealize.ShloMosaic.TcCoe Idealize.SL.Sem
open Cert.QkNormGradIdeal.Read
open Cert.QkNormBwdIdeal.RowValue (xRow dRow eRow dxAt dgTerm dgAt rad dxN w64 dxOf dgOf)

variable (X : S4096x3072.Idx → EReal) (Dq Dk Dv : S4096x1024.Idx → EReal) (gq gk : S1x64.Idx → EReal)

/-! The arguments at a row, a head and a column of the head. -/

theorem xq_ref (n : Fin 4096) (h : Fin 16) (k : Fin 64) :
    val_main_v13 (F := Ideal) X (ix3 n h k) = xRow X 0 n.val (h.val * 64 + k.val) := by
  unfold val_main_v13 val_main_v12 val_main_v11
  rw [xRow, dif_pos ⟨n.isLt, by omega⟩]
  pointwise

theorem xk_ref (n : Fin 4096) (h : Fin 16) (k : Fin 64) :
    val_main_v33 (F := Ideal) X (ix3 n h k) = xRow X 1024 n.val (h.val * 64 + k.val) := by
  unfold val_main_v33 val_main_v32 val_main_v11
  rw [xRow, dif_pos ⟨n.isLt, by omega⟩]
  pointwise
  exact congrArg (fun q => X (ix2 n q)) (Fin.ext (add_assoc _ _ _))

theorem dq_ref (n : Fin 4096) (h : Fin 16) (k : Fin 64) :
    val_main_v54 (F := Ideal) Dq (ix3 n h k) = dRow Dq n.val (h.val * 64 + k.val) := by
  unfold val_main_v54
  rw [dRow, dif_pos ⟨n.isLt, by omega⟩]
  pointwise
  done

theorem dk_ref (n : Fin 4096) (h : Fin 16) (k : Fin 64) :
    val_main_v55 (F := Ideal) Dk (ix3 n h k) = dRow Dk n.val (h.val * 64 + k.val) := by
  unfold val_main_v55
  rw [dRow, dif_pos ⟨n.isLt, by omega⟩]
  pointwise
  done

theorem dv_ref (n : Fin 4096) (h : Fin 16) (k : Fin 64) :
    val_main_v56 (F := Ideal) Dv (ix3 n h k) = dRow Dv n.val (h.val * 64 + k.val) := by
  unfold val_main_v56
  rw [dRow, dif_pos ⟨n.isLt, by omega⟩]
  pointwise
  done

theorem eq_ref (n : Fin 4096) (h : Fin 16) (k : Fin 64) :
    val_main_v88 (F := Ideal) Dq gq gk (ix3 n h k) = eRow Dq gq n.val (h.val * 64 + k.val) := by
  unfold val_main_v88 val_main_v87 val_main_v29 val_main_v15 val_main_v14 val_main_v10 val_main_v9 val_main_v6 val_main_cst val_main_v8
    val_main_v5 val_main_v4 val_main_v3 val_main_v7 val_main_v2 val_main_v1 val_main_v0
  have e := dq_ref Dq n h k
  generalize val_main_v54 (F := Ideal) Dq = y at *
  pointwise
  rw [e, eRow]
  exact congrArg (_ * ·) (congrArg (fun q => gq (ix2 0 q)) (Fin.ext (by simp only; omega)))

theorem ek_ref (n : Fin 4096) (h : Fin 16) (k : Fin 64) :
    val_main_v63 (F := Ideal) Dk gq gk (ix3 n h k) = eRow Dk gk n.val (h.val * 64 + k.val) := by
  unfold val_main_v63 val_main_v62 val_main_v49 val_main_v35 val_main_v34 val_main_v10 val_main_v9 val_main_v6 val_main_cst val_main_v8
    val_main_v5 val_main_v4 val_main_v3 val_main_v7 val_main_v2 val_main_v1 val_main_v0
  have e := dk_ref Dk n h k
  generalize val_main_v55 (F := Ideal) Dk = y at *
  pointwise
  rw [e, eRow]
  exact congrArg (_ * ·) (congrArg (fun q => gk (ix2 0 q)) (Fin.ext (by simp only; omega)))

/-! The two spellings of the gradient of a head's norm, at real arguments. -/

theorem ofBits_64 : Ideal.ofBits .f32 0x42800000#32 = ((64 : ℝ) : EReal) := by
  simp [Ideal.ofBits, Ideal.ieee, -EReal.coe_mul]; norm_num
theorem ofBits_inv64 : Ideal.ofBits .f32 0x3C800000#32 = ((1 / 64 : ℝ) : EReal) := by
  simp [Ideal.ofBits, Ideal.ieee, -EReal.coe_mul]; norm_num

/-- A head's mean square plus the small constant. -/
def ms (x : ℕ → EReal) (b : ℕ) : EReal :=
  Ideal.div (∑ k : Fin 64, x (b + k.val) * x (b + k.val)) (Ideal.ofBits .f32 0x42800000#32) + Ideal.ofBits .f32 0x358637BD#32

theorem ms_real (x : ℕ → EReal) (f : ℕ → ℝ) (hx : ∀ j, x j = (f j : EReal)) (b q : ℕ) (hb : q / 64 * 64 = b) :
    ∃ s : ℝ, 0 < s ∧ ms x b = (s : EReal) ∧ Ideal.rsqrt (s : EReal) = ((Real.sqrt s)⁻¹ : ℝ) ∧ rad w64 x q = ((Real.sqrt s)⁻¹ : ℝ) := by
  obtain ⟨e, he, hE⟩ := NormEq.ofBits_eps
  have h : 0 ≤ ∑ k : Fin 64, f (b + k.val) * f (b + k.val) := Finset.sum_nonneg fun k _ => mul_self_nonneg _
  have hs : 0 < (∑ k : Fin 64, f (b + k.val) * f (b + k.val)) * (1 / 64) + e := by positivity
  have hr : Ideal.rsqrt (((∑ k : Fin 64, f (b + k.val) * f (b + k.val)) * (1 / 64) + e : ℝ) : EReal)
      = ((Real.sqrt ((∑ k : Fin 64, f (b + k.val) * f (b + k.val)) * (1 / 64) + e))⁻¹ : ℝ) := by
    rw [Ideal.rsqrt_coe, if_neg (not_lt.2 hs.le), if_neg hs.ne']
  refine ⟨_, hs, ?_, hr, ?_⟩
  · unfold ms
    simp only [hx, ← EReal.coe_mul, Reals.coe_sum]
    rw [ofBits_64, Ideal.div_coe (by norm_num), hE]
    norm_cast
  · rw [← hr, rad, hb, w64, ofBits_inv64, hE]
    simp only [hx, ← EReal.coe_mul, Reals.coe_sum]
    rw [← EReal.coe_add, Finset.sum_mul]

theorem rad_eq (x : ℕ → EReal) (f : ℕ → ℝ) (hx : ∀ j, x j = (f j : EReal)) (b q : ℕ) (hb : q / 64 * 64 = b) :
    Ideal.rsqrt (ms x b) = rad w64 x q := by
  obtain ⟨s, hs, h1, h2, h3⟩ := ms_real x f hx b q hb
  rw [h1, h2, h3]

theorem head_eq (x e : ℕ → EReal) (f g : ℕ → ℝ) (hx : ∀ j, x j = (f j : EReal)) (he : ∀ j, e j = (g j : EReal)) (b q : ℕ)
    (hb : q / 64 * 64 = b) :
    e q * Ideal.rsqrt (ms x b)
        + x q * (∑ _u : Fin 1, Ideal.div ((∑ k : Fin 64, x (b + k.val) * e (b + k.val))
            * (Ideal.ofBits .f32 0xBF000000#32 * Ideal.div (Ideal.rsqrt (ms x b)) (ms x b))) (Ideal.ofBits .f32 0x42800000#32))
        + (∑ _u : Fin 1, Ideal.div ((∑ k : Fin 64, x (b + k.val) * e (b + k.val))
            * (Ideal.ofBits .f32 0xBF000000#32 * Ideal.div (Ideal.rsqrt (ms x b)) (ms x b))) (Ideal.ofBits .f32 0x42800000#32)) * x q
      = dxN w64 x e q := by
  obtain ⟨s, hs, h1, h2, h3⟩ := ms_real x f hx b q hb
  rw [dxN, hb, h1, h2, h3, ofBits_64, w64, ofBits_inv64, NormEq.ofBits_neg_half, Ideal.div_coe hs.ne', Ideal.div_coe (by norm_num)]
  simp only [hx, he, ← EReal.coe_mul, Reals.coe_sum]
  have e1 : ∑ k : Fin 64, g (b + k.val) * f (b + k.val) * (1 / 64) = (∑ k : Fin 64, f (b + k.val) * g (b + k.val)) * (1 / 64) := by
    rw [Finset.sum_mul]
    exact Finset.sum_congr rfl fun k _ => by rw [mul_comm (g _)]
  rw [e1]
  generalize ∑ k : Fin 64, f (b + k.val) * g (b + k.val) = t
  rw [sub_eq_add_neg, ← EReal.coe_neg, ← EReal.coe_add, ← EReal.coe_add, ← EReal.coe_add]
  congr 1
  have hr : (Real.sqrt s)⁻¹ * (Real.sqrt s)⁻¹ = 1 / s := by
    rw [← mul_inv, Real.mul_self_sqrt hs.le, one_div]
  simp only [Finset.univ_unique, Finset.sum_singleton]
  generalize (Real.sqrt s)⁻¹ = r at hr
  rw [hr]
  ring

/-- Rows of arrays of reals are real. -/
theorem xRow_real (x : S4096x3072.Idx → ℝ) (p n : ℕ) : ∃ f : ℕ → ℝ, ∀ j, xRow (fun i => (x i : EReal)) p n j = (f j : EReal) := by
  suffices h : ∀ j, ∃ r : ℝ, xRow (fun i => (x i : EReal)) p n j = (r : EReal) by
    choose f hf using h
    exact ⟨f, hf⟩
  intro j
  by_cases h : n < 4096 ∧ p + j < 3072
  · exact ⟨x (ix2 ⟨n, h.1⟩ ⟨p + j, h.2⟩), by rw [xRow, dif_pos h]⟩
  · exact ⟨0, by rw [xRow, dif_neg h]; rfl⟩
theorem eRow_real (d : S4096x1024.Idx → ℝ) (g : S1x64.Idx → ℝ) (n : ℕ) :
    ∃ f : ℕ → ℝ, ∀ j, eRow (fun i => (d i : EReal)) (fun i => (g i : EReal)) n j = (f j : EReal) := by
  suffices h : ∀ j, ∃ r : ℝ, eRow (fun i => (d i : EReal)) (fun i => (g i : EReal)) n j = (r : EReal) by
    choose f hf using h
    exact ⟨f, hf⟩
  intro j
  by_cases h : n < 4096 ∧ j < 1024
  · exact ⟨d (ix2 ⟨n, h.1⟩ ⟨j, h.2⟩) * g (ix2 0 ⟨j % 64, Nat.mod_lt _ (by norm_num)⟩), by rw [eRow, dRow, dif_pos h, EReal.coe_mul]⟩
  · exact ⟨0, by rw [eRow, dRow, dif_neg h, zero_mul]; rfl⟩

section real

variable (x : S4096x3072.Idx → ℝ) (d : S4096x1024.Idx → ℝ) (aq ak : S1x64.Idx → ℝ)

theorem dxq_ref (hX : X = fun i => (x i : EReal)) (D : S4096x1024.Idx → EReal) (hD : D = fun i => (d i : EReal))
    (Gq : S1x64.Idx → EReal) (hq : Gq = fun i => (aq i : EReal)) (Gk : S1x64.Idx → EReal) (hk : Gk = fun i => (ak i : EReal))
    (n : Fin 4096) (h : Fin 16) (k : Fin 64) :
    val_main_v103 (F := Ideal) X D Gq Gk (ix3 n h k)
      = dxN w64 (xRow X 0 n.val) (eRow D Gq n.val) (h.val * 64 + k.val) := by
  unfold val_main_v103 val_main_v102 val_main_v101 val_main_v100 val_main_v99 val_main_v98 val_main_cst_20 val_main_v97 val_main_v96
    val_main_cst_19 val_main_v95 val_main_v26 val_main_v24 val_main_v25 val_main_cst_3 val_main_v92 val_main_v91 val_main_cst_18
    val_main_v90 val_main_v94 val_main_v93 val_main_v23 val_main_v22 val_main_v21 val_main_cst_2 val_main_v20 val_main_v19 val_main_cst_1
    val_main_v18 val_main_v17 val_main_cst_0 val_main_v16
  have hx := xq_ref X n h
  have he := eq_ref D Gq Gk n h
  obtain ⟨f, hf⟩ := xRow_real x 0 n.val
  obtain ⟨g, hg⟩ := eRow_real d aq n.val
  rw [← hX] at hf
  rw [← hD, ← hq] at hg
  have hh := head_eq _ _ f g hf hg (h.val * 64) (h.val * 64 + k.val) (by omega)
  generalize val_main_v13 (F := Ideal) X = y at *
  generalize val_main_v88 (F := Ideal) D Gq Gk = z at *
  pointwise
  simp only [hx, he]
  exact hh

theorem dxk_ref (hX : X = fun i => (x i : EReal)) (D : S4096x1024.Idx → EReal) (hD : D = fun i => (d i : EReal))
    (Gq : S1x64.Idx → EReal) (hq : Gq = fun i => (aq i : EReal)) (Gk : S1x64.Idx → EReal) (hk : Gk = fun i => (ak i : EReal))
    (n : Fin 4096) (h : Fin 16) (k : Fin 64) :
    val_main_v78 (F := Ideal) X D Gq Gk (ix3 n h k)
      = dxN w64 (xRow X 1024 n.val) (eRow D Gk n.val) (h.val * 64 + k.val) := by
  unfold val_main_v78 val_main_v77 val_main_v76 val_main_v75 val_main_v74 val_main_v73 val_main_cst_13 val_main_v72 val_main_v71
    val_main_cst_12 val_main_v70 val_main_v46 val_main_v44 val_main_v45 val_main_cst_7 val_main_v67 val_main_v66 val_main_cst_11
    val_main_v65 val_main_v69 val_main_v68 val_main_v43 val_main_v42 val_main_v41 val_main_cst_6 val_main_v40 val_main_v39 val_main_cst_5
    val_main_v38 val_main_v37 val_main_cst_4 val_main_v36
  have hx := xk_ref X n h
  have he := ek_ref D Gq Gk n h
  obtain ⟨f, hf⟩ := xRow_real x 1024 n.val
  obtain ⟨g, hg⟩ := eRow_real d ak n.val
  rw [← hX] at hf
  rw [← hD, ← hk] at hg
  have hh := head_eq _ _ f g hf hg (h.val * 64) (h.val * 64 + k.val) (by omega)
  generalize val_main_v33 (F := Ideal) X = y at *
  generalize val_main_v63 (F := Ideal) D Gq Gk = z at *
  pointwise
  simp only [hx, he]
  exact hh

theorem dgq_ref (hX : X = fun i => (x i : EReal)) (D : S4096x1024.Idx → EReal) (h : Fin 16) (k : Fin 64) :
    val_main_v89 (F := Ideal) X D (ix2 h k) = ∑ u : Fin 4096, dgTerm X D 0 (h.val * 64 + k.val) u.val := by
  unfold val_main_v89 val_main_cst_17 val_main_v86 val_main_v85 val_main_cst_16 val_main_v84 val_main_v28 val_main_v27 val_main_v23
    val_main_v22 val_main_v21 val_main_cst_2 val_main_v20 val_main_v19 val_main_cst_1 val_main_v18 val_main_v17 val_main_cst_0 val_main_v16
  have hx := xq_ref X
  have he := dq_ref D
  generalize val_main_v13 (F := Ideal) X = y at *
  generalize val_main_v54 (F := Ideal) D = z at *
  pointwise
  simp only [hx, he]
  refine (Fin.sum_univ_one _).trans (Finset.sum_congr rfl fun u _ => ?_)
  obtain ⟨f, hf⟩ := xRow_real x 0 u.val
  rw [← hX] at hf
  rw [dgTerm, ← rad_eq _ f hf (h.val * 64) (h.val * 64 + k.val) (by omega), mul_comm]
  rfl

theorem dgk_ref (hX : X = fun i => (x i : EReal)) (D : S4096x1024.Idx → EReal) (h : Fin 16) (k : Fin 64) :
    val_main_v64 (F := Ideal) X D (ix2 h k) = ∑ u : Fin 4096, dgTerm X D 1024 (h.val * 64 + k.val) u.val := by
  unfold val_main_v64 val_main_cst_10 val_main_v61 val_main_v60 val_main_cst_9 val_main_v59 val_main_v48 val_main_v47 val_main_v43
    val_main_v42 val_main_v41 val_main_cst_6 val_main_v40 val_main_v39 val_main_cst_5 val_main_v38 val_main_v37 val_main_cst_4 val_main_v36
  have hx := xk_ref X
  have he := dk_ref D
  generalize val_main_v33 (F := Ideal) X = y at *
  generalize val_main_v55 (F := Ideal) D = z at *
  pointwise
  simp only [hx, he]
  refine (Fin.sum_univ_one _).trans (Finset.sum_congr rfl fun u _ => ?_)
  obtain ⟨f, hf⟩ := xRow_real x 1024 u.val
  rw [← hX] at hf
  rw [dgTerm, ← rad_eq _ f hf (h.val * 64) (h.val * 64 + k.val) (by omega), mul_comm]
  rfl

end real

theorem dx_ref (x : S4096x3072.Idx → ℝ) (dq dk : S4096x1024.Idx → ℝ) (dv : S4096x1024.Idx → EReal) (aq ak : S1x64.Idx → ℝ) :
    val_main_v111 (F := Ideal) (fun i => (x i : EReal)) (fun i => (dq i : EReal)) (fun i => (dk i : EReal)) dv (fun i => (aq i : EReal))
        (fun i => (ak i : EReal))
      = dxOf (fun i => (x i : EReal)) (fun i => (dq i : EReal)) (fun i => (dk i : EReal)) dv (fun i => (aq i : EReal)) (fun i => (ak i : EReal)) := by
  unfold val_main_v111 val_main_v110 val_main_v109 val_main_v108 val_main_cst_22 val_main_v107 val_main_v83 val_main_v82 val_main_cst_15
    val_main_v81 val_main_v58 val_main_cst_8 val_main_v57
  funext j
  idx_vars j
  have hq := dxq_ref _ x dq aq ak rfl _ rfl _ rfl _ rfl j0
  have hk := dxk_ref _ x dk aq ak rfl _ rfl _ rfl _ rfl j0
  have hv := dv_ref dv j0
  generalize val_main_v103 (F := Ideal) _ _ _ _ = y at *
  generalize val_main_v78 (F := Ideal) _ _ _ _ = z at *
  generalize val_main_v56 (F := Ideal) _ = w at *
  pointwise
  simp only [hq, hk, hv, dxOf, dxAt]
  by_cases h0 : j1.val < 1024
  · rw [dif_neg (by omega), dif_neg (by omega), dif_pos (by omega), if_pos (by exact h0)]
    simp only [zero_add]
    exact congrArg (dxN w64 _ _) (by show _ = j1.val; omega)
  by_cases h1 : j1.val < 2048
  · rw [dif_neg (by omega), dif_pos (by omega), dif_neg (by omega), if_neg (by exact h0), if_pos (by exact h1)]
    simp only [zero_add, add_zero]
    exact congrArg (dxN w64 _ _) (by show _ = j1.val - 1024; omega)
  · rw [dif_pos (by omega), dif_neg (by omega), dif_neg (by omega), if_neg (by exact h0), if_neg (by exact h1)]
    simp only [add_zero]
    exact congrArg (dRow dv _) (by show _ = j1.val - 2048; omega)

theorem dg_ref (x : S4096x3072.Idx → ℝ) (Dq Dk : S4096x1024.Idx → EReal) :
    val_main_v112 (F := Ideal) (fun i => (x i : EReal)) Dq Dk = dgOf (fun i => (x i : EReal)) Dq Dk := by
  unfold val_main_v112 val_main_v106 val_main_v105 val_main_cst_21 val_main_v104 val_main_v80 val_main_cst_14 val_main_v79
  funext j
  idx_vars j
  obtain rfl : j1 = 0 := Subsingleton.elim _ _
  have hq := dgq_ref _ x rfl Dq
  have hk := dgk_ref _ x rfl Dk
  generalize val_main_v89 (F := Ideal) _ _ = y at *
  generalize val_main_v64 (F := Ideal) _ _ = z at *
  pointwise
  simp only [hq, hk, dgOf, dgAt]
  by_cases h0 : j0.val = 0
  · rw [dif_neg (by omega), dif_pos (by omega), zero_add]
    refine Finset.sum_congr rfl fun u _ => ?_
    rw [if_pos (by exact h0)]
    exact congrArg (fun q => dgTerm _ Dq 0 q u.val) (by show _ = j2.val; omega)
  by_cases h1 : j0.val = 1
  · rw [dif_pos (by omega), dif_neg (by omega), add_zero]
    refine Finset.sum_congr rfl fun u _ => ?_
    rw [if_neg (by exact h0), if_pos (by exact h1)]
    exact congrArg (fun q => dgTerm _ Dk 1024 q u.val) (by show _ = j2.val; omega)
  · rw [dif_neg (by omega), dif_neg (by omega), add_zero]
    refine (Finset.sum_eq_zero fun u _ => ?_).symm
    rw [if_neg (by exact h0), if_neg (by exact h1)]

end Cert.QkNormGradIdeal.RefValue
-- ==== Proof.QkNormClaim.lean ====
/-
  The claims about the gradients of the queries' and keys' norms: `QkNormBwd` against `QkNormGrad`.
-/
module

public import proofs.«01_k».proof.Defs
public import proofs.«01_k».proof.Proof.QkNormRef

@[expose] public section

set_option maxRecDepth 16384

noncomputable section

namespace Cert.QkNormClaim

open Idealize.ShloMosaic Idealize.ShloMosaic.TcCoe Idealize.SL.Sem
open Cert.QkNormBwdIdeal.RowValue (dxOf dgOf dx_final dg_final)
open Cert.QkNormGradIdeal.RefValue (dx_ref dg_ref)

/-- The precondition's operations take these facts. -/
instance finite_facts : Cert.Pre_finite_qknorm.Facts := by
  constructor <;> decide

/-- The precondition says that the arguments, all but the values' cotangent, are arrays of real numbers. -/
theorem reals {x : Pre_finite_qknorm.S4096x3072.Idx → EReal} {dq dk dv : Pre_finite_qknorm.S4096x1024.Idx → EReal}
    {gq gk : Pre_finite_qknorm.S1x64.Idx → EReal} [Pre_finite_qknorm.Facts]
    (h : Pre_finite_qknorm.fn (F := Ideal) x dq dk dv gq gk = fun _ => 1#1) :
    (∃ f : Pre_finite_qknorm.S4096x3072.Idx → ℝ, x = fun i => (f i : EReal))
    ∧ (∃ f : Pre_finite_qknorm.S4096x1024.Idx → ℝ, dq = fun i => (f i : EReal))
    ∧ (∃ f : Pre_finite_qknorm.S4096x1024.Idx → ℝ, dk = fun i => (f i : EReal))
    ∧ (∃ f : Pre_finite_qknorm.S1x64.Idx → ℝ, gq = fun i => (f i : EReal))
    ∧ (∃ f : Pre_finite_qknorm.S1x64.Idx → ℝ, gk = fun i => (f i : EReal)) := by
  have e := congrFun h (fun a => a.elim0)
  dsimp only [Pre_finite_qknorm.fn, Pre_finite_qknorm.fn_part1] at e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨Reals.reals_of_all x _ _ _ _ _ (fun _ => rfl) h0, Reals.reals_of_all dq _ _ _ _ _ (fun _ => rfl) h1,
    Reals.reals_of_all dk _ _ _ _ _ (fun _ => rfl) h2, Reals.reals_of_all gq _ _ _ _ _ (fun _ => rfl) h3,
    Reals.reals_of_all gk _ _ _ _ _ (fun _ => rfl) h4⟩

/-- Both programs compute the same two gradients over the extended reals. -/
theorem algebraic : algebraic_QkNormBwdIdeal_QkNormGradIdeal_pre_finite_qknorm (hQkNormBwdIdeal := Cert.QkNormBwdIdeal.Gen.facts)
    (hQkNormGradIdeal := Cert.QkNormGradIdeal.Gen.facts) (hPre_finite_qknorm := finite_facts) := fun m ρ m' ρ' hpre hag =>
  ⟨fun c => dxOf (m ((c.tc : Thread _ _).loc QkNormBwdIdeal.main_arg0)) (m ((c.tc : Thread _ _).loc QkNormBwdIdeal.main_arg1))
      (m ((c.tc : Thread _ _).loc QkNormBwdIdeal.main_arg2)) (m ((c.tc : Thread _ _).loc QkNormBwdIdeal.main_arg3))
      (m ((c.tc : Thread _ _).loc QkNormBwdIdeal.main_arg4)) (m ((c.tc : Thread _ _).loc QkNormBwdIdeal.main_arg5)),
    fun c => dgOf (m ((c.tc : Thread _ _).loc QkNormBwdIdeal.main_arg0)) (m ((c.tc : Thread _ _).loc QkNormBwdIdeal.main_arg1))
      (m ((c.tc : Thread _ _).loc QkNormBwdIdeal.main_arg2)),
    (θ_run _ _ _).mono (fun _ h c => ⟨(h c).1.trans (dx_final m c), (h c).2.1.trans (dg_final m c), (h c).2.2⟩)
      (QkNormBwdIdeal.Value.run_blocks m ρ),
    (θ_run _ _ _).mono (fun _ h c => by
      obtain ⟨⟨x, hx⟩, ⟨dq, hq⟩, ⟨dk, hk⟩, ⟨gq, h4⟩, ⟨gk, h5⟩⟩ := reals (hpre c)
      obtain ⟨e0, e1, e2, e3, e4, e5⟩ := hag c
      refine ⟨(h c).1.trans ?_, (h c).2.1.trans ?_, (h c).2.2⟩
      · refine (QkNormGradIdeal.Read.val_main_v111_eq _ _).trans ?_
        refine Eq.trans ?_ ((dx_ref x dq dk (m ((c.tc : Thread _ _).loc QkNormBwdIdeal.main_arg3)) gq gk).trans ?_)
        · rw [← hx, ← hq, ← hk, ← h4, ← h5, ← e0, ← e1, ← e2, ← e3, ← e4, ← e5]
        · rw [← hx, ← hq, ← hk, ← h4, ← h5]
      · refine (QkNormGradIdeal.Read.val_main_v112_eq _ _ _).trans ?_
        refine Eq.trans ?_ ((dg_ref x (m ((c.tc : Thread _ _).loc QkNormBwdIdeal.main_arg1)) (m ((c.tc : Thread _ _).loc QkNormBwdIdeal.main_arg2))).trans ?_)
        · rw [← hx, ← e0, ← e1, ← e2]
        · rw [← hx]) (QkNormGradIdeal.Value.run m' ρ')⟩

/-- The frame of the reference: its run with the results forgotten. -/
theorem frame_ref : quiescent_QkNormGradIdeal (hQkNormGradIdeal := Cert.QkNormGradIdeal.Gen.facts) := fun m ρ _ =>
  (θ_run _ _ _).mono (fun r h => ⟨fun c => (h c).2.2, sem_eq_zero_of_no_sems (by decide) r.2⟩)
    (QkNormGradIdeal.Value.run m ρ)

end Cert.QkNormClaim
-- ==== Proof.LossValue.lean ====
/-
  What the kernel `LossBwd` computes over the extended reals, read at an index: the error of the last layer's output, its
  gradient, and the squared errors summed over all row blocks.
-/
module

public import proofs.«01_k».proof.Proof.Gen.LossBwdIdeal.Value
public import proofs.«01_k».proof.Proof.Reals

@[expose] public section

set_option maxRecDepth 16384

noncomputable section

namespace Cert.LossBwdIdeal.RowValue

open Cert.LossBwdIdeal Cert.LossBwdIdeal.Gen Idealize.ShloMosaic Idealize.ShloMosaic.TcCoe Idealize.SL.Sem
open Idealize.ShloMosaic.Pipeline (Dat)

/-- The error: residual plus product, minus target. -/
def err (a : S4096x2816.Idx → EReal) (w : S2816x1024.Idx → EReal) (x y : S4096x1024.Idx → EReal) (j : S4096x1024.Idx) : EReal :=
  x j + ∑ s : Fin 2816, a (ix2 (j 0) s) * w (ix2 s (j 1)) - y j

/-- The output's gradient. -/
def dy (a : S4096x2816.Idx → EReal) (w : S2816x1024.Idx → EReal) (x y : S4096x1024.Idx → EReal) (j : S4096x1024.Idx) : EReal :=
  err a w x y j * Ideal.ofBits .f32 0x3A800000#32

/-- The squared errors of a column, summed. -/
def sq (a : S4096x2816.Idx → EReal) (w : S2816x1024.Idx → EReal) (x y : S4096x1024.Idx → EReal) (j : S1x1024.Idx) : EReal :=
  ∑ r : Fin 4096, err a w x y (ix2 r (j 1)) * err a w x y (ix2 r (j 1))

variable (m : (ℓ : Loc nD τ sig) → Buf (Elt Ideal) ℓ)

/-- The arguments as arrays of extended reals. -/
abbrev A0 (c : Dev nD) : S4096x2816.Idx → EReal := m ((c : Thread nD τ).loc main_arg0)
abbrev A1 (c : Dev nD) : S2816x1024.Idx → EReal := m ((c : Thread nD τ).loc main_arg1)
abbrev A2 (c : Dev nD) : S4096x1024.Idx → EReal := m ((c : Thread nD τ).loc main_arg2)
abbrev A3 (c : Dev nD) : S4096x1024.Idx → EReal := m ((c : Thread nD τ).loc main_arg3)

/-- The error and its two readings, at the arguments. -/
abbrev E (c : Dev nD) : S4096x1024.Idx → EReal := err (A0 m c) (A1 m c) (A2 m c) (A3 m c)

/-- The blocks as arrays of extended reals. -/
abbrev B0 (c : Dev nD) (t : Fin cfg0.N) : S512x2816.Idx → EReal := iblk m c 0 t
abbrev B1 (c : Dev nD) (t : Fin cfg0.N) : S1x1x2816x1024.Idx → EReal := iblk m c 1 t
abbrev B2 (c : Dev nD) (t : Fin cfg0.N) : S512x1024.Idx → EReal := iblk m c 2 t
abbrev B3 (c : Dev nD) (t : Fin cfg0.N) : S512x1024.Idx → EReal := iblk m c 3 t

/-- The index maps as closed forms. -/
theorem idx : ∀ t : Fin grid0.N, win0_0.index t = ![t.val, 0] ∧ win0_1.index t = ![0, 0, 0, 0] ∧ win0_2.index t = ![t.val, 0]
    ∧ win0_3.index t = ![t.val, 0] ∧ win0_4.index t = ![t.val, 0] ∧ win0_5.index t = ![t.val, 0]
    ∧ win0_6.index t = ![0, 0] := by decide +kernel

/-- Row `r` of block `t`. -/
def row (t : Fin cfg0.N) (r : Fin 512) : Fin 4096 :=
  ⟨t.val * 512 + r.val, by have := t.isLt; have h8 : cfg0.N = 8 := N_0; have := r.isLt; omega⟩

theorem blk0 (c : Dev nD) (t : Fin cfg0.N) (r : Fin 512) (s : Fin 2816) :
    iblk m c 0 t (ix2 r s) = A0 m c (ix2 (row t r) s) := by
  blk_ext [iblk, V, idx t, row]

theorem blk1 (c : Dev nD) (t : Fin cfg0.N) (k : Fin 2816) (s : Fin 1024) :
    iblk m c 1 t (ix4 0 0 k s) = A1 m c (ix2 k s) := by
  blk_ext! [iblk, V, idx t]

theorem blk2 (c : Dev nD) (t : Fin cfg0.N) (r : Fin 512) (s : Fin 1024) :
    iblk m c 2 t (ix2 r s) = A2 m c (ix2 (row t r) s) := by
  blk_ext [iblk, V, idx t, row]

theorem blk3 (c : Dev nD) (t : Fin cfg0.N) (r : Fin 512) (s : Fin 1024) :
    iblk m c 3 t (ix2 r s) = A3 m c (ix2 (row t r) s) := by
  blk_ext [iblk, V, idx t, row]

theorem err_blk (c : Dev nD) (t : Fin cfg0.N) (r : Fin 512) (k : Fin 1024) :
    B2 m c t (ix2 r k) + ∑ x : Fin 2816, B0 m c t (ix2 r x) * B1 m c t (ix4 0 0 x k) - B3 m c t (ix2 r k)
      = E m c (ix2 (row t r) k) := by
  have e1 : ∀ x : Fin 2816, B1 m c t (ix4 0 0 x k) = A1 m c (ix2 x k) := fun x => blk1 m c t x k
  simp only [e1, B0, B2, B3, blk0, blk2, blk3]
  rfl

/-- The gradient in a block, whichever branch the block's point takes. -/
theorem dy_blk (c : Dev nD) (t : Fin cfg0.N) (r : Fin 512) (k : Fin 1024) :
    (outsAt0 m c t.val t.isLt).1 (ix2 r k) = E m c (ix2 (row t r) k) * Ideal.ofBits .f32 0x3A800000#32 := by
  have h8 : cfg0.N = 8 := N_0
  have ht := t.isLt
  by_cases h0 : t.val % 8 = 0
  · rw [outsAt0_A m c t h0 (by omega)]
    frame_out
    unfold_payloads
    pointwise
    rw [err_blk]
  · rw [outsAt0_B m c t h0 (by omega)]
    frame_out
    unfold_payloads
    pointwise
    rw [err_blk]

/-- The rounded copy holds the same extended reals. -/
theorem dyb_blk (c : Dev nD) (t : Fin cfg0.N) (r : Fin 512) (k : Fin 1024) :
    (outsAt0 m c t.val t.isLt).2.1 (ix2 r k) = E m c (ix2 (row t r) k) * Ideal.ofBits .f32 0x3A800000#32 := by
  have h8 : cfg0.N = 8 := N_0
  have ht := t.isLt
  by_cases h0 : t.val % 8 = 0
  · rw [outsAt0_A m c t h0 (by omega)]
    frame_out
    unfold_payloads
    pointwise
    rw [err_blk]
  · rw [outsAt0_B m c t h0 (by omega)]
    frame_out
    unfold_payloads
    pointwise
    rw [err_blk]

/-- The squared errors after the last block: every row's. -/
theorem sq_all (c : Dev nD) (t : Fin cfg0.N) (ht : t.val + 1 = cfg0.N) (j : S1x1024.Idx) :
    (outsAt0 m c t.val t.isLt).2.2 j = sq (A0 m c) (A1 m c) (A2 m c) (A3 m c) j := by
  have h8 : cfg0.N = 8 := N_0
  rw [Pipeline.eq_sum_fin_of_reset_step_apply_last (fun n h => (outsAt0 m c n h).2.2) 8 (fun _ => 0)
    (fun t j => ∑ r : Fin 512, E m c (ix2 (row t r) (j 1)) * E m c (ix2 (row t r) (j 1)))
    (fun t h j => ?_) (fun t h j => ?_) (by omega) t ht j]
  · rw [zero_add]
    exact Fin.sum_mul_add_fin cfg0.N 512 (fun r : Fin 4096 => E m c (ix2 r (j 1)) * E m c (ix2 r (j 1))) (by rw [h8])
  · have := t.isLt
    rw [outsAt0_A m c t h (by omega)]
    frame_out
    unfold_payloads
    idx_vars j
    pointwise
    simp only [err_blk, zero_add]
  · have := t.isLt
    rw [outsAt0_B m c t h (by omega)]
    frame_out
    unfold_payloads
    idx_vars j
    pointwise
    simp only [err_blk]

/-- The three result arrays after the run. -/
theorem dy_final (c : Dev nD) : (dats m 0 c).arrAt 4 cfg0.N = dy (A0 m c) (A1 m c) (A2 m c) (A3 m c) := by
  refine (dats m 0 c).arrAt_eq_of_covers 4 _ (by decide +kernel) fun t hf y => ?_
  blk_simp
  rw [after0_4]
  idx_vars y
  refine (dy_blk m c t y0 y1).trans ?_
  show dy (A0 m c) (A1 m c) (A2 m c) (A3 m c) _ = _
  congr 1
  blk_ext [idx t, row]

theorem dyb_final (c : Dev nD) : (dats m 0 c).arrAt 5 cfg0.N = dy (A0 m c) (A1 m c) (A2 m c) (A3 m c) := by
  refine (dats m 0 c).arrAt_eq_of_covers 5 _ (by decide +kernel) fun t hf y => ?_
  blk_simp
  rw [after0_5]
  idx_vars y
  refine (dyb_blk m c t y0 y1).trans ?_
  show dy (A0 m c) (A1 m c) (A2 m c) (A3 m c) _ = _
  congr 1
  blk_ext [idx t, row]

theorem sq_final (c : Dev nD) : (dats m 0 c).arrAt 6 cfg0.N = sq (A0 m c) (A1 m c) (A2 m c) (A3 m c) := by
  refine (dats m 0 c).arrAt_eq_of_after_last 6 t0_7 (by decide +kernel) _ fun j => ?_
  blk_simp
  rw [after0_6]
  exact sq_all m c t0_7 rfl j

end Cert.LossBwdIdeal.RowValue
-- ==== Proof.LossRef.lean ====
/-
  What the reference `LossGrad` computes over the extended reals, read at an index.
-/
module

public import proofs.«01_k».proof.Proof.Gen.LossGradIdeal.Run
public import proofs.«01_k».proof.Proof.Gen.LossGradIdeal.Read
public import proofs.«01_k».proof.Proof.LossValue
public import proofs.«01_k».proof.Proof.NormEq

@[expose] public section

set_option maxRecDepth 16384

noncomputable section

namespace Cert.LossGradIdeal.RefValue

open Cert.LossGradIdeal Cert.LossGradIdeal.Gen Idealize.ShloMosaic Idealize.ShloMosaic.TcCoe Idealize.SL.Sem
open Cert.LossGradIdeal.Read
open Cert.LossBwdIdeal.RowValue (err dy sq)

/-- Half over the row length, doubled, is one over the row length. -/
theorem half_twice (e : EReal) :
    Ideal.div (Ideal.ofBits .f32 0x3F000000#32) (Ideal.ofBits .f32 0x44800000#32)
      * (Ideal.ofBits .f32 0x40000000#32 * e) = e * Ideal.ofBits .f32 0x3A800000#32 := by
  have h1 : Ideal.ofBits .f32 0x3F000000#32 = ((1 / 2 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  rw [h1, h3, NormEq.ofBits_1024, NormEq.ofBits_inv1024, Ideal.div_coe (by norm_num), ← mul_assoc, mul_comm _ e]
  simp only [← EReal.coe_mul]
  norm_num

/-- The reference's gradient of the output is the kernel's, at all arguments. -/
theorem dy_ref (a : S4096x2816.Idx → EReal) (w : S2816x1024.Idx → EReal) (x y : S4096x1024.Idx → EReal) :
    val_main_v16 (F := Ideal) a w x y = dy a w x y := by
  funext j
  idx_vars j
  unfold val_main_v16 val_main_v15 val_main_v14 val_main_v13 val_main_cst_6 val_main_v12 val_main_v11 val_main_cst_5
    val_main_cst_4 val_main_v5 val_main_v4 val_main_cst val_main_v2 val_main_v1 val_main_v0
  pointwise
  exact half_twice _

/-- The rounded copy is the same array over the extended reals. -/
theorem dyb_ref (a : S4096x2816.Idx → EReal) (w : S2816x1024.Idx → EReal) (x y : S4096x1024.Idx → EReal) :
    val_main_v17 (F := Ideal) a w x y = val_main_v16 (F := Ideal) a w x y := by
  unfold val_main_v17
  rfl

/-- The reference's sums of squared errors are the kernel's, at all arguments. -/
theorem sq_ref (a : S4096x2816.Idx → EReal) (w : S2816x1024.Idx → EReal) (x y : S4096x1024.Idx → EReal) :
    val_main_v21 (F := Ideal) a w x y = sq a w x y := by
  funext j
  idx_vars j
  unfold val_main_v21 val_main_v20 val_main_cst_7 val_main_v19 val_main_v18 val_main_v1 val_main_v0
  pointwise
  rfl

end Cert.LossGradIdeal.RefValue
-- ==== Proof.LossClaim.lean ====
/-
  The claims about the loss's gradient fused with the product before it: `LossBwd` against `LossGrad`.
-/
module

public import proofs.«01_k».proof.Defs
public import proofs.«01_k».proof.Proof.LossRef

@[expose] public section

set_option maxRecDepth 16384

noncomputable section

namespace Cert.LossClaim

open Idealize.ShloMosaic Idealize.ShloMosaic.TcCoe Idealize.SL.Sem
open Cert.LossBwdIdeal.RowValue (dy sq dy_final dyb_final sq_final)
open Cert.LossGradIdeal.RefValue (dy_ref dyb_ref sq_ref)

/-- Both programs compute the same gradient and the same sums over the extended reals. -/
theorem algebraic : algebraic_LossBwdIdeal_LossGradIdeal (hLossBwdIdeal := Cert.LossBwdIdeal.Gen.facts)
    (hLossGradIdeal := Cert.LossGradIdeal.Gen.facts) := fun m ρ m' ρ' _ hag =>
  ⟨fun c => dy (m ((c.tc : Thread _ _).loc LossBwdIdeal.main_arg0)) (m ((c.tc : Thread _ _).loc LossBwdIdeal.main_arg1))
      (m ((c.tc : Thread _ _).loc LossBwdIdeal.main_arg2)) (m ((c.tc : Thread _ _).loc LossBwdIdeal.main_arg3)),
    fun c => dy (m ((c.tc : Thread _ _).loc LossBwdIdeal.main_arg0)) (m ((c.tc : Thread _ _).loc LossBwdIdeal.main_arg1))
      (m ((c.tc : Thread _ _).loc LossBwdIdeal.main_arg2)) (m ((c.tc : Thread _ _).loc LossBwdIdeal.main_arg3)),
    fun c => sq (m ((c.tc : Thread _ _).loc LossBwdIdeal.main_arg0)) (m ((c.tc : Thread _ _).loc LossBwdIdeal.main_arg1))
      (m ((c.tc : Thread _ _).loc LossBwdIdeal.main_arg2)) (m ((c.tc : Thread _ _).loc LossBwdIdeal.main_arg3)),
    (θ_run _ _ _).mono (fun _ h c => ⟨(h c).1.trans (dy_final m c), (h c).2.1.trans (dyb_final m c),
      (h c).2.2.1.trans (sq_final m c), (h c).2.2.2⟩) (LossBwdIdeal.Value.run_blocks m ρ),
    (θ_run _ _ _).mono (fun _ h c => by
      obtain ⟨e0, e1, e2, e3⟩ := hag c
      refine ⟨(h c).1.trans ?_, (h c).2.1.trans ?_, (h c).2.2.1.trans ?_, (h c).2.2.2⟩
      · refine (LossGradIdeal.Read.val_main_v16_eq _ _ _ _).trans ?_
        rw [e0, e1, e2, e3]
        exact dy_ref _ _ _ _
      · refine (LossGradIdeal.Read.val_main_v17_eq _ _ _ _).trans ?_
        rw [e0, e1, e2, e3]
        exact (dyb_ref _ _ _ _).trans (dy_ref _ _ _ _)
      · refine (LossGradIdeal.Read.val_main_v21_eq _ _ _ _).trans ?_
        rw [e0, e1, e2, e3]
        exact sq_ref _ _ _ _) (LossGradIdeal.Value.run m' ρ')⟩

/-- The frame of the reference: its run with the results forgotten. -/
theorem frame_ref : quiescent_LossGradIdeal (hLossGradIdeal := Cert.LossGradIdeal.Gen.facts) := fun m ρ _ =>
  (θ_run _ _ _).mono (fun r h => ⟨fun c => (h c).2.2.2, sem_eq_zero_of_no_sems (by decide) r.2⟩)
    (LossGradIdeal.Value.run m ρ)

end Cert.LossClaim
-- ==== Proof.BiasValue.lean ====
/-
  What the kernel `BiasBwd` computes over the extended reals, read at an index: of each branch, head and bucket the sum of the gradients
  of the biases that were read from that bucket.
-/
module

public import proofs.«01_k».proof.Proof.Gen.BiasBwdIdeal.Value
public import proofs.«01_k».proof.Proof.Reals

@[expose] public section

set_option maxRecDepth 16384

noncomputable section

namespace Cert.BiasBwdIdeal.RowValue

open Cert.BiasBwdIdeal Cert.BiasBwdIdeal.Gen Idealize.ShloMosaic Idealize.ShloMosaic.TcCoe Idealize.SL.Sem
open Idealize.ShloMosaic.Pipeline (Dat)

/-- The gradient of bucket `j 2` of head `j 1`: the gradients of the biases of branch `j 0` that read it, summed. -/
def dTable (b : S3x32768.Idx → BitVec 32) (d : S3x16x32768.Idx → EReal) (j : S3x16x32.Idx) : EReal :=
  ∑ n : Fin 32768, if BitVec.ofNat 32 (j 2).val = b (ix2 (j 0) n) then d (ix3 (j 0) (j 1) n) else 0

variable (m : (ℓ : Loc nD τ sig) → Buf (Elt Ideal) ℓ)

/-- The arguments. -/
abbrev A1 (c : Dev nD) : S3x32768.Idx → BitVec 32 := m ((c : Thread nD τ).loc main_arg1)
abbrev A2 (c : Dev nD) : S3x16x32768.Idx → EReal := m ((c : Thread nD τ).loc main_arg2)

/-- The blocks. -/
abbrev B0 (c : Dev nD) (t : Fin cfg0.N) : S1x16x8192.Idx → EReal := iblk m c 0 t
abbrev B1 (c : Dev nD) (t : Fin cfg0.N) : S1x1x8192.Idx → BitVec 32 := iblk m c 1 t

/-- The index maps as closed forms. -/
theorem idx : ∀ t : Fin grid0.N, win0_0.index t = ![t.val / 4, 0, t.val % 4] ∧ win0_1.index t = ![t.val / 4, 0, t.val % 4]
    ∧ win0_2.index t = ![t.val / 4, 0, 0] := by decide +kernel

/-- The branch of block `t`, and the place in the branch of entry `n` of the block. -/
def branch (t : Fin cfg0.N) : Fin 3 := ⟨t.val / 4, by have := t.isLt; have h : cfg0.N = 12 := N_0; omega⟩
def col (t : Fin cfg0.N) (n : Fin 8192) : Fin 32768 := ⟨t.val % 4 * 8192 + n.val, by have := n.isLt; omega⟩

theorem blk0 (c : Dev nD) (t : Fin cfg0.N) (h : Fin 16) (n : Fin 8192) :
    iblk m c 0 t (ix3 0 h n) = A2 m c (ix3 (branch t) h (col t n)) := by
  blk_ext [iblk, V, idx t, branch, col]

/-- The buckets as the host hands them to the kernel, by an axis of one. -/
abbrev V0 (c : Dev nD) : S3x1x32768.Idx → BitVec 32 := V m c main_v0

theorem host0 (c : Dev nD) (b : Fin 3) (n : Fin 32768) : V0 m c (ix3 b 0 n) = A1 m c (ix2 b n) := by
  unfold V0 V
  after_results_simp
  pointwise

theorem blk1 (c : Dev nD) (t : Fin cfg0.N) (n : Fin 8192) :
    iblk m c 1 t (ix3 0 0 n) = A1 m c (ix2 (branch t) (col t n)) := by
  refine Eq.trans ?_ (host0 m c (branch t) (col t n))
  blk_ext [iblk, idx t, branch, col]

/-- One entry of the kernel's 0/1 matrix: whether a row's number is the bucket. -/
theorem hit (a b : BitVec 32) : FloatOps.sitofp (F := Ideal) FTy.f32 (BitVec.setWidth 32 (IntOp.cmpi CmpIPredicate.eq a b))
    = (if a = b then 1 else 0 : EReal) := by
  by_cases h : a = b
  · subst h
    rw [if_pos rfl, show IntOp.cmpi CmpIPredicate.eq a a = 1#1 by simp [IntOp.cmpi]]
    show (((BitVec.setWidth 32 1#1).toInt : ℝ) : EReal) = 1
    norm_num
  · rw [if_neg h, show IntOp.cmpi CmpIPredicate.eq a b = 0#1 by simp [IntOp.cmpi, beq_eq_false_iff_ne.2 h]]
    show (((BitVec.setWidth 32 0#1).toInt : ℝ) : EReal) = 0
    norm_num

/-- The body's product at a head and a bucket: the two further terms of the split gradient are zero. -/
theorem pay_apply (v1 : S1x1x8192.Idx → BitVec 32) (v8 : S1x16x8192.Idx → EReal) (hv : ∀ j, ∃ x : ℝ, v8 j = x) (h : Fin 16) (r : Fin 32) :
    k0_pay1 (F := Ideal) v1 v8 (ix2 h r) = ∑ n : Fin 8192, if BitVec.ofNat 32 r.val = v1 (ix3 0 0 n) then v8 (ix3 0 h n) else 0 := by
  have e0 : ∀ n, v8 (ix3 0 h n) - v8 (ix3 0 h n) = 0 := fun n => by
    obtain ⟨x, hx⟩ := hv (ix3 0 h n)
    rw [hx, ← EReal.coe_sub, sub_self, EReal.coe_zero]
  unfold k0_pay1
  pointwise
  simp only [hit, e0, sub_zero, zero_mul, Finset.sum_const_zero, add_zero, mul_ite, mul_one, mul_zero, ite_self]

/-- What chunk `k` of branch `b` adds to a head's bucket. -/
def part (w : S3x32768.Idx → BitVec 32) (d : S3x16x32768.Idx → EReal) (h : Fin 16) (r : Fin 32) (b k : ℕ) : EReal :=
  if hb : b < 3 ∧ k < 4 then
    ∑ n : Fin 8192, if BitVec.ofNat 32 r.val = w (ix2 ⟨b, hb.1⟩ ⟨k * 8192 + n.val, by have := n.isLt; omega⟩)
      then d (ix3 ⟨b, hb.1⟩ h ⟨k * 8192 + n.val, by have := n.isLt; omega⟩) else 0
  else 0

/-- Real gradients. -/
abbrev Finite (d : S3x16x32768.Idx → EReal) : Prop := ∀ j, ∃ x : ℝ, d j = x

theorem pay_blk (c : Dev nD) (hd : Finite (A2 m c)) (t : Fin cfg0.N) (h : Fin 16) (r : Fin 32) :
    k0_pay1 (F := Ideal) (B1 m c t) (B0 m c t) (ix2 h r) = part (A1 m c) (A2 m c) h r (t.val / 4) (t.val % 4) := by
  have h12 : cfg0.N = 12 := N_0
  have ht := t.isLt
  have e0 : ∀ h n, B0 m c t (ix3 0 h n) = A2 m c (ix3 (branch t) h (col t n)) := fun h n => blk0 m c t h n
  have e1 : ∀ n, B1 m c t (ix3 0 0 n) = A1 m c (ix2 (branch t) (col t n)) := fun n => blk1 m c t n
  rw [pay_apply]
  · unfold part
    rw [dif_pos ⟨by omega, by omega⟩]
    simp only [e0, e1]
    rfl
  · intro j
    idx_vars j
    obtain rfl : j0 = 0 := Subsingleton.elim _ _
    rw [e0]
    exact hd _

/-- One point's block: it begins a branch's sums or adds to them. -/
theorem out_A (c : Dev nD) (hd : Finite (A2 m c)) (t : Fin cfg0.N) (ht : t.val % 4 = 0) (h : Fin 16) (r : Fin 32) :
    outsAt0 m c t.val t.isLt (ix3 0 h r) = 0 + part (A1 m c) (A2 m c) h r (t.val / 4) (t.val % 4) := by
  rw [outsAt0_A m c t ht (by omega), zero_add, ← pay_blk m c hd]
  frame_out
  unfold k0_pay2
  pointwise

theorem out_B (c : Dev nD) (hd : Finite (A2 m c)) (t : Fin cfg0.N) (ht : ¬t.val % 4 = 0) (h : Fin 16) (r : Fin 32) :
    outsAt0 m c t.val t.isLt (ix3 0 h r)
      = outsAt0 m c (t.val - 1) (Nat.lt_of_le_of_lt (Nat.sub_le _ _) t.isLt) (ix3 0 h r)
        + part (A1 m c) (A2 m c) h r (t.val / 4) (t.val % 4) := by
  rw [outsAt0_B m c t ht (by omega), ← pay_blk m c hd]
  frame_out
  unfold k0_pay3
  pointwise

/-- A branch's four chunks are the whole branch. -/
theorem parts (w : S3x32768.Idx → BitVec 32) (d : S3x16x32768.Idx → EReal) (h : Fin 16) (r : Fin 32) (b : Fin 3) :
    ∑ k ∈ Finset.range (3 + 1), part w d h r b.val k = dTable w d (ix3 b h r) := by
  rw [Finset.sum_range]
  refine Eq.trans (Finset.sum_congr rfl fun k _ => ?_)
    (Fin.sum_mul_add_fin 4 8192 (fun n : Fin 32768 => if BitVec.ofNat 32 r.val = w (ix2 b n) then d (ix3 b h n) else 0) (by rfl))
  unfold part
  rw [dif_pos ⟨b.isLt, k.isLt⟩]

/-- The result array after the run. -/
theorem final (c : Dev nD) (hd : Finite (A2 m c)) : (dats m 0 c).arrAt 2 cfg0.N = dTable (A1 m c) (A2 m c) := by
  refine (dats m 0 c).arrAt_eq_of_covers 2 _ (by decide +kernel) fun t hf y => ?_
  have h3 : t.val % 4 = 3 := (flush0_2 t).mp hf
  blk_simp
  rw [after0_2]
  idx_vars y
  obtain rfl : y0 = 0 := Subsingleton.elim _ _
  refine (Pipeline.eq_sum_of_reset_step_divmod (fun n hn => outsAt0 m c n hn (ix3 0 y1 y2)) 4 0
    (part (A1 m c) (A2 m c) y1 y2) (fun t h => out_A m c hd t h y1 y2) (fun t h => out_B m c hd t h y1 y2) t).trans ?_
  rw [h3, zero_add]
  refine (parts (A1 m c) (A2 m c) y1 y2 (branch t)).trans ?_
  congr 1
  blk_ext [idx t, branch]

end Cert.BiasBwdIdeal.RowValue

end
-- ==== Proof.BiasRef.lean ====
/-
  What the reference `BiasGrad` computes over the extended reals, read at an index.
-/
module

public import proofs.«01_k».proof.Proof.Gen.BiasGradIdeal.Run
public import proofs.«01_k».proof.Proof.Gen.BiasGradIdeal.Read
public import proofs.«01_k».proof.Proof.BiasValue
public import Idealize.ShloMosaic.Lib.Routing.OpsPair
public import Idealize.ShloMosaic.Lib.Tactic.WordOmega

@[expose] public section

set_option maxRecDepth 16384

noncomputable section

namespace Cert.BiasGradIdeal.RefValue

open Cert.BiasGradIdeal Cert.BiasGradIdeal.Gen Idealize.ShloMosaic Idealize.ShloMosaic.TcCoe Idealize.SL.Sem
open Cert.BiasGradIdeal.Read
open Cert.BiasBwdIdeal.RowValue (dTable)

/-- Update `(n, y)` of the scatter into the table's gradient lands at the row that word `n` says, in column `y`. -/
theorem lands (idx : IVec S32768x1 32) (n : Fin 32768) (y h : Fin 16) (r : Fin 32) :
    scatter_S32x16_S32768x1_S32768x16_1_0_0_1.resultIdx? (ix2 n y) idx = some (ix2 r h)
      ↔ BitVec.ofNat 32 r.val = idx (ix2 n 0) ∧ y = h := by
  have s0 : scatter_S32x16_S32768x1_S32768x16_1_0_0_1.start (ix2 n y) idx 0 = (idx (ix2 n 0)).toInt := by
    unfold ScatterDims.start
    rw [dif_pos (by decide)]
    congr 2
    funext a
    match a with
    | ⟨0, _⟩ => rfl
    | ⟨1, _⟩ => rfl
  have s1 : scatter_S32x16_S32768x1_S32768x16_1_0_0_1.start (ix2 n y) idx 1 = 0 := by
    rfl
  have w0 : scatter_S32x16_S32768x1_S32768x16_1_0_0_1.window (ix2 n y) 0 = 0 := by
    rfl
  have w1 : scatter_S32x16_S32768x1_S32768x16_1_0_0_1.window (ix2 n y) 1 = y.val := by
    rfl
  refine (Routing.resultIdx?_ix2 _ _ _ r h).trans ?_
  rw [s0, s1, w0, w1]
  generalize idx (ix2 n 0) = w
  have hr := r.isLt
  constructor
  · rintro ⟨h0, h1⟩
    refine ⟨BitVec.eq_of_toInt_eq ?_, Fin.ext (by omega)⟩
    rw [StableHlo.Predicate.toInt_ofNat_small _ (by omega)]
    omega
  · rintro ⟨h0, rfl⟩
    rw [← h0, StableHlo.Predicate.toInt_ofNat_small _ (by omega)]
    exact ⟨by omega, by omega⟩

/-- A wrapped bucket that is not negative is the bucket. -/
theorem wrap (x : BitVec 32) (h : IntOp.cmpi CmpIPredicate.sge x 0#32 = 1#1) :
    Scalar.select (IntOp.cmpi CmpIPredicate.slt x 0#32) (IntOp.addi x 32#32) x = x := by
  word_omega

/-- The indices of the updates are pairs. -/
def pairs : Fin 32768 × Fin 16 ≃ S32768x16.Idx where
  toFun p := ix2 p.1 p.2
  invFun j := (j 0, j 1)
  left_inv _ := rfl
  right_inv j := by
    idx_vars j

/-- One branch's scatter. -/
theorem scatter_apply (x : S32x16.Idx → EReal) (idx : IVec S32768x1 32) (u : S32768x16.Idx → EReal) (r : Fin 32) (h : Fin 16)
    (hx : x (ix2 r h) = 0) :
    Host.scatterAdd (F := Ideal) (φ := .f32) scatter_S32x16_S32768x1_S32768x16_1_0_0_1 x idx u (ix2 r h)
      = ∑ n : Fin 32768, if BitVec.ofNat 32 r.val = idx (ix2 n 0) then u (ix2 n h) else 0 := by
  show x (ix2 r h) + ∑ j ∈ Finset.univ.filter (fun j => scatter_S32x16_S32768x1_S32768x16_1_0_0_1.resultIdx? j idx = some (ix2 r h)), u j = _
  rw [hx, zero_add, Finset.sum_filter, ← Equiv.sum_comp pairs, Fintype.sum_prod_type]
  refine Finset.sum_congr rfl fun n _ => ?_
  have e1 : ∀ y : Fin 16, (if scatter_S32x16_S32768x1_S32768x16_1_0_0_1.resultIdx? (pairs (n, y)) idx = some (ix2 r h) then u (pairs (n, y)) else 0)
      = if BitVec.ofNat 32 r.val = idx (ix2 n 0) ∧ y = h then u (ix2 n y) else 0 := fun y => if_congr (lands idx n y h r) rfl rfl
  rw [Finset.sum_congr rfl fun y _ => e1 y]
  by_cases e : BitVec.ofNat 32 r.val = idx (ix2 n 0)
  · simp only [e, true_and, if_true]
    rw [Finset.sum_ite_eq' Finset.univ h, if_pos (Finset.mem_univ _)]
  · simp only [e, false_and, if_false, Finset.sum_const_zero]

/-- The buckets of branch `b`, none of them negative. -/
abbrev Buckets (w : S3x32768.Idx → BitVec 32) : Prop := ∀ j, IntOp.cmpi CmpIPredicate.sge (w j) 0#32 = 1#1

/-- Each branch's scatter of its gradients. -/
theorem branch0 (w : S3x32768.Idx → BitVec 32) (d : S3x16x32768.Idx → EReal) (hw : Buckets w) (r : Fin 32) (h : Fin 16) :
    val_main_v14 (F := Ideal) w d (ix2 r h) = dTable w d (ix3 0 h r) := by
  refine (scatter_apply _ _ _ r h ?_).trans (Finset.sum_congr rfl fun n _ => ?_)
  · unfold val_main_v13 val_main_cst
    pointwise
  · unfold val_main_v7 val_main_v6 val_main_v5 val_main_v4 val_main_v3 val_main_v2 val_main_v1 val_main_v0 val_main_c val_main_c_0
    unfold val_main_v12 val_main_v11 val_main_v10
    pointwise
    rw [wrap _ (hw _)]

theorem branch1 (w : S3x32768.Idx → BitVec 32) (d : S3x16x32768.Idx → EReal) (hw : Buckets w) (r : Fin 32) (h : Fin 16) :
    val_main_v30 (F := Ideal) w d (ix2 r h) = dTable w d (ix3 1 h r) := by
  refine (scatter_apply _ _ _ r h ?_).trans (Finset.sum_congr rfl fun n _ => ?_)
  · unfold val_main_v29 val_main_cst_3
    pointwise
  · unfold val_main_v23 val_main_v22 val_main_v21 val_main_v20 val_main_v19 val_main_v18 val_main_v17 val_main_v16 val_main_c_1 val_main_c_2
    unfold val_main_v28 val_main_v27 val_main_v26
    pointwise
    rw [wrap _ (hw _)]

theorem branch2 (w : S3x32768.Idx → BitVec 32) (d : S3x16x32768.Idx → EReal) (hw : Buckets w) (r : Fin 32) (h : Fin 16) :
    val_main_v46 (F := Ideal) w d (ix2 r h) = dTable w d (ix3 2 h r) := by
  refine (scatter_apply _ _ _ r h ?_).trans (Finset.sum_congr rfl fun n _ => ?_)
  · unfold val_main_v45 val_main_cst_6
    pointwise
  · unfold val_main_v39 val_main_v38 val_main_v37 val_main_v36 val_main_v35 val_main_v34 val_main_v33 val_main_v32 val_main_c_4 val_main_c_5
    unfold val_main_v44 val_main_v43 val_main_v42
    pointwise
    rw [wrap _ (hw _)]

/-- The reference's gradients of the three branches. -/
theorem ref (w : S3x32768.Idx → BitVec 32) (d : S3x16x32768.Idx → EReal) (hw : Buckets w) :
    val_main_v51 (F := Ideal) w d = dTable w d := by
  have h0 := branch0 w d hw
  have h1 := branch1 w d hw
  have h2 := branch2 w d hw
  unfold val_main_v51 val_main_v48 val_main_v49 val_main_v50 val_main_v15 val_main_v31 val_main_v47
  generalize val_main_v14 (F := Ideal) w d = y14 at *
  generalize val_main_v30 (F := Ideal) w d = y30 at *
  generalize val_main_v46 (F := Ideal) w d = y46 at *
  generalize dTable w d = g at *
  funext j
  idx_vars j
  pointwise
  rw [h0, h1, h2]
  match j0 with
  | 0 => rfl
  | 1 => rfl
  | 2 => rfl

end Cert.BiasGradIdeal.RefValue

end
-- ==== Proof.BiasClaim.lean ====
/-
  The claims about the gradient of the table of biases: `BiasBwd` against `BiasGrad`.
-/
module

public import proofs.«01_k».proof.Defs
public import proofs.«01_k».proof.Proof.BiasRef

@[expose] public section

set_option maxRecDepth 16384

noncomputable section

namespace Cert.BiasClaim

open Idealize.ShloMosaic Idealize.ShloMosaic.TcCoe Idealize.SL.Sem
open Cert.BiasBwdIdeal.RowValue (dTable final)

/-- The precondition's operations take these facts. -/
instance finite_facts : Cert.Pre_finite_bias.Facts := by
  constructor <;> decide

/-- The precondition says that the gradients are real numbers and no bucket is negative. -/
theorem reals {a : Pre_finite_bias.S32x16.Idx → EReal} {w : Pre_finite_bias.S3x32768.Idx → BitVec 32}
    {d : Pre_finite_bias.S3x16x32768.Idx → EReal} [Pre_finite_bias.Facts]
    (h : Pre_finite_bias.fn (F := Ideal) a w d = fun _ => 1#1) :
    (∀ j, ∃ x : ℝ, d j = x) ∧ ∀ j, IntOp.cmpi CmpIPredicate.sge (w j) 0#32 = 1#1 := by
  have e := congrFun h (fun a => a.elim0)
  dsimp only [Pre_finite_bias.fn] at e
  obtain ⟨h0, h1⟩ := IntOp.andi_eq_one.1 e
  refine ⟨fun j => ?_, ?_⟩
  · obtain ⟨f, hf⟩ := Reals.reals_of_all d _ _ _ _ _ (fun _ => rfl) h0
    exact ⟨f j, congrFun hf j⟩
  · exact fun j => Host.reduce_andi_all _ _ _ _ _ h1 j

/-- Both programs compute the same gradients of the table over the extended reals. -/
theorem algebraic : algebraic_BiasBwdIdeal_BiasGradIdeal_pre_finite_bias (hBiasBwdIdeal := Cert.BiasBwdIdeal.Gen.facts)
    (hBiasGradIdeal := Cert.BiasGradIdeal.Gen.facts) (hPre_finite_bias := finite_facts) := fun m ρ m' ρ' hpre hag =>
  ⟨fun c => dTable (m ((c.tc : Thread _ _).loc BiasBwdIdeal.main_arg1)) (m ((c.tc : Thread _ _).loc BiasBwdIdeal.main_arg2)),
    (θ_run _ _ _).mono (fun _ h c => ⟨(h c).1.trans (final m c (reals (hpre c)).1), (h c).2⟩) (BiasBwdIdeal.Value.run_blocks m ρ),
    (θ_run _ _ _).mono (fun _ h c => by
      obtain ⟨-, hw⟩ := reals (hpre c)
      obtain ⟨-, e1, e2⟩ := hag c
      refine ⟨(h c).1.trans ?_, (h c).2⟩
      refine (BiasGradIdeal.Read.val_main_v51_eq _ _).trans ?_
      refine Eq.trans ?_ (BiasGradIdeal.RefValue.ref _ _ hw)
      rw [← e1, ← e2]) (BiasGradIdeal.Value.run m' ρ')⟩

/-- The frame of the reference: its run with the results forgotten. -/
theorem frame_ref : quiescent_BiasGradIdeal (hBiasGradIdeal := Cert.BiasGradIdeal.Gen.facts) := fun m ρ _ =>
  (θ_run _ _ _).mono (fun r h => ⟨fun c => (h c).2, sem_eq_zero_of_no_sems (by decide) r.2⟩)
    (BiasGradIdeal.Value.run m ρ)

end Cert.BiasClaim
-- ==== Proof.NormFwdValue.lean ====
/-
  The root-mean-square norm of the forward pass: what the kernel `NormFwd` and the reference `NormPlain` compute over the
  extended reals, read at an index.
-/
module

public import proofs.«01_k».proof.Proof.Gen.NormFwdIdeal.Value
public import proofs.«01_k».proof.Proof.Gen.NormPlainIdeal.Run
public import proofs.«01_k».proof.Proof.Gen.NormPlainIdeal.Read
public import proofs.«01_k».proof.Proof.Reals

@[expose] public section

set_option maxRecDepth 16384

noncomputable section

namespace Cert.NormFwdIdeal.RowValue

open Cert.NormFwdIdeal Cert.NormFwdIdeal.Gen Idealize.ShloMosaic Idealize.ShloMosaic.TcCoe Idealize.SL.Sem
open Idealize.ShloMosaic.Pipeline (Dat)

/-- The reciprocal root mean square of a row. -/
def rms (x : S4096x1024.Idx → EReal) (r : Fin 4096) : EReal :=
  Ideal.rsqrt (Ideal.div (∑ k : Fin 1024, x (ix2 r k) * x (ix2 r k)) (Ideal.ofBits .f32 0x44800000#32)
    + Ideal.ofBits .f32 0x358637BD#32)

/-- The normalised rows times the gain. -/
def normed (x : S4096x1024.Idx → EReal) (g : S1x1024.Idx → EReal) (j : S4096x1024.Idx) : EReal :=
  x j * rms x (j 0) * g (ix2 0 (j 1))

variable (m : (ℓ : Loc nD τ sig) → Buf (Elt Ideal) ℓ)

/-- The arguments as arrays of extended reals. -/
abbrev A0 (c : Dev nD) : S4096x1024.Idx → EReal := m ((c : Thread nD τ).loc main_arg0)
abbrev A1 (c : Dev nD) : S1x1024.Idx → EReal := m ((c : Thread nD τ).loc main_arg1)

/-- The index maps as closed forms. -/
theorem idx : ∀ t : Fin grid0.N, win0_0.index t = ![t.val, 0] ∧ win0_1.index t = ![0, 0] ∧ win0_2.index t = ![t.val, 0] := by
  decide +kernel

/-- Row `r` of block `t`. -/
def row (t : Fin cfg0.N) (r : Fin 512) : Fin 4096 :=
  ⟨t.val * 512 + r.val, by have := t.isLt; have h8 : cfg0.N = 8 := N_0; have := r.isLt; omega⟩

theorem blk0 (c : Dev nD) (t : Fin cfg0.N) (r : Fin 512) (s : Fin 1024) :
    iblk m c 0 t (ix2 r s) = A0 m c (ix2 (row t r) s) := by
  blk_ext [iblk, V, idx t, row]

theorem blk1 (c : Dev nD) (t : Fin cfg0.N) (s : Fin 1024) : iblk m c 1 t (ix2 0 s) = A1 m c (ix2 0 s) := by
  blk_ext [iblk, V, idx t]

/-- The array after the run. -/
theorem normed_final (c : Dev nD) : (dats m 0 c).arrAt 2 cfg0.N = normed (A0 m c) (A1 m c) := by
  refine (dats m 0 c).arrAt_eq_of_covers 2 _ (by decide +kernel) fun t hf y => ?_
  blk_simp
  rw [after0_2]
  idx_vars y
  unfold out0_2
  frame_out
  unfold_payloads
  pointwise
  simp only [blk0, blk1]
  show normed (A0 m c) (A1 m c) (ix2 (row t y0) y1) = _
  congr 1
  blk_ext [idx t, row]

end Cert.NormFwdIdeal.RowValue

namespace Cert.NormPlainIdeal.RefValue

open Cert.NormPlainIdeal Cert.NormPlainIdeal.Gen Idealize.ShloMosaic Idealize.ShloMosaic.TcCoe Idealize.SL.Sem
open Cert.NormPlainIdeal.Read
open Cert.NormFwdIdeal.RowValue (rms normed)

/-- The reference's normalised rows are the kernel's, at all arguments. -/
theorem normed_ref (x : S4096x1024.Idx → EReal) (g : S1x1024.Idx → EReal) :
    val_main_v14 (F := Ideal) x g = normed x g := by
  funext j
  idx_vars j
  unfold val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
  pointwise
  rfl

end Cert.NormPlainIdeal.RefValue
-- ==== Proof.NormFwdClaim.lean ====
/-
  The claims about the forward pass's root-mean-square norm: `NormFwd` against `NormPlain`.
-/
module

public import proofs.«01_k».proof.Defs
public import proofs.«01_k».proof.Proof.NormFwdValue

@[expose] public section

set_option maxRecDepth 16384

noncomputable section

namespace Cert.NormFwdClaim

open Idealize.ShloMosaic Idealize.ShloMosaic.TcCoe Idealize.SL.Sem
open Cert.NormFwdIdeal.RowValue (normed normed_final)
open Cert.NormPlainIdeal.RefValue (normed_ref)

/-- Both programs compute the same normalised rows over the extended reals. -/
theorem algebraic : algebraic_NormFwdIdeal_NormPlainIdeal (hNormFwdIdeal := Cert.NormFwdIdeal.Gen.facts)
    (hNormPlainIdeal := Cert.NormPlainIdeal.Gen.facts) := fun m ρ m' ρ' _ hag =>
  ⟨fun c => normed (m ((c.tc : Thread _ _).loc NormFwdIdeal.main_arg0)) (m ((c.tc : Thread _ _).loc NormFwdIdeal.main_arg1)),
    (θ_run _ _ _).mono (fun _ h c => ⟨(h c).1.trans (normed_final m c), (h c).2⟩) (NormFwdIdeal.Value.run_blocks m ρ),
    (θ_run _ _ _).mono (fun _ h c => by
      obtain ⟨e0, e1⟩ := hag c
      refine ⟨(h c).1.trans ?_, (h c).2⟩
      refine (NormPlainIdeal.Read.val_main_v14_eq _ _).trans ?_
      rw [e0, e1]
      exact normed_ref _ _) (NormPlainIdeal.Value.run m' ρ')⟩

/-- The frame of the reference: its run with the results forgotten. -/
theorem frame_ref : quiescent_NormPlainIdeal (hNormPlainIdeal := Cert.NormPlainIdeal.Gen.facts) := fun m ρ _ =>
  (θ_run _ _ _).mono (fun r h => ⟨fun c => (h c).2, sem_eq_zero_of_no_sems (by decide) r.2⟩)
    (NormPlainIdeal.Value.run m ρ)

end Cert.NormFwdClaim
-- ==== Proof.ResNormFwdValue.lean ====
/-
  A product added to the residual and normed: what the kernel `ResNormFwd` and the reference `ResNormPlain` compute over
  the extended reals, read at an index.
-/
module

public import proofs.«01_k».proof.Proof.Gen.ResNormFwdIdeal.Value
public import proofs.«01_k».proof.Proof.Gen.ResNormPlainIdeal.Run
public import proofs.«01_k».proof.Proof.Gen.ResNormPlainIdeal.Read
public import proofs.«01_k».proof.Proof.NormFwdValue

@[expose] public section

set_option maxRecDepth 16384

noncomputable section

namespace Cert.ResNormFwdIdeal.RowValue

open Cert.ResNormFwdIdeal Cert.ResNormFwdIdeal.Gen Idealize.ShloMosaic Idealize.ShloMosaic.TcCoe Idealize.SL.Sem
open Idealize.ShloMosaic.Pipeline (Dat)
open Cert.NormFwdIdeal.RowValue (rms normed)

/-- The residual plus the product. -/
def resid (a : S4096x2816.Idx → EReal) (w : S2816x1024.Idx → EReal) (x : S4096x1024.Idx → EReal) (j : S4096x1024.Idx) : EReal :=
  x j + ∑ s : Fin 2816, a (ix2 (j 0) s) * w (ix2 s (j 1))

variable (m : (ℓ : Loc nD τ sig) → Buf (Elt Ideal) ℓ)

/-- The arguments as arrays of extended reals. -/
abbrev A0 (c : Dev nD) : S4096x2816.Idx → EReal := m ((c : Thread nD τ).loc main_arg0)
abbrev A1 (c : Dev nD) : S2816x1024.Idx → EReal := m ((c : Thread nD τ).loc main_arg1)
abbrev A2 (c : Dev nD) : S4096x1024.Idx → EReal := m ((c : Thread nD τ).loc main_arg2)
abbrev A3 (c : Dev nD) : S1x1024.Idx → EReal := m ((c : Thread nD τ).loc main_arg3)

/-- The blocks as arrays of extended reals. -/
abbrev B0 (c : Dev nD) (t : Fin cfg0.N) : S1024x2816.Idx → EReal := iblk m c 0 t
abbrev B1 (c : Dev nD) (t : Fin cfg0.N) : S1x1x2816x1024.Idx → EReal := iblk m c 1 t
abbrev B2 (c : Dev nD) (t : Fin cfg0.N) : S1024x1024.Idx → EReal := iblk m c 2 t

/-- The index maps as closed forms. -/
theorem idx : ∀ t : Fin grid0.N, win0_0.index t = ![t.val, 0] ∧ win0_1.index t = ![0, 0, 0, 0] ∧ win0_2.index t = ![t.val, 0]
    ∧ win0_3.index t = ![0, 0] ∧ win0_4.index t = ![t.val, 0] ∧ win0_5.index t = ![t.val, 0] := by decide +kernel

/-- Row `r` of block `t`. -/
def row (t : Fin cfg0.N) (r : Fin 1024) : Fin 4096 :=
  ⟨t.val * 1024 + r.val, by have := t.isLt; have h8 : cfg0.N = 4 := N_0; have := r.isLt; omega⟩

theorem blk0 (c : Dev nD) (t : Fin cfg0.N) (r : Fin 1024) (s : Fin 2816) :
    iblk m c 0 t (ix2 r s) = A0 m c (ix2 (row t r) s) := by
  blk_ext [iblk, V, idx t, row]

theorem blk1 (c : Dev nD) (t : Fin cfg0.N) (k : Fin 2816) (s : Fin 1024) :
    iblk m c 1 t (ix4 0 0 k s) = A1 m c (ix2 k s) := by
  blk_ext! [iblk, V, idx t]

theorem blk2 (c : Dev nD) (t : Fin cfg0.N) (r : Fin 1024) (s : Fin 1024) :
    iblk m c 2 t (ix2 r s) = A2 m c (ix2 (row t r) s) := by
  blk_ext [iblk, V, idx t, row]

theorem blk3 (c : Dev nD) (t : Fin cfg0.N) (s : Fin 1024) : iblk m c 3 t (ix2 0 s) = A3 m c (ix2 0 s) := by
  blk_ext [iblk, V, idx t]

/-- A block's rows of the sum. -/
theorem resid_blk (c : Dev nD) (t : Fin cfg0.N) (r : Fin 1024) (k : Fin 1024) :
    B2 m c t (ix2 r k) + ∑ x : Fin 2816, B0 m c t (ix2 r x) * B1 m c t (ix4 0 0 x k)
      = resid (A0 m c) (A1 m c) (A2 m c) (ix2 (row t r) k) := by
  have e1 : ∀ x : Fin 2816, B1 m c t (ix4 0 0 x k) = A1 m c (ix2 x k) := fun x => blk1 m c t x k
  simp only [e1, B0, B2, blk0, blk2]
  rfl

/-- The two result arrays after the run. -/
theorem resid_final (c : Dev nD) : (dats m 0 c).arrAt 4 cfg0.N = resid (A0 m c) (A1 m c) (A2 m c) := by
  refine (dats m 0 c).arrAt_eq_of_covers 4 _ (by decide +kernel) fun t hf y => ?_
  blk_simp
  rw [after0_4]
  idx_vars y
  unfold out0_4
  frame_out
  unfold_payloads
  pointwise
  refine (resid_blk m c t y0 y1).trans ?_
  show resid (A0 m c) (A1 m c) (A2 m c) _ = _
  congr 1
  blk_ext [idx t, row]

theorem normed_final (c : Dev nD) :
    (dats m 0 c).arrAt 5 cfg0.N = normed (resid (A0 m c) (A1 m c) (A2 m c)) (A3 m c) := by
  refine (dats m 0 c).arrAt_eq_of_covers 5 _ (by decide +kernel) fun t hf y => ?_
  blk_simp
  rw [after0_5]
  idx_vars y
  unfold out0_5
  frame_out
  unfold_payloads
  pointwise
  simp only [resid_blk, blk3]
  show normed (resid (A0 m c) (A1 m c) (A2 m c)) (A3 m c) (ix2 (row t y0) y1) = _
  congr 1
  blk_ext [idx t, row]

end Cert.ResNormFwdIdeal.RowValue

namespace Cert.ResNormPlainIdeal.RefValue

open Cert.ResNormPlainIdeal Cert.ResNormPlainIdeal.Gen Idealize.ShloMosaic Idealize.ShloMosaic.TcCoe Idealize.SL.Sem
open Cert.ResNormPlainIdeal.Read
open Cert.NormFwdIdeal.RowValue (rms normed)
open Cert.ResNormFwdIdeal.RowValue (resid)

/-- The reference's sum is the kernel's, at all arguments. -/
theorem resid_ref (a : S4096x2816.Idx → EReal) (w : S2816x1024.Idx → EReal) (x : S4096x1024.Idx → EReal) :
    val_main_v1 (F := Ideal) a w x = resid a w x := by
  funext j
  idx_vars j
  unfold val_main_v1 val_main_v0
  pointwise
  rfl

/-- The reference's normalised rows are the kernel's, at all arguments. -/
theorem normed_ref (a : S4096x2816.Idx → EReal) (w : S2816x1024.Idx → EReal) (x : S4096x1024.Idx → EReal)
    (g : S1x1024.Idx → EReal) : val_main_v16 (F := Ideal) a w x g = normed (resid a w x) g := by
  funext j
  idx_vars j
  unfold val_main_v16 val_main_v15 val_main_v14 val_main_v13 val_main_v12 val_main_v11 val_main_v10 val_main_v9 val_main_v8
    val_main_v7 val_main_v6 val_main_v5 val_main_v4 val_main_v3 val_main_v2 val_main_cst val_main_cst_0 val_main_cst_1
  simp only [resid_ref]
  pointwise
  rfl

end Cert.ResNormPlainIdeal.RefValue
-- ==== Proof.ResNormFwdClaim.lean ====
/-
  The claims about the forward pass's product with residual and norm: `ResNormFwd` against `ResNormPlain`.
-/
module

public import proofs.«01_k».proof.Defs
public import proofs.«01_k».proof.Proof.ResNormFwdValue

@[expose] public section

set_option maxRecDepth 16384

noncomputable section

namespace Cert.ResNormFwdClaim

open Idealize.ShloMosaic Idealize.ShloMosaic.TcCoe Idealize.SL.Sem
open Cert.NormFwdIdeal.RowValue (normed)
open Cert.ResNormFwdIdeal.RowValue (resid resid_final normed_final A0 A1 A2 A3)
open Cert.ResNormPlainIdeal.RefValue (resid_ref normed_ref)

/-- Both programs compute the same sum and the same normalised rows over the extended reals. -/
theorem algebraic : algebraic_ResNormFwdIdeal_ResNormPlainIdeal (hResNormFwdIdeal := Cert.ResNormFwdIdeal.Gen.facts)
    (hResNormPlainIdeal := Cert.ResNormPlainIdeal.Gen.facts) := fun m ρ m' ρ' _ hag =>
  ⟨fun c => resid (A0 m c) (A1 m c) (A2 m c), fun c => normed (resid (A0 m c) (A1 m c) (A2 m c)) (A3 m c),
    (θ_run _ _ _).mono (fun _ h c => ⟨(h c).1.trans (resid_final m c), (h c).2.1.trans (normed_final m c), (h c).2.2⟩)
      (ResNormFwdIdeal.Value.run_blocks m ρ),
    (θ_run _ _ _).mono (fun _ h c => by
      obtain ⟨e0, e1, e2, e3⟩ := hag c
      refine ⟨(h c).1.trans ?_, (h c).2.1.trans ?_, (h c).2.2⟩
      · refine (ResNormPlainIdeal.Read.val_main_v1_eq _ _ _).trans ?_
        rw [e0, e1, e2]
        exact resid_ref _ _ _
      · refine (ResNormPlainIdeal.Read.val_main_v16_eq _ _ _ _).trans ?_
        rw [e0, e1, e2, e3]
        exact normed_ref _ _ _ _) (ResNormPlainIdeal.Value.run m' ρ')⟩

/-- The frame of the reference: its run with the results forgotten. -/
theorem frame_ref : quiescent_ResNormPlainIdeal (hResNormPlainIdeal := Cert.ResNormPlainIdeal.Gen.facts) := fun m ρ _ =>
  (θ_run _ _ _).mono (fun r h => ⟨fun c => (h c).2.2, sem_eq_zero_of_no_sems (by decide) r.2⟩)
    (ResNormPlainIdeal.Value.run m ρ)

end Cert.ResNormFwdClaim
-- ==== Proof.GluFwdValue.lean ====
/-
  What the kernel `GluFwd` computes over the extended reals, read at an index: the up product in blocks of rows, the
  convolution of three taps along the rows, and the gated unit.
-/
module

public import proofs.«01_k».proof.Proof.Gen.GluFwdIdeal.Value
public import proofs.«01_k».proof.Proof.GluValue
public import Idealize.ShloMosaic.Lib.Pipeline.ReadBack

@[expose] public section

set_option maxRecDepth 16384

noncomputable section

namespace Cert.GluFwdIdeal.RowValue

open Cert.GluFwdIdeal Cert.GluFwdIdeal.Gen Idealize.ShloMosaic Idealize.ShloMosaic.TcCoe Idealize.SL.Sem
open Idealize.ShloMosaic.Pipeline (Dat)
open Cert.GluBwdIdeal.RowValue (xpad xpad_in xpad_out uOf uOf_if sgm select_if)

/-- The up product. -/
def up (x : S4096x1024.Idx → EReal) (w : S1024x5632.Idx → EReal) (j : Cert.GluBwdIdeal.S4096x5632.Idx) : EReal :=
  ∑ s : Fin 1024, x (ix2 (j 0) s) * w (ix2 s (j 1))

/-- The two halves of an array's columns, and the gated unit of the two. -/
def left (U : Cert.GluBwdIdeal.S4096x5632.Idx → EReal) (j : S4096x2816.Idx) : EReal := U (ix2 (j 0) ⟨(j 1).val, by have h : (j 1).val < 2816 := (j 1).isLt; omega⟩)
def right (U : Cert.GluBwdIdeal.S4096x5632.Idx → EReal) (j : S4096x2816.Idx) : EReal := U (ix2 (j 0) ⟨2816 + (j 1).val, by have h : (j 1).val < 2816 := (j 1).isLt; omega⟩)
def gated (U : Cert.GluBwdIdeal.S4096x5632.Idx → EReal) (j : S4096x2816.Idx) : EReal := left U j * sgm (left U j) * right U j

/-- The rows after sixteen rows of zeros. -/
def rows (x : S4096x1024.Idx → EReal) (n : ℕ) (s : Fin 1024) : EReal :=
  if h : 16 ≤ n ∧ n < 4112 then x (ix2 ⟨n - 16, by omega⟩ s) else 0

theorem rows_in (x : S4096x1024.Idx → EReal) (n : ℕ) (s : Fin 1024) (u : Fin 4096) (h : n = u.val + 16) :
    rows x n s = x (ix2 u s) := by
  subst h
  unfold rows
  rw [dif_pos ⟨by omega, by omega⟩]
  rfl

/-- A row's product with a column is a row of the up product, after rows of zeros. -/
theorem sum_rows (x : S4096x1024.Idx → EReal) (w : S1024x5632.Idx → EReal) (n : ℕ) (q : Fin 5632) (h14 : 14 ≤ n) :
    ∑ s : Fin 1024, rows x n s * w (ix2 s q) = xpad (up x w) (n - 14) q := by
  by_cases h : 16 ≤ n ∧ n < 4112
  · rw [xpad_in _ _ _ ⟨n - 16, by omega⟩ (by simp only; omega)]
    refine Finset.sum_congr rfl fun s _ => ?_
    rw [rows_in x n s ⟨n - 16, by omega⟩ (by simp only; omega)]
    rfl
  · have e : ∀ s, rows x n s = 0 := fun s => by unfold rows; rw [dif_neg h]
    simp only [e, zero_mul, Finset.sum_const_zero]
    unfold xpad
    rw [dif_neg (by omega)]

variable (m : (ℓ : Loc nD τ sig) → Buf (Elt Ideal) ℓ)

/-- The arguments. -/
abbrev A0 (c : Dev nD) : S4096x1024.Idx → EReal := m ((c : Thread nD τ).loc main_arg0)
abbrev A1 (c : Dev nD) : S1024x5632.Idx → EReal := m ((c : Thread nD τ).loc main_arg1)
abbrev A2 (c : Dev nD) : S3x5632.Idx → EReal := m ((c : Thread nD τ).loc main_arg2)
abbrev A3 (c : Dev nD) : S1x5632.Idx → EReal := m ((c : Thread nD τ).loc main_arg3)

/-- The blocks. -/
abbrev B0 (c : Dev nD) (t : Fin cfg0.N) : S512x1024.Idx → EReal := iblk m c 0 t
abbrev B1 (c : Dev nD) (t : Fin cfg0.N) : S16x1024.Idx → EReal := iblk m c 1 t
abbrev B2 (c : Dev nD) (t : Fin cfg0.N) : S1x1x1024x1408.Idx → EReal := iblk m c 2 t
abbrev B3 (c : Dev nD) (t : Fin cfg0.N) : S1x1x1024x1408.Idx → EReal := iblk m c 3 t
abbrev B4 (c : Dev nD) (t : Fin cfg0.N) : S3x1408.Idx → EReal := iblk m c 4 t
abbrev B5 (c : Dev nD) (t : Fin cfg0.N) : S3x1408.Idx → EReal := iblk m c 5 t
abbrev B6 (c : Dev nD) (t : Fin cfg0.N) : S1x1408.Idx → EReal := iblk m c 6 t
abbrev B7 (c : Dev nD) (t : Fin cfg0.N) : S1x1408.Idx → EReal := iblk m c 7 t

/-- The index maps as closed forms. -/
theorem idx : ∀ t : Fin grid0.N, win0_0.index t = ![t.val % 8, 0] ∧ win0_1.index t = ![max (t.val % 8 * 32 - 1) 0, 0]
    ∧ win0_2.index t = ![t.val / 8, 0, 0, 0] ∧ win0_3.index t = ![t.val / 8 + 2, 0, 0, 0]
    ∧ win0_4.index t = ![0, t.val / 8] ∧ win0_5.index t = ![0, t.val / 8 + 2]
    ∧ win0_6.index t = ![0, t.val / 8] ∧ win0_7.index t = ![0, t.val / 8 + 2]
    ∧ win0_8.index t = ![t.val % 8, t.val / 8] ∧ win0_9.index t = ![t.val % 8, t.val / 8] ∧ win0_10.index t = ![t.val % 8, t.val / 8]
    ∧ win0_11.index t = ![t.val % 8, t.val / 8] ∧ win0_12.index t = ![t.val % 8, t.val / 8] := by decide +kernel

theorem lt16 (t : Fin cfg0.N) : t.val < 16 := by
  have := t.isLt
  have h : cfg0.N = 16 := N_0
  omega

theorem coord (t : Fin cfg0.N) : (grid0.coords t 1).val = t.val % 8 := by
  have h : ∀ t : Fin grid0.N, (grid0.coords t 1).val = t.val % 8 := by decide +kernel
  exact h t

/-- The columns of a block in the left and in the right half. -/
def gcol (t : Fin cfg0.N) (k : Fin 1408) : Fin 5632 := ⟨t.val / 8 * 1408 + k.val, by have := lt16 t; omega⟩
def ucol (t : Fin cfg0.N) (k : Fin 1408) : Fin 5632 := ⟨(t.val / 8 + 2) * 1408 + k.val, by have := lt16 t; omega⟩

theorem blk0 (c : Dev nD) (t : Fin cfg0.N) (r : Fin 512) (s : Fin 1024) :
    B0 m c t (ix2 r s) = rows (A0 m c) (t.val % 8 * 512 + (16 + r.val)) s := by
  rw [rows_in _ _ _ ⟨t.val % 8 * 512 + r.val, by omega⟩ (by simp only; omega)]
  blk_ext [iblk, V, idx t]

theorem blk1 (c : Dev nD) (t : Fin cfg0.N) (h : 0 < t.val % 8) (r : Fin 16) (s : Fin 1024) :
    B1 m c t (ix2 r s) = rows (A0 m c) (t.val % 8 * 512 + r.val) s := by
  rw [rows_in _ _ _ ⟨t.val % 8 * 512 + r.val - 16, by omega⟩ (by simp only; omega)]
  have hm : max (t.val % 8 * 32 - 1) 0 = t.val % 8 * 32 - 1 := by omega
  blk_ext [iblk, V, idx t, hm]

/-- The weights in four chunks of columns. -/
abbrev V3 (c : Dev nD) : S4x1x1024x1408.Idx → EReal := V m c main_v3

theorem host3 (c : Dev nD) (b : Fin 4) (s : Fin 1024) (k : Fin 1408) :
    V3 m c (ix4 b 0 s k) = A1 m c (ix2 s ⟨b.val * 1408 + k.val, by omega⟩) := by
  unfold V3 V
  after_results_simp
  pointwise

theorem blk2 (c : Dev nD) (t : Fin cfg0.N) (s : Fin 1024) (k : Fin 1408) : B2 m c t (ix4 0 0 s k) = A1 m c (ix2 s (gcol t k)) := by
  have := lt16 t
  refine Eq.trans ?_ (host3 m c ⟨t.val / 8, by omega⟩ s k)
  blk_ext [iblk, idx t, gcol]
theorem blk3 (c : Dev nD) (t : Fin cfg0.N) (s : Fin 1024) (k : Fin 1408) : B3 m c t (ix4 0 0 s k) = A1 m c (ix2 s (ucol t k)) := by
  have := lt16 t
  refine Eq.trans ?_ (host3 m c ⟨t.val / 8 + 2, by omega⟩ s k)
  blk_ext [iblk, idx t, ucol]
theorem blk4 (c : Dev nD) (t : Fin cfg0.N) (r : Fin 3) (k : Fin 1408) : B4 m c t (ix2 r k) = A2 m c (ix2 r (gcol t k)) := by
  blk_ext [iblk, V, idx t, gcol]
theorem blk5 (c : Dev nD) (t : Fin cfg0.N) (r : Fin 3) (k : Fin 1408) : B5 m c t (ix2 r k) = A2 m c (ix2 r (ucol t k)) := by
  blk_ext [iblk, V, idx t, ucol]
theorem blk6 (c : Dev nD) (t : Fin cfg0.N) (k : Fin 1408) : B6 m c t (ix2 0 k) = A3 m c (ix2 0 (gcol t k)) := by
  blk_ext [iblk, V, idx t, gcol]
theorem blk7 (c : Dev nD) (t : Fin cfg0.N) (k : Fin 1408) : B7 m c t (ix2 0 k) = A3 m c (ix2 0 (ucol t k)) := by
  blk_ext [iblk, V, idx t, ucol]

theorem first_word : ∀ t : Fin 8, Scalar.cmpi .sgt (BitVec.ofNat 32 t.val) 0#32 = if 0 < t.val then 1#1 else 0#1 := by decide +kernel

/-- The rows a block multiplies: the sixteen before it, zeros at the sequence's beginning, and its own. -/
theorem rows_blk (c : Dev nD) (t : Fin cfg0.N) (n : Fin 528) (s : Fin 1024) :
    k0_pay3 (F := Ideal) (grid0.coords t) (B1 m c t) (B0 m c t) (ix2 n s) = rows (A0 m c) (t.val % 8 * 512 + n.val) s := by
  have e0 := blk0 m c t
  have e1 := blk1 m c t
  unfold k0_pay3
  rw [coord, first_word ⟨t.val % 8, by omega⟩]
  generalize B0 m c t = b0 at *
  generalize B1 m c t = b1 at *
  pointwise
  by_cases hn : n.val < 16
  · rw [dif_pos hn, select_if]
    by_cases ht : 0 < t.val % 8
    · rw [if_pos ht, e1 ht]
    · rw [if_neg ht]
      unfold rows
      rw [dif_neg (by omega)]
  · rw [dif_neg hn, e0]
    exact congrArg (fun q => rows (A0 m c) q s) (by simp only; omega)

/-- A block's rows, and its columns in a result. -/
def row (t : Fin cfg0.N) (r : Fin 512) : Fin 4096 := ⟨t.val % 8 * 512 + r.val, by omega⟩
def ocol (t : Fin cfg0.N) (s : Fin 1408) : Fin 2816 := ⟨t.val / 8 * 1408 + s.val, by have := lt16 t; omega⟩

theorem left_col (U : Cert.GluBwdIdeal.S4096x5632.Idx → EReal) (t : Fin cfg0.N) (r : Fin 4096) (s : Fin 1408) :
    U (ix2 r (gcol t s)) = left U (ix2 r (ocol t s)) := rfl
theorem right_col (U : Cert.GluBwdIdeal.S4096x5632.Idx → EReal) (t : Fin cfg0.N) (r : Fin 4096) (s : Fin 1408) :
    U (ix2 r (ucol t s)) = right U (ix2 r (ocol t s)) := by
  refine congrArg (fun q => U (ix2 r q)) (Fin.ext ?_)
  show (t.val / 8 + 2) * 1408 + s.val = 2816 + (t.val / 8 * 1408 + s.val)
  omega

/-- The rows that block `t` multiplies. -/
abbrev R (c : Dev nD) (t : Fin cfg0.N) : S528x1024.Idx → EReal := k0_pay3 (F := Ideal) (grid0.coords t) (iblk m c 1 t) (iblk m c 0 t)

/-- A row of the block against a column of the weights. -/
theorem prod_blk (c : Dev nD) (t : Fin cfg0.N) (b2 : S1x1x1024x1408.Idx → EReal) (q : Fin 5632) (s : Fin 1408)
    (h2 : ∀ x, b2 (ix4 0 0 x s) = A1 m c (ix2 x q)) (n : Fin 528) (hn : 14 ≤ n.val) :
    ∑ x : Fin 1024, R m c t (ix2 n x) * b2 (ix4 0 0 x s) = xpad (up (A0 m c) (A1 m c)) (t.val % 8 * 512 + n.val - 14) q := by
  have e : ∀ x, R m c t (ix2 n x) = rows (A0 m c) (t.val % 8 * 512 + n.val) x := rows_blk m c t n
  simp only [e, h2]
  exact sum_rows _ _ _ q (by omega)

theorem raw_blk (c : Dev nD) (t : Fin cfg0.N) (b2 : S1x1x1024x1408.Idx → EReal) (q : Fin 5632) (s : Fin 1408)
    (h2 : ∀ x, b2 (ix4 0 0 x s) = A1 m c (ix2 x q)) (r : Fin 512) :
    ∑ x : Fin 1024, R m c t (ix2 ⟨16 + r.val, by omega⟩ x) * b2 (ix4 0 0 x s) = up (A0 m c) (A1 m c) (ix2 (row t r) q) := by
  rw [prod_blk m c t b2 q s h2 _ (by simp only; omega)]
  exact xpad_in _ _ _ (row t r) (by show _ = t.val % 8 * 512 + r.val + 2; simp only; omega)

/-- The convolution as the body writes it: the product's rows two back, one back and here, times three taps, and the bias. -/
abbrev conv (R : S528x1024.Idx → EReal) (b2 : S1x1x1024x1408.Idx → EReal) (b4 : S3x1408.Idx → EReal) (b6 : S1x1408.Idx → EReal)
    (r : Fin 512) (s : Fin 1408) : EReal :=
  (∑ x : Fin 1024, R (ix2 ⟨(16 + r.val + 528 - 2) % 528, Nat.mod_lt _ (by norm_num)⟩ x) * b2 (ix4 0 0 x s)) * b4 (ix2 0 s)
    + (∑ x : Fin 1024, R (ix2 ⟨(16 + r.val + 528 - 1) % 528, Nat.mod_lt _ (by norm_num)⟩ x) * b2 (ix4 0 0 x s)) * b4 (ix2 1 s)
    + (∑ x : Fin 1024, R (ix2 ⟨16 + r.val, by omega⟩ x) * b2 (ix4 0 0 x s)) * b4 (ix2 2 s)
    + b6 (ix2 0 s)

/-- The convolution at a row and a column of the block. -/
theorem conv_blk (c : Dev nD) (t : Fin cfg0.N) (b2 : S1x1x1024x1408.Idx → EReal) (b4 : S3x1408.Idx → EReal) (b6 : S1x1408.Idx → EReal)
    (q : Fin 5632) (s : Fin 1408) (h2 : ∀ x, b2 (ix4 0 0 x s) = A1 m c (ix2 x q)) (h4 : ∀ k, b4 (ix2 k s) = A2 m c (ix2 k q))
    (h6 : b6 (ix2 0 s) = A3 m c (ix2 0 q)) (r : Fin 512) :
    conv (R m c t) b2 b4 b6 r s = uOf (up (A0 m c) (A1 m c)) (A2 m c) (A3 m c) (ix2 (row t r) q) := by
  unfold conv
  rw [prod_blk m c t b2 q s h2 _ (by simp only; omega), prod_blk m c t b2 q s h2 _ (by simp only; omega),
    prod_blk m c t b2 q s h2 _ (by simp only; omega), h4, h4, h4, h6]
  have e0 : t.val % 8 * 512 + (16 + r.val + 528 - 2) % 528 - 14 = t.val % 8 * 512 + r.val := by omega
  have e1 : t.val % 8 * 512 + (16 + r.val + 528 - 1) % 528 - 14 = 1 + (t.val % 8 * 512 + r.val) := by omega
  have e2 : t.val % 8 * 512 + (16 + r.val) - 14 = 2 + (t.val % 8 * 512 + r.val) := by omega
  simp only [e0, e1, e2]
  rfl

/-- The convolution's result of the arguments. -/
abbrev U (c : Dev nD) : Cert.GluBwdIdeal.S4096x5632.Idx → EReal := uOf (up (A0 m c) (A1 m c)) (A2 m c) (A3 m c)

/-- The convolution of block `t` at a row and a column of its left and of its right half. -/
theorem gate_conv (c : Dev nD) (t : Fin cfg0.N) (r : Fin 512) (s : Fin 1408) :
    conv (R m c t) (B2 m c t) (B4 m c t) (B6 m c t) r s = left (U m c) (ix2 (row t r) (ocol t s)) :=
  (conv_blk m c t (iblk m c 2 t) (iblk m c 4 t) (iblk m c 6 t) (gcol t s) s (fun x => blk2 m c t x s) (fun k => blk4 m c t k s)
    (blk6 m c t s) r).trans (left_col _ t (row t r) s)
theorem up_conv (c : Dev nD) (t : Fin cfg0.N) (r : Fin 512) (s : Fin 1408) :
    conv (R m c t) (B3 m c t) (B5 m c t) (B7 m c t) r s = right (U m c) (ix2 (row t r) (ocol t s)) :=
  (conv_blk m c t (iblk m c 3 t) (iblk m c 5 t) (iblk m c 7 t) (ucol t s) s (fun x => blk3 m c t x s) (fun k => blk5 m c t k s)
    (blk7 m c t s) r).trans (right_col _ t (row t r) s)
theorem gate_raw (c : Dev nD) (t : Fin cfg0.N) (r : Fin 512) (s : Fin 1408) :
    ∑ x : Fin 1024, R m c t (ix2 ⟨16 + r.val, by omega⟩ x) * B2 m c t (ix4 0 0 x s)
      = left (up (A0 m c) (A1 m c)) (ix2 (row t r) (ocol t s)) :=
  (raw_blk m c t (iblk m c 2 t) (gcol t s) s (fun x => blk2 m c t x s) r).trans (left_col _ t (row t r) s)
theorem up_raw (c : Dev nD) (t : Fin cfg0.N) (r : Fin 512) (s : Fin 1408) :
    ∑ x : Fin 1024, R m c t (ix2 ⟨16 + r.val, by omega⟩ x) * B3 m c t (ix4 0 0 x s)
      = right (up (A0 m c) (A1 m c)) (ix2 (row t r) (ocol t s)) :=
  (raw_blk m c t (iblk m c 3 t) (ucol t s) s (fun x => blk3 m c t x s) r).trans (right_col _ t (row t r) s)

/-- A block of a result, and a value of it from the value's row and column. -/
def blkOf (Y : S4096x2816.Idx → EReal) (t : Fin cfg0.N) (y : S512x1408.Idx) : EReal := Y (ix2 (row t (y 0)) (ocol t (y 1)))

theorem blk_at (Y : S4096x2816.Idx → EReal) (t : Fin cfg0.N) (r : Fin 512) (s : Fin 1408) (y : S512x1408.Idx) (v : EReal)
    (hv : v = Y (ix2 (row t r) (ocol t s))) (h0 : (y 0).val = r.val) (h1 : (y 1).val = s.val) : v = blkOf Y t y := by
  rw [hv, blkOf, show y 0 = r from Fin.ext h0, show y 1 = s from Fin.ext h1]

/-- The gated unit's value from its two factors. -/
theorem gated_eq (U : Cert.GluBwdIdeal.S4096x5632.Idx → EReal) (j : S4096x2816.Idx) (g u : EReal) (hg : g = left U j) (hu : u = right U j) :
    g * Ideal.div 1 (1 + Ideal.exp (0 - g)) * u = gated U j := by
  rw [hg, hu]
  rfl

theorem pg_blk (c : Dev nD) (t : Fin cfg0.N) (y : S512x1408.Idx) : (outsAt0 m c t).1 y = blkOf (left (up (A0 m c) (A1 m c))) t y := by
  unfold outsAt0
  frame_out
  refine View.canon_append_of_piecesOf (Val := Elt Ideal) (e := .bf16) (blkOf (left (up (A0 m c) (A1 m c))) t) [] [_, _, _]
    ⟨fun x => ?_, fun x => ?_, fun x => ?_, trivial⟩ y (View.cover_of_tiledBy _ ![512, 128] (by sl_kernel_rfl) y)
  all_goals idx_vars x
  · refine blk_at _ t x0 ⟨1024 + x1.val, by omega⟩ _ _ ?_ (by simp) (by simp)
    unfold k0_pay27 k0_pay23
    pointwise
    exact gate_raw m c t x0 ⟨1024 + x1.val, by omega⟩
  · refine blk_at _ t x0 ⟨512 + x1.val, by omega⟩ _ _ ?_ (by simp) (by simp)
    unfold k0_pay18 k0_pay13
    pointwise
    exact gate_raw m c t x0 ⟨512 + x1.val, by omega⟩
  · refine blk_at _ t x0 ⟨x1.val, by omega⟩ _ _ ?_ (by simp) (by simp)
    unfold k0_pay8 k0_pay4
    pointwise
    exact gate_raw m c t x0 ⟨x1.val, by omega⟩

theorem pu_blk (c : Dev nD) (t : Fin cfg0.N) (y : S512x1408.Idx) : (outsAt0 m c t).2.1 y = blkOf (right (up (A0 m c) (A1 m c))) t y := by
  unfold outsAt0
  frame_out
  refine View.canon_append_of_piecesOf (Val := Elt Ideal) (e := .bf16) (blkOf (right (up (A0 m c) (A1 m c))) t) [] [_, _, _]
    ⟨fun x => ?_, fun x => ?_, fun x => ?_, trivial⟩ y (View.cover_of_tiledBy _ ![512, 128] (by sl_kernel_rfl) y)
  all_goals idx_vars x
  · refine blk_at _ t x0 ⟨1024 + x1.val, by omega⟩ _ _ ?_ (by simp) (by simp)
    unfold k0_pay28 k0_pay24
    pointwise
    exact up_raw m c t x0 ⟨1024 + x1.val, by omega⟩
  · refine blk_at _ t x0 ⟨512 + x1.val, by omega⟩ _ _ ?_ (by simp) (by simp)
    unfold k0_pay19 k0_pay14
    pointwise
    exact up_raw m c t x0 ⟨512 + x1.val, by omega⟩
  · refine blk_at _ t x0 ⟨x1.val, by omega⟩ _ _ ?_ (by simp) (by simp)
    unfold k0_pay9 k0_pay5
    pointwise
    exact up_raw m c t x0 ⟨x1.val, by omega⟩

theorem gate_blk (c : Dev nD) (t : Fin cfg0.N) (y : S512x1408.Idx) : (outsAt0 m c t).2.2.1 y = blkOf (left (U m c)) t y := by
  unfold outsAt0
  frame_out
  refine View.canon_append_of_piecesOf (Val := Elt Ideal) (e := .bf16) (blkOf (left (U m c)) t) [] [_, _, _]
    ⟨fun x => ?_, fun x => ?_, fun x => ?_, trivial⟩ y (View.cover_of_tiledBy _ ![512, 128] (by sl_kernel_rfl) y)
  all_goals idx_vars x
  · refine blk_at _ t x0 ⟨1024 + x1.val, by omega⟩ _ _ ?_ (by simp) (by simp)
    unfold k0_pay29 k0_pay25 k0_pay23
    pointwise
    exact gate_conv m c t x0 ⟨1024 + x1.val, by omega⟩
  · refine blk_at _ t x0 ⟨512 + x1.val, by omega⟩ _ _ ?_ (by simp) (by simp)
    unfold k0_pay20 k0_pay15 k0_pay13
    pointwise
    exact gate_conv m c t x0 ⟨512 + x1.val, by omega⟩
  · refine blk_at _ t x0 ⟨x1.val, by omega⟩ _ _ ?_ (by simp) (by simp)
    unfold k0_pay10 k0_pay6 k0_pay4
    pointwise
    exact gate_conv m c t x0 ⟨x1.val, by omega⟩

theorem val_blk (c : Dev nD) (t : Fin cfg0.N) (y : S512x1408.Idx) : (outsAt0 m c t).2.2.2.1 y = blkOf (right (U m c)) t y := by
  unfold outsAt0
  frame_out
  refine View.canon_append_of_piecesOf (Val := Elt Ideal) (e := .bf16) (blkOf (right (U m c)) t) [] [_, _, _]
    ⟨fun x => ?_, fun x => ?_, fun x => ?_, trivial⟩ y (View.cover_of_tiledBy _ ![512, 128] (by sl_kernel_rfl) y)
  all_goals idx_vars x
  · refine blk_at _ t x0 ⟨1024 + x1.val, by omega⟩ _ _ ?_ (by simp) (by simp)
    unfold k0_pay1 k0_pay26 k0_pay24
    pointwise
    exact up_conv m c t x0 ⟨1024 + x1.val, by omega⟩
  · refine blk_at _ t x0 ⟨512 + x1.val, by omega⟩ _ _ ?_ (by simp) (by simp)
    unfold k0_pay21 k0_pay17 k0_pay16 k0_pay14
    pointwise
    exact up_conv m c t x0 ⟨512 + x1.val, by omega⟩
  · refine blk_at _ t x0 ⟨x1.val, by omega⟩ _ _ ?_ (by simp) (by simp)
    unfold k0_pay11 k0_pay7 k0_pay5
    pointwise
    exact up_conv m c t x0 ⟨x1.val, by omega⟩

theorem act_blk (c : Dev nD) (t : Fin cfg0.N) (y : S512x1408.Idx) : (outsAt0 m c t).2.2.2.2 y = blkOf (gated (U m c)) t y := by
  unfold outsAt0
  frame_out
  refine View.canon_append_of_piecesOf (Val := Elt Ideal) (e := .bf16) (blkOf (gated (U m c)) t) [] [_, _, _]
    ⟨fun x => ?_, fun x => ?_, fun x => ?_, trivial⟩ y (View.cover_of_tiledBy _ ![512, 128] (by sl_kernel_rfl) y)
  all_goals idx_vars x
  · refine blk_at _ t x0 ⟨1024 + x1.val, by omega⟩ _ _ ?_ (by simp) (by simp)
    unfold k0_pay2 k0_pay25 k0_pay26 k0_pay23 k0_pay24
    pointwise
    exact gated_eq (U m c) _ _ _ (gate_conv m c t x0 ⟨1024 + x1.val, by omega⟩) (up_conv m c t x0 ⟨1024 + x1.val, by omega⟩)
  · refine blk_at _ t x0 ⟨512 + x1.val, by omega⟩ _ _ ?_ (by simp) (by simp)
    unfold k0_pay22 k0_pay15 k0_pay17 k0_pay16 k0_pay13 k0_pay14
    pointwise
    exact gated_eq (U m c) _ _ _ (gate_conv m c t x0 ⟨512 + x1.val, by omega⟩) (up_conv m c t x0 ⟨512 + x1.val, by omega⟩)
  · refine blk_at _ t x0 ⟨x1.val, by omega⟩ _ _ ?_ (by simp) (by simp)
    unfold k0_pay12 k0_pay6 k0_pay7 k0_pay4 k0_pay5
    pointwise
    exact gated_eq (U m c) _ _ _ (gate_conv m c t x0 ⟨x1.val, by omega⟩) (up_conv m c t x0 ⟨x1.val, by omega⟩)

/-- The five result arrays after the run. -/
theorem pg_final (c : Dev nD) : (dats m 0 c).arrAt 8 cfg0.N = left (up (A0 m c) (A1 m c)) := by
  refine (dats m 0 c).arrAt_eq_of_covers 8 _ (by decide +kernel) fun t hf y => ?_
  blk_simp
  rw [after0_8]
  refine (pg_blk m c t y).trans ?_
  unfold blkOf
  congr 1
  idx_vars y
  blk_ext [idx t, row, ocol]

theorem pu_final (c : Dev nD) : (dats m 0 c).arrAt 9 cfg0.N = right (up (A0 m c) (A1 m c)) := by
  refine (dats m 0 c).arrAt_eq_of_covers 9 _ (by decide +kernel) fun t hf y => ?_
  blk_simp
  rw [after0_9]
  refine (pu_blk m c t y).trans ?_
  unfold blkOf
  congr 1
  idx_vars y
  blk_ext [idx t, row, ocol]

theorem gate_final (c : Dev nD) : (dats m 0 c).arrAt 10 cfg0.N = left (U m c) := by
  refine (dats m 0 c).arrAt_eq_of_covers 10 _ (by decide +kernel) fun t hf y => ?_
  blk_simp
  rw [after0_10]
  refine (gate_blk m c t y).trans ?_
  unfold blkOf
  congr 1
  idx_vars y
  blk_ext [idx t, row, ocol]

theorem val_final (c : Dev nD) : (dats m 0 c).arrAt 11 cfg0.N = right (U m c) := by
  refine (dats m 0 c).arrAt_eq_of_covers 11 _ (by decide +kernel) fun t hf y => ?_
  blk_simp
  rw [after0_11]
  refine (val_blk m c t y).trans ?_
  unfold blkOf
  congr 1
  idx_vars y
  blk_ext [idx t, row, ocol]

theorem act_final (c : Dev nD) : (dats m 0 c).arrAt 12 cfg0.N = gated (U m c) := by
  refine (dats m 0 c).arrAt_eq_of_covers 12 _ (by decide +kernel) fun t hf y => ?_
  blk_simp
  rw [after0_12]
  refine (act_blk m c t y).trans ?_
  unfold blkOf
  congr 1
  idx_vars y
  blk_ext [idx t, row, ocol]

end Cert.GluFwdIdeal.RowValue

end
-- ==== Proof.GluFwdRef.lean ====
/-
  The reference `GluPlain` over the extended reals, read at an index: the product, the convolution's result, their left and
  right columns, and the gated unit.
-/
module

public import proofs.«01_k».proof.Proof.Gen.GluPlainIdeal.Run
public import proofs.«01_k».proof.Proof.Gen.GluPlainIdeal.Read
public import proofs.«01_k».proof.Proof.GluFwdValue

@[expose] public section

set_option maxRecDepth 16384

noncomputable section

namespace Cert.GluPlainIdeal.RefValue

open Cert.GluPlainIdeal Cert.GluPlainIdeal.Gen Idealize.ShloMosaic Idealize.ShloMosaic.TcCoe Idealize.SL.Sem
open Cert.GluPlainIdeal.Read
open Cert.GluBwdIdeal.RowValue (uOf uOf_if sgm)
open Cert.GluFwdIdeal.RowValue (up left right gated)

variable (X : S4096x1024.Idx → EReal) (W : S1024x5632.Idx → EReal) (C : S3x5632.Idx → EReal) (B : S1x5632.Idx → EReal)

/-- The product. -/
theorem up_ref : val_main_v0 (F := Ideal) X W = up X W := by
  funext j
  idx_vars j
  unfold val_main_v0
  pointwise
  rfl

/-- The convolution's result. -/
theorem u_ref (r : Fin 4096) (q : Fin 5632) : val_main_v24 (F := Ideal) X W C B (ix2 r q) = uOf (up X W) C B (ix2 r q) := by
  rw [uOf_if]
  unfold val_main_v24 val_main_v23 val_main_v22 val_main_v21 val_main_v20 val_main_v19 val_main_v18 val_main_v17
    val_main_v16 val_main_v15 val_main_v14 val_main_v13 val_main_v12 val_main_v11 val_main_v10 val_main_v9 val_main_v8 val_main_v7
    val_main_v6 val_main_v5 val_main_v4 val_main_v3 val_main_v2 val_main_v1 val_main_cst
  rw [up_ref]
  generalize up X W = U
  pointwise

theorem pg_ref : val_main_v31 (F := Ideal) X W = left (up X W) := by
  funext j
  idx_vars j
  unfold val_main_v31 val_main_v27
  rw [up_ref]
  unfold left
  generalize up X W = U
  pointwise

theorem pu_ref : val_main_v32 (F := Ideal) X W = right (up X W) := by
  funext j
  idx_vars j
  unfold val_main_v32 val_main_v28
  rw [up_ref]
  unfold right
  generalize up X W = U
  pointwise

theorem gate_apply (r : Fin 4096) (k : Fin 2816) : val_main_v25 (F := Ideal) X W C B (ix2 r k) = left (uOf (up X W) C B) (ix2 r k) := by
  refine Eq.trans ?_ (u_ref X W C B r ⟨k.val, by omega⟩)
  unfold val_main_v25
  generalize val_main_v24 (F := Ideal) X W C B = U
  pointwise

theorem val_apply (r : Fin 4096) (k : Fin 2816) : val_main_v26 (F := Ideal) X W C B (ix2 r k) = right (uOf (up X W) C B) (ix2 r k) := by
  refine Eq.trans ?_ (u_ref X W C B r ⟨2816 + k.val, by omega⟩)
  unfold val_main_v26
  generalize val_main_v24 (F := Ideal) X W C B = U
  pointwise

theorem gate_ref : val_main_v33 (F := Ideal) X W C B = left (uOf (up X W) C B) := by
  funext j
  idx_vars j
  refine Eq.trans ?_ (gate_apply X W C B j0 j1)
  unfold val_main_v33
  generalize val_main_v25 (F := Ideal) X W C B = U
  pointwise

theorem val_ref : val_main_v34 (F := Ideal) X W C B = right (uOf (up X W) C B) := by
  funext j
  idx_vars j
  refine Eq.trans ?_ (val_apply X W C B j0 j1)
  unfold val_main_v34
  generalize val_main_v26 (F := Ideal) X W C B = U
  pointwise

/-- The gated unit. -/
theorem act_ref : val_main_v35 (F := Ideal) X W C B = gated (uOf (up X W) C B) := by
  funext j
  idx_vars j
  refine Eq.trans (b := val_main_v25 (F := Ideal) X W C B (ix2 j0 j1) * sgm (val_main_v25 (F := Ideal) X W C B (ix2 j0 j1))
    * val_main_v26 (F := Ideal) X W C B (ix2 j0 j1)) ?_ ?_
  · unfold val_main_v35 val_main_v30 val_main_v29 val_main_call0_v5 val_main_call0_v3 val_main_call0_v1 val_main_call0_v0
      val_main_call0_v2 val_main_call0_cst val_main_call0_v4 val_main_call0_cst_0 sgm
    rw [zero_sub]
    generalize val_main_v25 (F := Ideal) X W C B = G
    generalize val_main_v26 (F := Ideal) X W C B = V
    pointwise
  · rw [gate_apply, val_apply]
    rfl

end Cert.GluPlainIdeal.RefValue
-- ==== Proof.GluFwdClaim.lean ====
/-
  The claims about the forward pass's convolution and gate with their product: `GluFwd` against `GluPlain`.
-/
module

public import proofs.«01_k».proof.Defs
public import proofs.«01_k».proof.Proof.GluFwdRef

@[expose] public section

set_option maxRecDepth 16384

noncomputable section

namespace Cert.GluFwdClaim

open Idealize.ShloMosaic Idealize.ShloMosaic.TcCoe Idealize.SL.Sem
open Cert.GluFwdIdeal.RowValue (up left right gated U A0 A1 A2 A3 pg_final pu_final gate_final val_final act_final)
open Cert.GluPlainIdeal.RefValue (pg_ref pu_ref gate_ref val_ref act_ref)
open Cert.GluPlainIdeal.Read (val_main_v31_eq val_main_v32_eq val_main_v33_eq val_main_v34_eq val_main_v35_eq)

/-- Both programs compute the same halves of the product and of the convolution, and the same gated unit. -/
theorem algebraic : algebraic_GluFwdIdeal_GluPlainIdeal (hGluFwdIdeal := Cert.GluFwdIdeal.Gen.facts)
    (hGluPlainIdeal := Cert.GluPlainIdeal.Gen.facts) := fun m ρ m' ρ' _ hag =>
  ⟨fun c => left (up (A0 m c) (A1 m c)), fun c => right (up (A0 m c) (A1 m c)), fun c => left (U m c), fun c => right (U m c),
    fun c => gated (U m c),
    (θ_run _ _ _).mono (fun _ h c => ⟨(h c).1.trans (pg_final m c), (h c).2.1.trans (pu_final m c), (h c).2.2.1.trans (gate_final m c),
      (h c).2.2.2.1.trans (val_final m c), (h c).2.2.2.2.1.trans (act_final m c), (h c).2.2.2.2.2⟩)
      (GluFwdIdeal.Value.run_blocks m ρ),
    (θ_run _ _ _).mono (fun _ h c => by
      obtain ⟨e0, e1, e2, e3⟩ := hag c
      refine ⟨(h c).1.trans ?_, (h c).2.1.trans ?_, (h c).2.2.1.trans ?_, (h c).2.2.2.1.trans ?_, (h c).2.2.2.2.1.trans ?_,
        (h c).2.2.2.2.2⟩
      · refine (val_main_v31_eq _ _).trans ?_
        rw [e0, e1]
        exact pg_ref _ _
      · refine (val_main_v32_eq _ _).trans ?_
        rw [e0, e1]
        exact pu_ref _ _
      · refine (val_main_v33_eq _ _ _ _).trans ?_
        rw [e0, e1, e2, e3]
        exact gate_ref _ _ _ _
      · refine (val_main_v34_eq _ _ _ _).trans ?_
        rw [e0, e1, e2, e3]
        exact val_ref _ _ _ _
      · refine (val_main_v35_eq _ _).trans ?_
        rw [e0, e1, e2, e3]
        exact act_ref _ _ _ _) (GluPlainIdeal.Value.run m' ρ')⟩

/-- The frame of the reference: its run with the results forgotten. -/
theorem frame_ref : quiescent_GluPlainIdeal (hGluPlainIdeal := Cert.GluPlainIdeal.Gen.facts) := fun m ρ _ =>
  (θ_run _ _ _).mono (fun r h => ⟨fun c => (h c).2.2.2.2.2, sem_eq_zero_of_no_sems (by decide) r.2⟩)
    (GluPlainIdeal.Value.run m ρ)

end Cert.GluFwdClaim
-- ==== Proof.QkvFwdValue.lean ====
/-
  What the kernel `QkvFwd` computes over the extended reals, read at an index: the product with the weight of queries, keys
  and values, and the queries and keys normed head by head.
-/
module

public import proofs.«01_k».proof.Proof.Gen.QkvFwdIdeal.Value
public import proofs.«01_k».proof.Proof.QkNormValue

@[expose] public section

set_option maxRecDepth 16384

noncomputable section

namespace Cert.QkvFwdIdeal.RowValue

open Cert.QkvFwdIdeal Cert.QkvFwdIdeal.Gen Idealize.ShloMosaic Idealize.ShloMosaic.TcCoe Idealize.SL.Sem
open Idealize.ShloMosaic.Pipeline (Dat)
open Cert.QkNormBwdIdeal.RowValue (select_if div_word eq_word head_sum)

/-- The product: queries, keys and values side by side. -/
def raw (x : S4096x1024.Idx → EReal) (w : S1024x3072.Idx → EReal) (j : S4096x3072.Idx) : EReal :=
  ∑ s : Fin 1024, x (ix2 (j 0) s) * w (ix2 s (j 1))

/-- A row of the product, by the column's number. -/
def rawCol (x : S4096x1024.Idx → EReal) (w : S1024x3072.Idx → EReal) (r : Fin 4096) (q : ℕ) : EReal :=
  if h : q < 3072 then raw x w (ix2 r ⟨q, h⟩) else 0

/-- The gain of a column of queries or keys. -/
def gain (gq gk : S1x64.Idx → EReal) (q : ℕ) : EReal :=
  if q < 1024 then gq (ix2 0 ⟨q % 64, Nat.mod_lt _ (by norm_num)⟩) else gk (ix2 0 ⟨q % 64, Nat.mod_lt _ (by norm_num)⟩)

/-- Queries and keys normed over the column's head, values as they are. -/
def normed (x : S4096x1024.Idx → EReal) (w : S1024x3072.Idx → EReal) (gq gk : S1x64.Idx → EReal) (j : S4096x3072.Idx) : EReal :=
  if 2048 ≤ (j 1).val then rawCol x w (j 0) (j 1).val
  else rawCol x w (j 0) (j 1).val
    * Ideal.rsqrt (∑ e : Fin 64, rawCol x w (j 0) ((j 1).val / 64 * 64 + e.val) * rawCol x w (j 0) ((j 1).val / 64 * 64 + e.val)
        * Ideal.ofBits .f32 0x3C800000#32 + Ideal.ofBits .f32 0x358637BD#32)
    * gain gq gk (j 1).val

variable (m : (ℓ : Loc nD τ sig) → Buf (Elt Ideal) ℓ)

/-- The arguments as arrays of extended reals. -/
abbrev A0 (c : Dev nD) : S4096x1024.Idx → EReal := m ((c : Thread nD τ).loc main_arg0)
abbrev A1 (c : Dev nD) : S1024x3072.Idx → EReal := m ((c : Thread nD τ).loc main_arg1)
abbrev A2 (c : Dev nD) : S1x64.Idx → EReal := m ((c : Thread nD τ).loc main_arg2)
abbrev A3 (c : Dev nD) : S1x64.Idx → EReal := m ((c : Thread nD τ).loc main_arg3)

/-- The host's arrays that the region reads: the gains of the columns, and the matrix that takes the mean over a head. -/
abbrev V19 (c : Dev nD) : S1x3072.Idx → EReal := V m c main_v19
abbrev V30 (c : Dev nD) : S256x256.Idx → EReal := V m c main_v30

/-- The index maps as closed forms. -/
theorem idx : ∀ t : Fin grid0.N, win0_0.index t = ![t.val % 4, 0] ∧ win0_1.index t = ![t.val / 4, 0, 0, 0]
    ∧ win0_2.index t = ![0, t.val / 4] ∧ win0_3.index t = ![0, 0] ∧ win0_4.index t = ![t.val % 4, t.val / 4]
    ∧ win0_5.index t = ![t.val % 4, t.val / 4] := by decide +kernel

theorem gain_q (c : Dev nD) (q : Fin 1024) :
    V19 m c (ix2 0 ⟨q.val, by omega⟩) = A2 m c (ix2 0 ⟨q.val % 64, Nat.mod_lt _ (by norm_num)⟩) := by
  unfold V19 V
  after_results_simp
  pointwise
  rw [dif_pos (by omega)]
  after_results_simp
  pointwise
  exact congrArg (fun k => A2 m c (ix2 0 k)) (Fin.ext (by simp only; omega))

theorem gain_k (c : Dev nD) (q : Fin 1024) :
    V19 m c (ix2 0 ⟨1024 + q.val, by omega⟩) = A3 m c (ix2 0 ⟨q.val % 64, Nat.mod_lt _ (by norm_num)⟩) := by
  unfold V19 V
  after_results_simp
  pointwise
  rw [dif_neg (by omega), dif_pos (by omega)]
  after_results_simp
  pointwise

/-- The gain of a column of queries or keys, as the host lays the gains out. -/
theorem gain_col (c : Dev nD) (u : Fin 3072) (h : u.val < 2048) : V19 m c (ix2 0 u) = gain (A2 m c) (A3 m c) u.val := by
  unfold gain
  by_cases hq : u.val < 1024
  · rw [if_pos hq]
    exact gain_q m c ⟨u.val, hq⟩
  · rw [if_neg hq]
    obtain ⟨e, he⟩ : ∃ e : Fin 1024, u = ⟨1024 + e.val, by omega⟩ := ⟨⟨u.val - 1024, by omega⟩, Fin.ext (by simp only; omega)⟩
    rw [he, gain_k]
    exact congrArg (fun k => A3 m c (ix2 0 k)) (Fin.ext (by simp only; omega))

theorem means (c : Dev nD) (e k : Fin 256) :
    V30 m c (ix2 e k) = if e.val / 64 = k.val / 64 then Ideal.ofBits .f32 0x3C800000#32 else 0 := by
  unfold V30 V
  after_results_simp
  pointwise
  rw [div_word, div_word]
  have h := eq_word ⟨e.val / 64, by omega⟩ ⟨k.val / 64, by omega⟩
  simp only at h
  rw [h, select_if]

theorem blk0 (c : Dev nD) (t : Fin cfg0.N) (r : Fin 1024) (s : Fin 1024) (u : Fin 4096) (hu : u.val = t.val % 4 * 1024 + r.val) :
    iblk m c 0 t (ix2 r s) = A0 m c (ix2 u s) := by
  blk_ext! [iblk, V, idx t]
theorem blk1 (c : Dev nD) (t : Fin cfg0.N) (k : Fin 1024) (s : Fin 768) (u : Fin 3072) (hu : u.val = t.val / 4 * 768 + s.val) :
    iblk m c 1 t (ix4 0 0 k s) = A1 m c (ix2 k u) := by
  blk_ext! [iblk, V, idx t]
theorem blk2 (c : Dev nD) (t : Fin cfg0.N) (s : Fin 768) (u : Fin 3072) (hu : u.val = t.val / 4 * 768 + s.val) :
    iblk m c 2 t (ix2 0 s) = V19 m c (ix2 0 u) := by
  blk_ext! [iblk, idx t]
theorem blk3 (c : Dev nD) (t : Fin cfg0.N) (e k : Fin 256) : iblk m c 3 t (ix2 e k) = V30 m c (ix2 e k) := by
  blk_ext [iblk, idx t]

/-- A block's rows and columns. -/
def row (t : Fin cfg0.N) (r : Fin 1024) : Fin 4096 := ⟨t.val % 4 * 1024 + r.val, by omega⟩
theorem lt16 (t : Fin cfg0.N) : t.val < 16 := by
  have := t.isLt
  have h : cfg0.N = 16 := N_0
  omega
def col (t : Fin cfg0.N) (s : Fin 768) : Fin 3072 := ⟨t.val / 4 * 768 + s.val, by have := lt16 t; omega⟩

theorem coord (t : Fin cfg0.N) : (grid0.coords t 0).val = t.val / 4 := by
  have h : ∀ t : Fin grid0.N, (grid0.coords t 0).val = t.val / 4 := by decide +kernel
  exact h t

/-- The blocks, as arrays of extended reals. -/
abbrev B0 (c : Dev nD) (t : Fin cfg0.N) : S1024x1024.Idx → EReal := iblk m c 0 t
abbrev B1 (c : Dev nD) (t : Fin cfg0.N) : S1x1x1024x768.Idx → EReal := iblk m c 1 t
abbrev B2 (c : Dev nD) (t : Fin cfg0.N) : S1x768.Idx → EReal := iblk m c 2 t
abbrev B3 (c : Dev nD) (t : Fin cfg0.N) : S256x256.Idx → EReal := iblk m c 3 t

/-- A block's product. -/
theorem raw_blk (c : Dev nD) (t : Fin cfg0.N) (r : Fin 1024) (s : Fin 768) :
    ∑ x : Fin 1024, B0 m c t (ix2 r x) * B1 m c t (ix4 0 0 x s) = rawCol (A0 m c) (A1 m c) (row t r) (t.val / 4 * 768 + s.val) := by
  unfold rawCol
  rw [dif_pos (show t.val / 4 * 768 + s.val < 3072 from (col t s).isLt)]
  refine Finset.sum_congr rfl fun x _ => congrArg₂ (· * ·) (blk0 m c t r x (row t r) rfl) (blk1 m c t x s (col t s) rfl)

/-- The columns from 2048 on are values. -/
theorem sel0 : ∀ i : Fin 4, Scalar.cmpi .sge (Scalar.addi (Scalar.muli (BitVec.ofNat 32 i.val) 768#32) 0#32) 2048#32
    = if 2048 ≤ i.val * 768 + 0 then 1#1 else 0#1 := by decide +kernel
theorem sel1 : ∀ i : Fin 4, Scalar.cmpi .sge (Scalar.addi (Scalar.muli (BitVec.ofNat 32 i.val) 768#32) 256#32) 2048#32
    = if 2048 ≤ i.val * 768 + 256 then 1#1 else 0#1 := by decide +kernel
theorem sel2 : ∀ i : Fin 4, Scalar.cmpi .sge (Scalar.addi (Scalar.muli (BitVec.ofNat 32 i.val) 768#32) 512#32) 2048#32
    = if 2048 ≤ i.val * 768 + 512 then 1#1 else 0#1 := by decide +kernel

/-- One store's value: column `k` of the 256 columns at offset `o` of block `t`. -/
theorem store_apply (c : Dev nD) (t : Fin cfg0.N) (o : ℕ) (ho : o % 256 = 0) (h5 : o ≤ 512) (b : BitVec 1) (r : Fin 1024) (k : Fin 256)
    (hb : b = if 2048 ≤ t.val / 4 * 768 + o then 1#1 else 0#1) :
    Scalar.select b (∑ x : Fin 1024, B0 m c t (ix2 r x) * B1 m c t (ix4 0 0 x ⟨o + k.val, by omega⟩))
      ((∑ x : Fin 1024, B0 m c t (ix2 r x) * B1 m c t (ix4 0 0 x ⟨o + k.val, by omega⟩))
        * Ideal.rsqrt (∑ e : Fin 256, ((∑ x : Fin 1024, B0 m c t (ix2 r x) * B1 m c t (ix4 0 0 x ⟨o + e.val, by omega⟩))
              * ∑ x : Fin 1024, B0 m c t (ix2 r x) * B1 m c t (ix4 0 0 x ⟨o + e.val, by omega⟩)) * B3 m c t (ix2 e k)
            + Ideal.ofBits .f32 897988541#32)
        * B2 m c t (ix2 0 ⟨o + k.val, by omega⟩))
      = normed (A0 m c) (A1 m c) (A2 m c) (A3 m c) (ix2 (row t r) (col t ⟨o + k.val, by omega⟩)) := by
  have e3 : ∀ e, B3 m c t (ix2 e k) = if e.val / 64 = k.val / 64 then Ideal.ofBits .f32 0x3C800000#32 else 0 :=
    fun e => (blk3 m c t e k).trans (means m c e k)
  have e2 : B2 m c t (ix2 0 ⟨o + k.val, by omega⟩) = V19 m c (ix2 0 (col t ⟨o + k.val, by omega⟩)) := blk2 m c t _ _ rfl
  have hq : (col t ⟨o + k.val, by omega⟩).val = t.val / 4 * 768 + o + k.val := by
    show t.val / 4 * 768 + (o + k.val) = _
    omega
  rw [hb, select_if, e2]
  simp only [raw_blk, e3, ← add_assoc]
  rw [head_sum (fun q => rawCol (A0 m c) (A1 m c) (row t r) q * rawCol (A0 m c) (A1 m c) (row t r) q) _ (t.val / 4 * 768 + o) k.val k.isLt]
  have hh : (t.val / 4 * 768 + o + k.val) / 64 * 64 = t.val / 4 * 768 + o + k.val / 64 * 64 := by omega
  unfold normed
  show _ = if 2048 ≤ (col t ⟨o + k.val, by omega⟩).val then rawCol (A0 m c) (A1 m c) (row t r) (col t ⟨o + k.val, by omega⟩).val else
    rawCol (A0 m c) (A1 m c) (row t r) (col t ⟨o + k.val, by omega⟩).val
    * Ideal.rsqrt (∑ e : Fin 64, rawCol (A0 m c) (A1 m c) (row t r) ((col t ⟨o + k.val, by omega⟩).val / 64 * 64 + e.val)
          * rawCol (A0 m c) (A1 m c) (row t r) ((col t ⟨o + k.val, by omega⟩).val / 64 * 64 + e.val)
        * Ideal.ofBits .f32 0x3C800000#32 + Ideal.ofBits .f32 0x358637BD#32)
    * gain (A2 m c) (A3 m c) (col t ⟨o + k.val, by omega⟩).val
  by_cases hv : 2048 ≤ t.val / 4 * 768 + o
  · rw [if_pos hv, if_pos (by omega), hq]
  · rw [if_neg hv, if_neg (by omega), gain_col m c _ (by omega), hq, hh]

/-- A block of the second result, and a value of it from the value's row and column. -/
def normedBlk (c : Dev nD) (t : Fin cfg0.N) (y : S1024x768.Idx) : EReal :=
  normed (A0 m c) (A1 m c) (A2 m c) (A3 m c) (ix2 (row t (y 0)) (col t (y 1)))

theorem normed_at (c : Dev nD) (t : Fin cfg0.N) (r : Fin 1024) (s : Fin 768) (y : S1024x768.Idx) (v : EReal)
    (hv : v = normed (A0 m c) (A1 m c) (A2 m c) (A3 m c) (ix2 (row t r) (col t s))) (h0 : (y 0).val = r.val) (h1 : (y 1).val = s.val) :
    v = normedBlk m c t y := by
  rw [hv, normedBlk, show y 0 = r from Fin.ext h0, show y 1 = s from Fin.ext h1]

theorem out_apply (c : Dev nD) (t : Fin cfg0.N) (y : S1024x768.Idx) :
    out0_5 (F := Ideal) (grid0.coords t) (B0 m c t) (B1 m c t) (B2 m c t) (B3 m c t) y = normedBlk m c t y := by
  have hs := store_apply m c t
  have hc := coord t
  unfold out0_5
  generalize B0 m c t = b0 at *
  generalize B1 m c t = b1 at *
  generalize B2 m c t = b2 at *
  generalize B3 m c t = b3 at *
  refine View.canon_append_of_piecesOf (Val := Elt Ideal) (e := .bf16) (normedBlk m c t) [] [_, _, _]
      ⟨fun x => ?_, fun x => ?_, fun x => ?_, trivial⟩ y (cover0_5 _ _ _ y)
  all_goals idx_vars x
  · unfold_payloads
    pointwise
    rw [hc]
    exact normed_at m c t x0 ⟨512 + x1.val, by omega⟩ _ _
      (hs 512 (by norm_num) (by norm_num) _ x0 x1 (sel2 ⟨t.val / 4, by have := lt16 t; omega⟩)) (by simp) (by simp)
  · unfold_payloads
    pointwise
    rw [hc]
    exact normed_at m c t x0 ⟨256 + x1.val, by omega⟩ _ _
      (hs 256 (by norm_num) (by norm_num) _ x0 x1 (sel1 ⟨t.val / 4, by have := lt16 t; omega⟩)) (by simp) (by simp)
  · unfold_payloads
    pointwise
    rw [hc]
    have h0 := hs 0 (by norm_num) (by norm_num) _ x0 x1 (sel0 ⟨t.val / 4, by have := lt16 t; omega⟩)
    simp only [Nat.zero_add] at h0
    exact normed_at m c t x0 ⟨x1.val, by omega⟩ _ _ h0 (by simp) (by simp)

/-- The two result arrays after the run. -/
theorem raw_final (c : Dev nD) : (dats m 0 c).arrAt 4 cfg0.N = raw (A0 m c) (A1 m c) := by
  refine (dats m 0 c).arrAt_eq_of_covers 4 _ (by decide +kernel) fun t hf y => ?_
  blk_simp
  rw [after0_4]
  idx_vars y
  frame_out
  unfold_payloads
  pointwise
  refine (raw_blk m c t y0 y1).trans ?_
  unfold rawCol
  rw [dif_pos (show t.val / 4 * 768 + y1.val < 3072 from (col t y1).isLt)]
  show raw (A0 m c) (A1 m c) (ix2 (row t y0) (col t y1)) = _
  congr 1
  blk_ext [idx t, row, col]

theorem normed_final (c : Dev nD) : (dats m 0 c).arrAt 5 cfg0.N = normed (A0 m c) (A1 m c) (A2 m c) (A3 m c) := by
  refine (dats m 0 c).arrAt_eq_of_covers 5 _ (by decide +kernel) fun t hf y => ?_
  blk_simp
  rw [after0_5]
  refine (out_apply m c t y).trans ?_
  unfold normedBlk
  congr 1
  idx_vars y
  blk_ext [idx t, row, col]

end Cert.QkvFwdIdeal.RowValue

end
-- ==== Proof.QkvFwdRef.lean ====
/-
  The reference `QkvPlain` over the extended reals, read at an index: the product, and queries and keys normed head by head.
-/
module

public import proofs.«01_k».proof.Proof.Gen.QkvPlainIdeal.Run
public import proofs.«01_k».proof.Proof.Gen.QkvPlainIdeal.Read
public import proofs.«01_k».proof.Proof.QkvFwdValue

@[expose] public section

set_option maxRecDepth 16384

noncomputable section

namespace Cert.QkvPlainIdeal.RefValue

open Cert.QkvPlainIdeal Cert.QkvPlainIdeal.Gen Idealize.ShloMosaic Idealize.ShloMosaic.TcCoe Idealize.SL.Sem
open Cert.QkvPlainIdeal.Read
open Cert.QkvFwdIdeal.RowValue (raw rawCol gain normed)

theorem sq_nonneg (x : EReal) : 0 ≤ x * x := by
  rcases le_total 0 x with h | h
  · exact mul_nonneg h h
  · have h' : 0 ≤ -x := EReal.neg_nonneg.2 h
    have := mul_nonneg h' h'
    rwa [neg_mul_neg] at this

/-- A factor outside a sum of terms that are not negative. -/
theorem sum_mul_out {n : ℕ} (f : Fin n → EReal) (hf : ∀ e, 0 ≤ f e) (c : EReal) : (∑ e, f e) * c = ∑ e, f e * c := by
  have h : ∀ s : Finset (Fin n), (∑ e ∈ s, f e) * c = ∑ e ∈ s, f e * c := fun s => by
    induction s using Finset.induction_on with
    | empty => simp
    | insert a s ha ih =>
      rw [Finset.sum_insert ha, Finset.sum_insert ha, EReal.right_distrib_of_nonneg (hf a) (Finset.sum_nonneg fun e _ => hf e), ih]
  exact h Finset.univ

/-- The mean square over a head's 64 columns, as a division of the sum and as a sum of parts. -/
theorem mean_eq (f : Fin 64 → EReal) :
    Ideal.div (∑ e, f e * f e) (Ideal.ofBits .f32 0x42800000#32) = ∑ e, f e * f e * Ideal.ofBits .f32 0x3C800000#32 := by
  have h64 : Ideal.ofBits .f32 0x42800000#32 = ((64 : ℝ) : EReal) := by
    simp [Ideal.ofBits, Ideal.ieee, -EReal.coe_mul]; norm_num
  have hinv : Ideal.ofBits .f32 0x3C800000#32 = ((1 / 64 : ℝ) : EReal) := by
    simp [Ideal.ofBits, Ideal.ieee, -EReal.coe_mul]; norm_num
  rw [h64, hinv, Ideal.div_coe (by norm_num)]
  exact sum_mul_out _ (fun e => sq_nonneg _) _

variable (X : S4096x1024.Idx → EReal) (W : S1024x3072.Idx → EReal) (gq gk : S1x64.Idx → EReal)

/-- The product. -/
theorem raw_ref : val_main_v0 (F := Ideal) X W = raw X W := by
  funext j
  idx_vars j
  unfold val_main_v0
  pointwise
  rfl

/-- Queries, keys and values by head. -/
theorem q_apply (r : Fin 4096) (h : Fin 16) (e : Fin 64) :
    val_main_v3 (F := Ideal) X W (ix3 r h e) = raw X W (ix2 r ⟨h.val * 64 + e.val, by omega⟩) := by
  unfold val_main_v3 val_main_v2 val_main_v1
  rw [raw_ref]
  generalize raw X W = Y
  pointwise

theorem k_apply (r : Fin 4096) (h : Fin 16) (e : Fin 64) :
    val_main_v19 (F := Ideal) X W (ix3 r h e) = raw X W (ix2 r ⟨1024 + h.val * 64 + e.val, by omega⟩) := by
  unfold val_main_v19 val_main_v18 val_main_v1
  rw [raw_ref]
  generalize raw X W = Y
  pointwise

theorem v_apply (r : Fin 4096) (h : Fin 16) (e : Fin 64) :
    val_main_v35 (F := Ideal) X W (ix3 r h e) = raw X W (ix2 r ⟨2048 + h.val * 64 + e.val, by omega⟩) := by
  unfold val_main_v35 val_main_v34 val_main_v1
  rw [raw_ref]
  generalize raw X W = Y
  pointwise

/-- A head's row normed. -/
abbrev headNorm (f : Fin 64 → EReal) (g : S1x64.Idx → EReal) (e : Fin 64) : EReal :=
  f e * Ideal.rsqrt (Ideal.div (∑ e, f e * f e) (Ideal.ofBits .f32 0x42800000#32) + Ideal.ofBits .f32 0x358637BD#32) * g (ix2 0 e)

theorem qn_apply (r : Fin 4096) (h : Fin 16) (e : Fin 64) :
    val_main_v17 (F := Ideal) X W gq (ix3 r h e) = headNorm (fun e => val_main_v3 (F := Ideal) X W (ix3 r h e)) gq e := by
  unfold val_main_v17 val_main_v16 val_main_v15
    val_main_v4 val_main_v14 val_main_v13 val_main_v12 val_main_v11 val_main_v10 val_main_cst_1 val_main_v9 val_main_v8 val_main_cst_0
    val_main_v7 val_main_v6 val_main_cst val_main_v5
  generalize val_main_v3 (F := Ideal) X W = Y
  pointwise

theorem kn_apply (r : Fin 4096) (h : Fin 16) (e : Fin 64) :
    val_main_v33 (F := Ideal) X W gk (ix3 r h e) = headNorm (fun e => val_main_v19 (F := Ideal) X W (ix3 r h e)) gk e := by
  unfold val_main_v33 val_main_v32 val_main_v31
    val_main_v20 val_main_v30 val_main_v29 val_main_v28 val_main_v27 val_main_v26 val_main_cst_4 val_main_v25 val_main_v24 val_main_cst_3
    val_main_v23 val_main_v22 val_main_cst_2 val_main_v21
  generalize val_main_v19 (F := Ideal) X W = Y
  pointwise

/-- A normed column below 2048, from its head's columns. -/
theorem normed_low (r : Fin 4096) (q : Fin 3072) (hq : q.val < 2048) (f : Fin 64 → EReal) (g : S1x64.Idx → EReal) (k : Fin 64)
    (hk : k.val = q.val % 64) (hf : ∀ e : Fin 64, f e = raw X W (ix2 r ⟨q.val / 64 * 64 + e.val, by omega⟩))
    (hg : gain gq gk q.val = g (ix2 0 k)) : headNorm f g k = normed X W gq gk (ix2 r q) := by
  have hc : ∀ e : Fin 64, rawCol X W r (q.val / 64 * 64 + e.val) = f e := fun e => by
    rw [hf e]
    unfold rawCol
    rw [dif_pos (by omega)]
  have hq' : rawCol X W r q.val = f k := by
    rw [← hc k]
    congr 1
    omega
  refine Eq.trans ?_ (if_neg (show ¬ 2048 ≤ q.val by omega)).symm
  show _ = rawCol X W r q.val * Ideal.rsqrt (∑ e : Fin 64, rawCol X W r (q.val / 64 * 64 + e.val) * rawCol X W r (q.val / 64 * 64 + e.val)
        * Ideal.ofBits .f32 0x3C800000#32 + Ideal.ofBits .f32 0x358637BD#32) * gain gq gk q.val
  rw [hq', hg]
  simp only [hc]
  unfold headNorm
  rw [mean_eq]

/-- The three parts side by side, read at a column of each. -/
theorem col_q (r : Fin 4096) (q : Fin 1024) : val_main_v41 (F := Ideal) X W gq gk (ix2 r ⟨q.val, by omega⟩)
    = val_main_v17 (F := Ideal) X W gq (ix3 r ⟨q.val / 64, by omega⟩ ⟨q.val % 64, by omega⟩) := by
  unfold val_main_v41 val_main_v40 val_main_v39 val_main_v38 val_main_v37 val_main_v36
  generalize val_main_v17 (F := Ideal) X W gq = Y
  generalize val_main_v33 (F := Ideal) X W gk = Y'
  generalize val_main_v35 (F := Ideal) X W = Y''
  pointwise
  rw [dif_pos (by omega)]
  pointwise
  congr 2 <;> exact Fin.ext (by simp only; omega)

theorem col_k (r : Fin 4096) (q : Fin 1024) : val_main_v41 (F := Ideal) X W gq gk (ix2 r ⟨1024 + q.val, by omega⟩)
    = val_main_v33 (F := Ideal) X W gk (ix3 r ⟨q.val / 64, by omega⟩ ⟨q.val % 64, by omega⟩) := by
  unfold val_main_v41 val_main_v40 val_main_v39 val_main_v38 val_main_v37 val_main_v36
  generalize val_main_v17 (F := Ideal) X W gq = Y
  generalize val_main_v33 (F := Ideal) X W gk = Y'
  generalize val_main_v35 (F := Ideal) X W = Y''
  pointwise
  rw [dif_neg (by omega), dif_pos (by omega)]
  pointwise
  congr 2 <;> exact Fin.ext (by simp only; omega)

theorem col_v (r : Fin 4096) (q : Fin 1024) : val_main_v41 (F := Ideal) X W gq gk (ix2 r ⟨2048 + q.val, by omega⟩)
    = val_main_v35 (F := Ideal) X W (ix3 r ⟨q.val / 64, by omega⟩ ⟨q.val % 64, by omega⟩) := by
  unfold val_main_v41 val_main_v40 val_main_v39 val_main_v38 val_main_v37 val_main_v36
  generalize val_main_v17 (F := Ideal) X W gq = Y
  generalize val_main_v33 (F := Ideal) X W gk = Y'
  generalize val_main_v35 (F := Ideal) X W = Y''
  pointwise
  rw [dif_neg (by omega), dif_neg (by omega)]
  pointwise
  congr 2 <;> exact Fin.ext (by simp only; omega)

theorem part (q : Fin 3072) : (∃ e : Fin 1024, q = ⟨e.val, by omega⟩) ∨ (∃ e : Fin 1024, q = ⟨1024 + e.val, by omega⟩)
    ∨ ∃ e : Fin 1024, q = ⟨2048 + e.val, by omega⟩ := by
  by_cases h : q.val < 1024
  · exact Or.inl ⟨⟨q.val, h⟩, rfl⟩
  · by_cases h' : q.val < 2048
    · exact Or.inr (Or.inl ⟨⟨q.val - 1024, by omega⟩, Fin.ext (by simp only; omega)⟩)
    · exact Or.inr (Or.inr ⟨⟨q.val - 2048, by omega⟩, Fin.ext (by simp only; omega)⟩)

/-- The normed queries and keys with the values. -/
theorem normed_ref : val_main_v41 (F := Ideal) X W gq gk = normed X W gq gk := by
  funext j
  idx_vars j
  rcases part j1 with ⟨e, rfl⟩ | ⟨e, rfl⟩ | ⟨e, rfl⟩
  · rw [col_q, qn_apply]
    refine normed_low X W gq gk j0 ⟨e.val, by omega⟩ (by simp only; omega) _ gq _ (by simp only) (fun k => q_apply X W _ _ k) ?_
    unfold gain
    rw [if_pos e.isLt]
  · rw [col_k, kn_apply]
    refine normed_low X W gq gk j0 ⟨1024 + e.val, by omega⟩ (by simp only; omega) _ gk _ (by simp only; omega) (fun k => ?_) ?_
    · refine (k_apply X W _ _ k).trans (congrArg (fun q => raw X W (ix2 j0 q)) (Fin.ext ?_))
      simp only
      omega
    · unfold gain
      rw [if_neg (by simp only; omega)]
      exact congrArg (fun q => gk (ix2 0 q)) (Fin.ext (by simp only; omega))
  · rw [col_v, v_apply]
    refine Eq.trans ?_ (if_pos (show 2048 ≤ 2048 + e.val by omega)).symm
    show _ = rawCol X W j0 (2048 + e.val)
    unfold rawCol
    rw [dif_pos (by omega)]
    refine congrArg (fun q => raw X W (ix2 j0 q)) (Fin.ext ?_)
    simp only
    omega

end Cert.QkvPlainIdeal.RefValue
-- ==== Proof.QkvFwdClaim.lean ====
/-
  The claims about the forward pass's queries, keys and values: `QkvFwd` against `QkvPlain`.
-/
module

public import proofs.«01_k».proof.Defs
public import proofs.«01_k».proof.Proof.QkvFwdRef

@[expose] public section

set_option maxRecDepth 16384

noncomputable section

namespace Cert.QkvFwdClaim

open Idealize.ShloMosaic Idealize.ShloMosaic.TcCoe Idealize.SL.Sem
open Cert.QkvFwdIdeal.RowValue (raw normed raw_final normed_final A0 A1 A2 A3)
open Cert.QkvPlainIdeal.RefValue (raw_ref normed_ref)

/-- Both programs compute the same product and the same normed queries and keys over the extended reals. -/
theorem algebraic : algebraic_QkvFwdIdeal_QkvPlainIdeal (hQkvFwdIdeal := Cert.QkvFwdIdeal.Gen.facts)
    (hQkvPlainIdeal := Cert.QkvPlainIdeal.Gen.facts) := fun m ρ m' ρ' _ hag =>
  ⟨fun c => raw (A0 m c) (A1 m c), fun c => normed (A0 m c) (A1 m c) (A2 m c) (A3 m c),
    (θ_run _ _ _).mono (fun _ h c => ⟨(h c).1.trans (raw_final m c), (h c).2.1.trans (normed_final m c), (h c).2.2⟩)
      (QkvFwdIdeal.Value.run_blocks m ρ),
    (θ_run _ _ _).mono (fun _ h c => by
      obtain ⟨e0, e1, e2, e3⟩ := hag c
      refine ⟨(h c).1.trans ?_, (h c).2.1.trans ?_, (h c).2.2⟩
      · refine (QkvPlainIdeal.Read.val_main_v0_eq _ _).trans ?_
        rw [e0, e1]
        exact raw_ref _ _
      · refine (QkvPlainIdeal.Read.val_main_v41_eq _ _).trans ?_
        rw [e0, e1, e2, e3]
        exact normed_ref _ _ _ _) (QkvPlainIdeal.Value.run m' ρ')⟩

/-- The frame of the reference: its run with the results forgotten. -/
theorem frame_ref : quiescent_QkvPlainIdeal (hQkvPlainIdeal := Cert.QkvPlainIdeal.Gen.facts) := fun m ρ _ =>
  (θ_run _ _ _).mono (fun r h => ⟨fun c => (h c).2.2, sem_eq_zero_of_no_sems (by decide) r.2⟩)
    (QkvPlainIdeal.Value.run m ρ)

end Cert.QkvFwdClaim
-- ==== Proof.BiasFwdValue.lean ====
/-
  What the kernel `BiasFwd` computes over the extended reals: every place of a branch reads its bucket's row of the table,
  by a product with a 0/1 matrix, and the places whose key lies outside the sequence get the mask's value.
-/
module

public import proofs.«01_k».proof.Proof.Gen.BiasFwdIdeal.Value
public import proofs.«01_k».proof.Proof.BiasValue
public import Idealize.ShloMosaic.Lib.Pipeline.ReadBack

@[expose] public section

set_option maxRecDepth 16384

noncomputable section

namespace Cert.BiasFwdIdeal.RowValue

open Cert.BiasFwdIdeal Cert.BiasFwdIdeal.Gen Idealize.ShloMosaic Idealize.ShloMosaic.TcCoe Idealize.SL.Sem
open Idealize.ShloMosaic.Pipeline (Dat)
open Cert.BiasBwdIdeal.RowValue (hit)

/-- The row of the table that a word names, at head `h`; nothing where it names none. -/
def entry (tb : S32x16.Idx → EReal) (w : BitVec 32) (h : Fin 16) : EReal :=
  ∑ r : Fin 32, if BitVec.ofNat 32 r.val = w then tb (ix2 r h) else 0

/-- The bias of branch `j 0`, side `j 1`, head `j 2` at place `j 3`. -/
def expand (tb : S32x16.Idx → EReal) (w : S3x32768.Idx → BitVec 32) (v : S3x2x32768.Idx → BitVec 32) (j : S3x2x16x32768.Idx) : EReal :=
  Scalar.select (IntOp.cmpi CmpIPredicate.sgt (v (ix3 (j 0) (j 1) (j 3))) 0#32) (entry tb (w (ix2 (j 0) (j 3))) (j 2))
    (Scalar.ofBits (F := Ideal) .f32 0xF149F2CA#32)

variable (m : (ℓ : Loc nD τ sig) → Buf (Elt Ideal) ℓ)

/-- The arguments. -/
abbrev A0 (c : Dev nD) : S32x16.Idx → EReal := m ((c : Thread nD τ).loc main_arg0)
abbrev A1 (c : Dev nD) : S3x32768.Idx → BitVec 32 := m ((c : Thread nD τ).loc main_arg1)
abbrev A2 (c : Dev nD) : S3x2x32768.Idx → BitVec 32 := m ((c : Thread nD τ).loc main_arg2)

/-- The blocks. -/
abbrev B0 (c : Dev nD) (t : Fin cfg0.N) : S16x32.Idx → EReal := iblk m c 0 t
abbrev B1 (c : Dev nD) (t : Fin cfg0.N) : S1x1x8192.Idx → BitVec 32 := iblk m c 1 t
abbrev B2 (c : Dev nD) (t : Fin cfg0.N) : S1x2x1x8192.Idx → BitVec 32 := iblk m c 2 t

/-- The index maps as closed forms. -/
theorem idx : ∀ t : Fin grid0.N, win0_0.index t = ![0, 0] ∧ win0_1.index t = ![t.val / 4, 0, t.val % 4]
    ∧ win0_2.index t = ![t.val / 4, 0, 0, t.val % 4] ∧ win0_3.index t = ![t.val / 4, 0, 0, t.val % 4] := by decide +kernel

/-- The branch of block `t`, and the place in the branch of entry `n` of the block. -/
def branch (t : Fin cfg0.N) : Fin 3 := ⟨t.val / 4, by have := t.isLt; have h : cfg0.N = 12 := N_0; omega⟩
def col (t : Fin cfg0.N) (n : Fin 8192) : Fin 32768 := ⟨t.val % 4 * 8192 + n.val, by have := n.isLt; omega⟩

/-- The arrays as the host hands them to the kernel. -/
abbrev V0 (c : Dev nD) : S16x32.Idx → EReal := V m c main_v0
abbrev V1 (c : Dev nD) : S3x1x32768.Idx → BitVec 32 := V m c main_v1
abbrev V2 (c : Dev nD) : S3x2x1x32768.Idx → BitVec 32 := V m c main_v2

theorem host0 (c : Dev nD) (h : Fin 16) (r : Fin 32) : V0 m c (ix2 h r) = A0 m c (ix2 r h) := by
  unfold V0 V
  after_results_simp
  pointwise

theorem host1 (c : Dev nD) (b : Fin 3) (n : Fin 32768) : V1 m c (ix3 b 0 n) = A1 m c (ix2 b n) := by
  unfold V1 V
  after_results_simp
  pointwise

theorem host2 (c : Dev nD) (b : Fin 3) (d : Fin 2) (n : Fin 32768) : V2 m c (ix4 b d 0 n) = A2 m c (ix3 b d n) := by
  unfold V2 V
  after_results_simp
  pointwise

theorem blk0 (c : Dev nD) (t : Fin cfg0.N) (h : Fin 16) (r : Fin 32) : B0 m c t (ix2 h r) = A0 m c (ix2 r h) := by
  refine Eq.trans ?_ (host0 m c h r)
  blk_ext [iblk, idx t]

theorem blk1 (c : Dev nD) (t : Fin cfg0.N) (n : Fin 8192) : B1 m c t (ix3 0 0 n) = A1 m c (ix2 (branch t) (col t n)) := by
  refine Eq.trans ?_ (host1 m c (branch t) (col t n))
  blk_ext [iblk, idx t, branch, col]

theorem blk2 (c : Dev nD) (t : Fin cfg0.N) (d : Fin 2) (n : Fin 8192) :
    B2 m c t (ix4 0 d 0 n) = A2 m c (ix3 (branch t) d (col t n)) := by
  refine Eq.trans ?_ (host2 m c (branch t) d (col t n))
  blk_ext [iblk, idx t, branch, col]

/-- A table of real numbers. -/
abbrev Finite (tb : S32x16.Idx → EReal) : Prop := ∀ j, ∃ x : ℝ, tb j = x

/-- The body's product at a head and a place: the two further terms of the split table are zero. -/
theorem pay_apply (v1 : S1x1x8192.Idx → BitVec 32) (v8 : S16x32.Idx → EReal) (hv : ∀ j, ∃ x : ℝ, v8 j = x) (h : Fin 16) (n : Fin 8192) :
    k0_pay2 (F := Ideal) v1 v8 (ix2 h n) = ∑ r : Fin 32, if BitVec.ofNat 32 r.val = v1 (ix3 0 0 n) then v8 (ix2 h r) else 0 := by
  have e0 : ∀ r, v8 (ix2 h r) - v8 (ix2 h r) = 0 := fun r => by
    obtain ⟨x, hx⟩ := hv (ix2 h r)
    rw [hx, ← EReal.coe_sub, sub_self, EReal.coe_zero]
  unfold k0_pay2
  pointwise
  simp only [hit, e0, sub_zero, zero_mul, Finset.sum_const_zero, add_zero, mul_ite, mul_one, mul_zero, ite_self]

theorem pay_blk (c : Dev nD) (hd : Finite (A0 m c)) (t : Fin cfg0.N) (h : Fin 16) (n : Fin 8192) :
    k0_pay2 (F := Ideal) (B1 m c t) (B0 m c t) (ix2 h n) = entry (A0 m c) (A1 m c (ix2 (branch t) (col t n))) h := by
  rw [pay_apply]
  · simp only [blk0, blk1]
    rfl
  · intro j
    idx_vars j
    rw [blk0]
    exact hd _

/-- One block of the result, and a value of it from the value's place. -/
def expandBlk (c : Dev nD) (t : Fin cfg0.N) (y : S1x2x16x8192.Idx) : EReal :=
  expand (A0 m c) (A1 m c) (A2 m c) (ix4 (branch t) (y 1) (y 2) (col t (y 3)))

theorem expand_at (c : Dev nD) (t : Fin cfg0.N) (d : Fin 2) (h : Fin 16) (n : Fin 8192) (y : S1x2x16x8192.Idx) (v : EReal)
    (hv : v = Scalar.select (IntOp.cmpi CmpIPredicate.sgt (A2 m c (ix3 (branch t) d (col t n))) 0#32)
      (entry (A0 m c) (A1 m c (ix2 (branch t) (col t n))) h) (Scalar.ofBits (F := Ideal) .f32 0xF149F2CA#32))
    (h1 : (y 1).val = d.val) (h2 : (y 2).val = h.val) (h3 : (y 3).val = n.val) : v = expandBlk m c t y := by
  rw [hv, expandBlk, show y 1 = d from Fin.ext h1, show y 2 = h from Fin.ext h2, show y 3 = n from Fin.ext h3]
  rfl

theorem out_apply (c : Dev nD) (hd : Finite (A0 m c)) (t : Fin cfg0.N) (y : S1x2x16x8192.Idx) :
    out0_3 (F := Ideal) (B0 m c t) (B1 m c t) (B2 m c t) y = expandBlk m c t y := by
  have key := pay_blk m c hd t
  have e2 := blk2 m c t
  generalize B0 m c t = b0 at *
  generalize B1 m c t = b1 at *
  generalize B2 m c t = b2 at *
  have l0 : View.ld (Val := Elt Ideal) (e' := .f32) b0 r0_1 = b0 := by
    funext j
    idx_vars j
    pointwise
  have l1 : View.ld (Val := Elt Ideal) (e' := .i32) b1 r0_0 = b1 := by
    funext j
    idx_vars j
    obtain rfl : j0 = 0 := Subsingleton.elim _ _
    obtain rfl : j1 = 0 := Subsingleton.elim _ _
    pointwise
  unfold out0_3
  refine View.canon_append_of_piecesOf (Val := Elt Ideal) (e := .f32) (expandBlk m c t) [] [_, _]
    ⟨fun x => ?_, fun x => ?_, trivial⟩ y (cover0_3 _ _ y)
  all_goals idx_vars x
  · refine expand_at m c t 1 x2 x3 _ _ ?_ (by simp) (by simp) (by simp)
    unfold k0_pay1 k0_pay4
    pointwise
    rw [l1, l0, key, e2]
  · refine expand_at m c t 0 x2 x3 _ _ ?_ (by simp) (by simp) (by simp)
    unfold k0_pay3
    pointwise
    rw [l1, l0, key, e2]

/-- The result array after the run. -/
theorem final (c : Dev nD) (hd : Finite (A0 m c)) : (dats m 0 c).arrAt 3 cfg0.N = expand (A0 m c) (A1 m c) (A2 m c) := by
  refine (dats m 0 c).arrAt_eq_of_covers 3 _ (by decide +kernel) fun t hf y => ?_
  blk_simp
  rw [after0_3]
  refine (out_apply m c hd t y).trans ?_
  unfold expandBlk
  congr 1
  idx_vars y
  blk_ext [idx t, branch, col]

end Cert.BiasFwdIdeal.RowValue

end
-- ==== Proof.BiasFwdRef.lean ====
/-
  What the reference `BiasPlain` computes over the extended reals, read at an index.
-/
module

public import proofs.«01_k».proof.Proof.Gen.BiasPlainIdeal.Run
public import proofs.«01_k».proof.Proof.Gen.BiasPlainIdeal.Read
public import proofs.«01_k».proof.Proof.BiasFwdValue
public import Idealize.ShloMosaic.Lib.Routing.Ops
public import Idealize.ShloMosaic.Lib.Tactic.WordOmega

@[expose] public section

set_option maxRecDepth 16384

noncomputable section

namespace Cert.BiasPlainIdeal.RefValue

open Cert.BiasPlainIdeal Cert.BiasPlainIdeal.Gen Idealize.ShloMosaic Idealize.ShloMosaic.TcCoe Idealize.SL.Sem
open Cert.BiasPlainIdeal.Read
open Cert.BiasFwdIdeal.RowValue (entry expand)

/-- A row's number, wrapped where it is negative, is the number. -/
theorem wrap_row : ∀ r : Fin 32, Scalar.select (IntOp.cmpi CmpIPredicate.slt (BitVec.ofNat 32 r.val) 0#32)
    (IntOp.addi (BitVec.ofNat 32 r.val) 32#32) (BitVec.ofNat 32 r.val) = BitVec.ofNat 32 r.val := by decide +kernel

theorem word_row : ∀ a r : Fin 32, BitVec.ofNat 32 a.val = BitVec.ofNat 32 r.val ↔ a = r := by decide +kernel

/-- The row that a word names. -/
theorem entry_row (tb : S32x16.Idx → EReal) (r : Fin 32) (h : Fin 16) : entry tb (BitVec.ofNat 32 r.val) h = tb (ix2 r h) := by
  unfold entry
  rw [Finset.sum_congr rfl fun a _ => if_congr (word_row a r) rfl rfl, Finset.sum_ite_eq' Finset.univ r, if_pos (Finset.mem_univ _)]

/-- Every bucket is a row of the table. -/
abbrev Buckets (w : S3x32768.Idx → BitVec 32) : Prop := ∀ j, ∃ r : Fin 32, w j = BitVec.ofNat 32 r.val

/-- One branch's rows. -/
theorem take_apply (x : S32x16.Idx → EReal) (idx : IVec S32768x1 32) (n : Fin 32768) (h : Fin 16) (r : Fin 32)
    (hr : idx (ix2 n 0) = BitVec.ofNat 32 r.val) :
    Host.gather gather_S32x16_S32768x1_S32768x16_1_0_n_n_0_1_116 x idx (ix2 n h) = entry x (BitVec.ofNat 32 r.val) h :=
  (Routing.gather_row _ rfl rfl rfl rfl rfl x idx n h r hr (by norm_num)).trans (entry_row x r h).symm

theorem branch0 (tb : S32x16.Idx → EReal) (w : S3x32768.Idx → BitVec 32) (hw : Buckets w) (n : Fin 32768) (h : Fin 16) :
    val_main_v8 (F := Ideal) tb w (ix2 n h) = entry tb (w (ix2 0 n)) h := by
  obtain ⟨r, hr⟩ := hw (ix2 0 n)
  rw [hr]
  refine take_apply tb _ n h r ?_
  unfold val_main_v7 val_main_v6 val_main_v5 val_main_v4 val_main_c_0 val_main_v3 val_main_v2 val_main_c val_main_v1 val_main_v0
  pointwise
  rw [hr, wrap_row]

theorem branch1 (tb : S32x16.Idx → EReal) (w : S3x32768.Idx → BitVec 32) (hw : Buckets w) (n : Fin 32768) (h : Fin 16) :
    val_main_v18 (F := Ideal) tb w (ix2 n h) = entry tb (w (ix2 1 n)) h := by
  obtain ⟨r, hr⟩ := hw (ix2 1 n)
  rw [hr]
  refine take_apply tb _ n h r ?_
  unfold val_main_v17 val_main_v16 val_main_v15 val_main_v14 val_main_c_2 val_main_v13 val_main_v12 val_main_c_1 val_main_v11 val_main_v10
  pointwise
  rw [hr, wrap_row]

theorem branch2 (tb : S32x16.Idx → EReal) (w : S3x32768.Idx → BitVec 32) (hw : Buckets w) (n : Fin 32768) (h : Fin 16) :
    val_main_v28 (F := Ideal) tb w (ix2 n h) = entry tb (w (ix2 2 n)) h := by
  obtain ⟨r, hr⟩ := hw (ix2 2 n)
  rw [hr]
  refine take_apply tb _ n h r ?_
  unfold val_main_v27 val_main_v26 val_main_v25 val_main_v24 val_main_c_4 val_main_v23 val_main_v22 val_main_c_3 val_main_v21 val_main_v20
  pointwise
  rw [hr, wrap_row]

/-- The reference's biases of the three branches. -/
theorem ref (tb : S32x16.Idx → EReal) (w : S3x32768.Idx → BitVec 32) (v : S3x2x32768.Idx → BitVec 32) (hw : Buckets w) :
    val_main_v38 (F := Ideal) tb w v = expand tb w v := by
  have h0 := branch0 tb w hw
  have h1 := branch1 tb w hw
  have h2 := branch2 tb w hw
  funext j
  idx_vars j
  unfold val_main_v38 val_main_call0_v3 val_main_call0_v0 val_main_cst val_main_call0_v2 val_main_v37 val_main_v33 val_main_v32
    val_main_v29 val_main_v31 val_main_v19 val_main_v30 val_main_v9 val_main_call0_v1 val_main_v36
    val_main_v35 val_main_c_5 val_main_v34
  generalize val_main_v8 (F := Ideal) tb w = y8 at *
  generalize val_main_v18 (F := Ideal) tb w = y18 at *
  generalize val_main_v28 (F := Ideal) tb w = y28 at *
  pointwise
  simp only [h0, h1, h2]
  match j0 with
  | 0 => rfl
  | 1 => rfl
  | 2 => rfl

end Cert.BiasPlainIdeal.RefValue

end
-- ==== Proof.BiasFwdClaim.lean ====
/-
  The claims about the biases of the attentions: `BiasFwd` against `BiasPlain`.
-/
module

public import proofs.«01_k».proof.Defs
public import proofs.«01_k».proof.Proof.BiasFwdRef

@[expose] public section

set_option maxRecDepth 16384

noncomputable section

namespace Cert.BiasFwdClaim

open Idealize.ShloMosaic Idealize.ShloMosaic.TcCoe Idealize.SL.Sem
open Cert.BiasFwdIdeal.RowValue (expand final)

/-- The precondition's operations take these facts. -/
instance finite_facts : Cert.Pre_finite_table.Facts := by
  constructor <;> decide

/-- A word between 0 and 32 is a row's number. -/
theorem row_of (x : BitVec 32) (h0 : IntOp.cmpi CmpIPredicate.sge x 0#32 = 1#1) (h1 : IntOp.cmpi CmpIPredicate.slt x 32#32 = 1#1) :
    ∃ r : Fin 32, x = BitVec.ofNat 32 r.val := by
  have h : x.toNat < 32 := by word_omega
  exact ⟨⟨x.toNat, h⟩, (BitVec.ofNat_toNat 32 x).symm ▸ by simp⟩

/-- The precondition says that the table holds real numbers and that every bucket is a row of it. -/
theorem reals {a : Pre_finite_table.S32x16.Idx → EReal} {w : Pre_finite_table.S3x32768.Idx → BitVec 32}
    {v : Pre_finite_table.S3x2x32768.Idx → BitVec 32} [Pre_finite_table.Facts]
    (h : Pre_finite_table.fn (F := Ideal) a w v = fun _ => 1#1) :
    (∀ j, ∃ x : ℝ, a j = x) ∧ ∀ j, ∃ r : Fin 32, w j = BitVec.ofNat 32 r.val := by
  have e := congrFun h (fun a => a.elim0)
  dsimp only [Pre_finite_table.fn] at e
  obtain ⟨e, h2⟩ := IntOp.andi_eq_one.1 e
  obtain ⟨h0, h1⟩ := IntOp.andi_eq_one.1 e
  refine ⟨fun j => ?_, fun j => row_of _ (Host.reduce_andi_all _ _ _ _ _ h1 j) (Host.reduce_andi_all _ _ _ _ _ h2 j)⟩
  obtain ⟨f, hf⟩ := Reals.reals_of_all a _ _ _ _ _ (fun _ => rfl) h0
  exact ⟨f j, congrFun hf j⟩

/-- Both programs compute the same biases over the extended reals. -/
theorem algebraic : algebraic_BiasFwdIdeal_BiasPlainIdeal_pre_finite_table (hBiasFwdIdeal := Cert.BiasFwdIdeal.Gen.facts)
    (hBiasPlainIdeal := Cert.BiasPlainIdeal.Gen.facts) (hPre_finite_table := finite_facts) := fun m ρ m' ρ' hpre hag =>
  ⟨fun c => expand (m ((c.tc : Thread _ _).loc BiasFwdIdeal.main_arg0)) (m ((c.tc : Thread _ _).loc BiasFwdIdeal.main_arg1))
      (m ((c.tc : Thread _ _).loc BiasFwdIdeal.main_arg2)),
    (θ_run _ _ _).mono (fun _ h c => ⟨(h c).1.trans (final m c (reals (hpre c)).1), (h c).2⟩) (BiasFwdIdeal.Value.run_blocks m ρ),
    (θ_run _ _ _).mono (fun _ h c => by
      obtain ⟨-, hw⟩ := reals (hpre c)
      obtain ⟨e0, e1, e2⟩ := hag c
      refine ⟨(h c).1.trans ?_, (h c).2⟩
      refine (BiasPlainIdeal.Read.val_main_v38_eq _ _ _).trans ?_
      refine Eq.trans ?_ (BiasPlainIdeal.RefValue.ref _ _ _ hw)
      rw [← e0, ← e1, ← e2]) (BiasPlainIdeal.Value.run m' ρ')⟩

/-- The frame of the reference: its run with the results forgotten. -/
theorem frame_ref : quiescent_BiasPlainIdeal (hBiasPlainIdeal := Cert.BiasPlainIdeal.Gen.facts) := fun m ρ _ =>
  (θ_run _ _ _).mono (fun r h => ⟨fun c => (h c).2, sem_eq_zero_of_no_sems (by decide) r.2⟩)
    (BiasPlainIdeal.Value.run m ρ)

end Cert.BiasFwdClaim

end
-- ==== Proof.MixerFwdValue.lean ====
/-
  What the kernel `MixerFwd` computes over the extended reals, read at an index: the projected rows, the gated causal
  convolution, and the pooled columns. A block works on its own rows and the sixteen rows before. Rows are numbered from
  sixteen, so that padded row `n` is row `n - 16` of the sequence.
-/
module

public import proofs.«01_k».proof.Proof.Gen.MixerFwdIdeal.Value
public import proofs.«01_k».proof.Proof.MixerConv
public import proofs.«01_k».proof.Proof.GluFwdValue
public import Idealize.ShloMosaic.Lib.Pipeline.ReadBack

@[expose] public section

set_option maxRecDepth 16384

noncomputable section

namespace Cert.MixerFwdIdeal.RowValue

open Cert.MixerFwdIdeal Cert.MixerFwdIdeal.Gen Idealize.ShloMosaic Idealize.ShloMosaic.TcCoe Idealize.SL.Sem
open Idealize.ShloMosaic.Pipeline (Dat)
open Cert.MixerBwdIdeal.RowValue (P P_in P_out cnt pooled sc zz cz select_if)
open Cert.GluFwdIdeal.RowValue (rows rows_in)

/-- The projected rows. -/
def proj (x : S4096x1024.Idx → EReal) (w : S1024x2048.Idx → EReal) (j : Cert.MixerBwdIdeal.S4096x2048.Idx) : EReal :=
  ∑ s : Fin 1024, x (ix2 (j 0) s) * w (ix2 s (j 1))

/-- The two halves of the result at a row: the gated convolution and the scaled products of the pooled columns. -/
def convPart (A : S4096x2048.Idx → EReal) (V : S3x512.Idx → EReal) (n : ℕ) (k : Fin 512) : EReal := P A n (512 + k.val) * cz A V n k
def poolPart (A : S4096x2048.Idx → EReal) (W : S4x128x128.Idx → EReal) (S : S1x512.Idx → EReal) (g : Fin 4) (n : ℕ) (q : Fin 128) : EReal :=
  (∑ c : Fin 128, pooled A g.val n c.val * W (ix3 g c q)) * sc S (128 * g.val + q.val)

/-- The result. -/
def mixed (A : S4096x2048.Idx → EReal) (V : S3x512.Idx → EReal) (W : S4x128x128.Idx → EReal) (S : S1x512.Idx → EReal)
    (j : S4096x1024.Idx) : EReal :=
  if h : (j 1).val < 512 then convPart A V ((j 0).val + 16) ⟨(j 1).val, h⟩
  else poolPart A W S ⟨((j 1).val - 512) / 128, by have h : (j 1).val < 1024 := (j 1).isLt; omega⟩ ((j 0).val + 16)
    ⟨((j 1).val - 512) % 128, Nat.mod_lt _ (by norm_num)⟩

/-- A row of the padded argument times a column of the weight. -/
theorem sum_rows (x : S4096x1024.Idx → EReal) (w : S1024x2048.Idx → EReal) (n : ℕ) (q : Fin 2048) :
    ∑ s : Fin 1024, rows x n s * w (ix2 s q) = P (proj x w) n q.val := by
  by_cases h : 16 ≤ n ∧ n < 4112
  · rw [P_in _ _ ⟨n - 16, by omega⟩ q (by simp only; omega)]
    refine Finset.sum_congr rfl fun s _ => ?_
    rw [rows_in x n s ⟨n - 16, by omega⟩ (by simp only; omega)]
    rfl
  · rw [P_out _ _ _ (by omega)]
    refine Finset.sum_eq_zero fun s _ => ?_
    unfold rows
    rw [dif_neg h, zero_mul]

variable (m : (ℓ : Loc nD τ sig) → Buf (Elt Ideal) ℓ)

/-- The arguments as arrays of extended reals. -/
abbrev A0 (c : Dev nD) : S4096x1024.Idx → EReal := m ((c : Thread nD τ).loc main_arg0)
abbrev A1 (c : Dev nD) : S1024x2048.Idx → EReal := m ((c : Thread nD τ).loc main_arg1)
abbrev A2 (c : Dev nD) : S3x512.Idx → EReal := m ((c : Thread nD τ).loc main_arg2)
abbrev A3 (c : Dev nD) : S4x128x128.Idx → EReal := m ((c : Thread nD τ).loc main_arg3)
abbrev A4 (c : Dev nD) : S1x512.Idx → EReal := m ((c : Thread nD τ).loc main_arg4)

/-- The projected rows of the arguments. -/
abbrev A (c : Dev nD) : S4096x2048.Idx → EReal := proj (A0 m c) (A1 m c)

/-- The blocks. -/
abbrev B0 (c : Dev nD) (t : Fin cfg0.N) : S512x1024.Idx → EReal := iblk m c 0 t
abbrev B1 (c : Dev nD) (t : Fin cfg0.N) : S16x1024.Idx → EReal := iblk m c 1 t
abbrev B2 (c : Dev nD) (t : Fin cfg0.N) : S4x1x1024x512.Idx → EReal := iblk m c 2 t
abbrev B3 (c : Dev nD) (t : Fin cfg0.N) : S3x512.Idx → EReal := iblk m c 3 t
abbrev B4 (c : Dev nD) (t : Fin cfg0.N) : S4x128x128.Idx → EReal := iblk m c 4 t
abbrev B5 (c : Dev nD) (t : Fin cfg0.N) : S1x512.Idx → EReal := iblk m c 5 t

/-- The index maps as closed forms. -/
theorem idx : ∀ t : Fin grid0.N, win0_0.index t = ![t.val, 0] ∧ win0_1.index t = ![max (t.val * 32 - 1) 0, 0]
    ∧ win0_2.index t = ![0, 0, 0, 0] ∧ win0_3.index t = ![0, 0] ∧ win0_4.index t = ![0, 0, 0] ∧ win0_5.index t = ![0, 0]
    ∧ win0_6.index t = ![t.val, 0] ∧ win0_7.index t = ![t.val, 0] := by decide +kernel

theorem lt8 (t : Fin cfg0.N) : t.val < 8 := by
  have := t.isLt
  have h : cfg0.N = 8 := N_0
  omega

theorem coord (t : Fin cfg0.N) : (grid0.coords t 0).val = t.val := by
  have h : ∀ t : Fin grid0.N, (grid0.coords t 0).val = t.val := by decide +kernel
  exact h t

theorem blk0 (c : Dev nD) (t : Fin cfg0.N) (r : Fin 512) (s : Fin 1024) :
    B0 m c t (ix2 r s) = rows (A0 m c) (t.val * 512 + (16 + r.val)) s := by
  have := lt8 t
  rw [rows_in _ _ _ ⟨t.val * 512 + r.val, by omega⟩ (by simp only; omega)]
  blk_ext [iblk, V, idx t]

theorem blk1 (c : Dev nD) (t : Fin cfg0.N) (h : 0 < t.val) (r : Fin 16) (s : Fin 1024) :
    B1 m c t (ix2 r s) = rows (A0 m c) (t.val * 512 + r.val) s := by
  have := lt8 t
  rw [rows_in _ _ _ ⟨t.val * 512 + r.val - 16, by omega⟩ (by simp only; omega)]
  have hm : max (t.val * 32 - 1) 0 = t.val * 32 - 1 := by omega
  blk_ext [iblk, V, idx t, hm]

/-- The weights in four chunks of columns. -/
abbrev V3 (c : Dev nD) : S4x1x1024x512.Idx → EReal := V m c main_v3

theorem host3 (c : Dev nD) (b : Fin 4) (s : Fin 1024) (k : Fin 512) :
    V3 m c (ix4 b 0 s k) = A1 m c (ix2 s ⟨b.val * 512 + k.val, by omega⟩) := by
  unfold V3 V
  after_results_simp
  pointwise

theorem blk2 (c : Dev nD) (t : Fin cfg0.N) (b : Fin 4) (s : Fin 1024) (k : Fin 512) :
    B2 m c t (ix4 b 0 s k) = A1 m c (ix2 s ⟨b.val * 512 + k.val, by omega⟩) := by
  refine Eq.trans ?_ (host3 m c b s k)
  blk_ext [iblk, idx t]
theorem blk3 (c : Dev nD) (t : Fin cfg0.N) (r : Fin 3) (k : Fin 512) : B3 m c t (ix2 r k) = A2 m c (ix2 r k) := by
  blk_ext [iblk, V, idx t]
theorem blk4 (c : Dev nD) (t : Fin cfg0.N) (g : Fin 4) (s k : Fin 128) : B4 m c t (ix3 g s k) = A3 m c (ix3 g s k) := by
  blk_ext [iblk, V, idx t]
theorem blk5 (c : Dev nD) (t : Fin cfg0.N) (k : Fin 512) : B5 m c t (ix2 0 k) = A4 m c (ix2 0 k) := by
  blk_ext [iblk, V, idx t]

theorem first_word : ∀ t : Fin 8, Scalar.cmpi .sgt (BitVec.ofNat 32 t.val) 0#32 = if 0 < t.val then 1#1 else 0#1 := by decide +kernel

/-- The rows a block multiplies: the sixteen before it, zeros at the sequence's beginning, and its own. -/
theorem rows_blk (c : Dev nD) (t : Fin cfg0.N) (n : Fin 528) (s : Fin 1024) :
    k0_pay2 (F := Ideal) (grid0.coords t) (B1 m c t) (B0 m c t) (ix2 n s) = rows (A0 m c) (t.val * 512 + n.val) s := by
  have e0 := blk0 m c t
  have e1 := blk1 m c t
  unfold k0_pay2
  rw [coord, first_word ⟨t.val, lt8 t⟩]
  generalize B0 m c t = b0 at *
  generalize B1 m c t = b1 at *
  pointwise
  by_cases hn : n.val < 16
  · rw [dif_pos hn, select_if]
    by_cases ht : 0 < t.val
    · rw [if_pos ht, e1 ht]
    · rw [if_neg ht]
      unfold rows
      rw [dif_neg (by omega)]
  · rw [dif_neg hn, e0]
    exact congrArg (fun q => rows (A0 m c) q s) (by simp only; omega)

/-- A chunk of a block's projected rows. -/
theorem part_apply (c : Dev nD) (t : Fin cfg0.N) (w : S1x1x1024x512.Idx → EReal) (b : Fin 4)
    (hw : ∀ x k, w (ix4 0 0 x k) = A1 m c (ix2 x ⟨b.val * 512 + k.val, by omega⟩)) (e : Fin 528) (k : Fin 512) :
    k0_pay3 (F := Ideal) (grid0.coords t) (B1 m c t) (B0 m c t) w (ix2 e k) = P (A m c) (t.val * 512 + e.val) (b.val * 512 + k.val) := by
  refine Eq.trans ?_ (sum_rows (A0 m c) (A1 m c) (t.val * 512 + e.val) ⟨b.val * 512 + k.val, by omega⟩)
  refine Eq.trans ?_ (Finset.sum_congr rfl fun s _ => congrArg₂ (fun u v : EReal => u * v) (rows_blk m c t e s) (hw s k))
  unfold k0_pay3
  generalize k0_pay2 (F := Ideal) (grid0.coords t) (B1 m c t) (B0 m c t) = R
  pointwise

/-- An array plus itself rotated down its rows. -/
def turn (w : BitVec 32) (x : S528x128.Idx → EReal) : S528x128.Idx → EReal :=
  addf (F := Ideal) (φ := .f32) x (dynamicRotate 0 w none x rotates_S528x128_d0)

theorem turn_apply (w : BitVec 32) (x : S528x128.Idx → EReal) (e : Fin 528) (c : Fin 128) :
    turn w x (ix2 e c) = x (ix2 e c) + x (ix2 ⟨(e.val + 528 - w.toNat % 528) % 528, Nat.mod_lt _ (by omega)⟩ c) := by
  unfold turn
  show x (ix2 e c) + _ = _
  congr 1
  refine dynamicRotate_apply _ _ _ _ _ _ fun b => ?_
  obtain ⟨b, hb⟩ := b
  match b, hb with
  | 0, _ => rfl
  | 1, _ => rfl

/-- An array that holds the windows of `s` rows that end at a row, from row `s - 1` on. -/
def Windows (f : ℕ → EReal) (b s : ℕ) (q : Fin 128) (x : S528x128.Idx → EReal) : Prop :=
  ∀ e : Fin 528, s ≤ e.val + 1 → x (ix2 e q) = ∑ j ∈ Finset.range s, f (b + e.val - j)

theorem windows_one (f : ℕ → EReal) (b : ℕ) (q : Fin 128) (x : S528x128.Idx → EReal) (h : ∀ e : Fin 528, x (ix2 e q) = f (b + e.val)) :
    Windows f b 1 q x := fun e _ => by rw [h e, Finset.sum_range_one, Nat.sub_zero]

/-- Doubling a window. -/
theorem windows_double (w : BitVec 32) (s : ℕ) (hw : w.toNat = s) (hs : s < 528) (f : ℕ → EReal) (b : ℕ) (q : Fin 128)
    (x : S528x128.Idx → EReal) (hx : Windows f b s q x) : Windows f b (s + s) q (turn w x) := fun e he => by
  have h2 : (e.val + 528 - w.toNat % 528) % 528 = e.val - s := by
    rw [hw]; have := e.isLt; omega
  rw [turn_apply, Finset.sum_range_add, hx e (by omega), hx _ (by simp only [h2]; omega)]
  congr 1
  refine Finset.sum_congr rfl fun j _ => ?_
  simp only [h2]
  congr 1
  omega

/-- The number of rows in a window of `w` that ends at a row of block `t`. -/
def counts (w t : BitVec 32) : S528x1.Idx → EReal :=
  sitofp (F := Ideal) .f32 (minsi (broadcast S528x1 w) (maxsi (broadcast S528x1 1#32) (addi (addi (broadcast S528x1
    (Scalar.subi (Scalar.muli t 512#32) 16#32)) (iota .tc S528x1 32 [0] iota_S528x1_d0_w32)) (broadcast S528x1 1#32))))

theorem word_cnt : ∀ (t : Fin 8) (e : Fin 528) (k : Fin 4),
    (IntOp.minsi (BitVec.ofNat 32 (2 ^ (k.val + 1))) (IntOp.maxsi 1#32 (IntOp.addi (IntOp.addi (Scalar.subi
      (Scalar.muli (BitVec.ofNat 32 t.val) 512#32) 16#32) (BitVec.ofNat 32 e.val)) 1#32))).toInt
        = max 1 (min (((t.val * 512 + e.val : ℕ) : ℤ) - 15) ((2 ^ (k.val + 1) : ℕ) : ℤ)) := by
  decide +kernel

theorem counts_apply (t : Fin 8) (g : Fin 4) (e : Fin 528) :
    counts (BitVec.ofNat 32 (2 ^ (g.val + 1))) (BitVec.ofNat 32 t.val) (ix2 e 0) = cnt (2 ^ (g.val + 1)) (t.val * 512 + e.val) := by
  unfold counts
  pointwise
  exact congrArg (fun z : ℤ => ((z : ℝ) : EReal)) (word_cnt t e g)

/-- The pooled rows of a group: windows over their lengths, minus the rows. -/
def pool (C : S528x1.Idx → EReal) (W X : S528x128.Idx → EReal) : S512x128.Idx → EReal :=
  truncf (F := Ideal) (φ := .f32) .bf16 (extractStridedSlice S512x128 ![16, 0]
    (subf (F := Ideal) (φ := .f32) (divf (F := Ideal) (φ := .f32) W (broadcastTo S528x128 C broadcasts_S528x1_S528x128)) X)
      slices_S528x128_o16_0_S512x128) bitsLt_bf16_f32

theorem pool_apply (C : S528x1.Idx → EReal) (W X : S528x128.Idx → EReal) (r : Fin 512) (c : Fin 128) :
    pool C W X (ix2 r c) = Ideal.div (W (ix2 ⟨16 + r.val, by omega⟩ c)) (C (ix2 ⟨16 + r.val, by omega⟩ 0))
      - X (ix2 ⟨16 + r.val, by omega⟩ c) := by
  unfold pool
  pointwise

/-- One group's store: pooled rows times the group's weight, times its scale. -/
theorem group_apply (c : Dev nD) (t : Fin cfg0.N) (g : Fin 4) (W x : S528x128.Idx → EReal)
    (hx : ∀ (q : Fin 128) (e : Fin 528), x (ix2 e q) = P (A m c) (t.val * 512 + e.val) (1536 + 128 * g.val + q.val))
    (hW : ∀ q : Fin 128, Windows (fun n => P (A m c) n (1536 + 128 * g.val + q.val)) (t.val * 512) (2 ^ (g.val + 1)) q W)
    (w : S1x128x128.Idx → EReal) (s : S1x128.Idx → EReal) (hw : ∀ q d, w (ix3 0 q d) = A3 m c (ix3 g q d))
    (hs : ∀ q, s (ix2 0 q) = sc (A4 m c) (128 * g.val + q.val)) (r : Fin 512) (q : Fin 128) :
    k0_pay13 (F := Ideal) (pool (counts (BitVec.ofNat 32 (2 ^ (g.val + 1))) (BitVec.ofNat 32 (grid0.coords t 0).val)) W x) w s (ix2 r q)
      = poolPart (A m c) (A3 m c) (A4 m c) g (t.val * 512 + (16 + r.val)) q := by
  have hp : ∀ d : Fin 128, pool (counts (BitVec.ofNat 32 (2 ^ (g.val + 1))) (BitVec.ofNat 32 (grid0.coords t 0).val)) W x (ix2 r d)
      = pooled (A m c) g.val (t.val * 512 + (16 + r.val)) d.val := fun d => by
    have h16 : 2 ^ (g.val + 1) ≤ 16 + r.val + 1 := by
      have : ∀ g : Fin 4, 2 ^ (g.val + 1) ≤ 16 := by decide
      have := this g
      omega
    rw [pool_apply, coord, counts_apply ⟨t.val, lt8 t⟩ g, hx, hW d _ h16]
    rfl
  unfold poolPart
  rw [← hs q]
  refine Eq.trans ?_ (congrArg (fun v : EReal => v * s (ix2 0 q)) (Finset.sum_congr rfl fun d _ =>
    congrArg₂ (fun u v : EReal => u * v) (hp d) (hw d q)))
  generalize pool _ W x = p
  unfold k0_pay13
  pointwise

/-- The gated convolution of a block. -/
theorem conv_apply (c : Dev nD) (t : Fin cfg0.N) (H G C : S528x512.Idx → EReal) (v : S3x512.Idx → EReal)
    (hH : ∀ e k, H (ix2 e k) = P (A m c) (t.val * 512 + e.val) k.val)
    (hG : ∀ e k, G (ix2 e k) = P (A m c) (t.val * 512 + e.val) (512 + k.val))
    (hC : ∀ e k, C (ix2 e k) = P (A m c) (t.val * 512 + e.val) (1024 + k.val))
    (hv : ∀ j k, v (ix2 j k) = A2 m c (ix2 j k)) (r : Fin 512) (k : Fin 512) :
    k0_pay11 (F := Ideal) H G C v (ix2 r k) = convPart (A m c) (A2 m c) (t.val * 512 + (16 + r.val)) k := by
  unfold k0_pay11
  pointwise
  simp only [hH, hG, hC, hv]
  have e1 : t.val * 512 + (16 + r.val + 528 - 1) % 528 = t.val * 512 + (16 + r.val) - 1 := by omega
  have e2 : t.val * 512 + (16 + r.val + 528 - 2) % 528 = t.val * 512 + (16 + r.val) - 2 := by omega
  rw [e1, e2]
  rfl

end Cert.MixerFwdIdeal.RowValue
-- ==== Proof.MixerFwdOut.lean ====
/-
  The results of `MixerFwd`: each block's stores put together, and the two arrays after the run.
-/
module

public import proofs.«01_k».proof.Proof.MixerFwdValue

@[expose] public section

set_option maxRecDepth 16384

noncomputable section

namespace Cert.MixerFwdIdeal.RowValue

open Cert.MixerFwdIdeal Cert.MixerFwdIdeal.Gen Idealize.ShloMosaic Idealize.ShloMosaic.TcCoe Idealize.SL.Sem
open Idealize.ShloMosaic.Pipeline (Dat)
open Cert.MixerBwdIdeal.RowValue (P P_in P_out cnt pooled sc zz cz)

variable (m : (ℓ : Loc nD τ sig) → Buf (Elt Ideal) ℓ)

/-- A block's row of the sequence. -/
def row (t : Fin cfg0.N) (r : Fin 512) : Fin 4096 := ⟨t.val * 512 + r.val, by have := lt8 t; omega⟩

/-- A block of the projected rows, and a value of it from the value's row and column. -/
def projBlk (c : Dev nD) (t : Fin cfg0.N) (y : S512x2048.Idx) : EReal := A m c (ix2 (row t (y 0)) (y 1))

theorem proj_at (c : Dev nD) (t : Fin cfg0.N) (b : Fin 4) (r : Fin 512) (k : Fin 512) (y : S512x2048.Idx) (v : EReal)
    (hv : v = P (A m c) (t.val * 512 + (16 + r.val)) (b.val * 512 + k.val)) (h0 : (y 0).val = r.val)
    (h1 : (y 1).val = b.val * 512 + k.val) : v = projBlk m c t y := by
  rw [hv, projBlk, P_in (A m c) _ (row t r) ⟨b.val * 512 + k.val, by omega⟩ (by show _ = t.val * 512 + r.val + 16; omega)]
  rw [show y 0 = r from Fin.ext h0, show y 1 = ⟨b.val * 512 + k.val, by omega⟩ from Fin.ext h1]
  rfl

/-- A block of the result. -/
def mixBlk (c : Dev nD) (t : Fin cfg0.N) (y : S512x1024.Idx) : EReal :=
  mixed (A m c) (A2 m c) (A3 m c) (A4 m c) (ix2 (row t (y 0)) (y 1))

theorem conv_at (c : Dev nD) (t : Fin cfg0.N) (r : Fin 512) (k : Fin 512) (y : S512x1024.Idx) (v : EReal)
    (hv : v = convPart (A m c) (A2 m c) (t.val * 512 + (16 + r.val)) k) (h0 : (y 0).val = r.val)
    (h1 : (y 1).val = k.val) : v = mixBlk m c t y := by
  rw [mixBlk, show y 0 = r from Fin.ext h0, show y 1 = ⟨k.val, by omega⟩ from Fin.ext h1, hv]
  refine Eq.trans ?_ (dif_pos (show k.val < 512 from k.isLt)).symm
  show _ = convPart (A m c) (A2 m c) (t.val * 512 + r.val + 16) k
  rw [show t.val * 512 + (16 + r.val) = t.val * 512 + r.val + 16 by omega]

theorem pool_at (c : Dev nD) (t : Fin cfg0.N) (g : Fin 4) (r : Fin 512) (q : Fin 128) (y : S512x1024.Idx) (v : EReal)
    (hv : v = poolPart (A m c) (A3 m c) (A4 m c) g (t.val * 512 + (16 + r.val)) q) (h0 : (y 0).val = r.val)
    (h1 : (y 1).val = 512 + 128 * g.val + q.val) : v = mixBlk m c t y := by
  rw [mixBlk, show y 0 = r from Fin.ext h0, show y 1 = ⟨512 + 128 * g.val + q.val, by omega⟩ from Fin.ext h1, hv]
  refine Eq.trans ?_ (dif_neg (show ¬ 512 + 128 * g.val + q.val < 512 by omega)).symm
  show _ = poolPart (A m c) (A3 m c) (A4 m c) ⟨(512 + 128 * g.val + q.val - 512) / 128, _⟩ (t.val * 512 + r.val + 16)
    ⟨(512 + 128 * g.val + q.val - 512) % 128, _⟩
  congr 1
  · exact Fin.ext (by simp only; omega)
  · omega
  · exact Fin.ext (by simp only; omega)

/-- Loading a chunk of the weights, a group's weight, and a group's scales. -/
theorem chunk (c : Dev nD) (t : Fin cfg0.N) (b : Fin 4) (w : S1x1x1024x512.Idx → EReal)
    (hw : ∀ x k, w (ix4 0 0 x k) = B2 m c t (ix4 b 0 x k)) (e : Fin 528) (k : Fin 512) :
    k0_pay3 (F := Ideal) (grid0.coords t) (B1 m c t) (B0 m c t) w (ix2 e k) = P (A m c) (t.val * 512 + e.val) (b.val * 512 + k.val) :=
  part_apply m c t w b (fun x k => (hw x k).trans (blk2 m c t b x k)) e k

theorem slice_apply (x : S528x512.Idx → EReal) (r k : Fin 512) :
    extractStridedSlice S512x512 ![16, 0] x slices_S528x512_o16_0_S512x512 (ix2 r k) = x (ix2 ⟨16 + r.val, by omega⟩ k) := by
  pointwise

theorem proj_blk (c : Dev nD) (t : Fin cfg0.N) (y : S512x2048.Idx) : (outsAt0 m c t).1 y = projBlk m c t y := by
  unfold outsAt0
  frame_out
  refine View.canon_append_of_piecesOf (Val := Elt Ideal) (e := .f32) (projBlk m c t) [] [_, _, _, _]
    ⟨fun x => ?_, fun x => ?_, fun x => ?_, fun x => ?_, trivial⟩ y (View.cover_of_tiledBy _ ![512, 128] (by sl_kernel_rfl) y)
  all_goals idx_vars x
  · exact proj_at m c t 3 x0 x1 _ _ ((slice_apply _ x0 x1).trans (chunk m c t 3 _ (fun x k => by pointwise) _ x1)) (by simp) (by simp)
  · exact proj_at m c t 2 x0 x1 _ _ ((slice_apply _ x0 x1).trans (chunk m c t 2 _ (fun x k => by pointwise) _ x1)) (by simp) (by simp)
  · exact proj_at m c t 1 x0 x1 _ _ ((slice_apply _ x0 x1).trans (chunk m c t 1 _ (fun x k => by pointwise) _ x1)) (by simp) (by simp)
  · exact proj_at m c t 0 x0 x1 _ _ ((slice_apply _ x0 x1).trans (chunk m c t 0 _ (fun x k => by pointwise) _ x1)) (by simp) (by simp)

/-- The scale's row as a block loads it. -/
theorem sc_blk (c : Dev nD) (t : Fin cfg0.N) (k : ℕ) (h : k < 512) : B5 m c t (ix2 0 ⟨k, h⟩) = sc (A4 m c) k := by
  rw [blk5, sc, dif_pos h]

/-- The last chunk of the projected rows, and a group's columns of it. -/
abbrev pin (c : Dev nD) (t : Fin cfg0.N) : S528x512.Idx → EReal :=
  k0_pay6 (F := Ideal) (grid0.coords t) (iblk m c 1 t) (iblk m c 0 t)
    (View.ld (iblk m c 2 t) (Rect.unit ![3, 0, 0, 0] ![1, 1, 1024, 512] inb_S4x1x1024x512_S1x1x1024x512_3_0_0_0))

theorem cols (c : Dev nD) (t : Fin cfg0.N) (g : Fin 4) (x : S528x128.Idx → EReal)
    (hx : ∀ e q, x (ix2 e q) = pin m c t (ix2 e ⟨128 * g.val + q.val, by omega⟩)) (q : Fin 128) (e : Fin 528) :
    x (ix2 e q) = P (A m c) (t.val * 512 + e.val) (1536 + 128 * g.val + q.val) := by
  refine (hx e q).trans ((chunk m c t 3 _ (fun x k => by pointwise) e _).trans (congrArg (P (A m c) _) ?_))
  show 3 * 512 + (128 * g.val + q.val) = _
  omega

abbrev pin0 (c : Dev nD) (t : Fin cfg0.N) : S528x128.Idx → EReal :=
  extractStridedSlice S528x128 ![0, 0] (pin m c t) slices_S528x512_o0_0_S528x128
abbrev pin1 (c : Dev nD) (t : Fin cfg0.N) : S528x128.Idx → EReal :=
  extractStridedSlice S528x128 ![0, 128] (pin m c t) slices_S528x512_o0_128_S528x128
abbrev pin2 (c : Dev nD) (t : Fin cfg0.N) : S528x128.Idx → EReal :=
  extractStridedSlice S528x128 ![0, 256] (pin m c t) slices_S528x512_o0_256_S528x128
abbrev pin3 (c : Dev nD) (t : Fin cfg0.N) : S528x128.Idx → EReal :=
  extractStridedSlice S528x128 ![0, 384] (pin m c t) slices_S528x512_o0_384_S528x128

/-- A group's columns as a function of the row, and the windows the doublings make of them. -/
abbrev colOf (c : Dev nD) (g : ℕ) (q : Fin 128) (n : ℕ) : EReal := P (A m c) n (1536 + 128 * g + q.val)

theorem cols0 (c : Dev nD) (t : Fin cfg0.N) : ∀ (q : Fin 128) (e : Fin 528), pin0 m c t (ix2 e q) = colOf m c 0 q (t.val * 512 + e.val) :=
  cols m c t 0 (pin0 m c t) (fun e q => by pointwise)
theorem cols1 (c : Dev nD) (t : Fin cfg0.N) : ∀ (q : Fin 128) (e : Fin 528), pin1 m c t (ix2 e q) = colOf m c 1 q (t.val * 512 + e.val) :=
  cols m c t 1 (pin1 m c t) (fun e q => by pointwise)
theorem cols2 (c : Dev nD) (t : Fin cfg0.N) : ∀ (q : Fin 128) (e : Fin 528), pin2 m c t (ix2 e q) = colOf m c 2 q (t.val * 512 + e.val) :=
  cols m c t 2 (pin2 m c t) (fun e q => by pointwise)
theorem cols3 (c : Dev nD) (t : Fin cfg0.N) : ∀ (q : Fin 128) (e : Fin 528), pin3 m c t (ix2 e q) = colOf m c 3 q (t.val * 512 + e.val) :=
  cols m c t 3 (pin3 m c t) (fun e q => by pointwise)

theorem two (f : ℕ → EReal) (b : ℕ) (q : Fin 128) (x : S528x128.Idx → EReal) (h : ∀ e : Fin 528, x (ix2 e q) = f (b + e.val)) :
    Windows f b 2 q (turn 1#32 x) := windows_double 1#32 1 rfl (by omega) f b q x (windows_one f b q x h)
theorem four (f : ℕ → EReal) (b : ℕ) (q : Fin 128) (x : S528x128.Idx → EReal) (h : ∀ e : Fin 528, x (ix2 e q) = f (b + e.val)) :
    Windows f b 4 q (turn 2#32 (turn 1#32 x)) := windows_double 2#32 2 rfl (by omega) f b q _ (two f b q x h)
theorem eight (f : ℕ → EReal) (b : ℕ) (q : Fin 128) (x : S528x128.Idx → EReal) (h : ∀ e : Fin 528, x (ix2 e q) = f (b + e.val)) :
    Windows f b 8 q (turn 4#32 (turn 2#32 (turn 1#32 x))) := windows_double 4#32 4 rfl (by omega) f b q _ (four f b q x h)
theorem sixteen (f : ℕ → EReal) (b : ℕ) (q : Fin 128) (x : S528x128.Idx → EReal) (h : ∀ e : Fin 528, x (ix2 e q) = f (b + e.val)) :
    Windows f b 16 q (turn 8#32 (turn 4#32 (turn 2#32 (turn 1#32 x)))) := windows_double 8#32 8 rfl (by omega) f b q _ (eight f b q x h)

theorem scale_at (c : Dev nD) (t : Fin cfg0.N) (s : S1x128.Idx → EReal) (g : Fin 4)
    (hs : ∀ q : Fin 128, s (ix2 0 q) = B5 m c t (ix2 0 ⟨128 * g.val + q.val, by omega⟩)) (q : Fin 128) :
    s (ix2 0 q) = sc (A4 m c) (128 * g.val + q.val) := (hs q).trans (sc_blk m c t _ _)

theorem mix_blk (c : Dev nD) (t : Fin cfg0.N) (y : S512x1024.Idx) : (outsAt0 m c t).2 y = mixBlk m c t y := by
  unfold outsAt0
  frame_out
  refine View.canon_append_of_piecesOf (Val := Elt Ideal) (e := .bf16) (mixBlk m c t) [] [_, _, _, _, _]
    ⟨fun x => ?_, fun x => ?_, fun x => ?_, fun x => ?_, fun x => ?_, trivial⟩ y (View.cover_of_tiledBy _ ![512, 128] (by sl_kernel_rfl) y)
  all_goals idx_vars x
  · exact pool_at m c t 3 x0 x1 _ _ (group_apply m c t 3 (turn 8#32 (turn 4#32 (turn 2#32 (turn 1#32 (pin3 m c t))))) (pin3 m c t)
      (cols3 m c t) (fun q => sixteen (colOf m c 3 q) _ q _ (cols3 m c t q)) _ _
      (fun q d => Eq.trans (by pointwise) (blk4 m c t 3 q d)) (scale_at m c t _ 3 fun q => by pointwise) x0 x1) (by simp) (by simp)
  · exact pool_at m c t 2 x0 x1 _ _ (group_apply m c t 2 (turn 4#32 (turn 2#32 (turn 1#32 (pin2 m c t)))) (pin2 m c t)
      (cols2 m c t) (fun q => eight (colOf m c 2 q) _ q _ (cols2 m c t q)) _ _
      (fun q d => Eq.trans (by pointwise) (blk4 m c t 2 q d)) (scale_at m c t _ 2 fun q => by pointwise) x0 x1) (by simp) (by simp)
  · exact pool_at m c t 1 x0 x1 _ _ (group_apply m c t 1 (turn 2#32 (turn 1#32 (pin1 m c t))) (pin1 m c t)
      (cols1 m c t) (fun q => four (colOf m c 1 q) _ q _ (cols1 m c t q)) _ _
      (fun q d => Eq.trans (by pointwise) (blk4 m c t 1 q d)) (scale_at m c t _ 1 fun q => by pointwise) x0 x1) (by simp) (by simp)
  · exact pool_at m c t 0 x0 x1 _ _ (group_apply m c t 0 (turn 1#32 (pin0 m c t)) (pin0 m c t)
      (cols0 m c t) (fun q => two (colOf m c 0 q) _ q _ (cols0 m c t q)) _ _
      (fun q d => Eq.trans (by pointwise) (blk4 m c t 0 q d)) (scale_at m c t _ 0 fun q => by pointwise) x0 x1) (by simp) (by simp)
  · exact conv_at m c t x0 x1 _ _ (conv_apply m c t _ _ _ _
      (fun e k => (chunk m c t 0 _ (fun x k => by pointwise) e k).trans (congrArg (P (A m c) _) (by show 0 * 512 + k.val = _; omega)))
      (fun e k => (chunk m c t 1 _ (fun x k => by pointwise) e k).trans (congrArg (P (A m c) _) (by show 1 * 512 + k.val = _; omega)))
      (fun e k => (chunk m c t 2 _ (fun x k => by pointwise) e k).trans (congrArg (P (A m c) _) (by show 2 * 512 + k.val = _; omega)))
      (blk3 m c t) x0 x1) (by simp) (by simp)

/-- The two result arrays after the run. -/
theorem proj_final (c : Dev nD) : (dats m 0 c).arrAt 6 cfg0.N = A m c := by
  refine (dats m 0 c).arrAt_eq_of_covers 6 _ (by decide +kernel) fun t hf y => ?_
  blk_simp
  rw [after0_6]
  refine (proj_blk m c t y).trans ?_
  unfold projBlk
  congr 1
  idx_vars y
  blk_ext [idx t, row]

theorem mix_final (c : Dev nD) : (dats m 0 c).arrAt 7 cfg0.N = mixed (A m c) (A2 m c) (A3 m c) (A4 m c) := by
  refine (dats m 0 c).arrAt_eq_of_covers 7 _ (by decide +kernel) fun t hf y => ?_
  blk_simp
  rw [after0_7]
  refine (mix_blk m c t y).trans ?_
  unfold mixBlk
  congr 1
  idx_vars y
  blk_ext [idx t, row]

end Cert.MixerFwdIdeal.RowValue
-- ==== Proof.MixerFwdRef.lean ====
/-
  The reference `MixerPlain` over the extended reals, read at an index: the projection, the gated convolution and the
  scaled products of the pooled columns.
-/
module

public import proofs.«01_k».proof.Proof.Gen.MixerPlainIdeal.Run
public import proofs.«01_k».proof.Proof.Gen.MixerPlainIdeal.Read
public import proofs.«01_k».proof.Proof.MixerFwdOut
public import proofs.«01_k».proof.Proof.MixerRef

@[expose] public section

set_option maxRecDepth 16384

noncomputable section

namespace Cert.MixerPlainIdeal.RefValue

open Cert.MixerPlainIdeal Cert.MixerPlainIdeal.Gen Idealize.ShloMosaic Idealize.ShloMosaic.TcCoe Idealize.SL.Sem
open Cert.MixerPlainIdeal.Read
open Cert.MixerBwdIdeal.RowValue (P P_in P_out cnt pooled sc zz cz)
open Cert.MixerGradIdeal.RefValue (word_len pr pr_coe pr_low window_mean)
open Cert.MixerFwdIdeal.RowValue (proj convPart poolPart mixed)

variable (x : S4096x1024.Idx → EReal) (w : S1024x2048.Idx → EReal)

/-- The projection. -/
theorem proj_ref : val_main_v0 (F := Ideal) x w = proj x w := by
  funext j
  idx_vars j
  unfold val_main_v0 proj
  pointwise

/-- The convolution's input. -/
theorem in_apply (s : Fin 4096) (k : Fin 512) (n : ℕ) (hn : n = s.val + 16) :
    val_main_v5 (F := Ideal) x w (ix2 s k) = zz (proj x w) n k.val := by
  subst hn
  unfold zz
  rw [P_in _ _ s ⟨k.val, by omega⟩ rfl, P_in _ _ s ⟨1024 + k.val, by omega⟩ rfl, ← proj_ref]
  unfold val_main_v5 val_main_v3 val_main_v1
  generalize val_main_v0 (F := Ideal) x w = a
  pointwise

/-- A tap of the convolution: its input two, one or no rows before. -/
theorem tap (d : ℕ) (s : Fin 4096) (k : Fin 512) (v : EReal)
    (hv : v = if h : s.val < d then 0 else val_main_v5 (F := Ideal) x w (ix2 ⟨s.val - d, by omega⟩ k)) :
    v = zz (proj x w) (s.val + 16 - d) k.val := by
  rw [hv]
  by_cases h : s.val < d
  · rw [dif_pos h]
    unfold zz
    rw [P_out _ _ _ (by omega), zero_mul]
  · rw [dif_neg h]
    exact in_apply x w _ k _ (by show _ = s.val - d + 16; omega)

theorem tap2 (s : Fin 4096) (k : Fin 512) : val_main_v8 (F := Ideal) x w (ix2 s k) = zz (proj x w) (s.val + 16 - 2) k.val := by
  refine tap x w 2 s k _ ?_
  unfold val_main_v8 val_main_v7 val_main_v6 val_main_cst
  generalize val_main_v5 (F := Ideal) x w = y
  pointwise

theorem tap1 (s : Fin 4096) (k : Fin 512) : val_main_v14 (F := Ideal) x w (ix2 s k) = zz (proj x w) (s.val + 16 - 1) k.val := by
  refine tap x w 1 s k _ (Eq.trans (b := if h : 1 + s.val < 2 then 0 else val_main_v5 (F := Ideal) x w (ix2 ⟨1 + s.val - 2, by omega⟩ k)) ?_ ?_)
  · unfold val_main_v14 val_main_v7 val_main_v6 val_main_cst
    generalize val_main_v5 (F := Ideal) x w = y
    pointwise
  · by_cases h : s.val < 1
    · rw [dif_pos h, dif_pos (by omega)]
    · rw [dif_neg h, dif_neg (by omega)]
      exact congrArg (fun n => val_main_v5 (F := Ideal) x w (ix2 n k)) (Fin.ext (by show 1 + s.val - 2 = s.val - 1; omega))

theorem tap0 (s : Fin 4096) (k : Fin 512) : val_main_v21 (F := Ideal) x w (ix2 s k) = zz (proj x w) (s.val + 16) k.val := by
  refine Eq.trans ?_ (in_apply x w s k _ rfl)
  unfold val_main_v21 val_main_v7 val_main_v6 val_main_cst
  generalize val_main_v5 (F := Ideal) x w = y
  pointwise

/-- The gated convolution. -/
theorem conv_ref (V : S3x512.Idx → EReal) (s : Fin 4096) (k : Fin 512) :
    val_main_v28 (F := Ideal) x w V (ix2 s k) = convPart (proj x w) V (s.val + 16) k := by
  have e2 := tap2 x w s k
  have e1 := tap1 x w s k
  have e0 := tap0 x w s k
  have eg : val_main_v2 (F := Ideal) x w (ix2 s k) = P (proj x w) (s.val + 16) (512 + k.val) := by
    rw [P_in _ _ s ⟨512 + k.val, by omega⟩ rfl, ← proj_ref]
    unfold val_main_v2
    generalize val_main_v0 (F := Ideal) x w = a
    pointwise
  unfold val_main_v28 val_main_v27 val_main_v26 val_main_v25 val_main_v24 val_main_v23 val_main_v22 val_main_v20 val_main_v19
    val_main_v18 val_main_v17 val_main_v16 val_main_v15 val_main_v13 val_main_v12 val_main_v11 val_main_v10 val_main_v9 convPart cz
  generalize val_main_v8 (F := Ideal) x w = y2 at *
  generalize val_main_v14 (F := Ideal) x w = y1 at *
  generalize val_main_v21 (F := Ideal) x w = y0 at *
  generalize val_main_v2 (F := Ideal) x w = g at *
  pointwise
  rw [e2, e1, e0, eg]

/-- The windows' lengths. -/
theorem len2 (s : Fin 4096) : val_main_v42 (F := Ideal) (ix2 s 0) = cnt 2 (s.val + 16) := by
  unfold val_main_v42 val_main_v41 val_main_v40 val_main_v39 val_main_v38 val_main_v37 val_main_v36 val_main_c val_main_c_1
  pointwise
  exact congrArg (fun z : ℤ => ((z : ℝ) : EReal)) (word_len s 0)

theorem len4 (s : Fin 4096) : val_main_v58 (F := Ideal) (ix2 s 0) = cnt 4 (s.val + 16) := by
  unfold val_main_v58 val_main_v57 val_main_v56 val_main_v55 val_main_v54 val_main_v53 val_main_v52 val_main_c_3 val_main_c_4
  pointwise
  exact congrArg (fun z : ℤ => ((z : ℝ) : EReal)) (word_len s 1)

theorem len8 (s : Fin 4096) : val_main_v74 (F := Ideal) (ix2 s 0) = cnt 8 (s.val + 16) := by
  unfold val_main_v74 val_main_v73 val_main_v72 val_main_v71 val_main_v70 val_main_v69 val_main_v68 val_main_c_6 val_main_c_7
  pointwise
  exact congrArg (fun z : ℤ => ((z : ℝ) : EReal)) (word_len s 2)

theorem len16 (s : Fin 4096) : val_main_v90 (F := Ideal) (ix2 s 0) = cnt 16 (s.val + 16) := by
  unfold val_main_v90 val_main_v89 val_main_v88 val_main_v87 val_main_v86 val_main_v85 val_main_v84 val_main_c_9 val_main_c_10
  pointwise
  exact congrArg (fun z : ℤ => ((z : ℝ) : EReal)) (word_len s 3)

/-- The pooled columns, and each group's. -/
theorem pin_apply (s : Fin 4096) (g : Fin 4) (q : Fin 128) :
    val_main_v29 (F := Ideal) x w (ix3 s g q) = P (proj x w) (s.val + 16) (1536 + 128 * g.val + q.val) := by
  refine Eq.trans ?_ (P_in _ _ s ⟨1536 + 128 * g.val + q.val, by omega⟩ rfl).symm
  rw [← proj_ref]
  unfold val_main_v29 val_main_v4
  generalize val_main_v0 (F := Ideal) x w = a
  pointwise
  exact congrArg (fun c => a (ix2 s c)) (Fin.ext (by show 1536 + (g.val * 128 + q.val) = 1536 + 128 * g.val + q.val; omega))

theorem col0 (s : Fin 4096) (q : Fin 128) : val_main_v31 (F := Ideal) x w (ix2 s q) = val_main_v29 (F := Ideal) x w (ix3 s 0 q) := by
  unfold val_main_v31 val_main_v30
  generalize val_main_v29 (F := Ideal) x w = y
  pointwise
theorem col1 (s : Fin 4096) (q : Fin 128) : val_main_v47 (F := Ideal) x w (ix2 s q) = val_main_v29 (F := Ideal) x w (ix3 s 1 q) := by
  unfold val_main_v47 val_main_v46
  generalize val_main_v29 (F := Ideal) x w = y
  pointwise
theorem col2 (s : Fin 4096) (q : Fin 128) : val_main_v63 (F := Ideal) x w (ix2 s q) = val_main_v29 (F := Ideal) x w (ix3 s 2 q) := by
  unfold val_main_v63 val_main_v62
  generalize val_main_v29 (F := Ideal) x w = y
  pointwise
theorem col3 (s : Fin 4096) (q : Fin 128) : val_main_v79 (F := Ideal) x w (ix2 s q) = val_main_v29 (F := Ideal) x w (ix3 s 3 q) := by
  unfold val_main_v79 val_main_v78
  generalize val_main_v29 (F := Ideal) x w = y
  pointwise

/-- A group's window means from its running sums. -/
theorem mean2 (s : Fin 4096) (q : Fin 128) :
    val_main_v45 (F := Ideal) x w (ix2 s q) = Ideal.div (val_main_v32 (F := Ideal) x w (ix2 s q)
      - (if h : s.val < 2 then 0 else val_main_v32 (F := Ideal) x w (ix2 ⟨s.val - 2, by omega⟩ q))) (cnt 2 (s.val + 16)) := by
  rw [← len2 s]
  unfold val_main_v45 val_main_v44 val_main_v43 val_main_v35 val_main_v34 val_main_v33 val_main_cst_0
  generalize val_main_v32 (F := Ideal) x w = y
  generalize val_main_v42 (F := Ideal) = z
  pointwise

theorem mean4 (s : Fin 4096) (q : Fin 128) :
    val_main_v61 (F := Ideal) x w (ix2 s q) = Ideal.div (val_main_v48 (F := Ideal) x w (ix2 s q)
      - (if h : s.val < 4 then 0 else val_main_v48 (F := Ideal) x w (ix2 ⟨s.val - 4, by omega⟩ q))) (cnt 4 (s.val + 16)) := by
  rw [← len4 s]
  unfold val_main_v61 val_main_v60 val_main_v59 val_main_v51 val_main_v50 val_main_v49 val_main_cst_2
  generalize val_main_v48 (F := Ideal) x w = y
  generalize val_main_v58 (F := Ideal) = z
  pointwise

theorem mean8 (s : Fin 4096) (q : Fin 128) :
    val_main_v77 (F := Ideal) x w (ix2 s q) = Ideal.div (val_main_v64 (F := Ideal) x w (ix2 s q)
      - (if h : s.val < 8 then 0 else val_main_v64 (F := Ideal) x w (ix2 ⟨s.val - 8, by omega⟩ q))) (cnt 8 (s.val + 16)) := by
  rw [← len8 s]
  unfold val_main_v77 val_main_v76 val_main_v75 val_main_v67 val_main_v66 val_main_v65 val_main_cst_5
  generalize val_main_v64 (F := Ideal) x w = y
  generalize val_main_v74 (F := Ideal) = z
  pointwise

theorem mean16 (s : Fin 4096) (q : Fin 128) :
    val_main_v93 (F := Ideal) x w (ix2 s q) = Ideal.div (val_main_v80 (F := Ideal) x w (ix2 s q)
      - (if h : s.val < 16 then 0 else val_main_v80 (F := Ideal) x w (ix2 ⟨s.val - 16, by omega⟩ q))) (cnt 16 (s.val + 16)) := by
  rw [← len16 s]
  unfold val_main_v93 val_main_v92 val_main_v91 val_main_v83 val_main_v82 val_main_v81 val_main_cst_8
  generalize val_main_v80 (F := Ideal) x w = y
  generalize val_main_v90 (F := Ideal) = z
  pointwise

/-- The projection of real rows by a real weight is real. -/
theorem proj_real (u : S4096x1024.Idx → ℝ) (v : S1024x2048.Idx → ℝ) :
    ∃ a : S4096x2048.Idx → ℝ, proj (fun i => (u i : EReal)) (fun i => (v i : EReal)) = fun i => (a i : EReal) := by
  refine ⟨fun i => ∑ s : Fin 1024, u (ix2 (i 0) s) * v (ix2 s (i 1)), funext fun i => ?_⟩
  unfold proj
  rw [← Reals.coe_sum]
  rfl

/-- A column of the pooled columns as real numbers. -/
theorem col_real (a : S4096x2048.Idx → ℝ) (ha : proj x w = fun i => (a i : EReal)) (g : Fin 4) (q : Fin 128) (y : S4096x128.Idx → EReal)
    (hy : ∀ s, y (ix2 s q) = val_main_v29 (F := Ideal) x w (ix3 s g q)) (s : Fin 4096) :
    y (ix2 s q) = (pr a (s.val + 16) (1536 + 128 * g.val + q.val) : EReal) := by
  rw [hy, pin_apply, ha]
  exact pr_coe a _ _

/-- The reference's window means are the kernel's, at a real projection. -/
theorem means (a : S4096x2048.Idx → ℝ) (ha : proj x w = fun i => (a i : EReal)) (s : Fin 4096) (g : Fin 4) (q : Fin 128) :
    (![val_main_v45 (F := Ideal) x w, val_main_v61 (F := Ideal) x w, val_main_v77 (F := Ideal) x w, val_main_v93 (F := Ideal) x w] g)
      (ix2 s q) = Ideal.div (∑ j ∈ Finset.range (2 ^ (g.val + 1)), P (proj x w) (s.val + 16 - j) (1536 + 128 * g.val + q.val))
        (cnt (2 ^ (g.val + 1)) (s.val + 16)) := by
  have hr := col_real x w a ha
  rw [ha]
  match g with
  | 0 =>
    refine (mean2 x w s q).trans (window_mean a 2 _ (by omega) _ q _ (fun s => ?_) s)
    exact RunningSum.down_real rfl _ _ _ _ Ideal.ofBits_zero_f32 q (fun n => pr a n _) (pr_low a _) (hr 0 q _ fun s => col0 x w s q) s
  | 1 =>
    refine (mean4 x w s q).trans (window_mean a 4 _ (by omega) _ q _ (fun s => ?_) s)
    exact RunningSum.down_real rfl _ _ _ _ Ideal.ofBits_zero_f32 q (fun n => pr a n _) (pr_low a _) (hr 1 q _ fun s => col1 x w s q) s
  | 2 =>
    refine (mean8 x w s q).trans (window_mean a 8 _ (by omega) _ q _ (fun s => ?_) s)
    exact RunningSum.down_real rfl _ _ _ _ Ideal.ofBits_zero_f32 q (fun n => pr a n _) (pr_low a _) (hr 2 q _ fun s => col2 x w s q) s
  | 3 =>
    refine (mean16 x w s q).trans (window_mean a 16 _ (by omega) _ q _ (fun s => ?_) s)
    exact RunningSum.down_real rfl _ _ _ _ Ideal.ofBits_zero_f32 q (fun n => pr a n _) (pr_low a _) (hr 3 q _ fun s => col3 x w s q) s

/-- The four groups' means side by side. -/
theorem stack_apply (s : Fin 4096) (g : Fin 4) (q : Fin 128) : val_main_v98 (F := Ideal) x w (ix3 s g q)
    = (![val_main_v45 (F := Ideal) x w, val_main_v61 (F := Ideal) x w, val_main_v77 (F := Ideal) x w, val_main_v93 (F := Ideal) x w] g)
      (ix2 s q) := by
  unfold val_main_v98 val_main_v97 val_main_v96 val_main_v95 val_main_v94
  generalize val_main_v45 (F := Ideal) x w = y0
  generalize val_main_v61 (F := Ideal) x w = y1
  generalize val_main_v77 (F := Ideal) x w = y2
  generalize val_main_v93 (F := Ideal) x w = y3
  match g with
  | 0 => pointwise
  | 1 => pointwise
  | 2 => pointwise
  | 3 => pointwise

theorem pooled_ref (a : S4096x2048.Idx → ℝ) (ha : proj x w = fun i => (a i : EReal)) (s : Fin 4096) (g : Fin 4) (q : Fin 128) :
    val_main_v99 (F := Ideal) x w (ix3 s g q) = pooled (proj x w) g.val (s.val + 16) q.val :=
  congrArg₂ (fun u v : EReal => u - v) ((stack_apply x w s g q).trans (means x w a ha s g q)) (pin_apply x w s g q)

/-- The scaled products of the pooled columns. -/
theorem pool_ref (a : S4096x2048.Idx → ℝ) (ha : proj x w = fun i => (a i : EReal)) (W : S4x128x128.Idx → EReal)
    (S : S1x512.Idx → EReal) (s : Fin 4096) (k : Fin 512) :
    val_main_v106 (F := Ideal) x w W S (ix2 s k) = poolPart (proj x w) W S ⟨k.val / 128, by omega⟩ (s.val + 16)
      ⟨k.val % 128, Nat.mod_lt _ (by norm_num)⟩ := by
  have e := pooled_ref x w a ha s
  unfold val_main_v106 val_main_v105 val_main_v104 val_main_v103 val_main_v102 val_main_v101 val_main_v100
  generalize val_main_v99 (F := Ideal) x w = y at *
  pointwise
  refine congrArg₂ (fun u v : EReal => u * v) (Finset.sum_congr rfl fun c _ => ?_) ?_
  · rw [e, mul_comm]
  · have h : 128 * (k.val / 128) + k.val % 128 = k.val := Nat.div_add_mod _ _
    rw [h, sc, dif_pos k.isLt]

/-- The result. -/
theorem mix_ref (a : S4096x2048.Idx → ℝ) (ha : proj x w = fun i => (a i : EReal)) (V : S3x512.Idx → EReal) (W : S4x128x128.Idx → EReal)
    (S : S1x512.Idx → EReal) : val_main_v108 (F := Ideal) x w V W S = mixed (proj x w) V W S := by
  funext j
  idx_vars j
  have e0 := conv_ref x w V
  have e1 := pool_ref x w a ha W S
  unfold val_main_v108 val_main_v107 mixed
  generalize val_main_v28 (F := Ideal) x w V = y0 at *
  generalize val_main_v106 (F := Ideal) x w W S = y1 at *
  pointwise
  by_cases h : j1.val < 512
  · rw [dif_pos h]
    refine Eq.trans ?_ (dif_pos h).symm
    exact e0 _ _
  · rw [dif_neg h]
    refine Eq.trans ?_ (dif_neg h).symm
    exact e1 _ _

end Cert.MixerPlainIdeal.RefValue
-- ==== Proof.MixerFwdClaim.lean ====
/-
  The claims about the mixer's forward pass: `MixerFwd` against `MixerPlain`.
-/
module

public import proofs.«01_k».proof.Defs
public import proofs.«01_k».proof.Proof.MixerFwdRef

@[expose] public section

set_option maxRecDepth 16384

noncomputable section

namespace Cert.MixerFwdClaim

open Idealize.ShloMosaic Idealize.ShloMosaic.TcCoe Idealize.SL.Sem
open Cert.MixerFwdIdeal.RowValue (proj mixed A A0 A1 A2 A3 A4 proj_final mix_final)
open Cert.MixerPlainIdeal.RefValue (proj_ref mix_ref proj_real)
open Cert.MixerPlainIdeal.Read (val_main_v0_eq val_main_v108_eq)

/-- The precondition's operations take these facts. -/
instance finite_facts : Cert.Pre_finite_in_mixer.Facts := by
  constructor <;> decide

/-- The precondition says that the rows and the projection's weight are arrays of real numbers. -/
theorem reals {x : Pre_finite_in_mixer.S4096x1024.Idx → EReal} {p : Pre_finite_in_mixer.S1024x2048.Idx → EReal}
    {v : Pre_finite_in_mixer.S3x512.Idx → EReal} {w : Pre_finite_in_mixer.S4x128x128.Idx → EReal}
    {s : Pre_finite_in_mixer.S1x512.Idx → EReal} [Pre_finite_in_mixer.Facts]
    (h : Pre_finite_in_mixer.fn (F := Ideal) x p v w s = fun _ => 1#1) :
    (∃ f : Pre_finite_in_mixer.S4096x1024.Idx → ℝ, x = fun i => (f i : EReal))
    ∧ (∃ f : Pre_finite_in_mixer.S1024x2048.Idx → ℝ, p = fun i => (f i : EReal)) := by
  have e := congrFun h (fun a => a.elim0)
  dsimp only [Pre_finite_in_mixer.fn] at e
  obtain ⟨h0, h1⟩ := IntOp.andi_eq_one.1 e
  exact ⟨Reals.reals_of_all x _ _ _ _ _ (fun _ => rfl) h0, Reals.reals_of_all p _ _ _ _ _ (fun _ => rfl) h1⟩

/-- Both programs compute the same projected rows and the same mixed rows. -/
theorem algebraic : algebraic_MixerFwdIdeal_MixerPlainIdeal_pre_finite_in_mixer (hMixerFwdIdeal := Cert.MixerFwdIdeal.Gen.facts)
    (hMixerPlainIdeal := Cert.MixerPlainIdeal.Gen.facts) (hPre_finite_in_mixer := finite_facts) := fun m ρ m' ρ' hpre hag =>
  ⟨fun c => A m c, fun c => mixed (A m c) (A2 m c) (A3 m c) (A4 m c),
    (θ_run _ _ _).mono (fun _ h c => ⟨(h c).1.trans (proj_final m c), (h c).2.1.trans (mix_final m c), (h c).2.2⟩)
      (MixerFwdIdeal.Value.run_blocks m ρ),
    (θ_run _ _ _).mono (fun _ h c => by
      obtain ⟨⟨u, hu⟩, ⟨v, hv⟩⟩ := reals (hpre c)
      obtain ⟨a, ha⟩ := proj_real u v
      rw [← hu, ← hv] at ha
      obtain ⟨e0, e1, e2, e3, e4⟩ := hag c
      refine ⟨(h c).1.trans ?_, (h c).2.1.trans ?_, (h c).2.2⟩
      · refine (val_main_v0_eq _ _).trans ?_
        rw [e0, e1]
        exact proj_ref _ _
      · refine (val_main_v108_eq _ _).trans ?_
        rw [e0, e1, e2, e3, e4]
        exact mix_ref _ _ a ha _ _ _) (MixerPlainIdeal.Value.run m' ρ')⟩

/-- The frame of the reference: its run with the results forgotten. -/
theorem frame_ref : quiescent_MixerPlainIdeal (hMixerPlainIdeal := Cert.MixerPlainIdeal.Gen.facts) := fun m ρ _ =>
  (θ_run _ _ _).mono (fun r h => ⟨fun c => (h c).2.2, sem_eq_zero_of_no_sems (by decide) r.2⟩)
    (MixerPlainIdeal.Value.run m ρ)

end Cert.MixerFwdClaim
-- ==== Proof.DactValue.lean ====
/-
  The gradient of a product with respect to its left factor: what the kernel `Dact` and the reference `DactGrad` compute
  over the extended reals, read at an index.
-/
module

public import proofs.«01_k».proof.Proof.Gen.DactIdeal.Value
public import proofs.«01_k».proof.Proof.Gen.DactGradIdeal.Run
public import proofs.«01_k».proof.Proof.Gen.DactGradIdeal.Read
public import proofs.«01_k».proof.Proof.Reals

@[expose] public section

set_option maxRecDepth 16384

noncomputable section

namespace Cert.DactIdeal.RowValue

open Cert.DactIdeal Cert.DactIdeal.Gen Idealize.ShloMosaic Idealize.ShloMosaic.TcCoe Idealize.SL.Sem
open Idealize.ShloMosaic.Pipeline (Dat)

/-- The rows of the gradient against the rows of the weight. -/
def dact (dy : S4096x1024.Idx → EReal) (w : S2816x1024.Idx → EReal) (j : S4096x2816.Idx) : EReal :=
  ∑ s : Fin 1024, dy (ix2 (j 0) s) * w (ix2 (j 1) s)

variable (m : (ℓ : Loc nD τ sig) → Buf (Elt Ideal) ℓ)

/-- The arguments as arrays of extended reals. -/
abbrev A0 (c : Dev nD) : S4096x1024.Idx → EReal := m ((c : Thread nD τ).loc main_arg0)
abbrev A1 (c : Dev nD) : S2816x1024.Idx → EReal := m ((c : Thread nD τ).loc main_arg1)

/-- The blocks as arrays of extended reals. -/
abbrev B0 (c : Dev nD) (t : Fin cfg0.N) : S1024x1024.Idx → EReal := iblk m c 0 t
abbrev B1 (c : Dev nD) (t : Fin cfg0.N) : S1x1x1408x1024.Idx → EReal := iblk m c 1 t

/-- The index maps as closed forms: the outer coordinate walks the weight's rows, the inner one the gradient's. -/
theorem idx : ∀ t : Fin grid0.N, win0_0.index t = ![t.val % 4, 0] ∧ win0_1.index t = ![0, 0, t.val / 4, 0]
    ∧ win0_2.index t = ![t.val % 4, t.val / 4] := by decide +kernel

/-- Row `r` of the gradient's block at point `t`. -/
def row (t : Fin cfg0.N) (r : Fin 1024) : Fin 4096 :=
  ⟨t.val % 4 * 1024 + r.val, by have := r.isLt; omega⟩

/-- Row `k` of the weight's block at point `t`. -/
def col (t : Fin cfg0.N) (k : Fin 1408) : Fin 2816 :=
  ⟨t.val / 4 * 1408 + k.val, by have := t.isLt; have h8 : cfg0.N = 8 := N_0; have := k.isLt; omega⟩

theorem blk0 (c : Dev nD) (t : Fin cfg0.N) (r s : Fin 1024) : B0 m c t (ix2 r s) = A0 m c (ix2 (row t r) s) := by
  blk_ext [B0, iblk, V, idx t, row]

theorem blk1 (c : Dev nD) (t : Fin cfg0.N) (k : Fin 1408) (s : Fin 1024) :
    B1 m c t (ix4 0 0 k s) = A1 m c (ix2 (col t k) s) := by
  blk_ext! [B1, iblk, V, idx t, col]

/-- A block's entries of the product. -/
theorem dact_blk (c : Dev nD) (t : Fin cfg0.N) (r : Fin 1024) (k : Fin 1408) :
    ∑ x : Fin 1024, B0 m c t (ix2 r x) * B1 m c t (ix4 0 0 k x) = dact (A0 m c) (A1 m c) (ix2 (row t r) (col t k)) := by
  simp only [blk0, blk1]
  rfl

/-- The result array after the run. -/
theorem dact_final (c : Dev nD) : (dats m 0 c).arrAt 2 cfg0.N = dact (A0 m c) (A1 m c) := by
  refine (dats m 0 c).arrAt_eq_of_covers 2 _ (by decide +kernel) fun t hf y => ?_
  blk_simp
  rw [after0_2]
  idx_vars y
  unfold out0_2
  frame_out
  unfold_payloads
  pointwise
  refine (dact_blk m c t y0 y1).trans ?_
  show dact (A0 m c) (A1 m c) _ = _
  congr 1
  blk_ext [idx t, row, col]

end Cert.DactIdeal.RowValue

namespace Cert.DactGradIdeal.RefValue

open Cert.DactGradIdeal Cert.DactGradIdeal.Gen Idealize.ShloMosaic Idealize.ShloMosaic.TcCoe Idealize.SL.Sem
open Cert.DactGradIdeal.Read
open Cert.DactIdeal.RowValue (dact)

/-- The derivative's product is the kernel's, at all arguments. -/
theorem dact_ref (dy : S4096x1024.Idx → EReal) (w : S2816x1024.Idx → EReal) :
    val_main_v3 (F := Ideal) dy w = dact dy w := by
  funext j
  idx_vars j
  unfold val_main_v3 val_main_v2
  pointwise
  rfl

end Cert.DactGradIdeal.RefValue
-- ==== Proof.DactClaim.lean ====
/-
  The claims about the gradient of a product with respect to its left factor: `Dact` against `DactGrad`.
-/
module

public import proofs.«01_k».proof.Defs
public import proofs.«01_k».proof.Proof.DactValue

@[expose] public section

set_option maxRecDepth 16384

noncomputable section

namespace Cert.DactClaim

open Idealize.ShloMosaic Idealize.ShloMosaic.TcCoe Idealize.SL.Sem
open Cert.DactIdeal.RowValue (dact dact_final A0 A1)
open Cert.DactGradIdeal.RefValue (dact_ref)

/-- Both programs compute the same product over the extended reals. -/
theorem algebraic : algebraic_DactIdeal_DactGradIdeal (hDactIdeal := Cert.DactIdeal.Gen.facts)
    (hDactGradIdeal := Cert.DactGradIdeal.Gen.facts) := fun m ρ m' ρ' _ hag =>
  ⟨fun c => dact (A0 m c) (A1 m c),
    (θ_run _ _ _).mono (fun _ h c => ⟨(h c).1.trans (dact_final m c), (h c).2⟩) (DactIdeal.Value.run_blocks m ρ),
    (θ_run _ _ _).mono (fun _ h c => by
      obtain ⟨e0, e1⟩ := hag c
      refine ⟨(h c).1.trans ?_, (h c).2⟩
      refine (DactGradIdeal.Read.val_main_v3_eq _ _).trans ?_
      rw [e0, e1]
      exact dact_ref _ _) (DactGradIdeal.Value.run m' ρ')⟩

/-- The frame of the reference: its run with the results forgotten. -/
theorem frame_ref : quiescent_DactGradIdeal (hDactGradIdeal := Cert.DactGradIdeal.Gen.facts) := fun m ρ _ =>
  (θ_run _ _ _).mono (fun r h => ⟨fun c => (h c).2, sem_eq_zero_of_no_sems (by decide) r.2⟩)
    (DactGradIdeal.Value.run m ρ)

end Cert.DactClaim
-- ==== Proof.AdamwValue.lean ====
/-
  One step of the optimiser: what the kernel `Adamw` and the reference `AdamwPlain` compute over the extended reals, read
  at an index.
-/
module

public import proofs.«01_k».proof.Proof.Gen.AdamwIdeal.Value
public import proofs.«01_k».proof.Proof.Gen.AdamwPlainIdeal.Run
public import proofs.«01_k».proof.Proof.Gen.AdamwPlainIdeal.Read
public import proofs.«01_k».proof.Proof.Reals

@[expose] public section

set_option maxRecDepth 16384

noncomputable section

namespace Cert.AdamwIdeal.RowValue

open Cert.AdamwIdeal Cert.AdamwIdeal.Gen Idealize.ShloMosaic Idealize.ShloMosaic.TcCoe Idealize.SL.Sem
open Idealize.ShloMosaic.Pipeline (Dat)

/-- The new first moment of a weight with gradient `g` and first moment `m`. -/
def mean1 (g m : EReal) : EReal :=
  Ideal.ofBits .f32 0x3F666666#32 * m + Ideal.ofBits .f32 0x3DCCCCCD#32 * g

/-- The new second moment of a weight with gradient `g` and second moment `v`. -/
def mean2 (g v : EReal) : EReal :=
  Ideal.ofBits .f32 0x3F7FBE77#32 * v + Ideal.ofBits .f32 0x3A83126F#32 * (g * g)

/-- The change of a weight `w`: the bias-corrected first moment over the root of the bias-corrected second one, and the
    decay of the weight, times the negated rate. -/
def delta (w g m v : EReal) : EReal :=
  Ideal.ofBits .f32 0xBA83126F#32 * (Ideal.div (Ideal.div (mean1 g m) (Ideal.ofBits .f32 0x3F26BD02#32))
    (Ideal.sqrt (Ideal.div (mean2 g v) (Ideal.ofBits .f32 0x3C231ACC#32)) + Ideal.ofBits .f32 0x322BCC77#32)
    + Ideal.ofBits .f32 0x3C23D70A#32 * w)

variable (m : (ℓ : Loc nD τ sig) → Buf (Elt Ideal) ℓ)

/-- The arguments as arrays of extended reals. -/
abbrev A0 (c : Dev nD) : S2x1024x1408.Idx → EReal := m ((c : Thread nD τ).loc main_arg0)
abbrev A1 (c : Dev nD) : S2x1024x1408.Idx → EReal := m ((c : Thread nD τ).loc main_arg1)
abbrev A2 (c : Dev nD) : S2x1024x1408.Idx → EReal := m ((c : Thread nD τ).loc main_arg2)
abbrev A3 (c : Dev nD) : S2x1024x1408.Idx → EReal := m ((c : Thread nD τ).loc main_arg3)

/-- The index maps as closed forms: every window walks the layers and the row blocks together. -/
theorem idx : ∀ t : Fin grid0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0]
    ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0] := by decide +kernel

/-- The place in the arrays of row `r`, column `s` of block `t`. -/
def at_ (t : Fin cfg0.N) (r : Fin 256) (s : Fin 1408) : S2x1024x1408.Idx :=
  ix3 (⟨t.val / 4, by have := t.isLt; have h8 : cfg0.N = 8 := N_0; omega⟩ : Fin 2)
    (⟨t.val % 4 * 256 + r.val, by have := r.isLt; omega⟩ : Fin 1024) s

theorem blk0 (c : Dev nD) (t : Fin cfg0.N) (r : Fin 256) (s : Fin 1408) : iblk m c 0 t (ix3 0 r s) = A0 m c (at_ t r s) := by
  blk_ext [iblk, V, idx t, at_]

theorem blk1 (c : Dev nD) (t : Fin cfg0.N) (r : Fin 256) (s : Fin 1408) : iblk m c 1 t (ix3 0 r s) = A1 m c (at_ t r s) := by
  blk_ext [iblk, V, idx t, at_]

theorem blk2 (c : Dev nD) (t : Fin cfg0.N) (r : Fin 256) (s : Fin 1408) : iblk m c 2 t (ix3 0 r s) = A2 m c (at_ t r s) := by
  blk_ext [iblk, V, idx t, at_]

theorem blk3 (c : Dev nD) (t : Fin cfg0.N) (r : Fin 256) (s : Fin 1408) : iblk m c 3 t (ix3 0 r s) = A3 m c (at_ t r s) := by
  blk_ext [iblk, V, idx t, at_]

/-- The four result arrays after the run. -/
theorem delta_final (c : Dev nD) :
    (dats m 0 c).arrAt 4 cfg0.N = fun j => delta (A0 m c j) (A1 m c j) (A2 m c j) (A3 m c j) := by
  refine (dats m 0 c).arrAt_eq_of_covers 4 _ (by decide +kernel) fun t hf y => ?_
  blk_simp
  rw [after0_4]
  idx_vars y
  unfold out0_4
  frame_out
  unfold_payloads
  pointwise
  simp only [blk0, blk1, blk2, blk3]
  show (fun j => delta (A0 m c j) (A1 m c j) (A2 m c j) (A3 m c j)) (at_ t y1 y2) = _
  congr 1
  blk_ext [idx t, at_]

theorem mean1_final (c : Dev nD) : (dats m 0 c).arrAt 5 cfg0.N = fun j => mean1 (A1 m c j) (A2 m c j) := by
  refine (dats m 0 c).arrAt_eq_of_covers 5 _ (by decide +kernel) fun t hf y => ?_
  blk_simp
  rw [after0_5]
  idx_vars y
  unfold out0_5
  frame_out
  unfold_payloads
  pointwise
  simp only [blk1, blk2]
  show (fun j => mean1 (A1 m c j) (A2 m c j)) (at_ t y1 y2) = _
  congr 1
  blk_ext [idx t, at_]

theorem mean2_final (c : Dev nD) : (dats m 0 c).arrAt 6 cfg0.N = fun j => mean2 (A1 m c j) (A3 m c j) := by
  refine (dats m 0 c).arrAt_eq_of_covers 6 _ (by decide +kernel) fun t hf y => ?_
  blk_simp
  rw [after0_6]
  idx_vars y
  unfold out0_6
  frame_out
  unfold_payloads
  pointwise
  simp only [blk1, blk3]
  show (fun j => mean2 (A1 m c j) (A3 m c j)) (at_ t y1 y2) = _
  congr 1
  blk_ext [idx t, at_]

theorem grad_final (c : Dev nD) : (dats m 0 c).arrAt 7 cfg0.N = A1 m c := by
  refine (dats m 0 c).arrAt_eq_of_covers 7 _ (by decide +kernel) fun t hf y => ?_
  blk_simp
  rw [after0_7]
  idx_vars y
  unfold out0_7
  frame_out
  unfold_payloads
  pointwise
  obtain rfl : y0 = 0 := Subsingleton.elim _ _
  refine (blk1 m c t y1 y2).trans ?_
  congr 1
  blk_ext [idx t, at_]

end Cert.AdamwIdeal.RowValue

namespace Cert.AdamwPlainIdeal.RefValue

open Cert.AdamwPlainIdeal Cert.AdamwPlainIdeal.Gen Idealize.ShloMosaic Idealize.ShloMosaic.TcCoe Idealize.SL.Sem
open Cert.AdamwPlainIdeal.Read
open Cert.AdamwIdeal.RowValue (mean1 mean2 delta)

/-- The reference's results are the kernel's, at all arguments. -/
theorem mean1_ref (g m : S2x1024x1408.Idx → EReal) : val_main_v4 (F := Ideal) g m = fun j => mean1 (g j) (m j) := by
  funext j
  idx_vars j
  unfold val_main_v4 val_main_v3 val_main_v2 val_main_v1 val_main_v0 val_main_cst val_main_cst_0
  pointwise
  rfl

theorem mean2_ref (g v : S2x1024x1408.Idx → EReal) : val_main_v10 (F := Ideal) g v = fun j => mean2 (g j) (v j) := by
  funext j
  idx_vars j
  unfold val_main_v10 val_main_v9 val_main_v8 val_main_v7 val_main_v6 val_main_v5 val_main_cst_1 val_main_cst_2
  pointwise
  rfl

theorem delta_ref (w g m v : S2x1024x1408.Idx → EReal) :
    val_main_v23 (F := Ideal) w g m v = fun j => delta (w j) (g j) (m j) (v j) := by
  funext j
  idx_vars j
  unfold val_main_v23 val_main_v22 val_main_v21 val_main_v20 val_main_v19 val_main_v18 val_main_v17 val_main_v16
    val_main_v15 val_main_v14 val_main_v13 val_main_v12 val_main_v11 val_main_cst_3 val_main_cst_4 val_main_cst_5
    val_main_cst_6 val_main_cst_7
  simp only [mean1_ref, mean2_ref]
  pointwise
  rfl

end Cert.AdamwPlainIdeal.RefValue
-- ==== Proof.AdamwClaim.lean ====
/-
  The claims about one step of the optimiser: `Adamw` against `AdamwPlain`.
-/
module

public import proofs.«01_k».proof.Defs
public import proofs.«01_k».proof.Proof.AdamwValue

@[expose] public section

set_option maxRecDepth 16384

noncomputable section

namespace Cert.AdamwClaim

open Idealize.ShloMosaic Idealize.ShloMosaic.TcCoe Idealize.SL.Sem
open Cert.AdamwIdeal.RowValue (delta mean1 mean2 delta_final mean1_final mean2_final grad_final A0 A1 A2 A3)
open Cert.AdamwPlainIdeal.RefValue (delta_ref mean1_ref mean2_ref)

/-- Both programs compute the same change and the same moments over the extended reals, and hand on the gradient. -/
theorem algebraic : algebraic_AdamwIdeal_AdamwPlainIdeal (hAdamwIdeal := Cert.AdamwIdeal.Gen.facts)
    (hAdamwPlainIdeal := Cert.AdamwPlainIdeal.Gen.facts) := fun m ρ m' ρ' _ hag =>
  ⟨fun c j => delta (A0 m c j) (A1 m c j) (A2 m c j) (A3 m c j), fun c j => mean1 (A1 m c j) (A2 m c j),
    fun c j => mean2 (A1 m c j) (A3 m c j), fun c => A1 m c,
    (θ_run _ _ _).mono (fun _ h c => ⟨(h c).1.trans (delta_final m c), (h c).2.1.trans (mean1_final m c),
        (h c).2.2.1.trans (mean2_final m c), (h c).2.2.2.1.trans (grad_final m c), (h c).2.2.2.2⟩)
      (AdamwIdeal.Value.run_blocks m ρ),
    (θ_run _ _ _).mono (fun _ h c => by
      obtain ⟨e0, e1, e2, e3⟩ := hag c
      refine ⟨(h c).1.trans ?_, (h c).2.1.trans ?_, (h c).2.2.1.trans ?_, (h c).2.2.2.1.trans ?_, (h c).2.2.2.2⟩
      · refine (AdamwPlainIdeal.Read.val_main_v23_eq _ _ _ _).trans ?_
        rw [e0, e1, e2, e3]
        exact delta_ref _ _ _ _
      · refine (AdamwPlainIdeal.Read.val_main_v4_eq _ _).trans ?_
        rw [e1, e2]
        exact mean1_ref _ _
      · refine (AdamwPlainIdeal.Read.val_main_v10_eq _ _).trans ?_
        rw [e1, e3]
        exact mean2_ref _ _
      · exact e1) (AdamwPlainIdeal.Value.run m' ρ')⟩

/-- The frame of the reference: its run with the results forgotten. -/
theorem frame_ref : quiescent_AdamwPlainIdeal (hAdamwPlainIdeal := Cert.AdamwPlainIdeal.Gen.facts) := fun m ρ _ =>
  (θ_run _ _ _).mono (fun r h => ⟨fun c => (h c).2.2.2.2, sem_eq_zero_of_no_sems (by decide) r.2⟩)
    (AdamwPlainIdeal.Value.run m ρ)

end Cert.AdamwClaim
-- ==== Proof.DwUpValue.lean ====
/-
  The gradient of a product with respect to its right factor: what the kernel `DwUp` computes over the extended reals,
  read at an index. The rows are summed in four blocks into a scratch that the fourth block's point writes out.
-/
module

public import proofs.«01_k».proof.Proof.Gen.DwUpIdeal.Value
public import proofs.«01_k».proof.Proof.Gen.DwUpGradIdeal.Run
public import proofs.«01_k».proof.Proof.Gen.DwUpGradIdeal.Read
public import proofs.«01_k».proof.Proof.Reals
public import Idealize.ShloMosaic.Lib.Pipeline.ReadBack

@[expose] public section

set_option maxRecDepth 16384

noncomputable section

namespace Cert.DwUpIdeal.RowValue

open Cert.DwUpIdeal Cert.DwUpIdeal.Gen Idealize.ShloMosaic Idealize.ShloMosaic.TcCoe Idealize.SL.Sem
open Idealize.ShloMosaic.Pipeline (Dat)

/-- Column `s` of part `q` among all columns. -/
def part (q : Fin 4) (s : Fin 1408) : Fin 5632 :=
  ⟨q.val * 1408 + s.val, by have := q.isLt; have := s.isLt; omega⟩

/-- The columns of the inputs against the columns of the gradient, in four parts. -/
def dw (a : S4096x1024.Idx → EReal) (dy : S4096x5632.Idx → EReal) (j : S4x1024x1408.Idx) : EReal :=
  ∑ r : Fin 4096, a (ix2 r (j 1)) * dy (ix2 r (part (j 0) (j 2)))

variable (m : (ℓ : Loc nD τ sig) → Buf (Elt Ideal) ℓ)

/-- The arguments as arrays of extended reals. -/
abbrev A0 (c : Dev nD) : S4096x1024.Idx → EReal := m ((c : Thread nD τ).loc main_arg0)
abbrev A1 (c : Dev nD) : S4096x5632.Idx → EReal := m ((c : Thread nD τ).loc main_arg1)

/-- The blocks as arrays of extended reals. -/
abbrev B0 (c : Dev nD) (t : Fin cfg0.N) : S1024x512.Idx → EReal := iblk m c 0 t
abbrev B1 (c : Dev nD) (t : Fin cfg0.N) : S1024x2816.Idx → EReal := iblk m c 1 t

/-- The index maps as closed forms: the innermost coordinate walks the rows. -/
theorem idx : ∀ t : Fin grid0.N, win0_0.index t = ![t.val % 4, t.val / 4 % 2] ∧ win0_1.index t = ![t.val % 4, t.val / 8]
    ∧ win0_2.index t = ![t.val / 8, t.val / 4 % 2, 0] := by decide +kernel

/-- Row `r` of the row block at point `t`. -/
def row (t : Fin cfg0.N) (r : Fin 1024) : Fin 4096 :=
  ⟨t.val % 4 * 1024 + r.val, by have := r.isLt; omega⟩

/-- Column `k` of the input's block. -/
def kcol (t : Fin cfg0.N) (k : Fin 512) : Fin 1024 :=
  ⟨t.val / 4 % 2 * 512 + k.val, by have := k.isLt; omega⟩

/-- Column `n` of the gradient's block. -/
def ncol (t : Fin cfg0.N) (n : Fin 2816) : Fin 5632 :=
  ⟨t.val / 8 * 2816 + n.val, by have := t.isLt; have h8 : cfg0.N = 16 := N_0; have := n.isLt; omega⟩

theorem blk0 (c : Dev nD) (t : Fin cfg0.N) (r : Fin 1024) (k : Fin 512) :
    B0 m c t (ix2 r k) = A0 m c (ix2 (row t r) (kcol t k)) := by
  blk_ext [B0, iblk, V, idx t, row, kcol]

theorem blk1 (c : Dev nD) (t : Fin cfg0.N) (r : Fin 1024) (n : Fin 2816) :
    B1 m c t (ix2 r n) = A1 m c (ix2 (row t r) (ncol t n)) := by
  blk_ext [B1, iblk, V, idx t, row, ncol]

/-- One row block's share of an entry. -/
def term (c : Dev nD) (t : Fin cfg0.N) (j : S512x2816.Idx) : EReal :=
  ∑ r : Fin 1024, A0 m c (ix2 (row t r) (kcol t (j 0))) * A1 m c (ix2 (row t r) (ncol t (j 1)))

theorem term_blk (c : Dev nD) (t : Fin cfg0.N) (k : Fin 512) (n : Fin 2816) :
    ∑ x : Fin 1024, B0 m c t (ix2 x k) * B1 m c t (ix2 x n) = term m c t (ix2 k n) := by
  simp only [blk0, blk1]
  rfl

/-- The scratch after the point of the last row block: every row's share. -/
theorem acc_all (c : Dev nD) (t : Fin cfg0.N) (ht : t.val % 4 = 3) (k : Fin 512) (n : Fin 2816) :
    (outsAt0 m c t.val t.isLt).2 (ix2 k n) = ∑ r : Fin 4096, A0 m c (ix2 r (kcol t k)) * A1 m c (ix2 r (ncol t n)) := by
  have h8 : cfg0.N = 16 := N_0
  have htl := t.isLt
  rw [Pipeline.eq_sum_fin_of_reset_step_apply_of_flush (fun n h => (outsAt0 m c n h).2) 4 (fun _ => 0) (term m c)
    (fun t h j => ?_) (fun t h j => ?_) t ht (ix2 k n)]
  · rw [zero_add]
    refine Eq.trans ?_ (Fin.sum_mul_add_fin 4 1024 (fun r : Fin 4096 => A0 m c (ix2 r (kcol t k)) * A1 m c (ix2 r (ncol t n)))
      (by norm_num))
    refine Finset.sum_congr rfl fun s _ => ?_
    unfold term
    refine Finset.sum_congr rfl fun r _ => ?_
    have hs := s.isLt
    have ek : kcol ⟨4 * (t.val / 4) + s.val, by omega⟩ k = kcol t k := Fin.ext (by
      show (4 * (t.val / 4) + s.val) / 4 % 2 * 512 + k.val = t.val / 4 % 2 * 512 + k.val
      omega)
    have en : ncol ⟨4 * (t.val / 4) + s.val, by omega⟩ n = ncol t n := Fin.ext (by
      show (4 * (t.val / 4) + s.val) / 8 * 2816 + n.val = t.val / 8 * 2816 + n.val
      omega)
    have er : row ⟨4 * (t.val / 4) + s.val, by omega⟩ r = ⟨s.val * 1024 + r.val, by have := r.isLt; omega⟩ := Fin.ext (by
      show (4 * (t.val / 4) + s.val) % 4 * 1024 + r.val = s.val * 1024 + r.val
      omega)
    show A0 m c (ix2 (row ⟨4 * (t.val / 4) + s.val, _⟩ r) (kcol ⟨4 * (t.val / 4) + s.val, _⟩ k))
      * A1 m c (ix2 (row ⟨4 * (t.val / 4) + s.val, _⟩ r) (ncol ⟨4 * (t.val / 4) + s.val, _⟩ n)) = _
    rw [ek, en, er]
  · have := t.isLt
    rw [outsAt0_A m c t h (by omega) (by omega)]
    frame_out
    unfold_payloads
    idx_vars j
    pointwise
    exact term_blk m c t _ _
  · have := t.isLt
    by_cases h3 : t.val % 4 = 3
    · rw [outsAt0_C m c t h (by omega) h3]
      frame_out
      unfold_payloads
      idx_vars j
      pointwise
      refine congrArg₂ (· + ·) ?_ (term_blk m c t _ _)
      rw [read_unread_whole]
    · rw [outsAt0_B m c t h (by omega) h3]
      frame_out
      unfold_payloads
      idx_vars j
      pointwise
      refine congrArg₂ (· + ·) ?_ (term_blk m c t _ _)
      rw [read_unread_whole]

/-- The written block as one function of the scratch: part `q` is the scratch's half `q`. -/
def halves (w : S512x2816.Idx → EReal) (x : S2x512x1408.Idx) : EReal :=
  w (ix2 (x 1) (⟨(x 0).val * 1408 + (x 2).val, by have := (x 0).isLt; have := (x 2).isLt; change (x 0).val < 2 at *; change (x 2).val < 1408 at *; omega⟩ : Fin 2816))

theorem halves_at (w : S512x2816.Idx → EReal) (q : Fin 2) (k : Fin 512) (s : Fin 1408) (x : S2x512x1408.Idx) (n : Fin 2816) (v : EReal)
    (hv : v = w (ix2 k n)) (hn : n.val = q.val * 1408 + s.val) (h0 : (x 0).val = q.val) (h1 : (x 1).val = k.val)
    (h2 : (x 2).val = s.val) : v = halves w x := by
  rw [hv, halves]
  exact congrArg w (by rw [show x 1 = k from Fin.ext h1]; exact congrArg (ix2 k) (Fin.ext (by show n.val = (x 0).val * 1408 + (x 2).val; rw [hn, h0, h2])))

/-- A load of a half of a scratch that was stored whole. -/
theorem half_load (v : View sig .tc .vmem S512x2816 .f32) (w : S512x2816.Idx → EReal) (o : ℕ)
    (inb : ∀ a, (![0, 0] : Fin 2 → ℕ) a + (![512, 2816] : Fin 2 → ℕ) a ≤ S512x2816.size a)
    (inb' : ∀ a, (![0, o] : Fin 2 → ℕ) a + (![512, 1408] : Fin 2 → ℕ) a ≤ S512x2816.size a) (k : Fin 512) (s : Fin 1408)
    (n : Fin 2816) (hn : n.val = o + s.val) :
    (v.readCov (Val := Elt Ideal) [⟨Rect.unit (s := S512x2816) ![0, 0] ![512, 2816] inb, w⟩]
      (Rect.unit (s := S512x2816) ![0, o] ![512, 1408] inb').toLoadRect : S512x1408.Idx → EReal) (ix2 k s) = w (ix2 k n) := by
  rw [View.readCov_eq_canon']
  show View.canon (Val := Elt Ideal) _ _ = _
  rw [View.canon_unit_zero (by funext a; fin_cases a <;> rfl)]
  refine congrArg w ?_
  funext a
  fin_cases a
  · exact Fin.ext (by simp [LoadRect.idx])
  · exact Fin.ext (by simp [LoadRect.idx, hn])

/-- The block written out at the point of the last row block: the scratch's two halves. -/
theorem out_blk (c : Dev nD) (t : Fin cfg0.N) (ht : t.val % 4 = 3) (y : S2x512x1408.Idx) :
    (outsAt0 m c t.val t.isLt).1 y = halves (outsAt0 m c t.val t.isLt).2 y := by
  have := t.isLt
  rw [outsAt0_C m c t (by omega) (by omega) ht]
  frame_out
  generalize k0_pay3 (F := Ideal) _ _ _ = w
  refine View.canon_append_of_piecesOf (Val := Elt Ideal) (e := .bf16) (halves w) [] [_, _]
    ⟨fun x => ?_, fun x => ?_, trivial⟩ y (View.cover_of_tiledL _ ![1, 512, 1408] (by sl_kernel_rfl) y)
  all_goals idx_vars x
  all_goals obtain rfl : x0 = 0 := Subsingleton.elim _ _
  · refine halves_at w 1 x1 x2 _ ⟨1408 + x2.val, by omega⟩ _ ?_ (by simp) (by simp) (by simp) (by simp)
    unfold k0_pay5
    pointwise
    exact half_load _ w 1408 _ _ x1 x2 _ rfl
  · refine halves_at w 0 x1 x2 _ ⟨x2.val, by omega⟩ _ ?_ (by simp) (by simp) (by simp) (by simp)
    unfold k0_pay4
    pointwise
    exact half_load _ w 0 _ _ x1 x2 _ (by simp)

/-- The result array after the run. -/
theorem dw_final (c : Dev nD) : (dats m 0 c).arrAt 2 cfg0.N = dw (A0 m c) (A1 m c) := by
  refine (dats m 0 c).arrAt_eq_of_covers 2 _ (by decide +kernel) fun t hf y => ?_
  have ht : t.val % 4 = 3 := (flush0_2 t).mp hf
  blk_simp
  rw [after0_2]
  refine (out_blk m c t ht y).trans ?_
  idx_vars y
  refine (acc_all m c t ht y1 _).trans ?_
  unfold dw
  have e1 : (win0_2.blk t).view.emb (ix3 y0 y1 y2) = ix3 (⟨t.val / 8 * 2 + y0.val, by have h16 : t.val < 16 := lt_of_lt_of_eq t.isLt N_0; omega⟩ : Fin 4) (kcol t y1) y2 := by
    blk_ext [idx t, kcol]
  rw [e1]
  refine Finset.sum_congr rfl fun r _ => ?_
  refine congrArg (_ * ·) (congrArg (A1 m c) (congrArg (ix2 r) (Fin.ext ?_)))
  show t.val / 8 * 2816 + (y0.val * 1408 + y2.val) = (t.val / 8 * 2 + y0.val) * 1408 + y2.val
  omega

end Cert.DwUpIdeal.RowValue

namespace Cert.DwUpGradIdeal.RefValue

open Cert.DwUpGradIdeal Cert.DwUpGradIdeal.Gen Idealize.ShloMosaic Idealize.ShloMosaic.TcCoe Idealize.SL.Sem
open Cert.DwUpGradIdeal.Read
open Cert.DwUpIdeal.RowValue (dw)

/-- The derivative's product, cut into four parts, is the kernel's, at all arguments. -/
theorem dw_ref (a : S4096x1024.Idx → EReal) (dy : S4096x5632.Idx → EReal) : val_main_v6 (F := Ideal) a dy = dw a dy := by
  funext j
  idx_vars j
  unfold val_main_v6 val_main_v5 val_main_v4 val_main_v3 val_main_v2
  pointwise
  exact Finset.sum_congr rfl fun r _ => mul_comm _ _

end Cert.DwUpGradIdeal.RefValue
-- ==== Proof.DwUpClaim.lean ====
/-
  The claims about the gradient of a product with respect to its right factor: `DwUp` against `DwUpGrad`.
-/
module

public import proofs.«01_k».proof.Defs
public import proofs.«01_k».proof.Proof.DwUpValue

@[expose] public section

set_option maxRecDepth 16384

noncomputable section

namespace Cert.DwUpClaim

open Idealize.ShloMosaic Idealize.ShloMosaic.TcCoe Idealize.SL.Sem
open Cert.DwUpIdeal.RowValue (dw dw_final A0 A1)
open Cert.DwUpGradIdeal.RefValue (dw_ref)

/-- Both programs compute the same product over the extended reals. -/
theorem algebraic : algebraic_DwUpIdeal_DwUpGradIdeal (hDwUpIdeal := Cert.DwUpIdeal.Gen.facts)
    (hDwUpGradIdeal := Cert.DwUpGradIdeal.Gen.facts) := fun m ρ m' ρ' _ hag =>
  ⟨fun c => dw (A0 m c) (A1 m c),
    (θ_run _ _ _).mono (fun _ h c => ⟨(h c).1.trans (dw_final m c), (h c).2⟩) (DwUpIdeal.Value.run_blocks m ρ),
    (θ_run _ _ _).mono (fun _ h c => by
      obtain ⟨e0, e1⟩ := hag c
      refine ⟨(h c).1.trans ?_, (h c).2⟩
      refine (DwUpGradIdeal.Read.val_main_v6_eq _ _).trans ?_
      rw [e0, e1]
      exact dw_ref _ _) (DwUpGradIdeal.Value.run m' ρ')⟩

/-- The frame of the reference: its run with the results forgotten. -/
theorem frame_ref : quiescent_DwUpGradIdeal (hDwUpGradIdeal := Cert.DwUpGradIdeal.Gen.facts) := fun m ρ _ =>
  (θ_run _ _ _).mono (fun r h => ⟨fun c => (h c).2, sem_eq_zero_of_no_sems (by decide) r.2⟩)
    (DwUpGradIdeal.Value.run m ρ)

end Cert.DwUpClaim
-- ==== Proof.CastValue.lean ====
/-
  The cast of the pooling weight: over the extended reals what the kernel `Cast` and its reference hand on is the argument.
-/
module

public import proofs.«01_k».proof.Proof.Gen.CastIdeal.Value
public import proofs.«01_k».proof.Proof.Gen.CastPlainIdeal.Run
public import proofs.«01_k».proof.Proof.Gen.CastPlainIdeal.Read
public import proofs.«01_k».proof.Proof.Reals

@[expose] public section

set_option maxRecDepth 16384

noncomputable section

namespace Cert.CastIdeal.RowValue

open Cert.CastIdeal Cert.CastIdeal.Gen Idealize.ShloMosaic Idealize.ShloMosaic.TcCoe Idealize.SL.Sem
open Idealize.ShloMosaic.Pipeline (Dat)

/-- The weight without its leading axis. -/
def drop (a : S1x4x128x128.Idx → EReal) (j : S4x128x128.Idx) : EReal := a (ix4 0 (j 0) (j 1) (j 2))

variable (m : (ℓ : Loc nD τ sig) → Buf (Elt Ideal) ℓ)

/-- The argument as an array of extended reals. -/
abbrev A0 (c : Dev nD) : S1x4x128x128.Idx → EReal := m ((c : Thread nD τ).loc main_arg0)

/-- The block as an array of extended reals. -/
abbrev B0 (c : Dev nD) (t : Fin cfg0.N) : S1x128x128.Idx → EReal := iblk m c 0 t

/-- The index maps as closed forms: a point takes a group. -/
theorem idx : ∀ t : Fin grid0.N, win0_0.index t = ![t.val, 0, 0] ∧ win0_1.index t = ![t.val, 0, 0] := by decide +kernel

/-- The group of point `t`. -/
def grp (t : Fin cfg0.N) : Fin 4 := ⟨t.val, by have := t.isLt; have h4 : cfg0.N = 4 := N_0; omega⟩

theorem blk0 (c : Dev nD) (t : Fin cfg0.N) (r s : Fin 128) : B0 m c t (ix3 0 r s) = drop (A0 m c) (ix3 (grp t) r s) := by
  blk_ext! [B0, iblk, V, idx t, grp, drop]

/-- The result array after the run. -/
theorem cast_final (c : Dev nD) : (dats m 0 c).arrAt 1 cfg0.N = drop (A0 m c) := by
  refine (dats m 0 c).arrAt_eq_of_covers 1 _ (by decide +kernel) fun t hf y => ?_
  blk_simp
  rw [after0_1]
  idx_vars y
  unfold out0_1
  frame_out
  unfold_payloads
  pointwise
  obtain rfl : y0 = 0 := Subsingleton.elim _ _
  refine (blk0 m c t y1 y2).trans ?_
  show drop (A0 m c) _ = _
  congr 1
  blk_ext [idx t, grp]

end Cert.CastIdeal.RowValue

namespace Cert.CastPlainIdeal.RefValue

open Cert.CastPlainIdeal Cert.CastPlainIdeal.Gen Idealize.ShloMosaic Idealize.ShloMosaic.TcCoe Idealize.SL.Sem
open Cert.CastPlainIdeal.Read
open Cert.CastIdeal.RowValue (drop)

/-- The reference's result is the kernel's. -/
theorem cast_ref (a : S1x4x128x128.Idx → EReal) : val_main_v1 (F := Ideal) a = drop a := by
  funext j
  idx_vars j
  unfold val_main_v1 val_main_v0
  pointwise
  rfl

end Cert.CastPlainIdeal.RefValue
-- ==== Proof.CastClaim.lean ====
/-
  The claims about the cast of the pooling weight: `Cast` against `CastPlain`.
-/
module

public import proofs.«01_k».proof.Defs
public import proofs.«01_k».proof.Proof.CastValue

@[expose] public section

set_option maxRecDepth 16384

noncomputable section

namespace Cert.CastClaim

open Idealize.ShloMosaic Idealize.ShloMosaic.TcCoe Idealize.SL.Sem
open Cert.CastIdeal.RowValue (drop cast_final A0)
open Cert.CastPlainIdeal.RefValue (cast_ref)

/-- Both programs hand on the weight over the extended reals. -/
theorem algebraic : algebraic_CastIdeal_CastPlainIdeal (hCastIdeal := Cert.CastIdeal.Gen.facts)
    (hCastPlainIdeal := Cert.CastPlainIdeal.Gen.facts) := fun m ρ m' ρ' _ hag =>
  ⟨fun c => drop (A0 m c),
    (θ_run _ _ _).mono (fun _ h c => ⟨(h c).1.trans (cast_final m c), (h c).2⟩) (CastIdeal.Value.run_blocks m ρ),
    (θ_run _ _ _).mono (fun _ h c => by
      refine ⟨(h c).1.trans ?_, (h c).2⟩
      refine (CastPlainIdeal.Read.val_main_v1_eq _).trans ?_
      rw [hag c]
      exact cast_ref _) (CastPlainIdeal.Value.run m' ρ')⟩

/-- The frame of the reference: its run with the results forgotten. -/
theorem frame_ref : quiescent_CastPlainIdeal (hCastPlainIdeal := Cert.CastPlainIdeal.Gen.facts) := fun m ρ _ =>
  (θ_run _ _ _).mono (fun r h => ⟨fun c => (h c).2, sem_eq_zero_of_no_sems (by decide) r.2⟩)
    (CastPlainIdeal.Value.run m ρ)

end Cert.CastClaim
-- ==== Proof.DeviceSumValue.lean ====
/-
  The sum over the devices of the small gradients: what the kernel `DeviceSum` computes over the extended reals, read at an
  index. A device takes its own rows where its number says so and the landed ones elsewhere.
-/
module

public import proofs.«01_k».proof.Proof.Gen.DeviceSumIdeal.Frame
public import proofs.«01_k».proof.Proof.Gen.DeviceSumPlainIdeal.Run
public import proofs.«01_k».proof.Proof.Gen.DeviceSumPlainIdeal.Read
public import Idealize.ShloMosaic.Lib.Pipeline.Value
public import proofs.«01_k».proof.Proof.Reals

@[expose] public section

set_option maxRecDepth 16384

noncomputable section

namespace Cert.DeviceSumIdeal.RowValue

open Cert.DeviceSumIdeal Cert.DeviceSumIdeal.Gen Idealize.ShloMosaic Idealize.ShloMosaic.TcCoe Idealize.SL.Sem
open Idealize.ShloMosaic.Pipeline (Dat)

/-- Device `q`'s share of an entry: the own rows for the device's own number `me`, the landed ones otherwise. -/
def share (land : S8x1016x128.Idx → EReal) (own : S1016x128.Idx → EReal) (me : S1.Idx → BitVec 32) (j : S1016x128.Idx) (q : Fin 8) : EReal :=
  if me (ix1 0) = BitVec.ofNat 32 q.val then own j else land (ix3 q (j 0) (j 1))

/-- The sum over the devices. -/
def total (land : S8x1016x128.Idx → EReal) (own : S1016x128.Idx → EReal) (me : S1.Idx → BitVec 32) (j : S1016x128.Idx) : EReal :=
  ∑ q : Fin 8, share land own me j q

variable (m : (ℓ : Loc nD τ sig) → Buf (Elt Ideal) ℓ) (ρ : Dev nD → PrngReg)

/-- The arguments as arrays. -/
abbrev A0 (c : Dev nD) : S8x1016x128.Idx → EReal := m ((c : Thread nD τ).loc main_arg0)
abbrev A1 (c : Dev nD) : S1016x128.Idx → EReal := m ((c : Thread nD τ).loc main_arg1)
abbrev A2 (c : Dev nD) : S1.Idx → BitVec 32 := m ((c : Thread nD τ).loc main_arg2)

/-- No index map reads the table of the device's number. -/
theorem ok : Ok m := trivial

/-- The run with the result array named and the arguments as launched. -/
theorem run_named : θ_run defs (onTc (τ := τ) (main (F := Ideal))) ⟨m, fun _ => 0, ρ⟩ fun r => ∀ c : Dev nD,
    r.2.mem ((c : Thread nD τ).loc main_v0) = (dats m (ok m) 0 c).arrAt 2 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 2,
      ((h c).1 0).trans (((dats m (ok m) 0 c).arrAt_in 0 rfl _).trans (A_eq m (ok m) c 0)),
      ((h c).1 1).trans (((dats m (ok m) 0 c).arrAt_in 1 rfl _).trans (A_eq m (ok m) c 1)),
      (h c).2 main_arg2 (by decide : main_arg2 ∈ Pipeline.restRefs sig spec0)⟩) (run_main m ρ (ok m))

/-- The blocks as arrays. -/
abbrev B0 (c : Dev nD) (t : Fin (cfgM m (ok m)).N) : S8x1016x128.Idx → EReal := iblk m (ok m) c 0 t
abbrev B1 (c : Dev nD) (t : Fin (cfgM m (ok m)).N) : S1016x128.Idx → EReal := iblk m (ok m) c 1 t

/-- The index maps: every block is its whole array. -/
theorem idx0 (t : Fin (cfgM m (ok m)).N) : ((pcfg0 (F := Ideal)).win (adm m (ok m)) 0).index t = ![0, 0, 0] :=
  (by decide +kernel : ∀ t : Fin grid0.N, cc0_transform_0 (grid0.coords t) = ![0, 0, 0]) t
theorem idx1 (t : Fin (cfgM m (ok m)).N) : ((pcfg0 (F := Ideal)).win (adm m (ok m)) 1).index t = ![0, 0] :=
  (by decide +kernel : ∀ t : Fin grid0.N, cc0_transform_1 (grid0.coords t) = ![0, 0]) t
theorem idx2 (t : Fin (cfgM m (ok m)).N) : ((pcfg0 (F := Ideal)).win (adm m (ok m)) 2).index t = ![0, 0] :=
  (by decide +kernel : ∀ t : Fin grid0.N, cc0_transform_2 (grid0.coords t) = ![0, 0]) t

/-- The one block of the result is the whole array. -/
theorem covers : ((cfgM m (ok m)).win 2).Covers := by
  have hpos : ∀ a : Fin 2, 0 < S1016x128.size a := by decide
  have hone : ∀ a : Fin 2, (S1016x128.size a + S1016x128.size a - 1) / S1016x128.size a = 1 := by decide
  refine ⟨fun a => hpos a, fun β => ⟨(⟨0, (by decide : 0 < grid0.N)⟩ : Fin grid0.N), flush0_2 _ _, fun a => ?_⟩⟩
  have hz : (β a : ℕ) = 0 := by
    have h := (β a).isLt
    exact Nat.lt_one_iff.mp (lt_of_lt_of_eq h (hone a))
  refine ⟨?_, Or.inl rfl⟩
  rw [hz]
  refine (congrFun (idx2 m _) a).trans ?_
  exact (by decide : ∀ a : Fin 2, (![0, 0] : Fin 2 → ℕ) a = 0) a

/-- A block at index zero starts at the array's start. -/
theorem off {x n q : ℕ} (h : x = 0) : x * n + q = q := by rw [h, Nat.zero_mul, Nat.zero_add]

theorem blk0 (c : Dev nD) (t : Fin (cfgM m (ok m)).N) (q : Fin 8) (r : Fin 1016) (l : Fin 128) :
    B0 m c t (ix3 q r l) = A0 m c (ix3 q r l) := by
  blk_ext [B0, iblk, V]
  · exact off (congrFun (idx0 m t) 0)
  · exact off (congrFun (idx0 m t) 1)
  · exact off (congrFun (idx0 m t) 2)

theorem blk1 (c : Dev nD) (t : Fin (cfgM m (ok m)).N) (r : Fin 1016) (l : Fin 128) :
    B1 m c t (ix2 r l) = A1 m c (ix2 r l) := by
  blk_ext [B1, iblk, V]
  · exact off (congrFun (idx1 m t) 0)
  · exact off (congrFun (idx1 m t) 1)

/-- A choice by an equality test is a choice by the equality. -/
theorem pick (a b : BitVec 32) (x y : EReal) : Scalar.select (IntOp.cmpi .eq a b) x y = if a = b then x else y := by
  unfold Scalar.select
  by_cases h : a = b
  · simp [IntOp.cmpi, h]
  · simp [IntOp.cmpi, h, beq_eq_false_iff_ne.mpr h]

/-- The word read from the table is the device's number. -/
theorem word (c : Dev nD) : View.readAt (Elt Ideal) (View.whole main_arg2) (Rect.unit ![0] ![1] inb_S1_S1_0).toLoadRect
    (tbl m 0) (Shape.Idx.first (by decide)) = A2 m c (ix1 0) := by
  obtain rfl : c = 0 := Subsingleton.elim _ _
  refine congrArg (A2 m 0) (funext fun a => ?_)
  match a with
  | ⟨0, _⟩ => rfl

/-- What the body leaves in the result's block, from any blocks: the sum over the devices. -/
theorem body (c : Dev nD) (i : grid0.Coords) (a2 : Memref sig .tc .vmem S8x1016x128 .f32) (h2 : a2.IsWhole)
    (a3 : Memref sig .tc .vmem S1016x128 .f32) (h3 : a3.IsWhole) (a4 : Memref sig .tc .vmem S1016x128 .f32) (h4 : a4.IsWhole)
    (x0 : Vec Ideal S8x1016x128 .f32) (x1 : Vec Ideal S1016x128 .f32) (y0 : Fin 1016) (y1 : Fin 128) :
    out0_A_2 c i a2 h2 a3 h3 a4 h4 x0 x1 (tbl m 0) (ix2 y0 y1) = total x0 x1 (A2 m c) (ix2 y0 y1) := by
  unfold out0_A_2
  frame_out
  unfold_payloads
  pointwise
  rw [word m c]
  have p : ∀ q : Fin 8, Scalar.select (IntOp.cmpi .eq (A2 m c (ix1 0)) (BitVec.ofNat 32 q.val)) (x1 (ix2 y0 y1))
      (x0 (ix3 q y0 y1)) = share x0 x1 (A2 m c) (ix2 y0 y1) q := fun q => pick _ _ _ _
  unfold total
  rw [Fin.sum_univ_eight]
  simp only [← p]
  rfl

/-- What the body leaves in the result's block: the sum over the devices. -/
theorem outs (c : Dev nD) (t : Fin (cfgM m (ok m)).N) (y0 : Fin 1016) (y1 : Fin 128) :
    outsAt0 m (ok m) c t (ix2 y0 y1) = total (A0 m c) (A1 m c) (A2 m c) (ix2 y0 y1) := by
  refine (body m c _ _ _ _ _ _ _ (iblk m (ok m) c 0 t) (iblk m (ok m) c 1 t) y0 y1).trans ?_
  unfold total share
  refine Finset.sum_congr rfl fun q _ => if_congr Iff.rfl (blk1 m c t y0 y1) (blk0 m c t q y0 y1)

/-- The result array after the run. -/
theorem total_final (c : Dev nD) : (dats m (ok m) 0 c).arrAt 2 (cfgM m (ok m)).N = total (A0 m c) (A1 m c) (A2 m c) := by
  refine (dats m (ok m) 0 c).arrAt_eq_of_covers 2 _ (covers m) fun t hf y => ?_
  blk_simp
  rw [after0_2]
  have hy : ∀ y : S1016x128.Idx, ∃ (y0 : Fin 1016) (y1 : Fin 128), y = ix2 y0 y1 := fun y =>
    ⟨y 0, y 1, funext fun a => match a with | ⟨0, _⟩ => rfl | ⟨1, _⟩ => rfl⟩
  obtain ⟨y0, y1, rfl⟩ := hy y
  refine (outs m c t y0 y1).trans (congrArg (total (A0 m c) (A1 m c) (A2 m c)) ?_)
  blk_ext []
  · exact (off (congrFun (idx2 m t) 0)).symm
  · exact (off (congrFun (idx2 m t) 1)).symm

end Cert.DeviceSumIdeal.RowValue

namespace Cert.DeviceSumPlainIdeal.RefValue

open Cert.DeviceSumPlainIdeal Cert.DeviceSumPlainIdeal.Gen Idealize.ShloMosaic Idealize.ShloMosaic.TcCoe Idealize.SL.Sem
open Cert.DeviceSumPlainIdeal.Read
open Cert.DeviceSumIdeal.RowValue (total share pick)

/-- The reference's sum is the kernel's, at all arguments. -/
theorem total_ref (land : S8x1016x128.Idx → EReal) (own : S1016x128.Idx → EReal) (me : S1.Idx → BitVec 32) :
    val_main_v5 (F := Ideal) land own me = total land own me := by
  funext j
  idx_vars j
  rw [val_main_v5_apply]
  have e : val_main_cst (F := Ideal) (Shape.Idx.first h_S_) = (0 : EReal) := by
    rw [val_main_cst_apply]
    simp
  rw [e, zero_add]
  unfold total
  refine Finset.sum_congr rfl fun q _ => ?_
  rw [val_main_v4_apply, val_main_call0_v0_apply, val_main_v3_apply, val_main_v2_apply, val_main_v1_apply, val_main_v0_apply,
    val_main_call0_v1_apply]
  refine (pick _ _ _ _).trans ?_
  unfold share
  have ei : idx_main_v1 (idx_main_v3 (idx_main_call0_v0 (idx_main_v5 (ix2 j0 j1) q))) = ix1 0 :=
    funext fun a => match a with | ⟨0, _⟩ => rfl
  have eo : idx_main_call0_v1 (idx_main_v5 (ix2 j0 j1) q) = ix2 j0 j1 :=
    funext fun a => match a with | ⟨0, _⟩ => rfl | ⟨1, _⟩ => rfl
  have el : idx_main_v5 (ix2 j0 j1) q = ix3 q j0 j1 :=
    funext fun a => match a with | ⟨0, _⟩ => rfl | ⟨1, _⟩ => rfl | ⟨2, _⟩ => rfl
  rw [ei, eo, el]
  exact if_congr eq_comm rfl rfl

end Cert.DeviceSumPlainIdeal.RefValue
-- ==== Proof.DeviceSumClaim.lean ====
/-
  The claims about the sum over the devices of the small gradients: `DeviceSum` against `DeviceSumPlain`.
-/
module

public import proofs.«01_k».proof.Defs
public import proofs.«01_k».proof.Proof.DeviceSumValue

@[expose] public section

set_option maxRecDepth 16384

noncomputable section

namespace Cert.DeviceSumClaim

open Idealize.ShloMosaic Idealize.ShloMosaic.TcCoe Idealize.SL.Sem
open Cert.DeviceSumIdeal.RowValue (total total_final run_named A0 A1 A2)
open Cert.DeviceSumPlainIdeal.RefValue (total_ref)

/-- Both programs compute the same sum over the extended reals. -/
theorem algebraic : algebraic_DeviceSumIdeal_DeviceSumPlainIdeal (hDeviceSumIdeal := Cert.DeviceSumIdeal.Gen.facts)
    (hDeviceSumPlainIdeal := Cert.DeviceSumPlainIdeal.Gen.facts) := fun m ρ m' ρ' _ hag =>
  ⟨fun c => total (A0 m c) (A1 m c) (A2 m c),
    (θ_run _ _ _).mono (fun _ h c => ⟨(h c).1.trans (total_final m c), (h c).2⟩) (run_named m ρ),
    (θ_run _ _ _).mono (fun _ h c => by
      obtain ⟨e0, e1, e2⟩ := hag c
      refine ⟨(h c).1.trans ?_, (h c).2⟩
      refine (DeviceSumPlainIdeal.Read.val_main_v5_eq _ _ _).trans ?_
      rw [e0, e1, e2]
      exact total_ref _ _ _) (DeviceSumPlainIdeal.Value.run m' ρ')⟩

/-- The frame of the reference: its run with the results forgotten. -/
theorem frame_ref : quiescent_DeviceSumPlainIdeal (hDeviceSumPlainIdeal := Cert.DeviceSumPlainIdeal.Gen.facts) := fun m ρ _ =>
  (θ_run _ _ _).mono (fun r h => ⟨fun c => (h c).2, sem_eq_zero_of_no_sems (by decide) r.2⟩)
    (DeviceSumPlainIdeal.Value.run m ρ)

end Cert.DeviceSumClaim
-- ==== Proof.lean ====
/-
  The proof of `Cert.Claim`: it assembles the claims that the modules under Proof/ prove, one module `<Call>Claim` for
  each call of the backward pass.
-/
module

public import proofs.«01_k».proof.Defs
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.NormGradIdeal.Run
public import proofs.«01_k».proof.Proof.Gen.NormGradIdeal.Read
public import proofs.«01_k».proof.Proof.Gen.NormGradIdeal
public import proofs.«01_k».proof.Proof.Gen.MixerBwd
public import proofs.«01_k».proof.Proof.Gen.MixerBwd.Skeleton
public import proofs.«01_k».proof.Proof.Gen.MixerBwd.Launch
public import proofs.«01_k».proof.Proof.Gen.MixerBwd.Points
public import proofs.«01_k».proof.Proof.Gen.MixerBwd.Frame
public import proofs.«01_k».proof.Proof.Gen.MixerBwdIdeal
public import proofs.«01_k».proof.Proof.Gen.MixerBwdIdeal.Skeleton
public import proofs.«01_k».proof.Proof.Gen.MixerBwdIdeal.Launch
public import proofs.«01_k».proof.Proof.Gen.MixerBwdIdeal.Points
public import proofs.«01_k».proof.Proof.Gen.MixerBwdIdeal.Frame
public import proofs.«01_k».proof.Proof.Gen.MixerBwdIdeal.Value
public import proofs.«01_k».proof.Proof.Gen.MixerGradIdeal.Run
public import proofs.«01_k».proof.Proof.Gen.MixerGradIdeal.Read
public import proofs.«01_k».proof.Proof.Gen.MixerGradIdeal
public import proofs.«01_k».proof.Proof.Gen.GluBwd
public import proofs.«01_k».proof.Proof.Gen.GluBwd.Skeleton
public import proofs.«01_k».proof.Proof.Gen.GluBwd.Launch
public import proofs.«01_k».proof.Proof.Gen.GluBwd.Points
public import proofs.«01_k».proof.Proof.Gen.GluBwd.Frame
public import proofs.«01_k».proof.Proof.Gen.GluBwdIdeal
public import proofs.«01_k».proof.Proof.Gen.GluBwdIdeal.Skeleton
public import proofs.«01_k».proof.Proof.Gen.GluBwdIdeal.Launch
public import proofs.«01_k».proof.Proof.Gen.GluBwdIdeal.Points
public import proofs.«01_k».proof.Proof.Gen.GluBwdIdeal.Frame
public import proofs.«01_k».proof.Proof.Gen.GluBwdIdeal.Value
public import proofs.«01_k».proof.Proof.Gen.GluGradIdeal.Run
public import proofs.«01_k».proof.Proof.Gen.GluGradIdeal.Read
public import proofs.«01_k».proof.Proof.Gen.GluGradIdeal
public import proofs.«01_k».proof.Proof.Gen.QkNormBwd
public import proofs.«01_k».proof.Proof.Gen.QkNormBwd.Skeleton
public import proofs.«01_k».proof.Proof.Gen.QkNormBwd.Launch
public import proofs.«01_k».proof.Proof.Gen.QkNormBwd.Points
public import proofs.«01_k».proof.Proof.Gen.QkNormBwd.Frame
public import proofs.«01_k».proof.Proof.Gen.QkNormBwdIdeal
public import proofs.«01_k».proof.Proof.Gen.QkNormBwdIdeal.Skeleton
public import proofs.«01_k».proof.Proof.Gen.QkNormBwdIdeal.Launch
public import proofs.«01_k».proof.Proof.Gen.QkNormBwdIdeal.Points
public import proofs.«01_k».proof.Proof.Gen.QkNormBwdIdeal.Frame
public import proofs.«01_k».proof.Proof.Gen.QkNormBwdIdeal.Value
public import proofs.«01_k».proof.Proof.Gen.QkNormGradIdeal.Run
public import proofs.«01_k».proof.Proof.Gen.QkNormGradIdeal.Read
public import proofs.«01_k».proof.Proof.Gen.QkNormGradIdeal
public import proofs.«01_k».proof.Proof.Gen.LossBwd
public import proofs.«01_k».proof.Proof.Gen.LossBwd.Skeleton
public import proofs.«01_k».proof.Proof.Gen.LossBwd.Launch
public import proofs.«01_k».proof.Proof.Gen.LossBwd.Points
public import proofs.«01_k».proof.Proof.Gen.LossBwd.Frame
public import proofs.«01_k».proof.Proof.Gen.LossBwdIdeal
public import proofs.«01_k».proof.Proof.Gen.LossBwdIdeal.Skeleton
public import proofs.«01_k».proof.Proof.Gen.LossBwdIdeal.Launch
public import proofs.«01_k».proof.Proof.Gen.LossBwdIdeal.Points
public import proofs.«01_k».proof.Proof.Gen.LossBwdIdeal.Frame
public import proofs.«01_k».proof.Proof.Gen.LossBwdIdeal.Value
public import proofs.«01_k».proof.Proof.Gen.LossGradIdeal.Run
public import proofs.«01_k».proof.Proof.Gen.LossGradIdeal.Read
public import proofs.«01_k».proof.Proof.Gen.LossGradIdeal
public import proofs.«01_k».proof.Proof.Gen.BiasBwd
public import proofs.«01_k».proof.Proof.Gen.BiasBwd.Skeleton
public import proofs.«01_k».proof.Proof.Gen.BiasBwd.Launch
public import proofs.«01_k».proof.Proof.Gen.BiasBwd.Points
public import proofs.«01_k».proof.Proof.Gen.BiasBwd.Frame
public import proofs.«01_k».proof.Proof.Gen.BiasBwdIdeal
public import proofs.«01_k».proof.Proof.Gen.BiasBwdIdeal.Skeleton
public import proofs.«01_k».proof.Proof.Gen.BiasBwdIdeal.Launch
public import proofs.«01_k».proof.Proof.Gen.BiasBwdIdeal.Points
public import proofs.«01_k».proof.Proof.Gen.BiasBwdIdeal.Frame
public import proofs.«01_k».proof.Proof.Gen.BiasBwdIdeal.Value
public import proofs.«01_k».proof.Proof.Gen.BiasGradIdeal.Run
public import proofs.«01_k».proof.Proof.Gen.BiasGradIdeal.Read
public import proofs.«01_k».proof.Proof.Gen.BiasGradIdeal
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdIdeal.Value
public import proofs.«01_k».proof.Proof.Gen.NormPlainIdeal.Run
public import proofs.«01_k».proof.Proof.Gen.NormPlainIdeal.Read
public import proofs.«01_k».proof.Proof.Gen.NormPlainIdeal
public import proofs.«01_k».proof.Proof.Gen.ResNormFwd
public import proofs.«01_k».proof.Proof.Gen.ResNormFwd.Skeleton
public import proofs.«01_k».proof.Proof.Gen.ResNormFwd.Launch
public import proofs.«01_k».proof.Proof.Gen.ResNormFwd.Points
public import proofs.«01_k».proof.Proof.Gen.ResNormFwd.Frame
public import proofs.«01_k».proof.Proof.Gen.ResNormFwdIdeal
public import proofs.«01_k».proof.Proof.Gen.ResNormFwdIdeal.Skeleton
public import proofs.«01_k».proof.Proof.Gen.ResNormFwdIdeal.Launch
public import proofs.«01_k».proof.Proof.Gen.ResNormFwdIdeal.Points
public import proofs.«01_k».proof.Proof.Gen.ResNormFwdIdeal.Frame
public import proofs.«01_k».proof.Proof.Gen.ResNormFwdIdeal.Value
public import proofs.«01_k».proof.Proof.Gen.ResNormPlainIdeal.Run
public import proofs.«01_k».proof.Proof.Gen.ResNormPlainIdeal.Read
public import proofs.«01_k».proof.Proof.Gen.ResNormPlainIdeal
public import proofs.«01_k».proof.Proof.Gen.GluFwd
public import proofs.«01_k».proof.Proof.Gen.GluFwd.Skeleton
public import proofs.«01_k».proof.Proof.Gen.GluFwd.Launch
public import proofs.«01_k».proof.Proof.Gen.GluFwd.Points
public import proofs.«01_k».proof.Proof.Gen.GluFwd.Frame
public import proofs.«01_k».proof.Proof.Gen.GluFwdIdeal
public import proofs.«01_k».proof.Proof.Gen.GluFwdIdeal.Skeleton
public import proofs.«01_k».proof.Proof.Gen.GluFwdIdeal.Launch
public import proofs.«01_k».proof.Proof.Gen.GluFwdIdeal.Points
public import proofs.«01_k».proof.Proof.Gen.GluFwdIdeal.Frame
public import proofs.«01_k».proof.Proof.Gen.GluFwdIdeal.Value
public import proofs.«01_k».proof.Proof.Gen.GluPlainIdeal.Run
public import proofs.«01_k».proof.Proof.Gen.GluPlainIdeal.Read
public import proofs.«01_k».proof.Proof.Gen.GluPlainIdeal
public import proofs.«01_k».proof.Proof.Gen.QkvFwd
public import proofs.«01_k».proof.Proof.Gen.QkvFwd.Skeleton
public import proofs.«01_k».proof.Proof.Gen.QkvFwd.Launch
public import proofs.«01_k».proof.Proof.Gen.QkvFwd.Points
public import proofs.«01_k».proof.Proof.Gen.QkvFwd.Frame
public import proofs.«01_k».proof.Proof.Gen.QkvFwdIdeal
public import proofs.«01_k».proof.Proof.Gen.QkvFwdIdeal.Skeleton
public import proofs.«01_k».proof.Proof.Gen.QkvFwdIdeal.Launch
public import proofs.«01_k».proof.Proof.Gen.QkvFwdIdeal.Points
public import proofs.«01_k».proof.Proof.Gen.QkvFwdIdeal.Frame
public import proofs.«01_k».proof.Proof.Gen.QkvFwdIdeal.Value
public import proofs.«01_k».proof.Proof.Gen.QkvPlainIdeal.Run
public import proofs.«01_k».proof.Proof.Gen.QkvPlainIdeal.Read
public import proofs.«01_k».proof.Proof.Gen.QkvPlainIdeal
public import proofs.«01_k».proof.Proof.Gen.BiasFwd
public import proofs.«01_k».proof.Proof.Gen.BiasFwd.Skeleton
public import proofs.«01_k».proof.Proof.Gen.BiasFwd.Launch
public import proofs.«01_k».proof.Proof.Gen.BiasFwd.Points
public import proofs.«01_k».proof.Proof.Gen.BiasFwd.Frame
public import proofs.«01_k».proof.Proof.Gen.BiasFwdIdeal
public import proofs.«01_k».proof.Proof.Gen.BiasFwdIdeal.Skeleton
public import proofs.«01_k».proof.Proof.Gen.BiasFwdIdeal.Launch
public import proofs.«01_k».proof.Proof.Gen.BiasFwdIdeal.Points
public import proofs.«01_k».proof.Proof.Gen.BiasFwdIdeal.Frame
public import proofs.«01_k».proof.Proof.Gen.BiasFwdIdeal.Value
public import proofs.«01_k».proof.Proof.Gen.BiasPlainIdeal.Run
public import proofs.«01_k».proof.Proof.Gen.BiasPlainIdeal.Read
public import proofs.«01_k».proof.Proof.Gen.BiasPlainIdeal
public import proofs.«01_k».proof.Proof.Gen.MixerFwd
public import proofs.«01_k».proof.Proof.Gen.MixerFwd.Skeleton
public import proofs.«01_k».proof.Proof.Gen.MixerFwd.Launch
public import proofs.«01_k».proof.Proof.Gen.MixerFwd.Points
public import proofs.«01_k».proof.Proof.Gen.MixerFwd.Frame
public import proofs.«01_k».proof.Proof.Gen.MixerFwdIdeal
public import proofs.«01_k».proof.Proof.Gen.MixerFwdIdeal.Skeleton
public import proofs.«01_k».proof.Proof.Gen.MixerFwdIdeal.Launch
public import proofs.«01_k».proof.Proof.Gen.MixerFwdIdeal.Points
public import proofs.«01_k».proof.Proof.Gen.MixerFwdIdeal.Frame
public import proofs.«01_k».proof.Proof.Gen.MixerFwdIdeal.Value
public import proofs.«01_k».proof.Proof.Gen.MixerPlainIdeal.Run
public import proofs.«01_k».proof.Proof.Gen.MixerPlainIdeal.Read
public import proofs.«01_k».proof.Proof.Gen.MixerPlainIdeal
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactIdeal.Value
public import proofs.«01_k».proof.Proof.Gen.DactGradIdeal.Run
public import proofs.«01_k».proof.Proof.Gen.DactGradIdeal.Read
public import proofs.«01_k».proof.Proof.Gen.DactGradIdeal
public import proofs.«01_k».proof.Proof.Gen.Adamw
public import proofs.«01_k».proof.Proof.Gen.Adamw.Skeleton
public import proofs.«01_k».proof.Proof.Gen.Adamw.Launch
public import proofs.«01_k».proof.Proof.Gen.Adamw.Points
public import proofs.«01_k».proof.Proof.Gen.Adamw.Frame
public import proofs.«01_k».proof.Proof.Gen.AdamwIdeal
public import proofs.«01_k».proof.Proof.Gen.AdamwIdeal.Skeleton
public import proofs.«01_k».proof.Proof.Gen.AdamwIdeal.Launch
public import proofs.«01_k».proof.Proof.Gen.AdamwIdeal.Points
public import proofs.«01_k».proof.Proof.Gen.AdamwIdeal.Frame
public import proofs.«01_k».proof.Proof.Gen.AdamwIdeal.Value
public import proofs.«01_k».proof.Proof.Gen.AdamwPlainIdeal.Run
public import proofs.«01_k».proof.Proof.Gen.AdamwPlainIdeal.Read
public import proofs.«01_k».proof.Proof.Gen.AdamwPlainIdeal
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpIdeal.Value
public import proofs.«01_k».proof.Proof.Gen.DwUpGradIdeal.Run
public import proofs.«01_k».proof.Proof.Gen.DwUpGradIdeal.Read
public import proofs.«01_k».proof.Proof.Gen.DwUpGradIdeal
public import proofs.«01_k».proof.Proof.Gen.Cast
public import proofs.«01_k».proof.Proof.Gen.Cast.Skeleton
public import proofs.«01_k».proof.Proof.Gen.Cast.Launch
public import proofs.«01_k».proof.Proof.Gen.Cast.Points
public import proofs.«01_k».proof.Proof.Gen.Cast.Frame
public import proofs.«01_k».proof.Proof.Gen.CastIdeal
public import proofs.«01_k».proof.Proof.Gen.CastIdeal.Skeleton
public import proofs.«01_k».proof.Proof.Gen.CastIdeal.Launch
public import proofs.«01_k».proof.Proof.Gen.CastIdeal.Points
public import proofs.«01_k».proof.Proof.Gen.CastIdeal.Frame
public import proofs.«01_k».proof.Proof.Gen.CastIdeal.Value
public import proofs.«01_k».proof.Proof.Gen.CastPlainIdeal.Run
public import proofs.«01_k».proof.Proof.Gen.CastPlainIdeal.Read
public import proofs.«01_k».proof.Proof.Gen.CastPlainIdeal
public import proofs.«01_k».proof.Proof.Gen.DeviceSum
public import proofs.«01_k».proof.Proof.Gen.DeviceSum.Skeleton
public import proofs.«01_k».proof.Proof.Gen.DeviceSum.Launch
public import proofs.«01_k».proof.Proof.Gen.DeviceSum.Points
public import proofs.«01_k».proof.Proof.Gen.DeviceSum.Frame
public import proofs.«01_k».proof.Proof.Gen.DeviceSumIdeal
public import proofs.«01_k».proof.Proof.Gen.DeviceSumIdeal.Skeleton
public import proofs.«01_k».proof.Proof.Gen.DeviceSumIdeal.Launch
public import proofs.«01_k».proof.Proof.Gen.DeviceSumIdeal.Points
public import proofs.«01_k».proof.Proof.Gen.DeviceSumIdeal.Frame
public import proofs.«01_k».proof.Proof.Gen.DeviceSumPlainIdeal.Run
public import proofs.«01_k».proof.Proof.Gen.DeviceSumPlainIdeal.Read
public import proofs.«01_k».proof.Proof.Gen.DeviceSumPlainIdeal
public import proofs.«01_k».proof.Proof.NormClaim
public import proofs.«01_k».proof.Proof.MixerClaim
public import proofs.«01_k».proof.Proof.GluClaim
public import proofs.«01_k».proof.Proof.QkNormClaim
public import proofs.«01_k».proof.Proof.LossClaim
public import proofs.«01_k».proof.Proof.BiasClaim
public import proofs.«01_k».proof.Proof.NormFwdClaim
public import proofs.«01_k».proof.Proof.ResNormFwdClaim
public import proofs.«01_k».proof.Proof.GluFwdClaim
public import proofs.«01_k».proof.Proof.QkvFwdClaim
public import proofs.«01_k».proof.Proof.BiasFwdClaim
public import proofs.«01_k».proof.Proof.MixerFwdClaim
public import proofs.«01_k».proof.Proof.DactClaim
public import proofs.«01_k».proof.Proof.AdamwClaim
public import proofs.«01_k».proof.Proof.DwUpClaim
public import proofs.«01_k».proof.Proof.CastClaim
public import proofs.«01_k».proof.Proof.DeviceSumClaim
public import Idealize.ShloMosaic.Adequacy
public import Idealize.ShloMosaic.Init

@[expose] public section

noncomputable section

namespace Cert.Proof

open Idealize.ShloMosaic Idealize.SL.Sem Cert.NormBwd

theorem claim : Cert.Claim :=
  ⟨Cert.NormBwd.Gen.facts, Cert.NormBwdIdeal.Gen.facts, Cert.NormGradIdeal.Gen.facts,
    Cert.MixerBwd.Gen.facts, Cert.MixerBwdIdeal.Gen.facts, Cert.MixerGradIdeal.Gen.facts,
    Cert.GluBwd.Gen.facts, Cert.GluBwdIdeal.Gen.facts, Cert.GluGradIdeal.Gen.facts,
    Cert.QkNormBwd.Gen.facts, Cert.QkNormBwdIdeal.Gen.facts, Cert.QkNormGradIdeal.Gen.facts,
    Cert.LossBwd.Gen.facts, Cert.LossBwdIdeal.Gen.facts, Cert.LossGradIdeal.Gen.facts,
    Cert.BiasBwd.Gen.facts, Cert.BiasBwdIdeal.Gen.facts, Cert.BiasGradIdeal.Gen.facts,
    Cert.NormFwd.Gen.facts, Cert.NormFwdIdeal.Gen.facts, Cert.NormPlainIdeal.Gen.facts,
    Cert.ResNormFwd.Gen.facts, Cert.ResNormFwdIdeal.Gen.facts, Cert.ResNormPlainIdeal.Gen.facts,
    Cert.GluFwd.Gen.facts, Cert.GluFwdIdeal.Gen.facts, Cert.GluPlainIdeal.Gen.facts,
    Cert.QkvFwd.Gen.facts, Cert.QkvFwdIdeal.Gen.facts, Cert.QkvPlainIdeal.Gen.facts,
    Cert.BiasFwd.Gen.facts, Cert.BiasFwdIdeal.Gen.facts, Cert.BiasPlainIdeal.Gen.facts,
    Cert.MixerFwd.Gen.facts, Cert.MixerFwdIdeal.Gen.facts, Cert.MixerPlainIdeal.Gen.facts,
    Cert.Dact.Gen.facts, Cert.DactIdeal.Gen.facts, Cert.DactGradIdeal.Gen.facts,
    Cert.Adamw.Gen.facts, Cert.AdamwIdeal.Gen.facts, Cert.AdamwPlainIdeal.Gen.facts,
    Cert.DwUp.Gen.facts, Cert.DwUpIdeal.Gen.facts, Cert.DwUpGradIdeal.Gen.facts,
    Cert.Cast.Gen.facts, Cert.CastIdeal.Gen.facts, Cert.CastPlainIdeal.Gen.facts,
    Cert.DeviceSum.Gen.facts, Cert.DeviceSumIdeal.Gen.facts, Cert.DeviceSumPlainIdeal.Gen.facts,
    NormClaim.finite_facts,
    MixerClaim.finite_facts,
    GluClaim.finite_facts,
    QkNormClaim.finite_facts,
    BiasClaim.finite_facts,
    BiasFwdClaim.finite_facts,
    MixerFwdClaim.finite_facts,
    fun m ρ _ => Cert.NormBwd.Gen.frame m ρ, fun m ρ _ => Cert.NormBwdIdeal.Gen.frame m ρ,
    fun m ρ _ => Cert.NormBwdIdeal.Gen.frame m ρ, NormClaim.frame_ref, fun m ρ _ => NormClaim.frame_ref m ρ trivial,
    fun m ρ _ => Cert.MixerBwd.Gen.frame m ρ, fun m ρ _ => Cert.MixerBwdIdeal.Gen.frame m ρ,
    fun m ρ _ => Cert.MixerBwdIdeal.Gen.frame m ρ, MixerClaim.frame_ref, fun m ρ _ => MixerClaim.frame_ref m ρ trivial,
    fun m ρ _ => Cert.GluBwd.Gen.frame m ρ, fun m ρ _ => Cert.GluBwdIdeal.Gen.frame m ρ,
    fun m ρ _ => Cert.GluBwdIdeal.Gen.frame m ρ, GluClaim.frame_ref, fun m ρ _ => GluClaim.frame_ref m ρ trivial,
    fun m ρ _ => Cert.QkNormBwd.Gen.frame m ρ, fun m ρ _ => Cert.QkNormBwdIdeal.Gen.frame m ρ,
    fun m ρ _ => Cert.QkNormBwdIdeal.Gen.frame m ρ, QkNormClaim.frame_ref, fun m ρ _ => QkNormClaim.frame_ref m ρ trivial,
    fun m ρ _ => Cert.LossBwd.Gen.frame m ρ, fun m ρ _ => Cert.LossBwdIdeal.Gen.frame m ρ, LossClaim.frame_ref,
    fun m ρ _ => Cert.BiasBwd.Gen.frame m ρ, fun m ρ _ => Cert.BiasBwdIdeal.Gen.frame m ρ,
    fun m ρ _ => Cert.BiasBwdIdeal.Gen.frame m ρ, BiasClaim.frame_ref, fun m ρ _ => BiasClaim.frame_ref m ρ trivial,
    fun m ρ _ => Cert.NormFwd.Gen.frame m ρ, fun m ρ _ => Cert.NormFwdIdeal.Gen.frame m ρ, NormFwdClaim.frame_ref,
    fun m ρ _ => Cert.ResNormFwd.Gen.frame m ρ, fun m ρ _ => Cert.ResNormFwdIdeal.Gen.frame m ρ, ResNormFwdClaim.frame_ref,
    fun m ρ _ => Cert.GluFwd.Gen.frame m ρ, fun m ρ _ => Cert.GluFwdIdeal.Gen.frame m ρ, GluFwdClaim.frame_ref,
    fun m ρ _ => Cert.QkvFwd.Gen.frame m ρ, fun m ρ _ => Cert.QkvFwdIdeal.Gen.frame m ρ, QkvFwdClaim.frame_ref,
    fun m ρ _ => Cert.BiasFwd.Gen.frame m ρ, fun m ρ _ => Cert.BiasFwdIdeal.Gen.frame m ρ,
    fun m ρ _ => Cert.BiasFwdIdeal.Gen.frame m ρ, BiasFwdClaim.frame_ref, fun m ρ _ => BiasFwdClaim.frame_ref m ρ trivial,
    fun m ρ _ => Cert.MixerFwd.Gen.frame m ρ, fun m ρ _ => Cert.MixerFwdIdeal.Gen.frame m ρ,
    fun m ρ _ => Cert.MixerFwdIdeal.Gen.frame m ρ, MixerFwdClaim.frame_ref, fun m ρ _ => MixerFwdClaim.frame_ref m ρ trivial,
    fun m ρ _ => Cert.Dact.Gen.frame m ρ, fun m ρ _ => Cert.DactIdeal.Gen.frame m ρ, DactClaim.frame_ref,
    fun m ρ _ => Cert.Adamw.Gen.frame m ρ, fun m ρ _ => Cert.AdamwIdeal.Gen.frame m ρ, AdamwClaim.frame_ref,
    fun m ρ _ => Cert.DwUp.Gen.frame m ρ, fun m ρ _ => Cert.DwUpIdeal.Gen.frame m ρ, DwUpClaim.frame_ref,
    fun m ρ _ => Cert.Cast.Gen.frame m ρ, fun m ρ _ => Cert.CastIdeal.Gen.frame m ρ, CastClaim.frame_ref,
    fun m ρ _ => Cert.DeviceSum.Gen.frame m ρ trivial, fun m ρ _ => Cert.DeviceSumIdeal.Gen.frame m ρ trivial, DeviceSumClaim.frame_ref,
    trivial, NormClaim.algebraic,
    trivial, MixerClaim.algebraic,
    trivial, GluClaim.algebraic,
    trivial, QkNormClaim.algebraic,
    trivial, LossClaim.algebraic,
    trivial, BiasClaim.algebraic,
    trivial, NormFwdClaim.algebraic,
    trivial, ResNormFwdClaim.algebraic,
    trivial, GluFwdClaim.algebraic,
    trivial, QkvFwdClaim.algebraic,
    trivial, BiasFwdClaim.algebraic,
    trivial, MixerFwdClaim.algebraic,
    trivial, DactClaim.algebraic,
    trivial, AdamwClaim.algebraic,
    trivial, DwUpClaim.algebraic,
    trivial, CastClaim.algebraic,
    trivial, DeviceSumClaim.algebraic⟩

end Cert.Proof

end
